-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapReferenceIdeal (m : (ℓ : Loc Cert.SwapReferenceIdeal.nD Cert.SwapReferenceIdeal.τ Cert.SwapReferenceIdeal.sig) → Buf (Elt Ideal) ℓ) : Prop :=
  True

def Pre_SwapReference (m : (ℓ : Loc Cert.SwapReference.nD Cert.SwapReference.τ Cert.SwapReference.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_SmallReference (m : (ℓ : Loc Cert.SmallReference.nD Cert.SmallReference.τ Cert.SmallReference.sig) → Buf (Elt Bits) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXReferenceIdeal (m : (ℓ : Loc Cert.GradXReferenceIdeal.nD Cert.GradXReferenceIdeal.τ Cert.GradXReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_ConvGate (m : (ℓ : Loc Cert.ConvGate.nD Cert.ConvGate.τ Cert.ConvGate.sig) → Buf (Elt Bits) ℓ) : Prop :=
  True

def Pre_ConvGateIdeal (m : (ℓ : Loc Cert.ConvGateIdeal.nD Cert.ConvGateIdeal.τ Cert.ConvGateIdeal.sig) → Buf (Elt Ideal) ℓ) : Prop :=
  True

def Pre_ConvGateReferenceIdeal (m : (ℓ : Loc Cert.ConvGateReferenceIdeal.nD Cert.ConvGateReferenceIdeal.τ Cert.ConvGateReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysReferenceIdeal (m : (ℓ : Loc Cert.KeysReferenceIdeal.nD Cert.KeysReferenceIdeal.τ Cert.KeysReferenceIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedReferenceIdeal (m : (ℓ : Loc Cert.SharedReferenceIdeal.nD Cert.SharedReferenceIdeal.τ Cert.SharedReferenceIdeal.sig) → Buf (Elt Ideal) ℓ) : Prop :=
  True

def Pre_Pooled (m : (ℓ : Loc Cert.Pooled.nD Cert.Pooled.τ Cert.Pooled.sig) → Buf (Elt Bits) ℓ) : Prop :=
  True

def Pre_PooledIdeal (m : (ℓ : Loc Cert.PooledIdeal.nD Cert.PooledIdeal.τ Cert.PooledIdeal.sig) → Buf (Elt Ideal) ℓ) : Prop :=
  True

def Pre_PooledReferenceIdeal (m : (ℓ : Loc Cert.PooledReferenceIdeal.nD Cert.PooledReferenceIdeal.τ Cert.PooledReferenceIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxReferenceIdeal (m : (ℓ : Loc Cert.MixDxReferenceIdeal.nD Cert.MixDxReferenceIdeal.τ Cert.MixDxReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_SharedDx (m : (ℓ : Loc Cert.SharedDx.nD Cert.SharedDx.τ Cert.SharedDx.sig) → Buf (Elt Bits) ℓ) : Prop :=
  True

def Pre_SharedDxIdeal (m : (ℓ : Loc Cert.SharedDxIdeal.nD Cert.SharedDxIdeal.τ Cert.SharedDxIdeal.sig) → Buf (Elt Ideal) ℓ) : Prop :=
  True

def Pre_SharedDxReferenceIdeal (m : (ℓ : Loc Cert.SharedDxReferenceIdeal.nD Cert.SharedDxReferenceIdeal.τ Cert.SharedDxReferenceIdeal.sig) → Buf (Elt Ideal) ℓ) : Prop :=
  True

def Pre_PooledDx (m : (ℓ : Loc Cert.PooledDx.nD Cert.PooledDx.τ Cert.PooledDx.sig) → Buf (Elt Bits) ℓ) : Prop :=
  True

def Pre_PooledDxIdeal (m : (ℓ : Loc Cert.PooledDxIdeal.nD Cert.PooledDxIdeal.τ Cert.PooledDxIdeal.sig) → Buf (Elt Ideal) ℓ) : Prop :=
  True

def Pre_PooledDxReferenceIdeal (m : (ℓ : Loc Cert.PooledDxReferenceIdeal.nD Cert.PooledDxReferenceIdeal.τ Cert.PooledDxReferenceIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwReferenceIdeal (m : (ℓ : Loc Cert.MixDwReferenceIdeal.nD Cert.MixDwReferenceIdeal.τ Cert.MixDwReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_SharedDw (m : (ℓ : Loc Cert.SharedDw.nD Cert.SharedDw.τ Cert.SharedDw.sig) → Buf (Elt Bits) ℓ) : Prop :=
  True

def Pre_SharedDwIdeal (m : (ℓ : Loc Cert.SharedDwIdeal.nD Cert.SharedDwIdeal.τ Cert.SharedDwIdeal.sig) → Buf (Elt Ideal) ℓ) : Prop :=
  True

def Pre_SharedDwReferenceIdeal (m : (ℓ : Loc Cert.SharedDwReferenceIdeal.nD Cert.SharedDwReferenceIdeal.τ Cert.SharedDwReferenceIdeal.sig) → Buf (Elt Ideal) ℓ) : Prop :=
  True

def Pre_PooledDw (m : (ℓ : Loc Cert.PooledDw.nD Cert.PooledDw.τ Cert.PooledDw.sig) → Buf (Elt Bits) ℓ) : Prop :=
  True

def Pre_PooledDwIdeal (m : (ℓ : Loc Cert.PooledDwIdeal.nD Cert.PooledDwIdeal.τ Cert.PooledDwIdeal.sig) → Buf (Elt Ideal) ℓ) : Prop :=
  True

def Pre_PooledDwReferenceIdeal (m : (ℓ : Loc Cert.PooledDwReferenceIdeal.nD Cert.PooledDwReferenceIdeal.τ Cert.PooledDwReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_KeysDw (m : (ℓ : Loc Cert.KeysDw.nD Cert.KeysDw.τ Cert.KeysDw.sig) → Buf (Elt Bits) ℓ) : Prop :=
  True

def Pre_KeysDwIdeal (m : (ℓ : Loc Cert.KeysDwIdeal.nD Cert.KeysDwIdeal.τ Cert.KeysDwIdeal.sig) → Buf (Elt Ideal) ℓ) : Prop :=
  True

def Pre_KeysDwReferenceIdeal (m : (ℓ : Loc Cert.KeysDwReferenceIdeal.nD Cert.KeysDwReferenceIdeal.τ Cert.KeysDwReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_SwapReferenceIdeal [hSwapReferenceIdeal : Cert.SwapReferenceIdeal.Facts] : Prop :=
  ∀ (m : (ℓ : Loc Cert.SwapReferenceIdeal.nD Cert.SwapReferenceIdeal.τ Cert.SwapReferenceIdeal.sig) → Buf (Elt Ideal) ℓ) (g : Dev Cert.SwapReferenceIdeal.nD → PrngReg), Pre_SwapReferenceIdeal m →
    θ_run (Cert.SwapReferenceIdeal.defs (F := Ideal)) (onTc (τ := Cert.SwapReferenceIdeal.τ) (Cert.SwapReferenceIdeal.main (F := Ideal))) ⟨m, fun _ => 0, g⟩ (fun r => (∀ c : Dev Cert.SwapReferenceIdeal.nD,
      r.2.mem ((c.tc : Thread Cert.SwapReferenceIdeal.nD Cert.SwapReferenceIdeal.τ).loc Cert.SwapReferenceIdeal.main_arg0) = m ((c.tc : Thread Cert.SwapReferenceIdeal.nD Cert.SwapReferenceIdeal.τ).loc Cert.SwapReferenceIdeal.main_arg0))
      ∧ r.2.sem = fun _ => 0)

def quiescent_SwapReference [hSwapReference : Cert.SwapReference.Facts] : Prop :=
  ∀ (m : (ℓ : Loc Cert.SwapReference.nD Cert.SwapReference.τ Cert.SwapReference.sig) → Buf (Elt Bits) ℓ) (g : Dev Cert.SwapReference.nD → PrngReg), Pre_SwapReference m →
    θ_run (Cert.SwapReference.defs (F := Bits)) (onTc (τ := Cert.SwapReference.τ) (Cert.SwapReference.main (F := Bits))) ⟨m, fun _ => 0, g⟩ (fun r => (∀ c : Dev Cert.SwapReference.nD,
      r.2.mem ((c.tc : Thread Cert.SwapReference.nD Cert.SwapReference.τ).loc Cert.SwapReference.main_arg0) = m ((c.tc : Thread Cert.SwapReference.nD Cert.SwapReference.τ).loc Cert.SwapReference.main_arg0))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0))
      ∧ r.2.sem = fun _ => 0)

def quiescent_SmallReference [hSmallReference : Cert.SmallReference.Facts] : Prop :=
  ∀ (m : (ℓ : Loc Cert.SmallReference.nD Cert.SmallReference.τ Cert.SmallReference.sig) → Buf (Elt Bits) ℓ) (g : Dev Cert.SmallReference.nD → PrngReg), Pre_SmallReference m →
    θ_run (Cert.SmallReference.defs (F := Bits)) (onTc (τ := Cert.SmallReference.τ) (Cert.SmallReference.main (F := Bits))) ⟨m, fun _ => 0, g⟩ (fun r => (∀ c : Dev Cert.SmallReference.nD,
      r.2.mem ((c.tc : Thread Cert.SmallReference.nD Cert.SmallReference.τ).loc Cert.SmallReference.main_arg0) = m ((c.tc : Thread Cert.SmallReference.nD Cert.SmallReference.τ).loc Cert.SmallReference.main_arg0))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2))
      ∧ r.2.sem = fun _ => 0)

def quiescent_GradXReferenceIdeal [hGradXReferenceIdeal : Cert.GradXReferenceIdeal.Facts] : Prop :=
  ∀ (m : (ℓ : Loc Cert.GradXReferenceIdeal.nD Cert.GradXReferenceIdeal.τ Cert.GradXReferenceIdeal.sig) → Buf (Elt Ideal) ℓ) (g : Dev Cert.GradXReferenceIdeal.nD → PrngReg), Pre_GradXReferenceIdeal m →
    θ_run (Cert.GradXReferenceIdeal.defs (F := Ideal)) (onTc (τ := Cert.GradXReferenceIdeal.τ) (Cert.GradXReferenceIdeal.main (F := Ideal))) ⟨m, fun _ => 0, g⟩ (fun r => (∀ c : Dev Cert.GradXReferenceIdeal.nD,
      r.2.mem ((c.tc : Thread Cert.GradXReferenceIdeal.nD Cert.GradXReferenceIdeal.τ).loc Cert.GradXReferenceIdeal.main_arg0) = m ((c.tc : Thread Cert.GradXReferenceIdeal.nD Cert.GradXReferenceIdeal.τ).loc Cert.GradXReferenceIdeal.main_arg0)
      ∧ r.2.mem ((c.tc : Thread Cert.GradXReferenceIdeal.nD Cert.GradXReferenceIdeal.τ).loc Cert.GradXReferenceIdeal.main_arg1) = m ((c.tc : Thread Cert.GradXReferenceIdeal.nD Cert.GradXReferenceIdeal.τ).loc Cert.GradXReferenceIdeal.main_arg1)
      ∧ r.2.mem ((c.tc : Thread Cert.GradXReferenceIdeal.nD Cert.GradXReferenceIdeal.τ).loc Cert.GradXReferenceIdeal.main_arg2) = m ((c.tc : Thread Cert.GradXReferenceIdeal.nD Cert.GradXReferenceIdeal.τ).loc Cert.GradXReferenceIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2)
      ∧ r.2.mem ((c.tc : Thread Cert.MemoryReferenceIdeal.nD Cert.MemoryReferenceIdeal.τ).loc Cert.MemoryReferenceIdeal.main_arg3) = m ((c.tc : Thread Cert.MemoryReferenceIdeal.nD Cert.MemoryReferenceIdeal.τ).loc Cert.MemoryReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_ConvGate [hConvGate : Cert.ConvGate.Facts] : Prop :=
  ∀ (m : (ℓ : Loc Cert.ConvGate.nD Cert.ConvGate.τ Cert.ConvGate.sig) → Buf (Elt Bits) ℓ) (g : Dev Cert.ConvGate.nD → PrngReg), Pre_ConvGate m →
    θ_run (Cert.ConvGate.defs (F := Bits)) (onTc (τ := Cert.ConvGate.τ) (Cert.ConvGate.main (F := Bits))) ⟨m, fun _ => 0, g⟩ (fun r => (∀ c : Dev Cert.ConvGate.nD,
      r.2.mem ((c.tc : Thread Cert.ConvGate.nD Cert.ConvGate.τ).loc Cert.ConvGate.main_arg0) = m ((c.tc : Thread Cert.ConvGate.nD Cert.ConvGate.τ).loc Cert.ConvGate.main_arg0)
      ∧ r.2.mem ((c.tc : Thread Cert.ConvGate.nD Cert.ConvGate.τ).loc Cert.ConvGate.main_arg1) = m ((c.tc : Thread Cert.ConvGate.nD Cert.ConvGate.τ).loc Cert.ConvGate.main_arg1)
      ∧ r.2.mem ((c.tc : Thread Cert.ConvGate.nD Cert.ConvGate.τ).loc Cert.ConvGate.main_arg2) = m ((c.tc : Thread Cert.ConvGate.nD Cert.ConvGate.τ).loc Cert.ConvGate.main_arg2))
      ∧ r.2.sem = fun _ => 0)

def quiescent_ConvGateIdeal [hConvGateIdeal : Cert.ConvGateIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg), Pre_ConvGateIdeal m →
    θ_run (Cert.ConvGateIdeal.defs (F := Ideal)) (onTc (τ := Cert.ConvGateIdeal.τ) (Cert.ConvGateIdeal.main (F := Ideal))) ⟨m, fun _ => 0, g⟩ (fun r => (∀ c : Dev Cert.ConvGateIdeal.nD,
      r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
      ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
      ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2))
      ∧ r.2.sem = fun _ => 0)

def quiescent_ConvGateReferenceIdeal [hConvGateReferenceIdeal : Cert.ConvGateReferenceIdeal.Facts] : Prop :=
  ∀ (m : (ℓ : Loc Cert.ConvGateReferenceIdeal.nD Cert.ConvGateReferenceIdeal.τ Cert.ConvGateReferenceIdeal.sig) → Buf (Elt Ideal) ℓ) (g : Dev Cert.ConvGateReferenceIdeal.nD → PrngReg), Pre_ConvGateReferenceIdeal m →
    θ_run (Cert.ConvGateReferenceIdeal.defs (F := Ideal)) (onTc (τ := Cert.ConvGateReferenceIdeal.τ) (Cert.ConvGateReferenceIdeal.main (F := Ideal))) ⟨m, fun _ => 0, g⟩ (fun r => (∀ c : Dev Cert.ConvGateReferenceIdeal.nD,
      r.2.mem ((c.tc : Thread Cert.ConvGateReferenceIdeal.nD Cert.ConvGateReferenceIdeal.τ).loc Cert.ConvGateReferenceIdeal.main_arg0) = m ((c.tc : Thread Cert.ConvGateReferenceIdeal.nD Cert.ConvGateReferenceIdeal.τ).loc Cert.ConvGateReferenceIdeal.main_arg0)
      ∧ r.2.mem ((c.tc : Thread Cert.ConvGateReferenceIdeal.nD Cert.ConvGateReferenceIdeal.τ).loc Cert.ConvGateReferenceIdeal.main_arg1) = m ((c.tc : Thread Cert.ConvGateReferenceIdeal.nD Cert.ConvGateReferenceIdeal.τ).loc Cert.ConvGateReferenceIdeal.main_arg1)
      ∧ r.2.mem ((c.tc : Thread Cert.ConvGateReferenceIdeal.nD Cert.ConvGateReferenceIdeal.τ).loc Cert.ConvGateReferenceIdeal.main_arg2) = m ((c.tc : Thread Cert.ConvGateReferenceIdeal.nD Cert.ConvGateReferenceIdeal.τ).loc Cert.ConvGateReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ r.2.sem = fun _ => 0)

def quiescent_KeysReferenceIdeal [hKeysReferenceIdeal : Cert.KeysReferenceIdeal.Facts] : Prop :=
  ∀ (m : (ℓ : Loc Cert.KeysReferenceIdeal.nD Cert.KeysReferenceIdeal.τ Cert.KeysReferenceIdeal.sig) → Buf (Elt Ideal) ℓ) (g : Dev Cert.KeysReferenceIdeal.nD → PrngReg), Pre_KeysReferenceIdeal m →
    θ_run (Cert.KeysReferenceIdeal.defs (F := Ideal)) (onTc (τ := Cert.KeysReferenceIdeal.τ) (Cert.KeysReferenceIdeal.main (F := Ideal))) ⟨m, fun _ => 0, g⟩ (fun r => (∀ c : Dev Cert.KeysReferenceIdeal.nD,
      r.2.mem ((c.tc : Thread Cert.KeysReferenceIdeal.nD Cert.KeysReferenceIdeal.τ).loc Cert.KeysReferenceIdeal.main_arg0) = m ((c.tc : Thread Cert.KeysReferenceIdeal.nD Cert.KeysReferenceIdeal.τ).loc Cert.KeysReferenceIdeal.main_arg0)
      ∧ r.2.mem ((c.tc : Thread Cert.KeysReferenceIdeal.nD Cert.KeysReferenceIdeal.τ).loc Cert.KeysReferenceIdeal.main_arg1) = m ((c.tc : Thread Cert.KeysReferenceIdeal.nD Cert.KeysReferenceIdeal.τ).loc Cert.KeysReferenceIdeal.main_arg1))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1))
      ∧ r.2.sem = fun _ => 0)

def quiescent_SharedReferenceIdeal [hSharedReferenceIdeal : Cert.SharedReferenceIdeal.Facts] : Prop :=
  ∀ (m : (ℓ : Loc Cert.SharedReferenceIdeal.nD Cert.SharedReferenceIdeal.τ Cert.SharedReferenceIdeal.sig) → Buf (Elt Ideal) ℓ) (g : Dev Cert.SharedReferenceIdeal.nD → PrngReg), Pre_SharedReferenceIdeal m →
    θ_run (Cert.SharedReferenceIdeal.defs (F := Ideal)) (onTc (τ := Cert.SharedReferenceIdeal.τ) (Cert.SharedReferenceIdeal.main (F := Ideal))) ⟨m, fun _ => 0, g⟩ (fun r => (∀ c : Dev Cert.SharedReferenceIdeal.nD,
      r.2.mem ((c.tc : Thread Cert.SharedReferenceIdeal.nD Cert.SharedReferenceIdeal.τ).loc Cert.SharedReferenceIdeal.main_arg0) = m ((c.tc : Thread Cert.SharedReferenceIdeal.nD Cert.SharedReferenceIdeal.τ).loc Cert.SharedReferenceIdeal.main_arg0)
      ∧ r.2.mem ((c.tc : Thread Cert.SharedReferenceIdeal.nD Cert.SharedReferenceIdeal.τ).loc Cert.SharedReferenceIdeal.main_arg1) = m ((c.tc : Thread Cert.SharedReferenceIdeal.nD Cert.SharedReferenceIdeal.τ).loc Cert.SharedReferenceIdeal.main_arg1))
      ∧ r.2.sem = fun _ => 0)

def quiescent_Pooled [hPooled : Cert.Pooled.Facts] : Prop :=
  ∀ (m : (ℓ : Loc Cert.Pooled.nD Cert.Pooled.τ Cert.Pooled.sig) → Buf (Elt Bits) ℓ) (g : Dev Cert.Pooled.nD → PrngReg), Pre_Pooled m →
    θ_run (Cert.Pooled.defs (F := Bits)) (onTc (τ := Cert.Pooled.τ) (Cert.Pooled.main (F := Bits))) ⟨m, fun _ => 0, g⟩ (fun r => (∀ c : Dev Cert.Pooled.nD,
      r.2.mem ((c.tc : Thread Cert.Pooled.nD Cert.Pooled.τ).loc Cert.Pooled.main_arg0) = m ((c.tc : Thread Cert.Pooled.nD Cert.Pooled.τ).loc Cert.Pooled.main_arg0)
      ∧ r.2.mem ((c.tc : Thread Cert.Pooled.nD Cert.Pooled.τ).loc Cert.Pooled.main_arg1) = m ((c.tc : Thread Cert.Pooled.nD Cert.Pooled.τ).loc Cert.Pooled.main_arg1))
      ∧ r.2.sem = fun _ => 0)

def quiescent_PooledIdeal [hPooledIdeal : Cert.PooledIdeal.Facts] : Prop :=
  ∀ (m : (ℓ : Loc Cert.PooledIdeal.nD Cert.PooledIdeal.τ Cert.PooledIdeal.sig) → Buf (Elt Ideal) ℓ) (g : Dev Cert.PooledIdeal.nD → PrngReg), Pre_PooledIdeal m →
    θ_run (Cert.PooledIdeal.defs (F := Ideal)) (onTc (τ := Cert.PooledIdeal.τ) (Cert.PooledIdeal.main (F := Ideal))) ⟨m, fun _ => 0, g⟩ (fun r => (∀ c : Dev Cert.PooledIdeal.nD,
      r.2.mem ((c.tc : Thread Cert.PooledIdeal.nD Cert.PooledIdeal.τ).loc Cert.PooledIdeal.main_arg0) = m ((c.tc : Thread Cert.PooledIdeal.nD Cert.PooledIdeal.τ).loc Cert.PooledIdeal.main_arg0)
      ∧ r.2.mem ((c.tc : Thread Cert.PooledIdeal.nD Cert.PooledIdeal.τ).loc Cert.PooledIdeal.main_arg1) = m ((c.tc : Thread Cert.PooledIdeal.nD Cert.PooledIdeal.τ).loc Cert.PooledIdeal.main_arg1))
      ∧ r.2.sem = fun _ => 0)

def quiescent_PooledReferenceIdeal [hPooledReferenceIdeal : Cert.PooledReferenceIdeal.Facts] : Prop :=
  ∀ (m : (ℓ : Loc Cert.PooledReferenceIdeal.nD Cert.PooledReferenceIdeal.τ Cert.PooledReferenceIdeal.sig) → Buf (Elt Ideal) ℓ) (g : Dev Cert.PooledReferenceIdeal.nD → PrngReg), Pre_PooledReferenceIdeal m →
    θ_run (Cert.PooledReferenceIdeal.defs (F := Ideal)) (onTc (τ := Cert.PooledReferenceIdeal.τ) (Cert.PooledReferenceIdeal.main (F := Ideal))) ⟨m, fun _ => 0, g⟩ (fun r => (∀ c : Dev Cert.PooledReferenceIdeal.nD,
      r.2.mem ((c.tc : Thread Cert.PooledReferenceIdeal.nD Cert.PooledReferenceIdeal.τ).loc Cert.PooledReferenceIdeal.main_arg0) = m ((c.tc : Thread Cert.PooledReferenceIdeal.nD Cert.PooledReferenceIdeal.τ).loc Cert.PooledReferenceIdeal.main_arg0)
      ∧ r.2.mem ((c.tc : Thread Cert.PooledReferenceIdeal.nD Cert.PooledReferenceIdeal.τ).loc Cert.PooledReferenceIdeal.main_arg1) = m ((c.tc : Thread Cert.PooledReferenceIdeal.nD Cert.PooledReferenceIdeal.τ).loc Cert.PooledReferenceIdeal.main_arg1))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ r.2.sem = fun _ => 0)

def quiescent_MixDxReferenceIdeal [hMixDxReferenceIdeal : Cert.MixDxReferenceIdeal.Facts] : Prop :=
  ∀ (m : (ℓ : Loc Cert.MixDxReferenceIdeal.nD Cert.MixDxReferenceIdeal.τ Cert.MixDxReferenceIdeal.sig) → Buf (Elt Ideal) ℓ) (g : Dev Cert.MixDxReferenceIdeal.nD → PrngReg), Pre_MixDxReferenceIdeal m →
    θ_run (Cert.MixDxReferenceIdeal.defs (F := Ideal)) (onTc (τ := Cert.MixDxReferenceIdeal.τ) (Cert.MixDxReferenceIdeal.main (F := Ideal))) ⟨m, fun _ => 0, g⟩ (fun r => (∀ c : Dev Cert.MixDxReferenceIdeal.nD,
      r.2.mem ((c.tc : Thread Cert.MixDxReferenceIdeal.nD Cert.MixDxReferenceIdeal.τ).loc Cert.MixDxReferenceIdeal.main_arg0) = m ((c.tc : Thread Cert.MixDxReferenceIdeal.nD Cert.MixDxReferenceIdeal.τ).loc Cert.MixDxReferenceIdeal.main_arg0)
      ∧ r.2.mem ((c.tc : Thread Cert.MixDxReferenceIdeal.nD Cert.MixDxReferenceIdeal.τ).loc Cert.MixDxReferenceIdeal.main_arg1) = m ((c.tc : Thread Cert.MixDxReferenceIdeal.nD Cert.MixDxReferenceIdeal.τ).loc Cert.MixDxReferenceIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_SharedDx [hSharedDx : Cert.SharedDx.Facts] : Prop :=
  ∀ (m : (ℓ : Loc Cert.SharedDx.nD Cert.SharedDx.τ Cert.SharedDx.sig) → Buf (Elt Bits) ℓ) (g : Dev Cert.SharedDx.nD → PrngReg), Pre_SharedDx m →
    θ_run (Cert.SharedDx.defs (F := Bits)) (onTc (τ := Cert.SharedDx.τ) (Cert.SharedDx.main (F := Bits))) ⟨m, fun _ => 0, g⟩ (fun r => (∀ c : Dev Cert.SharedDx.nD,
      r.2.mem ((c.tc : Thread Cert.SharedDx.nD Cert.SharedDx.τ).loc Cert.SharedDx.main_arg0) = m ((c.tc : Thread Cert.SharedDx.nD Cert.SharedDx.τ).loc Cert.SharedDx.main_arg0)
      ∧ r.2.mem ((c.tc : Thread Cert.SharedDx.nD Cert.SharedDx.τ).loc Cert.SharedDx.main_arg1) = m ((c.tc : Thread Cert.SharedDx.nD Cert.SharedDx.τ).loc Cert.SharedDx.main_arg1))
      ∧ r.2.sem = fun _ => 0)

def quiescent_SharedDxIdeal [hSharedDxIdeal : Cert.SharedDxIdeal.Facts] : Prop :=
  ∀ (m : (ℓ : Loc Cert.SharedDxIdeal.nD Cert.SharedDxIdeal.τ Cert.SharedDxIdeal.sig) → Buf (Elt Ideal) ℓ) (g : Dev Cert.SharedDxIdeal.nD → PrngReg), Pre_SharedDxIdeal m →
    θ_run (Cert.SharedDxIdeal.defs (F := Ideal)) (onTc (τ := Cert.SharedDxIdeal.τ) (Cert.SharedDxIdeal.main (F := Ideal))) ⟨m, fun _ => 0, g⟩ (fun r => (∀ c : Dev Cert.SharedDxIdeal.nD,
      r.2.mem ((c.tc : Thread Cert.SharedDxIdeal.nD Cert.SharedDxIdeal.τ).loc Cert.SharedDxIdeal.main_arg0) = m ((c.tc : Thread Cert.SharedDxIdeal.nD Cert.SharedDxIdeal.τ).loc Cert.SharedDxIdeal.main_arg0)
      ∧ r.2.mem ((c.tc : Thread Cert.SharedDxIdeal.nD Cert.SharedDxIdeal.τ).loc Cert.SharedDxIdeal.main_arg1) = m ((c.tc : Thread Cert.SharedDxIdeal.nD Cert.SharedDxIdeal.τ).loc Cert.SharedDxIdeal.main_arg1))
      ∧ r.2.sem = fun _ => 0)

def quiescent_SharedDxReferenceIdeal [hSharedDxReferenceIdeal : Cert.SharedDxReferenceIdeal.Facts] : Prop :=
  ∀ (m : (ℓ : Loc Cert.SharedDxReferenceIdeal.nD Cert.SharedDxReferenceIdeal.τ Cert.SharedDxReferenceIdeal.sig) → Buf (Elt Ideal) ℓ) (g : Dev Cert.SharedDxReferenceIdeal.nD → PrngReg), Pre_SharedDxReferenceIdeal m →
    θ_run (Cert.SharedDxReferenceIdeal.defs (F := Ideal)) (onTc (τ := Cert.SharedDxReferenceIdeal.τ) (Cert.SharedDxReferenceIdeal.main (F := Ideal))) ⟨m, fun _ => 0, g⟩ (fun r => (∀ c : Dev Cert.SharedDxReferenceIdeal.nD,
      r.2.mem ((c.tc : Thread Cert.SharedDxReferenceIdeal.nD Cert.SharedDxReferenceIdeal.τ).loc Cert.SharedDxReferenceIdeal.main_arg0) = m ((c.tc : Thread Cert.SharedDxReferenceIdeal.nD Cert.SharedDxReferenceIdeal.τ).loc Cert.SharedDxReferenceIdeal.main_arg0)
      ∧ r.2.mem ((c.tc : Thread Cert.SharedDxReferenceIdeal.nD Cert.SharedDxReferenceIdeal.τ).loc Cert.SharedDxReferenceIdeal.main_arg1) = m ((c.tc : Thread Cert.SharedDxReferenceIdeal.nD Cert.SharedDxReferenceIdeal.τ).loc Cert.SharedDxReferenceIdeal.main_arg1))
      ∧ r.2.sem = fun _ => 0)

def quiescent_PooledDx [hPooledDx : Cert.PooledDx.Facts] : Prop :=
  ∀ (m : (ℓ : Loc Cert.PooledDx.nD Cert.PooledDx.τ Cert.PooledDx.sig) → Buf (Elt Bits) ℓ) (g : Dev Cert.PooledDx.nD → PrngReg), Pre_PooledDx m →
    θ_run (Cert.PooledDx.defs (F := Bits)) (onTc (τ := Cert.PooledDx.τ) (Cert.PooledDx.main (F := Bits))) ⟨m, fun _ => 0, g⟩ (fun r => (∀ c : Dev Cert.PooledDx.nD,
      r.2.mem ((c.tc : Thread Cert.PooledDx.nD Cert.PooledDx.τ).loc Cert.PooledDx.main_arg0) = m ((c.tc : Thread Cert.PooledDx.nD Cert.PooledDx.τ).loc Cert.PooledDx.main_arg0)
      ∧ r.2.mem ((c.tc : Thread Cert.PooledDx.nD Cert.PooledDx.τ).loc Cert.PooledDx.main_arg1) = m ((c.tc : Thread Cert.PooledDx.nD Cert.PooledDx.τ).loc Cert.PooledDx.main_arg1))
      ∧ r.2.sem = fun _ => 0)

def quiescent_PooledDxIdeal [hPooledDxIdeal : Cert.PooledDxIdeal.Facts] : Prop :=
  ∀ (m : (ℓ : Loc Cert.PooledDxIdeal.nD Cert.PooledDxIdeal.τ Cert.PooledDxIdeal.sig) → Buf (Elt Ideal) ℓ) (g : Dev Cert.PooledDxIdeal.nD → PrngReg), Pre_PooledDxIdeal m →
    θ_run (Cert.PooledDxIdeal.defs (F := Ideal)) (onTc (τ := Cert.PooledDxIdeal.τ) (Cert.PooledDxIdeal.main (F := Ideal))) ⟨m, fun _ => 0, g⟩ (fun r => (∀ c : Dev Cert.PooledDxIdeal.nD,
      r.2.mem ((c.tc : Thread Cert.PooledDxIdeal.nD Cert.PooledDxIdeal.τ).loc Cert.PooledDxIdeal.main_arg0) = m ((c.tc : Thread Cert.PooledDxIdeal.nD Cert.PooledDxIdeal.τ).loc Cert.PooledDxIdeal.main_arg0)
      ∧ r.2.mem ((c.tc : Thread Cert.PooledDxIdeal.nD Cert.PooledDxIdeal.τ).loc Cert.PooledDxIdeal.main_arg1) = m ((c.tc : Thread Cert.PooledDxIdeal.nD Cert.PooledDxIdeal.τ).loc Cert.PooledDxIdeal.main_arg1))
      ∧ r.2.sem = fun _ => 0)

def quiescent_PooledDxReferenceIdeal [hPooledDxReferenceIdeal : Cert.PooledDxReferenceIdeal.Facts] : Prop :=
  ∀ (m : (ℓ : Loc Cert.PooledDxReferenceIdeal.nD Cert.PooledDxReferenceIdeal.τ Cert.PooledDxReferenceIdeal.sig) → Buf (Elt Ideal) ℓ) (g : Dev Cert.PooledDxReferenceIdeal.nD → PrngReg), Pre_PooledDxReferenceIdeal m →
    θ_run (Cert.PooledDxReferenceIdeal.defs (F := Ideal)) (onTc (τ := Cert.PooledDxReferenceIdeal.τ) (Cert.PooledDxReferenceIdeal.main (F := Ideal))) ⟨m, fun _ => 0, g⟩ (fun r => (∀ c : Dev Cert.PooledDxReferenceIdeal.nD,
      r.2.mem ((c.tc : Thread Cert.PooledDxReferenceIdeal.nD Cert.PooledDxReferenceIdeal.τ).loc Cert.PooledDxReferenceIdeal.main_arg0) = m ((c.tc : Thread Cert.PooledDxReferenceIdeal.nD Cert.PooledDxReferenceIdeal.τ).loc Cert.PooledDxReferenceIdeal.main_arg0)
      ∧ r.2.mem ((c.tc : Thread Cert.PooledDxReferenceIdeal.nD Cert.PooledDxReferenceIdeal.τ).loc Cert.PooledDxReferenceIdeal.main_arg1) = m ((c.tc : Thread Cert.PooledDxReferenceIdeal.nD Cert.PooledDxReferenceIdeal.τ).loc Cert.PooledDxReferenceIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwReferenceIdeal [hMixDwReferenceIdeal : Cert.MixDwReferenceIdeal.Facts] : Prop :=
  ∀ (m : (ℓ : Loc Cert.MixDwReferenceIdeal.nD Cert.MixDwReferenceIdeal.τ Cert.MixDwReferenceIdeal.sig) → Buf (Elt Ideal) ℓ) (g : Dev Cert.MixDwReferenceIdeal.nD → PrngReg), Pre_MixDwReferenceIdeal m →
    θ_run (Cert.MixDwReferenceIdeal.defs (F := Ideal)) (onTc (τ := Cert.MixDwReferenceIdeal.τ) (Cert.MixDwReferenceIdeal.main (F := Ideal))) ⟨m, fun _ => 0, g⟩ (fun r => (∀ c : Dev Cert.MixDwReferenceIdeal.nD,
      r.2.mem ((c.tc : Thread Cert.MixDwReferenceIdeal.nD Cert.MixDwReferenceIdeal.τ).loc Cert.MixDwReferenceIdeal.main_arg0) = m ((c.tc : Thread Cert.MixDwReferenceIdeal.nD Cert.MixDwReferenceIdeal.τ).loc Cert.MixDwReferenceIdeal.main_arg0)
      ∧ r.2.mem ((c.tc : Thread Cert.MixDwReferenceIdeal.nD Cert.MixDwReferenceIdeal.τ).loc Cert.MixDwReferenceIdeal.main_arg1) = m ((c.tc : Thread Cert.MixDwReferenceIdeal.nD Cert.MixDwReferenceIdeal.τ).loc Cert.MixDwReferenceIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_SharedDw [hSharedDw : Cert.SharedDw.Facts] : Prop :=
  ∀ (m : (ℓ : Loc Cert.SharedDw.nD Cert.SharedDw.τ Cert.SharedDw.sig) → Buf (Elt Bits) ℓ) (g : Dev Cert.SharedDw.nD → PrngReg), Pre_SharedDw m →
    θ_run (Cert.SharedDw.defs (F := Bits)) (onTc (τ := Cert.SharedDw.τ) (Cert.SharedDw.main (F := Bits))) ⟨m, fun _ => 0, g⟩ (fun r => (∀ c : Dev Cert.SharedDw.nD,
      r.2.mem ((c.tc : Thread Cert.SharedDw.nD Cert.SharedDw.τ).loc Cert.SharedDw.main_arg0) = m ((c.tc : Thread Cert.SharedDw.nD Cert.SharedDw.τ).loc Cert.SharedDw.main_arg0)
      ∧ r.2.mem ((c.tc : Thread Cert.SharedDw.nD Cert.SharedDw.τ).loc Cert.SharedDw.main_arg1) = m ((c.tc : Thread Cert.SharedDw.nD Cert.SharedDw.τ).loc Cert.SharedDw.main_arg1))
      ∧ r.2.sem = fun _ => 0)

def quiescent_SharedDwIdeal [hSharedDwIdeal : Cert.SharedDwIdeal.Facts] : Prop :=
  ∀ (m : (ℓ : Loc Cert.SharedDwIdeal.nD Cert.SharedDwIdeal.τ Cert.SharedDwIdeal.sig) → Buf (Elt Ideal) ℓ) (g : Dev Cert.SharedDwIdeal.nD → PrngReg), Pre_SharedDwIdeal m →
    θ_run (Cert.SharedDwIdeal.defs (F := Ideal)) (onTc (τ := Cert.SharedDwIdeal.τ) (Cert.SharedDwIdeal.main (F := Ideal))) ⟨m, fun _ => 0, g⟩ (fun r => (∀ c : Dev Cert.SharedDwIdeal.nD,
      r.2.mem ((c.tc : Thread Cert.SharedDwIdeal.nD Cert.SharedDwIdeal.τ).loc Cert.SharedDwIdeal.main_arg0) = m ((c.tc : Thread Cert.SharedDwIdeal.nD Cert.SharedDwIdeal.τ).loc Cert.SharedDwIdeal.main_arg0)
      ∧ r.2.mem ((c.tc : Thread Cert.SharedDwIdeal.nD Cert.SharedDwIdeal.τ).loc Cert.SharedDwIdeal.main_arg1) = m ((c.tc : Thread Cert.SharedDwIdeal.nD Cert.SharedDwIdeal.τ).loc Cert.SharedDwIdeal.main_arg1))
      ∧ r.2.sem = fun _ => 0)

def quiescent_SharedDwReferenceIdeal [hSharedDwReferenceIdeal : Cert.SharedDwReferenceIdeal.Facts] : Prop :=
  ∀ (m : (ℓ : Loc Cert.SharedDwReferenceIdeal.nD Cert.SharedDwReferenceIdeal.τ Cert.SharedDwReferenceIdeal.sig) → Buf (Elt Ideal) ℓ) (g : Dev Cert.SharedDwReferenceIdeal.nD → PrngReg), Pre_SharedDwReferenceIdeal m →
    θ_run (Cert.SharedDwReferenceIdeal.defs (F := Ideal)) (onTc (τ := Cert.SharedDwReferenceIdeal.τ) (Cert.SharedDwReferenceIdeal.main (F := Ideal))) ⟨m, fun _ => 0, g⟩ (fun r => (∀ c : Dev Cert.SharedDwReferenceIdeal.nD,
      r.2.mem ((c.tc : Thread Cert.SharedDwReferenceIdeal.nD Cert.SharedDwReferenceIdeal.τ).loc Cert.SharedDwReferenceIdeal.main_arg0) = m ((c.tc : Thread Cert.SharedDwReferenceIdeal.nD Cert.SharedDwReferenceIdeal.τ).loc Cert.SharedDwReferenceIdeal.main_arg0)
      ∧ r.2.mem ((c.tc : Thread Cert.SharedDwReferenceIdeal.nD Cert.SharedDwReferenceIdeal.τ).loc Cert.SharedDwReferenceIdeal.main_arg1) = m ((c.tc : Thread Cert.SharedDwReferenceIdeal.nD Cert.SharedDwReferenceIdeal.τ).loc Cert.SharedDwReferenceIdeal.main_arg1))
      ∧ r.2.sem = fun _ => 0)

def quiescent_PooledDw [hPooledDw : Cert.PooledDw.Facts] : Prop :=
  ∀ (m : (ℓ : Loc Cert.PooledDw.nD Cert.PooledDw.τ Cert.PooledDw.sig) → Buf (Elt Bits) ℓ) (g : Dev Cert.PooledDw.nD → PrngReg), Pre_PooledDw m →
    θ_run (Cert.PooledDw.defs (F := Bits)) (onTc (τ := Cert.PooledDw.τ) (Cert.PooledDw.main (F := Bits))) ⟨m, fun _ => 0, g⟩ (fun r => (∀ c : Dev Cert.PooledDw.nD,
      r.2.mem ((c.tc : Thread Cert.PooledDw.nD Cert.PooledDw.τ).loc Cert.PooledDw.main_arg0) = m ((c.tc : Thread Cert.PooledDw.nD Cert.PooledDw.τ).loc Cert.PooledDw.main_arg0)
      ∧ r.2.mem ((c.tc : Thread Cert.PooledDw.nD Cert.PooledDw.τ).loc Cert.PooledDw.main_arg1) = m ((c.tc : Thread Cert.PooledDw.nD Cert.PooledDw.τ).loc Cert.PooledDw.main_arg1))
      ∧ r.2.sem = fun _ => 0)

def quiescent_PooledDwIdeal [hPooledDwIdeal : Cert.PooledDwIdeal.Facts] : Prop :=
  ∀ (m : (ℓ : Loc Cert.PooledDwIdeal.nD Cert.PooledDwIdeal.τ Cert.PooledDwIdeal.sig) → Buf (Elt Ideal) ℓ) (g : Dev Cert.PooledDwIdeal.nD → PrngReg), Pre_PooledDwIdeal m →
    θ_run (Cert.PooledDwIdeal.defs (F := Ideal)) (onTc (τ := Cert.PooledDwIdeal.τ) (Cert.PooledDwIdeal.main (F := Ideal))) ⟨m, fun _ => 0, g⟩ (fun r => (∀ c : Dev Cert.PooledDwIdeal.nD,
      r.2.mem ((c.tc : Thread Cert.PooledDwIdeal.nD Cert.PooledDwIdeal.τ).loc Cert.PooledDwIdeal.main_arg0) = m ((c.tc : Thread Cert.PooledDwIdeal.nD Cert.PooledDwIdeal.τ).loc Cert.PooledDwIdeal.main_arg0)
      ∧ r.2.mem ((c.tc : Thread Cert.PooledDwIdeal.nD Cert.PooledDwIdeal.τ).loc Cert.PooledDwIdeal.main_arg1) = m ((c.tc : Thread Cert.PooledDwIdeal.nD Cert.PooledDwIdeal.τ).loc Cert.PooledDwIdeal.main_arg1))
      ∧ r.2.sem = fun _ => 0)

def quiescent_PooledDwReferenceIdeal [hPooledDwReferenceIdeal : Cert.PooledDwReferenceIdeal.Facts] : Prop :=
  ∀ (m : (ℓ : Loc Cert.PooledDwReferenceIdeal.nD Cert.PooledDwReferenceIdeal.τ Cert.PooledDwReferenceIdeal.sig) → Buf (Elt Ideal) ℓ) (g : Dev Cert.PooledDwReferenceIdeal.nD → PrngReg), Pre_PooledDwReferenceIdeal m →
    θ_run (Cert.PooledDwReferenceIdeal.defs (F := Ideal)) (onTc (τ := Cert.PooledDwReferenceIdeal.τ) (Cert.PooledDwReferenceIdeal.main (F := Ideal))) ⟨m, fun _ => 0, g⟩ (fun r => (∀ c : Dev Cert.PooledDwReferenceIdeal.nD,
      r.2.mem ((c.tc : Thread Cert.PooledDwReferenceIdeal.nD Cert.PooledDwReferenceIdeal.τ).loc Cert.PooledDwReferenceIdeal.main_arg0) = m ((c.tc : Thread Cert.PooledDwReferenceIdeal.nD Cert.PooledDwReferenceIdeal.τ).loc Cert.PooledDwReferenceIdeal.main_arg0)
      ∧ r.2.mem ((c.tc : Thread Cert.PooledDwReferenceIdeal.nD Cert.PooledDwReferenceIdeal.τ).loc Cert.PooledDwReferenceIdeal.main_arg1) = m ((c.tc : Thread Cert.PooledDwReferenceIdeal.nD Cert.PooledDwReferenceIdeal.τ).loc Cert.PooledDwReferenceIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1))
      ∧ r.2.sem = fun _ => 0)

def quiescent_KeysDw [hKeysDw : Cert.KeysDw.Facts] : Prop :=
  ∀ (m : (ℓ : Loc Cert.KeysDw.nD Cert.KeysDw.τ Cert.KeysDw.sig) → Buf (Elt Bits) ℓ) (g : Dev Cert.KeysDw.nD → PrngReg), Pre_KeysDw m →
    θ_run (Cert.KeysDw.defs (F := Bits)) (onTc (τ := Cert.KeysDw.τ) (Cert.KeysDw.main (F := Bits))) ⟨m, fun _ => 0, g⟩ (fun r => (∀ c : Dev Cert.KeysDw.nD,
      r.2.mem ((c.tc : Thread Cert.KeysDw.nD Cert.KeysDw.τ).loc Cert.KeysDw.main_arg0) = m ((c.tc : Thread Cert.KeysDw.nD Cert.KeysDw.τ).loc Cert.KeysDw.main_arg0)
      ∧ r.2.mem ((c.tc : Thread Cert.KeysDw.nD Cert.KeysDw.τ).loc Cert.KeysDw.main_arg1) = m ((c.tc : Thread Cert.KeysDw.nD Cert.KeysDw.τ).loc Cert.KeysDw.main_arg1))
      ∧ r.2.sem = fun _ => 0)

def quiescent_KeysDwIdeal [hKeysDwIdeal : Cert.KeysDwIdeal.Facts] : Prop :=
  ∀ (m : (ℓ : Loc Cert.KeysDwIdeal.nD Cert.KeysDwIdeal.τ Cert.KeysDwIdeal.sig) → Buf (Elt Ideal) ℓ) (g : Dev Cert.KeysDwIdeal.nD → PrngReg), Pre_KeysDwIdeal m →
    θ_run (Cert.KeysDwIdeal.defs (F := Ideal)) (onTc (τ := Cert.KeysDwIdeal.τ) (Cert.KeysDwIdeal.main (F := Ideal))) ⟨m, fun _ => 0, g⟩ (fun r => (∀ c : Dev Cert.KeysDwIdeal.nD,
      r.2.mem ((c.tc : Thread Cert.KeysDwIdeal.nD Cert.KeysDwIdeal.τ).loc Cert.KeysDwIdeal.main_arg0) = m ((c.tc : Thread Cert.KeysDwIdeal.nD Cert.KeysDwIdeal.τ).loc Cert.KeysDwIdeal.main_arg0)
      ∧ r.2.mem ((c.tc : Thread Cert.KeysDwIdeal.nD Cert.KeysDwIdeal.τ).loc Cert.KeysDwIdeal.main_arg1) = m ((c.tc : Thread Cert.KeysDwIdeal.nD Cert.KeysDwIdeal.τ).loc Cert.KeysDwIdeal.main_arg1))
      ∧ r.2.sem = fun _ => 0)

def quiescent_KeysDwReferenceIdeal [hKeysDwReferenceIdeal : Cert.KeysDwReferenceIdeal.Facts] : Prop :=
  ∀ (m : (ℓ : Loc Cert.KeysDwReferenceIdeal.nD Cert.KeysDwReferenceIdeal.τ Cert.KeysDwReferenceIdeal.sig) → Buf (Elt Ideal) ℓ) (g : Dev Cert.KeysDwReferenceIdeal.nD → PrngReg), Pre_KeysDwReferenceIdeal m →
    θ_run (Cert.KeysDwReferenceIdeal.defs (F := Ideal)) (onTc (τ := Cert.KeysDwReferenceIdeal.τ) (Cert.KeysDwReferenceIdeal.main (F := Ideal))) ⟨m, fun _ => 0, g⟩ (fun r => (∀ c : Dev Cert.KeysDwReferenceIdeal.nD,
      r.2.mem ((c.tc : Thread Cert.KeysDwReferenceIdeal.nD Cert.KeysDwReferenceIdeal.τ).loc Cert.KeysDwReferenceIdeal.main_arg0) = m ((c.tc : Thread Cert.KeysDwReferenceIdeal.nD Cert.KeysDwReferenceIdeal.τ).loc Cert.KeysDwReferenceIdeal.main_arg0)
      ∧ r.2.mem ((c.tc : Thread Cert.KeysDwReferenceIdeal.nD Cert.KeysDwReferenceIdeal.τ).loc Cert.KeysDwReferenceIdeal.main_arg1) = m ((c.tc : Thread Cert.KeysDwReferenceIdeal.nD Cert.KeysDwReferenceIdeal.τ).loc Cert.KeysDwReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 3072, 1024]⟩ ⟨3, ![64, 3072, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![3072, 1024]⟩ ⟨2, ![24576, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![3072, 1024]⟩ ⟨2, ![24576, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![3072, 1024]⟩ ⟨2, ![24576, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨3, ![4, 3072, 1024]⟩ ⟨3, ![4, 24576, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def preserves_Swap_SwapIdeal : Prop :=
  True

def algebraic_SwapIdeal_SwapReferenceIdeal [hSwapIdeal : Cert.SwapIdeal.Facts] [hSwapReferenceIdeal : Cert.SwapReferenceIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapReferenceIdeal.nD Cert.SwapReferenceIdeal.τ Cert.SwapReferenceIdeal.sig) → Buf (Elt Ideal) ℓ) (g' : Dev Cert.SwapReferenceIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨3, ![4, 3072, 1024]⟩ ⟨3, ![4, 24576, 1024]⟩ 1 8 c (m' (((0 : Dev Cert.SwapReferenceIdeal.nD).tc : Thread Cert.SwapReferenceIdeal.nD Cert.SwapReferenceIdeal.τ).loc Cert.SwapReferenceIdeal.main_arg0))) →
    ∃ (v0 : Buf (Elt Ideal) (((0 : Dev Cert.SwapReferenceIdeal.nD).tc : Thread Cert.SwapReferenceIdeal.nD Cert.SwapReferenceIdeal.τ).loc Cert.SwapReferenceIdeal.main_v1)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.blockN ⟨4, ![4, 2, 2904, 1024]⟩ ⟨4, ![4, 8, 2904, 1024]⟩ (Layout.meshBlock [2, 2, 2] ![[], [0, 1], [], []] c) v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.SwapReferenceIdeal.defs (F := Ideal)) (onTc (τ := Cert.SwapReferenceIdeal.τ) (Cert.SwapReferenceIdeal.main (F := Ideal))) ⟨m', fun _ => 0, g'⟩ (fun r =>
          r.2.mem (((0 : Dev Cert.SwapReferenceIdeal.nD).tc : Thread Cert.SwapReferenceIdeal.nD Cert.SwapReferenceIdeal.τ).loc Cert.SwapReferenceIdeal.main_v1) = v0
          ∧ r.2.mem (((0 : Dev Cert.SwapReferenceIdeal.nD).tc : Thread Cert.SwapReferenceIdeal.nD Cert.SwapReferenceIdeal.τ).loc Cert.SwapReferenceIdeal.main_arg0) = m' (((0 : Dev Cert.SwapReferenceIdeal.nD).tc : Thread Cert.SwapReferenceIdeal.nD Cert.SwapReferenceIdeal.τ).loc Cert.SwapReferenceIdeal.main_arg0))

def bitexact_Swap_SwapReference [hSwap : Cert.Swap.Facts] [hSwapReference : Cert.SwapReference.Facts] : Prop :=
  ∀ (m : (ℓ : Loc Cert.Swap.nD Cert.Swap.τ Cert.Swap.sig) → Buf (Elt Bits) ℓ) (g : Dev Cert.Swap.nD → PrngReg)
    (m' : (ℓ : Loc Cert.SwapReference.nD Cert.SwapReference.τ Cert.SwapReference.sig) → Buf (Elt Bits) ℓ) (g' : Dev Cert.SwapReference.nD → PrngReg), Pre_Swap m →
    (∀ c : Dev Cert.Swap.nD,
      m ((c.tc : Thread Cert.Swap.nD Cert.Swap.τ).loc Cert.Swap.main_arg0) = Layout.block ⟨3, ![4, 3072, 1024]⟩ ⟨3, ![4, 24576, 1024]⟩ 1 8 c (m' (((0 : Dev Cert.SwapReference.nD).tc : Thread Cert.SwapReference.nD Cert.SwapReference.τ).loc Cert.SwapReference.main_arg0))) →
    ∃ (v0 : Buf (Elt Bits) (((0 : Dev Cert.SwapReference.nD).tc : Thread Cert.SwapReference.nD Cert.SwapReference.τ).loc Cert.SwapReference.main_v1)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1) = Layout.blockN ⟨4, ![4, 2, 2904, 1024]⟩ ⟨4, ![4, 8, 2904, 1024]⟩ (Layout.meshBlock [2, 2, 2] ![[], [0, 1], [], []] c) v0
          ∧ r.2.mem ((c.tc : Thread Cert.Swap.nD Cert.Swap.τ).loc Cert.Swap.main_arg0) = m ((c.tc : Thread Cert.Swap.nD Cert.Swap.τ).loc Cert.Swap.main_arg0))
      ∧ θ_run (Cert.SwapReference.defs (F := Bits)) (onTc (τ := Cert.SwapReference.τ) (Cert.SwapReference.main (F := Bits))) ⟨m', fun _ => 0, g'⟩ (fun r =>
          r.2.mem (((0 : Dev Cert.SwapReference.nD).tc : Thread Cert.SwapReference.nD Cert.SwapReference.τ).loc Cert.SwapReference.main_v1) = v0
          ∧ r.2.mem (((0 : Dev Cert.SwapReference.nD).tc : Thread Cert.SwapReference.nD Cert.SwapReference.τ).loc Cert.SwapReference.main_arg0) = m' (((0 : Dev Cert.SwapReference.nD).tc : Thread Cert.SwapReference.nD Cert.SwapReference.τ).loc Cert.SwapReference.main_arg0))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![2904, 1024]⟩ ⟨2, ![23232, 1024]⟩ 0 8 c (m' (((0 : Dev Cert.GatherReferenceIdeal.nD).tc : Thread Cert.GatherReferenceIdeal.nD Cert.GatherReferenceIdeal.τ).loc Cert.GatherReferenceIdeal.main_arg0))) →
    ∃ (v0 : Buf (Elt Ideal) (((0 : Dev Cert.GatherReferenceIdeal.nD).tc : Thread Cert.GatherReferenceIdeal.nD Cert.GatherReferenceIdeal.τ).loc Cert.GatherReferenceIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.block ⟨2, ![2904, 1024]⟩ ⟨2, ![23232, 1024]⟩ 0 8 c (m' (((0 : Dev Cert.GatherReference.nD).tc : Thread Cert.GatherReference.nD Cert.GatherReference.τ).loc Cert.GatherReference.main_arg0))) →
    ∃ (v0 : Buf (Elt Bits) (((0 : Dev Cert.GatherReference.nD).tc : Thread Cert.GatherReference.nD Cert.GatherReference.τ).loc Cert.GatherReference.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v0) = v0
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0))

def preserves_Small_SmallIdeal : Prop :=
  True

def algebraic_SmallIdeal_SmallReferenceIdeal [hSmallIdeal : Cert.SmallIdeal.Facts] [hSmallReferenceIdeal : Cert.SmallReferenceIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![10, 1024]⟩ ⟨2, ![80, 1024]⟩ 0 8 c (m' (((0 : Dev Cert.SmallReferenceIdeal.nD).tc : Thread Cert.SmallReferenceIdeal.nD Cert.SmallReferenceIdeal.τ).loc Cert.SmallReferenceIdeal.main_arg0))) →
    ∃ (v0 : Buf (Elt Ideal) (((0 : Dev Cert.SmallReferenceIdeal.nD).tc : Thread Cert.SmallReferenceIdeal.nD Cert.SmallReferenceIdeal.τ).loc Cert.SmallReferenceIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1) = v0
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallReferenceIdeal.defs (F := Ideal)) (onTc (τ := Cert.SmallReferenceIdeal.τ) (Cert.SmallReferenceIdeal.main (F := Ideal))) ⟨m', fun _ => 0, g'⟩ (fun r =>
          r.2.mem (((0 : Dev Cert.SmallReferenceIdeal.nD).tc : Thread Cert.SmallReferenceIdeal.nD Cert.SmallReferenceIdeal.τ).loc Cert.SmallReferenceIdeal.main_v0) = v0
          ∧ r.2.mem (((0 : Dev Cert.SmallReferenceIdeal.nD).tc : Thread Cert.SmallReferenceIdeal.nD Cert.SmallReferenceIdeal.τ).loc Cert.SmallReferenceIdeal.main_arg0) = m' (((0 : Dev Cert.SmallReferenceIdeal.nD).tc : Thread Cert.SmallReferenceIdeal.nD Cert.SmallReferenceIdeal.τ).loc Cert.SmallReferenceIdeal.main_arg0))

def bitexact_Small_SmallReference [hSmall : Cert.Small.Facts] [hSmallReference : Cert.SmallReference.Facts] : Prop :=
  ∀ (m : (ℓ : Loc Cert.Small.nD Cert.Small.τ Cert.Small.sig) → Buf (Elt Bits) ℓ) (g : Dev Cert.Small.nD → PrngReg)
    (m' : (ℓ : Loc Cert.SmallReference.nD Cert.SmallReference.τ Cert.SmallReference.sig) → Buf (Elt Bits) ℓ) (g' : Dev Cert.SmallReference.nD → PrngReg), Pre_Small m →
    (∀ c : Dev Cert.Small.nD,
      m ((c.tc : Thread Cert.Small.nD Cert.Small.τ).loc Cert.Small.main_arg0) = Layout.block ⟨2, ![10, 1024]⟩ ⟨2, ![80, 1024]⟩ 0 8 c (m' (((0 : Dev Cert.SmallReference.nD).tc : Thread Cert.SmallReference.nD Cert.SmallReference.τ).loc Cert.SmallReference.main_arg0))) →
    ∃ (v0 : Buf (Elt Bits) (((0 : Dev Cert.SmallReference.nD).tc : Thread Cert.SmallReference.nD Cert.SmallReference.τ).loc Cert.SmallReference.main_v0)),
      θ_run (Cert.Small.defs (F := Bits)) (onTc (τ := Cert.Small.τ) (Cert.Small.main (F := Bits))) ⟨m, fun _ => 0, g⟩ (fun r => ∀ c : Dev Cert.Small.nD,
          r.2.mem ((c.tc : Thread Cert.Small.nD Cert.Small.τ).loc Cert.Small.main_v1) = v0
          ∧ r.2.mem ((c.tc : Thread Cert.Small.nD Cert.Small.τ).loc Cert.Small.main_arg0) = m ((c.tc : Thread Cert.Small.nD Cert.Small.τ).loc Cert.Small.main_arg0))
      ∧ θ_run (Cert.SmallReference.defs (F := Bits)) (onTc (τ := Cert.SmallReference.τ) (Cert.SmallReference.main (F := Bits))) ⟨m', fun _ => 0, g'⟩ (fun r =>
          r.2.mem (((0 : Dev Cert.SmallReference.nD).tc : Thread Cert.SmallReference.nD Cert.SmallReference.τ).loc Cert.SmallReference.main_v0) = v0
          ∧ r.2.mem (((0 : Dev Cert.SmallReference.nD).tc : Thread Cert.SmallReference.nD Cert.SmallReference.τ).loc Cert.SmallReference.main_arg0) = m' (((0 : Dev Cert.SmallReference.nD).tc : Thread Cert.SmallReference.nD Cert.SmallReference.τ).loc Cert.SmallReference.main_arg0))

def preserves_GradX_GradXIdeal : Prop :=
  True

def algebraic_GradXIdeal_GradXReferenceIdeal [hGradXIdeal : Cert.GradXIdeal.Facts] [hGradXReferenceIdeal : Cert.GradXReferenceIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXReferenceIdeal.nD Cert.GradXReferenceIdeal.τ Cert.GradXReferenceIdeal.sig) → Buf (Elt Ideal) ℓ) (g' : Dev Cert.GradXReferenceIdeal.nD → PrngReg), Pre_GradXIdeal m →
    (∀ c : Dev Cert.GradXIdeal.nD,
      m' ((c.tc : Thread Cert.GradXReferenceIdeal.nD Cert.GradXReferenceIdeal.τ).loc Cert.GradXReferenceIdeal.main_arg0) = m ((c.tc : Thread Cert.GradXIdeal.nD Cert.GradXIdeal.τ).loc Cert.GradXIdeal.main_arg0)
      ∧ m' ((c.tc : Thread Cert.GradXReferenceIdeal.nD Cert.GradXReferenceIdeal.τ).loc Cert.GradXReferenceIdeal.main_arg1) = m ((c.tc : Thread Cert.GradXIdeal.nD Cert.GradXIdeal.τ).loc Cert.GradXIdeal.main_arg1)
      ∧ m' ((c.tc : Thread Cert.GradXReferenceIdeal.nD Cert.GradXReferenceIdeal.τ).loc Cert.GradXReferenceIdeal.main_arg2) = m ((c.tc : Thread Cert.GradXIdeal.nD Cert.GradXIdeal.τ).loc Cert.GradXIdeal.main_arg2)) →
    ∃ (v0 : (c : Dev Cert.GradXIdeal.nD) → Buf (Elt Ideal) ((c.tc : Thread Cert.GradXIdeal.nD Cert.GradXIdeal.τ).loc Cert.GradXIdeal.main_v0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2))
      ∧ θ_run (Cert.GradXReferenceIdeal.defs (F := Ideal)) (onTc (τ := Cert.GradXReferenceIdeal.τ) (Cert.GradXReferenceIdeal.main (F := Ideal))) ⟨m', fun _ => 0, g'⟩ (fun r => ∀ c : Dev Cert.GradXReferenceIdeal.nD,
          r.2.mem ((c.tc : Thread Cert.GradXReferenceIdeal.nD Cert.GradXReferenceIdeal.τ).loc Cert.GradXReferenceIdeal.main_v3) = v0 c
          ∧ r.2.mem ((c.tc : Thread Cert.GradXReferenceIdeal.nD Cert.GradXReferenceIdeal.τ).loc Cert.GradXReferenceIdeal.main_arg0) = m' ((c.tc : Thread Cert.GradXReferenceIdeal.nD Cert.GradXReferenceIdeal.τ).loc Cert.GradXReferenceIdeal.main_arg0)
          ∧ r.2.mem ((c.tc : Thread Cert.GradXReferenceIdeal.nD Cert.GradXReferenceIdeal.τ).loc Cert.GradXReferenceIdeal.main_arg1) = m' ((c.tc : Thread Cert.GradXReferenceIdeal.nD Cert.GradXReferenceIdeal.τ).loc Cert.GradXReferenceIdeal.main_arg1)
          ∧ r.2.mem ((c.tc : Thread Cert.GradXReferenceIdeal.nD Cert.GradXReferenceIdeal.τ).loc Cert.GradXReferenceIdeal.main_arg2) = m' ((c.tc : Thread Cert.GradXReferenceIdeal.nD Cert.GradXReferenceIdeal.τ).loc Cert.GradXReferenceIdeal.main_arg2))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m ((c.tc : Thread Cert.LossIdeal.nD Cert.LossIdeal.τ).loc Cert.LossIdeal.main_arg0) = Layout.block ⟨2, ![8192, 1024]⟩ ⟨2, ![65536, 1024]⟩ 0 8 c (m' (((0 : Dev Cert.LossReferenceIdeal.nD).tc : Thread Cert.LossReferenceIdeal.nD Cert.LossReferenceIdeal.τ).loc Cert.LossReferenceIdeal.main_arg0))
      ∧ m ((c.tc : Thread Cert.LossIdeal.nD Cert.LossIdeal.τ).loc Cert.LossIdeal.main_arg1) = Layout.block ⟨2, ![8192, 1024]⟩ ⟨2, ![65536, 1024]⟩ 0 8 c (m' (((0 : Dev Cert.LossReferenceIdeal.nD).tc : Thread Cert.LossReferenceIdeal.nD Cert.LossReferenceIdeal.τ).loc Cert.LossReferenceIdeal.main_arg1))
      ∧ m ((c.tc : Thread Cert.LossIdeal.nD Cert.LossIdeal.τ).loc Cert.LossIdeal.main_arg2) = Layout.block ⟨2, ![8192, 1024]⟩ ⟨2, ![65536, 1024]⟩ 0 8 c (m' (((0 : Dev Cert.LossReferenceIdeal.nD).tc : Thread Cert.LossReferenceIdeal.nD Cert.LossReferenceIdeal.τ).loc Cert.LossReferenceIdeal.main_arg2))
      ∧ m ((c.tc : Thread Cert.LossIdeal.nD Cert.LossIdeal.τ).loc Cert.LossIdeal.main_arg3) = m' (((0 : Dev Cert.LossReferenceIdeal.nD).tc : Thread Cert.LossReferenceIdeal.nD Cert.LossReferenceIdeal.τ).loc Cert.LossReferenceIdeal.main_arg3)
      ∧ m ((c.tc : Thread Cert.LossIdeal.nD Cert.LossIdeal.τ).loc Cert.LossIdeal.main_arg4) = m' (((0 : Dev Cert.LossReferenceIdeal.nD).tc : Thread Cert.LossReferenceIdeal.nD Cert.LossReferenceIdeal.τ).loc Cert.LossReferenceIdeal.main_arg4)) →
    ∃ (v0 : Buf (Elt Ideal) (((0 : Dev Cert.LossReferenceIdeal.nD).tc : Thread Cert.LossReferenceIdeal.nD Cert.LossReferenceIdeal.τ).loc Cert.LossReferenceIdeal.main_v31)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4) = v0
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossReferenceIdeal.defs (F := Ideal)) (onTc (τ := Cert.LossReferenceIdeal.τ) (Cert.LossReferenceIdeal.main (F := Ideal))) ⟨m', fun _ => 0, g'⟩ (fun r =>
          r.2.mem (((0 : Dev Cert.LossReferenceIdeal.nD).tc : Thread Cert.LossReferenceIdeal.nD Cert.LossReferenceIdeal.τ).loc Cert.LossReferenceIdeal.main_v31) = v0
          ∧ r.2.mem (((0 : Dev Cert.LossReferenceIdeal.nD).tc : Thread Cert.LossReferenceIdeal.nD Cert.LossReferenceIdeal.τ).loc Cert.LossReferenceIdeal.main_arg0) = m' (((0 : Dev Cert.LossReferenceIdeal.nD).tc : Thread Cert.LossReferenceIdeal.nD Cert.LossReferenceIdeal.τ).loc Cert.LossReferenceIdeal.main_arg0)
          ∧ r.2.mem (((0 : Dev Cert.LossReferenceIdeal.nD).tc : Thread Cert.LossReferenceIdeal.nD Cert.LossReferenceIdeal.τ).loc Cert.LossReferenceIdeal.main_arg1) = m' (((0 : Dev Cert.LossReferenceIdeal.nD).tc : Thread Cert.LossReferenceIdeal.nD Cert.LossReferenceIdeal.τ).loc Cert.LossReferenceIdeal.main_arg1)
          ∧ r.2.mem (((0 : Dev Cert.LossReferenceIdeal.nD).tc : Thread Cert.LossReferenceIdeal.nD Cert.LossReferenceIdeal.τ).loc Cert.LossReferenceIdeal.main_arg2) = m' (((0 : Dev Cert.LossReferenceIdeal.nD).tc : Thread Cert.LossReferenceIdeal.nD Cert.LossReferenceIdeal.τ).loc Cert.LossReferenceIdeal.main_arg2)
          ∧ r.2.mem (((0 : Dev Cert.LossReferenceIdeal.nD).tc : Thread Cert.LossReferenceIdeal.nD Cert.LossReferenceIdeal.τ).loc Cert.LossReferenceIdeal.main_arg3) = m' (((0 : Dev Cert.LossReferenceIdeal.nD).tc : Thread Cert.LossReferenceIdeal.nD Cert.LossReferenceIdeal.τ).loc Cert.LossReferenceIdeal.main_arg3)
          ∧ r.2.mem (((0 : Dev Cert.LossReferenceIdeal.nD).tc : Thread Cert.LossReferenceIdeal.nD Cert.LossReferenceIdeal.τ).loc Cert.LossReferenceIdeal.main_arg4) = m' (((0 : Dev Cert.LossReferenceIdeal.nD).tc : Thread Cert.LossReferenceIdeal.nD Cert.LossReferenceIdeal.τ).loc Cert.LossReferenceIdeal.main_arg4))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)
      ∧ m' ((c.tc : Thread Cert.MemoryReferenceIdeal.nD Cert.MemoryReferenceIdeal.τ).loc Cert.MemoryReferenceIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v0)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v0) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v25) = v0 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2)
          ∧ r.2.mem ((c.tc : Thread Cert.MemoryReferenceIdeal.nD Cert.MemoryReferenceIdeal.τ).loc Cert.MemoryReferenceIdeal.main_arg3) = m' ((c.tc : Thread Cert.MemoryReferenceIdeal.nD Cert.MemoryReferenceIdeal.τ).loc Cert.MemoryReferenceIdeal.main_arg3))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v1) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v24) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_ConvGate_ConvGateIdeal : Prop :=
  True

def algebraic_ConvGateIdeal_ConvGateReferenceIdeal [hConvGateIdeal : Cert.ConvGateIdeal.Facts] [hConvGateReferenceIdeal : Cert.ConvGateReferenceIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg)
    (m' : (ℓ : Loc Cert.ConvGateReferenceIdeal.nD Cert.ConvGateReferenceIdeal.τ Cert.ConvGateReferenceIdeal.sig) → Buf (Elt Ideal) ℓ) (g' : Dev Cert.ConvGateReferenceIdeal.nD → PrngReg), Pre_ConvGateIdeal m →
    (∀ c : Dev Cert.ConvGateIdeal.nD,
      m' ((c.tc : Thread Cert.ConvGateReferenceIdeal.nD Cert.ConvGateReferenceIdeal.τ).loc Cert.ConvGateReferenceIdeal.main_arg0) = m ((c.tc : Thread Cert.ConvGateIdeal.nD Cert.ConvGateIdeal.τ).loc Cert.ConvGateIdeal.main_arg0)
      ∧ m' ((c.tc : Thread Cert.ConvGateReferenceIdeal.nD Cert.ConvGateReferenceIdeal.τ).loc Cert.ConvGateReferenceIdeal.main_arg1) = m ((c.tc : Thread Cert.ConvGateIdeal.nD Cert.ConvGateIdeal.τ).loc Cert.ConvGateIdeal.main_arg1)
      ∧ m' ((c.tc : Thread Cert.ConvGateReferenceIdeal.nD Cert.ConvGateReferenceIdeal.τ).loc Cert.ConvGateReferenceIdeal.main_arg2) = m ((c.tc : Thread Cert.ConvGateIdeal.nD Cert.ConvGateIdeal.τ).loc Cert.ConvGateIdeal.main_arg2)) →
    ∃ (v0 : (c : Dev Cert.ConvGateIdeal.nD) → Buf (Elt Ideal) ((c.tc : Thread Cert.ConvGateIdeal.nD Cert.ConvGateIdeal.τ).loc Cert.ConvGateIdeal.main_v0)),
      θ_run (Cert.ConvGateIdeal.defs (F := Ideal)) (onTc (τ := Cert.ConvGateIdeal.τ) (Cert.ConvGateIdeal.main (F := Ideal))) ⟨m, fun _ => 0, g⟩ (fun r => ∀ c : Dev Cert.ConvGateIdeal.nD,
          r.2.mem ((c.tc : Thread Cert.ConvGateIdeal.nD Cert.ConvGateIdeal.τ).loc Cert.ConvGateIdeal.main_v0) = v0 c
          ∧ r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
          ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
          ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2))
      ∧ θ_run (Cert.ConvGateReferenceIdeal.defs (F := Ideal)) (onTc (τ := Cert.ConvGateReferenceIdeal.τ) (Cert.ConvGateReferenceIdeal.main (F := Ideal))) ⟨m', fun _ => 0, g'⟩ (fun r => ∀ c : Dev Cert.ConvGateReferenceIdeal.nD,
          r.2.mem ((c.tc : Thread Cert.ConvGateReferenceIdeal.nD Cert.ConvGateReferenceIdeal.τ).loc Cert.ConvGateReferenceIdeal.main_v27) = v0 c
          ∧ r.2.mem ((c.tc : Thread Cert.ConvGateReferenceIdeal.nD Cert.ConvGateReferenceIdeal.τ).loc Cert.ConvGateReferenceIdeal.main_arg0) = m' ((c.tc : Thread Cert.ConvGateReferenceIdeal.nD Cert.ConvGateReferenceIdeal.τ).loc Cert.ConvGateReferenceIdeal.main_arg0)
          ∧ r.2.mem ((c.tc : Thread Cert.ConvGateReferenceIdeal.nD Cert.ConvGateReferenceIdeal.τ).loc Cert.ConvGateReferenceIdeal.main_arg1) = m' ((c.tc : Thread Cert.ConvGateReferenceIdeal.nD Cert.ConvGateReferenceIdeal.τ).loc Cert.ConvGateReferenceIdeal.main_arg1)
          ∧ r.2.mem ((c.tc : Thread Cert.ConvGateReferenceIdeal.nD Cert.ConvGateReferenceIdeal.τ).loc Cert.ConvGateReferenceIdeal.main_arg2) = m' ((c.tc : Thread Cert.ConvGateReferenceIdeal.nD Cert.ConvGateReferenceIdeal.τ).loc Cert.ConvGateReferenceIdeal.main_arg2))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v1) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Keys_KeysIdeal : Prop :=
  True

def algebraic_KeysIdeal_KeysReferenceIdeal [hKeysIdeal : Cert.KeysIdeal.Facts] [hKeysReferenceIdeal : Cert.KeysReferenceIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysReferenceIdeal.nD Cert.KeysReferenceIdeal.τ Cert.KeysReferenceIdeal.sig) → Buf (Elt Ideal) ℓ) (g' : Dev Cert.KeysReferenceIdeal.nD → PrngReg), Pre_KeysIdeal m →
    (∀ c : Dev Cert.KeysIdeal.nD,
      m' ((c.tc : Thread Cert.KeysReferenceIdeal.nD Cert.KeysReferenceIdeal.τ).loc Cert.KeysReferenceIdeal.main_arg0) = m ((c.tc : Thread Cert.KeysIdeal.nD Cert.KeysIdeal.τ).loc Cert.KeysIdeal.main_arg0)
      ∧ m' ((c.tc : Thread Cert.KeysReferenceIdeal.nD Cert.KeysReferenceIdeal.τ).loc Cert.KeysReferenceIdeal.main_arg1) = m ((c.tc : Thread Cert.KeysIdeal.nD Cert.KeysIdeal.τ).loc Cert.KeysIdeal.main_arg1)) →
    ∃ (v0 : (c : Dev Cert.KeysIdeal.nD) → Buf (Elt Ideal) ((c.tc : Thread Cert.KeysIdeal.nD Cert.KeysIdeal.τ).loc Cert.KeysIdeal.main_v0)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v0) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ θ_run (Cert.KeysReferenceIdeal.defs (F := Ideal)) (onTc (τ := Cert.KeysReferenceIdeal.τ) (Cert.KeysReferenceIdeal.main (F := Ideal))) ⟨m', fun _ => 0, g'⟩ (fun r => ∀ c : Dev Cert.KeysReferenceIdeal.nD,
          r.2.mem ((c.tc : Thread Cert.KeysReferenceIdeal.nD Cert.KeysReferenceIdeal.τ).loc Cert.KeysReferenceIdeal.main_v1) = v0 c
          ∧ r.2.mem ((c.tc : Thread Cert.KeysReferenceIdeal.nD Cert.KeysReferenceIdeal.τ).loc Cert.KeysReferenceIdeal.main_arg0) = m' ((c.tc : Thread Cert.KeysReferenceIdeal.nD Cert.KeysReferenceIdeal.τ).loc Cert.KeysReferenceIdeal.main_arg0)
          ∧ r.2.mem ((c.tc : Thread Cert.KeysReferenceIdeal.nD Cert.KeysReferenceIdeal.τ).loc Cert.KeysReferenceIdeal.main_arg1) = m' ((c.tc : Thread Cert.KeysReferenceIdeal.nD Cert.KeysReferenceIdeal.τ).loc Cert.KeysReferenceIdeal.main_arg1))

def preserves_Shared_SharedIdeal : Prop :=
  True

def algebraic_SharedIdeal_SharedReferenceIdeal [hSharedIdeal : Cert.SharedIdeal.Facts] [hSharedReferenceIdeal : Cert.SharedReferenceIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedReferenceIdeal.nD Cert.SharedReferenceIdeal.τ Cert.SharedReferenceIdeal.sig) → Buf (Elt Ideal) ℓ) (g' : Dev Cert.SharedReferenceIdeal.nD → PrngReg), Pre_SharedIdeal m →
    (∀ c : Dev Cert.SharedIdeal.nD,
      m' ((c.tc : Thread Cert.SharedReferenceIdeal.nD Cert.SharedReferenceIdeal.τ).loc Cert.SharedReferenceIdeal.main_arg0) = m ((c.tc : Thread Cert.SharedIdeal.nD Cert.SharedIdeal.τ).loc Cert.SharedIdeal.main_arg0)
      ∧ m' ((c.tc : Thread Cert.SharedReferenceIdeal.nD Cert.SharedReferenceIdeal.τ).loc Cert.SharedReferenceIdeal.main_arg1) = m ((c.tc : Thread Cert.SharedIdeal.nD Cert.SharedIdeal.τ).loc Cert.SharedIdeal.main_arg1)) →
    ∃ (v0 : (c : Dev Cert.SharedIdeal.nD) → Buf (Elt Ideal) ((c.tc : Thread Cert.SharedIdeal.nD Cert.SharedIdeal.τ).loc Cert.SharedIdeal.main_v0)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v0) = v0 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1))
      ∧ θ_run (Cert.SharedReferenceIdeal.defs (F := Ideal)) (onTc (τ := Cert.SharedReferenceIdeal.τ) (Cert.SharedReferenceIdeal.main (F := Ideal))) ⟨m', fun _ => 0, g'⟩ (fun r => ∀ c : Dev Cert.SharedReferenceIdeal.nD,
          r.2.mem ((c.tc : Thread Cert.SharedReferenceIdeal.nD Cert.SharedReferenceIdeal.τ).loc Cert.SharedReferenceIdeal.main_v1) = v0 c
          ∧ r.2.mem ((c.tc : Thread Cert.SharedReferenceIdeal.nD Cert.SharedReferenceIdeal.τ).loc Cert.SharedReferenceIdeal.main_arg0) = m' ((c.tc : Thread Cert.SharedReferenceIdeal.nD Cert.SharedReferenceIdeal.τ).loc Cert.SharedReferenceIdeal.main_arg0)
          ∧ r.2.mem ((c.tc : Thread Cert.SharedReferenceIdeal.nD Cert.SharedReferenceIdeal.τ).loc Cert.SharedReferenceIdeal.main_arg1) = m' ((c.tc : Thread Cert.SharedReferenceIdeal.nD Cert.SharedReferenceIdeal.τ).loc Cert.SharedReferenceIdeal.main_arg1))

def preserves_Pooled_PooledIdeal : Prop :=
  True

def algebraic_PooledIdeal_PooledReferenceIdeal [hPooledIdeal : Cert.PooledIdeal.Facts] [hPooledReferenceIdeal : Cert.PooledReferenceIdeal.Facts] : Prop :=
  ∀ (m : (ℓ : Loc Cert.PooledIdeal.nD Cert.PooledIdeal.τ Cert.PooledIdeal.sig) → Buf (Elt Ideal) ℓ) (g : Dev Cert.PooledIdeal.nD → PrngReg)
    (m' : (ℓ : Loc Cert.PooledReferenceIdeal.nD Cert.PooledReferenceIdeal.τ Cert.PooledReferenceIdeal.sig) → Buf (Elt Ideal) ℓ) (g' : Dev Cert.PooledReferenceIdeal.nD → PrngReg), Pre_PooledIdeal m →
    (∀ c : Dev Cert.PooledIdeal.nD,
      m' ((c.tc : Thread Cert.PooledReferenceIdeal.nD Cert.PooledReferenceIdeal.τ).loc Cert.PooledReferenceIdeal.main_arg0) = m ((c.tc : Thread Cert.PooledIdeal.nD Cert.PooledIdeal.τ).loc Cert.PooledIdeal.main_arg0)
      ∧ m' ((c.tc : Thread Cert.PooledReferenceIdeal.nD Cert.PooledReferenceIdeal.τ).loc Cert.PooledReferenceIdeal.main_arg1) = m ((c.tc : Thread Cert.PooledIdeal.nD Cert.PooledIdeal.τ).loc Cert.PooledIdeal.main_arg1)) →
    ∃ (v0 : (c : Dev Cert.PooledIdeal.nD) → Buf (Elt Ideal) ((c.tc : Thread Cert.PooledIdeal.nD Cert.PooledIdeal.τ).loc Cert.PooledIdeal.main_v0)),
      θ_run (Cert.PooledIdeal.defs (F := Ideal)) (onTc (τ := Cert.PooledIdeal.τ) (Cert.PooledIdeal.main (F := Ideal))) ⟨m, fun _ => 0, g⟩ (fun r => ∀ c : Dev Cert.PooledIdeal.nD,
          r.2.mem ((c.tc : Thread Cert.PooledIdeal.nD Cert.PooledIdeal.τ).loc Cert.PooledIdeal.main_v0) = v0 c
          ∧ r.2.mem ((c.tc : Thread Cert.PooledIdeal.nD Cert.PooledIdeal.τ).loc Cert.PooledIdeal.main_arg0) = m ((c.tc : Thread Cert.PooledIdeal.nD Cert.PooledIdeal.τ).loc Cert.PooledIdeal.main_arg0)
          ∧ r.2.mem ((c.tc : Thread Cert.PooledIdeal.nD Cert.PooledIdeal.τ).loc Cert.PooledIdeal.main_arg1) = m ((c.tc : Thread Cert.PooledIdeal.nD Cert.PooledIdeal.τ).loc Cert.PooledIdeal.main_arg1))
      ∧ θ_run (Cert.PooledReferenceIdeal.defs (F := Ideal)) (onTc (τ := Cert.PooledReferenceIdeal.τ) (Cert.PooledReferenceIdeal.main (F := Ideal))) ⟨m', fun _ => 0, g'⟩ (fun r => ∀ c : Dev Cert.PooledReferenceIdeal.nD,
          r.2.mem ((c.tc : Thread Cert.PooledReferenceIdeal.nD Cert.PooledReferenceIdeal.τ).loc Cert.PooledReferenceIdeal.main_v1) = v0 c
          ∧ r.2.mem ((c.tc : Thread Cert.PooledReferenceIdeal.nD Cert.PooledReferenceIdeal.τ).loc Cert.PooledReferenceIdeal.main_arg0) = m' ((c.tc : Thread Cert.PooledReferenceIdeal.nD Cert.PooledReferenceIdeal.τ).loc Cert.PooledReferenceIdeal.main_arg0)
          ∧ r.2.mem ((c.tc : Thread Cert.PooledReferenceIdeal.nD Cert.PooledReferenceIdeal.τ).loc Cert.PooledReferenceIdeal.main_arg1) = m' ((c.tc : Thread Cert.PooledReferenceIdeal.nD Cert.PooledReferenceIdeal.τ).loc Cert.PooledReferenceIdeal.main_arg1))

def preserves_MixDx_MixDxIdeal : Prop :=
  True

def algebraic_MixDxIdeal_MixDxReferenceIdeal [hMixDxIdeal : Cert.MixDxIdeal.Facts] [hMixDxReferenceIdeal : Cert.MixDxReferenceIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxReferenceIdeal.nD Cert.MixDxReferenceIdeal.τ Cert.MixDxReferenceIdeal.sig) → Buf (Elt Ideal) ℓ) (g' : Dev Cert.MixDxReferenceIdeal.nD → PrngReg), Pre_MixDxIdeal m →
    (∀ c : Dev Cert.MixDxIdeal.nD,
      m' ((c.tc : Thread Cert.MixDxReferenceIdeal.nD Cert.MixDxReferenceIdeal.τ).loc Cert.MixDxReferenceIdeal.main_arg0) = m ((c.tc : Thread Cert.MixDxIdeal.nD Cert.MixDxIdeal.τ).loc Cert.MixDxIdeal.main_arg0)
      ∧ m' ((c.tc : Thread Cert.MixDxReferenceIdeal.nD Cert.MixDxReferenceIdeal.τ).loc Cert.MixDxReferenceIdeal.main_arg1) = m ((c.tc : Thread Cert.MixDxIdeal.nD Cert.MixDxIdeal.τ).loc Cert.MixDxIdeal.main_arg1)) →
    ∃ (v0 : (c : Dev Cert.MixDxIdeal.nD) → Buf (Elt Ideal) ((c.tc : Thread Cert.MixDxIdeal.nD Cert.MixDxIdeal.τ).loc Cert.MixDxIdeal.main_v0)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v0) = v0 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ θ_run (Cert.MixDxReferenceIdeal.defs (F := Ideal)) (onTc (τ := Cert.MixDxReferenceIdeal.τ) (Cert.MixDxReferenceIdeal.main (F := Ideal))) ⟨m', fun _ => 0, g'⟩ (fun r => ∀ c : Dev Cert.MixDxReferenceIdeal.nD,
          r.2.mem ((c.tc : Thread Cert.MixDxReferenceIdeal.nD Cert.MixDxReferenceIdeal.τ).loc Cert.MixDxReferenceIdeal.main_v2) = v0 c
          ∧ r.2.mem ((c.tc : Thread Cert.MixDxReferenceIdeal.nD Cert.MixDxReferenceIdeal.τ).loc Cert.MixDxReferenceIdeal.main_arg0) = m' ((c.tc : Thread Cert.MixDxReferenceIdeal.nD Cert.MixDxReferenceIdeal.τ).loc Cert.MixDxReferenceIdeal.main_arg0)
          ∧ r.2.mem ((c.tc : Thread Cert.MixDxReferenceIdeal.nD Cert.MixDxReferenceIdeal.τ).loc Cert.MixDxReferenceIdeal.main_arg1) = m' ((c.tc : Thread Cert.MixDxReferenceIdeal.nD Cert.MixDxReferenceIdeal.τ).loc Cert.MixDxReferenceIdeal.main_arg1))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v2) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_SharedDx_SharedDxIdeal : Prop :=
  True

def algebraic_SharedDxIdeal_SharedDxReferenceIdeal [hSharedDxIdeal : Cert.SharedDxIdeal.Facts] [hSharedDxReferenceIdeal : Cert.SharedDxReferenceIdeal.Facts] : Prop :=
  ∀ (m : (ℓ : Loc Cert.SharedDxIdeal.nD Cert.SharedDxIdeal.τ Cert.SharedDxIdeal.sig) → Buf (Elt Ideal) ℓ) (g : Dev Cert.SharedDxIdeal.nD → PrngReg)
    (m' : (ℓ : Loc Cert.SharedDxReferenceIdeal.nD Cert.SharedDxReferenceIdeal.τ Cert.SharedDxReferenceIdeal.sig) → Buf (Elt Ideal) ℓ) (g' : Dev Cert.SharedDxReferenceIdeal.nD → PrngReg), Pre_SharedDxIdeal m →
    (∀ c : Dev Cert.SharedDxIdeal.nD,
      m' ((c.tc : Thread Cert.SharedDxReferenceIdeal.nD Cert.SharedDxReferenceIdeal.τ).loc Cert.SharedDxReferenceIdeal.main_arg0) = m ((c.tc : Thread Cert.SharedDxIdeal.nD Cert.SharedDxIdeal.τ).loc Cert.SharedDxIdeal.main_arg0)
      ∧ m' ((c.tc : Thread Cert.SharedDxReferenceIdeal.nD Cert.SharedDxReferenceIdeal.τ).loc Cert.SharedDxReferenceIdeal.main_arg1) = m ((c.tc : Thread Cert.SharedDxIdeal.nD Cert.SharedDxIdeal.τ).loc Cert.SharedDxIdeal.main_arg1)) →
    ∃ (v0 : (c : Dev Cert.SharedDxIdeal.nD) → Buf (Elt Ideal) ((c.tc : Thread Cert.SharedDxIdeal.nD Cert.SharedDxIdeal.τ).loc Cert.SharedDxIdeal.main_v0)),
      θ_run (Cert.SharedDxIdeal.defs (F := Ideal)) (onTc (τ := Cert.SharedDxIdeal.τ) (Cert.SharedDxIdeal.main (F := Ideal))) ⟨m, fun _ => 0, g⟩ (fun r => ∀ c : Dev Cert.SharedDxIdeal.nD,
          r.2.mem ((c.tc : Thread Cert.SharedDxIdeal.nD Cert.SharedDxIdeal.τ).loc Cert.SharedDxIdeal.main_v0) = v0 c
          ∧ r.2.mem ((c.tc : Thread Cert.SharedDxIdeal.nD Cert.SharedDxIdeal.τ).loc Cert.SharedDxIdeal.main_arg0) = m ((c.tc : Thread Cert.SharedDxIdeal.nD Cert.SharedDxIdeal.τ).loc Cert.SharedDxIdeal.main_arg0)
          ∧ r.2.mem ((c.tc : Thread Cert.SharedDxIdeal.nD Cert.SharedDxIdeal.τ).loc Cert.SharedDxIdeal.main_arg1) = m ((c.tc : Thread Cert.SharedDxIdeal.nD Cert.SharedDxIdeal.τ).loc Cert.SharedDxIdeal.main_arg1))
      ∧ θ_run (Cert.SharedDxReferenceIdeal.defs (F := Ideal)) (onTc (τ := Cert.SharedDxReferenceIdeal.τ) (Cert.SharedDxReferenceIdeal.main (F := Ideal))) ⟨m', fun _ => 0, g'⟩ (fun r => ∀ c : Dev Cert.SharedDxReferenceIdeal.nD,
          r.2.mem ((c.tc : Thread Cert.SharedDxReferenceIdeal.nD Cert.SharedDxReferenceIdeal.τ).loc Cert.SharedDxReferenceIdeal.main_v2) = v0 c
          ∧ r.2.mem ((c.tc : Thread Cert.SharedDxReferenceIdeal.nD Cert.SharedDxReferenceIdeal.τ).loc Cert.SharedDxReferenceIdeal.main_arg0) = m' ((c.tc : Thread Cert.SharedDxReferenceIdeal.nD Cert.SharedDxReferenceIdeal.τ).loc Cert.SharedDxReferenceIdeal.main_arg0)
          ∧ r.2.mem ((c.tc : Thread Cert.SharedDxReferenceIdeal.nD Cert.SharedDxReferenceIdeal.τ).loc Cert.SharedDxReferenceIdeal.main_arg1) = m' ((c.tc : Thread Cert.SharedDxReferenceIdeal.nD Cert.SharedDxReferenceIdeal.τ).loc Cert.SharedDxReferenceIdeal.main_arg1))

def preserves_PooledDx_PooledDxIdeal : Prop :=
  True

def algebraic_PooledDxIdeal_PooledDxReferenceIdeal [hPooledDxIdeal : Cert.PooledDxIdeal.Facts] [hPooledDxReferenceIdeal : Cert.PooledDxReferenceIdeal.Facts] : Prop :=
  ∀ (m : (ℓ : Loc Cert.PooledDxIdeal.nD Cert.PooledDxIdeal.τ Cert.PooledDxIdeal.sig) → Buf (Elt Ideal) ℓ) (g : Dev Cert.PooledDxIdeal.nD → PrngReg)
    (m' : (ℓ : Loc Cert.PooledDxReferenceIdeal.nD Cert.PooledDxReferenceIdeal.τ Cert.PooledDxReferenceIdeal.sig) → Buf (Elt Ideal) ℓ) (g' : Dev Cert.PooledDxReferenceIdeal.nD → PrngReg), Pre_PooledDxIdeal m →
    (∀ c : Dev Cert.PooledDxIdeal.nD,
      m' ((c.tc : Thread Cert.PooledDxReferenceIdeal.nD Cert.PooledDxReferenceIdeal.τ).loc Cert.PooledDxReferenceIdeal.main_arg0) = m ((c.tc : Thread Cert.PooledDxIdeal.nD Cert.PooledDxIdeal.τ).loc Cert.PooledDxIdeal.main_arg0)
      ∧ m' ((c.tc : Thread Cert.PooledDxReferenceIdeal.nD Cert.PooledDxReferenceIdeal.τ).loc Cert.PooledDxReferenceIdeal.main_arg1) = m ((c.tc : Thread Cert.PooledDxIdeal.nD Cert.PooledDxIdeal.τ).loc Cert.PooledDxIdeal.main_arg1)) →
    ∃ (v0 : (c : Dev Cert.PooledDxIdeal.nD) → Buf (Elt Ideal) ((c.tc : Thread Cert.PooledDxIdeal.nD Cert.PooledDxIdeal.τ).loc Cert.PooledDxIdeal.main_v0)),
      θ_run (Cert.PooledDxIdeal.defs (F := Ideal)) (onTc (τ := Cert.PooledDxIdeal.τ) (Cert.PooledDxIdeal.main (F := Ideal))) ⟨m, fun _ => 0, g⟩ (fun r => ∀ c : Dev Cert.PooledDxIdeal.nD,
          r.2.mem ((c.tc : Thread Cert.PooledDxIdeal.nD Cert.PooledDxIdeal.τ).loc Cert.PooledDxIdeal.main_v0) = v0 c
          ∧ r.2.mem ((c.tc : Thread Cert.PooledDxIdeal.nD Cert.PooledDxIdeal.τ).loc Cert.PooledDxIdeal.main_arg0) = m ((c.tc : Thread Cert.PooledDxIdeal.nD Cert.PooledDxIdeal.τ).loc Cert.PooledDxIdeal.main_arg0)
          ∧ r.2.mem ((c.tc : Thread Cert.PooledDxIdeal.nD Cert.PooledDxIdeal.τ).loc Cert.PooledDxIdeal.main_arg1) = m ((c.tc : Thread Cert.PooledDxIdeal.nD Cert.PooledDxIdeal.τ).loc Cert.PooledDxIdeal.main_arg1))
      ∧ θ_run (Cert.PooledDxReferenceIdeal.defs (F := Ideal)) (onTc (τ := Cert.PooledDxReferenceIdeal.τ) (Cert.PooledDxReferenceIdeal.main (F := Ideal))) ⟨m', fun _ => 0, g'⟩ (fun r => ∀ c : Dev Cert.PooledDxReferenceIdeal.nD,
          r.2.mem ((c.tc : Thread Cert.PooledDxReferenceIdeal.nD Cert.PooledDxReferenceIdeal.τ).loc Cert.PooledDxReferenceIdeal.main_v2) = v0 c
          ∧ r.2.mem ((c.tc : Thread Cert.PooledDxReferenceIdeal.nD Cert.PooledDxReferenceIdeal.τ).loc Cert.PooledDxReferenceIdeal.main_arg0) = m' ((c.tc : Thread Cert.PooledDxReferenceIdeal.nD Cert.PooledDxReferenceIdeal.τ).loc Cert.PooledDxReferenceIdeal.main_arg0)
          ∧ r.2.mem ((c.tc : Thread Cert.PooledDxReferenceIdeal.nD Cert.PooledDxReferenceIdeal.τ).loc Cert.PooledDxReferenceIdeal.main_arg1) = m' ((c.tc : Thread Cert.PooledDxReferenceIdeal.nD Cert.PooledDxReferenceIdeal.τ).loc Cert.PooledDxReferenceIdeal.main_arg1))

def preserves_MixDw_MixDwIdeal : Prop :=
  True

def algebraic_MixDwIdeal_MixDwReferenceIdeal [hMixDwIdeal : Cert.MixDwIdeal.Facts] [hMixDwReferenceIdeal : Cert.MixDwReferenceIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwReferenceIdeal.nD Cert.MixDwReferenceIdeal.τ Cert.MixDwReferenceIdeal.sig) → Buf (Elt Ideal) ℓ) (g' : Dev Cert.MixDwReferenceIdeal.nD → PrngReg), Pre_MixDwIdeal m →
    (∀ c : Dev Cert.MixDwIdeal.nD,
      m' ((c.tc : Thread Cert.MixDwReferenceIdeal.nD Cert.MixDwReferenceIdeal.τ).loc Cert.MixDwReferenceIdeal.main_arg0) = m ((c.tc : Thread Cert.MixDwIdeal.nD Cert.MixDwIdeal.τ).loc Cert.MixDwIdeal.main_arg0)
      ∧ m' ((c.tc : Thread Cert.MixDwReferenceIdeal.nD Cert.MixDwReferenceIdeal.τ).loc Cert.MixDwReferenceIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v0)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwReferenceIdeal.defs (F := Ideal)) (onTc (τ := Cert.MixDwReferenceIdeal.τ) (Cert.MixDwReferenceIdeal.main (F := Ideal))) ⟨m', fun _ => 0, g'⟩ (fun r => ∀ c : Dev Cert.MixDwReferenceIdeal.nD,
          r.2.mem ((c.tc : Thread Cert.MixDwReferenceIdeal.nD Cert.MixDwReferenceIdeal.τ).loc Cert.MixDwReferenceIdeal.main_v1) = v0 c
          ∧ r.2.mem ((c.tc : Thread Cert.MixDwReferenceIdeal.nD Cert.MixDwReferenceIdeal.τ).loc Cert.MixDwReferenceIdeal.main_arg0) = m' ((c.tc : Thread Cert.MixDwReferenceIdeal.nD Cert.MixDwReferenceIdeal.τ).loc Cert.MixDwReferenceIdeal.main_arg0)
          ∧ r.2.mem ((c.tc : Thread Cert.MixDwReferenceIdeal.nD Cert.MixDwReferenceIdeal.τ).loc Cert.MixDwReferenceIdeal.main_arg1) = m' ((c.tc : Thread Cert.MixDwReferenceIdeal.nD Cert.MixDwReferenceIdeal.τ).loc Cert.MixDwReferenceIdeal.main_arg1))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v1) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v1) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_SharedDw_SharedDwIdeal : Prop :=
  True

def algebraic_SharedDwIdeal_SharedDwReferenceIdeal [hSharedDwIdeal : Cert.SharedDwIdeal.Facts] [hSharedDwReferenceIdeal : Cert.SharedDwReferenceIdeal.Facts] : Prop :=
  ∀ (m : (ℓ : Loc Cert.SharedDwIdeal.nD Cert.SharedDwIdeal.τ Cert.SharedDwIdeal.sig) → Buf (Elt Ideal) ℓ) (g : Dev Cert.SharedDwIdeal.nD → PrngReg)
    (m' : (ℓ : Loc Cert.SharedDwReferenceIdeal.nD Cert.SharedDwReferenceIdeal.τ Cert.SharedDwReferenceIdeal.sig) → Buf (Elt Ideal) ℓ) (g' : Dev Cert.SharedDwReferenceIdeal.nD → PrngReg), Pre_SharedDwIdeal m →
    (∀ c : Dev Cert.SharedDwIdeal.nD,
      m' ((c.tc : Thread Cert.SharedDwReferenceIdeal.nD Cert.SharedDwReferenceIdeal.τ).loc Cert.SharedDwReferenceIdeal.main_arg0) = m ((c.tc : Thread Cert.SharedDwIdeal.nD Cert.SharedDwIdeal.τ).loc Cert.SharedDwIdeal.main_arg0)
      ∧ m' ((c.tc : Thread Cert.SharedDwReferenceIdeal.nD Cert.SharedDwReferenceIdeal.τ).loc Cert.SharedDwReferenceIdeal.main_arg1) = m ((c.tc : Thread Cert.SharedDwIdeal.nD Cert.SharedDwIdeal.τ).loc Cert.SharedDwIdeal.main_arg1)) →
    ∃ (v0 : (c : Dev Cert.SharedDwIdeal.nD) → Buf (Elt Ideal) ((c.tc : Thread Cert.SharedDwIdeal.nD Cert.SharedDwIdeal.τ).loc Cert.SharedDwIdeal.main_v0)),
      θ_run (Cert.SharedDwIdeal.defs (F := Ideal)) (onTc (τ := Cert.SharedDwIdeal.τ) (Cert.SharedDwIdeal.main (F := Ideal))) ⟨m, fun _ => 0, g⟩ (fun r => ∀ c : Dev Cert.SharedDwIdeal.nD,
          r.2.mem ((c.tc : Thread Cert.SharedDwIdeal.nD Cert.SharedDwIdeal.τ).loc Cert.SharedDwIdeal.main_v0) = v0 c
          ∧ r.2.mem ((c.tc : Thread Cert.SharedDwIdeal.nD Cert.SharedDwIdeal.τ).loc Cert.SharedDwIdeal.main_arg0) = m ((c.tc : Thread Cert.SharedDwIdeal.nD Cert.SharedDwIdeal.τ).loc Cert.SharedDwIdeal.main_arg0)
          ∧ r.2.mem ((c.tc : Thread Cert.SharedDwIdeal.nD Cert.SharedDwIdeal.τ).loc Cert.SharedDwIdeal.main_arg1) = m ((c.tc : Thread Cert.SharedDwIdeal.nD Cert.SharedDwIdeal.τ).loc Cert.SharedDwIdeal.main_arg1))
      ∧ θ_run (Cert.SharedDwReferenceIdeal.defs (F := Ideal)) (onTc (τ := Cert.SharedDwReferenceIdeal.τ) (Cert.SharedDwReferenceIdeal.main (F := Ideal))) ⟨m', fun _ => 0, g'⟩ (fun r => ∀ c : Dev Cert.SharedDwReferenceIdeal.nD,
          r.2.mem ((c.tc : Thread Cert.SharedDwReferenceIdeal.nD Cert.SharedDwReferenceIdeal.τ).loc Cert.SharedDwReferenceIdeal.main_v1) = v0 c
          ∧ r.2.mem ((c.tc : Thread Cert.SharedDwReferenceIdeal.nD Cert.SharedDwReferenceIdeal.τ).loc Cert.SharedDwReferenceIdeal.main_arg0) = m' ((c.tc : Thread Cert.SharedDwReferenceIdeal.nD Cert.SharedDwReferenceIdeal.τ).loc Cert.SharedDwReferenceIdeal.main_arg0)
          ∧ r.2.mem ((c.tc : Thread Cert.SharedDwReferenceIdeal.nD Cert.SharedDwReferenceIdeal.τ).loc Cert.SharedDwReferenceIdeal.main_arg1) = m' ((c.tc : Thread Cert.SharedDwReferenceIdeal.nD Cert.SharedDwReferenceIdeal.τ).loc Cert.SharedDwReferenceIdeal.main_arg1))

def preserves_PooledDw_PooledDwIdeal : Prop :=
  True

def algebraic_PooledDwIdeal_PooledDwReferenceIdeal [hPooledDwIdeal : Cert.PooledDwIdeal.Facts] [hPooledDwReferenceIdeal : Cert.PooledDwReferenceIdeal.Facts] : Prop :=
  ∀ (m : (ℓ : Loc Cert.PooledDwIdeal.nD Cert.PooledDwIdeal.τ Cert.PooledDwIdeal.sig) → Buf (Elt Ideal) ℓ) (g : Dev Cert.PooledDwIdeal.nD → PrngReg)
    (m' : (ℓ : Loc Cert.PooledDwReferenceIdeal.nD Cert.PooledDwReferenceIdeal.τ Cert.PooledDwReferenceIdeal.sig) → Buf (Elt Ideal) ℓ) (g' : Dev Cert.PooledDwReferenceIdeal.nD → PrngReg), Pre_PooledDwIdeal m →
    (∀ c : Dev Cert.PooledDwIdeal.nD,
      m' ((c.tc : Thread Cert.PooledDwReferenceIdeal.nD Cert.PooledDwReferenceIdeal.τ).loc Cert.PooledDwReferenceIdeal.main_arg0) = m ((c.tc : Thread Cert.PooledDwIdeal.nD Cert.PooledDwIdeal.τ).loc Cert.PooledDwIdeal.main_arg0)
      ∧ m' ((c.tc : Thread Cert.PooledDwReferenceIdeal.nD Cert.PooledDwReferenceIdeal.τ).loc Cert.PooledDwReferenceIdeal.main_arg1) = m ((c.tc : Thread Cert.PooledDwIdeal.nD Cert.PooledDwIdeal.τ).loc Cert.PooledDwIdeal.main_arg1)) →
    ∃ (v0 : (c : Dev Cert.PooledDwIdeal.nD) → Buf (Elt Ideal) ((c.tc : Thread Cert.PooledDwIdeal.nD Cert.PooledDwIdeal.τ).loc Cert.PooledDwIdeal.main_v0)),
      θ_run (Cert.PooledDwIdeal.defs (F := Ideal)) (onTc (τ := Cert.PooledDwIdeal.τ) (Cert.PooledDwIdeal.main (F := Ideal))) ⟨m, fun _ => 0, g⟩ (fun r => ∀ c : Dev Cert.PooledDwIdeal.nD,
          r.2.mem ((c.tc : Thread Cert.PooledDwIdeal.nD Cert.PooledDwIdeal.τ).loc Cert.PooledDwIdeal.main_v0) = v0 c
          ∧ r.2.mem ((c.tc : Thread Cert.PooledDwIdeal.nD Cert.PooledDwIdeal.τ).loc Cert.PooledDwIdeal.main_arg0) = m ((c.tc : Thread Cert.PooledDwIdeal.nD Cert.PooledDwIdeal.τ).loc Cert.PooledDwIdeal.main_arg0)
          ∧ r.2.mem ((c.tc : Thread Cert.PooledDwIdeal.nD Cert.PooledDwIdeal.τ).loc Cert.PooledDwIdeal.main_arg1) = m ((c.tc : Thread Cert.PooledDwIdeal.nD Cert.PooledDwIdeal.τ).loc Cert.PooledDwIdeal.main_arg1))
      ∧ θ_run (Cert.PooledDwReferenceIdeal.defs (F := Ideal)) (onTc (τ := Cert.PooledDwReferenceIdeal.τ) (Cert.PooledDwReferenceIdeal.main (F := Ideal))) ⟨m', fun _ => 0, g'⟩ (fun r => ∀ c : Dev Cert.PooledDwReferenceIdeal.nD,
          r.2.mem ((c.tc : Thread Cert.PooledDwReferenceIdeal.nD Cert.PooledDwReferenceIdeal.τ).loc Cert.PooledDwReferenceIdeal.main_v1) = v0 c
          ∧ r.2.mem ((c.tc : Thread Cert.PooledDwReferenceIdeal.nD Cert.PooledDwReferenceIdeal.τ).loc Cert.PooledDwReferenceIdeal.main_arg0) = m' ((c.tc : Thread Cert.PooledDwReferenceIdeal.nD Cert.PooledDwReferenceIdeal.τ).loc Cert.PooledDwReferenceIdeal.main_arg0)
          ∧ r.2.mem ((c.tc : Thread Cert.PooledDwReferenceIdeal.nD Cert.PooledDwReferenceIdeal.τ).loc Cert.PooledDwReferenceIdeal.main_arg1) = m' ((c.tc : Thread Cert.PooledDwReferenceIdeal.nD Cert.PooledDwReferenceIdeal.τ).loc Cert.PooledDwReferenceIdeal.main_arg1))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v2) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1))

def preserves_KeysDw_KeysDwIdeal : Prop :=
  True

def algebraic_KeysDwIdeal_KeysDwReferenceIdeal [hKeysDwIdeal : Cert.KeysDwIdeal.Facts] [hKeysDwReferenceIdeal : Cert.KeysDwReferenceIdeal.Facts] : Prop :=
  ∀ (m : (ℓ : Loc Cert.KeysDwIdeal.nD Cert.KeysDwIdeal.τ Cert.KeysDwIdeal.sig) → Buf (Elt Ideal) ℓ) (g : Dev Cert.KeysDwIdeal.nD → PrngReg)
    (m' : (ℓ : Loc Cert.KeysDwReferenceIdeal.nD Cert.KeysDwReferenceIdeal.τ Cert.KeysDwReferenceIdeal.sig) → Buf (Elt Ideal) ℓ) (g' : Dev Cert.KeysDwReferenceIdeal.nD → PrngReg), Pre_KeysDwIdeal m →
    (∀ c : Dev Cert.KeysDwIdeal.nD,
      m' ((c.tc : Thread Cert.KeysDwReferenceIdeal.nD Cert.KeysDwReferenceIdeal.τ).loc Cert.KeysDwReferenceIdeal.main_arg0) = m ((c.tc : Thread Cert.KeysDwIdeal.nD Cert.KeysDwIdeal.τ).loc Cert.KeysDwIdeal.main_arg0)
      ∧ m' ((c.tc : Thread Cert.KeysDwReferenceIdeal.nD Cert.KeysDwReferenceIdeal.τ).loc Cert.KeysDwReferenceIdeal.main_arg1) = m ((c.tc : Thread Cert.KeysDwIdeal.nD Cert.KeysDwIdeal.τ).loc Cert.KeysDwIdeal.main_arg1)) →
    ∃ (v0 : (c : Dev Cert.KeysDwIdeal.nD) → Buf (Elt Ideal) ((c.tc : Thread Cert.KeysDwIdeal.nD Cert.KeysDwIdeal.τ).loc Cert.KeysDwIdeal.main_v0)),
      θ_run (Cert.KeysDwIdeal.defs (F := Ideal)) (onTc (τ := Cert.KeysDwIdeal.τ) (Cert.KeysDwIdeal.main (F := Ideal))) ⟨m, fun _ => 0, g⟩ (fun r => ∀ c : Dev Cert.KeysDwIdeal.nD,
          r.2.mem ((c.tc : Thread Cert.KeysDwIdeal.nD Cert.KeysDwIdeal.τ).loc Cert.KeysDwIdeal.main_v0) = v0 c
          ∧ r.2.mem ((c.tc : Thread Cert.KeysDwIdeal.nD Cert.KeysDwIdeal.τ).loc Cert.KeysDwIdeal.main_arg0) = m ((c.tc : Thread Cert.KeysDwIdeal.nD Cert.KeysDwIdeal.τ).loc Cert.KeysDwIdeal.main_arg0)
          ∧ r.2.mem ((c.tc : Thread Cert.KeysDwIdeal.nD Cert.KeysDwIdeal.τ).loc Cert.KeysDwIdeal.main_arg1) = m ((c.tc : Thread Cert.KeysDwIdeal.nD Cert.KeysDwIdeal.τ).loc Cert.KeysDwIdeal.main_arg1))
      ∧ θ_run (Cert.KeysDwReferenceIdeal.defs (F := Ideal)) (onTc (τ := Cert.KeysDwReferenceIdeal.τ) (Cert.KeysDwReferenceIdeal.main (F := Ideal))) ⟨m', fun _ => 0, g'⟩ (fun r => ∀ c : Dev Cert.KeysDwReferenceIdeal.nD,
          r.2.mem ((c.tc : Thread Cert.KeysDwReferenceIdeal.nD Cert.KeysDwReferenceIdeal.τ).loc Cert.KeysDwReferenceIdeal.main_v1) = v0 c
          ∧ r.2.mem ((c.tc : Thread Cert.KeysDwReferenceIdeal.nD Cert.KeysDwReferenceIdeal.τ).loc Cert.KeysDwReferenceIdeal.main_arg0) = m' ((c.tc : Thread Cert.KeysDwReferenceIdeal.nD Cert.KeysDwReferenceIdeal.τ).loc Cert.KeysDwReferenceIdeal.main_arg0)
          ∧ r.2.mem ((c.tc : Thread Cert.KeysDwReferenceIdeal.nD Cert.KeysDwReferenceIdeal.τ).loc Cert.KeysDwReferenceIdeal.main_arg1) = m' ((c.tc : Thread Cert.KeysDwReferenceIdeal.nD Cert.KeysDwReferenceIdeal.τ).loc Cert.KeysDwReferenceIdeal.main_arg1))

def Claim : Prop :=
  ∃ (hKernel : Cert.Kernel.Facts) (hKernelIdeal : Cert.KernelIdeal.Facts) (hReferenceIdeal : Cert.ReferenceIdeal.Facts) (hSwap : Cert.Swap.Facts) (hSwapIdeal : Cert.SwapIdeal.Facts) (hSwapReferenceIdeal : Cert.SwapReferenceIdeal.Facts) (hSwapReference : Cert.SwapReference.Facts) (hGather : Cert.Gather.Facts) (hGatherIdeal : Cert.GatherIdeal.Facts) (hGatherReferenceIdeal : Cert.GatherReferenceIdeal.Facts) (hGatherReference : Cert.GatherReference.Facts) (hSmall : Cert.Small.Facts) (hSmallIdeal : Cert.SmallIdeal.Facts) (hSmallReferenceIdeal : Cert.SmallReferenceIdeal.Facts) (hSmallReference : Cert.SmallReference.Facts) (hGradX : Cert.GradX.Facts) (hGradXIdeal : Cert.GradXIdeal.Facts) (hGradXReferenceIdeal : Cert.GradXReferenceIdeal.Facts) (hLoss : Cert.Loss.Facts) (hLossIdeal : Cert.LossIdeal.Facts) (hLossReferenceIdeal : Cert.LossReferenceIdeal.Facts) (hMemory : Cert.Memory.Facts) (hMemoryIdeal : Cert.MemoryIdeal.Facts) (hMemoryReferenceIdeal : Cert.MemoryReferenceIdeal.Facts) (hMix : Cert.Mix.Facts) (hMixIdeal : Cert.MixIdeal.Facts) (hMixReferenceIdeal : Cert.MixReferenceIdeal.Facts) (hNorm : Cert.Norm.Facts) (hNormIdeal : Cert.NormIdeal.Facts) (hNormReferenceIdeal : Cert.NormReferenceIdeal.Facts) (hConvGate : Cert.ConvGate.Facts) (hConvGateIdeal : Cert.ConvGateIdeal.Facts) (hConvGateReferenceIdeal : Cert.ConvGateReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hKeys : Cert.Keys.Facts) (hKeysIdeal : Cert.KeysIdeal.Facts) (hKeysReferenceIdeal : Cert.KeysReferenceIdeal.Facts) (hShared : Cert.Shared.Facts) (hSharedIdeal : Cert.SharedIdeal.Facts) (hSharedReferenceIdeal : Cert.SharedReferenceIdeal.Facts) (hPooled : Cert.Pooled.Facts) (hPooledIdeal : Cert.PooledIdeal.Facts) (hPooledReferenceIdeal : Cert.PooledReferenceIdeal.Facts) (hMixDx : Cert.MixDx.Facts) (hMixDxIdeal : Cert.MixDxIdeal.Facts) (hMixDxReferenceIdeal : Cert.MixDxReferenceIdeal.Facts) (hDownDx : Cert.DownDx.Facts) (hDownDxIdeal : Cert.DownDxIdeal.Facts) (hDownDxReferenceIdeal : Cert.DownDxReferenceIdeal.Facts) (hSharedDx : Cert.SharedDx.Facts) (hSharedDxIdeal : Cert.SharedDxIdeal.Facts) (hSharedDxReferenceIdeal : Cert.SharedDxReferenceIdeal.Facts) (hPooledDx : Cert.PooledDx.Facts) (hPooledDxIdeal : Cert.PooledDxIdeal.Facts) (hPooledDxReferenceIdeal : Cert.PooledDxReferenceIdeal.Facts) (hMixDw : Cert.MixDw.Facts) (hMixDwIdeal : Cert.MixDwIdeal.Facts) (hMixDwReferenceIdeal : Cert.MixDwReferenceIdeal.Facts) (hDownDw : Cert.DownDw.Facts) (hDownDwIdeal : Cert.DownDwIdeal.Facts) (hDownDwReferenceIdeal : Cert.DownDwReferenceIdeal.Facts) (hUpDw : Cert.UpDw.Facts) (hUpDwIdeal : Cert.UpDwIdeal.Facts) (hUpDwReferenceIdeal : Cert.UpDwReferenceIdeal.Facts) (hSharedDw : Cert.SharedDw.Facts) (hSharedDwIdeal : Cert.SharedDwIdeal.Facts) (hSharedDwReferenceIdeal : Cert.SharedDwReferenceIdeal.Facts) (hPooledDw : Cert.PooledDw.Facts) (hPooledDwIdeal : Cert.PooledDwIdeal.Facts) (hPooledDwReferenceIdeal : Cert.PooledDwReferenceIdeal.Facts) (hUpDx : Cert.UpDx.Facts) (hUpDxIdeal : Cert.UpDxIdeal.Facts) (hUpDxReferenceIdeal : Cert.UpDxReferenceIdeal.Facts) (hKeysDw : Cert.KeysDw.Facts) (hKeysDwIdeal : Cert.KeysDwIdeal.Facts) (hKeysDwReferenceIdeal : Cert.KeysDwReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Swap (hSwap := hSwap)
    ∧ quiescent_SwapIdeal (hSwapIdeal := hSwapIdeal)
    ∧ quiescent_SwapReferenceIdeal (hSwapReferenceIdeal := hSwapReferenceIdeal)
    ∧ quiescent_SwapReference (hSwapReference := hSwapReference)
    ∧ quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_Small (hSmall := hSmall)
    ∧ quiescent_SmallIdeal (hSmallIdeal := hSmallIdeal)
    ∧ quiescent_SmallReferenceIdeal (hSmallReferenceIdeal := hSmallReferenceIdeal)
    ∧ quiescent_SmallReference (hSmallReference := hSmallReference)
    ∧ quiescent_GradX (hGradX := hGradX)
    ∧ quiescent_GradXIdeal (hGradXIdeal := hGradXIdeal)
    ∧ quiescent_GradXReferenceIdeal (hGradXReferenceIdeal := hGradXReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_Mix (hMix := hMix)
    ∧ quiescent_MixIdeal (hMixIdeal := hMixIdeal)
    ∧ quiescent_MixReferenceIdeal (hMixReferenceIdeal := hMixReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_ConvGate (hConvGate := hConvGate)
    ∧ quiescent_ConvGateIdeal (hConvGateIdeal := hConvGateIdeal)
    ∧ quiescent_ConvGateReferenceIdeal (hConvGateReferenceIdeal := hConvGateReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Keys (hKeys := hKeys)
    ∧ quiescent_KeysIdeal (hKeysIdeal := hKeysIdeal)
    ∧ quiescent_KeysReferenceIdeal (hKeysReferenceIdeal := hKeysReferenceIdeal)
    ∧ quiescent_Shared (hShared := hShared)
    ∧ quiescent_SharedIdeal (hSharedIdeal := hSharedIdeal)
    ∧ quiescent_SharedReferenceIdeal (hSharedReferenceIdeal := hSharedReferenceIdeal)
    ∧ quiescent_Pooled (hPooled := hPooled)
    ∧ quiescent_PooledIdeal (hPooledIdeal := hPooledIdeal)
    ∧ quiescent_PooledReferenceIdeal (hPooledReferenceIdeal := hPooledReferenceIdeal)
    ∧ quiescent_MixDx (hMixDx := hMixDx)
    ∧ quiescent_MixDxIdeal (hMixDxIdeal := hMixDxIdeal)
    ∧ quiescent_MixDxReferenceIdeal (hMixDxReferenceIdeal := hMixDxReferenceIdeal)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_SharedDx (hSharedDx := hSharedDx)
    ∧ quiescent_SharedDxIdeal (hSharedDxIdeal := hSharedDxIdeal)
    ∧ quiescent_SharedDxReferenceIdeal (hSharedDxReferenceIdeal := hSharedDxReferenceIdeal)
    ∧ quiescent_PooledDx (hPooledDx := hPooledDx)
    ∧ quiescent_PooledDxIdeal (hPooledDxIdeal := hPooledDxIdeal)
    ∧ quiescent_PooledDxReferenceIdeal (hPooledDxReferenceIdeal := hPooledDxReferenceIdeal)
    ∧ quiescent_MixDw (hMixDw := hMixDw)
    ∧ quiescent_MixDwIdeal (hMixDwIdeal := hMixDwIdeal)
    ∧ quiescent_MixDwReferenceIdeal (hMixDwReferenceIdeal := hMixDwReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_SharedDw (hSharedDw := hSharedDw)
    ∧ quiescent_SharedDwIdeal (hSharedDwIdeal := hSharedDwIdeal)
    ∧ quiescent_SharedDwReferenceIdeal (hSharedDwReferenceIdeal := hSharedDwReferenceIdeal)
    ∧ quiescent_PooledDw (hPooledDw := hPooledDw)
    ∧ quiescent_PooledDwIdeal (hPooledDwIdeal := hPooledDwIdeal)
    ∧ quiescent_PooledDwReferenceIdeal (hPooledDwReferenceIdeal := hPooledDwReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_KeysDw (hKeysDw := hKeysDw)
    ∧ quiescent_KeysDwIdeal (hKeysDwIdeal := hKeysDwIdeal)
    ∧ quiescent_KeysDwReferenceIdeal (hKeysDwReferenceIdeal := hKeysDwReferenceIdeal)
    ∧ preserves_Kernel_KernelIdeal
    ∧ algebraic_KernelIdeal_ReferenceIdeal (hKernelIdeal := hKernelIdeal) (hReferenceIdeal := hReferenceIdeal)
    ∧ preserves_Swap_SwapIdeal
    ∧ algebraic_SwapIdeal_SwapReferenceIdeal (hSwapIdeal := hSwapIdeal) (hSwapReferenceIdeal := hSwapReferenceIdeal)
    ∧ bitexact_Swap_SwapReference (hSwap := hSwap) (hSwapReference := hSwapReference)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_Small_SmallIdeal
    ∧ algebraic_SmallIdeal_SmallReferenceIdeal (hSmallIdeal := hSmallIdeal) (hSmallReferenceIdeal := hSmallReferenceIdeal)
    ∧ bitexact_Small_SmallReference (hSmall := hSmall) (hSmallReference := hSmallReference)
    ∧ preserves_GradX_GradXIdeal
    ∧ algebraic_GradXIdeal_GradXReferenceIdeal (hGradXIdeal := hGradXIdeal) (hGradXReferenceIdeal := hGradXReferenceIdeal)
    ∧ preserves_Loss_LossIdeal
    ∧ algebraic_LossIdeal_LossReferenceIdeal (hLossIdeal := hLossIdeal) (hLossReferenceIdeal := hLossReferenceIdeal)
    ∧ preserves_Memory_MemoryIdeal
    ∧ algebraic_MemoryIdeal_MemoryReferenceIdeal (hMemoryIdeal := hMemoryIdeal) (hMemoryReferenceIdeal := hMemoryReferenceIdeal)
    ∧ preserves_Mix_MixIdeal
    ∧ algebraic_MixIdeal_MixReferenceIdeal (hMixIdeal := hMixIdeal) (hMixReferenceIdeal := hMixReferenceIdeal)
    ∧ preserves_Norm_NormIdeal
    ∧ algebraic_NormIdeal_NormReferenceIdeal (hNormIdeal := hNormIdeal) (hNormReferenceIdeal := hNormReferenceIdeal)
    ∧ preserves_ConvGate_ConvGateIdeal
    ∧ algebraic_ConvGateIdeal_ConvGateReferenceIdeal (hConvGateIdeal := hConvGateIdeal) (hConvGateReferenceIdeal := hConvGateReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Keys_KeysIdeal
    ∧ algebraic_KeysIdeal_KeysReferenceIdeal (hKeysIdeal := hKeysIdeal) (hKeysReferenceIdeal := hKeysReferenceIdeal)
    ∧ preserves_Shared_SharedIdeal
    ∧ algebraic_SharedIdeal_SharedReferenceIdeal (hSharedIdeal := hSharedIdeal) (hSharedReferenceIdeal := hSharedReferenceIdeal)
    ∧ preserves_Pooled_PooledIdeal
    ∧ algebraic_PooledIdeal_PooledReferenceIdeal (hPooledIdeal := hPooledIdeal) (hPooledReferenceIdeal := hPooledReferenceIdeal)
    ∧ preserves_MixDx_MixDxIdeal
    ∧ algebraic_MixDxIdeal_MixDxReferenceIdeal (hMixDxIdeal := hMixDxIdeal) (hMixDxReferenceIdeal := hMixDxReferenceIdeal)
    ∧ preserves_DownDx_DownDxIdeal
    ∧ algebraic_DownDxIdeal_DownDxReferenceIdeal (hDownDxIdeal := hDownDxIdeal) (hDownDxReferenceIdeal := hDownDxReferenceIdeal)
    ∧ preserves_SharedDx_SharedDxIdeal
    ∧ algebraic_SharedDxIdeal_SharedDxReferenceIdeal (hSharedDxIdeal := hSharedDxIdeal) (hSharedDxReferenceIdeal := hSharedDxReferenceIdeal)
    ∧ preserves_PooledDx_PooledDxIdeal
    ∧ algebraic_PooledDxIdeal_PooledDxReferenceIdeal (hPooledDxIdeal := hPooledDxIdeal) (hPooledDxReferenceIdeal := hPooledDxReferenceIdeal)
    ∧ preserves_MixDw_MixDwIdeal
    ∧ algebraic_MixDwIdeal_MixDwReferenceIdeal (hMixDwIdeal := hMixDwIdeal) (hMixDwReferenceIdeal := hMixDwReferenceIdeal)
    ∧ preserves_DownDw_DownDwIdeal
    ∧ algebraic_DownDwIdeal_DownDwReferenceIdeal (hDownDwIdeal := hDownDwIdeal) (hDownDwReferenceIdeal := hDownDwReferenceIdeal)
    ∧ preserves_UpDw_UpDwIdeal
    ∧ algebraic_UpDwIdeal_UpDwReferenceIdeal (hUpDwIdeal := hUpDwIdeal) (hUpDwReferenceIdeal := hUpDwReferenceIdeal)
    ∧ preserves_SharedDw_SharedDwIdeal
    ∧ algebraic_SharedDwIdeal_SharedDwReferenceIdeal (hSharedDwIdeal := hSharedDwIdeal) (hSharedDwReferenceIdeal := hSharedDwReferenceIdeal)
    ∧ preserves_PooledDw_PooledDwIdeal
    ∧ algebraic_PooledDwIdeal_PooledDwReferenceIdeal (hPooledDwIdeal := hPooledDwIdeal) (hPooledDwReferenceIdeal := hPooledDwReferenceIdeal)
    ∧ preserves_UpDx_UpDxIdeal
    ∧ algebraic_UpDxIdeal_UpDxReferenceIdeal (hUpDxIdeal := hUpDxIdeal) (hUpDxReferenceIdeal := hUpDxReferenceIdeal)
    ∧ preserves_KeysDw_KeysDwIdeal
    ∧ algebraic_KeysDwIdeal_KeysDwReferenceIdeal (hKeysDwIdeal := hKeysDwIdeal) (hKeysDwReferenceIdeal := hKeysDwReferenceIdeal)
-- ==== Kernel.lean ====
abbrev S8x3072x1024 : Shape := ⟨3, ![8, 3072, 1024]⟩
abbrev S3072x1024 : Shape := ⟨2, ![3072, 1024]⟩
abbrev S7 : Shape := ⟨1, ![7]⟩
abbrev S_ : Shape := ⟨0, ![]⟩
abbrev S1x3072x1024 : Shape := ⟨3, ![1, 3072, 1024]⟩
abbrev S1 : Shape := ⟨1, ![1]⟩
abbrev S4x3072x1024 : Shape := ⟨3, ![4, 3072, 1024]⟩
abbrev S8x256x1024 : Shape := ⟨3, ![8, 256, 1024]⟩
abbrev S256x1024 : Shape := ⟨2, ![256, 1024]⟩
abbrev S4x256x1024 : Shape := ⟨3, ![4, 256, 1024]⟩
abbrev S1x256x1024 : Shape := ⟨3, ![1, 256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8x3072x1024, .f32⟩
  | .hbm, ⟨1, _⟩ => ⟨S3072x1024, .f32⟩
  | .hbm, ⟨2, _⟩ => ⟨S3072x1024, .f32⟩
  | .hbm, ⟨3, _⟩ => ⟨S3072x1024, .f32⟩
  | .hbm, ⟨4, _⟩ => ⟨S8x3072x1024, .f32⟩
  | .hbm, ⟨5, _⟩ => ⟨S4x3072x1024, .f32⟩
  | .local _ .vmem, ⟨0, _⟩ => ⟨S8x256x1024, .f32⟩
  | .local _ .vmem, ⟨1, _⟩ => ⟨S8x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S4x256x1024, .f32⟩
  | .local _ .vmem, ⟨9, _⟩ => ⟨S4x256x1024, .f32⟩
  | _, _ => ⟨S8x3072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24

abbrev nD : Nat := 8
abbrev τ : Topo := Topo.v7x

variable {F : FTy → Type} [FloatOps F]

abbrev grid0 : Pipeline.Grid := .none

def k0_off1 (d0 : Dev nD) : Fin 3 → Nat :=
  let c4_i32_5 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c4_i32_5 v2
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_6 v5
  let v15 : BitVec 32 := Scalar.addi v13 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c0_i32 : BitVec 32 := 0#32
  let c0_i32_7 : BitVec 32 := 0#32
  ![v16.toNat, 0, 0]
def k0_off2 (d0 : Dev nD) : Fin 3 → Nat :=
  let c4_i32_17 : BitVec 32 := 4#32
  let v21 : BitVec 32 := Dev.word d0
  let c4_i32_11 : BitVec 32 := 4#32
  let v22 : BitVec 32 := Scalar.divsi v21 c4_i32_11
  let c2_i32_10 : BitVec 32 := 2#32
  let v23 : BitVec 32 := Scalar.remsi v22 c2_i32_10
  let v31 : BitVec 32 := Scalar.muli c4_i32_17 v23
  let c2_i32_18 : BitVec 32 := 2#32
  let v24 : BitVec 32 := Dev.word d0
  let c2_i32_13 : BitVec 32 := 2#32
  let v25 : BitVec 32 := Scalar.divsi v24 c2_i32_13
  let c2_i32_12 : BitVec 32 := 2#32
  let v26 : BitVec 32 := Scalar.remsi v25 c2_i32_12
  let v32 : BitVec 32 := Scalar.muli c2_i32_18 v26
  let v33 : BitVec 32 := Scalar.addi v31 v32
  let c1_i32_16 : BitVec 32 := 1#32
  let v27 : BitVec 32 := Dev.word d0
  let c1_i32_15 : BitVec 32 := 1#32
  let v28 : BitVec 32 := Scalar.divsi v27 c1_i32_15
  let c2_i32_14 : BitVec 32 := 2#32
  let v29 : BitVec 32 := Scalar.remsi v28 c2_i32_14
  let v30 : BitVec 32 := Scalar.subi c1_i32_16 v29
  let v34 : BitVec 32 := Scalar.addi v33 v30
  let c0_i32_114 : BitVec 32 := 0#32
  let c0_i32_115 : BitVec 32 := 0#32
  ![v34.toNat, 0, 0]
def k0_dev1 (d0 : Dev nD) : Nat :=
  let c0_i32_109 : BitVec 32 := 0#32
  let v21 : BitVec 32 := Dev.word d0
  let c4_i32_11 : BitVec 32 := 4#32
  let v22 : BitVec 32 := Scalar.divsi v21 c4_i32_11
  let c2_i32_10 : BitVec 32 := 2#32
  let v23 : BitVec 32 := Scalar.remsi v22 c2_i32_10
  let c4_i32_108 : BitVec 32 := 4#32
  let v180 : BitVec 32 := Scalar.muli v23 c4_i32_108
  let v181 : BitVec 32 := Scalar.addi c0_i32_109 v180
  let v24 : BitVec 32 := Dev.word d0
  let c2_i32_13 : BitVec 32 := 2#32
  let v25 : BitVec 32 := Scalar.divsi v24 c2_i32_13
  let c2_i32_12 : BitVec 32 := 2#32
  let v26 : BitVec 32 := Scalar.remsi v25 c2_i32_12
  let c2_i32_110 : BitVec 32 := 2#32
  let v182 : BitVec 32 := Scalar.muli v26 c2_i32_110
  let v183 : BitVec 32 := Scalar.addi v181 v182
  let c1_i32_16 : BitVec 32 := 1#32
  let v27 : BitVec 32 := Dev.word d0
  let c1_i32_15 : BitVec 32 := 1#32
  let v28 : BitVec 32 := Scalar.divsi v27 c1_i32_15
  let c2_i32_14 : BitVec 32 := 2#32
  let v29 : BitVec 32 := Scalar.remsi v28 c2_i32_14
  let v30 : BitVec 32 := Scalar.subi c1_i32_16 v29
  let c1_i32_111 : BitVec 32 := 1#32
  let v184 : BitVec 32 := Scalar.muli v30 c1_i32_111
  let v185 : BitVec 32 := Scalar.addi v183 v184
  v185.toNat
def k0_off3 (d0 : Dev nD) : Fin 3 → Nat :=
  let c4_i32_30 : BitVec 32 := 4#32
  let v43 : BitVec 32 := Dev.word d0
  let c4_i32_24 : BitVec 32 := 4#32
  let v44 : BitVec 32 := Scalar.divsi v43 c4_i32_24
  let c2_i32_23 : BitVec 32 := 2#32
  let v45 : BitVec 32 := Scalar.remsi v44 c2_i32_23
  let v53 : BitVec 32 := Scalar.muli c4_i32_30 v45
  let c2_i32_31 : BitVec 32 := 2#32
  let c1_i32_29 : BitVec 32 := 1#32
  let v46 : BitVec 32 := Dev.word d0
  let c2_i32_26 : BitVec 32 := 2#32
  let v47 : BitVec 32 := Scalar.divsi v46 c2_i32_26
  let c2_i32_25 : BitVec 32 := 2#32
  let v48 : BitVec 32 := Scalar.remsi v47 c2_i32_25
  let v52 : BitVec 32 := Scalar.subi c1_i32_29 v48
  let v54 : BitVec 32 := Scalar.muli c2_i32_31 v52
  let v55 : BitVec 32 := Scalar.addi v53 v54
  let v49 : BitVec 32 := Dev.word d0
  let c1_i32_28 : BitVec 32 := 1#32
  let v50 : BitVec 32 := Scalar.divsi v49 c1_i32_28
  let c2_i32_27 : BitVec 32 := 2#32
  let v51 : BitVec 32 := Scalar.remsi v50 c2_i32_27
  let v56 : BitVec 32 := Scalar.addi v55 v51
  let c0_i32_124 : BitVec 32 := 0#32
  let c0_i32_125 : BitVec 32 := 0#32
  ![v56.toNat, 0, 0]
def k0_dev2 (d0 : Dev nD) : Nat :=
  let c0_i32_119 : BitVec 32 := 0#32
  let v43 : BitVec 32 := Dev.word d0
  let c4_i32_24 : BitVec 32 := 4#32
  let v44 : BitVec 32 := Scalar.divsi v43 c4_i32_24
  let c2_i32_23 : BitVec 32 := 2#32
  let v45 : BitVec 32 := Scalar.remsi v44 c2_i32_23
  let c4_i32_118 : BitVec 32 := 4#32
  let v194 : BitVec 32 := Scalar.muli v45 c4_i32_118
  let v195 : BitVec 32 := Scalar.addi c0_i32_119 v194
  let c1_i32_29 : BitVec 32 := 1#32
  let v46 : BitVec 32 := Dev.word d0
  let c2_i32_26 : BitVec 32 := 2#32
  let v47 : BitVec 32 := Scalar.divsi v46 c2_i32_26
  let c2_i32_25 : BitVec 32 := 2#32
  let v48 : BitVec 32 := Scalar.remsi v47 c2_i32_25
  let v52 : BitVec 32 := Scalar.subi c1_i32_29 v48
  let c2_i32_120 : BitVec 32 := 2#32
  let v196 : BitVec 32 := Scalar.muli v52 c2_i32_120
  let v197 : BitVec 32 := Scalar.addi v195 v196
  let v49 : BitVec 32 := Dev.word d0
  let c1_i32_28 : BitVec 32 := 1#32
  let v50 : BitVec 32 := Scalar.divsi v49 c1_i32_28
  let c2_i32_27 : BitVec 32 := 2#32
  let v51 : BitVec 32 := Scalar.remsi v50 c2_i32_27
  let c1_i32_121 : BitVec 32 := 1#32
  let v198 : BitVec 32 := Scalar.muli v51 c1_i32_121
  let v199 : BitVec 32 := Scalar.addi v197 v198
  v199.toNat
def k0_off4 (d0 : Dev nD) : Fin 3 → Nat :=
  let c4_i32_44 : BitVec 32 := 4#32
  let v65 : BitVec 32 := Dev.word d0
  let c4_i32_37 : BitVec 32 := 4#32
  let v66 : BitVec 32 := Scalar.divsi v65 c4_i32_37
  let c2_i32_36 : BitVec 32 := 2#32
  let v67 : BitVec 32 := Scalar.remsi v66 c2_i32_36
  let v76 : BitVec 32 := Scalar.muli c4_i32_44 v67
  let c2_i32_45 : BitVec 32 := 2#32
  let c1_i32_42 : BitVec 32 := 1#32
  let v68 : BitVec 32 := Dev.word d0
  let c2_i32_39 : BitVec 32 := 2#32
  let v69 : BitVec 32 := Scalar.divsi v68 c2_i32_39
  let c2_i32_38 : BitVec 32 := 2#32
  let v70 : BitVec 32 := Scalar.remsi v69 c2_i32_38
  let v74 : BitVec 32 := Scalar.subi c1_i32_42 v70
  let v77 : BitVec 32 := Scalar.muli c2_i32_45 v74
  let v78 : BitVec 32 := Scalar.addi v76 v77
  let c1_i32_43 : BitVec 32 := 1#32
  let v71 : BitVec 32 := Dev.word d0
  let c1_i32_41 : BitVec 32 := 1#32
  let v72 : BitVec 32 := Scalar.divsi v71 c1_i32_41
  let c2_i32_40 : BitVec 32 := 2#32
  let v73 : BitVec 32 := Scalar.remsi v72 c2_i32_40
  let v75 : BitVec 32 := Scalar.subi c1_i32_43 v73
  let v79 : BitVec 32 := Scalar.addi v78 v75
  let c0_i32_134 : BitVec 32 := 0#32
  let c0_i32_135 : BitVec 32 := 0#32
  ![v79.toNat, 0, 0]
def k0_dev3 (d0 : Dev nD) : Nat :=
  let c0_i32_129 : BitVec 32 := 0#32
  let v65 : BitVec 32 := Dev.word d0
  let c4_i32_37 : BitVec 32 := 4#32
  let v66 : BitVec 32 := Scalar.divsi v65 c4_i32_37
  let c2_i32_36 : BitVec 32 := 2#32
  let v67 : BitVec 32 := Scalar.remsi v66 c2_i32_36
  let c4_i32_128 : BitVec 32 := 4#32
  let v208 : BitVec 32 := Scalar.muli v67 c4_i32_128
  let v209 : BitVec 32 := Scalar.addi c0_i32_129 v208
  let c1_i32_42 : BitVec 32 := 1#32
  let v68 : BitVec 32 := Dev.word d0
  let c2_i32_39 : BitVec 32 := 2#32
  let v69 : BitVec 32 := Scalar.divsi v68 c2_i32_39
  let c2_i32_38 : BitVec 32 := 2#32
  let v70 : BitVec 32 := Scalar.remsi v69 c2_i32_38
  let v74 : BitVec 32 := Scalar.subi c1_i32_42 v70
  let c2_i32_130 : BitVec 32 := 2#32
  let v210 : BitVec 32 := Scalar.muli v74 c2_i32_130
  let v211 : BitVec 32 := Scalar.addi v209 v210
  let c1_i32_43 : BitVec 32 := 1#32
  let v71 : BitVec 32 := Dev.word d0
  let c1_i32_41 : BitVec 32 := 1#32
  let v72 : BitVec 32 := Scalar.divsi v71 c1_i32_41
  let c2_i32_40 : BitVec 32 := 2#32
  let v73 : BitVec 32 := Scalar.remsi v72 c2_i32_40
  let v75 : BitVec 32 := Scalar.subi c1_i32_43 v73
  let c1_i32_131 : BitVec 32 := 1#32
  let v212 : BitVec 32 := Scalar.muli v75 c1_i32_131
  let v213 : BitVec 32 := Scalar.addi v211 v212
  v213.toNat
def k0_off5 (d0 : Dev nD) : Fin 3 → Nat :=
  let c4_i32_57 : BitVec 32 := 4#32
  let c1_i32_56 : BitVec 32 := 1#32
  let v88 : BitVec 32 := Dev.word d0
  let c4_i32_51 : BitVec 32 := 4#32
  let v89 : BitVec 32 := Scalar.divsi v88 c4_i32_51
  let c2_i32_50 : BitVec 32 := 2#32
  let v90 : BitVec 32 := Scalar.remsi v89 c2_i32_50
  let v97 : BitVec 32 := Scalar.subi c1_i32_56 v90
  let v98 : BitVec 32 := Scalar.muli c4_i32_57 v97
  let c2_i32_58 : BitVec 32 := 2#32
  let v91 : BitVec 32 := Dev.word d0
  let c2_i32_53 : BitVec 32 := 2#32
  let v92 : BitVec 32 := Scalar.divsi v91 c2_i32_53
  let c2_i32_52 : BitVec 32 := 2#32
  let v93 : BitVec 32 := Scalar.remsi v92 c2_i32_52
  let v99 : BitVec 32 := Scalar.muli c2_i32_58 v93
  let v100 : BitVec 32 := Scalar.addi v98 v99
  let v94 : BitVec 32 := Dev.word d0
  let c1_i32_55 : BitVec 32 := 1#32
  let v95 : BitVec 32 := Scalar.divsi v94 c1_i32_55
  let c2_i32_54 : BitVec 32 := 2#32
  let v96 : BitVec 32 := Scalar.remsi v95 c2_i32_54
  let v101 : BitVec 32 := Scalar.addi v100 v96
  let c0_i32_143 : BitVec 32 := 0#32
  let c0_i32_144 : BitVec 32 := 0#32
  ![v101.toNat, 0, 0]
def k0_dev4 (d0 : Dev nD) : Nat :=
  let c0_i32_138 : BitVec 32 := 0#32
  let c1_i32_56 : BitVec 32 := 1#32
  let v88 : BitVec 32 := Dev.word d0
  let c4_i32_51 : BitVec 32 := 4#32
  let v89 : BitVec 32 := Scalar.divsi v88 c4_i32_51
  let c2_i32_50 : BitVec 32 := 2#32
  let v90 : BitVec 32 := Scalar.remsi v89 c2_i32_50
  let v97 : BitVec 32 := Scalar.subi c1_i32_56 v90
  let c4_i32_137 : BitVec 32 := 4#32
  let v222 : BitVec 32 := Scalar.muli v97 c4_i32_137
  let v223 : BitVec 32 := Scalar.addi c0_i32_138 v222
  let v91 : BitVec 32 := Dev.word d0
  let c2_i32_53 : BitVec 32 := 2#32
  let v92 : BitVec 32 := Scalar.divsi v91 c2_i32_53
  let c2_i32_52 : BitVec 32 := 2#32
  let v93 : BitVec 32 := Scalar.remsi v92 c2_i32_52
  let c2_i32_139 : BitVec 32 := 2#32
  let v224 : BitVec 32 := Scalar.muli v93 c2_i32_139
  let v225 : BitVec 32 := Scalar.addi v223 v224
  let v94 : BitVec 32 := Dev.word d0
  let c1_i32_55 : BitVec 32 := 1#32
  let v95 : BitVec 32 := Scalar.divsi v94 c1_i32_55
  let c2_i32_54 : BitVec 32 := 2#32
  let v96 : BitVec 32 := Scalar.remsi v95 c2_i32_54
  let c1_i32_140 : BitVec 32 := 1#32
  let v226 : BitVec 32 := Scalar.muli v96 c1_i32_140
  let v227 : BitVec 32 := Scalar.addi v225 v226
  v227.toNat
def k0_off6 (d0 : Dev nD) : Fin 3 → Nat :=
  let c4_i32_71 : BitVec 32 := 4#32
  let c1_i32_69 : BitVec 32 := 1#32
  let v110 : BitVec 32 := Dev.word d0
  let c4_i32_64 : BitVec 32 := 4#32
  let v111 : BitVec 32 := Scalar.divsi v110 c4_i32_64
  let c2_i32_63 : BitVec 32 := 2#32
  let v112 : BitVec 32 := Scalar.remsi v111 c2_i32_63
  let v119 : BitVec 32 := Scalar.subi c1_i32_69 v112
  let v121 : BitVec 32 := Scalar.muli c4_i32_71 v119
  let c2_i32_72 : BitVec 32 := 2#32
  let v113 : BitVec 32 := Dev.word d0
  let c2_i32_66 : BitVec 32 := 2#32
  let v114 : BitVec 32 := Scalar.divsi v113 c2_i32_66
  let c2_i32_65 : BitVec 32 := 2#32
  let v115 : BitVec 32 := Scalar.remsi v114 c2_i32_65
  let v122 : BitVec 32 := Scalar.muli c2_i32_72 v115
  let v123 : BitVec 32 := Scalar.addi v121 v122
  let c1_i32_70 : BitVec 32 := 1#32
  let v116 : BitVec 32 := Dev.word d0
  let c1_i32_68 : BitVec 32 := 1#32
  let v117 : BitVec 32 := Scalar.divsi v116 c1_i32_68
  let c2_i32_67 : BitVec 32 := 2#32
  let v118 : BitVec 32 := Scalar.remsi v117 c2_i32_67
  let v120 : BitVec 32 := Scalar.subi c1_i32_70 v118
  let v124 : BitVec 32 := Scalar.addi v123 v120
  let c0_i32_153 : BitVec 32 := 0#32
  let c0_i32_154 : BitVec 32 := 0#32
  ![v124.toNat, 0, 0]
def k0_dev5 (d0 : Dev nD) : Nat :=
  let c0_i32_148 : BitVec 32 := 0#32
  let c1_i32_69 : BitVec 32 := 1#32
  let v110 : BitVec 32 := Dev.word d0
  let c4_i32_64 : BitVec 32 := 4#32
  let v111 : BitVec 32 := Scalar.divsi v110 c4_i32_64
  let c2_i32_63 : BitVec 32 := 2#32
  let v112 : BitVec 32 := Scalar.remsi v111 c2_i32_63
  let v119 : BitVec 32 := Scalar.subi c1_i32_69 v112
  let c4_i32_147 : BitVec 32 := 4#32
  let v236 : BitVec 32 := Scalar.muli v119 c4_i32_147
  let v237 : BitVec 32 := Scalar.addi c0_i32_148 v236
  let v113 : BitVec 32 := Dev.word d0
  let c2_i32_66 : BitVec 32 := 2#32
  let v114 : BitVec 32 := Scalar.divsi v113 c2_i32_66
  let c2_i32_65 : BitVec 32 := 2#32
  let v115 : BitVec 32 := Scalar.remsi v114 c2_i32_65
  let c2_i32_149 : BitVec 32 := 2#32
  let v238 : BitVec 32 := Scalar.muli v115 c2_i32_149
  let v239 : BitVec 32 := Scalar.addi v237 v238
  let c1_i32_70 : BitVec 32 := 1#32
  let v116 : BitVec 32 := Dev.word d0
  let c1_i32_68 : BitVec 32 := 1#32
  let v117 : BitVec 32 := Scalar.divsi v116 c1_i32_68
  let c2_i32_67 : BitVec 32 := 2#32
  let v118 : BitVec 32 := Scalar.remsi v117 c2_i32_67
  let v120 : BitVec 32 := Scalar.subi c1_i32_70 v118
  let c1_i32_150 : BitVec 32 := 1#32
  let v240 : BitVec 32 := Scalar.muli v120 c1_i32_150
  let v241 : BitVec 32 := Scalar.addi v239 v240
  v241.toNat
def k0_off7 (d0 : Dev nD) : Fin 3 → Nat :=
  let c4_i32_85 : BitVec 32 := 4#32
  let c1_i32_83 : BitVec 32 := 1#32
  let v133 : BitVec 32 := Dev.word d0
  let c4_i32_78 : BitVec 32 := 4#32
  let v134 : BitVec 32 := Scalar.divsi v133 c4_i32_78
  let c2_i32_77 : BitVec 32 := 2#32
  let v135 : BitVec 32 := Scalar.remsi v134 c2_i32_77
  let v142 : BitVec 32 := Scalar.subi c1_i32_83 v135
  let v144 : BitVec 32 := Scalar.muli c4_i32_85 v142
  let c2_i32_86 : BitVec 32 := 2#32
  let c1_i32_84 : BitVec 32 := 1#32
  let v136 : BitVec 32 := Dev.word d0
  let c2_i32_80 : BitVec 32 := 2#32
  let v137 : BitVec 32 := Scalar.divsi v136 c2_i32_80
  let c2_i32_79 : BitVec 32 := 2#32
  let v138 : BitVec 32 := Scalar.remsi v137 c2_i32_79
  let v143 : BitVec 32 := Scalar.subi c1_i32_84 v138
  let v145 : BitVec 32 := Scalar.muli c2_i32_86 v143
  let v146 : BitVec 32 := Scalar.addi v144 v145
  let v139 : BitVec 32 := Dev.word d0
  let c1_i32_82 : BitVec 32 := 1#32
  let v140 : BitVec 32 := Scalar.divsi v139 c1_i32_82
  let c2_i32_81 : BitVec 32 := 2#32
  let v141 : BitVec 32 := Scalar.remsi v140 c2_i32_81
  let v147 : BitVec 32 := Scalar.addi v146 v141
  let c0_i32_162 : BitVec 32 := 0#32
  let c0_i32_163 : BitVec 32 := 0#32
  ![v147.toNat, 0, 0]
def k0_dev6 (d0 : Dev nD) : Nat :=
  let c0_i32_157 : BitVec 32 := 0#32
  let c1_i32_83 : BitVec 32 := 1#32
  let v133 : BitVec 32 := Dev.word d0
  let c4_i32_78 : BitVec 32 := 4#32
  let v134 : BitVec 32 := Scalar.divsi v133 c4_i32_78
  let c2_i32_77 : BitVec 32 := 2#32
  let v135 : BitVec 32 := Scalar.remsi v134 c2_i32_77
  let v142 : BitVec 32 := Scalar.subi c1_i32_83 v135
  let c4_i32_156 : BitVec 32 := 4#32
  let v250 : BitVec 32 := Scalar.muli v142 c4_i32_156
  let v251 : BitVec 32 := Scalar.addi c0_i32_157 v250
  let c1_i32_84 : BitVec 32 := 1#32
  let v136 : BitVec 32 := Dev.word d0
  let c2_i32_80 : BitVec 32 := 2#32
  let v137 : BitVec 32 := Scalar.divsi v136 c2_i32_80
  let c2_i32_79 : BitVec 32 := 2#32
  let v138 : BitVec 32 := Scalar.remsi v137 c2_i32_79
  let v143 : BitVec 32 := Scalar.subi c1_i32_84 v138
  let c2_i32_158 : BitVec 32 := 2#32
  let v252 : BitVec 32 := Scalar.muli v143 c2_i32_158
  let v253 : BitVec 32 := Scalar.addi v251 v252
  let v139 : BitVec 32 := Dev.word d0
  let c1_i32_82 : BitVec 32 := 1#32
  let v140 : BitVec 32 := Scalar.divsi v139 c1_i32_82
  let c2_i32_81 : BitVec 32 := 2#32
  let v141 : BitVec 32 := Scalar.remsi v140 c2_i32_81
  let c1_i32_159 : BitVec 32 := 1#32
  let v254 : BitVec 32 := Scalar.muli v141 c1_i32_159
  let v255 : BitVec 32 := Scalar.addi v253 v254
  v255.toNat
def k0_off8 (d0 : Dev nD) : Fin 3 → Nat :=
  let c4_i32_100 : BitVec 32 := 4#32
  let c1_i32_97 : BitVec 32 := 1#32
  let v156 : BitVec 32 := Dev.word d0
  let c4_i32_92 : BitVec 32 := 4#32
  let v157 : BitVec 32 := Scalar.divsi v156 c4_i32_92
  let c2_i32_91 : BitVec 32 := 2#32
  let v158 : BitVec 32 := Scalar.remsi v157 c2_i32_91
  let v165 : BitVec 32 := Scalar.subi c1_i32_97 v158
  let v168 : BitVec 32 := Scalar.muli c4_i32_100 v165
  let c2_i32_101 : BitVec 32 := 2#32
  let c1_i32_98 : BitVec 32 := 1#32
  let v159 : BitVec 32 := Dev.word d0
  let c2_i32_94 : BitVec 32 := 2#32
  let v160 : BitVec 32 := Scalar.divsi v159 c2_i32_94
  let c2_i32_93 : BitVec 32 := 2#32
  let v161 : BitVec 32 := Scalar.remsi v160 c2_i32_93
  let v166 : BitVec 32 := Scalar.subi c1_i32_98 v161
  let v169 : BitVec 32 := Scalar.muli c2_i32_101 v166
  let v170 : BitVec 32 := Scalar.addi v168 v169
  let c1_i32_99 : BitVec 32 := 1#32
  let v162 : BitVec 32 := Dev.word d0
  let c1_i32_96 : BitVec 32 := 1#32
  let v163 : BitVec 32 := Scalar.divsi v162 c1_i32_96
  let c2_i32_95 : BitVec 32 := 2#32
  let v164 : BitVec 32 := Scalar.remsi v163 c2_i32_95
  let v167 : BitVec 32 := Scalar.subi c1_i32_99 v164
  let v171 : BitVec 32 := Scalar.addi v170 v167
  let c0_i32_171 : BitVec 32 := 0#32
  let c0_i32_172 : BitVec 32 := 0#32
  ![v171.toNat, 0, 0]
def k0_dev7 (d0 : Dev nD) : Nat :=
  let c0_i32_166 : BitVec 32 := 0#32
  let c1_i32_97 : BitVec 32 := 1#32
  let v156 : BitVec 32 := Dev.word d0
  let c4_i32_92 : BitVec 32 := 4#32
  let v157 : BitVec 32 := Scalar.divsi v156 c4_i32_92
  let c2_i32_91 : BitVec 32 := 2#32
  let v158 : BitVec 32 := Scalar.remsi v157 c2_i32_91
  let v165 : BitVec 32 := Scalar.subi c1_i32_97 v158
  let c4_i32_165 : BitVec 32 := 4#32
  let v264 : BitVec 32 := Scalar.muli v165 c4_i32_165
  let v265 : BitVec 32 := Scalar.addi c0_i32_166 v264
  let c1_i32_98 : BitVec 32 := 1#32
  let v159 : BitVec 32 := Dev.word d0
  let c2_i32_94 : BitVec 32 := 2#32
  let v160 : BitVec 32 := Scalar.divsi v159 c2_i32_94
  let c2_i32_93 : BitVec 32 := 2#32
  let v161 : BitVec 32 := Scalar.remsi v160 c2_i32_93
  let v166 : BitVec 32 := Scalar.subi c1_i32_98 v161
  let c2_i32_167 : BitVec 32 := 2#32
  let v266 : BitVec 32 := Scalar.muli v166 c2_i32_167
  let v267 : BitVec 32 := Scalar.addi v265 v266
  let c1_i32_99 : BitVec 32 := 1#32
  let v162 : BitVec 32 := Dev.word d0
  let c1_i32_96 : BitVec 32 := 1#32
  let v163 : BitVec 32 := Scalar.divsi v162 c1_i32_96
  let c2_i32_95 : BitVec 32 := 2#32
  let v164 : BitVec 32 := Scalar.remsi v163 c2_i32_95
  let v167 : BitVec 32 := Scalar.subi c1_i32_99 v164
  let c1_i32_168 : BitVec 32 := 1#32
  let v268 : BitVec 32 := Scalar.muli v167 c1_i32_168
  let v269 : BitVec 32 := Scalar.addi v267 v268
  v269.toNat
abbrev grid1 : Pipeline.Grid := ⟨1, ![12], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S64x3072x1024 : Shape := ⟨3, ![64, 3072, 1024]⟩
abbrev S24576x1024 : Shape := ⟨2, ![24576, 1024]⟩
abbrev S8x24576x1024 : Shape := ⟨3, ![8, 24576, 1024]⟩
abbrev S_ : Shape := ⟨0, ![]⟩
abbrev S1x24576x1024 : Shape := ⟨3, ![1, 24576, 1024]⟩
abbrev S4x24576x1024 : Shape := ⟨3, ![4, 24576, 1024]⟩

abbrev nBuf : Space → Nat
  | .hbm => 45
  | .vmem => 0
  | .smem => 0
  | _ => 0

abbrev bufTy : (tb : Table) → Fin (tcTables nBuf tb) → BufTy
  | .hbm, ⟨0, _⟩ => ⟨S64x3072x1024, .f32⟩
  | .hbm, ⟨1, _⟩ => ⟨S24576x1024, .f32⟩
  | .hbm, ⟨2, _⟩ => ⟨S24576x1024, .f32⟩
  | .hbm, ⟨3, _⟩ => ⟨S24576x1024, .f32⟩
  | .hbm, ⟨4, _⟩ => ⟨S8x24576x1024, .f32⟩
  | .hbm, ⟨5, _⟩ => ⟨S_, .f32⟩
  | .hbm, ⟨6, _⟩ => ⟨S24576x1024, .f32⟩
  | .hbm, ⟨7, _⟩ => ⟨S_, .f32⟩
  | .hbm, ⟨8, _⟩ => ⟨S24576x1024, .f32⟩
  | .hbm, ⟨9, _⟩ => ⟨S24576x1024, .f32⟩
  | .hbm, ⟨10, _⟩ => ⟨S_, .f32⟩
  | .hbm, ⟨11, _⟩ => ⟨S24576x1024, .f32⟩
  | .hbm, ⟨12, _⟩ => ⟨S24576x1024, .f32⟩
  | .hbm, ⟨13, _⟩ => ⟨S24576x1024, .f32⟩
  | .hbm, ⟨14, _⟩ => ⟨S_, .f32⟩
  | .hbm, ⟨15, _⟩ => ⟨S24576x1024, .f32⟩
  | .hbm, ⟨16, _⟩ => ⟨S24576x1024, .f32⟩
  | .hbm, ⟨17, _⟩ => ⟨S24576x1024, .f32⟩
  | .hbm, ⟨18, _⟩ => ⟨S_, .f32⟩
  | .hbm, ⟨19, _⟩ => ⟨S24576x1024, .f32⟩
  | .hbm, ⟨20, _⟩ => ⟨S24576x1024, .f32⟩
  | .hbm, ⟨21, _⟩ => ⟨S24576x1024, .f32⟩
  | .hbm, ⟨22, _⟩ => ⟨S_, .f32⟩
  | .hbm, ⟨23, _⟩ => ⟨S24576x1024, .f32⟩
  | .hbm, ⟨24, _⟩ => ⟨S24576x1024, .f32⟩
  | .hbm, ⟨25, _⟩ => ⟨S_, .f32⟩
  | .hbm, ⟨26, _⟩ => ⟨S24576x1024, .f32⟩
  | .hbm, ⟨27, _⟩ => ⟨S24576x1024, .f32⟩
  | .hbm, ⟨28, _⟩ => ⟨S24576x1024, .f32⟩
  | .hbm, ⟨29, _⟩ => ⟨S_, .f32⟩
  | .hbm, ⟨30, _⟩ => ⟨S24576x1024, .f32⟩
  | .hbm, ⟨31, _⟩ => ⟨S24576x1024, .f32⟩
  | .hbm, ⟨32, _⟩ => ⟨S24576x1024, .f32⟩
  | .hbm, ⟨33, _⟩ => ⟨S_, .f32⟩
  | .hbm, ⟨34, _⟩ => ⟨S24576x1024, .f32⟩
  | .hbm, ⟨35, _⟩ => ⟨S24576x1024, .f32⟩
  | .hbm, ⟨36, _⟩ => ⟨S24576x1024, .f32⟩
  | .hbm, ⟨37, _⟩ => ⟨S_, .f32⟩
  | .hbm, ⟨38, _⟩ => ⟨S24576x1024, .f32⟩
  | .hbm, ⟨39, _⟩ => ⟨S24576x1024, .f32⟩
  | .hbm, ⟨40, _⟩ => ⟨S1x24576x1024, .f32⟩
  | .hbm, ⟨41, _⟩ => ⟨S1x24576x1024, .f32⟩
  | .hbm, ⟨42, _⟩ => ⟨S1x24576x1024, .f32⟩
  | .hbm, ⟨43, _⟩ => ⟨S1x24576x1024, .f32⟩
  | .hbm, ⟨44, _⟩ => ⟨S4x24576x1024, .f32⟩
  | _, _ => ⟨S64x3072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Swap.lean ====
abbrev S4x3072x1024 : Shape := ⟨3, ![4, 3072, 1024]⟩
abbrev S4x2x2904x1024 : Shape := ⟨4, ![4, 2, 2904, 1024]⟩
abbrev S4 : Shape := ⟨1, ![4]⟩
abbrev S1 : Shape := ⟨1, ![1]⟩
abbrev S_ : Shape := ⟨0, ![]⟩
abbrev S1x1x2904x1024 : Shape := ⟨4, ![1, 1, 2904, 1024]⟩
abbrev S2904x1024 : Shape := ⟨2, ![2904, 1024]⟩
abbrev S1x2904x1024 : Shape := ⟨3, ![1, 2904, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x3072x1024, .f32⟩
  | .hbm, ⟨1, _⟩ => ⟨S4x2x2904x1024, .f32⟩
  | _, _ => ⟨S4x3072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c0_i32_6 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_8 : BitVec 32 := 0#32
  let c0_i32_9 : BitVec 32 := 0#32
  ![0, v2.toNat, 0, 0]
def k0_dev1 (d0 : Dev nD) : Nat :=
  let c0_i32_17 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_16 : BitVec 32 := 4#32
  let v19 : BitVec 32 := Scalar.muli v5 c4_i32_16
  let v20 : BitVec 32 := Scalar.addi c0_i32_17 v19
  let v6 : BitVec 32 := Dev.word d0
  let c2_i32_2 : BitVec 32 := 2#32
  let v7 : BitVec 32 := Scalar.divsi v6 c2_i32_2
  let c2_i32_1 : BitVec 32 := 2#32
  let v8 : BitVec 32 := Scalar.remsi v7 c2_i32_1
  let c2_i32_18 : BitVec 32 := 2#32
  let v21 : BitVec 32 := Scalar.muli v8 c2_i32_18
  let v22 : BitVec 32 := Scalar.addi v20 v21
  let c1_i32_5 : BitVec 32 := 1#32
  let v9 : BitVec 32 := Dev.word d0
  let c1_i32_4 : BitVec 32 := 1#32
  let v10 : BitVec 32 := Scalar.divsi v9 c1_i32_4
  let c2_i32_3 : BitVec 32 := 2#32
  let v11 : BitVec 32 := Scalar.remsi v10 c2_i32_3
  let v12 : BitVec 32 := Scalar.subi c1_i32_5 v11
  let c1_i32_19 : BitVec 32 := 1#32
  let v23 : BitVec 32 := Scalar.muli v12 c1_i32_19
  let v24 : BitVec 32 := Scalar.addi v22 v23
  v24.toNat
def k0_off2 (d0 : Dev nD) : Fin 4 → Nat :=
  let c1_i32_25 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_27 : BitVec 32 := 0#32
  let c0_i32_28 : BitVec 32 := 0#32
  ![1, v2.toNat, 0, 0]
def k0_dev2 (d0 : Dev nD) : Nat :=
  let c0_i32_36 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v39 : BitVec 32 := Scalar.muli v5 c4_i32_35
  let v40 : BitVec 32 := Scalar.addi c0_i32_36 v39
  let v6 : BitVec 32 := Dev.word d0
  let c2_i32_2 : BitVec 32 := 2#32
  let v7 : BitVec 32 := Scalar.divsi v6 c2_i32_2
  let c2_i32_1 : BitVec 32 := 2#32
  let v8 : BitVec 32 := Scalar.remsi v7 c2_i32_1
  let c2_i32_37 : BitVec 32 := 2#32
  let v41 : BitVec 32 := Scalar.muli v8 c2_i32_37
  let v42 : BitVec 32 := Scalar.addi v40 v41
  let c1_i32_5 : BitVec 32 := 1#32
  let v9 : BitVec 32 := Dev.word d0
  let c1_i32_4 : BitVec 32 := 1#32
  let v10 : BitVec 32 := Scalar.divsi v9 c1_i32_4
  let c2_i32_3 : BitVec 32 := 2#32
  let v11 : BitVec 32 := Scalar.remsi v10 c2_i32_3
  let v12 : BitVec 32 := Scalar.subi c1_i32_5 v11
  let c1_i32_38 : BitVec 32 := 1#32
  let v43 : BitVec 32 := Scalar.muli v12 c1_i32_38
  let v44 : BitVec 32 := Scalar.addi v42 v43
  v44.toNat
def k0_off3 (d0 : Dev nD) : Fin 4 → Nat :=
  let c2_i32_44 : BitVec 32 := 2#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_46 : BitVec 32 := 0#32
  let c0_i32_47 : BitVec 32 := 0#32
  ![2, v2.toNat, 0, 0]
def k0_dev3 (d0 : Dev nD) : Nat :=
  let c0_i32_55 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v59 : BitVec 32 := Scalar.muli v5 c4_i32_54
  let v60 : BitVec 32 := Scalar.addi c0_i32_55 v59
  let v6 : BitVec 32 := Dev.word d0
  let c2_i32_2 : BitVec 32 := 2#32
  let v7 : BitVec 32 := Scalar.divsi v6 c2_i32_2
  let c2_i32_1 : BitVec 32 := 2#32
  let v8 : BitVec 32 := Scalar.remsi v7 c2_i32_1
  let c2_i32_56 : BitVec 32 := 2#32
  let v61 : BitVec 32 := Scalar.muli v8 c2_i32_56
  let v62 : BitVec 32 := Scalar.addi v60 v61
  let c1_i32_5 : BitVec 32 := 1#32
  let v9 : BitVec 32 := Dev.word d0
  let c1_i32_4 : BitVec 32 := 1#32
  let v10 : BitVec 32 := Scalar.divsi v9 c1_i32_4
  let c2_i32_3 : BitVec 32 := 2#32
  let v11 : BitVec 32 := Scalar.remsi v10 c2_i32_3
  let v12 : BitVec 32 := Scalar.subi c1_i32_5 v11
  let c1_i32_57 : BitVec 32 := 1#32
  let v63 : BitVec 32 := Scalar.muli v12 c1_i32_57
  let v64 : BitVec 32 := Scalar.addi v62 v63
  v64.toNat
def k0_off4 (d0 : Dev nD) : Fin 4 → Nat :=
  let c3_i32_62 : BitVec 32 := 3#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_64 : BitVec 32 := 0#32
  let c0_i32_65 : BitVec 32 := 0#32
  ![3, v2.toNat, 0, 0]
def k0_dev4 (d0 : Dev nD) : Nat :=
  let c0_i32_73 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_72 : BitVec 32 := 4#32
  let v79 : BitVec 32 := Scalar.muli v5 c4_i32_72
  let v80 : BitVec 32 := Scalar.addi c0_i32_73 v79
  let v6 : BitVec 32 := Dev.word d0
  let c2_i32_2 : BitVec 32 := 2#32
  let v7 : BitVec 32 := Scalar.divsi v6 c2_i32_2
  let c2_i32_1 : BitVec 32 := 2#32
  let v8 : BitVec 32 := Scalar.remsi v7 c2_i32_1
  let c2_i32_74 : BitVec 32 := 2#32
  let v81 : BitVec 32 := Scalar.muli v8 c2_i32_74
  let v82 : BitVec 32 := Scalar.addi v80 v81
  let c1_i32_5 : BitVec 32 := 1#32
  let v9 : BitVec 32 := Dev.word d0
  let c1_i32_4 : BitVec 32 := 1#32
  let v10 : BitVec 32 := Scalar.divsi v9 c1_i32_4
  let c2_i32_3 : BitVec 32 := 2#32
  let v11 : BitVec 32 := Scalar.remsi v10 c2_i32_3
  let v12 : BitVec 32 := Scalar.subi c1_i32_5 v11
  let c1_i32_75 : BitVec 32 := 1#32
  let v83 : BitVec 32 := Scalar.muli v12 c1_i32_75
  let v84 : BitVec 32 := Scalar.addi v82 v83
  v84.toNat
def k0_off5 (d0 : Dev nD) : Fin 4 → Nat :=
  let c0_i32_82 : BitVec 32 := 0#32
  let c1_i32_80 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v93 : BitVec 32 := Scalar.subi c1_i32_80 v2
  let c0_i32_89 : BitVec 32 := 0#32
  let c0_i32_90 : BitVec 32 := 0#32
  ![0, v93.toNat, 0, 0]
def k0_off6 (d0 : Dev nD) : Fin 4 → Nat :=
  let c1_i32_95 : BitVec 32 := 1#32
  let c1_i32_93 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v106 : BitVec 32 := Scalar.subi c1_i32_93 v2
  let c0_i32_102 : BitVec 32 := 0#32
  let c0_i32_103 : BitVec 32 := 0#32
  ![1, v106.toNat, 0, 0]
def k0_off7 (d0 : Dev nD) : Fin 4 → Nat :=
  let c2_i32_108 : BitVec 32 := 2#32
  let c1_i32_106 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v119 : BitVec 32 := Scalar.subi c1_i32_106 v2
  let c0_i32_115 : BitVec 32 := 0#32
  let c0_i32_116 : BitVec 32 := 0#32
  ![2, v119.toNat, 0, 0]
def k0_off8 (d0 : Dev nD) : Fin 4 → Nat :=
  let c3_i32_121 : BitVec 32 := 3#32
  let c1_i32_119 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v132 : BitVec 32 := Scalar.subi c1_i32_119 v2
  let c0_i32_128 : BitVec 32 := 0#32
  let c0_i32_129 : BitVec 32 := 0#32
  ![3, v132.toNat, 0, 0]
-- ==== SwapReference.lean ====
abbrev S4x24576x1024 : Shape := ⟨3, ![4, 24576, 1024]⟩
abbrev S4x8x3072x1024 : Shape := ⟨4, ![4, 8, 3072, 1024]⟩
abbrev S4x8x2904x1024 : Shape := ⟨4, ![4, 8, 2904, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x24576x1024, .f32⟩
  | .hbm, ⟨1, _⟩ => ⟨S4x8x3072x1024, .f32⟩
  | .hbm, ⟨2, _⟩ => ⟨S4x8x2904x1024, .f32⟩
  | _, _ => ⟨S4x24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Gather.lean ====
abbrev S2904x1024 : Shape := ⟨2, ![2904, 1024]⟩
abbrev S8x2904x1024 : Shape := ⟨3, ![8, 2904, 1024]⟩
abbrev S7 : Shape := ⟨1, ![7]⟩
abbrev S_ : Shape := ⟨0, ![]⟩
abbrev S1x2904x1024 : Shape := ⟨3, ![1, 2904, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S2904x1024, .bf16⟩
  | .hbm, ⟨1, _⟩ => ⟨S8x2904x1024, .bf16⟩
  | _, _ => ⟨S2904x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_91 : BitVec 32 := 0#32
  let v15 : BitVec 32 := Dev.word d0
  let c4_i32_7 : BitVec 32 := 4#32
  let v16 : BitVec 32 := Scalar.divsi v15 c4_i32_7
  let c2_i32_6 : BitVec 32 := 2#32
  let v17 : BitVec 32 := Scalar.remsi v16 c2_i32_6
  let c4_i32_90 : BitVec 32 := 4#32
  let v146 : BitVec 32 := Scalar.muli v17 c4_i32_90
  let v147 : BitVec 32 := Scalar.addi c0_i32_91 v146
  let v18 : BitVec 32 := Dev.word d0
  let c2_i32_9 : BitVec 32 := 2#32
  let v19 : BitVec 32 := Scalar.divsi v18 c2_i32_9
  let c2_i32_8 : BitVec 32 := 2#32
  let v20 : BitVec 32 := Scalar.remsi v19 c2_i32_8
  let c2_i32_92 : BitVec 32 := 2#32
  let v148 : BitVec 32 := Scalar.muli v20 c2_i32_92
  let v149 : BitVec 32 := Scalar.addi v147 v148
  let c1_i32_12 : BitVec 32 := 1#32
  let v21 : BitVec 32 := Dev.word d0
  let c1_i32_11 : BitVec 32 := 1#32
  let v22 : BitVec 32 := Scalar.divsi v21 c1_i32_11
  let c2_i32_10 : BitVec 32 := 2#32
  let v23 : BitVec 32 := Scalar.remsi v22 c2_i32_10
  let v24 : BitVec 32 := Scalar.subi c1_i32_12 v23
  let c1_i32_93 : BitVec 32 := 1#32
  let v150 : BitVec 32 := Scalar.muli v24 c1_i32_93
  let v151 : BitVec 32 := Scalar.addi v149 v150
  v151.toNat
def k0_dev2 (d0 : Dev nD) : Nat :=
  let c0_i32_99 : BitVec 32 := 0#32
  let v33 : BitVec 32 := Dev.word d0
  let c4_i32_18 : BitVec 32 := 4#32
  let v34 : BitVec 32 := Scalar.divsi v33 c4_i32_18
  let c2_i32_17 : BitVec 32 := 2#32
  let v35 : BitVec 32 := Scalar.remsi v34 c2_i32_17
  let c4_i32_98 : BitVec 32 := 4#32
  let v158 : BitVec 32 := Scalar.muli v35 c4_i32_98
  let v159 : BitVec 32 := Scalar.addi c0_i32_99 v158
  let c1_i32_23 : BitVec 32 := 1#32
  let v36 : BitVec 32 := Dev.word d0
  let c2_i32_20 : BitVec 32 := 2#32
  let v37 : BitVec 32 := Scalar.divsi v36 c2_i32_20
  let c2_i32_19 : BitVec 32 := 2#32
  let v38 : BitVec 32 := Scalar.remsi v37 c2_i32_19
  let v42 : BitVec 32 := Scalar.subi c1_i32_23 v38
  let c2_i32_100 : BitVec 32 := 2#32
  let v160 : BitVec 32 := Scalar.muli v42 c2_i32_100
  let v161 : BitVec 32 := Scalar.addi v159 v160
  let v39 : BitVec 32 := Dev.word d0
  let c1_i32_22 : BitVec 32 := 1#32
  let v40 : BitVec 32 := Scalar.divsi v39 c1_i32_22
  let c2_i32_21 : BitVec 32 := 2#32
  let v41 : BitVec 32 := Scalar.remsi v40 c2_i32_21
  let c1_i32_101 : BitVec 32 := 1#32
  let v162 : BitVec 32 := Scalar.muli v41 c1_i32_101
  let v163 : BitVec 32 := Scalar.addi v161 v162
  v163.toNat
def k0_dev3 (d0 : Dev nD) : Nat :=
  let c0_i32_107 : BitVec 32 := 0#32
  let v51 : BitVec 32 := Dev.word d0
  let c4_i32_29 : BitVec 32 := 4#32
  let v52 : BitVec 32 := Scalar.divsi v51 c4_i32_29
  let c2_i32_28 : BitVec 32 := 2#32
  let v53 : BitVec 32 := Scalar.remsi v52 c2_i32_28
  let c4_i32_106 : BitVec 32 := 4#32
  let v170 : BitVec 32 := Scalar.muli v53 c4_i32_106
  let v171 : BitVec 32 := Scalar.addi c0_i32_107 v170
  let c1_i32_34 : BitVec 32 := 1#32
  let v54 : BitVec 32 := Dev.word d0
  let c2_i32_31 : BitVec 32 := 2#32
  let v55 : BitVec 32 := Scalar.divsi v54 c2_i32_31
  let c2_i32_30 : BitVec 32 := 2#32
  let v56 : BitVec 32 := Scalar.remsi v55 c2_i32_30
  let v60 : BitVec 32 := Scalar.subi c1_i32_34 v56
  let c2_i32_108 : BitVec 32 := 2#32
  let v172 : BitVec 32 := Scalar.muli v60 c2_i32_108
  let v173 : BitVec 32 := Scalar.addi v171 v172
  let c1_i32_35 : BitVec 32 := 1#32
  let v57 : BitVec 32 := Dev.word d0
  let c1_i32_33 : BitVec 32 := 1#32
  let v58 : BitVec 32 := Scalar.divsi v57 c1_i32_33
  let c2_i32_32 : BitVec 32 := 2#32
  let v59 : BitVec 32 := Scalar.remsi v58 c2_i32_32
  let v61 : BitVec 32 := Scalar.subi c1_i32_35 v59
  let c1_i32_109 : BitVec 32 := 1#32
  let v174 : BitVec 32 := Scalar.muli v61 c1_i32_109
  let v175 : BitVec 32 := Scalar.addi v173 v174
  v175.toNat
def k0_dev4 (d0 : Dev nD) : Nat :=
  let c0_i32_114 : BitVec 32 := 0#32
  let c1_i32_46 : BitVec 32 := 1#32
  let v70 : BitVec 32 := Dev.word d0
  let c4_i32_41 : BitVec 32 := 4#32
  let v71 : BitVec 32 := Scalar.divsi v70 c4_i32_41
  let c2_i32_40 : BitVec 32 := 2#32
  let v72 : BitVec 32 := Scalar.remsi v71 c2_i32_40
  let v79 : BitVec 32 := Scalar.subi c1_i32_46 v72
  let c4_i32_113 : BitVec 32 := 4#32
  let v182 : BitVec 32 := Scalar.muli v79 c4_i32_113
  let v183 : BitVec 32 := Scalar.addi c0_i32_114 v182
  let v73 : BitVec 32 := Dev.word d0
  let c2_i32_43 : BitVec 32 := 2#32
  let v74 : BitVec 32 := Scalar.divsi v73 c2_i32_43
  let c2_i32_42 : BitVec 32 := 2#32
  let v75 : BitVec 32 := Scalar.remsi v74 c2_i32_42
  let c2_i32_115 : BitVec 32 := 2#32
  let v184 : BitVec 32 := Scalar.muli v75 c2_i32_115
  let v185 : BitVec 32 := Scalar.addi v183 v184
  let v76 : BitVec 32 := Dev.word d0
  let c1_i32_45 : BitVec 32 := 1#32
  let v77 : BitVec 32 := Scalar.divsi v76 c1_i32_45
  let c2_i32_44 : BitVec 32 := 2#32
  let v78 : BitVec 32 := Scalar.remsi v77 c2_i32_44
  let c1_i32_116 : BitVec 32 := 1#32
  let v186 : BitVec 32 := Scalar.muli v78 c1_i32_116
  let v187 : BitVec 32 := Scalar.addi v185 v186
  v187.toNat
def k0_dev5 (d0 : Dev nD) : Nat :=
  let c0_i32_122 : BitVec 32 := 0#32
  let c1_i32_57 : BitVec 32 := 1#32
  let v88 : BitVec 32 := Dev.word d0
  let c4_i32_52 : BitVec 32 := 4#32
  let v89 : BitVec 32 := Scalar.divsi v88 c4_i32_52
  let c2_i32_51 : BitVec 32 := 2#32
  let v90 : BitVec 32 := Scalar.remsi v89 c2_i32_51
  let v97 : BitVec 32 := Scalar.subi c1_i32_57 v90
  let c4_i32_121 : BitVec 32 := 4#32
  let v194 : BitVec 32 := Scalar.muli v97 c4_i32_121
  let v195 : BitVec 32 := Scalar.addi c0_i32_122 v194
  let v91 : BitVec 32 := Dev.word d0
  let c2_i32_54 : BitVec 32 := 2#32
  let v92 : BitVec 32 := Scalar.divsi v91 c2_i32_54
  let c2_i32_53 : BitVec 32 := 2#32
  let v93 : BitVec 32 := Scalar.remsi v92 c2_i32_53
  let c2_i32_123 : BitVec 32 := 2#32
  let v196 : BitVec 32 := Scalar.muli v93 c2_i32_123
  let v197 : BitVec 32 := Scalar.addi v195 v196
  let c1_i32_58 : BitVec 32 := 1#32
  let v94 : BitVec 32 := Dev.word d0
  let c1_i32_56 : BitVec 32 := 1#32
  let v95 : BitVec 32 := Scalar.divsi v94 c1_i32_56
  let c2_i32_55 : BitVec 32 := 2#32
  let v96 : BitVec 32 := Scalar.remsi v95 c2_i32_55
  let v98 : BitVec 32 := Scalar.subi c1_i32_58 v96
  let c1_i32_124 : BitVec 32 := 1#32
  let v198 : BitVec 32 := Scalar.muli v98 c1_i32_124
  let v199 : BitVec 32 := Scalar.addi v197 v198
  v199.toNat
def k0_dev6 (d0 : Dev nD) : Nat :=
  let c0_i32_129 : BitVec 32 := 0#32
  let c1_i32_69 : BitVec 32 := 1#32
  let v107 : BitVec 32 := Dev.word d0
  let c4_i32_64 : BitVec 32 := 4#32
  let v108 : BitVec 32 := Scalar.divsi v107 c4_i32_64
  let c2_i32_63 : BitVec 32 := 2#32
  let v109 : BitVec 32 := Scalar.remsi v108 c2_i32_63
  let v116 : BitVec 32 := Scalar.subi c1_i32_69 v109
  let c4_i32_128 : BitVec 32 := 4#32
  let v206 : BitVec 32 := Scalar.muli v116 c4_i32_128
  let v207 : BitVec 32 := Scalar.addi c0_i32_129 v206
  let c1_i32_70 : BitVec 32 := 1#32
  let v110 : BitVec 32 := Dev.word d0
  let c2_i32_66 : BitVec 32 := 2#32
  let v111 : BitVec 32 := Scalar.divsi v110 c2_i32_66
  let c2_i32_65 : BitVec 32 := 2#32
  let v112 : BitVec 32 := Scalar.remsi v111 c2_i32_65
  let v117 : BitVec 32 := Scalar.subi c1_i32_70 v112
  let c2_i32_130 : BitVec 32 := 2#32
  let v208 : BitVec 32 := Scalar.muli v117 c2_i32_130
  let v209 : BitVec 32 := Scalar.addi v207 v208
  let v113 : BitVec 32 := Dev.word d0
  let c1_i32_68 : BitVec 32 := 1#32
  let v114 : BitVec 32 := Scalar.divsi v113 c1_i32_68
  let c2_i32_67 : BitVec 32 := 2#32
  let v115 : BitVec 32 := Scalar.remsi v114 c2_i32_67
  let c1_i32_131 : BitVec 32 := 1#32
  let v210 : BitVec 32 := Scalar.muli v115 c1_i32_131
  let v211 : BitVec 32 := Scalar.addi v209 v210
  v211.toNat
def k0_dev7 (d0 : Dev nD) : Nat :=
  let c0_i32_136 : BitVec 32 := 0#32
  let c1_i32_81 : BitVec 32 := 1#32
  let v126 : BitVec 32 := Dev.word d0
  let c4_i32_76 : BitVec 32 := 4#32
  let v127 : BitVec 32 := Scalar.divsi v126 c4_i32_76
  let c2_i32_75 : BitVec 32 := 2#32
  let v128 : BitVec 32 := Scalar.remsi v127 c2_i32_75
  let v135 : BitVec 32 := Scalar.subi c1_i32_81 v128
  let c4_i32_135 : BitVec 32 := 4#32
  let v218 : BitVec 32 := Scalar.muli v135 c4_i32_135
  let v219 : BitVec 32 := Scalar.addi c0_i32_136 v218
  let c1_i32_82 : BitVec 32 := 1#32
  let v129 : BitVec 32 := Dev.word d0
  let c2_i32_78 : BitVec 32 := 2#32
  let v130 : BitVec 32 := Scalar.divsi v129 c2_i32_78
  let c2_i32_77 : BitVec 32 := 2#32
  let v131 : BitVec 32 := Scalar.remsi v130 c2_i32_77
  let v136 : BitVec 32 := Scalar.subi c1_i32_82 v131
  let c2_i32_137 : BitVec 32 := 2#32
  let v220 : BitVec 32 := Scalar.muli v136 c2_i32_137
  let v221 : BitVec 32 := Scalar.addi v219 v220
  let c1_i32_83 : BitVec 32 := 1#32
  let v132 : BitVec 32 := Dev.word d0
  let c1_i32_80 : BitVec 32 := 1#32
  let v133 : BitVec 32 := Scalar.divsi v132 c1_i32_80
  let c2_i32_79 : BitVec 32 := 2#32
  let v134 : BitVec 32 := Scalar.remsi v133 c2_i32_79
  let v137 : BitVec 32 := Scalar.subi c1_i32_83 v134
  let c1_i32_138 : BitVec 32 := 1#32
  let v222 : BitVec 32 := Scalar.muli v137 c1_i32_138
  let v223 : BitVec 32 := Scalar.addi v221 v222
  v223.toNat
def k0_off2 (d0 : Dev nD) : Fin 3 → Nat :=
  let c4_i32_15 : BitVec 32 := 4#32
  let v15 : BitVec 32 := Dev.word d0
  let c4_i32_7 : BitVec 32 := 4#32
  let v16 : BitVec 32 := Scalar.divsi v15 c4_i32_7
  let c2_i32_6 : BitVec 32 := 2#32
  let v17 : BitVec 32 := Scalar.remsi v16 c2_i32_6
  let v29 : BitVec 32 := Scalar.muli c4_i32_15 v17
  let c2_i32_16 : BitVec 32 := 2#32
  let v18 : BitVec 32 := Dev.word d0
  let c2_i32_9 : BitVec 32 := 2#32
  let v19 : BitVec 32 := Scalar.divsi v18 c2_i32_9
  let c2_i32_8 : BitVec 32 := 2#32
  let v20 : BitVec 32 := Scalar.remsi v19 c2_i32_8
  let v30 : BitVec 32 := Scalar.muli c2_i32_16 v20
  let v31 : BitVec 32 := Scalar.addi v29 v30
  let c1_i32_12 : BitVec 32 := 1#32
  let v21 : BitVec 32 := Dev.word d0
  let c1_i32_11 : BitVec 32 := 1#32
  let v22 : BitVec 32 := Scalar.divsi v21 c1_i32_11
  let c2_i32_10 : BitVec 32 := 2#32
  let v23 : BitVec 32 := Scalar.remsi v22 c2_i32_10
  let v24 : BitVec 32 := Scalar.subi c1_i32_12 v23
  let v32 : BitVec 32 := Scalar.addi v31 v24
  let c0_i32_147 : BitVec 32 := 0#32
  let c0_i32_148 : BitVec 32 := 0#32
  ![v32.toNat, 0, 0]
def k0_off3 (d0 : Dev nD) : Fin 3 → Nat :=
  let c4_i32_26 : BitVec 32 := 4#32
  let v33 : BitVec 32 := Dev.word d0
  let c4_i32_18 : BitVec 32 := 4#32
  let v34 : BitVec 32 := Scalar.divsi v33 c4_i32_18
  let c2_i32_17 : BitVec 32 := 2#32
  let v35 : BitVec 32 := Scalar.remsi v34 c2_i32_17
  let v47 : BitVec 32 := Scalar.muli c4_i32_26 v35
  let c2_i32_27 : BitVec 32 := 2#32
  let c1_i32_23 : BitVec 32 := 1#32
  let v36 : BitVec 32 := Dev.word d0
  let c2_i32_20 : BitVec 32 := 2#32
  let v37 : BitVec 32 := Scalar.divsi v36 c2_i32_20
  let c2_i32_19 : BitVec 32 := 2#32
  let v38 : BitVec 32 := Scalar.remsi v37 c2_i32_19
  let v42 : BitVec 32 := Scalar.subi c1_i32_23 v38
  let v48 : BitVec 32 := Scalar.muli c2_i32_27 v42
  let v49 : BitVec 32 := Scalar.addi v47 v48
  let v39 : BitVec 32 := Dev.word d0
  let c1_i32_22 : BitVec 32 := 1#32
  let v40 : BitVec 32 := Scalar.divsi v39 c1_i32_22
  let c2_i32_21 : BitVec 32 := 2#32
  let v41 : BitVec 32 := Scalar.remsi v40 c2_i32_21
  let v50 : BitVec 32 := Scalar.addi v49 v41
  let c0_i32_155 : BitVec 32 := 0#32
  let c0_i32_156 : BitVec 32 := 0#32
  ![v50.toNat, 0, 0]
def k0_off4 (d0 : Dev nD) : Fin 3 → Nat :=
  let c4_i32_38 : BitVec 32 := 4#32
  let v51 : BitVec 32 := Dev.word d0
  let c4_i32_29 : BitVec 32 := 4#32
  let v52 : BitVec 32 := Scalar.divsi v51 c4_i32_29
  let c2_i32_28 : BitVec 32 := 2#32
  let v53 : BitVec 32 := Scalar.remsi v52 c2_i32_28
  let v66 : BitVec 32 := Scalar.muli c4_i32_38 v53
  let c2_i32_39 : BitVec 32 := 2#32
  let c1_i32_34 : BitVec 32 := 1#32
  let v54 : BitVec 32 := Dev.word d0
  let c2_i32_31 : BitVec 32 := 2#32
  let v55 : BitVec 32 := Scalar.divsi v54 c2_i32_31
  let c2_i32_30 : BitVec 32 := 2#32
  let v56 : BitVec 32 := Scalar.remsi v55 c2_i32_30
  let v60 : BitVec 32 := Scalar.subi c1_i32_34 v56
  let v67 : BitVec 32 := Scalar.muli c2_i32_39 v60
  let v68 : BitVec 32 := Scalar.addi v66 v67
  let c1_i32_35 : BitVec 32 := 1#32
  let v57 : BitVec 32 := Dev.word d0
  let c1_i32_33 : BitVec 32 := 1#32
  let v58 : BitVec 32 := Scalar.divsi v57 c1_i32_33
  let c2_i32_32 : BitVec 32 := 2#32
  let v59 : BitVec 32 := Scalar.remsi v58 c2_i32_32
  let v61 : BitVec 32 := Scalar.subi c1_i32_35 v59
  let v69 : BitVec 32 := Scalar.addi v68 v61
  let c0_i32_163 : BitVec 32 := 0#32
  let c0_i32_164 : BitVec 32 := 0#32
  ![v69.toNat, 0, 0]
def k0_off5 (d0 : Dev nD) : Fin 3 → Nat :=
  let c4_i32_49 : BitVec 32 := 4#32
  let c1_i32_46 : BitVec 32 := 1#32
  let v70 : BitVec 32 := Dev.word d0
  let c4_i32_41 : BitVec 32 := 4#32
  let v71 : BitVec 32 := Scalar.divsi v70 c4_i32_41
  let c2_i32_40 : BitVec 32 := 2#32
  let v72 : BitVec 32 := Scalar.remsi v71 c2_i32_40
  let v79 : BitVec 32 := Scalar.subi c1_i32_46 v72
  let v84 : BitVec 32 := Scalar.muli c4_i32_49 v79
  let c2_i32_50 : BitVec 32 := 2#32
  let v73 : BitVec 32 := Dev.word d0
  let c2_i32_43 : BitVec 32 := 2#32
  let v74 : BitVec 32 := Scalar.divsi v73 c2_i32_43
  let c2_i32_42 : BitVec 32 := 2#32
  let v75 : BitVec 32 := Scalar.remsi v74 c2_i32_42
  let v85 : BitVec 32 := Scalar.muli c2_i32_50 v75
  let v86 : BitVec 32 := Scalar.addi v84 v85
  let v76 : BitVec 32 := Dev.word d0
  let c1_i32_45 : BitVec 32 := 1#32
  let v77 : BitVec 32 := Scalar.divsi v76 c1_i32_45
  let c2_i32_44 : BitVec 32 := 2#32
  let v78 : BitVec 32 := Scalar.remsi v77 c2_i32_44
  let v87 : BitVec 32 := Scalar.addi v86 v78
  let c0_i32_171 : BitVec 32 := 0#32
  let c0_i32_172 : BitVec 32 := 0#32
  ![v87.toNat, 0, 0]
def k0_off6 (d0 : Dev nD) : Fin 3 → Nat :=
  let c4_i32_61 : BitVec 32 := 4#32
  let c1_i32_57 : BitVec 32 := 1#32
  let v88 : BitVec 32 := Dev.word d0
  let c4_i32_52 : BitVec 32 := 4#32
  let v89 : BitVec 32 := Scalar.divsi v88 c4_i32_52
  let c2_i32_51 : BitVec 32 := 2#32
  let v90 : BitVec 32 := Scalar.remsi v89 c2_i32_51
  let v97 : BitVec 32 := Scalar.subi c1_i32_57 v90
  let v103 : BitVec 32 := Scalar.muli c4_i32_61 v97
  let c2_i32_62 : BitVec 32 := 2#32
  let v91 : BitVec 32 := Dev.word d0
  let c2_i32_54 : BitVec 32 := 2#32
  let v92 : BitVec 32 := Scalar.divsi v91 c2_i32_54
  let c2_i32_53 : BitVec 32 := 2#32
  let v93 : BitVec 32 := Scalar.remsi v92 c2_i32_53
  let v104 : BitVec 32 := Scalar.muli c2_i32_62 v93
  let v105 : BitVec 32 := Scalar.addi v103 v104
  let c1_i32_58 : BitVec 32 := 1#32
  let v94 : BitVec 32 := Dev.word d0
  let c1_i32_56 : BitVec 32 := 1#32
  let v95 : BitVec 32 := Scalar.divsi v94 c1_i32_56
  let c2_i32_55 : BitVec 32 := 2#32
  let v96 : BitVec 32 := Scalar.remsi v95 c2_i32_55
  let v98 : BitVec 32 := Scalar.subi c1_i32_58 v96
  let v106 : BitVec 32 := Scalar.addi v105 v98
  let c0_i32_179 : BitVec 32 := 0#32
  let c0_i32_180 : BitVec 32 := 0#32
  ![v106.toNat, 0, 0]
def k0_off7 (d0 : Dev nD) : Fin 3 → Nat :=
  let c4_i32_73 : BitVec 32 := 4#32
  let c1_i32_69 : BitVec 32 := 1#32
  let v107 : BitVec 32 := Dev.word d0
  let c4_i32_64 : BitVec 32 := 4#32
  let v108 : BitVec 32 := Scalar.divsi v107 c4_i32_64
  let c2_i32_63 : BitVec 32 := 2#32
  let v109 : BitVec 32 := Scalar.remsi v108 c2_i32_63
  let v116 : BitVec 32 := Scalar.subi c1_i32_69 v109
  let v122 : BitVec 32 := Scalar.muli c4_i32_73 v116
  let c2_i32_74 : BitVec 32 := 2#32
  let c1_i32_70 : BitVec 32 := 1#32
  let v110 : BitVec 32 := Dev.word d0
  let c2_i32_66 : BitVec 32 := 2#32
  let v111 : BitVec 32 := Scalar.divsi v110 c2_i32_66
  let c2_i32_65 : BitVec 32 := 2#32
  let v112 : BitVec 32 := Scalar.remsi v111 c2_i32_65
  let v117 : BitVec 32 := Scalar.subi c1_i32_70 v112
  let v123 : BitVec 32 := Scalar.muli c2_i32_74 v117
  let v124 : BitVec 32 := Scalar.addi v122 v123
  let v113 : BitVec 32 := Dev.word d0
  let c1_i32_68 : BitVec 32 := 1#32
  let v114 : BitVec 32 := Scalar.divsi v113 c1_i32_68
  let c2_i32_67 : BitVec 32 := 2#32
  let v115 : BitVec 32 := Scalar.remsi v114 c2_i32_67
  let v125 : BitVec 32 := Scalar.addi v124 v115
  let c0_i32_187 : BitVec 32 := 0#32
  let c0_i32_188 : BitVec 32 := 0#32
  ![v125.toNat, 0, 0]
def k0_off8 (d0 : Dev nD) : Fin 3 → Nat :=
  let c4_i32_86 : BitVec 32 := 4#32
  let c1_i32_81 : BitVec 32 := 1#32
  let v126 : BitVec 32 := Dev.word d0
  let c4_i32_76 : BitVec 32 := 4#32
  let v127 : BitVec 32 := Scalar.divsi v126 c4_i32_76
  let c2_i32_75 : BitVec 32 := 2#32
  let v128 : BitVec 32 := Scalar.remsi v127 c2_i32_75
  let v135 : BitVec 32 := Scalar.subi c1_i32_81 v128
  let v142 : BitVec 32 := Scalar.muli c4_i32_86 v135
  let c2_i32_87 : BitVec 32 := 2#32
  let c1_i32_82 : BitVec 32 := 1#32
  let v129 : BitVec 32 := Dev.word d0
  let c2_i32_78 : BitVec 32 := 2#32
  let v130 : BitVec 32 := Scalar.divsi v129 c2_i32_78
  let c2_i32_77 : BitVec 32 := 2#32
  let v131 : BitVec 32 := Scalar.remsi v130 c2_i32_77
  let v136 : BitVec 32 := Scalar.subi c1_i32_82 v131
  let v143 : BitVec 32 := Scalar.muli c2_i32_87 v136
  let v144 : BitVec 32 := Scalar.addi v142 v143
  let c1_i32_83 : BitVec 32 := 1#32
  let v132 : BitVec 32 := Dev.word d0
  let c1_i32_80 : BitVec 32 := 1#32
  let v133 : BitVec 32 := Scalar.divsi v132 c1_i32_80
  let c2_i32_79 : BitVec 32 := 2#32
  let v134 : BitVec 32 := Scalar.remsi v133 c2_i32_79
  let v137 : BitVec 32 := Scalar.subi c1_i32_83 v134
  let v145 : BitVec 32 := Scalar.addi v144 v137
  let c0_i32_195 : BitVec 32 := 0#32
  let c0_i32_196 : BitVec 32 := 0#32
  ![v145.toNat, 0, 0]
-- ==== GatherReference.lean ====
abbrev S23232x1024 : Shape := ⟨2, ![23232, 1024]⟩
abbrev S8x2904x1024 : Shape := ⟨3, ![8, 2904, 1024]⟩

abbrev nBuf : Space → Nat
  | .hbm => 2
  | .vmem => 0
  | .smem => 0
  | _ => 0

abbrev bufTy : (tb : Table) → Fin (tcTables nBuf tb) → BufTy
  | .hbm, ⟨0, _⟩ => ⟨S23232x1024, .bf16⟩
  | .hbm, ⟨1, _⟩ => ⟨S8x2904x1024, .bf16⟩
  | _, _ => ⟨S23232x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Small.lean ====
abbrev S10x1024 : Shape := ⟨2, ![10, 1024]⟩
abbrev S8x10x1024 : Shape := ⟨3, ![8, 10, 1024]⟩
abbrev S7 : Shape := ⟨1, ![7]⟩
abbrev S_ : Shape := ⟨0, ![]⟩
abbrev S1x10x1024 : Shape := ⟨3, ![1, 10, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S10x1024, .f32⟩
  | .hbm, ⟨1, _⟩ => ⟨S8x10x1024, .f32⟩
  | _, _ => ⟨S10x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_91 : BitVec 32 := 0#32
  let v15 : BitVec 32 := Dev.word d0
  let c4_i32_7 : BitVec 32 := 4#32
  let v16 : BitVec 32 := Scalar.divsi v15 c4_i32_7
  let c2_i32_6 : BitVec 32 := 2#32
  let v17 : BitVec 32 := Scalar.remsi v16 c2_i32_6
  let c4_i32_90 : BitVec 32 := 4#32
  let v146 : BitVec 32 := Scalar.muli v17 c4_i32_90
  let v147 : BitVec 32 := Scalar.addi c0_i32_91 v146
  let v18 : BitVec 32 := Dev.word d0
  let c2_i32_9 : BitVec 32 := 2#32
  let v19 : BitVec 32 := Scalar.divsi v18 c2_i32_9
  let c2_i32_8 : BitVec 32 := 2#32
  let v20 : BitVec 32 := Scalar.remsi v19 c2_i32_8
  let c2_i32_92 : BitVec 32 := 2#32
  let v148 : BitVec 32 := Scalar.muli v20 c2_i32_92
  let v149 : BitVec 32 := Scalar.addi v147 v148
  let c1_i32_12 : BitVec 32 := 1#32
  let v21 : BitVec 32 := Dev.word d0
  let c1_i32_11 : BitVec 32 := 1#32
  let v22 : BitVec 32 := Scalar.divsi v21 c1_i32_11
  let c2_i32_10 : BitVec 32 := 2#32
  let v23 : BitVec 32 := Scalar.remsi v22 c2_i32_10
  let v24 : BitVec 32 := Scalar.subi c1_i32_12 v23
  let c1_i32_93 : BitVec 32 := 1#32
  let v150 : BitVec 32 := Scalar.muli v24 c1_i32_93
  let v151 : BitVec 32 := Scalar.addi v149 v150
  v151.toNat
def k0_dev2 (d0 : Dev nD) : Nat :=
  let c0_i32_99 : BitVec 32 := 0#32
  let v33 : BitVec 32 := Dev.word d0
  let c4_i32_18 : BitVec 32 := 4#32
  let v34 : BitVec 32 := Scalar.divsi v33 c4_i32_18
  let c2_i32_17 : BitVec 32 := 2#32
  let v35 : BitVec 32 := Scalar.remsi v34 c2_i32_17
  let c4_i32_98 : BitVec 32 := 4#32
  let v158 : BitVec 32 := Scalar.muli v35 c4_i32_98
  let v159 : BitVec 32 := Scalar.addi c0_i32_99 v158
  let c1_i32_23 : BitVec 32 := 1#32
  let v36 : BitVec 32 := Dev.word d0
  let c2_i32_20 : BitVec 32 := 2#32
  let v37 : BitVec 32 := Scalar.divsi v36 c2_i32_20
  let c2_i32_19 : BitVec 32 := 2#32
  let v38 : BitVec 32 := Scalar.remsi v37 c2_i32_19
  let v42 : BitVec 32 := Scalar.subi c1_i32_23 v38
  let c2_i32_100 : BitVec 32 := 2#32
  let v160 : BitVec 32 := Scalar.muli v42 c2_i32_100
  let v161 : BitVec 32 := Scalar.addi v159 v160
  let v39 : BitVec 32 := Dev.word d0
  let c1_i32_22 : BitVec 32 := 1#32
  let v40 : BitVec 32 := Scalar.divsi v39 c1_i32_22
  let c2_i32_21 : BitVec 32 := 2#32
  let v41 : BitVec 32 := Scalar.remsi v40 c2_i32_21
  let c1_i32_101 : BitVec 32 := 1#32
  let v162 : BitVec 32 := Scalar.muli v41 c1_i32_101
  let v163 : BitVec 32 := Scalar.addi v161 v162
  v163.toNat
def k0_dev3 (d0 : Dev nD) : Nat :=
  let c0_i32_107 : BitVec 32 := 0#32
  let v51 : BitVec 32 := Dev.word d0
  let c4_i32_29 : BitVec 32 := 4#32
  let v52 : BitVec 32 := Scalar.divsi v51 c4_i32_29
  let c2_i32_28 : BitVec 32 := 2#32
  let v53 : BitVec 32 := Scalar.remsi v52 c2_i32_28
  let c4_i32_106 : BitVec 32 := 4#32
  let v170 : BitVec 32 := Scalar.muli v53 c4_i32_106
  let v171 : BitVec 32 := Scalar.addi c0_i32_107 v170
  let c1_i32_34 : BitVec 32 := 1#32
  let v54 : BitVec 32 := Dev.word d0
  let c2_i32_31 : BitVec 32 := 2#32
  let v55 : BitVec 32 := Scalar.divsi v54 c2_i32_31
  let c2_i32_30 : BitVec 32 := 2#32
  let v56 : BitVec 32 := Scalar.remsi v55 c2_i32_30
  let v60 : BitVec 32 := Scalar.subi c1_i32_34 v56
  let c2_i32_108 : BitVec 32 := 2#32
  let v172 : BitVec 32 := Scalar.muli v60 c2_i32_108
  let v173 : BitVec 32 := Scalar.addi v171 v172
  let c1_i32_35 : BitVec 32 := 1#32
  let v57 : BitVec 32 := Dev.word d0
  let c1_i32_33 : BitVec 32 := 1#32
  let v58 : BitVec 32 := Scalar.divsi v57 c1_i32_33
  let c2_i32_32 : BitVec 32 := 2#32
  let v59 : BitVec 32 := Scalar.remsi v58 c2_i32_32
  let v61 : BitVec 32 := Scalar.subi c1_i32_35 v59
  let c1_i32_109 : BitVec 32 := 1#32
  let v174 : BitVec 32 := Scalar.muli v61 c1_i32_109
  let v175 : BitVec 32 := Scalar.addi v173 v174
  v175.toNat
def k0_dev4 (d0 : Dev nD) : Nat :=
  let c0_i32_114 : BitVec 32 := 0#32
  let c1_i32_46 : BitVec 32 := 1#32
  let v70 : BitVec 32 := Dev.word d0
  let c4_i32_41 : BitVec 32 := 4#32
  let v71 : BitVec 32 := Scalar.divsi v70 c4_i32_41
  let c2_i32_40 : BitVec 32 := 2#32
  let v72 : BitVec 32 := Scalar.remsi v71 c2_i32_40
  let v79 : BitVec 32 := Scalar.subi c1_i32_46 v72
  let c4_i32_113 : BitVec 32 := 4#32
  let v182 : BitVec 32 := Scalar.muli v79 c4_i32_113
  let v183 : BitVec 32 := Scalar.addi c0_i32_114 v182
  let v73 : BitVec 32 := Dev.word d0
  let c2_i32_43 : BitVec 32 := 2#32
  let v74 : BitVec 32 := Scalar.divsi v73 c2_i32_43
  let c2_i32_42 : BitVec 32 := 2#32
  let v75 : BitVec 32 := Scalar.remsi v74 c2_i32_42
  let c2_i32_115 : BitVec 32 := 2#32
  let v184 : BitVec 32 := Scalar.muli v75 c2_i32_115
  let v185 : BitVec 32 := Scalar.addi v183 v184
  let v76 : BitVec 32 := Dev.word d0
  let c1_i32_45 : BitVec 32 := 1#32
  let v77 : BitVec 32 := Scalar.divsi v76 c1_i32_45
  let c2_i32_44 : BitVec 32 := 2#32
  let v78 : BitVec 32 := Scalar.remsi v77 c2_i32_44
  let c1_i32_116 : BitVec 32 := 1#32
  let v186 : BitVec 32 := Scalar.muli v78 c1_i32_116
  let v187 : BitVec 32 := Scalar.addi v185 v186
  v187.toNat
def k0_dev5 (d0 : Dev nD) : Nat :=
  let c0_i32_122 : BitVec 32 := 0#32
  let c1_i32_57 : BitVec 32 := 1#32
  let v88 : BitVec 32 := Dev.word d0
  let c4_i32_52 : BitVec 32 := 4#32
  let v89 : BitVec 32 := Scalar.divsi v88 c4_i32_52
  let c2_i32_51 : BitVec 32 := 2#32
  let v90 : BitVec 32 := Scalar.remsi v89 c2_i32_51
  let v97 : BitVec 32 := Scalar.subi c1_i32_57 v90
  let c4_i32_121 : BitVec 32 := 4#32
  let v194 : BitVec 32 := Scalar.muli v97 c4_i32_121
  let v195 : BitVec 32 := Scalar.addi c0_i32_122 v194
  let v91 : BitVec 32 := Dev.word d0
  let c2_i32_54 : BitVec 32 := 2#32
  let v92 : BitVec 32 := Scalar.divsi v91 c2_i32_54
  let c2_i32_53 : BitVec 32 := 2#32
  let v93 : BitVec 32 := Scalar.remsi v92 c2_i32_53
  let c2_i32_123 : BitVec 32 := 2#32
  let v196 : BitVec 32 := Scalar.muli v93 c2_i32_123
  let v197 : BitVec 32 := Scalar.addi v195 v196
  let c1_i32_58 : BitVec 32 := 1#32
  let v94 : BitVec 32 := Dev.word d0
  let c1_i32_56 : BitVec 32 := 1#32
  let v95 : BitVec 32 := Scalar.divsi v94 c1_i32_56
  let c2_i32_55 : BitVec 32 := 2#32
  let v96 : BitVec 32 := Scalar.remsi v95 c2_i32_55
  let v98 : BitVec 32 := Scalar.subi c1_i32_58 v96
  let c1_i32_124 : BitVec 32 := 1#32
  let v198 : BitVec 32 := Scalar.muli v98 c1_i32_124
  let v199 : BitVec 32 := Scalar.addi v197 v198
  v199.toNat
def k0_dev6 (d0 : Dev nD) : Nat :=
  let c0_i32_129 : BitVec 32 := 0#32
  let c1_i32_69 : BitVec 32 := 1#32
  let v107 : BitVec 32 := Dev.word d0
  let c4_i32_64 : BitVec 32 := 4#32
  let v108 : BitVec 32 := Scalar.divsi v107 c4_i32_64
  let c2_i32_63 : BitVec 32 := 2#32
  let v109 : BitVec 32 := Scalar.remsi v108 c2_i32_63
  let v116 : BitVec 32 := Scalar.subi c1_i32_69 v109
  let c4_i32_128 : BitVec 32 := 4#32
  let v206 : BitVec 32 := Scalar.muli v116 c4_i32_128
  let v207 : BitVec 32 := Scalar.addi c0_i32_129 v206
  let c1_i32_70 : BitVec 32 := 1#32
  let v110 : BitVec 32 := Dev.word d0
  let c2_i32_66 : BitVec 32 := 2#32
  let v111 : BitVec 32 := Scalar.divsi v110 c2_i32_66
  let c2_i32_65 : BitVec 32 := 2#32
  let v112 : BitVec 32 := Scalar.remsi v111 c2_i32_65
  let v117 : BitVec 32 := Scalar.subi c1_i32_70 v112
  let c2_i32_130 : BitVec 32 := 2#32
  let v208 : BitVec 32 := Scalar.muli v117 c2_i32_130
  let v209 : BitVec 32 := Scalar.addi v207 v208
  let v113 : BitVec 32 := Dev.word d0
  let c1_i32_68 : BitVec 32 := 1#32
  let v114 : BitVec 32 := Scalar.divsi v113 c1_i32_68
  let c2_i32_67 : BitVec 32 := 2#32
  let v115 : BitVec 32 := Scalar.remsi v114 c2_i32_67
  let c1_i32_131 : BitVec 32 := 1#32
  let v210 : BitVec 32 := Scalar.muli v115 c1_i32_131
  let v211 : BitVec 32 := Scalar.addi v209 v210
  v211.toNat
def k0_dev7 (d0 : Dev nD) : Nat :=
  let c0_i32_136 : BitVec 32 := 0#32
  let c1_i32_81 : BitVec 32 := 1#32
  let v126 : BitVec 32 := Dev.word d0
  let c4_i32_76 : BitVec 32 := 4#32
  let v127 : BitVec 32 := Scalar.divsi v126 c4_i32_76
  let c2_i32_75 : BitVec 32 := 2#32
  let v128 : BitVec 32 := Scalar.remsi v127 c2_i32_75
  let v135 : BitVec 32 := Scalar.subi c1_i32_81 v128
  let c4_i32_135 : BitVec 32 := 4#32
  let v218 : BitVec 32 := Scalar.muli v135 c4_i32_135
  let v219 : BitVec 32 := Scalar.addi c0_i32_136 v218
  let c1_i32_82 : BitVec 32 := 1#32
  let v129 : BitVec 32 := Dev.word d0
  let c2_i32_78 : BitVec 32 := 2#32
  let v130 : BitVec 32 := Scalar.divsi v129 c2_i32_78
  let c2_i32_77 : BitVec 32 := 2#32
  let v131 : BitVec 32 := Scalar.remsi v130 c2_i32_77
  let v136 : BitVec 32 := Scalar.subi c1_i32_82 v131
  let c2_i32_137 : BitVec 32 := 2#32
  let v220 : BitVec 32 := Scalar.muli v136 c2_i32_137
  let v221 : BitVec 32 := Scalar.addi v219 v220
  let c1_i32_83 : BitVec 32 := 1#32
  let v132 : BitVec 32 := Dev.word d0
  let c1_i32_80 : BitVec 32 := 1#32
  let v133 : BitVec 32 := Scalar.divsi v132 c1_i32_80
  let c2_i32_79 : BitVec 32 := 2#32
  let v134 : BitVec 32 := Scalar.remsi v133 c2_i32_79
  let v137 : BitVec 32 := Scalar.subi c1_i32_83 v134
  let c1_i32_138 : BitVec 32 := 1#32
  let v222 : BitVec 32 := Scalar.muli v137 c1_i32_138
  let v223 : BitVec 32 := Scalar.addi v221 v222
  v223.toNat
def k0_off2 (d0 : Dev nD) : Fin 3 → Nat :=
  let c4_i32_15 : BitVec 32 := 4#32
  let v15 : BitVec 32 := Dev.word d0
  let c4_i32_7 : BitVec 32 := 4#32
  let v16 : BitVec 32 := Scalar.divsi v15 c4_i32_7
  let c2_i32_6 : BitVec 32 := 2#32
  let v17 : BitVec 32 := Scalar.remsi v16 c2_i32_6
  let v29 : BitVec 32 := Scalar.muli c4_i32_15 v17
  let c2_i32_16 : BitVec 32 := 2#32
  let v18 : BitVec 32 := Dev.word d0
  let c2_i32_9 : BitVec 32 := 2#32
  let v19 : BitVec 32 := Scalar.divsi v18 c2_i32_9
  let c2_i32_8 : BitVec 32 := 2#32
  let v20 : BitVec 32 := Scalar.remsi v19 c2_i32_8
  let v30 : BitVec 32 := Scalar.muli c2_i32_16 v20
  let v31 : BitVec 32 := Scalar.addi v29 v30
  let c1_i32_12 : BitVec 32 := 1#32
  let v21 : BitVec 32 := Dev.word d0
  let c1_i32_11 : BitVec 32 := 1#32
  let v22 : BitVec 32 := Scalar.divsi v21 c1_i32_11
  let c2_i32_10 : BitVec 32 := 2#32
  let v23 : BitVec 32 := Scalar.remsi v22 c2_i32_10
  let v24 : BitVec 32 := Scalar.subi c1_i32_12 v23
  let v32 : BitVec 32 := Scalar.addi v31 v24
  let c0_i32_147 : BitVec 32 := 0#32
  let c0_i32_148 : BitVec 32 := 0#32
  ![v32.toNat, 0, 0]
def k0_off3 (d0 : Dev nD) : Fin 3 → Nat :=
  let c4_i32_26 : BitVec 32 := 4#32
  let v33 : BitVec 32 := Dev.word d0
  let c4_i32_18 : BitVec 32 := 4#32
  let v34 : BitVec 32 := Scalar.divsi v33 c4_i32_18
  let c2_i32_17 : BitVec 32 := 2#32
  let v35 : BitVec 32 := Scalar.remsi v34 c2_i32_17
  let v47 : BitVec 32 := Scalar.muli c4_i32_26 v35
  let c2_i32_27 : BitVec 32 := 2#32
  let c1_i32_23 : BitVec 32 := 1#32
  let v36 : BitVec 32 := Dev.word d0
  let c2_i32_20 : BitVec 32 := 2#32
  let v37 : BitVec 32 := Scalar.divsi v36 c2_i32_20
  let c2_i32_19 : BitVec 32 := 2#32
  let v38 : BitVec 32 := Scalar.remsi v37 c2_i32_19
  let v42 : BitVec 32 := Scalar.subi c1_i32_23 v38
  let v48 : BitVec 32 := Scalar.muli c2_i32_27 v42
  let v49 : BitVec 32 := Scalar.addi v47 v48
  let v39 : BitVec 32 := Dev.word d0
  let c1_i32_22 : BitVec 32 := 1#32
  let v40 : BitVec 32 := Scalar.divsi v39 c1_i32_22
  let c2_i32_21 : BitVec 32 := 2#32
  let v41 : BitVec 32 := Scalar.remsi v40 c2_i32_21
  let v50 : BitVec 32 := Scalar.addi v49 v41
  let c0_i32_155 : BitVec 32 := 0#32
  let c0_i32_156 : BitVec 32 := 0#32
  ![v50.toNat, 0, 0]
def k0_off4 (d0 : Dev nD) : Fin 3 → Nat :=
  let c4_i32_38 : BitVec 32 := 4#32
  let v51 : BitVec 32 := Dev.word d0
  let c4_i32_29 : BitVec 32 := 4#32
  let v52 : BitVec 32 := Scalar.divsi v51 c4_i32_29
  let c2_i32_28 : BitVec 32 := 2#32
  let v53 : BitVec 32 := Scalar.remsi v52 c2_i32_28
  let v66 : BitVec 32 := Scalar.muli c4_i32_38 v53
  let c2_i32_39 : BitVec 32 := 2#32
  let c1_i32_34 : BitVec 32 := 1#32
  let v54 : BitVec 32 := Dev.word d0
  let c2_i32_31 : BitVec 32 := 2#32
  let v55 : BitVec 32 := Scalar.divsi v54 c2_i32_31
  let c2_i32_30 : BitVec 32 := 2#32
  let v56 : BitVec 32 := Scalar.remsi v55 c2_i32_30
  let v60 : BitVec 32 := Scalar.subi c1_i32_34 v56
  let v67 : BitVec 32 := Scalar.muli c2_i32_39 v60
  let v68 : BitVec 32 := Scalar.addi v66 v67
  let c1_i32_35 : BitVec 32 := 1#32
  let v57 : BitVec 32 := Dev.word d0
  let c1_i32_33 : BitVec 32 := 1#32
  let v58 : BitVec 32 := Scalar.divsi v57 c1_i32_33
  let c2_i32_32 : BitVec 32 := 2#32
  let v59 : BitVec 32 := Scalar.remsi v58 c2_i32_32
  let v61 : BitVec 32 := Scalar.subi c1_i32_35 v59
  let v69 : BitVec 32 := Scalar.addi v68 v61
  let c0_i32_163 : BitVec 32 := 0#32
  let c0_i32_164 : BitVec 32 := 0#32
  ![v69.toNat, 0, 0]
def k0_off5 (d0 : Dev nD) : Fin 3 → Nat :=
  let c4_i32_49 : BitVec 32 := 4#32
  let c1_i32_46 : BitVec 32 := 1#32
  let v70 : BitVec 32 := Dev.word d0
  let c4_i32_41 : BitVec 32 := 4#32
  let v71 : BitVec 32 := Scalar.divsi v70 c4_i32_41
  let c2_i32_40 : BitVec 32 := 2#32
  let v72 : BitVec 32 := Scalar.remsi v71 c2_i32_40
  let v79 : BitVec 32 := Scalar.subi c1_i32_46 v72
  let v84 : BitVec 32 := Scalar.muli c4_i32_49 v79
  let c2_i32_50 : BitVec 32 := 2#32
  let v73 : BitVec 32 := Dev.word d0
  let c2_i32_43 : BitVec 32 := 2#32
  let v74 : BitVec 32 := Scalar.divsi v73 c2_i32_43
  let c2_i32_42 : BitVec 32 := 2#32
  let v75 : BitVec 32 := Scalar.remsi v74 c2_i32_42
  let v85 : BitVec 32 := Scalar.muli c2_i32_50 v75
  let v86 : BitVec 32 := Scalar.addi v84 v85
  let v76 : BitVec 32 := Dev.word d0
  let c1_i32_45 : BitVec 32 := 1#32
  let v77 : BitVec 32 := Scalar.divsi v76 c1_i32_45
  let c2_i32_44 : BitVec 32 := 2#32
  let v78 : BitVec 32 := Scalar.remsi v77 c2_i32_44
  let v87 : BitVec 32 := Scalar.addi v86 v78
  let c0_i32_171 : BitVec 32 := 0#32
  let c0_i32_172 : BitVec 32 := 0#32
  ![v87.toNat, 0, 0]
def k0_off6 (d0 : Dev nD) : Fin 3 → Nat :=
  let c4_i32_61 : BitVec 32 := 4#32
  let c1_i32_57 : BitVec 32 := 1#32
  let v88 : BitVec 32 := Dev.word d0
  let c4_i32_52 : BitVec 32 := 4#32
  let v89 : BitVec 32 := Scalar.divsi v88 c4_i32_52
  let c2_i32_51 : BitVec 32 := 2#32
  let v90 : BitVec 32 := Scalar.remsi v89 c2_i32_51
  let v97 : BitVec 32 := Scalar.subi c1_i32_57 v90
  let v103 : BitVec 32 := Scalar.muli c4_i32_61 v97
  let c2_i32_62 : BitVec 32 := 2#32
  let v91 : BitVec 32 := Dev.word d0
  let c2_i32_54 : BitVec 32 := 2#32
  let v92 : BitVec 32 := Scalar.divsi v91 c2_i32_54
  let c2_i32_53 : BitVec 32 := 2#32
  let v93 : BitVec 32 := Scalar.remsi v92 c2_i32_53
  let v104 : BitVec 32 := Scalar.muli c2_i32_62 v93
  let v105 : BitVec 32 := Scalar.addi v103 v104
  let c1_i32_58 : BitVec 32 := 1#32
  let v94 : BitVec 32 := Dev.word d0
  let c1_i32_56 : BitVec 32 := 1#32
  let v95 : BitVec 32 := Scalar.divsi v94 c1_i32_56
  let c2_i32_55 : BitVec 32 := 2#32
  let v96 : BitVec 32 := Scalar.remsi v95 c2_i32_55
  let v98 : BitVec 32 := Scalar.subi c1_i32_58 v96
  let v106 : BitVec 32 := Scalar.addi v105 v98
  let c0_i32_179 : BitVec 32 := 0#32
  let c0_i32_180 : BitVec 32 := 0#32
  ![v106.toNat, 0, 0]
def k0_off7 (d0 : Dev nD) : Fin 3 → Nat :=
  let c4_i32_73 : BitVec 32 := 4#32
  let c1_i32_69 : BitVec 32 := 1#32
  let v107 : BitVec 32 := Dev.word d0
  let c4_i32_64 : BitVec 32 := 4#32
  let v108 : BitVec 32 := Scalar.divsi v107 c4_i32_64
  let c2_i32_63 : BitVec 32 := 2#32
  let v109 : BitVec 32 := Scalar.remsi v108 c2_i32_63
  let v116 : BitVec 32 := Scalar.subi c1_i32_69 v109
  let v122 : BitVec 32 := Scalar.muli c4_i32_73 v116
  let c2_i32_74 : BitVec 32 := 2#32
  let c1_i32_70 : BitVec 32 := 1#32
  let v110 : BitVec 32 := Dev.word d0
  let c2_i32_66 : BitVec 32 := 2#32
  let v111 : BitVec 32 := Scalar.divsi v110 c2_i32_66
  let c2_i32_65 : BitVec 32 := 2#32
  let v112 : BitVec 32 := Scalar.remsi v111 c2_i32_65
  let v117 : BitVec 32 := Scalar.subi c1_i32_70 v112
  let v123 : BitVec 32 := Scalar.muli c2_i32_74 v117
  let v124 : BitVec 32 := Scalar.addi v122 v123
  let v113 : BitVec 32 := Dev.word d0
  let c1_i32_68 : BitVec 32 := 1#32
  let v114 : BitVec 32 := Scalar.divsi v113 c1_i32_68
  let c2_i32_67 : BitVec 32 := 2#32
  let v115 : BitVec 32 := Scalar.remsi v114 c2_i32_67
  let v125 : BitVec 32 := Scalar.addi v124 v115
  let c0_i32_187 : BitVec 32 := 0#32
  let c0_i32_188 : BitVec 32 := 0#32
  ![v125.toNat, 0, 0]
def k0_off8 (d0 : Dev nD) : Fin 3 → Nat :=
  let c4_i32_86 : BitVec 32 := 4#32
  let c1_i32_81 : BitVec 32 := 1#32
  let v126 : BitVec 32 := Dev.word d0
  let c4_i32_76 : BitVec 32 := 4#32
  let v127 : BitVec 32 := Scalar.divsi v126 c4_i32_76
  let c2_i32_75 : BitVec 32 := 2#32
  let v128 : BitVec 32 := Scalar.remsi v127 c2_i32_75
  let v135 : BitVec 32 := Scalar.subi c1_i32_81 v128
  let v142 : BitVec 32 := Scalar.muli c4_i32_86 v135
  let c2_i32_87 : BitVec 32 := 2#32
  let c1_i32_82 : BitVec 32 := 1#32
  let v129 : BitVec 32 := Dev.word d0
  let c2_i32_78 : BitVec 32 := 2#32
  let v130 : BitVec 32 := Scalar.divsi v129 c2_i32_78
  let c2_i32_77 : BitVec 32 := 2#32
  let v131 : BitVec 32 := Scalar.remsi v130 c2_i32_77
  let v136 : BitVec 32 := Scalar.subi c1_i32_82 v131
  let v143 : BitVec 32 := Scalar.muli c2_i32_87 v136
  let v144 : BitVec 32 := Scalar.addi v142 v143
  let c1_i32_83 : BitVec 32 := 1#32
  let v132 : BitVec 32 := Dev.word d0
  let c1_i32_80 : BitVec 32 := 1#32
  let v133 : BitVec 32 := Scalar.divsi v132 c1_i32_80
  let c2_i32_79 : BitVec 32 := 2#32
  let v134 : BitVec 32 := Scalar.remsi v133 c2_i32_79
  let v137 : BitVec 32 := Scalar.subi c1_i32_83 v134
  let v145 : BitVec 32 := Scalar.addi v144 v137
  let c0_i32_195 : BitVec 32 := 0#32
  let c0_i32_196 : BitVec 32 := 0#32
  ![v145.toNat, 0, 0]
-- ==== SmallReference.lean ====
abbrev S80x1024 : Shape := ⟨2, ![80, 1024]⟩
abbrev S8x10x1024 : Shape := ⟨3, ![8, 10, 1024]⟩

abbrev nBuf : Space → Nat
  | .hbm => 2
  | .vmem => 0
  | .smem => 0
  | _ => 0

abbrev bufTy : (tb : Table) → Fin (tcTables nBuf tb) → BufTy
  | .hbm, ⟨0, _⟩ => ⟨S80x1024, .f32⟩
  | .hbm, ⟨1, _⟩ => ⟨S8x10x1024, .f32⟩
  | _, _ => ⟨S80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GradX.lean ====
abbrev S8192x1024 : Shape := ⟨2, ![8192, 1024]⟩
abbrev S1024x1024 : Shape := ⟨2, ![1024, 1024]⟩
abbrev S512x1024 : Shape := ⟨2, ![512, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GradXReferenceIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩
abbrev S1x1 : Shape := ⟨2, ![1, 1]⟩
abbrev S_ : Shape := ⟨0, ![]⟩

abbrev nBuf : Space → Nat
  | .hbm => 21
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x128, .f32⟩
  | .hbm, ⟨8, _⟩ => ⟨S1x1024, .f32⟩
  | .hbm, ⟨9, _⟩ => ⟨S1x1024, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x128, .f32⟩
  | .local _ .vmem, ⟨13, _⟩ => ⟨S1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => false
  | ⟨16, _⟩ => false
  | _ => false

abbrev sig : RefSig :=
  ofTc nBuf bufTy 1 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v4_s0 : Ref sig .tc := ⟨.hbm, 13, rfl⟩
abbrev main_v4_s1 : Ref sig .tc := ⟨.hbm, 14, rfl⟩
abbrev main_v4_s2 : Ref sig .tc := ⟨.hbm, 15, rfl⟩
abbrev main_v4_s3 : Ref sig .tc := ⟨.hbm, 16, rfl⟩
abbrev main_v4_s4 : Ref sig .tc := ⟨.hbm, 17, rfl⟩
abbrev main_v4_s5 : Ref sig .tc := ⟨.hbm, 18, rfl⟩
abbrev main_v4_s6 : Ref sig .tc := ⟨.hbm, 19, rfl⟩
abbrev main_v4_s7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev ar0_recv : DmaSem sig := 15
abbrev ar0_send : DmaSem sig := 16
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v4_s0 | 1 => main_v4_s1 | 2 => main_v4_s2 | 3 => main_v4_s3 | 4 => main_v4_s4 | 5 => main_v4_s5 | 6 => main_v4_s6 | 7 => main_v4_s7 | ⟨_ + 8, h⟩ => absurd h (Nat.not_lt.2 (Nat.le_add_left _ _))

abbrev grid0 : Pipeline.Grid := ⟨1, ![32], ![false]⟩

def k0_cond1 (i : grid0.Coords) : BitVec 1 :=
  let arg0 : BitVec 32 := BitVec.ofNat 32 (i 0).val
  let c32_i32 : BitVec 32 := 32#32
  let c0_i32 : BitVec 32 := 0#32
  let v87 : BitVec 1 := Scalar.cmpi .eq c32_i32 c0_i32
  let c1_i32 : BitVec 32 := 1#32
  let v88 : BitVec 32 := Scalar.select v87 c1_i32 c32_i32
  let v89 : BitVec 32 := Scalar.remsi arg0 v88
  let c0_i32_35 : BitVec 32 := 0#32
  let v91 : BitVec 1 := Scalar.cmpi .slt v89 c0_i32_35
  let c0_i32_36 : BitVec 32 := 0#32
  let v92 : BitVec 1 := Scalar.cmpi .slt v88 c0_i32_36
  let v93 : BitVec 1 := Scalar.xori v91 v92
  let c0_i32_34 : BitVec 32 := 0#32
  let v90 : BitVec 1 := Scalar.cmpi .ne v89 c0_i32_34
  let v94 : BitVec 1 := Scalar.andi v93 v90
  let v95 : BitVec 32 := Scalar.addi v89 v88
  let v96 : BitVec 32 := Scalar.select v94 v95 v89
  let c0_i32_37 : BitVec 32 := 0#32
  let v97 : BitVec 1 := Scalar.cmpi .eq v96 c0_i32_37
  let v98 : BitVec 32 := Scalar.extui v97
  let c0_i32_38 : BitVec 32 := 0#32
  let v99 : BitVec 1 := Scalar.cmpi .ne v98 c0_i32_38
  v99

def k0_cond2 (i : grid0.Coords) : BitVec 1 :=
  let arg0 : BitVec 32 := BitVec.ofNat 32 (i 0).val
  let c32_i32 : BitVec 32 := 32#32
  let c0_i32 : BitVec 32 := 0#32
  let v87 : BitVec 1 := Scalar.cmpi .eq c32_i32 c0_i32
  let c1_i32 : BitVec 32 := 1#32
  let v88 : BitVec 32 := Scalar.select v87 c1_i32 c32_i32
  let v89 : BitVec 32 := Scalar.remsi arg0 v88
  let c0_i32_35 : BitVec 32 := 0#32
  let v91 : BitVec 1 := Scalar.cmpi .slt v89 c0_i32_35
  let c0_i32_36 : BitVec 32 := 0#32
  let v92 : BitVec 1 := Scalar.cmpi .slt v88 c0_i32_36
  let v93 : BitVec 1 := Scalar.xori v91 v92
  let c0_i32_34 : BitVec 32 := 0#32
  let v90 : BitVec 1 := Scalar.cmpi .ne v89 c0_i32_34
  let v94 : BitVec 1 := Scalar.andi v93 v90
  let v95 : BitVec 32 := Scalar.addi v89 v88
  let v96 : BitVec 32 := Scalar.select v94 v95 v89
  let c0_i32_37 : BitVec 32 := 0#32
  let v97 : BitVec 1 := Scalar.cmpi .eq v96 c0_i32_37
  let v_true : BitVec 1 := 1#1
  let v100 : BitVec 1 := Scalar.xori v97 v_true
  let v101 : BitVec 32 := Scalar.extui v100
  let c0_i32_39 : BitVec 32 := 0#32
  let v102 : BitVec 1 := Scalar.cmpi .ne v101 c0_i32_39
  v102

def k0_cond3 (i : grid0.Coords) : BitVec 1 :=
  let arg0 : BitVec 32 := BitVec.ofNat 32 (i 0).val
  let c32_i32 : BitVec 32 := 32#32
  let c0_i32 : BitVec 32 := 0#32
  let v87 : BitVec 1 := Scalar.cmpi .eq c32_i32 c0_i32
  let c1_i32 : BitVec 32 := 1#32
  let v88 : BitVec 32 := Scalar.select v87 c1_i32 c32_i32
  let v89 : BitVec 32 := Scalar.remsi arg0 v88
  let c0_i32_35 : BitVec 32 := 0#32
  let v91 : BitVec 1 := Scalar.cmpi .slt v89 c0_i32_35
  let c0_i32_36 : BitVec 32 := 0#32
  let v92 : BitVec 1 := Scalar.cmpi .slt v88 c0_i32_36
  let v93 : BitVec 1 := Scalar.xori v91 v92
  let c0_i32_34 : BitVec 32 := 0#32
  let v90 : BitVec 1 := Scalar.cmpi .ne v89 c0_i32_34
  let v94 : BitVec 1 := Scalar.andi v93 v90
  let v95 : BitVec 32 := Scalar.addi v89 v88
  let v96 : BitVec 32 := Scalar.select v94 v95 v89
  let c0_i32_37 : BitVec 32 := 0#32
  let v97 : BitVec 1 := Scalar.cmpi .eq v96 c0_i32_37
  let v103 : BitVec 32 := Scalar.extui v97
  let c0_i32_40 : BitVec 32 := 0#32
  let v104 : BitVec 1 := Scalar.cmpi .ne v103 c0_i32_40
  v104

def k0_cond4 (i : grid0.Coords) : BitVec 1 :=
  let arg0 : BitVec 32 := BitVec.ofNat 32 (i 0).val
  let c32_i32 : BitVec 32 := 32#32
  let c0_i32 : BitVec 32 := 0#32
  let v87 : BitVec 1 := Scalar.cmpi .eq c32_i32 c0_i32
  let c1_i32 : BitVec 32 := 1#32
  let v88 : BitVec 32 := Scalar.select v87 c1_i32 c32_i32
  let v89 : BitVec 32 := Scalar.remsi arg0 v88
  let c0_i32_35 : BitVec 32 := 0#32
  let v91 : BitVec 1 := Scalar.cmpi .slt v89 c0_i32_35
  let c0_i32_36 : BitVec 32 := 0#32
  let v92 : BitVec 1 := Scalar.cmpi .slt v88 c0_i32_36
  let v93 : BitVec 1 := Scalar.xori v91 v92
  let c0_i32_34 : BitVec 32 := 0#32
  let v90 : BitVec 1 := Scalar.cmpi .ne v89 c0_i32_34
  let v94 : BitVec 1 := Scalar.andi v93 v90
  let v95 : BitVec 32 := Scalar.addi v89 v88
  let v96 : BitVec 32 := Scalar.select v94 v95 v89
  let c0_i32_37 : BitVec 32 := 0#32
  let v97 : BitVec 1 := Scalar.cmpi .eq v96 c0_i32_37
  let true_41 : BitVec 1 := 1#1
  let v105 : BitVec 1 := Scalar.xori v97 true_41
  let v106 : BitVec 32 := Scalar.extui v105
  let c0_i32_42 : BitVec 32 := 0#32
  let v107 : BitVec 1 := Scalar.cmpi .ne v106 c0_i32_42
  v107

def k0_cond5 (i : grid0.Coords) : BitVec 1 :=
  let arg0 : BitVec 32 := BitVec.ofNat 32 (i 0).val
  let c32_i32 : BitVec 32 := 32#32
  let c0_i32 : BitVec 32 := 0#32
  let v87 : BitVec 1 := Scalar.cmpi .eq c32_i32 c0_i32
  let c1_i32 : BitVec 32 := 1#32
  let v88 : BitVec 32 := Scalar.select v87 c1_i32 c32_i32
  let v89 : BitVec 32 := Scalar.remsi arg0 v88
  let c0_i32_35 : BitVec 32 := 0#32
  let v91 : BitVec 1 := Scalar.cmpi .slt v89 c0_i32_35
  let c0_i32_36 : BitVec 32 := 0#32
  let v92 : BitVec 1 := Scalar.cmpi .slt v88 c0_i32_36
  let v93 : BitVec 1 := Scalar.xori v91 v92
  let c0_i32_34 : BitVec 32 := 0#32
  let v90 : BitVec 1 := Scalar.cmpi .ne v89 c0_i32_34
  let v94 : BitVec 1 := Scalar.andi v93 v90
  let v95 : BitVec 32 := Scalar.addi v89 v88
  let v96 : BitVec 32 := Scalar.select v94 v95 v89
  let c0_i32_37 : BitVec 32 := 0#32
  let v97 : BitVec 1 := Scalar.cmpi .eq v96 c0_i32_37
  let v108 : BitVec 32 := Scalar.extui v97
  let c0_i32_43 : BitVec 32 := 0#32
  let v109 : BitVec 1 := Scalar.cmpi .ne v108 c0_i32_43
  v109

def k0_cond6 (i : grid0.Coords) : BitVec 1 :=
  let arg0 : BitVec 32 := BitVec.ofNat 32 (i 0).val
  let c32_i32 : BitVec 32 := 32#32
  let c0_i32 : BitVec 32 := 0#32
  let v87 : BitVec 1 := Scalar.cmpi .eq c32_i32 c0_i32
  let c1_i32 : BitVec 32 := 1#32
  let v88 : BitVec 32 := Scalar.select v87 c1_i32 c32_i32
  let v89 : BitVec 32 := Scalar.remsi arg0 v88
  let c0_i32_35 : BitVec 32 := 0#32
  let v91 : BitVec 1 := Scalar.cmpi .slt v89 c0_i32_35
  let c0_i32_36 : BitVec 32 := 0#32
  let v92 : BitVec 1 := Scalar.cmpi .slt v88 c0_i32_36
  let v93 : BitVec 1 := Scalar.xori v91 v92
  let c0_i32_34 : BitVec 32 := 0#32
  let v90 : BitVec 1 := Scalar.cmpi .ne v89 c0_i32_34
  let v94 : BitVec 1 := Scalar.andi v93 v90
  let v95 : BitVec 32 := Scalar.addi v89 v88
  let v96 : BitVec 32 := Scalar.select v94 v95 v89
  let c0_i32_37 : BitVec 32 := 0#32
  let v97 : BitVec 1 := Scalar.cmpi .eq v96 c0_i32_37
  let true_44 : BitVec 1 := 1#1
  let v110 : BitVec 1 := Scalar.xori v97 true_44
  let v111 : BitVec 32 := Scalar.extui v110
  let c0_i32_45 : BitVec 32 := 0#32
  let v112 : BitVec 1 := Scalar.cmpi .ne v111 c0_i32_45
  v112

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossReferenceIdeal.lean ====
abbrev S65536x1024 : Shape := ⟨2, ![65536, 1024]⟩
abbrev S1x1024 : Shape := ⟨2, ![1, 1024]⟩
abbrev S_ : Shape := ⟨0, ![]⟩
abbrev S65536 : Shape := ⟨1, ![65536]⟩
abbrev S65536x1 : Shape := ⟨2, ![65536, 1]⟩

abbrev nBuf : Space → Nat
  | .hbm => 47
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S_, .f32⟩
  | .hbm, ⟨19, _⟩ => ⟨S65536, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x1, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S_, .f32⟩
  | .hbm, ⟨39, _⟩ => ⟨S65536, .f32⟩
  | .hbm, ⟨40, _⟩ => ⟨S_, .f32⟩
  | .hbm, ⟨41, _⟩ => ⟨S65536, .f32⟩
  | .hbm, ⟨42, _⟩ => ⟨S65536, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Memory.lean ====
abbrev S8192x768 : Shape := ⟨2, ![8192, 768]⟩
abbrev S8192x1024 : Shape := ⟨2, ![8192, 1024]⟩
abbrev S2x256x512 : Shape := ⟨3, ![2, 256, 512]⟩
abbrev S1x768 : Shape := ⟨2, ![1, 768]⟩
abbrev S512x768 : Shape := ⟨2, ![512, 768]⟩
abbrev S512x256 : Shape := ⟨2, ![512, 256]⟩
abbrev S1x256x512 : Shape := ⟨3, ![1, 256, 512]⟩
abbrev S512x1024 : Shape := ⟨2, ![512, 1024]⟩
abbrev S256x512 : Shape := ⟨2, ![256, 512]⟩
abbrev S256x256 : Shape := ⟨2, ![256, 256]⟩
abbrev S1x256 : Shape := ⟨2, ![1, 256]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x768, .f32⟩
  | .hbm, ⟨1, _⟩ => ⟨S8192x1024, .f32⟩
  | .hbm, ⟨2, _⟩ => ⟨S2x256x512, .f32⟩
  | .hbm, ⟨3, _⟩ => ⟨S1x768, .f32⟩
  | .hbm, ⟨4, _⟩ => ⟨S8192x1024, .f32⟩
  | .local _ .vmem, ⟨0, _⟩ => ⟨S512x768, .f32⟩
  | .local _ .vmem, ⟨1, _⟩ => ⟨S512x768, .f32⟩
  | .local _ .vmem, ⟨2, _⟩ => ⟨S512x256, .f32⟩
  | .local _ .vmem, ⟨3, _⟩ => ⟨S512x256, .f32⟩
  | .local _ .vmem, ⟨4, _⟩ => ⟨S1x256x512, .f32⟩
  | .local _ .vmem, ⟨5, _⟩ => ⟨S1x256x512, .f32⟩
  | .local _ .vmem, ⟨6, _⟩ => ⟨S1x768, .f32⟩
  | .local _ .vmem, ⟨7, _⟩ => ⟨S512x1024, .f32⟩
  | .local _ .vmem, ⟨8, _⟩ => ⟨S512x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemoryReferenceIdeal.lean ====
abbrev S8192x768 : Shape := ⟨2, ![8192, 768]⟩
abbrev S8192x1024 : Shape := ⟨2, ![8192, 1024]⟩
abbrev S2x256x512 : Shape := ⟨3, ![2, 256, 512]⟩
abbrev S1x768 : Shape := ⟨2, ![1, 768]⟩
abbrev S8192x256 : Shape := ⟨2, ![8192, 256]⟩
abbrev S2x4096x4x64 : Shape := ⟨4, ![2, 4096, 4, 64]⟩
abbrev S2x256x256 : Shape := ⟨3, ![2, 256, 256]⟩
abbrev S2x256x4x64 : Shape := ⟨4, ![2, 256, 4, 64]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x64x4096 : Shape := ⟨4, ![2, 4, 64, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x1024, .f32⟩
  | .hbm, ⟨2, _⟩ => ⟨S2x256x512, .f32⟩
  | .hbm, ⟨3, _⟩ => ⟨S1x768, .f32⟩
  | .hbm, ⟨4, _⟩ => ⟨S8192x256, .f32⟩
  | .hbm, ⟨5, _⟩ => ⟨S2x4096x4x64, .f32⟩
  | .hbm, ⟨6, _⟩ => ⟨S2x256x256, .f32⟩
  | .hbm, ⟨7, _⟩ => ⟨S2x256x4x64, .f32⟩
  | .hbm, ⟨8, _⟩ => ⟨S2x256x256, .f32⟩
  | .hbm, ⟨9, _⟩ => ⟨S2x256x4x64, .f32⟩
  | .hbm, ⟨10, _⟩ => ⟨S2x4x4096x256, .f32⟩
  | .hbm, ⟨11, _⟩ => ⟨S_, .f32⟩
  | .hbm, ⟨12, _⟩ => ⟨S2x4x4096x256, .f32⟩
  | .hbm, ⟨13, _⟩ => ⟨S2x4x4096x256, .f32⟩
  | .hbm, ⟨14, _⟩ => ⟨S_, .f32⟩
  | .hbm, ⟨15, _⟩ => ⟨S2x4x4096, .f32⟩
  | .hbm, ⟨16, _⟩ => ⟨S_, .f32⟩
  | .hbm, ⟨17, _⟩ => ⟨S2x4x4096, .f32⟩
  | .hbm, ⟨18, _⟩ => ⟨S2x4x4096, .f32⟩
  | .hbm, ⟨19, _⟩ => ⟨S2x4x4096x1, .f32⟩
  | .hbm, ⟨20, _⟩ => ⟨S2x4x4096x256, .f32⟩
  | .hbm, ⟨21, _⟩ => ⟨S2x4x4096x256, .f32⟩
  | .hbm, ⟨22, _⟩ => ⟨S2x4x4096x256, .f32⟩
  | .hbm, ⟨23, _⟩ => ⟨S_, .f32⟩
  | .hbm, ⟨24, _⟩ => ⟨S2x4x4096, .f32⟩
  | .hbm, ⟨25, _⟩ => ⟨S2x4x4096x1, .f32⟩
  | .hbm, ⟨26, _⟩ => ⟨S2x4x4096x256, .f32⟩
  | .hbm, ⟨27, _⟩ => ⟨S2x4x4096x256, .f32⟩
  | .hbm, ⟨28, _⟩ => ⟨S2x4x64x4096, .f32⟩
  | .hbm, ⟨29, _⟩ => ⟨S2x4096x4x64, .f32⟩
  | .hbm, ⟨30, _⟩ => ⟨S8192x768, .f32⟩
  | .hbm, ⟨31, _⟩ => ⟨S8192x768, .f32⟩
  | .hbm, ⟨32, _⟩ => ⟨S8192x256, .f32⟩
  | .hbm, ⟨33, _⟩ => ⟨S8192x1024, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Mix.lean ====
abbrev S8192x1024 : Shape := ⟨2, ![8192, 1024]⟩
abbrev S1024x1024 : Shape := ⟨2, ![1024, 1024]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixReferenceIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== ConvGate.lean ====
abbrev S2x4096x5632 : Shape := ⟨3, ![2, 4096, 5632]⟩
abbrev S8x5632 : Shape := ⟨2, ![8, 5632]⟩
abbrev S1x5632 : Shape := ⟨2, ![1, 5632]⟩
abbrev S2x4096x2816 : Shape := ⟨3, ![2, 4096, 2816]⟩
abbrev S1x4096x128 : Shape := ⟨3, ![1, 4096, 128]⟩
abbrev S8x128 : Shape := ⟨2, ![8, 128]⟩
abbrev S1x128 : Shape := ⟨2, ![1, 128]⟩
abbrev S1x512x128 : Shape := ⟨3, ![1, 512, 128]⟩
abbrev S512x128 : Shape := ⟨2, ![512, 128]⟩
abbrev S520x128 : Shape := ⟨2, ![520, 128]⟩
abbrev S1x520x128 : Shape := ⟨3, ![1, 520, 128]⟩

abbrev nBuf : Space → Nat
  | .hbm => 4
  | .vmem => 14
  | .smem => 0
  | _ => 0

abbrev bufTy : (tb : Table) → Fin (tcTables nBuf tb) → BufTy
  | .hbm, ⟨0, _⟩ => ⟨S2x4096x5632, .f32⟩
  | .hbm, ⟨1, _⟩ => ⟨S8x5632, .f32⟩
  | .hbm, ⟨2, _⟩ => ⟨S1x5632, .f32⟩
  | .hbm, ⟨3, _⟩ => ⟨S2x4096x2816, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x4096x128, .f32⟩
  | .local _ .vmem, ⟨13, _⟩ => ⟨S1x4096x128, .f32⟩
  | _, _ => ⟨S2x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 22], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvGateReferenceIdeal.lean ====
abbrev S2x4096x5632 : Shape := ⟨3, ![2, 4096, 5632]⟩
abbrev S8x5632 : Shape := ⟨2, ![8, 5632]⟩
abbrev S1x5632 : Shape := ⟨2, ![1, 5632]⟩
abbrev S_ : Shape := ⟨0, ![]⟩
abbrev S2x4098x5632 : Shape := ⟨3, ![2, 4098, 5632]⟩
abbrev S5632 : Shape := ⟨1, ![5632]⟩
abbrev S1x1x5632 : Shape := ⟨3, ![1, 1, 5632]⟩
abbrev S2x4096x2816 : Shape := ⟨3, ![2, 4096, 2816]⟩

abbrev nBuf : Space → Nat
  | .hbm => 41
  | .vmem => 0
  | .smem => 0
  | _ => 0

abbrev bufTy : (tb : Table) → Fin (tcTables nBuf tb) → BufTy
  | .hbm, ⟨0, _⟩ => ⟨S2x4096x5632, .f32⟩
  | .hbm, ⟨1, _⟩ => ⟨S8x5632, .f32⟩
  | .hbm, ⟨2, _⟩ => ⟨S1x5632, .f32⟩
  | .hbm, ⟨3, _⟩ => ⟨S_, .i32⟩
  | .hbm, ⟨4, _⟩ => ⟨S_, .f32⟩
  | .hbm, ⟨5, _⟩ => ⟨S2x4098x5632, .f32⟩
  | .hbm, ⟨6, _⟩ => ⟨S1x5632, .f32⟩
  | .hbm, ⟨7, _⟩ => ⟨S5632, .f32⟩
  | .hbm, ⟨8, _⟩ => ⟨S2x4096x5632, .f32⟩
  | .hbm, ⟨9, _⟩ => ⟨S1x1x5632, .f32⟩
  | .hbm, ⟨10, _⟩ => ⟨S2x4096x5632, .f32⟩
  | .hbm, ⟨11, _⟩ => ⟨S2x4096x5632, .f32⟩
  | .hbm, ⟨12, _⟩ => ⟨S1x5632, .f32⟩
  | .hbm, ⟨13, _⟩ => ⟨S5632, .f32⟩
  | .hbm, ⟨14, _⟩ => ⟨S2x4096x5632, .f32⟩
  | .hbm, ⟨15, _⟩ => ⟨S1x1x5632, .f32⟩
  | .hbm, ⟨16, _⟩ => ⟨S2x4096x5632, .f32⟩
  | .hbm, ⟨17, _⟩ => ⟨S2x4096x5632, .f32⟩
  | .hbm, ⟨18, _⟩ => ⟨S2x4096x5632, .f32⟩
  | .hbm, ⟨19, _⟩ => ⟨S1x5632, .f32⟩
  | .hbm, ⟨20, _⟩ => ⟨S5632, .f32⟩
  | .hbm, ⟨21, _⟩ => ⟨S2x4096x5632, .f32⟩
  | .hbm, ⟨22, _⟩ => ⟨S1x1x5632, .f32⟩
  | .hbm, ⟨23, _⟩ => ⟨S2x4096x5632, .f32⟩
  | .hbm, ⟨24, _⟩ => ⟨S2x4096x5632, .f32⟩
  | .hbm, ⟨25, _⟩ => ⟨S2x4096x5632, .f32⟩
  | .hbm, ⟨26, _⟩ => ⟨S1x1x5632, .f32⟩
  | .hbm, ⟨27, _⟩ => ⟨S2x4096x5632, .f32⟩
  | .hbm, ⟨28, _⟩ => ⟨S2x4096x5632, .f32⟩
  | .hbm, ⟨29, _⟩ => ⟨S2x4096x2816, .f32⟩
  | .hbm, ⟨30, _⟩ => ⟨S2x4096x2816, .f32⟩
  | .hbm, ⟨31, _⟩ => ⟨S2x4096x2816, .f32⟩
  | .hbm, ⟨32, _⟩ => ⟨S2x4096x2816, .f32⟩
  | .hbm, ⟨33, _⟩ => ⟨S_, .f32⟩
  | .hbm, ⟨34, _⟩ => ⟨S2x4096x2816, .f32⟩
  | .hbm, ⟨35, _⟩ => ⟨S2x4096x2816, .f32⟩
  | .hbm, ⟨36, _⟩ => ⟨S_, .f32⟩
  | .hbm, ⟨37, _⟩ => ⟨S2x4096x2816, .f32⟩
  | .hbm, ⟨38, _⟩ => ⟨S2x4096x2816, .f32⟩
  | .hbm, ⟨39, _⟩ => ⟨S2x4096x2816, .f32⟩
  | .hbm, ⟨40, _⟩ => ⟨S2x4096x2816, .f32⟩
  | _, _ => ⟨S2x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x5632 : Shape := ⟨2, ![8192, 5632]⟩
abbrev S512x1024 : Shape := ⟨2, ![512, 1024]⟩
abbrev S1024x1408 : Shape := ⟨2, ![1024, 1408]⟩
abbrev S512x1408 : Shape := ⟨2, ![512, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .bf16⟩
  | .hbm, ⟨2, _⟩ => ⟨S8192x5632, .f32⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .bf16⟩
  | .hbm, ⟨2, _⟩ => ⟨S1024x5632, .f32⟩
  | .hbm, ⟨3, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S2816x1024, .bf16⟩
  | .hbm, ⟨2, _⟩ => ⟨S8192x1024, .f32⟩
  | .local _ .vmem, ⟨0, _⟩ => ⟨S512x2816, .f32⟩
  | .local _ .vmem, ⟨1, _⟩ => ⟨S512x2816, .f32⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .bf16⟩
  | .hbm, ⟨2, _⟩ => ⟨S2816x1024, .f32⟩
  | .hbm, ⟨3, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Keys.lean ====
abbrev S512x1024 : Shape := ⟨2, ![512, 1024]⟩
abbrev S1024x512 : Shape := ⟨2, ![1024, 512]⟩
abbrev S512x512 : Shape := ⟨2, ![512, 512]⟩
abbrev S8x128 : Shape := ⟨2, ![8, 128]⟩

abbrev nBuf : Space → Nat
  | .hbm => 3
  | .vmem => 4
  | .smem => 0
  | _ => 0

abbrev bufTy : (tb : Table) → Fin (tcTables nBuf tb) → BufTy
  | .hbm, ⟨0, _⟩ => ⟨S512x1024, .f32⟩
  | .hbm, ⟨1, _⟩ => ⟨S1024x512, .bf16⟩
  | .hbm, ⟨2, _⟩ => ⟨S512x512, .f32⟩
  | .local _ .vmem, ⟨0, _⟩ => ⟨S512x1024, .f32⟩
  | .local _ .vmem, ⟨1, _⟩ => ⟨S1024x512, .bf16⟩
  | .local _ .vmem, ⟨2, _⟩ => ⟨S512x512, .f32⟩
  | .local _ .vmem, ⟨3, _⟩ => ⟨S8x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KeysReferenceIdeal.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x512, .bf16⟩
  | .hbm, ⟨2, _⟩ => ⟨S1024x512, .f32⟩
  | .hbm, ⟨3, _⟩ => ⟨S512x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Shared.lean ====
abbrev S8192x1024 : Shape := ⟨2, ![8192, 1024]⟩
abbrev S1024x1664 : Shape := ⟨2, ![1024, 1664]⟩
abbrev S8192x1664 : Shape := ⟨2, ![8192, 1664]⟩
abbrev S512x1024 : Shape := ⟨2, ![512, 1024]⟩
abbrev S512x1664 : Shape := ⟨2, ![512, 1664]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1664, .bf16⟩
  | .hbm, ⟨2, _⟩ => ⟨S8192x1664, .f32⟩
  | .local _ .vmem, ⟨0, _⟩ => ⟨S512x1024, .f32⟩
  | .local _ .vmem, ⟨1, _⟩ => ⟨S512x1024, .f32⟩
  | .local _ .vmem, ⟨2, _⟩ => ⟨S1024x1664, .bf16⟩
  | .local _ .vmem, ⟨3, _⟩ => ⟨S512x1664, .f32⟩
  | .local _ .vmem, ⟨4, _⟩ => ⟨S512x1664, .f32⟩
  | .local _ .vmem, ⟨5, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SharedReferenceIdeal.lean ====
abbrev S8192x1024 : Shape := ⟨2, ![8192, 1024]⟩
abbrev S1024x1664 : Shape := ⟨2, ![1024, 1664]⟩
abbrev S8192x1664 : Shape := ⟨2, ![8192, 1664]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1664, .bf16⟩
  | .hbm, ⟨2, _⟩ => ⟨S1024x1664, .f32⟩
  | .hbm, ⟨3, _⟩ => ⟨S8192x1664, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Pooled.lean ====
abbrev S8192x768 : Shape := ⟨2, ![8192, 768]⟩
abbrev S768x768 : Shape := ⟨2, ![768, 768]⟩
abbrev S512x768 : Shape := ⟨2, ![512, 768]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x768, .f32⟩
  | .hbm, ⟨1, _⟩ => ⟨S768x768, .bf16⟩
  | .hbm, ⟨2, _⟩ => ⟨S8192x768, .f32⟩
  | .local _ .vmem, ⟨0, _⟩ => ⟨S512x768, .f32⟩
  | .local _ .vmem, ⟨1, _⟩ => ⟨S512x768, .f32⟩
  | .local _ .vmem, ⟨2, _⟩ => ⟨S768x768, .bf16⟩
  | .local _ .vmem, ⟨3, _⟩ => ⟨S512x768, .f32⟩
  | .local _ .vmem, ⟨4, _⟩ => ⟨S512x768, .f32⟩
  | .local _ .vmem, ⟨5, _⟩ => ⟨S8x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PooledReferenceIdeal.lean ====
abbrev S8192x768 : Shape := ⟨2, ![8192, 768]⟩
abbrev S768x768 : Shape := ⟨2, ![768, 768]⟩

abbrev nBuf : Space → Nat
  | .hbm => 4
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S768x768, .bf16⟩
  | .hbm, ⟨2, _⟩ => ⟨S768x768, .f32⟩
  | .hbm, ⟨3, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixDx.lean ====
abbrev S8192x1024 : Shape := ⟨2, ![8192, 1024]⟩
abbrev S1024x1024 : Shape := ⟨2, ![1024, 1024]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDxReferenceIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .f32⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | .local _ .vmem, ⟨5, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S2816x1024, .f32⟩
  | .hbm, ⟨3, _⟩ => ⟨S1024x2816, .f32⟩
  | .hbm, ⟨4, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SharedDx.lean ====
abbrev S8192x1664 : Shape := ⟨2, ![8192, 1664]⟩
abbrev S1024x1664 : Shape := ⟨2, ![1024, 1664]⟩
abbrev S8192x1024 : Shape := ⟨2, ![8192, 1024]⟩
abbrev S512x1664 : Shape := ⟨2, ![512, 1664]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1664, .f32⟩
  | .hbm, ⟨1, _⟩ => ⟨S1024x1664, .bf16⟩
  | .hbm, ⟨2, _⟩ => ⟨S8192x1024, .f32⟩
  | .local _ .vmem, ⟨0, _⟩ => ⟨S512x1664, .f32⟩
  | .local _ .vmem, ⟨1, _⟩ => ⟨S512x1664, .f32⟩
  | .local _ .vmem, ⟨2, _⟩ => ⟨S1024x1664, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S8192x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SharedDxReferenceIdeal.lean ====
abbrev S8192x1664 : Shape := ⟨2, ![8192, 1664]⟩
abbrev S1024x1664 : Shape := ⟨2, ![1024, 1664]⟩
abbrev S1664x1024 : Shape := ⟨2, ![1664, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1664, .f32⟩
  | .hbm, ⟨1, _⟩ => ⟨S1024x1664, .bf16⟩
  | .hbm, ⟨2, _⟩ => ⟨S1024x1664, .f32⟩
  | .hbm, ⟨3, _⟩ => ⟨S1664x1024, .f32⟩
  | .hbm, ⟨4, _⟩ => ⟨S8192x1024, .f32⟩
  | _, _ => ⟨S8192x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PooledDx.lean ====
abbrev S8192x768 : Shape := ⟨2, ![8192, 768]⟩
abbrev S768x768 : Shape := ⟨2, ![768, 768]⟩
abbrev S512x768 : Shape := ⟨2, ![512, 768]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x768, .f32⟩
  | .hbm, ⟨1, _⟩ => ⟨S768x768, .bf16⟩
  | .hbm, ⟨2, _⟩ => ⟨S8192x768, .f32⟩
  | .local _ .vmem, ⟨0, _⟩ => ⟨S512x768, .f32⟩
  | .local _ .vmem, ⟨1, _⟩ => ⟨S512x768, .f32⟩
  | .local _ .vmem, ⟨2, _⟩ => ⟨S768x768, .bf16⟩
  | .local _ .vmem, ⟨3, _⟩ => ⟨S512x768, .f32⟩
  | .local _ .vmem, ⟨4, _⟩ => ⟨S512x768, .f32⟩
  | .local _ .vmem, ⟨5, _⟩ => ⟨S8x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PooledDxReferenceIdeal.lean ====
abbrev S8192x768 : Shape := ⟨2, ![8192, 768]⟩
abbrev S768x768 : Shape := ⟨2, ![768, 768]⟩

abbrev nBuf : Space → Nat
  | .hbm => 5
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S768x768, .bf16⟩
  | .hbm, ⟨2, _⟩ => ⟨S768x768, .f32⟩
  | .hbm, ⟨3, _⟩ => ⟨S768x768, .f32⟩
  | .hbm, ⟨4, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixDw.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwReferenceIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x8192, .f32⟩
  | .hbm, ⟨3, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x1024, .f32⟩
  | .local _ .vmem, ⟨0, _⟩ => ⟨S512x1408, .f32⟩
  | .local _ .vmem, ⟨1, _⟩ => ⟨S512x1408, .f32⟩
  | .local _ .vmem, ⟨2, _⟩ => ⟨S512x1024, .f32⟩
  | .local _ .vmem, ⟨3, _⟩ => ⟨S512x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x8192, .f32⟩
  | .hbm, ⟨3, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UpDw.lean ====
abbrev S8192x1024 : Shape := ⟨2, ![8192, 1024]⟩
abbrev S8192x5632 : Shape := ⟨2, ![8192, 5632]⟩
abbrev S1024x5632 : Shape := ⟨2, ![1024, 5632]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1024x5632, .f32⟩
  | .local _ .vmem, ⟨0, _⟩ => ⟨S512x1024, .f32⟩
  | .local _ .vmem, ⟨1, _⟩ => ⟨S512x1024, .f32⟩
  | .local _ .vmem, ⟨2, _⟩ => ⟨S512x1408, .f32⟩
  | .local _ .vmem, ⟨3, _⟩ => ⟨S512x1408, .f32⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S8192x1024 : Shape := ⟨2, ![8192, 1024]⟩
abbrev S8192x5632 : Shape := ⟨2, ![8192, 5632]⟩
abbrev S1024x8192 : Shape := ⟨2, ![1024, 8192]⟩
abbrev S1024x5632 : Shape := ⟨2, ![1024, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1024x8192, .f32⟩
  | .hbm, ⟨3, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SharedDw.lean ====
abbrev S8192x1024 : Shape := ⟨2, ![8192, 1024]⟩
abbrev S8192x1664 : Shape := ⟨2, ![8192, 1664]⟩
abbrev S1024x1664 : Shape := ⟨2, ![1024, 1664]⟩
abbrev S512x1024 : Shape := ⟨2, ![512, 1024]⟩
abbrev S512x1664 : Shape := ⟨2, ![512, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1664, .f32⟩
  | .hbm, ⟨2, _⟩ => ⟨S1024x1664, .f32⟩
  | .local _ .vmem, ⟨0, _⟩ => ⟨S512x1024, .f32⟩
  | .local _ .vmem, ⟨1, _⟩ => ⟨S512x1024, .f32⟩
  | .local _ .vmem, ⟨2, _⟩ => ⟨S512x1664, .f32⟩
  | .local _ .vmem, ⟨3, _⟩ => ⟨S512x1664, .f32⟩
  | .local _ .vmem, ⟨4, _⟩ => ⟨S1024x1664, .f32⟩
  | .local _ .vmem, ⟨5, _⟩ => ⟨S1024x1664, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SharedDwReferenceIdeal.lean ====
abbrev S8192x1024 : Shape := ⟨2, ![8192, 1024]⟩
abbrev S8192x1664 : Shape := ⟨2, ![8192, 1664]⟩
abbrev S1024x8192 : Shape := ⟨2, ![1024, 8192]⟩
abbrev S1024x1664 : Shape := ⟨2, ![1024, 1664]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1664, .f32⟩
  | .hbm, ⟨2, _⟩ => ⟨S1024x8192, .f32⟩
  | .hbm, ⟨3, _⟩ => ⟨S1024x1664, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== PooledDw.lean ====
abbrev S8192x768 : Shape := ⟨2, ![8192, 768]⟩
abbrev S768x768 : Shape := ⟨2, ![768, 768]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S768x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S768x768, .f32⟩
  | .local _ .vmem, ⟨5, _⟩ => ⟨S768x768, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PooledDwReferenceIdeal.lean ====
abbrev S8192x768 : Shape := ⟨2, ![8192, 768]⟩
abbrev S768x8192 : Shape := ⟨2, ![768, 8192]⟩
abbrev S768x768 : Shape := ⟨2, ![768, 768]⟩

abbrev nBuf : Space → Nat
  | .hbm => 4
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S768x8192, .f32⟩
  | .hbm, ⟨3, _⟩ => ⟨S768x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UpDx.lean ====
abbrev S8192x5632 : Shape := ⟨2, ![8192, 5632]⟩
abbrev S1024x5632 : Shape := ⟨2, ![1024, 5632]⟩
abbrev S8192x1024 : Shape := ⟨2, ![8192, 1024]⟩
abbrev S512x1408 : Shape := ⟨2, ![512, 1408]⟩
abbrev S1024x1408 : Shape := ⟨2, ![1024, 1408]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S1024x5632, .bf16⟩
  | .hbm, ⟨2, _⟩ => ⟨S8192x1024, .f32⟩
  | .local _ .vmem, ⟨0, _⟩ => ⟨S512x1408, .f32⟩
  | .local _ .vmem, ⟨1, _⟩ => ⟨S512x1408, .f32⟩
  | .local _ .vmem, ⟨2, _⟩ => ⟨S1024x1408, .bf16⟩
  | .local _ .vmem, ⟨3, _⟩ => ⟨S1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S8192x5632 : Shape := ⟨2, ![8192, 5632]⟩
abbrev S1024x5632 : Shape := ⟨2, ![1024, 5632]⟩
abbrev S5632x1024 : Shape := ⟨2, ![5632, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1024x5632, .bf16⟩
  | .hbm, ⟨2, _⟩ => ⟨S1024x5632, .f32⟩
  | .hbm, ⟨3, _⟩ => ⟨S5632x1024, .f32⟩
  | .hbm, ⟨4, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KeysDw.lean ====
abbrev S512x1024 : Shape := ⟨2, ![512, 1024]⟩
abbrev S512x512 : Shape := ⟨2, ![512, 512]⟩
abbrev S1024x512 : Shape := ⟨2, ![1024, 512]⟩
abbrev S8x128 : Shape := ⟨2, ![8, 128]⟩

abbrev nBuf : Space → Nat
  | .hbm => 3
  | .vmem => 4
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S1024x512, .f32⟩
  | .local _ .vmem, ⟨0, _⟩ => ⟨S512x1024, .f32⟩
  | .local _ .vmem, ⟨1, _⟩ => ⟨S512x512, .f32⟩
  | .local _ .vmem, ⟨2, _⟩ => ⟨S1024x512, .f32⟩
  | .local _ .vmem, ⟨3, _⟩ => ⟨S8x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KeysDwReferenceIdeal.lean ====
abbrev S512x1024 : Shape := ⟨2, ![512, 1024]⟩
abbrev S512x512 : Shape := ⟨2, ![512, 512]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S1024x512, .f32⟩
  | .hbm, ⟨3, _⟩ => ⟨S1024x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Launch.lean ====
/- The launch of a program whose first operation already moves data between devices, with no handshake before it.
   A device may then receive a block before it has begun its own first operation, so the counters the blocks arrive on
   must be in shared cells from the launch on: they cannot wait in each device's own holdings. The theorem below hands
   the whole launch state of every device to the certificate at once (`hinit`), the counters included, and asks for one
   run of the program per device from what the certificate made of it. -/
module

public import Idealize.ShloMosaic.Lib.Pipeline.Regions
public import Idealize.ShloMosaic.Lib.Quiescent

@[expose] public section

noncomputable section

namespace Cert.Launch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (launchCred owing)

set_option Elab.async false

variable {nD : Nat} {τ : Topo} {sig : RefSig} {Val : EltTy → Type} {Λ : Idealize.SL.Sem.Labels}
variable {U : Type} [URA U]

local notation "𝕄" => MT nD τ sig Unit Val ℕ U ℕ

/-- Everything device `c` holds at launch: its private buffers and counters, the buffers the host knows, its
    obligations and the credit others owe it. -/
def held (O₀ : Dev nD → CellTallies nD τ sig Unit) (m : (ℓ : Loc nD τ sig) → Buf Val ℓ) (g : Dev nD → PrngReg) (c : Dev nD) : sProp 𝕄 :=
  iprop(boundary (c.tc : Thread nD τ) ∗ unscopedBufs c (fun b => m ((c.tc : Thread nD τ).loc b)) ∗ unscopedSems0 c
    ∗ owes (c.tc : Thread nD τ) (O₀ c) ∅ ∗ launchCred O₀ c ∗ prngReg c (g c))

/-- The level facts of all cells out of every device's unset levels: only the host threads' cells get any. -/
theorem levels_set (L : GSem nD τ sig → Finset Unit) (lv : GSem nD τ sig → Unit → ℕ) (hL : ∀ g : GSem nD τ sig, g.1.2 ≠ .tc → L g = ∅) :
    (bigSep Finset.univ fun c : Dev nD => (levels0 c : sProp 𝕄)) ⊢ |==> levAts L lv := by
  have hone (c : Dev nD) : (levels0 c : sProp 𝕄) ⊢ |==> coreLevAts (c.tc : Thread nD τ) L lv := by
    refine (lev_assign_cells (c.tc : Thread nD τ) L lv).trans (BI.bupd_mono (sep_elim_right (PROP := sProp 𝕄)))
  refine ((bigSep_mono fun c _ => hone c).trans (BI.bigSep_bupd _ _)).trans (BI.bupd_mono ?_)
  have hrest (d : Dev nD) : (bigSep (Finset.univ.erase Proc.tc) fun p => (coreLevAts ((d, p) : Thread nD τ) L lv : sProp 𝕄)) = BI.emp := by
    refine (bigSep_congr (Ψ := fun _ : Proc τ => (BI.emp : sProp 𝕄)) fun p hp => ?_).trans (BI.bigSep_emp_const _)
    unfold coreLevAts
    refine (bigSep_congr (Ψ := fun _ : SemLoc sig => (BI.emp : sProp 𝕄)) fun sm _ => ?_).trans (BI.bigSep_emp_const _)
    rw [hL (((d, p) : Thread nD τ), sm) (Finset.ne_of_mem_erase hp), BI.bigSep_empty]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => (coreLevAts c L lv : sProp 𝕄)),
    bigSep_congr (s := Finset.univ) (fun (d : Dev nD) _ => hrest d), BI.bigSep_emp_const]
  exact (sep_emp (PROP := sProp 𝕄)).2

/-- A program run by every device from a state made of all devices' launch holdings together ends, with the memory the
    runs' last states describe and every private counter at zero. -/
theorem θ_run_shared [∀ e, Nonempty (Val e)] {defs : Defs nD τ sig Val Λ} (𝒱 : Variants)
    (m : (ℓ : Loc nD τ sig) → Buf Val ℓ) (g : Dev nD → PrngReg)
    (main : Dev nD → Prog (TpuEff nD τ sig Val Λ .tc) PUnit)
    (O₀ : Dev nD → CellTallies nD τ sig Unit) (L : GSem nD τ sig → Finset Unit) (lv : GSem nD τ sig → Unit → ℕ)
    (hL : ∀ g : GSem nD τ sig, g.1.2 ≠ .tc → L g = ∅) (u₀ : U) (T₀ Tₙ : Dev nD → sProp 𝕄)
    (hinit : iprop((bigSep Finset.univ fun c : Dev nD => held O₀ m g c) ∗ levAts L lv ∗ ownU u₀) ⊢ |={Set.univ}=> bigSep Finset.univ T₀)
    (hrun : ∀ c : Dev nD, iprop(T₀ c ∗ levAts L lv) ⊢ wp frame (wpE defs 𝒱 (c.tc : Thread nD τ) none) Set.univ (main c)
      (fun _ => iprop(Tₙ c ∗ boundary (c.tc : Thread nD τ) ∗ ∃ W, owes (c.tc : Thread nD τ) (0 : CellTallies nD τ sig Unit) W)))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run defs (onTc main) ⟨m, fun _ => 0, g⟩ Q := by
  classical
  refine (θ_run defs _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu defs _ _ _
    (reflect_intro_fupd_tc_sems (X := Unit) 𝒱 (owing O₀) 0 (noBookings fun _ => le_rfl) (Pipeline.owing_of_ne O₀) u₀
      (fun _ c => iprop(T₀ c ∗ levAts L lv)) (fun _ c => iprop(Tₙ c ∗ boundary (c.tc : Thread nD τ)))
      (fun _ => iprop(emp)) Set.univ ?_ (fun _ c => (hrun c).trans ?_) fun _ => ?_))
  · have hcores : (bigSep Finset.univ fun d : Dev nD =>
          coreInit (Ix := Unit) (Name := ℕ) (U := U) (Lvl := ℕ) (owing O₀) 0 (⟨m, fun _ => 0, g⟩ : MemSt nD τ sig Val) (d.tc : Thread nD τ))
        ⊢ iprop((bigSep Finset.univ fun c : Dev nD => held O₀ m g c) ∗ (bigSep Finset.univ fun c : Dev nD => levels0 c) : sProp 𝕄) := by
      rw [← bigSep_sep']
      refine bigSep_mono fun c _ => (Pipeline.coreInit_boundary_owing O₀ m g c).trans ?_
      unfold held
      iintro ⟨Hb, Hub, Hus, HL, Hlv, Hpr, Hcr⟩
      isplitr [Hlv]
      · isplitl [Hb]; · iexact Hb
        isplitl [Hub]; · iexact Hub
        isplitl [Hus]; · iexact Hus
        isplitl [HL]; · iexact HL
        isplitl [Hcr]; · iexact Hcr
        iexact Hpr
      · iexact Hlv
    iintro ⟨Hc, Hu⟩
    ihave H := hcores $$ Hc
    icases H with ⟨Hh, Hl⟩
    imod (levels_set L lv hL) $$ Hl with #Hla
    imod hinit $$ [Hh Hu] with HT
    · isplitl [Hh]; · iexact Hh
      isplitr; · iexact Hla
      iexact Hu
    imodintro
    iexists ()
    isplitl [HT]
    · simp only [bigSep_sep']
      isplitl [HT]; · iexact HT
      iapply (BI.bigSep_intro_persistent (S := Finset.univ) fun (c : Dev nD) _ => (BI.Entails.refl (levAts L lv : sProp 𝕄)))
      iexact Hla
    · iempintro
  · refine wp_mono (M := 𝕄) _ _ _ fun _ => ?_
    unfold post
    simp only [liftTc_tc]
    iintro ⟨HT, Hb, HW⟩
    isplitl [HT Hb]
    · isplitl [HT] <;> iassumption
    iexact HW
  · iintro ⟨H, -, Hsc⟩ %s' HSI
    ihave %hsc := (scSems_read_zero m g s') $$ [Hsc HSI]
    · isplitl [Hsc] <;> iassumption
    imod (posts_fupd Finset.univ (fun c s' => Pipeline.boundary_read c s' (hfin c s')) s') $$ [H HSI] with %h
    · isplitl [H] <;> iassumption
    imodintro
    ipureintro
    exact ⟨fun c => h c (Finset.mem_univ c), hsc⟩

end Cert.Launch

end
-- ==== Proof.Xchg.lean ====
/- One exchange between devices, with no handshake: every device copies some blocks within itself and some to peers, then
   waits on its own cells. Each cell receives exactly one transfer, so the schedule has one round with one duty per cell.
   Stated over any number `a` of local copies and `b` of remote ones: a device's cells are one per local copy, one per
   remote copy for the source, and one per remote copy for what arrives. -/
module

public import proofs.«01_k».proof.Proof.Launch
public import Idealize.ShloMosaic.Lib.Rounds
public import Idealize.ShloMosaic.Lib.Tactic

@[expose] public section

noncomputable section

namespace Cert.Xchg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

/-- A device's cells: `inl l` of local copy `l`, `inr (inl k)` the source of remote copy `k`, `inr (inr k)` what arrives by it. -/
abbrev Slot (a b : ℕ) : Type := Fin a ⊕ (Fin b ⊕ Fin b)

/-- The shape of an exchange: who the peers are, which blocks are copied where, on which counters. -/
structure Net (nD : ℕ) (τ : Topo) (sig : RefSig) (a b : ℕ) where
  peer : Fin b → Dev nD → Dev nD
  peer_peer : ∀ k c, peer k (peer k c) = c
  sem : Slot a b → DmaSem sig
  sem_inj : Function.Injective sem
  S : Shape
  e : EltTy
  lsrc : Fin a → Dev nD → Memref sig .tc .hbm S e
  ldst : Fin a → Dev nD → Memref sig .tc .hbm S e
  src : Fin b → Dev nD → Memref sig .tc .hbm S e
  dst : Fin b → Dev nD → Memref sig .tc .hbm S e
  lsrc_we : ∀ l c, (lsrc l c).view.WordExact
  ldst_we : ∀ l c, (ldst l c).view.WordExact
  src_we : ∀ k c, (src k c).view.WordExact
  dst_we : ∀ k c, (dst k c).view.WordExact
  dst_sc : ∀ k c, (dst k c).view.ref.isScScratch = false
  wb : Slot a b → Ref sig .tc
  wb_has : ∀ i, (wb i).HasMemref S e
  N : ℕ
  N_pos : 0 < N
  ldst_N : ∀ l c, (ldst l c).view.amount (.dma (sem (.inl l))) = N
  dst_N : ∀ k c, (dst k c).view.amount (.dma (sem (.inr (.inr k)))) = N
  wb_N : ∀ i, (wb i).dmaCredit S e = N

variable {nD : ℕ} {τ : Topo} {sig : RefSig} {Val : EltTy → Type} {Λ : Idealize.SL.Sem.Labels} {a b : ℕ}

namespace Net

variable (n : Net nD τ sig a b)

/-- One transfer's start. -/
def start (c : Dev nD) : Fin a ⊕ Fin b → TpuEff nD τ sig Val Λ .tc PUnit
  | .inl l => .enqueueDma (n.lsrc l c) (.here (n.ldst l c)) (.dma (n.sem (.inl l))) (n.lsrc_we l c) (n.ldst_we l c) ⟨Or.inl rfl, trivial⟩
  | .inr k => .enqueueDma (n.src k c) (.remote (n.peer k c).tc (n.dst k c) (.dma (n.sem (.inr (.inl k)))) (n.dst_sc k c))
      (.dma (n.sem (.inr (.inr k)))) (n.src_we k c) (n.dst_we k c) ⟨⟨rfl, Or.inl rfl⟩, trivial⟩

/-- The transfers' starts in order, then `p`. -/
def starts (c : Dev nD) : List (Fin a ⊕ Fin b) → Prog (TpuEff nD τ sig Val Λ .tc) PUnit → Prog (TpuEff nD τ sig Val Λ .tc) PUnit
  | [], p => p
  | t :: ts, p => .op (n.start c t) fun _ => starts c ts p

/-- The waits in order, then the return. -/
def waits : List (Slot a b) → Prog (TpuEff nD τ sig Val Λ .tc) PUnit
  | [] => .ret ⟨⟩
  | i :: is => .op (.waitDma (n.sem i) (n.wb i) n.S n.e (.inr (n.wb_has i))) fun _ => waits is

abbrev cell (c : Dev nD) (i : Slot a b) : GSem nD τ sig := ((c : Thread nD τ), .dma (n.sem i))

end Net

variable {U : Type} [URA U]

local notation "𝕄" => MT nD τ sig Unit Val ℕ U ℕ

/-! ## The schedule -/

section Schedule

variable (n : Net nD τ sig a b) (pay : Dev nD → Slot a b → sProp (MT nD τ sig Unit Val ℕ U ℕ))

open Classical in
/-- One duty in round 0 of each of the exchange's cells, none after. -/
def rd : Rounds.Schedule (GSem nD τ sig) Unit 𝕄 where
  duties g r := if r = 0 ∧ g.1.2 = .tc ∧ ∃ i, SemLoc.dma (n.sem i) = g.2 then {()} else ∅
  unitless _ := False
  amount _ _ _ := n.N
  payload g _ _ := if h : ∃ i, SemLoc.dma (n.sem i) = g.2 then pay g.1.1 h.choose else iprop(emp)
  amount_pos _ _ _ _ := n.N_pos

instance rd_storable [h : ∀ c i, BI.Storable (upEmb : UEmb _ 𝕄) (pay c i)] (g : GSem nD τ sig) (r : ℕ) (d : Unit) :
    BI.Storable (upEmb : UEmb _ 𝕄) ((rd n pay).payload g r d) := by
  dsimp only [rd]
  split
  · exact h _ _
  · infer_instance

theorem duties_zero (c : Dev nD) (i : Slot a b) : (rd n pay).duties (n.cell c i) 0 = {()} := by
  dsimp only [rd]; exact if_pos ⟨rfl, rfl, i, rfl⟩
theorem duties_mem (c : Dev nD) (i : Slot a b) : () ∈ (rd n pay).duties (n.cell c i) 0 := by
  rw [duties_zero]; exact Finset.mem_singleton_self _
theorem duties_later (g : GSem nD τ sig) : ∀ r, 1 ≤ r → (rd n pay).duties g r = ∅ := fun r hr => by
  dsimp only [rd]; rw [if_neg (fun h => by omega)]
theorem expect_zero (c : Dev nD) (i : Slot a b) : (rd n pay).expect (n.cell c i) 0 = n.N := by
  unfold Rounds.Schedule.expect Rounds.Schedule.amountOf; rw [duties_zero, Finset.sum_singleton]; rfl
theorem payload_cell (c : Dev nD) (i : Slot a b) (r : ℕ) (d : Unit) : (rd n pay).payload (n.cell c i) r d = pay c i := by
  have h : ∃ j, SemLoc.dma (n.sem j) = (n.cell (τ := τ) c i).2 := ⟨i, rfl⟩
  have hi : h.choose = i := n.sem_inj (SemLoc.dma.inj h.choose_spec)
  dsimp only [rd]; rw [dif_pos h, hi]
theorem rest_zero (c : Dev nD) (i : Slot a b) :
    bigSep ((rd n pay).duties (n.cell c i) 0 \ ∅) (fun u => (rd n pay).payload (n.cell c i) 0 u) = pay c i := by
  rw [Finset.sdiff_empty, duties_zero, bigSep_singleton, payload_cell]

end Schedule

/-! ## Sums along a list -/

/-- The assertions of a list's members, side by side. -/
def along {α : Type} (Φ : α → sProp 𝕄) : List α → sProp 𝕄
  | [] => iprop(emp)
  | x :: xs => iprop(Φ x ∗ along Φ xs)

theorem along_eq {α : Type} [DecidableEq α] (Φ : α → sProp 𝕄) (xs : List α) (h : xs.Nodup) : along Φ xs = bigSep xs.toFinset Φ := by
  induction xs with
  | nil => rfl
  | cons x xs ih =>
    rw [List.toFinset_cons, bigSep_insert (by rw [List.mem_toFinset]; exact (List.nodup_cons.mp h).1), ← ih (List.nodup_cons.mp h).2]
    rfl

theorem along_univ {α : Type} [DecidableEq α] [Fintype α] (Φ : α → sProp 𝕄) (xs : List α) (h : xs.Nodup) (hx : ∀ x, x ∈ xs) :
    along Φ xs = bigSep Finset.univ Φ := by
  rw [along_eq Φ xs h]
  exact congrArg (fun s => bigSep s Φ) (Finset.eq_univ_iff_forall.mpr fun x => List.mem_toFinset.mpr (hx x))

theorem over_sum {α β : Type} [Fintype α] [Fintype β] (Φ : α ⊕ β → sProp 𝕄) :
    bigSep Finset.univ Φ = iprop((bigSep Finset.univ fun x : α => Φ (.inl x)) ∗ bigSep Finset.univ fun y : β => Φ (.inr y)) :=
  bigSep_univ_sum Φ

/-! ## One device's run -/

section Run

variable (n : Net nD τ sig a b) (pay : Dev nD → Slot a b → sProp (MT nD τ sig Unit Val ℕ U ℕ))
variable (ER : Emb (URounds (GSem nD τ sig) Unit) (MT nD τ sig Unit Val ℕ U ℕ))
variable (ql : Fin a → PosShare TreeShare) (q : Fin b → PosShare TreeShare)
variable (fls : ∀ l c, Buf Val ((n.lsrc l c).view.loc (c : Thread nD τ))) (fld : ∀ l c, Buf Val ((n.ldst l c).view.loc (c : Thread nD τ)))
variable (fs : ∀ k c, Buf Val ((n.src k c).view.loc (c : Thread nD τ))) (fd : ∀ k c, Buf Val ((n.dst k c).view.loc (n.peer k c : Thread nD τ)))

/-- What starting a transfer spends: its two blocks, and the right to pay the cells it credits. -/
def stake (c : Dev nD) : Fin a ⊕ Fin b → sProp 𝕄
  | .inl l => iprop(((n.lsrc l c).view.loc (c : Thread nD τ) ↦[(n.lsrc l c).view.set]{ql l} fls l c)
      ∗ ((n.ldst l c).view.loc (c : Thread nD τ) ↦[(n.ldst l c).view.set]{fullShare} fld l c)
      ∗ dutyTok ER (n.cell c (.inl l)) 0 ())
  | .inr k => iprop(((n.src k c).view.loc (c : Thread nD τ) ↦[(n.src k c).view.set]{q k} fs k c)
      ∗ ((n.dst k c).view.loc (n.peer k c : Thread nD τ) ↦[(n.dst k c).view.set]{fullShare} fd k c)
      ∗ dutyTok ER (n.cell c (.inr (.inl k))) 0 () ∗ dutyTok ER (n.cell (n.peer k c) (.inr (.inr k))) 0 ())

/-- The credit starting a transfer yields. -/
def yield (c : Dev nD) : Fin a ⊕ Fin b → sProp 𝕄
  | .inl l => cred (tallyAt (n.cell c (.inl l)) () n.N)
  | .inr k => cred (tallyAt (n.cell c (.inr (.inl k))) () n.N)

/-- What a device owes before the transfers of a list. -/
def due (c : Dev nD) : List (Fin a ⊕ Fin b) → CellTallies nD τ sig Unit
  | [] => 0
  | .inl _ :: ts => due c ts
  | .inr k :: ts => due c ts + tallyAt (n.cell (n.peer k c) (.inr (.inr k))) () n.N

theorem due_inl (c : Dev nD) (l : Fin a) (ts : List (Fin a ⊕ Fin b)) : due n c (.inl l :: ts) = due n c ts := rfl
theorem due_inr (c : Dev nD) (k : Fin b) (ts : List (Fin a ⊕ Fin b)) :
    due n c (.inr k :: ts) = due n c ts + tallyAt (n.cell (n.peer k c) (.inr (.inr k))) () n.N := rfl

/-- What everyone knows from launch on: each cell is shared under the schedule, at its first round. -/
def records (κ : GSem nD τ sig → ℕ) : sProp 𝕄 :=
  iprop((bigSep Finset.univ fun x : Dev nD × Slot a b => cellInv ER (rd n pay) (κ (n.cell x.1 x.2)) (n.cell x.1 x.2))
    ∗ bigSep Finset.univ fun x : Dev nD × Slot a b => reached ER (n.cell x.1 x.2) 0)

instance records_persistent (κ : GSem nD τ sig → ℕ) : BI.Persistent (records n pay ER κ) := by unfold records; infer_instance

theorem record_inv (κ : GSem nD τ sig → ℕ) (c : Dev nD) (i : Slot a b) :
    records n pay ER κ ⊢ cellInv ER (rd n pay) (κ (n.cell c i)) (n.cell c i) := by
  unfold records
  exact (sep_elim_left (PROP := sProp 𝕄)).trans (bigSep_elim (Finset.mem_univ (c, i)))
theorem record_reached (κ : GSem nD τ sig → ℕ) (c : Dev nD) (i : Slot a b) :
    records n pay ER κ ⊢ reached ER (n.cell c i) 0 := by
  unfold records
  exact (sep_elim_right (PROP := sProp 𝕄)).trans (bigSep_elim (Finset.mem_univ (c, i)))

variable [∀ c i, BI.Storable (upEmb : UEmb _ (MT nD τ sig Unit Val ℕ U ℕ)) (pay c i)] [ER.LandsIn (upEmb : UEmb _ (MT nD τ sig Unit Val ℕ U ℕ))]
variable {defs : Defs nD τ sig Val Λ} (𝒱 : Variants) (κ : GSem nD τ sig → ℕ)

/-- What the transfers hand over is what the cells promise. -/
structure Pays : Prop where
  loc : ∀ c l, iprop(((n.ldst l c).view.loc (c : Thread nD τ) ↦[(n.ldst l c).view.set]{fullShare}
        ((n.ldst l c).view.write Val (fld l c) ((n.lsrc l c).view.read Val (fls l c)) Finset.univ))
      ∗ ((n.lsrc l c).view.loc (c : Thread nD τ) ↦[(n.lsrc l c).view.set]{ql l} fls l c)) ⊢ pay c (.inl l)
  snd : ∀ c k, iprop((n.src k c).view.loc (c : Thread nD τ) ↦[(n.src k c).view.set]{q k} fs k c) ⊢ pay c (.inr (.inl k))
  rcv : ∀ c k, iprop((n.dst k c).view.loc (n.peer k c : Thread nD τ) ↦[(n.dst k c).view.set]{fullShare}
        ((n.dst k c).view.write Val (fd k c) ((n.src k c).view.read Val (fs k c)) Finset.univ)) ⊢ pay (n.peer k c) (.inr (.inr k))

variable {n pay ql q fls fld fs fd} (hp : Pays n pay ql q fls fld fs fd)

include hp in
theorem wp_start (c : Dev nD) (t : Fin a ⊕ Fin b) (ts : List (Fin a ⊕ Fin b)) (W : Waits sig Unit)
    (p : PUnit → Prog (TpuEff nD τ sig Val Λ .tc) PUnit) (Q : PUnit → sProp 𝕄) :
    iprop(records n pay ER κ ∗ stake n ER ql q fls fld fs fd c t ∗ owes (c : Thread nD τ) (due n c (t :: ts)) W)
      ⊢ iprop(((yield n c t ∗ owes (c : Thread nD τ) (due n c ts) W) -∗ wp frame (wpE defs 𝒱 (c : Thread nD τ) none) Set.univ (p ⟨⟩) Q)
        -∗ wp frame (wpE defs 𝒱 (c : Thread nD τ) none) Set.univ (.op (n.start c t) p) Q) := by
  cases t with
  | inl l =>
    unfold stake yield Net.start
    rw [due_inl]
    iintro ⟨#HR, ⟨Hs, Hd, Ht⟩, HO⟩ Hk
    iapply (Rounds.wp_copy_pointsTo 𝒱 ER (rd n pay) (c : Thread nD τ) none (src := n.lsrc l c) (dst := n.ldst l c) (q := ql l)
      (fs := fls l c) (fd := fld l c) (r := 0) (d := ()) (κ := κ (n.cell c (.inl l)))
      (duties_mem n pay c (.inl l)) () n.N (n.ldst_N l c) rfl
      (by rw [payload_cell n pay c (.inl l)]; exact hp.loc c l)) $$ [Hs Hd Ht]
    · isplitr; · iapply (record_inv n pay ER κ c (.inl l)); iexact HR
      isplitl [Hs]; · iexact Hs
      isplitl [Hd]; · iexact Hd
      isplitl [Ht]; · iexact Ht
      iapply (record_reached n pay ER κ c (.inl l)); iexact HR
    iintro Hc
    iapply Hk
    isplitl [Hc]; · iexact Hc
    iexact HO
  | inr k =>
    unfold stake yield Net.start
    rw [due_inr]
    iintro ⟨#HR, ⟨Hs, Hd, Ht, Ht'⟩, HO⟩ Hk
    iapply (Rounds.wp_send_pointsTo 𝒱 ER (rd n pay) (c : Thread nD τ) none (c' := (n.peer k c : Thread nD τ)) (src := n.src k c) (dst := n.dst k c)
      (sS := .dma (n.sem (.inr (.inl k)))) (sem := .dma (n.sem (.inr (.inr k)))) (q := q k)
      (fs := fs k c) (κ₁ := κ (n.cell c (.inr (.inl k)))) (κ₂ := κ (n.cell (n.peer k c) (.inr (.inr k))))
      (r₁ := 0) (r₂ := 0) (d₁ := ()) (d₂ := ()) (fd := fd k c)
      (duties_mem n pay c (.inr (.inl k))) (duties_mem n pay (n.peer k c) (.inr (.inr k)))
      () () n.N (n.dst_N k c) rfl rfl (due n c ts) rfl (W := W)
      (by rw [payload_cell n pay c (.inr (.inl k))]; exact hp.snd c k)
      (by rw [payload_cell n pay (n.peer k c) (.inr (.inr k))]; exact hp.rcv c k)) $$ [Hs Hd HO Ht Ht']
    · isplitr; · iapply (record_inv n pay ER κ c (.inr (.inl k))); iexact HR
      isplitr; · iapply (record_inv n pay ER κ (n.peer k c) (.inr (.inr k))); iexact HR
      isplitl [Hs]; · iexact Hs
      isplitl [Hd]; · iexact Hd
      isplitl [HO]; · iexact HO
      isplitl [Ht]; · iexact Ht
      isplitr; · iapply (record_reached n pay ER κ c (.inr (.inl k))); iexact HR
      isplitl [Ht']; · iexact Ht'
      iapply (record_reached n pay ER κ (n.peer k c) (.inr (.inr k))); iexact HR
    iintro ⟨Hc, HO⟩
    iapply Hk
    isplitl [Hc]; · iexact Hc
    iexact HO

include hp in
/-- All the starts of a list. -/
theorem wp_starts (c : Dev nD) (W : Waits sig Unit) (p : Prog (TpuEff nD τ sig Val Λ .tc) PUnit) (Q : PUnit → sProp 𝕄)
    (ts : List (Fin a ⊕ Fin b)) :
    iprop(records n pay ER κ ∗ along (stake n ER ql q fls fld fs fd c) ts ∗ owes (c : Thread nD τ) (due n c ts) W
      ∗ ((along (yield n c) ts ∗ owes (c : Thread nD τ) (0 : CellTallies nD τ sig Unit) W)
          -∗ wp frame (wpE defs 𝒱 (c : Thread nD τ) none) Set.univ p Q))
      ⊢ wp frame (wpE defs 𝒱 (c : Thread nD τ) none) Set.univ (n.starts c ts p) Q := by
  induction ts generalizing Q with
  | nil =>
    unfold along due Net.starts
    iintro ⟨-, -, HO, Hk⟩
    iapply Hk
    isplitr; · iempintro
    iexact HO
  | cons t ts ih =>
    unfold Net.starts along
    iintro ⟨#HR, ⟨Hs, Hss⟩, HO, Hk⟩
    iapply (wp_start ER 𝒱 κ hp c t ts W) $$ [Hs HO]
    · isplitr; · iexact HR
      isplitl [Hs]; · iexact Hs
      iexact HO
    iintro ⟨Hy, HO⟩
    iapply ih
    isplitr; · iexact HR
    isplitl [Hss]; · iexact Hss
    isplitl [HO]; · iexact HO
    iintro ⟨Hys, HO⟩
    iapply Hk
    isplitr [HO]
    · isplitl [Hy]; · iexact Hy
      iexact Hys
    iexact HO

/-- Before a wait: the credit of the cell and the position there. -/
def hope (n : Net nD τ sig a b) (c : Dev nD) (i : Slot a b) : sProp 𝕄 :=
  iprop(cred (tallyAt (n.cell c i) () n.N) ∗ atPos ER (n.cell c i) 0 ∅ 0)
/-- After it: what the transfer brought, and the counter back at zero. -/
def gain (n : Net nD τ sig a b) (pay : Dev nD → Slot a b → sProp (MT nD τ sig Unit Val ℕ U ℕ)) (c : Dev nD) (i : Slot a b) : sProp 𝕄 :=
  iprop(pay c i ∗ semVal (n.cell c i) 0)

omit hp in
/-- All the waits of a list; each cell is closed as soon as it has been waited on. -/
theorem wp_waits (c : Dev nD) (Q : PUnit → sProp 𝕄) (is : List (Slot a b)) (W : Waits sig Unit) :
    iprop(records n pay ER κ ∗ along (hope ER n c) is ∗ owes (c : Thread nD τ) (0 : CellTallies nD τ sig Unit) W
      ∗ ((along (gain n pay c) is ∗ ∃ W, owes (c : Thread nD τ) (0 : CellTallies nD τ sig Unit) W) -∗ Q ⟨⟩))
      ⊢ wp frame (wpE defs 𝒱 (c : Thread nD τ) none) Set.univ (n.waits is) Q := by
  induction is generalizing Q W with
  | nil =>
    unfold along Net.waits
    rw [wp_ret]
    iintro ⟨-, -, HO, Hk⟩
    imodintro
    iapply Hk
    isplitr; · iempintro
    iexists W; iexact HO
  | cons i is ih =>
    unfold Net.waits along hope
    iintro ⟨#HR, ⟨⟨Hc, Ha⟩, Hh⟩, HO, Hk⟩
    iapply (Rounds.wp_wait_rest_token 𝒱 ER (rd n pay) (c : Thread nD τ) none (sm := .dma (n.sem i)) (k' := n.N) (κ := κ (n.cell c i))
      (fun K => by rw [← n.wb_N i]; exact wpE_waitDma_eq 𝒱 (c : Thread nD τ) none Set.univ K)
      (Set.mem_univ _) () (O := 0) (W := W) (R := 0) (m := 0) (T := ∅)
      ((Nat.zero_add _).trans (expect_zero n pay c i).symm)) $$ [Hc HO Ha]
    · isplitr; · iapply (record_inv n pay ER κ c i); iexact HR
      isplitl [Hc]; · iexact Hc
      isplitl [HO]; · iexact HO
      isplitr; · rw [MayWait_zero]; iempintro
      iexact Ha
    iintro ⟨HO, Ha, -, Hpay⟩
    ihave Hp := (Entails.of_eq (rest_zero n pay c i)) $$ Hpay
    iapply fupd_wp
    imod (Rounds.cell_close ER (rd n pay) (κ := κ (n.cell c i)) (Set.mem_univ _) id (duties_later n pay (n.cell c i))) $$ [Ha] with Hz
    · isplitr; · iapply (record_inv n pay ER κ c i); iexact HR
      iexact Ha
    imodintro
    iapply ih
    isplitr; · iexact HR
    isplitl [Hh]; · iexact Hh
    isplitl [HO]; · iexact HO
    iintro ⟨Hg, HW⟩
    iapply Hk
    isplitr [HW]
    · isplitr [Hg]
      · unfold gain
        isplitl [Hp]; · iexact Hp
        iexact Hz
      iexact Hg
    iexact HW

omit hp in
theorem due_eq (c : Dev nD) (ts : List (Fin a ⊕ Fin b)) (h : ts.Nodup) (ht : ∀ t, t ∈ ts) :
    due n c ts = ∑ k, tallyAt (n.cell (n.peer k c) (.inr (.inr k))) () n.N := by
  let f : Fin a ⊕ Fin b → CellTallies nD τ sig Unit := Sum.elim (fun _ => 0) fun k => tallyAt (n.cell (n.peer k c) (.inr (.inr k))) () n.N
  have h1 (ts : List (Fin a ⊕ Fin b)) : due n c ts = (ts.map f).sum := by
    induction ts with
    | nil => rfl
    | cons t ts ih =>
      cases t with
      | inl l => rw [due_inl, ih, List.map_cons, List.sum_cons]; exact (zero_add _).symm
      | inr k => rw [due_inr, ih, List.map_cons, List.sum_cons]; exact add_comm _ _
  rw [h1, ← List.sum_toFinset f h, Finset.eq_univ_iff_forall.mpr fun x => List.mem_toFinset.mpr (ht x), Fintype.sum_sum_type]
  simp only [f, Sum.elim_inl, Sum.elim_inr, Finset.sum_const_zero, zero_add]

/-- The rights to pay, as one device spends them. -/
def rights (n : Net nD τ sig a b) (c : Dev nD) : sProp 𝕄 :=
  iprop((bigSep Finset.univ fun l : Fin a => dutyTok ER (n.cell c (.inl l)) 0 ())
    ∗ (bigSep Finset.univ fun k : Fin b => dutyTok ER (n.cell c (.inr (.inl k))) 0 ())
    ∗ bigSep Finset.univ fun k : Fin b => dutyTok ER (n.cell (n.peer k c) (.inr (.inr k))) 0 ())

/-- The blocks one device's transfers read and write. -/
def blocks (n : Net nD τ sig a b) (ql : Fin a → PosShare TreeShare) (q : Fin b → PosShare TreeShare)
    (fls : ∀ l c, Buf Val ((n.lsrc l c).view.loc (c : Thread nD τ))) (fld : ∀ l c, Buf Val ((n.ldst l c).view.loc (c : Thread nD τ)))
    (fs : ∀ k c, Buf Val ((n.src k c).view.loc (c : Thread nD τ))) (fd : ∀ k c, Buf Val ((n.dst k c).view.loc (n.peer k c : Thread nD τ)))
    (c : Dev nD) : sProp 𝕄 :=
  iprop((bigSep Finset.univ fun l : Fin a => iprop(((n.lsrc l c).view.loc (c : Thread nD τ) ↦[(n.lsrc l c).view.set]{ql l} fls l c)
      ∗ ((n.ldst l c).view.loc (c : Thread nD τ) ↦[(n.ldst l c).view.set]{fullShare} fld l c)))
    ∗ bigSep Finset.univ fun k : Fin b => iprop(((n.src k c).view.loc (c : Thread nD τ) ↦[(n.src k c).view.set]{q k} fs k c)
      ∗ ((n.dst k c).view.loc (n.peer k c : Thread nD τ) ↦[(n.dst k c).view.set]{fullShare} fd k c)))

/-- What one device owes at launch: to each peer, what its copy there brings. -/
def owed (n : Net nD τ sig a b) (c : Dev nD) : CellTallies nD τ sig Unit := ∑ k, tallyAt (n.cell (n.peer k c) (.inr (.inr k))) () n.N

/-- What one device holds of the exchange before it, blocks aside. -/
def ready (n : Net nD τ sig a b) (c : Dev nD) : sProp 𝕄 :=
  iprop(rights ER n c ∗ (bigSep Finset.univ fun i => atPos ER (n.cell c i) 0 ∅ 0)
    ∗ bigSep Finset.univ fun k => cred (tallyAt (n.cell c (.inr (.inr k))) () n.N))

include hp in
/-- One device's whole run: all its transfers started, then all its cells waited on. -/
theorem wp_device (c : Dev nD) (W : Waits sig Unit) (ts : List (Fin a ⊕ Fin b)) (hts : ts.Nodup) (hts' : ∀ t, t ∈ ts)
    (is : List (Slot a b)) (his : is.Nodup) (his' : ∀ i, i ∈ is) (Q : PUnit → sProp 𝕄) :
    iprop(records n pay ER κ ∗ blocks n ql q fls fld fs fd c ∗ ready ER n c ∗ owes (c : Thread nD τ) (owed n c) W
      ∗ (((bigSep Finset.univ fun i => pay c i) ∗ (bigSep Finset.univ fun i => semVal (n.cell c i) 0)
          ∗ ∃ W, owes (c : Thread nD τ) (0 : CellTallies nD τ sig Unit) W) -∗ Q ⟨⟩))
      ⊢ wp frame (wpE defs 𝒱 (c : Thread nD τ) none) Set.univ (n.starts c ts (n.waits is)) Q := by
  unfold owed ready rights blocks
  rw [← due_eq c ts hts hts']
  iintro ⟨#HR, ⟨Hbl, Hbr⟩, ⟨⟨Htl, Hts, Htr⟩, Ha, Hc⟩, HO, Hk⟩
  iapply (wp_starts ER 𝒱 κ hp c W (n.waits is) Q ts)
  isplitr; · iexact HR
  isplitl [Hbl Hbr Htl Hts Htr]
  · rw [along_univ _ ts hts hts', over_sum]
    simp only [stake, bigSep_sep']
    icases Hbl with ⟨Hls, Hld⟩
    icases Hbr with ⟨Hs, Hd⟩
    isplitl [Hls Hld Htl]
    · isplitl [Hls]; · iexact Hls
      isplitl [Hld]; · iexact Hld
      iexact Htl
    · isplitl [Hs]; · iexact Hs
      isplitl [Hd]; · iexact Hd
      isplitl [Hts]; · iexact Hts
      iexact Htr
  isplitl [HO]; · iexact HO
  iintro ⟨Hy, HO⟩
  iapply (wp_waits (pay := pay) ER 𝒱 κ c Q is W)
  isplitr; · iexact HR
  isplitl [Hy Ha Hc]
  · ihave Hy := (Entails.of_eq (along_univ (yield n c) ts hts hts')) $$ Hy
    have hh : iprop((bigSep Finset.univ fun i => cred (tallyAt (n.cell c i) () n.N)) ∗ bigSep Finset.univ fun i => atPos ER (n.cell c i) 0 ∅ 0)
        ⊢ along (hope ER n c) is := by
      rw [along_univ _ is his his', ← bigSep_sep']
      exact Entails.of_eq rfl
    iapply hh
    isplitr [Ha]
    · have hs : iprop((bigSep Finset.univ fun l => cred (tallyAt (n.cell c (.inl l)) () n.N))
          ∗ (bigSep Finset.univ fun k => cred (tallyAt (n.cell c (.inr (.inl k))) () n.N)) ∗ bigSep Finset.univ fun k => cred (tallyAt (n.cell c (.inr (.inr k))) () n.N))
          ⊢ (bigSep Finset.univ fun i => cred (tallyAt (n.cell c i) () n.N) : sProp 𝕄) := by
        rw [over_sum, over_sum]
      ihave Hy := (Entails.of_eq (over_sum (yield n c))) $$ Hy
      icases Hy with ⟨Hyl, Hyr⟩
      iapply hs
      isplitl [Hyl]; · iexact Hyl
      isplitl [Hyr]; · iexact Hyr
      iexact Hc
    · iexact Ha
  isplitl [HO]; · iexact HO
  have hg : along (gain n pay c) is ⊢ iprop((bigSep Finset.univ fun i => pay c i) ∗ bigSep Finset.univ fun i => semVal (n.cell c i) 0) := by
    rw [along_univ _ is his his', ← bigSep_sep']
    exact Entails.of_eq rfl
  iintro ⟨Hg, HW⟩
  ihave Hg := hg $$ Hg
  icases Hg with ⟨Hp, Hz⟩
  iapply Hk
  isplitl [Hp]; · iexact Hp
  isplitl [Hz]; · iexact Hz
  iexact HW

/-! ## The launch -/

omit hp in
theorem credit_at_launch (n : Net nD τ sig a b) (c : Dev nD) :
    (launchCred (owed n) c : sProp 𝕄) ⊢ bigSep Finset.univ fun k => cred (tallyAt (n.cell c (.inr (.inr k))) () n.N) := by
  have h : owed n = fun d => ∑ k ∈ Finset.univ, tallyAt (n.cell (n.peer k d) (.inr (.inr k))) () n.N := rfl
  rw [h, launchCred_sum Finset.univ (fun k d => tallyAt (n.cell (n.peer k d) (.inr (.inr k))) () n.N) c]
  exact bigSep_mono fun k _ => launchCred_tallyAt (.dma (n.sem (.inr (.inr k)))) (n.peer k) (n.peer k) (n.peer_peer k) (n.peer_peer k) () n.N c

/-- All the exchange's cells, on all devices. -/
def cells (n : Net nD τ sig a b) : Finset (GSem nD τ sig) :=
  Finset.univ.map ⟨fun x : Dev nD × Slot a b => n.cell x.1 x.2, fun x y h =>
    Prod.ext (congrArg (fun g : GSem nD τ sig => g.1.1) h) (n.sem_inj (SemLoc.dma.inj (congrArg Prod.snd h)))⟩
/-- The rights to pay them, one each. -/
def pays (n : Net nD τ sig a b) : Finset (GSem nD τ sig × ℕ × Unit) :=
  (cells n).map ⟨fun g => (g, 0, ()), fun _ _ h => congrArg Prod.fst h⟩
/-- The ghost state the launch starts from. -/
def seed (n : Net nD τ sig a b) : URounds (GSem nD τ sig) Unit := launchOf (cells n) ∅ (pays n)

omit hp in
theorem over_cells (n : Net nD τ sig a b) (Φ : GSem nD τ sig → sProp 𝕄) :
    bigSep (cells n) Φ = bigSep Finset.univ fun x : Dev nD × Slot a b => Φ (n.cell x.1 x.2) := by
  unfold cells; rw [bigSep_map]; rfl

omit hp in
/-- The rights dealt per cell are the rights each device spends: those of what arrives cross over to the peer. -/
theorem rights_dealt (n : Net nD τ sig a b) :
    (bigSep Finset.univ fun x : Dev nD × Slot a b => (dutyTok ER (n.cell x.1 x.2) 0 () : sProp 𝕄)) = bigSep Finset.univ fun c => rights ER n c := by
  unfold rights
  rw [bigSep_univ_prod, bigSep_sep', bigSep_sep']
  simp only [over_sum, bigSep_sep']
  have hx : (bigSep Finset.univ fun c : Dev nD => bigSep Finset.univ fun k : Fin b => (dutyTok ER (n.cell c (.inr (.inr k))) 0 () : sProp 𝕄))
      = bigSep Finset.univ fun c : Dev nD => bigSep Finset.univ fun k : Fin b => dutyTok ER (n.cell (n.peer k c) (.inr (.inr k))) 0 () := ?_
  · rw [hx]
  rw [BI.bigSep_univ_comm, BI.bigSep_univ_comm (fun (c : Dev nD) (k : Fin b) => (dutyTok ER (n.cell (n.peer k c) (.inr (.inr k))) 0 () : sProp 𝕄))]
  exact bigSep_congr fun k _ => bigSep_univ_equiv (⟨n.peer k, n.peer k, n.peer_peer k, n.peer_peer k⟩ : Dev nD ≃ Dev nD)
    (fun c => (dutyTok ER (n.cell c (.inr (.inr k))) 0 () : sProp 𝕄))

omit hp in
/-- The exchange is set up: its counters shared, each device's holdings dealt. -/
theorem fund (n : Net nD τ sig a b) (pay : Dev nD → Slot a b → sProp (MT nD τ sig Unit Val ℕ U ℕ))
    [∀ c i, BI.Storable (upEmb : UEmb _ (MT nD τ sig Unit Val ℕ U ℕ)) (pay c i)] :
    iprop((bigSep Finset.univ fun c : Dev nD => bigSep Finset.univ fun i => semVal (n.cell c i) 0) ∗ BI.own (ER (seed n))
        ∗ bigSep Finset.univ fun c => launchCred (owed n) c)
      ⊢ |={Set.univ}=> iprop(∃ κ, records n pay ER κ ∗ bigSep Finset.univ fun c => ready ER n c) := by
  have h0 : (bigSep Finset.univ fun c : Dev nD => bigSep Finset.univ fun i => (semVal (n.cell c i) 0 : sProp 𝕄)) = bigSep (cells n) fun g => semVal g 0 := by
    rw [over_cells, bigSep_univ_prod]
  have hat : (bigSep (cells n) fun g => (atPos ER g 0 ∅ 0 : sProp 𝕄)) = bigSep Finset.univ fun c => bigSep Finset.univ fun i => atPos ER (n.cell c i) 0 ∅ 0 := by
    rw [over_cells, bigSep_univ_prod]
  have htk : (bigSep (pays n) fun x => (dutyTok ER x.1 x.2.1 x.2.2 : sProp 𝕄)) = bigSep Finset.univ fun c => rights ER n c := by
    unfold pays; rw [bigSep_map, over_cells, ← rights_dealt]; rfl
  rw [h0]
  iintro ⟨Hv, Hu, Hcr⟩
  imod (Rounds.fund_launch ER (rd n pay) (S := cells n) (Sd := ∅) (Finset.disjoint_empty_right _) (fun g hg => absurd hg (Finset.notMem_empty g)) (pays n)) $$ [Hv Hu]
    with ⟨%κ, -, HI, HR, Ha, -, Ht⟩
  · isplitl [Hv]; · iexact Hv
    iexact Hu
  imodintro
  iexists κ
  ihave HI := (Entails.of_eq ((congrArg (fun s => bigSep s fun g => (cellInv ER (rd n pay) (κ g) g : sProp 𝕄)) (Finset.union_empty (cells n))).trans (over_cells n _))) $$ HI
  ihave HR := (Entails.of_eq (over_cells n fun g => (reached ER g 0 : sProp 𝕄))) $$ HR
  ihave Ha := (Entails.of_eq hat) $$ Ha
  ihave Ht := (Entails.of_eq htk) $$ Ht
  have hc : (bigSep Finset.univ fun c => (launchCred (owed n) c : sProp 𝕄))
      ⊢ bigSep Finset.univ fun c => bigSep Finset.univ fun k => cred (tallyAt (n.cell c (.inr (.inr k))) () n.N) :=
    bigSep_mono fun c _ => credit_at_launch n c
  ihave Hcr := hc $$ Hcr
  isplitl [HI HR]
  · unfold records
    isplitl [HI]; · iexact HI
    iexact HR
  unfold ready
  simp only [bigSep_sep']
  isplitl [Ht]; · iexact Ht
  isplitl [Ha]; · iexact Ha
  iexact Hcr

end Run

end Cert.Xchg

end
-- ==== Proof.Entry.lean ====
/- A program whose first operation is an exchange (`Xchg`): the launch shares the exchange's counters among the devices,
   the exchange's region runs from them and gives them back, and the rest of the program goes on as any program does. -/
module

public import proofs.«01_k».proof.Proof.Xchg
public import Idealize.ShloMosaic.Lib.Pipeline.Kit

@[expose] public section

noncomputable section

namespace Cert.Entry

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Xchg

set_option Elab.async false

variable {nD : ℕ} {τ : Topo} {sig : RefSig} {Val : EltTy → Type} {Λ₀ : Idealize.SL.Sem.Labels}

/-- The proof's ghost state: the staging cells' and the exchange's. -/
abbrev UU (sig : RefSig) (nD : ℕ) (τ : Topo) : Type := URounds (GSem nD τ sig) Unit × URounds (GSem nD τ sig) Unit

local notation "𝕄" => MT nD τ sig Unit Val ℕ (UU sig nD τ) ℕ

abbrev EP : Emb (URounds (GSem nD τ sig) Unit) (MT nD τ sig Unit Val ℕ (UU sig nD τ) ℕ) := embL
abbrev ER : Emb (URounds (GSem nD τ sig) Unit) (MT nD τ sig Unit Val ℕ (UU sig nD τ) ℕ) := embR

theorem owesAt_of {cfg : Pipeline.Cfg sig Λ₀} {c : Dev nD} (dat : Dat τ Val Unit ℕ (UU sig nD τ) ℕ cfg c) (t : Fin (cfg.N + 1))
    (O : CellTallies nD τ sig Unit) (h : dat.owed t = O) (hr : dat.recorded t = Set.univ) (W : Waits sig Unit) :
    (owes (c : Thread nD τ) O W : sProp 𝕄) ⊢ dat.owesAt () t := by
  unfold Dat.owesAt Pipeline.owesWithin Dat.bound
  rw [h, hr]
  iintro HO
  iexists W
  isplitr
  · ipureintro; exact fun _ _ => Or.inl trivial
  · iexact HO

theorem of_owesAt {cfg : Pipeline.Cfg sig Λ₀} {c : Dev nD} (dat : Dat τ Val Unit ℕ (UU sig nD τ) ℕ cfg c) (t : Fin (cfg.N + 1))
    (O : CellTallies nD τ sig Unit) (h : dat.owed t = O) :
    (dat.owesAt () t : sProp 𝕄) ⊢ iprop(∃ W, owes (c : Thread nD τ) O W) := by
  unfold Dat.owesAt Pipeline.owesWithin
  rw [h]
  iintro ⟨%W, -, HO⟩
  iexists W; iexact HO

section Site

variable {a b : ℕ} (n : Net nD τ sig a b) (pay : Dev nD → Slot a b → sProp (MT nD τ sig Unit Val ℕ (UU sig nD τ) ℕ))
variable (ql : Fin a → PosShare TreeShare) (q : Fin b → PosShare TreeShare)
variable (fls : ∀ l c, Buf Val ((n.lsrc l c).view.loc (c : Thread nD τ))) (fld : ∀ l c, Buf Val ((n.ldst l c).view.loc (c : Thread nD τ)))
variable (fs : ∀ k c, Buf Val ((n.src k c).view.loc (c : Thread nD τ))) (fd : ∀ k c, Buf Val ((n.dst k c).view.loc (n.peer k c : Thread nD τ)))

/-- What a device brings to the exchange, -/
def brings (c : Dev nD) : sProp 𝕄 := iprop((∃ κ, records n pay ER κ) ∗ blocks n ql q fls fld fs fd c ∗ ready ER n c)
/-- and what it takes from it. -/
def takes (c : Dev nD) : sProp 𝕄 := iprop((bigSep Finset.univ fun i => pay c i) ∗ bigSep Finset.univ fun i => semVal (n.cell c i) 0)

variable (cfg : Pipeline.Cfg sig Λ₀) (hW : IsEmpty (Fin cfg.W))

/-- The exchange's region: no window, one point. -/
def dat (c : Dev nD) : Dat τ Val Unit ℕ (UU sig nD τ) ℕ cfg c where
  A w := hW.elim w
  after w := hW.elim w
  Φ t := if t.val = 0 then iprop(brings n pay ql q fls fld fs fd c ∗ scopedRest cfg.spec c)
    else iprop(takes n pay c ∗ scopedRest cfg.spec c)
  q w := hW.elim w
  owed t := if t.val = 0 then owed n c else 0

theorem dat_first (c : Dev nD) (t : Fin (cfg.N + 1)) (h : t.val = 0) :
    (dat n pay ql q fls fld fs fd cfg hW c).Φ t = iprop(brings n pay ql q fls fld fs fd c ∗ scopedRest cfg.spec c)
    ∧ (dat n pay ql q fls fld fs fd cfg hW c).owed t = owed n c := by
  dsimp only [dat]; exact ⟨if_pos h, if_pos h⟩
theorem dat_last (c : Dev nD) (t : Fin (cfg.N + 1)) (h : t.val ≠ 0) :
    (dat n pay ql q fls fld fs fd cfg hW c).Φ t = iprop(takes n pay c ∗ scopedRest cfg.spec c)
    ∧ (dat n pay ql q fls fld fs fd cfg hW c).owed t = 0 := by
  dsimp only [dat]; exact ⟨if_neg h, if_neg h⟩

variable [∀ c i, BI.Storable (upEmb : UEmb _ (MT nD τ sig Unit Val ℕ (UU sig nD τ) ℕ)) (pay c i)]
variable {n pay ql q fls fld fs fd cfg} (hp : Pays n pay ql q fls fld fs fd)

include hp in
/-- The region's body is the exchange's run. -/
theorem dat_body (defs₀ : Defs nD τ sig Val Λ₀) (𝒱₀ : Variants) (hN : cfg.N = 1)
    (ts : List (Fin a ⊕ Fin b)) (hts : ts.Nodup) (hts' : ∀ t, t ∈ ts) (is : List (Slot a b)) (his : is.Nodup) (his' : ∀ i, i ∈ is)
    (hprog : ∀ (t : Fin cfg.N) (c : Dev nD) (Q : sProp 𝕄),
      wp frame (wpE defs₀ 𝒱₀ (c : Thread nD τ) none) Set.univ (n.starts c ts (n.waits is)) (fun _ => Q)
        ⊢ wp frame (wpE defs₀ 𝒱₀ (c : Thread nD τ) none) Set.univ (defs₀ .tc cfg.body (cfg.bodyArgs t (cfg.slots t))) (fun _ => Q)) (c : Dev nD) :
    BodyObligationLoose (dat n pay ql q fls fld fs fd cfg hW c) defs₀ 𝒱₀ () Set.univ := fun t => by
  have h0 : t.castSucc.val = 0 := by have := t.isLt; simp only [Fin.val_castSucc]; omega
  have h1 : t.succ.val ≠ 0 := by simp
  rw [(dat_first n pay ql q fls fld fs fd cfg hW c t.castSucc h0).1, (dat_last n pay ql q fls fld fs fd cfg hW c t.succ h1).1]
  rw [show (Finset.univ : Finset (Fin cfg.W)) = ∅ from Finset.univ_eq_empty (α := Fin cfg.W), BI.bigSep_empty, BI.bigSep_empty]
  refine BIBase.Entails.trans ?_ (hprog t c _)
  unfold brings takes
  iintro ⟨⟨⟨⟨%κ, #HR⟩, Hb, Hr⟩, Hs⟩, HO, -⟩
  ihave HO := (of_owesAt _ _ _ (dat_first n pay ql q fls fld fs fd cfg hW c t.castSucc h0).2) $$ HO
  icases HO with ⟨%W, HO⟩
  iapply (wp_device (defs := defs₀) ER 𝒱₀ κ hp c W ts hts hts' is his his')
  isplitr; · iexact HR
  isplitl [Hb]; · iexact Hb
  isplitl [Hr]; · iexact Hr
  isplitl [HO]; · iexact HO
  iintro ⟨Hp, Hz, %W', HO⟩
  isplitl [Hp Hz Hs]
  · isplitl [Hp Hz]
    · isplitl [Hp]; · iexact Hp
      iexact Hz
    · iexact Hs
  isplitl [HO]
  · iapply (owesAt_of _ _ _ (dat_last n pay ql q fls fld fs fd cfg hW c t.succ h1).2 rfl W'); iexact HO
  iempintro

end Site

section Program

variable {a b : ℕ} {P : Type} [Fintype P] [DecidableEq P]
variable (pcs : P → PCfg sig Λ₀ Val) (ad : (p : P) → (pcs p).Adm)
  (pdats : (p : P) → (c : Dev nD) → Dat τ Val Unit ℕ (UU sig nD τ) ℕ (pin pcs ad p) c)
  (phinj : Function.Injective (cellOf (nD := nD) (τ := τ) (pin pcs ad))) (p : P)
  (defs₀ : Defs nD τ sig Val Λ₀) (𝒱₀ : Variants)

local notation "𝔻" => Pipeline.defs pcs defs₀
local notation "𝕍" => Variants.lift 𝒱₀

/-- What the staging cells of the pipelines other than the exchange's start from. -/
abbrev others (c : Dev nD) : sProp 𝕄 := PerCore.ghostOn pcs (fun _ => ad) EP (Finset.univ.erase p) c

variable {n : Net nD τ sig a b} {pay : Dev nD → Slot a b → sProp (MT nD τ sig Unit Val ℕ (UU sig nD τ) ℕ)}
variable {ql : Fin a → PosShare TreeShare} {q : Fin b → PosShare TreeShare}
variable {fls : ∀ l c, Buf Val ((n.lsrc l c).view.loc (c : Thread nD τ))} {fld : ∀ l c, Buf Val ((n.ldst l c).view.loc (c : Thread nD τ))}
variable {fs : ∀ k c, Buf Val ((n.src k c).view.loc (c : Thread nD τ))} {fd : ∀ k c, Buf Val ((n.dst k c).view.loc (n.peer k c : Thread nD τ))}
variable [∀ c i, BI.Storable (upEmb : UEmb _ (MT nD τ sig Unit Val ℕ (UU sig nD τ) ℕ)) (pay c i)]
variable (hW : IsEmpty (Fin (pin pcs ad p).W)) (hK : IsEmpty (Fin (pcs p).pre.K))

abbrev osem (n : Net nD τ sig a b) : Slot a b → SemLoc sig := fun i => .dma (n.sem i)

/-- The private storage of a device that the exchange's region leaves to others, and the region's ghost state. -/
def kept (ho : OwnSemFacts (pcs p).spec (osem n)) (c : Dev nD) : sProp 𝕄 :=
  iprop(scopedBufs (c.tc : Thread nD τ) ∗ cellsSems0 (pin pcs ad) p c ∗ idleSems0 (pin pcs ad) phinj p ho c ∗ opIdle (c.tc : Thread nD τ)
    ∗ cellsGhost (pin pcs ad) EP p c ∗ toksInit (pin pcs ad) EP p c)

include hK in
/-- The exchange's region, entered with its counters shared. -/
theorem wp_region [∀ e, Nonempty (Val e)] (win : WinFacts₀ (pcs p).spec)
    (ho : OwnSemFacts (pcs p).spec (osem n)) (hN : (pin pcs ad p).N = 1)
    (hpd : ∀ c, pdats p c = dat n pay ql q fls fld fs fd (pin pcs ad p) hW c)
    (hbody : ∀ c, BodyObligationLoose (pdats p c) defs₀ 𝒱₀ () Set.univ) (c : Dev nD) (W : Waits sig Unit)
    (k : PUnit → Prog (TpuEff nD τ sig Val (Sig Λ₀ P fun p => (pcs p).Adm) .tc) PUnit) (Q : PUnit → sProp 𝕄) :
    iprop((iprop(boundary (c.tc : Thread nD τ) ∗ (bigSep Finset.univ fun i => pay c i) ∗ ∃ W, owes (c : Thread nD τ) (0 : CellTallies nD τ sig Unit) W)
          -∗ wp frame (wpE 𝔻 𝕍 (c.tc : Thread nD τ) none) Set.univ (k ⟨⟩) Q)
        ∗ kept pcs ad phinj p ho c ∗ brings n pay ql q fls fld fs fd c ∗ owes (c : Thread nD τ) (owed n c) W)
      ⊢ wp frame (wpE 𝔻 𝕍 (c.tc : Thread nD τ) none) Set.univ (.op (.customCall (entry p) ()) k) Q := by
  classical
  haveI := hW
  haveI := hK
  have hss := scopedSems0_split (pin pcs ad) phinj p win ho (Ix := Unit) (Val := Val) (Name := ℕ) (U := UU sig nD τ) (Lvl := ℕ) c
  have hsb := scopedBufs_split (pin pcs ad) p win.stage_scoped win.stage_inj (fun w => hW.elim w) (nD := nD) (τ := τ) (Ix := Unit) (Val := Val) (Name := ℕ) (U := UU sig nD τ) (Lvl := ℕ) c
  have hlast : (Fin.last (pin pcs ad p).N).val ≠ 0 := by rw [Fin.val_last, hN]; decide
  have d0 := dat_first n pay ql q fls fld fs fd (pin pcs ad p) hW c 0 rfl
  have d1 := dat_last n pay ql q fls fld fs fd (pin pcs ad p) hW c (Fin.last _) hlast
  have hin : iprop(brings n pay ql q fls fld fs fd c ∗ prefHeld (pcs p).pre c (fun _ => fullShare) (ad p).1 ∗ scopedRest (pcs p).spec c) ⊢ (pdats p c).Φ 0 := by
    rw [hpd, d0.1]
    iintro ⟨HX, -, HR⟩
    isplitl [HX]; · iexact HX
    iexact HR
  have hout : iprop((pdats p c).Φ (Fin.last (pin pcs ad p).N) ∗ cellsSems0 (pin pcs ad) p c ∗ Dat.staging (pin pcs ad p) c ∗ idleSems0 (pin pcs ad) phinj p ho c)
      ⊢ iprop((bigSep Finset.univ fun i => pay c i) ∗ scopedSems0 (c.tc : Thread nD τ) ∗ scopedBufs (c.tc : Thread nD τ)) := by
    rw [hss, hsb, hpd, d1.1]
    unfold takes ownSems0
    iintro ⟨⟨⟨HY, Hos⟩, Hrest⟩, Hcells, Hst, Hidle⟩
    isplitl [HY]; · iexact HY
    isplitl [Hcells Hos Hidle]
    · isplitl [Hcells Hos]
      · isplitl [Hcells]; · iexact Hcells
        iexact Hos
      iexact Hidle
    isplitl [Hst]; · iexact Hst
    iexact Hrest
  have hnoW (Φ : Fin (pin pcs ad p).W → sProp 𝕄) : bigSep Finset.univ Φ = iprop(emp) := by
    rw [show (Finset.univ : Finset (Fin (pin pcs ad p).W)) = ∅ from Finset.univ_eq_empty, BI.bigSep_empty]; rfl
  have harr : (iprop(emp) : sProp 𝕄) ⊢ (pdats p c).arrays ((pdats p c).arrAt · 0) := by
    unfold Dat.arrays; rw [hnoW]
  have hwt : (iprop(emp) : sProp 𝕄) ⊢ cellsWaits (pin pcs ad) pdats () p c := by
    unfold cellsWaits PerCore.cellsWaits PerCore.RDat.cellsWaits; rw [hnoW]
  have hpf : (iprop(emp) : sProp 𝕄) ⊢ prefHeld (pcs p).pre c (fun _ => fullShare) (ad p).1 := by
    unfold prefHeld; rw [show (Finset.univ : Finset (Fin (pcs p).pre.K)) = ∅ from Finset.univ_eq_empty, BI.bigSep_empty]; exact BI.Entails.refl _
  have hO : (owes (c : Thread nD τ) (owed n c) W : sProp 𝕄) ⊢ (pdats p c).owesAt () 0 :=
    owesAt_of _ _ _ (by rw [hpd]; exact d0.2) (by rw [hpd]; rfl) W
  have hO' : ((pdats p c).owesAt () (Fin.last _) : sProp 𝕄) ⊢ iprop(∃ W, owes (c : Thread nD τ) (0 : CellTallies nD τ sig Unit) W) :=
    of_owesAt _ _ _ (by rw [hpd]; exact d1.2)
  unfold kept
  iintro ⟨Hk, ⟨Hsc, Hcells, Hidle, Hidl, Hg, Ht⟩, HX, HO⟩
  iapply (fupd_wp frame (wpE 𝔻 𝕍 (c.tc : Thread nD τ) none) Set.univ _ _)
  imod (cellsInit_alloc (pin pcs ad) pdats EP phinj p c) $$ [Hcells Hg] with ⟨%κ, -, Hinit⟩
  · isplitl [Hcells] <;> iassumption
  imodintro
  iapply (wp_customCall_entry_frame pcs ad pdats () EP κ phinj p defs₀ 𝒱₀ (fun _ => fullShare) c Set.univ (fun _ _ => Set.mem_univ _)
      (hbody c) (fun w => hW.elim w) none (fun u hu => nomatch hu) (X := brings n pay ql q fls fld fs fd c) (Y := bigSep Finset.univ fun i => pay c i)
      (R := scopedRest (pcs p).spec c)
      (I := idleSems0 (pin pcs ad) phinj p ho c) (Entails.of_eq hsb) hin hout (k := k) (Q := Q)) $$ [HO Hinit Ht HX Hidle Hsc]
  · isplitl [HO Hinit Ht]
    · unfold EntryPre PerCore.EntryPre
      isplitr; · iapply harr; iempintro
      isplitl [HO]; · iapply hO; iexact HO
      isplitr; · iapply hwt; iempintro
      isplitl [Hinit] <;> iassumption
    isplitr; · iapply hpf; iempintro
    isplitl [HX]; · iexact HX
    isplitl [Hidle]; · iexact Hidle
    iexact Hsc
  iintro ⟨Hpost, HY, Hss2, Hsc2⟩
  unfold EntryPost PerCore.EntryPost
  icases Hpost with ⟨-, HO⟩
  ihave HO := hO' $$ HO
  ihave Hbd := (show iprop(scopedBufs (c.tc : Thread nD τ) ∗ scopedSems0 (c.tc : Thread nD τ) ∗ opIdle (c.tc : Thread nD τ))
      ⊢ boundary (c.tc : Thread nD τ) from BI.Entails.refl _) $$ [Hsc2 Hss2 Hidl]
  · isplitl [Hsc2]; · iexact Hsc2
    isplitl [Hss2]; · iexact Hss2
    iexact Hidl
  iapply Hk
  isplitl [Hbd]; · iexact Hbd
  isplitl [HY]; · iexact HY
  iexact HO

/-- What the host knows of a device, and what it owes: the launch holdings the exchange's counters are taken out of. -/
theorem held_open (O₀ : Dev nD → CellTallies nD τ sig Unit) (m : (ℓ : Loc nD τ sig) → Buf Val ℓ) (g : Dev nD → PrngReg)
    (win : WinFacts₀ (pcs p).spec) (ho : OwnSemFacts (pcs p).spec (osem n)) (c : Dev nD) :
    (Launch.held O₀ m g c : sProp 𝕄) ⊢ iprop((bigSep Finset.univ fun i => semVal (n.cell c i) 0)
      ∗ launchCred O₀ c ∗ unscopedBufs c (fun b => m ((c.tc : Thread nD τ).loc b)) ∗ owes (c.tc : Thread nD τ) (O₀ c) ∅
      ∗ scopedBufs (c.tc : Thread nD τ) ∗ cellsSems0 (pin pcs ad) p c ∗ idleSems0 (pin pcs ad) phinj p ho c ∗ opIdle (c.tc : Thread nD τ)) := by
  have hss := scopedSems0_split (pin pcs ad) phinj p win ho (Ix := Unit) (Val := Val) (Name := ℕ) (U := UU sig nD τ) (Lvl := ℕ) c
  have hbd : (boundary (c.tc : Thread nD τ) : sProp 𝕄)
      ⊢ iprop(scopedBufs (c.tc : Thread nD τ) ∗ ((cellsSems0 (pin pcs ad) p c ∗ ownSems0 (osem n) c) ∗ idleSems0 (pin pcs ad) phinj p ho c) ∗ opIdle (c.tc : Thread nD τ)) := by
    unfold boundary; rw [hss]
  unfold Launch.held
  iintro ⟨Hb, Hub, -, HO, Hcr, -⟩
  ihave Hb := hbd $$ Hb
  unfold ownSems0
  icases Hb with ⟨Hsc, ⟨⟨Hcells, Hos⟩, Hidle⟩, Hidl⟩
  isplitl [Hos]; · iexact Hos
  isplitl [Hcr]; · iexact Hcr
  isplitl [Hub]; · iexact Hub
  isplitl [HO]; · iexact HO
  isplitl [Hsc]; · iexact Hsc
  isplitl [Hcells]; · iexact Hcells
  isplitl [Hidle]; · iexact Hidle
  iexact Hidl

include phinj hK in
/-- THE RUN of a program that begins with an exchange: what the devices hold of the buffers the host knows is dealt into
    the blocks each device's transfers touch and the rest (`hsplit`); after the exchange each device holds what its cells
    brought and the rest, and runs on from there (`hrest`). -/
theorem θ_run_exchange [∀ e, Nonempty (Val e)] (win : WinFacts₀ (pcs p).spec)
    (ho : OwnSemFacts (pcs p).spec (osem n)) (hN : (pin pcs ad p).N = 1)
    (hp : Pays n pay ql q fls fld fs fd)
    (hpd : ∀ c, pdats p c = dat n pay ql q fls fld fs fd (pin pcs ad p) hW c)
    (ts : List (Fin a ⊕ Fin b)) (hts : ts.Nodup) (hts' : ∀ t, t ∈ ts) (is : List (Slot a b)) (his : is.Nodup) (his' : ∀ i, i ∈ is)
    (hprog : ∀ (t : Fin (pin pcs ad p).N) (c : Dev nD) (Q : sProp 𝕄),
      wp frame (wpE defs₀ 𝒱₀ (c : Thread nD τ) none) Set.univ (n.starts c ts (n.waits is)) (fun _ => Q)
        ⊢ wp frame (wpE defs₀ 𝒱₀ (c : Thread nD τ) none) Set.univ (defs₀ .tc (pin pcs ad p).body ((pin pcs ad p).bodyArgs t ((pin pcs ad p).slots t))) (fun _ => Q))
    (m : (ℓ : Loc nD τ sig) → Buf Val ℓ) (g : Dev nD → PrngReg)
    (main : Dev nD → Prog (TpuEff nD τ sig Val (Sig Λ₀ P fun p => (pcs p).Adm) .tc) PUnit)
    (rest : Dev nD → PUnit → Prog (TpuEff nD τ sig Val (Sig Λ₀ P fun p => (pcs p).Adm) .tc) PUnit)
    (hmain : ∀ c, main c = .op (.customCall (entry p) ()) (rest c))
    (L : GSem nD τ sig → Finset Unit) (lv : GSem nD τ sig → Unit → ℕ) (hL : ∀ g : GSem nD τ sig, g.1.2 ≠ .tc → L g = ∅)
    (Z Tₙ : Dev nD → sProp 𝕄)
    (hsplit : (bigSep Finset.univ fun c : Dev nD => unscopedBufs c (fun b => m ((c.tc : Thread nD τ).loc b)))
      ⊢ bigSep Finset.univ fun c => iprop(blocks n ql q fls fld fs fd c ∗ Z c))
    (hrest : ∀ c, iprop(boundary (c.tc : Thread nD τ) ∗ (Z c ∗ bigSep Finset.univ fun i => pay c i)
        ∗ (∃ W, owes (c.tc : Thread nD τ) (0 : CellTallies nD τ sig Unit) W) ∗ levAts L lv ∗ others pcs ad p c)
      ⊢ wp frame (wpE 𝔻 𝕍 (c.tc : Thread nD τ) none) Set.univ (rest c ⟨⟩)
        (fun _ => iprop(Tₙ c ∗ boundary (c.tc : Thread nD τ) ∗ ∃ W, owes (c.tc : Thread nD τ) (0 : CellTallies nD τ sig Unit) W)))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hg (c : Dev nD) : iprop((bigSep Finset.univ fun p => cellsGhost (pin pcs ad) EP p c) ∗ bigSep Finset.univ fun p => toksInit (pin pcs ad) EP p c)
      ⊢ (iprop((cellsGhost (pin pcs ad) EP p c ∗ toksInit (pin pcs ad) EP p c) ∗ others pcs ad p c) : sProp 𝕄) := by
    refine BIBase.Entails.trans (Entails.of_eq ?_) (Entails.of_eq (PerCore.ghostOn_erase pcs (fun _ => ad) EP (Finset.mem_univ p) c))
    unfold PerCore.ghostOn; rw [bigSep_sep']
  refine Launch.θ_run_shared (U := UU sig nD τ) 𝕍 m g main (owed n) L lv hL
    (initOf (Pipeline.cells (pin pcs ad) phinj) (Pipeline.launchToks (pin pcs ad) phinj), seed n)
    (fun c => iprop((kept pcs ad phinj p ho c ∗ others pcs ad p c) ∗ (brings n pay ql q fls fld fs fd c ∗ Z c) ∗ owes (c.tc : Thread nD τ) (owed n c) ∅))
    Tₙ ?_ (fun c => ?_) QY hfin hQ
  · have hop : (bigSep Finset.univ fun c : Dev nD => (Launch.held (owed n) m g c : sProp 𝕄))
        ⊢ bigSep Finset.univ fun c : Dev nD => iprop((bigSep Finset.univ fun i => semVal (n.cell c i) 0)
          ∗ launchCred (owed n) c ∗ unscopedBufs c (fun b => m ((c.tc : Thread nD τ).loc b)) ∗ owes (c.tc : Thread nD τ) (owed n c) ∅
          ∗ scopedBufs (c.tc : Thread nD τ) ∗ cellsSems0 (pin pcs ad) p c ∗ idleSems0 (pin pcs ad) phinj p ho c ∗ opIdle (c.tc : Thread nD τ)) :=
      bigSep_mono fun c _ => held_open pcs ad phinj p (owed n) m g win ho c
    iintro ⟨Hh, -, Hu⟩
    ihave Hh := hop $$ Hh
    simp only [bigSep_sep']
    icases Hh with ⟨Hz, Hcr, Hub, HO, Hsc, Hcells, Hidle, Hidl⟩
    ihave Hu := (ownU_pair _ _) $$ Hu
    icases Hu with ⟨HP, HX⟩
    imod (fund_ghost (pin pcs ad) EP phinj) $$ HP with ⟨Hg, Ht⟩
    imod (fund ER n pay) $$ [Hz HX Hcr] with ⟨%κ, #HR, Hready⟩
    · isplitl [Hz]; · iexact Hz
      isplitl [HX]; · iexact HX
      iexact Hcr
    imodintro
    have hgs : iprop((bigSep Finset.univ fun c : Dev nD => bigSep Finset.univ fun p => cellsGhost (pin pcs ad) EP p c)
          ∗ bigSep Finset.univ fun c : Dev nD => bigSep Finset.univ fun p => toksInit (pin pcs ad) EP p c)
        ⊢ (iprop(((bigSep Finset.univ fun c : Dev nD => cellsGhost (pin pcs ad) EP p c) ∗ bigSep Finset.univ fun c : Dev nD => toksInit (pin pcs ad) EP p c)
          ∗ bigSep Finset.univ fun c : Dev nD => others pcs ad p c) : sProp 𝕄) := by
      rw [← bigSep_sep', ← bigSep_sep', ← bigSep_sep']
      exact bigSep_mono fun c _ => hg c
    ihave Hg := hgs $$ [Hg Ht]
    · isplitl [Hg]; · iexact Hg
      iexact Ht
    icases Hg with ⟨⟨Hg, Ht⟩, Hrest⟩
    have hsp := hsplit.trans (Entails.of_eq (bigSep_sep' (s := Finset.univ) (blocks n ql q fls fld fs fd) Z))
    ihave Hub := hsp $$ Hub
    icases Hub with ⟨Hbl, HZ⟩
    unfold kept brings
    simp only [bigSep_sep']
    isplitl [Hsc Hcells Hidle Hidl Hg Ht Hrest]
    · isplitr [Hrest]
      · isplitl [Hsc]; · iexact Hsc
        isplitl [Hcells]; · iexact Hcells
        isplitl [Hidle]; · iexact Hidle
        isplitl [Hidl]; · iexact Hidl
        isplitl [Hg]; · iexact Hg
        iexact Ht
      iexact Hrest
    isplitr [HO]
    · isplitr [HZ]
      · isplitr
        · have hrec : records n pay ER κ ⊢ bigSep Finset.univ fun _ : Dev nD => iprop(∃ κ, records n pay ER κ) :=
            BI.bigSep_intro_persistent fun _ _ => by iintro #H; iexists κ; iexact H
          iapply hrec; iexact HR
        isplitl [Hbl]; · iexact Hbl
        iexact Hready
      iexact HZ
    iexact HO
  · rw [hmain c]
    iintro ⟨⟨⟨Hk, Ho⟩, ⟨Hb, HZ⟩, HO⟩, Hla⟩
    iapply (wp_region pcs ad pdats phinj p defs₀ 𝒱₀ hW hK win ho hN hpd
      (fun c => by rw [hpd c]; exact dat_body hW hp defs₀ 𝒱₀ hN ts hts hts' is his his' hprog c) c ∅)
    isplitr [Hk Hb HO]
    · iintro ⟨Hbd, Hp, HW⟩
      iapply (hrest c)
      isplitl [Hbd]; · iexact Hbd
      isplitl [HZ Hp]
      · isplitl [HZ]; · iexact HZ
        iexact Hp
      isplitl [HW]; · iexact HW
      isplitl [Hla]; · iexact Hla
      iexact Ho
    isplitl [Hk]; · iexact Hk
    isplitl [Hb]; · iexact Hb
    iexact HO

end Program

end Cert.Entry

end
-- ==== Proof.ScatterNet.lean ====
/- The exchange of `scatter_grads` on the printed text: who the peers are, which blocks go where, on which counters; the
   body is the starts then the waits of that exchange. -/
module

public import proofs.«01_k».proof.Proof.Entry
public import proofs.«01_k».proof.Proof.Gen.KernelIdeal.Launch
public import proofs.«01_k».proof.Proof.Gen.KernelIdeal.Skeleton

@[expose] public section

set_option Elab.async false

noncomputable section

namespace Cert.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Xchg

/-- Device `c`'s peer of copy `k`. -/
def peer : Fin 7 → Dev nD → Dev nD
  | 0, c => ⟨k0_dev1 c, k0_dev1_lt c⟩ | 1, c => ⟨k0_dev2 c, k0_dev2_lt c⟩ | 2, c => ⟨k0_dev3 c, k0_dev3_lt c⟩
  | 3, c => ⟨k0_dev4 c, k0_dev4_lt c⟩ | 4, c => ⟨k0_dev5 c, k0_dev5_lt c⟩ | 5, c => ⟨k0_dev6 c, k0_dev6_lt c⟩
  | 6, c => ⟨k0_dev7 c, k0_dev7_lt c⟩

/-- One block of eight, as the text slices it out. -/
abbrev blk (M : Memref sig .tc .hbm S8x3072x1024 .f32) (off : Fin 3 → ℕ)
    (inb : ∀ a, off a + S1x3072x1024.size a ≤ S8x3072x1024.size a) : Memref sig .tc .hbm S3072x1024 .f32 :=
  (M.slice (Rect.unit (s := S8x3072x1024) off S1x3072x1024.size inb) (fun _ => rfl)).squeeze S3072x1024 squeezes_S1x3072x1024_S3072x1024

/-- Where the block copied out by copy `k` lies. -/
def off : Fin 7 → Dev nD → Fin 3 → ℕ
  | 0 => k0_off2 | 1 => k0_off3 | 2 => k0_off4 | 3 => k0_off5 | 4 => k0_off6 | 5 => k0_off7 | 6 => k0_off8
theorem off_inb : ∀ (k : Fin 7) (c : Dev nD) (a : Fin 3), off k c a + S1x3072x1024.size a ≤ S8x3072x1024.size a
  | 0 => k0_off2_inb | 1 => k0_off3_inb | 2 => k0_off4_inb | 3 => k0_off5_inb | 4 => k0_off6_inb | 5 => k0_off7_inb | 6 => k0_off8_inb

/-- The counter of each cell. -/
def sem : Slot 1 7 → DmaSem sig
  | .inl _ => cc0_scratch2.sem
  | .inr (.inl k) => ((cc0_scratch0.slice (Rect.unit (s := S7) ![k.val] S1.size (by revert k; decide))).squeeze S_ squeezes_S1_S_).sem
  | .inr (.inr k) => ((cc0_scratch1.slice (Rect.unit (s := S7) ![k.val] S1.size (by revert k; decide))).squeeze S_ squeezes_S1_S_).sem

/-- The exchange. -/
def net : Net nD τ sig 1 7 where
  peer := peer
  peer_peer := by decide +kernel
  sem := sem
  sem_inj := by decide +kernel
  S := S3072x1024
  e := .f32
  lsrc _ c := blk (Memref.whole main_arg0) (k0_off1 c) (k0_off1_inb c)
  ldst _ c := blk (Memref.whole main_v1) (k0_off1 c) (k0_off1_inb c)
  src k c := blk (Memref.whole main_arg0) (off k c) (off_inb k c)
  dst _ c := blk (Memref.whole main_v1) (k0_off1 c) (k0_off1_inb c)
  lsrc_we _ _ := (View.wordExact_bits rfl).reshape _ _
  ldst_we _ _ := (View.wordExact_bits rfl).reshape _ _
  src_we _ _ := (View.wordExact_bits rfl).reshape _ _
  dst_we _ _ := (View.wordExact_bits rfl).reshape _ _
  dst_sc _ _ := rfl
  wb
    | .inl _ => main_v1
    | .inr (.inl _) => main_arg0
    | .inr (.inr _) => main_v1
  wb_has
    | .inl _ => (blk (Memref.whole main_v1) (k0_off1 0) (k0_off1_inb 0)).hasMemref
    | .inr (.inl _) => (blk (Memref.whole main_arg0) (k0_off1 0) (k0_off1_inb 0)).hasMemref
    | .inr (.inr _) => (blk (Memref.whole main_v1) (k0_off1 0) (k0_off1_inb 0)).hasMemref
  N := main_v1.dmaCredit S3072x1024 .f32
  N_pos := by decide +kernel
  ldst_N _ _ := rfl
  dst_N _ _ := rfl
  wb_N i := by rcases i with _ | _ | _ <;> rfl

/-- The order the transfers start in. -/
def ts : List (Fin 1 ⊕ Fin 7) := [.inl 0, .inr 0, .inr 1, .inr 2, .inr 3, .inr 4, .inr 5, .inr 6]
/-- The order the waits run in. -/
def is : List (Slot 1 7) := [.inr (.inr 0), .inr (.inr 1), .inr (.inr 2), .inr (.inr 3), .inr (.inr 4), .inr (.inr 5), .inr (.inr 6),
  .inr (.inl 0), .inr (.inl 1), .inr (.inl 2), .inr (.inl 3), .inr (.inl 4), .inr (.inl 5), .inr (.inl 6), .inl 0]

variable {F : FTy → Type} [FloatOps F]

set_option maxRecDepth 65536 in
/-- The body reads the device's number, starts the transfers and waits for them. -/
theorem body_eq : cc0_scatter_grads (F := F) (Memref.whole main_arg0) (Memref.isWhole_whole _) (Memref.whole main_v1) (Memref.isWhole_whole _)
      cc0_scratch0 cc0_scratch1 cc0_scratch2
    = .op .deviceId fun c => net.starts c ts (net.waits is) := rfl

end Cert.Scatter

end
-- ==== Proof.Rows.lean ====
/- A buffer of eight blocks, sliced a block at a time: which elements a block has, what a block copied over another leaves,
   and a whole buffer as its eight blocks. -/
module

public import Idealize.ShloMosaic.Lib.Tactic
public import Idealize.ShloMosaic.Lib.Pipeline.Kit

@[expose] public section

noncomputable section

namespace Cert.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- Eight blocks of `R` rows and `C` columns. -/
abbrev T (n R C : ℕ) : Shape := ⟨3, ![n, R, C]⟩
/-- One block, its leading axis kept. -/
abbrev B (R C : ℕ) : Shape := ⟨3, ![1, R, C]⟩

variable {n R C : ℕ} {nD : ℕ} {τ : Topo} {sig : RefSig} {κ : Kind} {sp sp' : Space} {e : EltTy} {Val : EltTy → Type}

/-- The index with its leading coordinate replaced. -/
def lead (j : Fin n) (i : (T n R C).Idx) : (T n R C).Idx := fun | 0 => j | 1 => i 1 | 2 => i 2

/-- The elements of block `j`. -/
def row (j : Fin n) : Finset (T n R C).Idx := Finset.univ.filter fun i => (i 0).val = j.val

theorem mem_row {j : Fin n} {i : (T n R C).Idx} : i ∈ row j ↔ (i 0).val = j.val := by unfold row; rw [Finset.mem_filter]; exact and_iff_right (Finset.mem_univ _)

theorem rect_set (j : Fin n) (off : Fin 3 → ℕ) (inb : ∀ a, off a + (B R C).size a ≤ (T n R C).size a) (h : off = ![j.val, 0, 0]) :
    (Rect.unit (s := T n R C) off (B R C).size inb).set = row j := by
  subst h
  ext i
  rw [Rect.mem_set_unit, mem_row]
  constructor
  · intro h
    have h0 := h 0
    have h1 : (![j.val, 0, 0] : Fin 3 → ℕ) 0 = j.val := rfl
    have h2 : (B R C).size 0 = 1 := rfl
    rw [h1, h2] at h0
    omega
  · intro h a
    have hi := (i a).isLt
    fin_cases a
    · exact ⟨h.ge, Nat.lt_succ_of_le h.le⟩
    · exact ⟨Nat.zero_le _, lt_of_lt_of_le hi (Nat.zero_add R).ge⟩
    · exact ⟨Nat.zero_le _, lt_of_lt_of_le hi (Nat.zero_add C).ge⟩

/-- The same place in two blocks. -/
theorem rect_emb (j j' : Fin n) (off off' : Fin 3 → ℕ) (inb : ∀ a, off a + (B R C).size a ≤ (T n R C).size a)
    (inb' : ∀ a, off' a + (B R C).size a ≤ (T n R C).size a) (h : off = ![j.val, 0, 0]) (h' : off' = ![j'.val, 0, 0]) (y : (B R C).Idx) :
    (Rect.unit (s := T n R C) off' (B R C).size inb').emb y = lead j' ((Rect.unit (s := T n R C) off (B R C).size inb).emb y) := by
  subst h; subst h'
  funext a
  refine Fin.ext ?_
  fin_cases a
  · have hy : (y 0).val = 0 := Nat.lt_one_iff.mp (y 0).isLt
    show j'.val + 1 * (y 0).val = j'.val
    rw [hy]; rfl
  · rfl
  · rfl

/-- Contents agreeing with `G` through a view, written through it, are `G` on the view's elements. -/
theorem write_of_read {s : Shape} (v : View sig κ sp s e) (G g : v.ty.Contents Val) (w : s.Idx → Val e) (h : v.read Val G = w) :
    ∀ i ∈ v.set, v.write Val g w Finset.univ i = G i := by
  intro i hi
  subst h
  rw [v.write_read_eq_piecewise g G Finset.univ]
  exact Finset.piecewise_eq_of_mem _ _ _ (by rw [View.setOn_univ]; exact hi)

/-- Block `off` of the buffer behind `v`, squeezed. -/
abbrev cut (v : View sig κ sp (T n R C) e) (off : Fin 3 → ℕ) (inb : ∀ a, off a + (B R C).size a ≤ (T n R C).size a) (s : Shape)
    (hs : s.numel = (B R C).numel) : View sig κ sp s e := (v.slice (Rect.unit (s := T n R C) off (B R C).size inb)).reshape s hs

/-- One block copied over another. -/
theorem copy_block (v : View sig κ sp (T n R C) e) (v' : View sig κ sp' (T n R C) e) (j j' : Fin n) (off off' : Fin 3 → ℕ)
    (inb : ∀ a, off a + (B R C).size a ≤ (T n R C).size a) (inb' : ∀ a, off' a + (B R C).size a ≤ (T n R C).size a)
    (h : off = ![j.val, 0, 0]) (h' : off' = ![j'.val, 0, 0]) (s : Shape) (hs : s.numel = (B R C).numel)
    (G g : v.ty.Contents Val) (f : v'.ty.Contents Val) (hG : ∀ i, (i 0).val = j.val → v.read Val G i = v'.read Val f (lead j' i)) :
    ∀ i ∈ (cut v off inb s hs).set, (cut v off inb s hs).write Val g ((cut v' off' inb' s hs).read Val f) Finset.univ i = G i := by
  refine write_of_read (cut v off inb s hs) G g _ (funext fun x => ?_)
  have e1 : (cut v off inb s hs).read Val G x = v.read Val G ((Rect.unit (s := T n R C) off (B R C).size inb).emb (Shape.reshapeEquiv hs x)) := rfl
  have e2 : (cut v' off' inb' s hs).read Val f x = v'.read Val f ((Rect.unit (s := T n R C) off' (B R C).size inb').emb (Shape.reshapeEquiv hs x)) := rfl
  rw [e1, e2, rect_emb j j' off off' inb inb' h h']
  refine hG _ ?_
  rw [← mem_row, ← rect_set j off inb h, ← Rect.map_emb_univ]
  exact Finset.mem_map_of_mem _ (Finset.mem_univ _)

/-- The blocks are apart and are everything. -/
theorem row_disjoint (j j' : Fin n) (h : j ≠ j') : Disjoint (row (R := R) (C := C) j) (row j') :=
  Finset.disjoint_left.mpr fun _ hi hi' => h (Fin.ext ((mem_row.mp hi).symm.trans (mem_row.mp hi')))
theorem rows_univ : (Finset.univ : Finset (Fin n)).biUnion (row (R := R) (C := C)) = Finset.univ :=
  Finset.eq_univ_iff_forall.mpr fun i => Finset.mem_biUnion.mpr ⟨i 0, Finset.mem_univ _, mem_row.mpr rfl⟩

/-! ## A device and its peers are all the devices -/

section Peers

variable {b : ℕ} (peer : Fin b → Fin n → Fin n) {M : Type} [URA M]

/-- A device's own number, then its peers'. -/
def turn (c : Fin n) : Unit ⊕ Fin b → Fin n
  | .inl _ => c
  | .inr k => peer k c

/-- A family over all devices is its member at `c` and those at `c`'s peers. -/
theorem by_turn {c : Fin n} (hi : Function.Injective (turn peer c)) (hn : 1 + b = n) (Φ : Fin n → sProp M) :
    bigSep Finset.univ Φ = iprop(Φ c ∗ bigSep Finset.univ fun k => Φ (peer k c)) := by
  have hb : Function.Bijective (turn peer c) := (Fintype.bijective_iff_injective_and_card _).mpr ⟨hi, by simpa using hn⟩
  rw [BI.bigSep_univ_equiv (Equiv.ofBijective (turn peer c) hb) Φ, BI.bigSep_univ_sum, BI.bigSep_univ_of_subsingleton ()]
  rfl

/-- Every device's pieces held at its peers, each given to its holder. -/
theorem across (hp : ∀ k c, peer k (peer k c) = c) (Φ : Fin n → Fin n → sProp M) :
    (bigSep Finset.univ fun c => bigSep Finset.univ fun k => Φ c (peer k c))
      = bigSep Finset.univ fun c => bigSep Finset.univ fun k => Φ (peer k c) c := by
  rw [BI.bigSep_univ_comm, BI.bigSep_univ_comm fun c k => Φ (peer k c) c]
  refine congrArg _ (funext fun k => ?_)
  rw [BI.bigSep_univ_equiv (⟨peer k, peer k, hp k, hp k⟩ : Fin n ≃ Fin n)]
  refine congrArg _ (funext fun c => ?_)
  show Φ (peer k c) (peer k (peer k c)) = _
  rw [hp]

end Peers

end Cert.Rows

end
-- ==== Proof.Scatter.lean ====
/- What the exchange of `scatter_grads` moves: the buffers of all the devices cut into the blocks its transfers take, and what
   each transfer leaves. -/
module

public import proofs.«01_k».proof.Proof.ScatterNet
public import proofs.«01_k».proof.Proof.Rows

@[expose] public section

set_option Elab.async false

noncomputable section

namespace Cert.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Cert.KernelIdeal.Gen Cert.Xchg Cert.Rows

variable {F : FTy → Type} [FloatOps F]

local notation "𝕄" => MT nD τ sig Unit (Elt F) ℕ (Entry.UU sig nD τ) ℕ

/-! ## The blocks named by device -/

theorem off_self (c : Dev nD) : k0_off1 c = ![c.val, 0, 0] := by revert c; decide +kernel
theorem off_src : ∀ (k : Fin 7) (c : Dev nD), off k c = ![(net.peer k c).val, 0, 0] := by decide +kernel

theorem src_set0 (off : Fin 3 → ℕ) (inb) (j : Dev nD) (h : off = ![j.val, 0, 0]) :
    (blk (Memref.whole main_arg0) off inb).view.set = (row (n := 8) (R := 3072) (C := 1024) j : Finset S8x3072x1024.Idx) :=
  (View.set_reshape _ _).trans ((View.set_slice_whole main_arg0 _).trans (rect_set j off inb h))
theorem dst_set0 (off : Fin 3 → ℕ) (inb) (j : Dev nD) (h : off = ![j.val, 0, 0]) :
    (blk (Memref.whole main_v1) off inb).view.set = (row (n := 8) (R := 3072) (C := 1024) j : Finset S8x3072x1024.Idx) :=
  (View.set_reshape _ _).trans ((View.set_slice_whole main_v1 _).trans (rect_set j off inb h))

/-- One block of a device's argument, at contents `f`. -/
def argRow (c j : Dev nD) (f : Buf (Elt F) ((c : Thread nD τ).loc main_arg0)) : sProp 𝕄 :=
  (c : Thread nD τ).loc main_arg0 ↦[(row (n := 8) (R := 3072) (C := 1024) j : Finset S8x3072x1024.Idx)]{fullShare} f
/-- One block of a device's exchanged array, at contents `f`. -/
def outRow (c j : Dev nD) (f : Buf (Elt F) ((c : Thread nD τ).loc main_v1)) : sProp 𝕄 :=
  (c : Thread nD τ).loc main_v1 ↦[(row (n := 8) (R := 3072) (C := 1024) j : Finset S8x3072x1024.Idx)]{fullShare} f

/-- A whole buffer is its blocks. -/
theorem arg_rows (c : Dev nD) (f : Buf (Elt F) ((c : Thread nD τ).loc main_arg0)) :
    ((c : Thread nD τ).loc main_arg0 ↦{fullShare} f : sProp 𝕄) = bigSep Finset.univ fun j : Dev nD => argRow c j f := by
  have h := pointsTo_biUnion (ℓ := (c : Thread nD τ).loc main_arg0) (q := fullShare) (f := f) (Ix := Unit) (Name := ℕ) (U := Entry.UU sig nD τ) (Lvl := ℕ)
    (Finset.univ : Finset (Dev nD)) (fun j => (row (n := 8) (R := 3072) (C := 1024) j : Finset S8x3072x1024.Idx)) (fun j _ j' _ hj => row_disjoint j j' hj)
  refine Eq.trans ?_ h
  rw [show ((Finset.univ : Finset (Dev nD)).biUnion fun j => (row (n := 8) (R := 3072) (C := 1024) j : Finset S8x3072x1024.Idx)) = Finset.univ from rows_univ]
theorem out_rows (c : Dev nD) (f : Buf (Elt F) ((c : Thread nD τ).loc main_v1)) :
    ((c : Thread nD τ).loc main_v1 ↦{fullShare} f : sProp 𝕄) = bigSep Finset.univ fun j : Dev nD => outRow c j f := by
  have h := pointsTo_biUnion (ℓ := (c : Thread nD τ).loc main_v1) (q := fullShare) (f := f) (Ix := Unit) (Name := ℕ) (U := Entry.UU sig nD τ) (Lvl := ℕ)
    (Finset.univ : Finset (Dev nD)) (fun j => (row (n := 8) (R := 3072) (C := 1024) j : Finset S8x3072x1024.Idx)) (fun j _ j' _ hj => row_disjoint j j' hj)
  refine Eq.trans ?_ h
  rw [show ((Finset.univ : Finset (Dev nD)).biUnion fun j => (row (n := 8) (R := 3072) (C := 1024) j : Finset S8x3072x1024.Idx)) = Finset.univ from rows_univ]

/-! ## What is where -/

theorem turn_inj (c : Dev nD) : Function.Injective (turn net.peer c) := by revert c; decide +kernel

/-- Device `c`'s exchanged array: its block `j` is block `c` of what device `j` sent. -/
def got (A : (c : Dev nD) → Buf (Elt F) ((c : Thread nD τ).loc main_arg0)) (c : Dev nD) : Buf (Elt F) ((c : Thread nD τ).loc main_v1) :=
  fun i : S8x3072x1024.Idx => A (i 0) (lead (n := 8) (R := 3072) (C := 1024) c i : S8x3072x1024.Idx)

variable (A : (c : Dev nD) → Buf (Elt F) ((c : Thread nD τ).loc main_arg0)) (B : (c : Dev nD) → Buf (Elt F) ((c : Thread nD τ).loc main_v1))

/-- What each wait hands back. -/
def pay (c : Dev nD) : Slot 1 7 → sProp 𝕄
  | .inl _ => iprop(outRow c c (got A c) ∗ argRow c c (A c))
  | .inr (.inl k) => argRow c (net.peer k c) (A c)
  | .inr (.inr k) => outRow c (net.peer k c) (got A c)

instance pay_storable (c : Dev nD) (i : Slot 1 7) : BI.Storable (upEmb : UEmb _ 𝕄) (pay A c i) := by
  rcases i with _ | _ | _ <;> unfold pay argRow outRow <;> infer_instance

/-- What a transfer into block `j` of device `c` from block `c` of device `j` leaves. -/
theorem landed (c j : Dev nD) (off off' : Fin 3 → ℕ) (inb inb') (h : off = ![j.val, 0, 0]) (h' : off' = ![c.val, 0, 0])
    (g : Buf (Elt F) ((c : Thread nD τ).loc main_v1)) (f : Buf (Elt F) ((j : Thread nD τ).loc main_arg0)) (hf : f = A j) :
    (((blk (Memref.whole main_v1) off inb).view.loc (c : Thread nD τ) ↦[(blk (Memref.whole main_v1) off inb).view.set]{fullShare}
      ((blk (Memref.whole main_v1) off inb).view.write (Elt F) g ((blk (Memref.whole main_arg0) off' inb').view.read (Elt F) f) Finset.univ)) : sProp 𝕄)
    = outRow c j (got A c) := by
  subst hf
  rw [pointsTo_congr (g := got A c)]
  · unfold outRow
    rw [dst_set0 off inb j h]
  · exact copy_block (View.whole main_v1) (View.whole main_arg0) j c off off' inb inb' h h' S3072x1024 squeezes_S1x3072x1024_S3072x1024.numel_eq (got A c) g (A j) fun i hi => by
      have e : (i 0 : Dev nD) = j := Fin.ext hi
      show A (i 0 : Dev nD) (lead c i : S8x3072x1024.Idx) = A j (lead c i : S8x3072x1024.Idx)
      rw [e]

theorem pays : Pays net (pay A) (fun _ => fullShare) (fun _ => fullShare) (fun _ c => A c) (fun _ c => B c) (fun _ c => A c)
    (fun k c => B (net.peer k c)) where
  loc c l := by
    refine sep_mono (Entails.of_eq (landed A c c _ _ _ _ (off_self c) (off_self c) _ _ rfl)) (Entails.of_eq ?_)
    unfold argRow
    exact congrArg (fun s => ((c : Thread nD τ).loc main_arg0 ↦[s]{fullShare} A c : sProp 𝕄)) (src_set0 _ _ c (off_self c))
  snd c k := by
    refine Entails.of_eq ?_
    exact congrArg (fun s => ((c : Thread nD τ).loc main_arg0 ↦[s]{fullShare} A c : sProp 𝕄)) (src_set0 _ _ _ (off_src k c))
  rcv c k := by
    refine Entails.of_eq ?_
    refine (landed A (net.peer k c) c _ _ _ _ (off_self c) (off_src k c) _ _ rfl).trans ?_
    show _ = outRow (net.peer k c) (net.peer k (net.peer k c)) (got A (net.peer k c))
    rw [net.peer_peer]

/-- The blocks of one device's transfers, named. -/
theorem blocks_eq (c : Dev nD) : blocks net (fun _ => fullShare) (fun _ => fullShare) (fun _ c => A c) (fun _ c => B c) (fun _ c => A c)
      (fun k c => B (net.peer k c)) c
    = (iprop((argRow c c (A c) ∗ outRow c c (B c)) ∗ bigSep Finset.univ fun k => iprop(argRow c (net.peer k c) (A c)
      ∗ outRow (net.peer k c) c (B (net.peer k c)))) : sProp 𝕄) := by
  unfold blocks
  rw [BI.bigSep_univ_of_subsingleton (0 : Fin 1)]
  refine congrArg₂ BIBase.sep (congrArg₂ BIBase.sep ?_ ?_) (congrArg _ (funext fun k => congrArg₂ BIBase.sep ?_ ?_))
  · unfold argRow
    exact congrArg (fun s => ((c : Thread nD τ).loc main_arg0 ↦[s]{fullShare} A c : sProp 𝕄)) (src_set0 _ _ c (off_self c))
  · unfold outRow
    exact congrArg (fun s => ((c : Thread nD τ).loc main_v1 ↦[s]{fullShare} B c : sProp 𝕄)) (dst_set0 _ _ c (off_self c))
  · exact congrArg (fun s => ((c : Thread nD τ).loc main_arg0 ↦[s]{fullShare} A c : sProp 𝕄)) (src_set0 _ _ _ (off_src k c))
  · unfold outRow
    exact congrArg (fun s => (((net.peer k c : Dev nD) : Thread nD τ).loc main_v1 ↦[s]{fullShare} B (net.peer k c) : sProp 𝕄)) (dst_set0 _ _ c (off_self c))

/-- The two arrays of all the devices, whole, are the blocks of all the transfers. -/
theorem blocks_all : (bigSep Finset.univ fun c : Dev nD => blocks net (fun _ => fullShare) (fun _ => fullShare) (fun _ c => A c)
      (fun _ c => B c) (fun _ c => A c) (fun k c => B (net.peer k c)) c)
    = (bigSep Finset.univ fun c : Dev nD => iprop(((c : Thread nD τ).loc main_arg0 ↦{fullShare} A c)
      ∗ ((c : Thread nD τ).loc main_v1 ↦{fullShare} B c)) : sProp 𝕄) := by
  have e : (fun c : Dev nD => (iprop(((c : Thread nD τ).loc main_arg0 ↦{fullShare} A c) ∗ ((c : Thread nD τ).loc main_v1 ↦{fullShare} B c)) : sProp 𝕄))
      = fun c => iprop((argRow c c (A c) ∗ bigSep Finset.univ fun k => argRow c (net.peer k c) (A c))
        ∗ (outRow c c (B c) ∗ bigSep Finset.univ fun k => outRow c (net.peer k c) (B c))) := funext fun c => by
    rw [arg_rows, out_rows, by_turn net.peer (turn_inj c) rfl fun j => argRow c j (A c), by_turn net.peer (turn_inj c) rfl fun j => outRow c j (B c)]
  rw [e]
  simp only [blocks_eq, bigSep_sep']
  rw [← across net.peer net.peer_peer fun c j => outRow c j (B c)]
  have swap (P Q R S : sProp 𝕄) : iprop((P ∗ Q) ∗ R ∗ S) ⊢ iprop((P ∗ R) ∗ Q ∗ S) := by
    iintro ⟨⟨H1, H2⟩, H3, H4⟩
    isplitl [H1 H3]
    · isplitl [H1]; · iexact H1
      iexact H3
    isplitl [H2]; · iexact H2
    iexact H4
  exact BI.equiv_iff.mp ⟨swap _ _ _ _, swap _ _ _ _⟩

/-- What the waits hand back is the two arrays whole again. -/
theorem pays_all (c : Dev nD) : (bigSep Finset.univ fun i => pay A c i)
    ⊢ (iprop(((c : Thread nD τ).loc main_arg0 ↦{fullShare} A c) ∗ ((c : Thread nD τ).loc main_v1 ↦{fullShare} got A c)) : sProp 𝕄) := by
  rw [arg_rows, out_rows, by_turn net.peer (turn_inj c) rfl fun j => argRow c j (A c), by_turn net.peer (turn_inj c) rfl fun j => outRow c j (got A c)]
  rw [BI.bigSep_univ_sum, BI.bigSep_univ_sum, BI.bigSep_univ_of_subsingleton (0 : Fin 1)]
  show iprop((outRow c c (got A c) ∗ argRow c c (A c)) ∗ (bigSep Finset.univ fun k => argRow c (net.peer k c) (A c))
    ∗ bigSep Finset.univ fun k => outRow c (net.peer k c) (got A c)) ⊢ _
  iintro ⟨⟨Ho, Ha⟩, Hs, Hr⟩
  isplitl [Ha Hs]
  · isplitl [Ha]; · iexact Ha
    iexact Hs
  isplitl [Ho]; · iexact Ho
  iexact Hr

end Cert.Scatter

end
-- ==== Proof.Adamw.lean ====
/- The update step of `adamw` on one device: what its body leaves at a grid point, the proof data of its pipeline, and the
   region as a segment of the host program, entered from any contents of the buffers the host knows. -/
module

public import proofs.«01_k».proof.Proof.Entry
public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysS
public import Idealize.ShloMosaic.Lib.Tactic

@[expose] public section

set_option Elab.async false
set_option maxRecDepth 16384

noncomputable section

namespace Cert.Adamw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Cert.KernelIdeal.Gen

variable {F : FTy → Type} [FloatOps F]

local notation "𝕄" => MT nD τ sig Unit (Elt F) ℕ (Entry.UU sig nD τ) ℕ

/-! ## What the body leaves -/

/-- A device's slice of the eight parts. -/
abbrev part (k : Fin 8) (inb : ∀ d, (![k.val, 0, 0] : Fin 3 → ℕ) d + S1x256x1024.size d ≤ S8x256x1024.size d) : Rect S8x256x1024 := Rect.unit (s := S8x256x1024) ![k.val, 0, 0] S1x256x1024.size inb
/-- A whole tile of two dimensions. -/
abbrev tile : Rect S256x1024 := Rect.unit (s := S256x1024) ![0, 0] S256x1024.size inb_S256x1024_S256x1024_0_0

section Left
variable (a : Vec F S8x256x1024 .f32) (w m v : Vec F S256x1024 .f32)

/-- The parts summed. -/
def total : FVec F S256x1024 .f32 :=
  k1_pay1 (View.ld a (part 0 inb_S8x256x1024_S1x256x1024_0_0_0)) (View.ld a (part 1 inb_S8x256x1024_S1x256x1024_1_0_0))
    (View.ld a (part 2 inb_S8x256x1024_S1x256x1024_2_0_0)) (View.ld a (part 3 inb_S8x256x1024_S1x256x1024_3_0_0))
    (View.ld a (part 4 inb_S8x256x1024_S1x256x1024_4_0_0)) (View.ld a (part 5 inb_S8x256x1024_S1x256x1024_5_0_0))
    (View.ld a (part 6 inb_S8x256x1024_S1x256x1024_6_0_0)) (View.ld a (part 7 inb_S8x256x1024_S1x256x1024_7_0_0))
/-- The first moment afterwards. -/
def first : FVec F S256x1024 .f32 :=
  k1_pay2 (View.ld a (part 0 inb_S8x256x1024_S1x256x1024_0_0_0)) (View.ld a (part 1 inb_S8x256x1024_S1x256x1024_1_0_0))
    (View.ld a (part 2 inb_S8x256x1024_S1x256x1024_2_0_0)) (View.ld a (part 3 inb_S8x256x1024_S1x256x1024_3_0_0))
    (View.ld a (part 4 inb_S8x256x1024_S1x256x1024_4_0_0)) (View.ld a (part 5 inb_S8x256x1024_S1x256x1024_5_0_0))
    (View.ld a (part 6 inb_S8x256x1024_S1x256x1024_6_0_0)) (View.ld a (part 7 inb_S8x256x1024_S1x256x1024_7_0_0)) (View.ld m tile)

/-- One of the four slabs of the result. -/
abbrev slab (k : Fin 4) (inb : ∀ d, (![k.val, 0, 0] : Fin 3 → ℕ) d + S1x256x1024.size d ≤ S4x256x1024.size d) : Rect S4x256x1024 := Rect.unit (s := S4x256x1024) ![k.val, 0, 0] S1x256x1024.size inb

/-- The four slabs as stored, the last first. -/
def stores : List (View.Piece (Elt F) S4x256x1024 .f32) :=
  [⟨slab 3 inb_S4x256x1024_S1x256x1024_3_0_0, k1_pay7 (total a) (View.ld v tile)⟩,
    ⟨slab 2 inb_S4x256x1024_S1x256x1024_2_0_0, k1_pay6 (first a m)⟩,
    ⟨slab 1 inb_S4x256x1024_S1x256x1024_1_0_0, k1_pay5 (total a) (first a m) (View.ld v tile) (View.ld w tile)⟩,
    ⟨slab 0 inb_S4x256x1024_S1x256x1024_0_0_0, k1_pay4 (total a)⟩]

theorem slabs_cover (p₀ p₁ p₂ p₃ : Vec F S1x256x1024 .f32) (y : S4x256x1024.Idx) :
    ∃ p ∈ ([⟨slab 3 inb_S4x256x1024_S1x256x1024_3_0_0, p₃⟩, ⟨slab 2 inb_S4x256x1024_S1x256x1024_2_0_0, p₂⟩,
      ⟨slab 1 inb_S4x256x1024_S1x256x1024_1_0_0, p₁⟩, ⟨slab 0 inb_S4x256x1024_S1x256x1024_0_0_0, p₀⟩] : List (View.Piece (Elt F) S4x256x1024 .f32)),
      y ∈ p.1.set :=
  View.cover_of_tiled [⟨slab 3 inb_S4x256x1024_S1x256x1024_3_0_0, p₃⟩, ⟨slab 2 inb_S4x256x1024_S1x256x1024_2_0_0, p₂⟩,
      ⟨slab 1 inb_S4x256x1024_S1x256x1024_1_0_0, p₁⟩, ⟨slab 0 inb_S4x256x1024_S1x256x1024_0_0_0, p₀⟩] S1x256x1024.size (by rfl) y

/-- The result's tile. -/
def left : Vec F S4x256x1024 .f32 := View.canon (stores a w m v)

end Left

set_option maxHeartbeats 1000000 in
/-- The body: given the four tiles read and the tile to be written, it leaves the read ones alone. -/
theorem body_run (c : Dev nD) (i : grid1.Coords)
    (A : Memref sig .tc .vmem S8x256x1024 .f32) (hA : A.IsWhole) (W : Memref sig .tc .vmem S256x1024 .f32) (hW : W.IsWhole)
    (M : Memref sig .tc .vmem S256x1024 .f32) (hM : M.IsWhole) (V : Memref sig .tc .vmem S256x1024 .f32) (hV : V.IsWhole)
    (O : Memref sig .tc .vmem S4x256x1024 .f32) (hO : O.IsWhole)
    (a : Vec F S8x256x1024 .f32) (w m v : Vec F S256x1024 .f32) (Q : PUnit → sProp 𝕄) :
    iprop((owns (c : Thread nD τ) A fullShare a ∗ owns (c : Thread nD τ) W fullShare w ∗ owns (c : Thread nD τ) M fullShare m
          ∗ owns (c : Thread nD τ) V fullShare v ∗ ∃ d, owns (c : Thread nD τ) O fullShare d)
        ∗ (iprop(owns (c : Thread nD τ) A fullShare a ∗ owns (c : Thread nD τ) W fullShare w ∗ owns (c : Thread nD τ) M fullShare m
          ∗ owns (c : Thread nD τ) V fullShare v ∗ owns (c : Thread nD τ) O fullShare (left a w m v)) -∗ Q ⟨⟩))
      ⊢ wp frame (wpE (defs₀ (F := F)) Variants.none c none) Set.univ (cc1_adamw i A hA W hW M hM V hV O hO) Q := by
  rw [cc1_adamw_eq_skeleton]; unfold cc1_adamw_skel
  rw [k1_part1_eq_skeleton, k1_part2_eq_skeleton]
  unfold owns
  iintro ⟨⟨⟨%fa, %ha, Ha⟩, ⟨%fw, %hw, Hw⟩, ⟨%fm, %hm, Hm⟩, ⟨%fv, %hv, Hv⟩, ⟨%d, %fo, -, Ho⟩⟩, Hk⟩
  subst ha hw hm hv
  sl_exec
  sl_step
  iapply Hk
  isplitl [Ha]
  · iexists fa; isplitr; · ipureintro; rfl
    iexact Ha
  isplitl [Hw]
  · iexists fw; isplitr; · ipureintro; rfl
    iexact Hw
  isplitl [Hm]
  · iexists fm; isplitr; · ipureintro; rfl
    iexact Hm
  isplitl [Hv]
  · iexists fv; isplitr; · ipureintro; rfl
    iexact Hv
  iexists _; isplitr
  swap; · iexact Ho
  ipureintro
  refine (View.read_writes_eq_canon _ _ _ (slabs_cover _ _ _ _)).trans ?_
  rfl

/-! ## The pipeline's proof data -/

variable (W : Dev nD → Valuation τ sig (Elt F))

/-- A window's block at a grid point, read off the contents the region is entered with. -/
def block (c : Dev nD) (k : Fin cfg1.W) (t : Fin cfg1.N) : ((cfg1.win k).xblock (cfg1.grid.coords t)).Idx → Elt F (cfg1.win k).elt :=
  ((cfg1.win k).blk t).view.read (Elt F) (W c (Proc.devRef .tc (arrRef spec1 k)))

/-- The proof data: the arrays as the region finds them; each read tile left alone and the written one as `left`; the
    invariant the scoped buffers no window stages; nothing owed. -/
def dat (c : Dev nD) : Dat τ (Elt F) Unit ℕ (Entry.UU sig nD τ) ℕ cfg1 c where
  A k := W c (Proc.devRef .tc (arrRef spec1 k))
  after k t := match k with
    | ⟨0, _⟩ => block W c 0 t
    | ⟨1, _⟩ => block W c 1 t
    | ⟨2, _⟩ => block W c 2 t
    | ⟨3, _⟩ => block W c 3 t
    | ⟨4, _⟩ => left (block W c 0 t) (block W c 1 t) (block W c 2 t) (block W c 3 t)
  Φ _ := scopedRest spec1 c
  q _ := fullShare
  owed _ := 0

theorem dat_A (c : Dev nD) (k : Fin cfg1.W) : (dat W c).A k = W c (Proc.devRef .tc (arrRef spec1 k)) := by dsimp only [dat]
theorem after_0 (c : Dev nD) (t : Fin cfg1.N) : (dat W c).after 0 t = block W c 0 t := by dsimp only [dat]
theorem after_1 (c : Dev nD) (t : Fin cfg1.N) : (dat W c).after 1 t = block W c 1 t := by dsimp only [dat]
theorem after_2 (c : Dev nD) (t : Fin cfg1.N) : (dat W c).after 2 t = block W c 2 t := by dsimp only [dat]
theorem after_3 (c : Dev nD) (t : Fin cfg1.N) : (dat W c).after 3 t = block W c 3 t := by dsimp only [dat]
theorem after_4 (c : Dev nD) (t : Fin cfg1.N) :
    (dat W c).after 4 t = left (block W c 0 t) (block W c 1 t) (block W c 2 t) (block W c 3 t) := by dsimp only [dat]

theorem before_0 (c : Dev nD) (t : Fin cfg1.N) (d) : (dat W c).before 0 t d = block W c 0 t :=
  ((dat W c).before_in_eq_fetched 0 rfl (fun _ => rfl) (fun _ _ _ => rfl)
    (fun t => by rw [after_0]; unfold Dat.blockOf block; rw [dat_A]; try rfl) t d).trans (by unfold Dat.fetched Dat.blockOf block; rw [dat_A]; try rfl)
theorem before_1 (c : Dev nD) (t : Fin cfg1.N) (d) : (dat W c).before 1 t d = block W c 1 t :=
  ((dat W c).before_in_eq_fetched 1 rfl (fun _ => rfl) (fun _ _ _ => rfl)
    (fun t => by rw [after_1]; unfold Dat.blockOf block; rw [dat_A]; try rfl) t d).trans (by unfold Dat.fetched Dat.blockOf block; rw [dat_A]; try rfl)
theorem before_2 (c : Dev nD) (t : Fin cfg1.N) (d) : (dat W c).before 2 t d = block W c 2 t :=
  ((dat W c).before_in_eq_fetched 2 rfl (fun _ => rfl) (fun _ _ _ => rfl)
    (fun t => by rw [after_2]; unfold Dat.blockOf block; rw [dat_A]; try rfl) t d).trans (by unfold Dat.fetched Dat.blockOf block; rw [dat_A]; try rfl)
theorem before_3 (c : Dev nD) (t : Fin cfg1.N) (d) : (dat W c).before 3 t d = block W c 3 t :=
  ((dat W c).before_in_eq_fetched 3 rfl (fun _ => rfl) (fun _ _ _ => rfl)
    (fun t => by rw [after_3]; unfold Dat.blockOf block; rw [dat_A]; try rfl) t d).trans (by unfold Dat.fetched Dat.blockOf block; rw [dat_A]; try rfl)

/-! ## The body obligation -/

/-- The tiles as the body is given them at a point, -/
def given (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d)))
/-- and as it returns them. -/
def returned (c : Dev nD) (t : Fin cfg1.N) : sProp 𝕄 :=
  iprop((dat W c).Φ t.succ ∗ (dat W c).owesAt () t.succ
    ∗ owns (c : Thread nD τ) (st1_0 t) fullShare ((dat W c).after 0 t)
    ∗ owns (c : Thread nD τ) (st1_1 t) fullShare ((dat W c).after 1 t)
    ∗ owns (c : Thread nD τ) (st1_2 t) fullShare ((dat W c).after 2 t)
    ∗ owns (c : Thread nD τ) (st1_3 t) fullShare ((dat W c).after 3 t)
    ∗ owns (c : Thread nD τ) (st1_4 t) fullShare ((dat W c).after 4 t))

theorem point_run (c : Dev nD) (t : Fin cfg1.N) :
    given W c t ⊢ wp frame (wpE (defs₀ (F := F)) Variants.none c none) Set.univ (bodyAt1 t) (fun _ => returned W c t) := by
  unfold given returned bodyAt1
  simp only [before_0, before_1, before_2, before_3]
  rw [show (dat W c).Φ t.succ = (dat W c).Φ t.castSucc from rfl,
    show (dat W c).owesAt () t.succ = (dat W c).owesAt () t.castSucc from rfl, after_0, after_1, after_2, after_3, after_4]
  iintro ⟨HΦ, HO, ⟨%_, Ha⟩, ⟨%_, Hw⟩, ⟨%_, Hm⟩, ⟨%_, Hv⟩, ⟨%_, Ho⟩⟩
  iapply (body_run c (grid1.coords t) _ _ _ _ _ _ _ _ _ _ (block W c 0 t) (block W c 1 t) (block W c 2 t) (block W c 3 t) _)
  isplitl [Ha Hw Hm Hv Ho]
  · isplitl [Ha]; · iexact Ha
    isplitl [Hw]; · iexact Hw
    isplitl [Hm]; · iexact Hm
    isplitl [Hv]; · iexact Hv
    iexists _; iexact Ho
  iintro Hall
  isplitl [HΦ]; · iexact HΦ
  isplitl [HO]; · iexact HO
  iexact Hall

theorem row_eq (t : Fin cfg1.N) : defs₀ (F := F) .tc cfg1.body (cfg1.bodyArgs t (cfg1.slots t)) = bodyAt1 t := by
  unfold defs₀; rw [Defs.onTc_tc]

theorem obligation (c : Dev nD) : BodyObligation (dat (F := F) W c) (defs₀ (F := F)) Variants.none () Set.univ := fun t => by
  rw [bigSep_W1, bigSep_W1, row_eq]
  exact triple_restated (point_run W c t) rfl .rfl fun _ => .rfl

/-! ## The region as a segment -/

/-- Every cell of a TensorCore has its one index, at one level. -/
def L (g : GSem nD τ sig) : Finset Unit := if g.1.2 = .tc then {()} else ∅
theorem L_tc (g : GSem nD τ sig) (h : g.1.2 ≠ .tc) : L g = ∅ := if_neg h

section Seg
variable (pdats : (p : Fin 2) → (c : Dev nD) → Dat τ (Elt F) Unit ℕ (Entry.UU sig nD τ) ℕ (pin (pcfgs (F := F)) adm p) c)

theorem cut : LevelCut (pcfgs (F := F)) adm () L (fun _ _ => (0 : ℕ)) 1 (fun _ => (0 : CellTallies nD τ sig Unit)) (fun _ => (0 : ℕ)) where
  hι c w s := by show () ∈ (if _ then _ else _); rw [if_pos rfl]; exact Finset.mem_singleton_self _
  hιb _ _ _ := le_rfl
  hD _ _ _ h := absurd h (lt_irrefl _)

/-- The region, entered from every buffer the host knows at `W`. -/
def seg (hd : pdats 1 = dat W) : RegionSeg (pcfgs (F := F)) adm pdats () defs₀ Variants.none L (fun _ _ => (0 : ℕ)) 1 :=
  RegionSeg.ofHeldIn (pcfgs (F := F)) adm pdats () defs₀ Variants.none L (fun _ _ => (0 : ℕ)) 1 (fun _ => 0) (ucRefs τ sig)
    (fun _ => BI.emp) (fun _ => BI.emp) launch1.toP rfl
    (fun c => by rw [hd]; exact (obligation W c).loose) (fun c t => by rw [hd]; rfl) (fun c => by rw [hd]; rfl)
    (fun c w => by rw [hd]; exact (dat W c).share_full (fun _ => rfl) w)
    (fun c => by rw [hd]; exact (show iprop(scopedRest spec1 c ∗ BI.emp) ⊢ scopedRest spec1 c from by iintro ⟨H, -⟩; iexact H))
    (fun c => by rw [hd]; exact (show scopedRest spec1 c ⊢ iprop(scopedRest spec1 c ∗ BI.emp) from by
      iintro H
      isplitl [H]; · iexact H
      iempintro))
    (fun _ => 0) cut (fun _ => BI.emp) W (fun c w => by rw [hd]; exact dat_A W c w)

theorem arr_sub : arrRefs (τ := τ) ((pcfgs (F := F)) 1).spec ⊆ ucRefs τ sig := arrRefs_sub_ucRefs _ winFacts1.arr_unscoped

theorem seg_pre (hd : pdats 1 = dat W) (c : Dev nD) : iprop(StableHlo.held (c.tc : Thread nD τ) (ucRefs τ sig) (W c)
    ∗ ((∃ Wd, owes (c : Thread nD τ) (0 : CellTallies nD τ sig Unit) Wd) ∗ BI.emp ∗ BI.emp)) ⊢ (seg W pdats hd).pre c :=
  RegionSeg.ofHeldIn_pre (pcs := pcfgs (F := F)) (a := adm) (pdats := pdats) (ι := ()) (defs₀ := defs₀) (𝒱₀ := Variants.none) (L := L)
    (lv := fun _ _ => (0 : ℕ)) (p := 1) (D := fun _ => 0) (S := ucRefs τ sig) arr_sub (X := fun _ => BI.emp) (Y := fun _ => BI.emp)
    (R := fun _ => BI.emp) (W := W) c

theorem seg_post (hd : pdats 1 = dat W) (c : Dev nD) : (seg W pdats hd).post c
    ⊢ iprop(StableHlo.held (c.tc : Thread nD τ) (ucRefs τ sig) (afterRegion (pdats 1 c) (W c))
      ∗ ((∃ Wd, owes (c : Thread nD τ) (0 : CellTallies nD τ sig Unit) Wd) ∗ BI.emp ∗ BI.emp)) :=
  RegionSeg.ofHeldIn_post (pcs := pcfgs (F := F)) (a := adm) (pdats := pdats) (ι := ()) (defs₀ := defs₀) (𝒱₀ := Variants.none) (L := L)
    (lv := fun _ _ => (0 : ℕ)) (p := 1) (D := fun _ => 0) (S := ucRefs τ sig) arr_sub (X := fun _ => BI.emp) (Y := fun _ => BI.emp)
    (R := fun _ => BI.emp) (W := W) c

end Seg

end Cert.Adamw

end
-- ==== Proof.Run.lean ====
/- The whole program at any float values: the exchange, then the update step; what its result and its arguments hold at the
   end, and that every semaphore counter is back at zero. -/
module

public import proofs.«01_k».proof.Proof.Scatter
public import proofs.«01_k».proof.Proof.Adamw

@[expose] public section

set_option Elab.async false

noncomputable section

namespace Cert.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Cert.KernelIdeal.Gen Cert.Scatter Cert.Xchg Cert.Entry

variable {F : FTy → Type} [FloatOps F]

local notation "𝕄" => MT nD τ sig Unit (Elt F) ℕ (Entry.UU sig nD τ) ℕ

/-- The buffers the host knows, one by one. -/
theorem known (c : Dev nD) (V : (b : Ref sig .tc) → Buf (Elt F) ((c : Thread nD τ).loc b)) :
    (unscopedBufs c V : sProp 𝕄) = iprop((((c : Thread nD τ).loc main_arg0) ↦{fullShare} V main_arg0)
      ∗ (((c : Thread nD τ).loc main_arg1) ↦{fullShare} V main_arg1) ∗ (((c : Thread nD τ).loc main_arg2) ↦{fullShare} V main_arg2)
      ∗ (((c : Thread nD τ).loc main_arg3) ↦{fullShare} V main_arg3) ∗ (((c : Thread nD τ).loc main_v1) ↦{fullShare} V main_v1)
      ∗ (((c : Thread nD τ).loc main_v2) ↦{fullShare} V main_v2)) :=
  bigSep_eq_bigSepL_of_eq [main_arg0, main_arg1, main_arg2, main_arg3, main_v1, main_v2] (by decide) (by decide) _

variable (m : (ℓ : Loc nD τ sig) → Buf (Elt F) ℓ)

/-- The devices' gradients as launched, -/
abbrev sent (c : Dev nD) : Buf (Elt F) ((c : Thread nD τ).loc main_arg0) := m ((c : Thread nD τ).loc main_arg0)
/-- and what is where once they are exchanged. -/
def mid (c : Dev nD) : Valuation τ sig (Elt F) := Function.update (fun b => m (c, b)) (Proc.devRef .tc main_v1) (got (sent m) c)

theorem mid_v1 (c : Dev nD) : mid m c (Proc.devRef .tc main_v1) = got (sent m) c := Function.update_self _ _ _
theorem mid_of (c : Dev nD) (r : Ref sig .tc) (h : r ≠ main_v1) : mid m c (Proc.devRef .tc r) = m ((c : Thread nD τ).loc r) :=
  Function.update_of_ne (StableHlo.devRef_ne_of_ne h) _ _

theorem none0 : IsEmpty (Fin (pin (pcfgs (F := F)) adm 0).W) := inferInstanceAs (IsEmpty (Fin 0))
theorem noTable : IsEmpty (Fin ((pcfgs (F := F)) 0).pre.K) := inferInstanceAs (IsEmpty (Fin 0))

/-- The proof data of the two regions. -/
def data (p : Fin 2) (c : Dev nD) : Dat τ (Elt F) Unit ℕ (Entry.UU sig nD τ) ℕ (pin (pcfgs (F := F)) adm p) c :=
  match p with
  | ⟨0, _⟩ => Entry.dat net (pay (sent m)) (fun _ => fullShare) (fun _ => fullShare) (fun _ c => sent m c)
      (fun _ c => m ((c : Thread nD τ).loc main_v1)) (fun _ c => sent m c) (fun k c => m ((net.peer k c : Thread nD τ).loc main_v1))
      (pin (pcfgs (F := F)) adm 0) none0 c
  | ⟨1, _⟩ => Adamw.dat (mid m) c

/-- What bypasses the exchange. -/
def aside (c : Dev nD) : sProp 𝕄 :=
  iprop((((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg3) ↦{fullShare} m ((c : Thread nD τ).loc main_arg3))
    ∗ (((c : Thread nD τ).loc main_v2) ↦{fullShare} m ((c : Thread nD τ).loc main_v2)))

theorem launch_split : (bigSep Finset.univ fun c : Dev nD => unscopedBufs c (fun b => m ((c.tc : Thread nD τ).loc b)))
    ⊢ (bigSep Finset.univ fun c : Dev nD => iprop(blocks net (fun _ => fullShare) (fun _ => fullShare) (fun _ c => sent m c)
      (fun _ c => m ((c : Thread nD τ).loc main_v1)) (fun _ c => sent m c) (fun k c => m ((net.peer k c : Thread nD τ).loc main_v1)) c
      ∗ aside m c) : sProp 𝕄) := by
  rw [bigSep_sep', blocks_all (sent m) (fun c => m ((c : Thread nD τ).loc main_v1)), ← bigSep_sep']
  refine bigSep_mono fun c _ => ?_
  have h : (unscopedBufs c (fun b => m ((c.tc : Thread nD τ).loc b)) : sProp 𝕄)
      ⊢ iprop(((((c : Thread nD τ).loc main_arg0) ↦{fullShare} sent m c) ∗ (((c : Thread nD τ).loc main_v1) ↦{fullShare} m ((c : Thread nD τ).loc main_v1)))
        ∗ aside m c) := ?_
  · exact h
  rw [known]
  unfold aside
  iintro ⟨H0, H1, H2, H3, H4, H5⟩
  isplitl [H0 H4]
  · isplitl [H0]; · iexact H0
    iexact H4
  isplitl [H1]; · iexact H1
  isplitl [H2]; · iexact H2
  isplitl [H3]; · iexact H3
  iexact H5

theorem after_exchange (c : Dev nD) : iprop(aside m c ∗ bigSep Finset.univ fun i => pay (sent m) c i)
    ⊢ (StableHlo.held (c : Thread nD τ) (ucRefs τ sig) (mid m c) : sProp 𝕄) := by
  have h := pays_all (sent m) c
  rw [← unscopedBufs_held, known]
  rw [mid_v1, mid_of m c main_arg0 (by decide), mid_of m c main_arg1 (by decide), mid_of m c main_arg2 (by decide),
    mid_of m c main_arg3 (by decide), mid_of m c main_v2 (by decide)]
  unfold aside
  iintro ⟨⟨H1, H2, H3, H5⟩, Hp⟩
  ihave Hp := h $$ Hp
  icases Hp with ⟨H0, H4⟩
  isplitl [H0]; · iexact H0
  isplitl [H1]; · iexact H1
  isplitl [H2]; · iexact H2
  isplitl [H3]; · iexact H3
  isplitl [H4]; · iexact H4
  iexact H5

/-- What is where at the end. -/
def last (c : Dev nD) : Valuation τ sig (Elt F) := afterRegion (data m 1 c) (mid m c)

/-- The update step's region, over the buffers the host knows. -/
def step : RegionSeg (pcfgs (F := F)) adm (data m) () defs₀ Variants.none Adamw.L (fun _ _ => (0 : ℕ)) 1 :=
  Adamw.seg (mid m) (data m) rfl

theorem step_pre (c : Dev nD) : iprop(StableHlo.held (c.tc : Thread nD τ) (ucRefs τ sig) (mid m c)
    ∗ ((∃ Wd, owes (c : Thread nD τ) (0 : CellTallies nD τ sig Unit) Wd) ∗ BI.emp ∗ BI.emp)) ⊢ (step m).pre c := by
  exact Adamw.seg_pre (mid m) (data m) rfl c

theorem step_post (c : Dev nD) : (step m).post c ⊢ iprop(StableHlo.held (c.tc : Thread nD τ) (ucRefs τ sig) (last m c)
    ∗ ((∃ Wd, owes (c : Thread nD τ) (0 : CellTallies nD τ sig Unit) Wd) ∗ BI.emp ∗ BI.emp)) := by
  exact Adamw.seg_post (mid m) (data m) rfl c

theorem rest_run (c : Dev nD) : iprop(boundary (c.tc : Thread nD τ) ∗ (aside m c ∗ bigSep Finset.univ fun i => pay (sent m) c i)
      ∗ (∃ W, owes (c.tc : Thread nD τ) (0 : CellTallies nD τ sig Unit) W) ∗ levAts Adamw.L (fun _ _ => (0 : ℕ)) ∗ Entry.others (pcfgs (F := F)) adm 0 c)
    ⊢ wp frame (wpE (Pipeline.defs (pcfgs (F := F)) defs₀) (Variants.lift Variants.none) (c.tc : Thread nD τ) none) Set.univ
        (Prog.op (.customCall (entry 1) ()) fun _ => .ret PUnit.unit)
        (fun _ => iprop(StableHlo.held (c : Thread nD τ) (ucRefs τ sig) (last m c) ∗ boundary (c.tc : Thread nD τ)
          ∗ ∃ W, owes (c.tc : Thread nD τ) (0 : CellTallies nD τ sig Unit) W)) := by
  have hw := wp_segs (pcfgs (F := F)) adm (data m) () cellOf_inj Entry.EP defs₀ Variants.none Adamw.L (fun _ _ => (0 : ℕ)) c
    (Q := fun _ => iprop(StableHlo.held (c : Thread nD τ) (ucRefs τ sig) (last m c) ∗ boundary (c.tc : Thread nD τ)
          ∗ ∃ W, owes (c.tc : Thread nD τ) (0 : CellTallies nD τ sig Unit) W))
    [.region (step m)] (Finset.univ.erase 0) (step m).pre (step m).post (List.nodup_singleton _)
    (fun p hp => by obtain rfl : p = 1 := List.mem_singleton.mp hp; decide) ⟨fun _ => .rfl, fun _ => .rfl⟩
  refine .trans ?_ hw
  have ha := after_exchange m c
  iintro ⟨Hb, HZ, HO, Hl, Hg⟩
  ihave Hh := ha $$ HZ
  isplitr
  · iintro ⟨Hb, Hp⟩
    ihave Hp := (step_post m c) $$ Hp
    icases Hp with ⟨Hh, HO, -, -⟩
    isplitl [Hh]; · iexact Hh
    isplitl [Hb]; · iexact Hb
    iexact HO
  isplitl [Hb]; · iexact Hb
  isplitl [Hh HO]
  · iapply (step_pre m c)
    isplitl [Hh]; · iexact Hh
    isplitl [HO]; · iexact HO
    isplitr <;> iempintro
  isplitl [Hl]; · iexact Hl
  iexact Hg

theorem last_v2 (c : Dev nD) : last m c (Proc.devRef .tc main_v2) = (Adamw.dat (mid m) c).arrAt 4 cfg1.N :=
  afterRegion_arr (data m 1 c) (mid m c) launch1.win.arr_inj 4

theorem last_arg0 (c : Dev nD) : last m c (Proc.devRef .tc main_arg0) = m ((c : Thread nD τ).loc main_arg0) :=
  (afterRegion_of_not_arr (data m 1 c) (mid m c) (b := main_arg0) (show ∀ w : Fin 5, main_arg0 ≠ arrRef spec1 w by decide)).trans (mid_of m c main_arg0 (by decide))
theorem last_arg1 (c : Dev nD) : last m c (Proc.devRef .tc main_arg1) = m ((c : Thread nD τ).loc main_arg1) :=
  (afterRegion_arr (data m 1 c) (mid m c) launch1.win.arr_inj 1).trans
    ((Dat.arrAt_in (data m 1 c) 1 rfl _).trans ((Adamw.dat_A (mid m) c 1).trans (mid_of m c main_arg1 (by decide))))
theorem last_arg2 (c : Dev nD) : last m c (Proc.devRef .tc main_arg2) = m ((c : Thread nD τ).loc main_arg2) :=
  (afterRegion_arr (data m 1 c) (mid m c) launch1.win.arr_inj 2).trans
    ((Dat.arrAt_in (data m 1 c) 2 rfl _).trans ((Adamw.dat_A (mid m) c 2).trans (mid_of m c main_arg2 (by decide))))
theorem last_arg3 (c : Dev nD) : last m c (Proc.devRef .tc main_arg3) = m ((c : Thread nD τ).loc main_arg3) :=
  (afterRegion_arr (data m 1 c) (mid m c) launch1.win.arr_inj 3).trans
    ((Dat.arrAt_in (data m 1 c) 3 rfl _).trans ((Adamw.dat_A (mid m) c 3).trans (mid_of m c main_arg3 (by decide))))

theorem own0 : OwnSemFacts ((pcfgs (F := F)) 0).spec (osem net) :=
  show OwnSemFacts (cfg0.spec) (osem net) from by decide +kernel

theorem starts_run (t : Fin (pin (pcfgs (F := F)) adm 0).N) (c : Dev nD) (Q : sProp 𝕄) :
    wp frame (wpE defs₀ Variants.none (c : Thread nD τ) none) Set.univ (net.starts c ts (net.waits is)) (fun _ => Q)
      ⊢ wp frame (wpE defs₀ Variants.none (c : Thread nD τ) none) Set.univ
        (defs₀ (F := F) .tc (pin (pcfgs (F := F)) adm 0).body ((pin (pcfgs (F := F)) adm 0).bodyArgs t ((pin (pcfgs (F := F)) adm 0).slots t))) (fun _ => Q) := by
  have h : defs₀ (F := F) .tc (pin (pcfgs (F := F)) adm 0).body ((pin (pcfgs (F := F)) adm 0).bodyArgs t ((pin (pcfgs (F := F)) adm 0).slots t))
      = .op .deviceId fun c => net.starts c ts (net.waits is) := by
    refine Eq.trans ?_ body_eq
    unfold defs₀; rw [Defs.onTc_tc]; rfl
  rw [h, wp_deviceId]

theorem ts_all : ∀ t, t ∈ ts
  | .inl l => by fin_cases l <;> simp [ts]
  | .inr k => by fin_cases k <;> simp [ts]
theorem is_all : ∀ i, i ∈ is
  | .inl l => by fin_cases l <;> simp [is]
  | .inr (.inl k) => by fin_cases k <;> simp [is]
  | .inr (.inr k) => by fin_cases k <;> simp [is]

theorem main_first (c : Dev nD) : main (F := F) c = .op (.customCall (entry 0) ()) fun _ =>
    (Prog.op (.customCall (entry 1) ()) fun _ => .ret PUnit.unit) := main_chain c

set_option backward.isDefEq.respectTransparency.types false in
/-- The whole program: the result is the update step's, on what the exchange left; the arguments are as launched, and every
    semaphore counter is zero. -/
theorem run_main (ρ : Dev nD → PrngReg) :
    θ_run (Pipeline.defs (pcfgs (F := F)) defs₀) (onTc main) ⟨m, fun _ => 0, ρ⟩ fun r =>
      (∀ c : Dev nD, r.2.mem ((c : Thread nD τ).loc main_v2) = (Adamw.dat (mid m) c).arrAt 4 cfg1.N
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0 := by
  refine θ_run_exchange (pcfgs (F := F)) adm (data m) cellOf_inj 0 defs₀ Variants.none none0 noTable winFacts0.to₀ own0 N_0
    (pays (sent m) fun c => m ((c : Thread nD τ).loc main_v1)) (fun _ => rfl) ts (by decide) ts_all is (by decide) is_all
    starts_run m ρ main _ main_first Adamw.L (fun _ _ => (0 : ℕ)) Adamw.L_tc (aside m)
    (fun c => StableHlo.held (c : Thread nD τ) (ucRefs τ sig) (last m c)) (launch_split m) (rest_run m)
    (fun c μ => μ.mem ((c : Thread nD τ).loc main_v2) = (Adamw.dat (mid m) c).arrAt 4 cfg1.N
        ∧ μ.mem ((c : Thread nD τ).loc main_arg0) = m ((c : Thread nD τ).loc main_arg0)
        ∧ μ.mem ((c : Thread nD τ).loc main_arg1) = m ((c : Thread nD τ).loc main_arg1)
        ∧ μ.mem ((c : Thread nD τ).loc main_arg2) = m ((c : Thread nD τ).loc main_arg2)
        ∧ μ.mem ((c : Thread nD τ).loc main_arg3) = m ((c : Thread nD τ).loc main_arg3))
    (fun c s' => ?_) fun _ h hz => ⟨h, funext fun g => hz g (.inr (regions_no_unscoped g.2))⟩
  unfold StableHlo.held
  iintro ⟨Hh, HSI⟩
  ihave Hr := (pointsTo_read_all (ucRefs τ sig) (fun b => ((c : Thread nD τ).1, b)) (last m c) s') $$ [Hh HSI]
  · isplitl [Hh] <;> iassumption
  icases Hr with ⟨%h, HSI⟩
  imodintro
  isplitr
  · ipureintro
    have hr (r : Ref sig .tc) (hu : ¬ r.isScoped = true) := h (Proc.devRef .tc r) (Finset.mem_filter.mpr ⟨StableHlo.devRef_mem_tcRefs r, hu⟩)
    exact ⟨(hr main_v2 (by decide)).trans (last_v2 m c), (hr main_arg0 (by decide)).trans (last_arg0 m c),
      (hr main_arg1 (by decide)).trans (last_arg1 m c), (hr main_arg2 (by decide)).trans (last_arg2 m c),
      (hr main_arg3 (by decide)).trans (last_arg3 m c)⟩
  · iexact HSI

end Cert.Run

end
-- ==== Proof.Step.lean ====
/- The update step over the extended reals: what `adamw` leaves in its result, element by element. -/
module

public import proofs.«01_k».proof.Proof.Adamw
public import Idealize.ShloMosaic.Lib.Pointwise
public import Idealize.ShloMosaic.Lib.Pipeline.ValueKit

@[expose] public section

set_option Elab.async false
set_option maxRecDepth 16384

noncomputable section

namespace Cert.Step

open Idealize.ShloMosaic Idealize.ShloMosaic.TcCoe Idealize.ShloMosaic.Tactic
open Idealize.ShloMosaic.Pipeline
open Cert.KernelIdeal Cert.KernelIdeal.Gen

/-! ## The update of one element -/

/-- The first moment of one element after the step: gradient `g`, moment `m`. -/
def mom (g m : EReal) : EReal := Ideal.ofBits .f32 0x3F666666#32 * m + Ideal.ofBits .f32 0x3DCCCCCD#32 * g
/-- Its second moment. -/
def vel (g v : EReal) : EReal := Ideal.ofBits .f32 0x3F7FBE77#32 * v + Ideal.ofBits .f32 0x3A83126F#32 * (g * g)
/-- Its weight's change, weight `w`. -/
def delta (g w m v : EReal) : EReal :=
  Ideal.ofBits .f32 0xBA83126F#32 * (Ideal.div (Ideal.div (mom g m) (Ideal.ofBits .f32 0x3F26BD02#32))
    (Ideal.sqrt (Ideal.div (vel g v) (Ideal.ofBits .f32 0x3C231ACC#32)) + Ideal.ofBits .f32 0x322BCC77#32)
    + Ideal.ofBits .f32 0x3C23D70A#32 * w)
/-- The four results of one element. -/
def upd (q : Fin 4) (g w m v : EReal) : EReal := ![g, delta g w m v, mom g m, vel g v] q

/-! ## A tile -/

theorem total_apply (a : Vec Ideal S8x256x1024 .f32) (r : Fin 256) (k : Fin 1024) :
    Adamw.total a (ix2 r k) = ∑ d : Fin 8, a (ix3 d r k) := by
  unfold Adamw.total
  pointwise [k1_pay1]
  simp only [Fin.sum_univ_eight]

theorem first_apply (a : Vec Ideal S8x256x1024 .f32) (m : Vec Ideal S256x1024 .f32) (r : Fin 256) (k : Fin 1024) :
    Adamw.first a m (ix2 r k) = mom (∑ d : Fin 8, a (ix3 d r k)) (m (ix2 r k)) := by
  unfold Adamw.first mom
  pointwise [k1_pay2, k1_pay1]
  simp only [Fin.sum_univ_eight]

/-- One element of the result's tile. -/
theorem left_apply (a : Vec Ideal S8x256x1024 .f32) (w m v : Vec Ideal S256x1024 .f32) (q : Fin 4) (r : Fin 256) (k : Fin 1024) :
    Adamw.left a w m v (ix3 q r k) = upd q (∑ d : Fin 8, a (ix3 d r k)) (w (ix2 r k)) (m (ix2 r k)) (v (ix2 r k)) := by
  unfold Adamw.left Adamw.stores
  refine View.canon_eq_of_allAt _ _ _ (Adamw.slabs_cover _ _ _ _ _) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  all_goals
    intro x hx
    have h0 := hx 0; have h1 := hx 1; have h2 := hx 2
    obtain ⟨x0, x1, x2, rfl⟩ : ∃ (x0 : Fin 1) (x1 : Fin 256) (x2 : Fin 1024), x = ix3 x0 x1 x2 := ⟨x 0, x 1, x 2, eq_ix3 x⟩
    have e1 : x1 = r := Fin.ext (by simpa using h1.symm)
    have e2 : x2 = k := Fin.ext (by simpa using h2.symm)
    have e0 : x0 = 0 := Subsingleton.elim _ _
    subst e1 e2 e0
  · have hq : q = 3 := Fin.ext (by simpa using h0)
    subst hq
    pointwise [k1_pay7, k1_pay3]
    rw [total_apply]; rfl
  · have hq : q = 2 := Fin.ext (by simpa using h0)
    subst hq
    pointwise [k1_pay6]
    rw [first_apply]; rfl
  · have hq : q = 1 := Fin.ext (by simpa using h0)
    subst hq
    pointwise [k1_pay5, k1_pay3]
    rw [total_apply, first_apply]; rfl
  · have hq : q = 0 := Fin.ext (by simpa using h0)
    subst hq
    pointwise [k1_pay4]
    rw [total_apply]; rfl

/-! ## The whole result -/

/-- The result of a device from its eight parts, its weights and its moments. -/
def result (A : Vec Ideal S8x3072x1024 .f32) (w m v : Vec Ideal S3072x1024 .f32) : Vec Ideal S4x3072x1024 .f32 :=
  fun i => upd (i 0) (∑ d : Fin 8, A (ix3 d (i 1) (i 2))) (w (ix2 (i 1) (i 2))) (m (ix2 (i 1) (i 2))) (v (ix2 (i 1) (i 2)))

variable (W : Dev nD → Valuation τ sig (Elt Ideal))

theorem final (c : Dev nD) : (Adamw.dat (F := Ideal) W c).arrAt 4 cfg1.N
    = result (W c (Proc.devRef .tc main_v1)) (W c (Proc.devRef .tc main_arg1)) (W c (Proc.devRef .tc main_arg2)) (W c (Proc.devRef .tc main_arg3)) := by
  refine (Adamw.dat W c).arrAt_eq_of_covers 4 _ (by decide +kernel) fun t hf y => ?_
  blk_simp
  rw [Adamw.after_4]
  obtain ⟨q, r, k, rfl⟩ : ∃ (q : Fin 4) (r : Fin 256) (k : Fin 1024), y = ix3 q r k := ⟨y 0, y 1, y 2, eq_ix3 y⟩
  refine (left_apply _ _ _ _ q r k).trans ?_
  have hi : ∀ t : Fin cfg1.N, win1_4.index t 0 = 0 ∧ win1_4.index t 1 = t.val ∧ win1_4.index t 2 = 0 := by decide +kernel
  have h0 : ∀ t : Fin cfg1.N, win1_0.index t 0 = 0 ∧ win1_0.index t 1 = t.val ∧ win1_0.index t 2 = 0 := by decide +kernel
  have h1 : ∀ t : Fin cfg1.N, win1_1.index t 0 = t.val ∧ win1_1.index t 1 = 0 := by decide +kernel
  have h2 : ∀ t : Fin cfg1.N, win1_2.index t 0 = t.val ∧ win1_2.index t 1 = 0 := by decide +kernel
  have h3 : ∀ t : Fin cfg1.N, win1_3.index t 0 = t.val ∧ win1_3.index t 1 = 0 := by decide +kernel
  have ht : t.val < 12 := lt_of_lt_of_eq t.isLt N_1
  have hr : t.val * 256 + r.val < 3072 := by have := r.isLt; omega
  have e : ((win1_4.blk t).view.emb (ix3 q r k) : S4x3072x1024.Idx) = ix3 q ⟨t.val * 256 + r.val, hr⟩ k := by
    blk_ext [(hi t).1, (hi t).2.1, (hi t).2.2]
  have ea (d : Fin 8) : Adamw.block W c 0 t (ix3 d r k) = W c (Proc.devRef .tc main_v1) (ix3 d ⟨t.val * 256 + r.val, hr⟩ k) := by
    blk_ext [Adamw.block, (h0 t).1, (h0 t).2.1, (h0 t).2.2]
  have ew : Adamw.block W c 1 t (ix2 r k) = W c (Proc.devRef .tc main_arg1) (ix2 ⟨t.val * 256 + r.val, hr⟩ k) := by
    blk_ext [Adamw.block, (h1 t).1, (h1 t).2]
  have em : Adamw.block W c 2 t (ix2 r k) = W c (Proc.devRef .tc main_arg2) (ix2 ⟨t.val * 256 + r.val, hr⟩ k) := by
    blk_ext [Adamw.block, (h2 t).1, (h2 t).2]
  have ev : Adamw.block W c 3 t (ix2 r k) = W c (Proc.devRef .tc main_arg3) (ix2 ⟨t.val * 256 + r.val, hr⟩ k) := by
    blk_ext [Adamw.block, (h3 t).1, (h3 t).2]
  refine Eq.trans ?_ (congrArg (result _ _ _ _) e).symm
  rw [ew, em, ev]
  exact congrArg (fun s : EReal => upd q s _ _ _) (Finset.sum_congr (M := EReal) rfl fun d _ => ea d)

end Cert.Step
-- ==== Proof.Value.lean ====
/- The reference over the extended reals, element by element, and the blocks of its result the devices hold. -/
module

public import proofs.«01_k».proof.Proof.Step
public import proofs.«01_k».proof.Proof.Run
public import proofs.«01_k».proof.Proof.Gen.ReferenceIdeal.Run
public import Idealize.ShloMosaic.Lib.Layout

@[expose] public section

set_option Elab.async false
set_option maxRecDepth 16384

noncomputable section

namespace Cert.Value

open Idealize.ShloMosaic Idealize.ShloMosaic.TcCoe Idealize.ShloMosaic.Tactic Idealize.SL.Sem
open Cert.ReferenceIdeal Cert.ReferenceIdeal.Gen

/-- The row of the stacked gradients that slot `d` of the summed array reads at row `R`. -/
def slot (d : Fin 8) (R : Fin 24576) : Fin 64 := ⟨d.val * 8 + R.val / 3072, by omega⟩
def row (R : Fin 24576) : Fin 3072 := ⟨R.val % 3072, by omega⟩

/-- The reference's result. -/
def out (a : Vec Ideal S64x3072x1024 .f32) (w m v : Vec Ideal S24576x1024 .f32) : Vec Ideal S4x24576x1024 .f32 := fun i =>
  Step.upd (i 0) (∑ d : Fin 8, a (ix3 (slot d (i 1)) (row (i 1)) (i 2))) (w (ix2 (i 1) (i 2))) (m (ix2 (i 1) (i 2))) (v (ix2 (i 1) (i 2)))

/-- The gradients summed. -/
def grad (a : Vec Ideal S64x3072x1024 .f32) : Vec Ideal S24576x1024 .f32 :=
  Host.reduceAdd (F := Ideal) (shapeCast _ (a : Vec Ideal S64x3072x1024 .f32) shapeCasts_S64x3072x1024_S8x24576x1024) (constant S_ .f32 0x00000000#32) reducesTo_S8x24576x1024_S24576x1024_d0 h_S_

theorem grad_apply (a : Vec Ideal S64x3072x1024 .f32) (R : Fin 24576) (k : Fin 1024) :
    grad a (ix2 R k) = ∑ d : Fin 8, a (ix3 (slot d R) (row R) k) := by
  unfold grad
  have hs (d : Fin 8) : shapeCast _ (a : Vec Ideal S64x3072x1024 .f32) shapeCasts_S64x3072x1024_S8x24576x1024 (ix3 d R k)
      = a (ix3 (slot d R) (row R) k) := by
    refine shapeCast_apply _ _ _ _ ?_
    rw [Shape.rowMajor_val_three, Shape.rowMajor_val_three]
    show ((d.val * 8 + R.val / 3072) * 3072 + R.val % 3072) * 1024 + k.val = (d.val * 24576 + R.val) * 1024 + k.val
    omega
  revert hs
  generalize shapeCast _ (a : Vec Ideal S64x3072x1024 .f32) shapeCasts_S64x3072x1024_S8x24576x1024 = s
  intro hs
  pointwise
  exact Finset.sum_congr (M := EReal) rfl fun d _ => hs d

variable (m : (ℓ : Loc nD τ sig) → Buf (Elt Ideal) ℓ) (ρ : Dev nD → PrngReg)

set_option maxHeartbeats 1000000 in
theorem run : θ_run defs (onTc (τ := τ) (main (F := Ideal))) ⟨m, fun _ => 0, ρ⟩ fun r => ∀ c : Dev nD,
    r.2.mem ((c.tc : Thread nD τ).loc main_v30) = out (m ((c.tc : Thread nD τ).loc main_arg0)) (m ((c.tc : Thread nD τ).loc main_arg1))
      (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun _ h c => ⟨(h c).1.trans ?_, (h c).2⟩) (Cert.ReferenceIdeal.Value.run (F := Ideal) m ρ)
  generalize m ((c.tc : Thread nD τ).loc main_arg0) = a
  generalize m ((c.tc : Thread nD τ).loc main_arg1) = w
  generalize m ((c.tc : Thread nD τ).loc main_arg2) = p
  generalize m ((c.tc : Thread nD τ).loc main_arg3) = v
  funext i
  obtain ⟨q, R, k, rfl⟩ : ∃ (x0 : Fin 4) (x1 : Fin 24576) (x2 : Fin 1024), i = ix3 x0 x1 x2 := ⟨i 0, i 1, i 2, eq_ix3 i⟩
  have hg := grad_apply a R k
  unfold grad at hg
  revert hg
  generalize Host.reduceAdd (F := Ideal) (shapeCast _ (a : Vec Ideal S64x3072x1024 .f32) shapeCasts_S64x3072x1024_S8x24576x1024) (constant S_ .f32 0x00000000#32) reducesTo_S8x24576x1024_S24576x1024_d0 h_S_ = g
  intro hg
  have ho (q : Fin 4) : out a w p v (ix3 q R k) = Step.upd q (g (ix2 R k)) (w (ix2 R k)) (p (ix2 R k)) (v (ix2 R k)) := by rw [hg]; rfl
  rw [ho]
  pointwise
  fin_cases q <;> rfl

/-- The row of the whole arrays that is row `r` of device `c`'s. -/
def whole (c : Fin 8) (r : Fin 3072) : Fin 24576 := ⟨c.val * 3072 + r.val, by omega⟩

theorem block2 (c : Fin 8) (w : Vec Ideal S24576x1024 .f32) (r : Fin 3072) (k : Fin 1024) :
    Layout.block ⟨2, ![3072, 1024]⟩ ⟨2, ![24576, 1024]⟩ 0 8 c w (by decide) (ix2 r k) = w (ix2 (whole c r) k) := by
  rw [Layout.block_apply]
  refine congrArg w (funext fun b => Fin.ext ?_)
  rw [Layout.Tiles.idx_val]
  fin_cases b <;> rfl

theorem block0 (d : Fin 8) (a : Vec Ideal S64x3072x1024 .f32) (j : Fin 8) (r : Fin 3072) (k : Fin 1024) :
    Layout.block ⟨3, ![8, 3072, 1024]⟩ ⟨3, ![64, 3072, 1024]⟩ 0 8 d a (by decide) (ix3 j r k)
      = a (ix3 (⟨d.val * 8 + j.val, by omega⟩ : Fin 64) r k) := by
  rw [Layout.block_apply]
  refine congrArg a (funext fun b => Fin.ext ?_)
  rw [Layout.Tiles.idx_val]
  fin_cases b <;> rfl

theorem block1 (c : Fin 8) (o : Vec Ideal S4x24576x1024 .f32) (q : Fin 4) (r : Fin 3072) (k : Fin 1024) :
    Layout.block ⟨3, ![4, 3072, 1024]⟩ ⟨3, ![4, 24576, 1024]⟩ 1 8 c o (by decide) (ix3 q r k) = o (ix3 q (whole c r) k) := by
  rw [Layout.block_apply]
  refine congrArg o (funext fun b => Fin.ext ?_)
  rw [Layout.Tiles.idx_val]
  fin_cases b <;> rfl

/-- A device's result on its blocks is its block of the reference's. -/
theorem result_eq (A : (d : Fin 8) → Vec Ideal Cert.KernelIdeal.S8x3072x1024 .f32) (a : Vec Ideal S64x3072x1024 .f32) (w m v : Vec Ideal S24576x1024 .f32)
    (hA : ∀ d : Fin 8, A d = Layout.block ⟨3, ![8, 3072, 1024]⟩ ⟨3, ![64, 3072, 1024]⟩ 0 8 d a (by decide)) (c : Fin 8) :
    Step.result (Scatter.got (F := Ideal) A c) (Layout.block ⟨2, ![3072, 1024]⟩ ⟨2, ![24576, 1024]⟩ 0 8 c w (by decide))
        (Layout.block ⟨2, ![3072, 1024]⟩ ⟨2, ![24576, 1024]⟩ 0 8 c m (by decide))
        (Layout.block ⟨2, ![3072, 1024]⟩ ⟨2, ![24576, 1024]⟩ 0 8 c v (by decide))
      = Layout.block ⟨3, ![4, 3072, 1024]⟩ ⟨3, ![4, 24576, 1024]⟩ 1 8 c (out a w m v) (by decide) := by
  funext i
  obtain ⟨q, r, k, rfl⟩ : ∃ (x0 : Fin 4) (x1 : Fin 3072) (x2 : Fin 1024), i = ix3 x0 x1 x2 := ⟨i 0, i 1, i 2, eq_ix3 i⟩
  rw [block1]
  have hs : (∑ d : Fin 8, Scatter.got (F := Ideal) A c (ix3 d r k) : EReal) = ∑ d : Fin 8, a (ix3 (slot d (whole c r)) (row (whole c r)) k) := by
    refine Finset.sum_congr (M := EReal) rfl fun d _ => ?_
    have hl : Rows.lead (n := 8) (R := 3072) (C := 1024) c (ix3 d r k) = ix3 c r k := funext fun b => by fin_cases b <;> rfl
    refine (congrArg (A d) hl).trans ?_
    rw [hA, block0]
    refine congrArg a ?_
    congr 1
    · refine Fin.ext ?_
      show d.val * 8 + c.val = d.val * 8 + (c.val * 3072 + r.val) / 3072
      omega
    · refine Fin.ext ?_
      show r.val = (c.val * 3072 + r.val) % 3072
      omega
  show Step.upd q (∑ d : Fin 8, Scatter.got (F := Ideal) A c (ix3 d r k)) _ _ _ = Step.upd q _ _ _ _
  rw [hs]
  exact congr (congr (congrArg _ (block2 c w r k)) (block2 c m r k)) (block2 c v r k)

end Cert.Value

end
-- ==== Proof.SwapNet.lean ====
/- The exchange of `swap_halves` on the printed text: every device copies its own four blocks into its result and sends them
   to its sibling; the body is the starts then the waits of that exchange. -/
module

public import proofs.«01_k».proof.Proof.Entry
public import proofs.«01_k».proof.Proof.Gen.SwapIdeal.Launch
public import proofs.«01_k».proof.Proof.Gen.SwapIdeal.Skeleton

@[expose] public section

set_option Elab.async false

noncomputable section

namespace Cert.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.SwapIdeal Cert.SwapIdeal.Gen Cert.Xchg

/-- The device that shares `c`'s halves. -/
def sib (c : Dev nD) : Dev nD := ⟨k0_dev1 c, k0_dev1_lt c⟩

/-- The kept rows of array `a` of the argument, as the text slices them out. -/
abbrev argAt (a : Fin 4) : Memref sig .tc .hbm S2904x1024 .f32 :=
  ((Memref.whole main_arg0).slice (Rect.unit (s := S4x3072x1024) ![a.val, 0, 0] S1x2904x1024.size (by revert a; decide)) (fun _ => rfl)).squeeze S2904x1024
    squeezes_S1x2904x1024_S2904x1024
/-- One block of the result. -/
abbrev outAt (off : Fin 4 → ℕ) (inb : ∀ a, off a + S1x1x2904x1024.size a ≤ S4x2x2904x1024.size a) : Memref sig .tc .hbm S2904x1024 .f32 :=
  ((Memref.whole main_v1).slice (Rect.unit (s := S4x2x2904x1024) off S1x1x2904x1024.size inb) (fun _ => rfl)).squeeze S2904x1024
    squeezes_S1x1x2904x1024_S2904x1024

/-- Where device `c`'s block of array `a` goes, in its own result and in its sibling's. -/
def off : Fin 4 → Dev nD → Fin 4 → ℕ
  | 0 => k0_off1 | 1 => k0_off2 | 2 => k0_off3 | 3 => k0_off4
theorem off_inb : ∀ (k : Fin 4) (c : Dev nD) (a : Fin 4), off k c a + S1x1x2904x1024.size a ≤ S4x2x2904x1024.size a
  | 0 => k0_off1_inb | 1 => k0_off2_inb | 2 => k0_off3_inb | 3 => k0_off4_inb

/-- The counter of each cell. -/
def sem : Slot 4 4 → DmaSem sig
  | .inl k => ((cc0_scratch2.slice (Rect.unit (s := S4) ![k.val] S1.size (by revert k; decide))).squeeze S_ squeezes_S1_S_).sem
  | .inr (.inl k) => ((cc0_scratch0.slice (Rect.unit (s := S4) ![k.val] S1.size (by revert k; decide))).squeeze S_ squeezes_S1_S_).sem
  | .inr (.inr k) => ((cc0_scratch1.slice (Rect.unit (s := S4) ![k.val] S1.size (by revert k; decide))).squeeze S_ squeezes_S1_S_).sem

/-- The exchange. -/
def net : Net nD τ sig 4 4 where
  peer _ := sib
  peer_peer := by decide +kernel
  sem := sem
  sem_inj := by decide +kernel
  S := S2904x1024
  e := .f32
  lsrc a _ := argAt a
  ldst a c := outAt (off a c) (off_inb a c)
  src a _ := argAt a
  dst a c := outAt (off a c) (off_inb a c)
  lsrc_we _ _ := (View.wordExact_bits rfl).reshape _ _
  ldst_we _ _ := (View.wordExact_bits rfl).reshape _ _
  src_we _ _ := (View.wordExact_bits rfl).reshape _ _
  dst_we _ _ := (View.wordExact_bits rfl).reshape _ _
  dst_sc _ _ := rfl
  wb
    | .inl _ => main_v1
    | .inr (.inl _) => main_arg0
    | .inr (.inr _) => main_v1
  wb_has
    | .inl _ => (outAt (off 0 0) (off_inb 0 0)).hasMemref
    | .inr (.inl _) => (argAt 0).hasMemref
    | .inr (.inr _) => (outAt (off 0 0) (off_inb 0 0)).hasMemref
  N := main_v1.dmaCredit S2904x1024 .f32
  N_pos := by decide +kernel
  ldst_N _ _ := rfl
  dst_N _ _ := rfl
  wb_N i := by rcases i with _ | _ | _ <;> rfl

/-- The order the transfers start in. -/
def ts : List (Fin 4 ⊕ Fin 4) := [.inl 0, .inr 0, .inl 1, .inr 1, .inl 2, .inr 2, .inl 3, .inr 3]
/-- The order the waits run in. -/
def is : List (Slot 4 4) := [.inr (.inr 0), .inr (.inr 1), .inr (.inr 2), .inr (.inr 3),
  .inl 0, .inr (.inl 0), .inl 1, .inr (.inl 1), .inl 2, .inr (.inl 2), .inl 3, .inr (.inl 3)]

variable {F : FTy → Type} [FloatOps F]

set_option maxRecDepth 65536 in
/-- The body reads the device's number, starts the transfers and waits for them. -/
theorem body_eq : cc0_swap_halves (F := F) (Memref.whole main_arg0) (Memref.isWhole_whole _) (Memref.whole main_v1) (Memref.isWhole_whole _)
      cc0_scratch0 cc0_scratch1 cc0_scratch2
    = .op .deviceId fun c => net.starts c ts (net.waits is) := rfl

end Cert.Halves

end
-- ==== Proof.Swapped.lean ====
/- What the exchange of `swap_halves` moves: the argument's kept rows, read at half shares by the two copies of each array; a
   result cut into the blocks its transfers fill; and what each transfer leaves. -/
module

public import proofs.«01_k».proof.Proof.SwapNet
public import proofs.«01_k».proof.Proof.Rows
public import Idealize.ShloMosaic.Lib.ValueLayout

@[expose] public section

set_option Elab.async false

noncomputable section

namespace Cert.Halves

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.SwapIdeal Cert.SwapIdeal.Gen Cert.Xchg Cert.Rows

variable {F : FTy → Type} [FloatOps F]

local notation "𝕄" => MT nD τ sig Unit (Elt F) ℕ (Entry.UU sig nD τ) ℕ

/-! ## The blocks -/

/-- Which of its pair a device is. -/
def side (c : Dev nD) : Fin 2 := ⟨c.val % 2, Nat.mod_lt _ (by decide)⟩
/-- The device on side `j` of `c`'s pair. -/
def mate (c : Dev nD) (j : Fin 2) : Dev nD := ⟨c.val / 2 * 2 + j.val, by have := c.isLt; have : nD = 8 := rfl; omega⟩

theorem sib_sib : ∀ c, sib (sib c) = c := by decide +kernel
theorem side_sib : ∀ c, side (sib c) ≠ side c := by decide +kernel
theorem side_all : ∀ (c : Dev nD) (j : Fin 2), j = side c ∨ j = side (sib c) := by decide +kernel
theorem mate_side : ∀ c, mate c (side c) = c := by decide +kernel
theorem mate_sib : ∀ c, mate (sib c) (side c) = c := by decide +kernel
theorem off_eq : ∀ (a : Fin 4) (c : Dev nD), off a c = ![a.val, (side c).val, 0, 0] := by decide +kernel

/-- The kept rows of array `a`, and the rows no copy reads. -/
def kept (a : Fin 4) : Finset S4x3072x1024.Idx := Finset.univ.filter fun i => (i 0).val = a.val ∧ (i 1).val < 2904
def spare : Finset S4x3072x1024.Idx := Finset.univ.filter fun i => ¬ (i 1).val < 2904
/-- Block `j` of array `a` of a result. -/
def half (a : Fin 4) (j : Fin 2) : Finset S4x2x2904x1024.Idx := Finset.univ.filter fun i => (i 0).val = a.val ∧ (i 1).val = j.val

theorem mem_kept {a : Fin 4} {i : S4x3072x1024.Idx} : i ∈ kept a ↔ (i 0).val = a.val ∧ (i 1).val < 2904 := by
  unfold kept; rw [Finset.mem_filter]; exact and_iff_right (Finset.mem_univ _)
theorem mem_spare {i : S4x3072x1024.Idx} : i ∈ spare ↔ ¬ (i 1).val < 2904 := by
  unfold spare; rw [Finset.mem_filter]; exact and_iff_right (Finset.mem_univ _)
theorem mem_half {a : Fin 4} {j : Fin 2} {i : S4x2x2904x1024.Idx} : i ∈ half a j ↔ (i 0).val = a.val ∧ (i 1).val = j.val := by
  unfold half; rw [Finset.mem_filter]; exact and_iff_right (Finset.mem_univ _)

theorem kept_rect (a : Fin 4) (inb) : (Rect.unit (s := S4x3072x1024) ![a.val, 0, 0] S1x2904x1024.size inb).set = kept a := by
  ext i
  rw [Rect.mem_set_unit, mem_kept]
  constructor
  · intro h
    have h0 : a.val ≤ (i 0).val ∧ (i 0).val < a.val + 1 := h 0
    have h1 : 0 ≤ (i 1).val ∧ (i 1).val < 0 + 2904 := h 1
    omega
  · intro h b
    have hi := (i b).isLt
    fin_cases b
    · exact ⟨h.1.ge, Nat.lt_succ_of_le h.1.le⟩
    · exact ⟨Nat.zero_le _, lt_of_lt_of_le h.2 (Nat.zero_add 2904).ge⟩
    · exact ⟨Nat.zero_le _, lt_of_lt_of_le hi (Nat.zero_add 1024).ge⟩

theorem half_rect (a : Fin 4) (j : Fin 2) (off : Fin 4 → ℕ) (inb) (h : off = ![a.val, j.val, 0, 0]) :
    (Rect.unit (s := S4x2x2904x1024) off S1x1x2904x1024.size inb).set = half a j := by
  subst h
  ext i
  rw [Rect.mem_set_unit, mem_half]
  constructor
  · intro h
    have h0 : a.val ≤ (i 0).val ∧ (i 0).val < a.val + 1 := h 0
    have h1 : j.val ≤ (i 1).val ∧ (i 1).val < j.val + 1 := h 1
    omega
  · intro h b
    have hi := (i b).isLt
    fin_cases b
    · exact ⟨h.1.ge, Nat.lt_succ_of_le h.1.le⟩
    · exact ⟨h.2.ge, Nat.lt_succ_of_le h.2.le⟩
    · exact ⟨Nat.zero_le _, lt_of_lt_of_le hi (Nat.zero_add 2904).ge⟩
    · exact ⟨Nat.zero_le _, lt_of_lt_of_le hi (Nat.zero_add 1024).ge⟩

theorem arg_set (a : Fin 4) : (argAt a).view.set = kept a :=
  (View.set_reshape _ _).trans ((View.set_slice_whole main_arg0 _).trans (kept_rect a _))
theorem out_set (a : Fin 4) (c : Dev nD) : (outAt (off a c) (off_inb a c)).view.set = half a (side c) :=
  (View.set_reshape _ _).trans ((View.set_slice_whole main_v1 _).trans (half_rect a (side c) _ _ (off_eq a c)))

/-- The shares the own copy and the remote one of an array read it at. -/
abbrev qOwn : Fin 4 → PosShare TreeShare := fun _ => fullShare.left
abbrev qAway : Fin 4 → PosShare TreeShare := fun _ => fullShare.right

/-- The kept rows of array `a` of a device's argument, at a share; the rows no copy reads. -/
def argBlk (c : Dev nD) (a : Fin 4) (q : PosShare TreeShare) (f : Buf (Elt F) ((c : Thread nD τ).loc main_arg0)) : sProp 𝕄 :=
  (c : Thread nD τ).loc main_arg0 ↦[kept a]{q} f
def argRest (c : Dev nD) (f : Buf (Elt F) ((c : Thread nD τ).loc main_arg0)) : sProp 𝕄 :=
  (c : Thread nD τ).loc main_arg0 ↦[spare]{fullShare} f
/-- One block of a device's result. -/
def outBlk (c : Dev nD) (a : Fin 4) (j : Fin 2) (f : Buf (Elt F) ((c : Thread nD τ).loc main_v1)) : sProp 𝕄 :=
  (c : Thread nD τ).loc main_v1 ↦[half a j]{fullShare} f

/-- The argument's pieces. -/
def argSet : Fin 4 ⊕ Unit → Finset S4x3072x1024.Idx
  | .inl a => kept a
  | .inr _ => spare
theorem argSet_disjoint (x y : Fin 4 ⊕ Unit) (h : x ≠ y) : Disjoint (argSet x) (argSet y) := by
  refine Finset.disjoint_left.mpr fun i hi hi' => ?_
  match x, y with
  | .inl a, .inl b => exact h (congrArg _ (Fin.ext ((mem_kept.mp hi).1.symm.trans (mem_kept.mp hi').1)))
  | .inl a, .inr _ => exact mem_spare.mp hi' (mem_kept.mp hi).2
  | .inr _, .inl b => exact mem_spare.mp hi (mem_kept.mp hi').2
  | .inr _, .inr _ => exact h rfl
theorem argSet_univ : (Finset.univ : Finset (Fin 4 ⊕ Unit)).biUnion argSet = Finset.univ :=
  Finset.eq_univ_iff_forall.mpr fun i => by
    by_cases h : (i 1).val < 2904
    · exact Finset.mem_biUnion.mpr ⟨.inl (i 0), Finset.mem_univ _, mem_kept.mpr ⟨rfl, h⟩⟩
    · exact Finset.mem_biUnion.mpr ⟨.inr (), Finset.mem_univ _, mem_spare.mpr h⟩

/-- A result's pieces: those its device fills, then those its sibling does. -/
def outSet (c : Dev nD) : Fin 4 ⊕ Fin 4 → Finset S4x2x2904x1024.Idx
  | .inl a => half a (side c)
  | .inr a => half a (side (sib c))
theorem outSet_disjoint (c : Dev nD) (x y : Fin 4 ⊕ Fin 4) (h : x ≠ y) : Disjoint (outSet c x) (outSet c y) := by
  refine Finset.disjoint_left.mpr fun i hi hi' => ?_
  have hs := side_sib c
  match x, y with
  | .inl a, .inl b => exact h (congrArg _ (Fin.ext ((mem_half.mp hi).1.symm.trans (mem_half.mp hi').1)))
  | .inl a, .inr b => exact hs (Fin.ext ((mem_half.mp hi').2.symm.trans (mem_half.mp hi).2))
  | .inr a, .inl b => exact hs (Fin.ext ((mem_half.mp hi).2.symm.trans (mem_half.mp hi').2))
  | .inr a, .inr b => exact h (congrArg _ (Fin.ext ((mem_half.mp hi).1.symm.trans (mem_half.mp hi').1)))
theorem outSet_univ (c : Dev nD) : (Finset.univ : Finset (Fin 4 ⊕ Fin 4)).biUnion (outSet c) = Finset.univ :=
  Finset.eq_univ_iff_forall.mpr fun i => by
    rcases side_all c (i 1) with h | h
    · exact Finset.mem_biUnion.mpr ⟨.inl (i 0), Finset.mem_univ _, mem_half.mpr ⟨rfl, congrArg Fin.val h⟩⟩
    · exact Finset.mem_biUnion.mpr ⟨.inr (i 0), Finset.mem_univ _, mem_half.mpr ⟨rfl, congrArg Fin.val h⟩⟩

/-- A whole buffer is its pieces. -/
theorem arg_cut (c : Dev nD) (f : Buf (Elt F) ((c : Thread nD τ).loc main_arg0)) :
    ((c : Thread nD τ).loc main_arg0 ↦{fullShare} f : sProp 𝕄) = iprop(((bigSep Finset.univ fun a => argBlk c a fullShare.left f)
      ∗ bigSep Finset.univ fun a => argBlk c a fullShare.right f) ∗ argRest c f) := by
  have h := pointsTo_biUnion (ℓ := (c : Thread nD τ).loc main_arg0) (q := fullShare) (f := f) (Ix := Unit) (Name := ℕ) (U := Entry.UU sig nD τ) (Lvl := ℕ)
    (Finset.univ : Finset (Fin 4 ⊕ Unit)) argSet (fun j _ j' _ hj => argSet_disjoint j j' hj)
  have h1 : ((c : Thread nD τ).loc main_arg0 ↦{fullShare} f : sProp 𝕄) = bigSep Finset.univ fun j : Fin 4 ⊕ Unit => ((c : Thread nD τ).loc main_arg0 ↦[argSet j]{fullShare} f) := by
    refine Eq.trans ?_ h
    rw [argSet_univ]
  rw [h1, BI.bigSep_univ_sum, BI.bigSep_univ_of_subsingleton (), ← bigSep_sep']
  refine congrArg₂ BIBase.sep (congrArg _ (funext fun a => ?_)) rfl
  have hs := pointsTo_share (ℓ := (c : Thread nD τ).loc main_arg0) (I := kept a) (f := f) (Ix := Unit) (Name := ℕ) (U := Entry.UU sig nD τ) (Lvl := ℕ)
    (PosShare.mem_left_op_right fullShare)
  exact BI.equiv_iff.mp ⟨hs.1, hs.2⟩

theorem out_cut (c : Dev nD) (f : Buf (Elt F) ((c : Thread nD τ).loc main_v1)) :
    ((c : Thread nD τ).loc main_v1 ↦{fullShare} f : sProp 𝕄) = iprop((bigSep Finset.univ fun a => outBlk c a (side c) f)
      ∗ bigSep Finset.univ fun a => outBlk c a (side (sib c)) f) := by
  have h := pointsTo_biUnion (ℓ := (c : Thread nD τ).loc main_v1) (q := fullShare) (f := f) (Ix := Unit) (Name := ℕ) (U := Entry.UU sig nD τ) (Lvl := ℕ)
    (Finset.univ : Finset (Fin 4 ⊕ Fin 4)) (outSet c) (fun j _ j' _ hj => outSet_disjoint c j j' hj)
  have h1 : ((c : Thread nD τ).loc main_v1 ↦{fullShare} f : sProp 𝕄) = bigSep Finset.univ fun j : Fin 4 ⊕ Fin 4 => ((c : Thread nD τ).loc main_v1 ↦[outSet c j]{fullShare} f) := by
    refine Eq.trans ?_ h
    rw [outSet_univ]
  rw [h1, BI.bigSep_univ_sum]
  rfl

/-! ## What is where -/

/-- The exchanged halves: block `j` is what the pair's device on side `j` kept. -/
def swapped (A : (c : Dev nD) → Buf (Elt F) ((c : Thread nD τ).loc main_arg0)) (c : Dev nD) : S4x2x2904x1024.Idx → Elt F .f32 :=
  fun i => (A (mate c (i 1)) : S4x3072x1024.Idx → Elt F .f32)
    (ix3 (i 0) (⟨(i 2).val, lt_trans (i 2).isLt (show 2904 < 3072 by decide)⟩ : Fin 3072) (i 3))
def got (A : (c : Dev nD) → Buf (Elt F) ((c : Thread nD τ).loc main_arg0)) (c : Dev nD) : Buf (Elt F) ((c : Thread nD τ).loc main_v1) := swapped A c

variable (A : (c : Dev nD) → Buf (Elt F) ((c : Thread nD τ).loc main_arg0)) (B : (c : Dev nD) → Buf (Elt F) ((c : Thread nD τ).loc main_v1))

/-- What each wait hands back. -/
def pay (c : Dev nD) : Slot 4 4 → sProp 𝕄
  | .inl a => iprop(outBlk c a (side c) (got A c) ∗ argBlk c a fullShare.left (A c))
  | .inr (.inl a) => argBlk c a fullShare.right (A c)
  | .inr (.inr a) => outBlk c a (side (sib c)) (got A c)

instance pay_storable (c : Dev nD) (i : Slot 4 4) : BI.Storable (upEmb : UEmb _ 𝕄) (pay A c i) := by
  rcases i with _ | _ | _ <;> unfold pay <;> (try unfold argBlk) <;> (try unfold outBlk) <;> infer_instance

/-- Where an element of a block lies in the result, and in the argument. -/
theorem out_emb (a : Fin 4) (c : Dev nD) (r : Fin 2904) (k : Fin 1024) :
    (Rect.unit (s := S4x2x2904x1024) (off a c) S1x1x2904x1024.size (off_inb a c)).emb
      (ix4 (⟨0, Nat.one_pos⟩ : Fin 1) (⟨0, Nat.one_pos⟩ : Fin 1) r k) = (ix4 a (side c) r k : S4x2x2904x1024.Idx) := by
  funext b
  refine Fin.ext ?_
  have h := off_eq a c
  fin_cases b
  · show off a c 0 + 1 * 0 = a.val
    rw [h]; rfl
  · show off a c 1 + 1 * 0 = (side c).val
    rw [h]; rfl
  · show off a c 2 + 1 * r.val = r.val
    rw [h]; show 0 + 1 * r.val = r.val; omega
  · show off a c 3 + 1 * k.val = k.val
    rw [h]; show 0 + 1 * k.val = k.val; omega
theorem arg_emb (a : Fin 4) (inb) (r : Fin 2904) (k : Fin 1024) :
    (Rect.unit (s := S4x3072x1024) ![a.val, 0, 0] S1x2904x1024.size inb).emb (ix3 (⟨0, Nat.one_pos⟩ : Fin 1) r k)
      = (ix3 a (⟨r.val, lt_trans r.isLt (show 2904 < 3072 by decide)⟩ : Fin 3072) k : S4x3072x1024.Idx) := by
  funext b
  refine Fin.ext ?_
  fin_cases b
  · show a.val + 1 * 0 = a.val
    omega
  · show 0 + 1 * r.val = r.val
    omega
  · show 0 + 1 * k.val = k.val
    omega

theorem arg_inb : ∀ (a : Fin 4) (b : Fin 3), (![a.val, 0, 0] : Fin 3 → ℕ) b + S1x2904x1024.size b ≤ S4x3072x1024.size b := by decide

/-- A block of the exchanged halves is what its device kept. -/
theorem block_read (c s : Dev nD) (a : Fin 4) (h : mate c (side s) = s) :
    (outAt (off a s) (off_inb a s)).view.read (Elt F) (got A c) = (argAt a).view.read (Elt F) (A s) := by
  funext x
  obtain ⟨r, k, rfl⟩ : ∃ (r : Fin 2904) (k : Fin 1024), x = ix2 r k := ⟨x 0, x 1, eq_ix2 x⟩
  have h1 : (outAt (off a s) (off_inb a s)).view.read (Elt F) (got A c) (ix2 r k)
      = swapped A c ((Rect.unit (s := S4x2x2904x1024) (off a s) S1x1x2904x1024.size (off_inb a s)).emb
          (Shape.reshapeEquiv (squeezes_S1x1x2904x1024_S2904x1024.numel_eq) (ix2 r k))) := rfl
  have h2 : (argAt a).view.read (Elt F) (A s) (ix2 r k)
      = (A s : S4x3072x1024.Idx → Elt F .f32) ((Rect.unit (s := S4x3072x1024) ![a.val, 0, 0] S1x2904x1024.size (arg_inb a)).emb
          (Shape.reshapeEquiv (squeezes_S1x2904x1024_S2904x1024.numel_eq) (ix2 r k))) := rfl
  rw [h1, h2, reshapeEquiv_ix2_11ab, reshapeEquiv_ix2_1ab, out_emb, arg_emb]
  show (A (mate c (side s)) : S4x3072x1024.Idx → Elt F .f32) _ = _
  rw [h]

/-- What the transfer of device `s`'s array into device `c`'s result leaves. -/
theorem landed (c s : Dev nD) (a : Fin 4) (h : mate c (side s) = s) (g : Buf (Elt F) ((c : Thread nD τ).loc main_v1)) :
    (((outAt (off a s) (off_inb a s)).view.loc (c : Thread nD τ) ↦[(outAt (off a s) (off_inb a s)).view.set]{fullShare}
      ((outAt (off a s) (off_inb a s)).view.write (Elt F) g ((argAt a).view.read (Elt F) (A s)) Finset.univ)) : sProp 𝕄)
    = outBlk c a (side s) (got A c) := by
  rw [pointsTo_congr (g := got A c)]
  · unfold outBlk
    rw [out_set a s]
  · exact write_of_read (outAt (off a s) (off_inb a s)).view (got A c) g _ (block_read A c s a h)

theorem pays : Pays net (pay A) qOwn qAway (fun _ c => A c) (fun _ c => B c) (fun _ c => A c)
    (fun _ c => B (sib c)) where
  loc c a := by
    refine sep_mono (Entails.of_eq (landed A c c a (mate_side c) _)) (Entails.of_eq ?_)
    exact congrArg (fun s => ((c : Thread nD τ).loc main_arg0 ↦[s]{fullShare.left} A c : sProp 𝕄)) (arg_set a)
  snd c a := by
    refine Entails.of_eq ?_
    exact congrArg (fun s => ((c : Thread nD τ).loc main_arg0 ↦[s]{fullShare.right} A c : sProp 𝕄)) (arg_set a)
  rcv c a := by
    refine Entails.of_eq ?_
    refine (landed A (sib c) c a (mate_sib c) _).trans ?_
    show _ = outBlk (sib c) a (side (sib (sib c))) (got A (sib c))
    rw [sib_sib]

/-- The blocks of one device's transfers, named. -/
theorem blocks_eq (c : Dev nD) : blocks net qOwn qAway (fun _ c => A c) (fun _ c => B c) (fun _ c => A c)
      (fun _ c => B (sib c)) c
    = (iprop((bigSep Finset.univ fun a => iprop(argBlk c a fullShare.left (A c) ∗ outBlk c a (side c) (B c)))
      ∗ bigSep Finset.univ fun a => iprop(argBlk c a fullShare.right (A c) ∗ outBlk (sib c) a (side c) (B (sib c)))) : sProp 𝕄) := by
  unfold blocks
  refine congrArg₂ BIBase.sep (congrArg _ (funext fun a => congrArg₂ BIBase.sep ?_ ?_)) (congrArg _ (funext fun a => congrArg₂ BIBase.sep ?_ ?_))
  · exact congrArg (fun s => ((c : Thread nD τ).loc main_arg0 ↦[s]{fullShare.left} A c : sProp 𝕄)) (arg_set a)
  · exact congrArg (fun s => ((c : Thread nD τ).loc main_v1 ↦[s]{fullShare} B c : sProp 𝕄)) (out_set a c)
  · exact congrArg (fun s => ((c : Thread nD τ).loc main_arg0 ↦[s]{fullShare.right} A c : sProp 𝕄)) (arg_set a)
  · exact congrArg (fun s => (((sib c : Dev nD) : Thread nD τ).loc main_v1 ↦[s]{fullShare} B (sib c) : sProp 𝕄)) (out_set a c)

/-- Every device's blocks filled by its sibling, each given to the device that fills it. -/
theorem to_sib (Φ : Dev nD → Dev nD → sProp 𝕄) :
    (bigSep Finset.univ fun c : Dev nD => Φ c (sib c)) = bigSep Finset.univ fun c : Dev nD => Φ (sib c) c := by
  rw [BI.bigSep_univ_equiv (⟨sib, sib, sib_sib, sib_sib⟩ : Dev nD ≃ Dev nD)]
  refine congrArg _ (funext fun c => ?_)
  show Φ (sib c) (sib (sib c)) = _
  rw [sib_sib]

/-- The two arrays of all the devices, whole, are the blocks of all the transfers and the rows none reads. -/
theorem blocks_all : (bigSep Finset.univ fun c : Dev nD => iprop(blocks net qOwn qAway (fun _ c => A c)
      (fun _ c => B c) (fun _ c => A c) (fun _ c => B (sib c)) c ∗ argRest c (A c)))
    = (bigSep Finset.univ fun c : Dev nD => iprop(((c : Thread nD τ).loc main_arg0 ↦{fullShare} A c)
      ∗ ((c : Thread nD τ).loc main_v1 ↦{fullShare} B c)) : sProp 𝕄) := by
  simp only [blocks_eq, arg_cut, out_cut, bigSep_sep']
  rw [← to_sib fun c s => bigSep Finset.univ fun a => outBlk c a (side s) (B c)]
  have there (P Q R S T : sProp 𝕄) : iprop(((P ∗ Q) ∗ (R ∗ S)) ∗ T) ⊢ iprop(((P ∗ R) ∗ T) ∗ (Q ∗ S)) := by
    iintro ⟨⟨⟨H1, H2⟩, H3, H4⟩, H5⟩
    isplitl [H1 H3 H5]
    · isplitl [H1 H3]
      · isplitl [H1]; · iexact H1
        iexact H3
      iexact H5
    isplitl [H2]; · iexact H2
    iexact H4
  have back (P Q R S T : sProp 𝕄) : iprop(((P ∗ R) ∗ T) ∗ (Q ∗ S)) ⊢ iprop(((P ∗ Q) ∗ (R ∗ S)) ∗ T) := by
    iintro ⟨⟨⟨H1, H3⟩, H5⟩, H2, H4⟩
    isplitl [H1 H2 H3 H4]
    · isplitl [H1 H2]
      · isplitl [H1]; · iexact H1
        iexact H2
      isplitl [H3]; · iexact H3
      iexact H4
    iexact H5
  exact BI.equiv_iff.mp ⟨there _ _ _ _ _, back _ _ _ _ _⟩

/-- What the waits hand back, with the rows no copy reads, is the two arrays whole again. -/
theorem pays_all (c : Dev nD) : iprop(argRest c (A c) ∗ bigSep Finset.univ fun i => pay A c i)
    ⊢ (iprop(((c : Thread nD τ).loc main_arg0 ↦{fullShare} A c) ∗ ((c : Thread nD τ).loc main_v1 ↦{fullShare} got A c)) : sProp 𝕄) := by
  rw [arg_cut, out_cut, BI.bigSep_univ_sum, BI.bigSep_univ_sum]
  show iprop(argRest c (A c) ∗ (bigSep Finset.univ fun a => iprop(outBlk c a (side c) (got A c) ∗ argBlk c a fullShare.left (A c)))
    ∗ (bigSep Finset.univ fun a => argBlk c a fullShare.right (A c)) ∗ bigSep Finset.univ fun a => outBlk c a (side (sib c)) (got A c)) ⊢ _
  rw [bigSep_sep']
  iintro ⟨Hz, ⟨Ho, Ha⟩, Hs, Hr⟩
  isplitl [Ha Hs Hz]
  · isplitl [Ha Hs]
    · isplitl [Ha]; · iexact Ha
      iexact Hs
    iexact Hz
  isplitl [Ho]; · iexact Ho
  iexact Hr

end Cert.Halves

end
-- ==== Proof.SwapRun.lean ====
/- The whole program of `swap_halves` at any float values: every device's result is its pair's kept rows, its argument
   is unchanged and every semaphore counter is back at zero. -/
module

public import proofs.«01_k».proof.Proof.Swapped

@[expose] public section

set_option Elab.async false

noncomputable section

namespace Cert.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.SwapIdeal Cert.SwapIdeal.Gen Cert.Xchg Cert.Entry

variable {F : FTy → Type} [FloatOps F]

local notation "𝕄" => MT nD τ sig Unit (Elt F) ℕ (Entry.UU sig nD τ) ℕ

/-- The buffers the host knows, one by one. -/
theorem known (c : Dev nD) (V : (b : Ref sig .tc) → Buf (Elt F) ((c : Thread nD τ).loc b)) :
    (unscopedBufs c V : sProp 𝕄) = iprop((((c : Thread nD τ).loc main_arg0) ↦{fullShare} V main_arg0)
      ∗ (((c : Thread nD τ).loc main_v1) ↦{fullShare} V main_v1)) :=
  bigSep_eq_bigSepL_of_eq [main_arg0, main_v1] (by decide) (by decide) _

variable (m : (ℓ : Loc nD τ sig) → Buf (Elt F) ℓ)

/-- The devices' arguments as launched. -/
abbrev sent (c : Dev nD) : Buf (Elt F) ((c : Thread nD τ).loc main_arg0) := m ((c : Thread nD τ).loc main_arg0)

/-- What is where at the end. -/
def last (c : Dev nD) : Valuation τ sig (Elt F) := Function.update (fun b => m (c, b)) (Proc.devRef .tc main_v1) (got (sent m) c)

theorem last_v1 (c : Dev nD) : last m c (Proc.devRef .tc main_v1) = got (sent m) c := Function.update_self _ _ _
theorem last_arg0 (c : Dev nD) : last m c (Proc.devRef .tc main_arg0) = m ((c : Thread nD τ).loc main_arg0) :=
  Function.update_of_ne (StableHlo.devRef_ne_of_ne (by decide)) _ _

/-- No region has a table, and every counter is scoped. -/
abbrev adm : (p : Fin 1) → (pcfgs (F := F) p).Adm := fun p => (cfgs p).toPCfg_adm
theorem no_unscoped : ∀ sm : SemLoc sig, sm.isScoped .tc = true := by decide

theorem none0 : IsEmpty (Fin (pin (pcfgs (F := F)) adm 0).W) := inferInstanceAs (IsEmpty (Fin 0))
theorem noTable : IsEmpty (Fin ((pcfgs (F := F)) 0).pre.K) := inferInstanceAs (IsEmpty (Fin 0))

/-- The proof data of the region. -/
def data (p : Fin 1) (c : Dev nD) : Dat τ (Elt F) Unit ℕ (Entry.UU sig nD τ) ℕ (pin (pcfgs (F := F)) adm p) c :=
  match p with
  | ⟨0, _⟩ => Entry.dat net (pay (sent m)) qOwn qAway (fun _ c => sent m c)
      (fun _ c => m ((c : Thread nD τ).loc main_v1)) (fun _ c => sent m c) (fun _ c => m ((sib c : Thread nD τ).loc main_v1))
      (pin (pcfgs (F := F)) adm 0) none0 c

theorem launch_split : (bigSep Finset.univ fun c : Dev nD => unscopedBufs c (fun b => m ((c.tc : Thread nD τ).loc b)))
    ⊢ (bigSep Finset.univ fun c : Dev nD => iprop(blocks net qOwn qAway (fun _ c => sent m c)
      (fun _ c => m ((c : Thread nD τ).loc main_v1)) (fun _ c => sent m c) (fun _ c => m ((sib c : Thread nD τ).loc main_v1)) c
      ∗ argRest c (sent m c)) : sProp 𝕄) := by
  rw [blocks_all (sent m) (fun c => m ((c : Thread nD τ).loc main_v1))]
  exact Entails.of_eq (congrArg _ (funext fun c => known c _))

theorem after_exchange (c : Dev nD) : iprop(argRest c (sent m c) ∗ bigSep Finset.univ fun i => pay (sent m) c i)
    ⊢ (StableHlo.held (c : Thread nD τ) (ucRefs τ sig) (last m c) : sProp 𝕄) := by
  have h := pays_all (sent m) c
  rw [← unscopedBufs_held, known]
  rw [last_v1, last_arg0]
  exact h

theorem rest_run (c : Dev nD) : iprop(boundary (c.tc : Thread nD τ) ∗ (argRest c (sent m c) ∗ bigSep Finset.univ fun i => pay (sent m) c i)
      ∗ (∃ W, owes (c.tc : Thread nD τ) (0 : CellTallies nD τ sig Unit) W) ∗ levAts (fun _ => ∅) (fun _ _ => (0 : ℕ)) ∗ Entry.others (pcfgs (F := F)) adm 0 c)
    ⊢ wp frame (wpE (Pipeline.defs (pcfgs (F := F)) defs₀) (Variants.lift Variants.none) (c.tc : Thread nD τ) none) Set.univ
        (Prog.ret PUnit.unit)
        (fun _ => iprop(StableHlo.held (c : Thread nD τ) (ucRefs τ sig) (last m c) ∗ boundary (c.tc : Thread nD τ)
          ∗ ∃ W, owes (c.tc : Thread nD τ) (0 : CellTallies nD τ sig Unit) W)) := by
  rw [wp_ret]
  refine .trans ?_ fupd_intro
  have ha := after_exchange m c
  iintro ⟨Hb, HZ, HO, -, -⟩
  ihave Hh := ha $$ HZ
  isplitl [Hh]; · iexact Hh
  isplitl [Hb]; · iexact Hb
  iexact HO

theorem own0 : OwnSemFacts ((pcfgs (F := F)) 0).spec (osem net) :=
  show OwnSemFacts (cfg0.spec) (osem net) from by decide +kernel

theorem starts_run (t : Fin (pin (pcfgs (F := F)) adm 0).N) (c : Dev nD) (Q : sProp 𝕄) :
    wp frame (wpE defs₀ Variants.none (c : Thread nD τ) none) Set.univ (net.starts c ts (net.waits is)) (fun _ => Q)
      ⊢ wp frame (wpE defs₀ Variants.none (c : Thread nD τ) none) Set.univ
        (defs₀ (F := F) .tc (pin (pcfgs (F := F)) adm 0).body ((pin (pcfgs (F := F)) adm 0).bodyArgs t ((pin (pcfgs (F := F)) adm 0).slots t))) (fun _ => Q) := by
  have h : defs₀ (F := F) .tc (pin (pcfgs (F := F)) adm 0).body ((pin (pcfgs (F := F)) adm 0).bodyArgs t ((pin (pcfgs (F := F)) adm 0).slots t))
      = .op .deviceId fun c => net.starts c ts (net.waits is) := by
    refine Eq.trans ?_ body_eq
    unfold defs₀; rw [Defs.onTc_tc]
  rw [h, wp_deviceId]

theorem ts_all : ∀ t, t ∈ ts
  | .inl l => by fin_cases l <;> simp [ts]
  | .inr k => by fin_cases k <;> simp [ts]
theorem is_all : ∀ i, i ∈ is
  | .inl l => by fin_cases l <;> simp [is]
  | .inr (.inl k) => by fin_cases k <;> simp [is]
  | .inr (.inr k) => by fin_cases k <;> simp [is]

theorem main_first (c : Dev nD) : main (F := F) c = .op (.customCall (entry 0) ()) fun _ => .ret PUnit.unit := main_chain c

set_option backward.isDefEq.respectTransparency.types false in
/-- The whole program: every device holds its pair's kept rows, its argument is as launched and every semaphore counter is zero. -/
theorem run_main (ρ : Dev nD → PrngReg) :
    θ_run (Pipeline.defs (pcfgs (F := F)) defs₀) (onTc main) ⟨m, fun _ => 0, ρ⟩ fun r =>
      (∀ c : Dev nD, r.2.mem ((c : Thread nD τ).loc main_v1) = got (sent m) c
        ∧ r.2.mem ((c : Thread nD τ).loc main_arg0) = m ((c : Thread nD τ).loc main_arg0)) ∧ r.2.sem = fun _ => 0 := by
  refine θ_run_exchange (pcfgs (F := F)) adm (data m) cellOf_inj 0 defs₀ Variants.none none0 noTable winFacts0.to₀ own0 N_0
    (pays (sent m) fun c => m ((c : Thread nD τ).loc main_v1)) (fun _ => rfl) ts (by decide) ts_all is (by decide) is_all
    starts_run m ρ main _ main_first (fun _ => ∅) (fun _ _ => (0 : ℕ)) (fun _ _ => rfl) (fun c => argRest c (sent m c))
    (fun c => StableHlo.held (c : Thread nD τ) (ucRefs τ sig) (last m c)) (launch_split m) (rest_run m)
    (fun c μ => μ.mem ((c : Thread nD τ).loc main_v1) = got (sent m) c
        ∧ μ.mem ((c : Thread nD τ).loc main_arg0) = m ((c : Thread nD τ).loc main_arg0))
    (fun c s' => ?_) fun _ h hz => ⟨h, funext fun g => hz g (.inr (no_unscoped g.2))⟩
  unfold StableHlo.held
  iintro ⟨Hh, HSI⟩
  ihave Hr := (pointsTo_read_all (ucRefs τ sig) (fun b => ((c : Thread nD τ).1, b)) (last m c) s') $$ [Hh HSI]
  · isplitl [Hh] <;> iassumption
  icases Hr with ⟨%h, HSI⟩
  imodintro
  isplitr
  · ipureintro
    have hr (r : Ref sig .tc) (hu : ¬ r.isScoped = true) := h (Proc.devRef .tc r) (Finset.mem_filter.mpr ⟨StableHlo.devRef_mem_tcRefs r, hu⟩)
    exact ⟨(hr main_v1 (by decide)).trans (last_v1 m c), (hr main_arg0 (by decide)).trans (last_arg0 m c)⟩
  · iexact HSI

end Cert.Halves

end
-- ==== Proof.SwapValue.lean ====
/- The exchanged halves of every device's block are its block of the reference's result, at any float values. -/
module

public import proofs.«01_k».proof.Proof.SwapRun
public import proofs.«01_k».proof.Proof.Gen.SwapReferenceIdeal.Run
public import Idealize.ShloMosaic.Lib.Layout

@[expose] public section

set_option Elab.async false
set_option maxRecDepth 16384

noncomputable section

namespace Cert.Halves

open Idealize.ShloMosaic Idealize.ShloMosaic.TcCoe Idealize.ShloMosaic.ValueIdx Idealize.SL.Sem
open Cert.SwapReferenceIdeal Cert.SwapReferenceIdeal.Gen

variable {F : FTy → Type} [FloatOps F]

/-- The reference's result: each of the eight blocks' first rows. -/
def halves (v : Vec F S4x24576x1024 .f32) : Vec F S4x8x2904x1024 .f32 :=
  extractStridedSlice S4x8x2904x1024 ![0, 0, 0, 0] (shapeCast S4x8x3072x1024 v shapeCasts_S4x24576x1024_S4x8x3072x1024)
    slices_S4x8x3072x1024_S4x8x2904x1024_0_0_0_0

/-- The row of the whole array that is row `r` of block `d`. -/
def rowOf (d : Fin 8) (r : Fin 2904) : Fin 24576 := ⟨d.val * 3072 + r.val, by omega⟩

theorem halves_apply (v : Vec F S4x24576x1024 .f32) (a : Fin 4) (d : Fin 8) (r : Fin 2904) (k : Fin 1024) :
    halves v (ix4 a d r k) = v (ix3 a (rowOf d r) k) := by
  have hr : r.val < 3072 := by omega
  unfold halves
  rw [extractStridedSlice_apply _ _ _ _ (ix4 a d (⟨r.val, hr⟩ : Fin 3072) k : S4x8x3072x1024.Idx) (fun b => by
    fin_cases b
    · show a.val = 0 + a.val
      omega
    · show d.val = 0 + d.val
      omega
    · show r.val = 0 + r.val
      omega
    · show k.val = 0 + k.val
      omega)]
  refine shapeCast_apply _ _ _ _ ?_
  rw [Shape.rowMajor_val_three, Shape.rowMajor_val_four]
  show (a.val * 24576 + (d.val * 3072 + r.val)) * 1024 + k.val = ((a.val * 8 + d.val) * 3072 + r.val) * 1024 + k.val
  omega

theorem argument_apply (d : Fin 8) (v : Vec F S4x24576x1024 .f32) (a : Fin 4) (r : Fin 2904) (hr : r.val < 3072) (k : Fin 1024) :
    Layout.block ⟨3, ![4, 3072, 1024]⟩ ⟨3, ![4, 24576, 1024]⟩ 1 8 d v (by decide) (ix3 a (⟨r.val, hr⟩ : Fin 3072) k) = v (ix3 a (rowOf d r) k) := by
  rw [Layout.block_apply]
  refine congrArg v (funext fun b => Fin.ext ?_)
  rw [Layout.Tiles.idx_val]
  fin_cases b <;> rfl

theorem result_apply (c : Fin 8) (o : Vec F S4x8x2904x1024 .f32) (a : Fin 4) (j : Fin 2) (r : Fin 2904) (k : Fin 1024) :
    Layout.blockN ⟨4, ![4, 2, 2904, 1024]⟩ ⟨4, ![4, 8, 2904, 1024]⟩ (Layout.meshBlock [2, 2, 2] ![[], [0, 1], [], []] c (by decide)) o (by decide) (ix4 a j r k)
      = o (ix4 a (mate c j) r k) := by
  rw [Layout.blockN_apply]
  refine congrArg o (funext fun b => Fin.ext ?_)
  rw [Layout.TilesN.idx_val]
  fin_cases b
  · show 0 * 4 + a.val = a.val
    omega
  · show (c.val / 4 % 2 * 2 + (c.val / 2 % 2 * 1 + 0)) * 2 + j.val = c.val / 2 * 2 + j.val
    omega
  · show 0 * 2904 + r.val = r.val
    omega
  · show 0 * 1024 + k.val = k.val
    omega

/-- A device's result on its blocks is its block of the reference's. -/
theorem result_eq (A : (d : Fin 8) → Vec F Cert.SwapIdeal.S4x3072x1024 .f32) (v : Vec F S4x24576x1024 .f32)
    (hA : ∀ d : Fin 8, A d = Layout.block ⟨3, ![4, 3072, 1024]⟩ ⟨3, ![4, 24576, 1024]⟩ 1 8 d v (by decide)) (c : Fin 8) :
    got (F := F) A c = Layout.blockN ⟨4, ![4, 2, 2904, 1024]⟩ ⟨4, ![4, 8, 2904, 1024]⟩
      (Layout.meshBlock [2, 2, 2] ![[], [0, 1], [], []] c (by decide)) (halves v) (by decide) := by
  funext i
  obtain ⟨a, j, r, k, rfl⟩ : ∃ (a : Fin 4) (j : Fin 2) (r : Fin 2904) (k : Fin 1024), i = ix4 a j r k := ⟨i 0, i 1, i 2, i 3, eq_ix4 i⟩
  rw [result_apply, halves_apply]
  show A (mate c j) (ix3 a (⟨r.val, _⟩ : Fin 3072) k) = _
  rw [hA]
  exact argument_apply _ _ _ _ _ _

end Cert.Halves

end
-- ==== Proof.GatherNet.lean ====
/- The exchange of `gather_weights` on the printed text: every device copies its whole block into its own result and into each
   of the others'; the body is the starts then the waits of that exchange. -/
module

public import proofs.«01_k».proof.Proof.Entry
public import proofs.«01_k».proof.Proof.Gen.GatherIdeal.Launch
public import proofs.«01_k».proof.Proof.Gen.GatherIdeal.Skeleton

@[expose] public section

set_option Elab.async false

noncomputable section

namespace Cert.Weights

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.GatherIdeal Cert.GatherIdeal.Gen Cert.Xchg

/-- Device `c`'s peer of copy `k`. -/
def peer : Fin 7 → Dev nD → Dev nD
  | 0, c => ⟨k0_dev1 c, k0_dev1_lt c⟩ | 1, c => ⟨k0_dev2 c, k0_dev2_lt c⟩ | 2, c => ⟨k0_dev3 c, k0_dev3_lt c⟩
  | 3, c => ⟨k0_dev4 c, k0_dev4_lt c⟩ | 4, c => ⟨k0_dev5 c, k0_dev5_lt c⟩ | 5, c => ⟨k0_dev6 c, k0_dev6_lt c⟩
  | 6, c => ⟨k0_dev7 c, k0_dev7_lt c⟩

/-- Device `c`'s block of a result, as the text slices it out. -/
abbrev outAt (c : Dev nD) : Memref sig .tc .hbm S2904x1024 .bf16 :=
  ((Memref.whole main_v1).slice (Rect.unit (s := S8x2904x1024) (k0_off1 c) S1x2904x1024.size (k0_off1_inb c)) (fun _ => rfl)).squeeze S2904x1024
    squeezes_S1x2904x1024_S2904x1024

/-- The counter of each cell. -/
def sem : Slot 1 7 → DmaSem sig
  | .inl _ => cc0_scratch2.sem
  | .inr (.inl k) => ((cc0_scratch0.slice (Rect.unit (s := S7) ![k.val] S1.size (by revert k; decide))).squeeze S_ squeezes_S1_S_).sem
  | .inr (.inr k) => ((cc0_scratch1.slice (Rect.unit (s := S7) ![k.val] S1.size (by revert k; decide))).squeeze S_ squeezes_S1_S_).sem

/-- The exchange. -/
def net : Net nD τ sig 1 7 where
  peer := peer
  peer_peer := by decide +kernel
  sem := sem
  sem_inj := by decide +kernel
  S := S2904x1024
  e := .bf16
  lsrc _ _ := Memref.whole main_arg0
  ldst _ c := outAt c
  src _ _ := Memref.whole main_arg0
  dst _ c := outAt c
  lsrc_we _ _ := (Memref.isWhole_whole main_arg0).wordExact
  ldst_we _ c := ((Memref.isWhole_whole main_v1).wordExact_slice rfl _ (k0_off1_wordsbf16 c)).reshape _ _
  src_we _ _ := (Memref.isWhole_whole main_arg0).wordExact
  dst_we _ c := ((Memref.isWhole_whole main_v1).wordExact_slice rfl _ (k0_off1_wordsbf16 c)).reshape _ _
  dst_sc _ _ := rfl
  wb
    | .inl _ => main_v1
    | .inr (.inl _) => main_arg0
    | .inr (.inr _) => main_v1
  wb_has
    | .inl _ => (outAt 0).hasMemref
    | .inr (.inl _) => (Memref.whole main_arg0).hasMemref
    | .inr (.inr _) => (outAt 0).hasMemref
  N := main_v1.dmaCredit S2904x1024 .bf16
  N_pos := by decide +kernel
  ldst_N _ _ := rfl
  dst_N _ _ := rfl
  wb_N i := by rcases i with _ | _ | _ <;> rfl

/-- The order the transfers start in. -/
def ts : List (Fin 1 ⊕ Fin 7) := [.inl 0, .inr 0, .inr 1, .inr 2, .inr 3, .inr 4, .inr 5, .inr 6]
/-- The order the waits run in. -/
def is : List (Slot 1 7) := [.inr (.inr 0), .inr (.inr 1), .inr (.inr 2), .inr (.inr 3), .inr (.inr 4), .inr (.inr 5), .inr (.inr 6),
  .inr (.inl 0), .inr (.inl 1), .inr (.inl 2), .inr (.inl 3), .inr (.inl 4), .inr (.inl 5), .inr (.inl 6), .inl 0]

variable {F : FTy → Type} [FloatOps F]

set_option maxRecDepth 65536 in
/-- The body reads the device's number, starts the transfers and waits for them. -/
theorem body_eq : cc0_gather_weights (F := F) (Memref.whole main_arg0) (Memref.isWhole_whole _) (Memref.whole main_v1) (Memref.isWhole_whole _)
      cc0_scratch0 cc0_scratch1 cc0_scratch2
    = .op .deviceId fun c => net.starts c ts (net.waits is) := rfl

end Cert.Weights

end
-- ==== Proof.Gathered.lean ====
/- What the exchange of `gather_weights` moves: a device's block read at eight shares, a result cut into the blocks its
   transfers fill, and what each transfer leaves. -/
module

public import proofs.«01_k».proof.Proof.GatherNet
public import proofs.«01_k».proof.Proof.Rows
public import Idealize.ShloMosaic.Lib.ValueLayout
public import Idealize.ShloMosaic.Lib.Transfers

@[expose] public section

set_option Elab.async false

noncomputable section

namespace Cert.Weights

open Idealize.ShloMosaic Idealize.ShloMosaic.TcCoe Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.GatherIdeal Cert.GatherIdeal.Gen Cert.Xchg Cert.Rows

variable {F : FTy → Type} [FloatOps F]

local notation "𝕄" => MT nD τ sig Unit (Elt F) ℕ (Entry.UU sig nD τ) ℕ

/-! ## The blocks -/

theorem off_self (c : Dev nD) : k0_off1 c = ![c.val, 0, 0] := by revert c; decide +kernel

theorem out_set (j : Dev nD) : (outAt j).view.set = (row (n := 8) (R := 2904) (C := 1024) j : Finset S8x2904x1024.Idx) :=
  (View.set_reshape _ _).trans ((View.set_slice_whole main_v1 _).trans (rect_set j (k0_off1 j) (k0_off1_inb j) (off_self j)))
theorem arg_set : (Memref.whole main_arg0).view.set = (Finset.univ : Finset S2904x1024.Idx) := View.set_whole main_arg0

/-- The share a device's own copy reads its block at, and those its remote copies do. -/
abbrev qOwn : Fin 1 → PosShare TreeShare := fun _ => shareDrop fullShare 7
abbrev qAway : Fin 7 → PosShare TreeShare := fun k => shareTok fullShare 7 k

/-- A device's argument at a share. -/
def argAt (c : Dev nD) (q : PosShare TreeShare) (f : Buf (Elt F) ((c : Thread nD τ).loc main_arg0)) : sProp 𝕄 :=
  (c : Thread nD τ).loc main_arg0 ↦[(Finset.univ : Finset S2904x1024.Idx)]{q} f
/-- One block of a device's result. -/
def outRow (c j : Dev nD) (f : Buf (Elt F) ((c : Thread nD τ).loc main_v1)) : sProp 𝕄 :=
  (c : Thread nD τ).loc main_v1 ↦[(row (n := 8) (R := 2904) (C := 1024) j : Finset S8x2904x1024.Idx)]{fullShare} f

theorem arg_shares (c : Dev nD) (f : Buf (Elt F) ((c : Thread nD τ).loc main_arg0)) :
    ((c : Thread nD τ).loc main_arg0 ↦{fullShare} f : sProp 𝕄) = iprop(argAt c (qOwn 0) f ∗ bigSep Finset.univ fun k => argAt c (qAway k) f) := by
  have h := pointsTo_toks (ℓ := (c : Thread nD τ).loc main_arg0) (S := Finset.univ) (f := f) (Ix := Unit) (Name := ℕ)
    (U := Entry.UU sig nD τ) (Lvl := ℕ) fullShare 7
  exact BI.equiv_iff.mp ⟨h.1, h.2⟩

theorem out_rows (c : Dev nD) (f : Buf (Elt F) ((c : Thread nD τ).loc main_v1)) :
    ((c : Thread nD τ).loc main_v1 ↦{fullShare} f : sProp 𝕄) = bigSep Finset.univ fun j : Dev nD => outRow c j f := by
  have h := pointsTo_biUnion (ℓ := (c : Thread nD τ).loc main_v1) (q := fullShare) (f := f) (Ix := Unit) (Name := ℕ) (U := Entry.UU sig nD τ) (Lvl := ℕ)
    (Finset.univ : Finset (Dev nD)) (fun j => (row (n := 8) (R := 2904) (C := 1024) j : Finset S8x2904x1024.Idx)) (fun j _ j' _ hj => row_disjoint j j' hj)
  refine Eq.trans ?_ h
  rw [show ((Finset.univ : Finset (Dev nD)).biUnion fun j => (row (n := 8) (R := 2904) (C := 1024) j : Finset S8x2904x1024.Idx)) = Finset.univ from rows_univ]

/-! ## What is where -/

theorem turn_inj (c : Dev nD) : Function.Injective (turn net.peer c) := by revert c; decide +kernel

/-- The gathered array: its block `j` is what device `j` sent. -/
def all (A : (c : Dev nD) → Buf (Elt F) ((c : Thread nD τ).loc main_arg0)) : S8x2904x1024.Idx → Elt F .bf16 :=
  fun i => (A (i 0) : S2904x1024.Idx → Elt F .bf16) (ix2 (i 1) (i 2))
def got (A : (c : Dev nD) → Buf (Elt F) ((c : Thread nD τ).loc main_arg0)) (c : Dev nD) : Buf (Elt F) ((c : Thread nD τ).loc main_v1) := all A

variable (A : (c : Dev nD) → Buf (Elt F) ((c : Thread nD τ).loc main_arg0)) (B : (c : Dev nD) → Buf (Elt F) ((c : Thread nD τ).loc main_v1))

/-- What each wait hands back. -/
def pay (c : Dev nD) : Slot 1 7 → sProp 𝕄
  | .inl l => iprop(outRow c c (got A c) ∗ argAt c (qOwn l) (A c))
  | .inr (.inl k) => argAt c (qAway k) (A c)
  | .inr (.inr k) => outRow c (net.peer k c) (got A c)

instance pay_storable (c : Dev nD) (i : Slot 1 7) : BI.Storable (upEmb : UEmb _ 𝕄) (pay A c i) := by
  rcases i with _ | _ | _ <;> unfold pay <;> (try unfold argAt) <;> (try unfold outRow) <;> infer_instance

/-- Where an element of a block lies in the result. -/
theorem emb_eq (j : Dev nD) (r : Fin 2904) (k : Fin 1024) :
    (Rect.unit (s := S8x2904x1024) (k0_off1 j) S1x2904x1024.size (k0_off1_inb j)).emb
      (ix3 (⟨0, Nat.one_pos⟩ : Fin 1) r k) = (ix3 j r k : S8x2904x1024.Idx) := by
  funext b
  refine Fin.ext ?_
  have h := off_self j
  fin_cases b
  · show k0_off1 j 0 + 1 * 0 = j.val
    rw [h]; rfl
  · show k0_off1 j 1 + 1 * r.val = r.val
    rw [h]; show 0 + 1 * r.val = r.val; omega
  · show k0_off1 j 2 + 1 * k.val = k.val
    rw [h]; show 0 + 1 * k.val = k.val; omega

/-- A block of the gathered array is what its device sent. -/
theorem block_read (c j : Dev nD) :
    (outAt j).view.read (Elt F) (got A c) = (Memref.whole main_arg0).view.read (Elt F) (A j) := by
  funext x
  obtain ⟨r, k, rfl⟩ : ∃ (r : Fin 2904) (k : Fin 1024), x = ix2 r k := ⟨x 0, x 1, eq_ix2 x⟩
  have h1 : (outAt j).view.read (Elt F) (got A c) (ix2 r k)
      = all A ((Rect.unit (s := S8x2904x1024) (k0_off1 j) S1x2904x1024.size (k0_off1_inb j)).emb
          (Shape.reshapeEquiv (squeezes_S1x2904x1024_S2904x1024.numel_eq) (ix2 r k))) := rfl
  refine h1.trans ?_
  rw [reshapeEquiv_ix2_1ab, emb_eq]
  rfl

/-- What the transfer of device `j`'s block into device `c`'s result leaves. -/
theorem landed (c j : Dev nD) (g : Buf (Elt F) ((c : Thread nD τ).loc main_v1)) :
    (((outAt j).view.loc (c : Thread nD τ) ↦[(outAt j).view.set]{fullShare}
      ((outAt j).view.write (Elt F) g ((Memref.whole main_arg0).view.read (Elt F) (A j)) Finset.univ)) : sProp 𝕄)
    = outRow c j (got A c) := by
  rw [pointsTo_congr (g := got A c)]
  · unfold outRow
    rw [out_set j]
  · exact write_of_read (outAt j).view (got A c) g _ (block_read A c j)

theorem pays : Pays net (pay A) qOwn qAway (fun _ c => A c) (fun _ c => B c) (fun _ c => A c)
    (fun k c => B (net.peer k c)) where
  loc c l := by
    refine sep_mono (Entails.of_eq (landed A c c _)) (Entails.of_eq ?_)
    unfold argAt
    exact congrArg (fun s => ((c : Thread nD τ).loc main_arg0 ↦[s]{qOwn l} A c : sProp 𝕄)) arg_set
  snd c k := by
    refine Entails.of_eq ?_
    exact congrArg (fun s => ((c : Thread nD τ).loc main_arg0 ↦[s]{qAway k} A c : sProp 𝕄)) arg_set
  rcv c k := by
    refine Entails.of_eq ?_
    refine (landed A (net.peer k c) c _).trans ?_
    show _ = outRow (net.peer k c) (net.peer k (net.peer k c)) (got A (net.peer k c))
    rw [net.peer_peer]

/-- The blocks of one device's transfers, named. -/
theorem blocks_eq (c : Dev nD) : blocks net qOwn qAway (fun _ c => A c) (fun _ c => B c) (fun _ c => A c)
      (fun k c => B (net.peer k c)) c
    = (iprop((argAt c (qOwn 0) (A c) ∗ outRow c c (B c)) ∗ bigSep Finset.univ fun k => iprop(argAt c (qAway k) (A c)
      ∗ outRow (net.peer k c) c (B (net.peer k c)))) : sProp 𝕄) := by
  unfold blocks
  rw [BI.bigSep_univ_of_subsingleton (0 : Fin 1)]
  refine congrArg₂ BIBase.sep (congrArg₂ BIBase.sep ?_ ?_) (congrArg _ (funext fun k => congrArg₂ BIBase.sep ?_ ?_))
  · exact congrArg (fun s => ((c : Thread nD τ).loc main_arg0 ↦[s]{qOwn 0} A c : sProp 𝕄)) arg_set
  · exact congrArg (fun s => ((c : Thread nD τ).loc main_v1 ↦[s]{fullShare} B c : sProp 𝕄)) (out_set c)
  · exact congrArg (fun s => ((c : Thread nD τ).loc main_arg0 ↦[s]{qAway k} A c : sProp 𝕄)) arg_set
  · exact congrArg (fun s => (((net.peer k c : Dev nD) : Thread nD τ).loc main_v1 ↦[s]{fullShare} B (net.peer k c) : sProp 𝕄)) (out_set c)

/-- The two arrays of all the devices, whole, are the blocks of all the transfers. -/
theorem blocks_all : (bigSep Finset.univ fun c : Dev nD => blocks net qOwn qAway (fun _ c => A c)
      (fun _ c => B c) (fun _ c => A c) (fun k c => B (net.peer k c)) c)
    = (bigSep Finset.univ fun c : Dev nD => iprop(((c : Thread nD τ).loc main_arg0 ↦{fullShare} A c)
      ∗ ((c : Thread nD τ).loc main_v1 ↦{fullShare} B c)) : sProp 𝕄) := by
  have e : (fun c : Dev nD => (iprop(((c : Thread nD τ).loc main_arg0 ↦{fullShare} A c) ∗ ((c : Thread nD τ).loc main_v1 ↦{fullShare} B c)) : sProp 𝕄))
      = fun c => iprop((argAt c (qOwn 0) (A c) ∗ bigSep Finset.univ fun k => argAt c (qAway k) (A c))
        ∗ (outRow c c (B c) ∗ bigSep Finset.univ fun k => outRow c (net.peer k c) (B c))) := funext fun c => by
    rw [arg_shares, out_rows, by_turn net.peer (turn_inj c) rfl fun j => outRow c j (B c)]
  rw [e]
  simp only [blocks_eq, bigSep_sep']
  rw [← across net.peer net.peer_peer fun c j => outRow c j (B c)]
  have swap (P Q R S : sProp 𝕄) : iprop((P ∗ Q) ∗ R ∗ S) ⊢ iprop((P ∗ R) ∗ Q ∗ S) := by
    iintro ⟨⟨H1, H2⟩, H3, H4⟩
    isplitl [H1 H3]
    · isplitl [H1]; · iexact H1
      iexact H3
    isplitl [H2]; · iexact H2
    iexact H4
  exact BI.equiv_iff.mp ⟨swap _ _ _ _, swap _ _ _ _⟩

/-- What the waits hand back is the two arrays whole again. -/
theorem pays_all (c : Dev nD) : (bigSep Finset.univ fun i => pay A c i)
    ⊢ (iprop(((c : Thread nD τ).loc main_arg0 ↦{fullShare} A c) ∗ ((c : Thread nD τ).loc main_v1 ↦{fullShare} got A c)) : sProp 𝕄) := by
  rw [arg_shares, out_rows, by_turn net.peer (turn_inj c) rfl fun j => outRow c j (got A c)]
  rw [BI.bigSep_univ_sum, BI.bigSep_univ_sum, BI.bigSep_univ_of_subsingleton (0 : Fin 1)]
  show iprop((outRow c c (got A c) ∗ argAt c (qOwn 0) (A c)) ∗ (bigSep Finset.univ fun k => argAt c (qAway k) (A c))
    ∗ bigSep Finset.univ fun k => outRow c (net.peer k c) (got A c)) ⊢ _
  iintro ⟨⟨Ho, Ha⟩, Hs, Hr⟩
  isplitl [Ha Hs]
  · isplitl [Ha]; · iexact Ha
    iexact Hs
  isplitl [Ho]; · iexact Ho
  iexact Hr

end Cert.Weights

end
-- ==== Proof.GatherRun.lean ====
/- The whole program of `gather_weights` at any float values: every device's result is all the devices' blocks, its argument
   is unchanged and every semaphore counter is back at zero. -/
module

public import proofs.«01_k».proof.Proof.Gathered

@[expose] public section

set_option Elab.async false

noncomputable section

namespace Cert.Weights

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.GatherIdeal Cert.GatherIdeal.Gen Cert.Xchg Cert.Entry

variable {F : FTy → Type} [FloatOps F]

local notation "𝕄" => MT nD τ sig Unit (Elt F) ℕ (Entry.UU sig nD τ) ℕ

/-- The buffers the host knows, one by one. -/
theorem known (c : Dev nD) (V : (b : Ref sig .tc) → Buf (Elt F) ((c : Thread nD τ).loc b)) :
    (unscopedBufs c V : sProp 𝕄) = iprop((((c : Thread nD τ).loc main_arg0) ↦{fullShare} V main_arg0)
      ∗ (((c : Thread nD τ).loc main_v1) ↦{fullShare} V main_v1)) :=
  bigSep_eq_bigSepL_of_eq [main_arg0, main_v1] (by decide) (by decide) _

variable (m : (ℓ : Loc nD τ sig) → Buf (Elt F) ℓ)

/-- The devices' blocks as launched. -/
abbrev sent (c : Dev nD) : Buf (Elt F) ((c : Thread nD τ).loc main_arg0) := m ((c : Thread nD τ).loc main_arg0)

/-- What is where at the end. -/
def last (c : Dev nD) : Valuation τ sig (Elt F) := Function.update (fun b => m (c, b)) (Proc.devRef .tc main_v1) (got (sent m) c)

theorem last_v1 (c : Dev nD) : last m c (Proc.devRef .tc main_v1) = got (sent m) c := Function.update_self _ _ _
theorem last_arg0 (c : Dev nD) : last m c (Proc.devRef .tc main_arg0) = m ((c : Thread nD τ).loc main_arg0) :=
  Function.update_of_ne (StableHlo.devRef_ne_of_ne (by decide)) _ _

/-- No region has a table, and every counter is scoped. -/
abbrev adm : (p : Fin 1) → (pcfgs (F := F) p).Adm := fun p => (cfgs p).toPCfg_adm
theorem no_unscoped : ∀ sm : SemLoc sig, sm.isScoped .tc = true := by decide

theorem none0 : IsEmpty (Fin (pin (pcfgs (F := F)) adm 0).W) := inferInstanceAs (IsEmpty (Fin 0))
theorem noTable : IsEmpty (Fin ((pcfgs (F := F)) 0).pre.K) := inferInstanceAs (IsEmpty (Fin 0))

/-- The proof data of the region. -/
def data (p : Fin 1) (c : Dev nD) : Dat τ (Elt F) Unit ℕ (Entry.UU sig nD τ) ℕ (pin (pcfgs (F := F)) adm p) c :=
  match p with
  | ⟨0, _⟩ => Entry.dat net (pay (sent m)) qOwn qAway (fun _ c => sent m c)
      (fun _ c => m ((c : Thread nD τ).loc main_v1)) (fun _ c => sent m c) (fun k c => m ((net.peer k c : Thread nD τ).loc main_v1))
      (pin (pcfgs (F := F)) adm 0) none0 c

theorem launch_split : (bigSep Finset.univ fun c : Dev nD => unscopedBufs c (fun b => m ((c.tc : Thread nD τ).loc b)))
    ⊢ (bigSep Finset.univ fun c : Dev nD => iprop(blocks net qOwn qAway (fun _ c => sent m c)
      (fun _ c => m ((c : Thread nD τ).loc main_v1)) (fun _ c => sent m c) (fun k c => m ((net.peer k c : Thread nD τ).loc main_v1)) c
      ∗ iprop(emp)) : sProp 𝕄) := by
  rw [bigSep_sep', blocks_all (sent m) (fun c => m ((c : Thread nD τ).loc main_v1)), ← bigSep_sep']
  refine bigSep_mono fun c _ => ?_
  have h : (unscopedBufs c (fun b => m ((c.tc : Thread nD τ).loc b)) : sProp 𝕄)
      ⊢ iprop(((((c : Thread nD τ).loc main_arg0) ↦{fullShare} sent m c) ∗ (((c : Thread nD τ).loc main_v1) ↦{fullShare} m ((c : Thread nD τ).loc main_v1)))
        ∗ iprop(emp)) := ?_
  · exact h
  rw [known]
  iintro H
  isplitl [H]; · iexact H
  iempintro

theorem after_exchange (c : Dev nD) : (bigSep Finset.univ fun i => pay (sent m) c i)
    ⊢ (StableHlo.held (c : Thread nD τ) (ucRefs τ sig) (last m c) : sProp 𝕄) := by
  have h := pays_all (sent m) c
  rw [← unscopedBufs_held, known]
  rw [last_v1, last_arg0]
  exact h

theorem rest_run (c : Dev nD) : iprop(boundary (c.tc : Thread nD τ) ∗ (iprop(emp) ∗ bigSep Finset.univ fun i => pay (sent m) c i)
      ∗ (∃ W, owes (c.tc : Thread nD τ) (0 : CellTallies nD τ sig Unit) W) ∗ levAts (fun _ => ∅) (fun _ _ => (0 : ℕ)) ∗ Entry.others (pcfgs (F := F)) adm 0 c)
    ⊢ wp frame (wpE (Pipeline.defs (pcfgs (F := F)) defs₀) (Variants.lift Variants.none) (c.tc : Thread nD τ) none) Set.univ
        (Prog.ret PUnit.unit)
        (fun _ => iprop(StableHlo.held (c : Thread nD τ) (ucRefs τ sig) (last m c) ∗ boundary (c.tc : Thread nD τ)
          ∗ ∃ W, owes (c.tc : Thread nD τ) (0 : CellTallies nD τ sig Unit) W)) := by
  rw [wp_ret]
  refine .trans ?_ fupd_intro
  have ha := after_exchange m c
  iintro ⟨Hb, ⟨-, HZ⟩, HO, -, -⟩
  ihave Hh := ha $$ HZ
  isplitl [Hh]; · iexact Hh
  isplitl [Hb]; · iexact Hb
  iexact HO

theorem own0 : OwnSemFacts ((pcfgs (F := F)) 0).spec (osem net) :=
  show OwnSemFacts (cfg0.spec) (osem net) from by decide +kernel

theorem starts_run (t : Fin (pin (pcfgs (F := F)) adm 0).N) (c : Dev nD) (Q : sProp 𝕄) :
    wp frame (wpE defs₀ Variants.none (c : Thread nD τ) none) Set.univ (net.starts c ts (net.waits is)) (fun _ => Q)
      ⊢ wp frame (wpE defs₀ Variants.none (c : Thread nD τ) none) Set.univ
        (defs₀ (F := F) .tc (pin (pcfgs (F := F)) adm 0).body ((pin (pcfgs (F := F)) adm 0).bodyArgs t ((pin (pcfgs (F := F)) adm 0).slots t))) (fun _ => Q) := by
  have h : defs₀ (F := F) .tc (pin (pcfgs (F := F)) adm 0).body ((pin (pcfgs (F := F)) adm 0).bodyArgs t ((pin (pcfgs (F := F)) adm 0).slots t))
      = .op .deviceId fun c => net.starts c ts (net.waits is) := by
    refine Eq.trans ?_ body_eq
    unfold defs₀; rw [Defs.onTc_tc]
  rw [h, wp_deviceId]

theorem ts_all : ∀ t, t ∈ ts
  | .inl l => by fin_cases l <;> simp [ts]
  | .inr k => by fin_cases k <;> simp [ts]
theorem is_all : ∀ i, i ∈ is
  | .inl l => by fin_cases l <;> simp [is]
  | .inr (.inl k) => by fin_cases k <;> simp [is]
  | .inr (.inr k) => by fin_cases k <;> simp [is]

theorem main_first (c : Dev nD) : main (F := F) c = .op (.customCall (entry 0) ()) fun _ => .ret PUnit.unit := main_chain c

set_option backward.isDefEq.respectTransparency.types false in
/-- The whole program: every device holds all the blocks, its own as launched, and every semaphore counter is zero. -/
theorem run_main (ρ : Dev nD → PrngReg) :
    θ_run (Pipeline.defs (pcfgs (F := F)) defs₀) (onTc main) ⟨m, fun _ => 0, ρ⟩ fun r =>
      (∀ c : Dev nD, r.2.mem ((c : Thread nD τ).loc main_v1) = got (sent m) c
        ∧ r.2.mem ((c : Thread nD τ).loc main_arg0) = m ((c : Thread nD τ).loc main_arg0)) ∧ r.2.sem = fun _ => 0 := by
  refine θ_run_exchange (pcfgs (F := F)) adm (data m) cellOf_inj 0 defs₀ Variants.none none0 noTable winFacts0.to₀ own0 N_0
    (pays (sent m) fun c => m ((c : Thread nD τ).loc main_v1)) (fun _ => rfl) ts (by decide) ts_all is (by decide) is_all
    starts_run m ρ main _ main_first (fun _ => ∅) (fun _ _ => (0 : ℕ)) (fun _ _ => rfl) (fun _ => iprop(emp))
    (fun c => StableHlo.held (c : Thread nD τ) (ucRefs τ sig) (last m c)) (launch_split m) (rest_run m)
    (fun c μ => μ.mem ((c : Thread nD τ).loc main_v1) = got (sent m) c
        ∧ μ.mem ((c : Thread nD τ).loc main_arg0) = m ((c : Thread nD τ).loc main_arg0))
    (fun c s' => ?_) fun _ h hz => ⟨h, funext fun g => hz g (.inr (no_unscoped g.2))⟩
  unfold StableHlo.held
  iintro ⟨Hh, HSI⟩
  ihave Hr := (pointsTo_read_all (ucRefs τ sig) (fun b => ((c : Thread nD τ).1, b)) (last m c) s') $$ [Hh HSI]
  · isplitl [Hh] <;> iassumption
  icases Hr with ⟨%h, HSI⟩
  imodintro
  isplitr
  · ipureintro
    have hr (r : Ref sig .tc) (hu : ¬ r.isScoped = true) := h (Proc.devRef .tc r) (Finset.mem_filter.mpr ⟨StableHlo.devRef_mem_tcRefs r, hu⟩)
    exact ⟨(hr main_v1 (by decide)).trans (last_v1 m c), (hr main_arg0 (by decide)).trans (last_arg0 m c)⟩
  · iexact HSI

end Cert.Weights

end
-- ==== Proof.GatherValue.lean ====
/- The gathered blocks are the reference's result on every device, at any float values. -/
module

public import proofs.«01_k».proof.Proof.GatherRun
public import proofs.«01_k».proof.Proof.Gen.GatherReferenceIdeal.Run
public import Idealize.ShloMosaic.Lib.Layout

@[expose] public section

set_option Elab.async false
set_option maxRecDepth 16384

noncomputable section

namespace Cert.Weights

open Idealize.ShloMosaic Idealize.ShloMosaic.TcCoe Idealize.ShloMosaic.ValueIdx Idealize.SL.Sem
open Cert.GatherReferenceIdeal Cert.GatherReferenceIdeal.Gen

variable {F : FTy → Type} [FloatOps F]

/-- The reference's result: the whole array, a block at a time. -/
def whole (v : Vec F S23232x1024 .bf16) : Vec F S8x2904x1024 .bf16 := shapeCast S8x2904x1024 v shapeCasts_S23232x1024_S8x2904x1024

/-- The row of the whole array that is row `r` of block `d`. -/
def rowOf (d : Fin 8) (r : Fin 2904) : Fin 23232 := ⟨d.val * 2904 + r.val, by omega⟩

theorem whole_apply (v : Vec F S23232x1024 .bf16) (d : Fin 8) (r : Fin 2904) (k : Fin 1024) :
    whole v (ix3 d r k) = v (ix2 (rowOf d r) k) := by
  unfold whole
  refine shapeCast_apply _ _ _ _ ?_
  rw [Shape.rowMajor_val_two, Shape.rowMajor_val_three]
  rfl

theorem argument_apply (d : Fin 8) (v : Vec F S23232x1024 .bf16) (r : Fin 2904) (k : Fin 1024) :
    Layout.block ⟨2, ![2904, 1024]⟩ ⟨2, ![23232, 1024]⟩ 0 8 d v (by decide) (ix2 r k) = v (ix2 (rowOf d r) k) := by
  rw [Layout.block_apply]
  refine congrArg v (funext fun b => Fin.ext ?_)
  rw [Layout.Tiles.idx_val]
  fin_cases b <;> rfl

/-- What every device holds is the reference's result. -/
theorem result_eq (A : (d : Fin 8) → Vec F Cert.GatherIdeal.S2904x1024 .bf16) (v : Vec F S23232x1024 .bf16)
    (hA : ∀ d : Fin 8, A d = Layout.block ⟨2, ![2904, 1024]⟩ ⟨2, ![23232, 1024]⟩ 0 8 d v (by decide)) (c : Fin 8) :
    got (F := F) A c = whole v := by
  funext i
  obtain ⟨d, r, k, rfl⟩ : ∃ (d : Fin 8) (r : Fin 2904) (k : Fin 1024), i = ix3 d r k := ⟨i 0, i 1, i 2, eq_ix3 i⟩
  rw [whole_apply]
  show A d (ix2 r k) = _
  rw [hA]
  exact argument_apply _ _ _ _

end Cert.Weights

end
-- ==== Proof.SmallNet.lean ====
/- The exchange of `gather_small` on the printed text: every device copies its whole block into its own result and into each
   of the others'; the body is the starts then the waits of that exchange. -/
module

public import proofs.«01_k».proof.Proof.Entry
public import proofs.«01_k».proof.Proof.Gen.SmallIdeal.Launch
public import proofs.«01_k».proof.Proof.Gen.SmallIdeal.Skeleton

@[expose] public section

set_option Elab.async false

noncomputable section

namespace Cert.SmallWeights

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.SmallIdeal Cert.SmallIdeal.Gen Cert.Xchg

/-- Device `c`'s peer of copy `k`. -/
def peer : Fin 7 → Dev nD → Dev nD
  | 0, c => ⟨k0_dev1 c, k0_dev1_lt c⟩ | 1, c => ⟨k0_dev2 c, k0_dev2_lt c⟩ | 2, c => ⟨k0_dev3 c, k0_dev3_lt c⟩
  | 3, c => ⟨k0_dev4 c, k0_dev4_lt c⟩ | 4, c => ⟨k0_dev5 c, k0_dev5_lt c⟩ | 5, c => ⟨k0_dev6 c, k0_dev6_lt c⟩
  | 6, c => ⟨k0_dev7 c, k0_dev7_lt c⟩

/-- Device `c`'s block of a result, as the text slices it out. -/
abbrev outAt (c : Dev nD) : Memref sig .tc .hbm S10x1024 .f32 :=
  ((Memref.whole main_v1).slice (Rect.unit (s := S8x10x1024) (k0_off1 c) S1x10x1024.size (k0_off1_inb c)) (fun _ => rfl)).squeeze S10x1024
    squeezes_S1x10x1024_S10x1024

/-- The counter of each cell. -/
def sem : Slot 1 7 → DmaSem sig
  | .inl _ => cc0_scratch2.sem
  | .inr (.inl k) => ((cc0_scratch0.slice (Rect.unit (s := S7) ![k.val] S1.size (by revert k; decide))).squeeze S_ squeezes_S1_S_).sem
  | .inr (.inr k) => ((cc0_scratch1.slice (Rect.unit (s := S7) ![k.val] S1.size (by revert k; decide))).squeeze S_ squeezes_S1_S_).sem

/-- The exchange. -/
def net : Net nD τ sig 1 7 where
  peer := peer
  peer_peer := by decide +kernel
  sem := sem
  sem_inj := by decide +kernel
  S := S10x1024
  e := .f32
  lsrc _ _ := Memref.whole main_arg0
  ldst _ c := outAt c
  src _ _ := Memref.whole main_arg0
  dst _ c := outAt c
  lsrc_we _ _ := (Memref.isWhole_whole main_arg0).wordExact
  ldst_we _ c := (View.wordExact_bits rfl).reshape _ _
  src_we _ _ := (Memref.isWhole_whole main_arg0).wordExact
  dst_we _ c := (View.wordExact_bits rfl).reshape _ _
  dst_sc _ _ := rfl
  wb
    | .inl _ => main_v1
    | .inr (.inl _) => main_arg0
    | .inr (.inr _) => main_v1
  wb_has
    | .inl _ => (outAt 0).hasMemref
    | .inr (.inl _) => (Memref.whole main_arg0).hasMemref
    | .inr (.inr _) => (outAt 0).hasMemref
  N := main_v1.dmaCredit S10x1024 .f32
  N_pos := by decide +kernel
  ldst_N _ _ := rfl
  dst_N _ _ := rfl
  wb_N i := by rcases i with _ | _ | _ <;> rfl

/-- The order the transfers start in. -/
def ts : List (Fin 1 ⊕ Fin 7) := [.inl 0, .inr 0, .inr 1, .inr 2, .inr 3, .inr 4, .inr 5, .inr 6]
/-- The order the waits run in. -/
def is : List (Slot 1 7) := [.inr (.inr 0), .inr (.inr 1), .inr (.inr 2), .inr (.inr 3), .inr (.inr 4), .inr (.inr 5), .inr (.inr 6),
  .inr (.inl 0), .inr (.inl 1), .inr (.inl 2), .inr (.inl 3), .inr (.inl 4), .inr (.inl 5), .inr (.inl 6), .inl 0]

variable {F : FTy → Type} [FloatOps F]

set_option maxRecDepth 65536 in
/-- The body reads the device's number, starts the transfers and waits for them. -/
theorem body_eq : cc0_gather_small (F := F) (Memref.whole main_arg0) (Memref.isWhole_whole _) (Memref.whole main_v1) (Memref.isWhole_whole _)
      cc0_scratch0 cc0_scratch1 cc0_scratch2
    = .op .deviceId fun c => net.starts c ts (net.waits is) := rfl

end Cert.SmallWeights

end
-- ==== Proof.SmallGathered.lean ====
/- What the exchange of `gather_small` moves: a device's block read at eight shares, a result cut into the blocks its
   transfers fill, and what each transfer leaves. -/
module

public import proofs.«01_k».proof.Proof.SmallNet
public import proofs.«01_k».proof.Proof.Rows
public import Idealize.ShloMosaic.Lib.ValueLayout
public import Idealize.ShloMosaic.Lib.Transfers

@[expose] public section

set_option Elab.async false

noncomputable section

namespace Cert.SmallWeights

open Idealize.ShloMosaic Idealize.ShloMosaic.TcCoe Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.SmallIdeal Cert.SmallIdeal.Gen Cert.Xchg Cert.Rows

variable {F : FTy → Type} [FloatOps F]

local notation "𝕄" => MT nD τ sig Unit (Elt F) ℕ (Entry.UU sig nD τ) ℕ

/-! ## The blocks -/

theorem off_self (c : Dev nD) : k0_off1 c = ![c.val, 0, 0] := by revert c; decide +kernel

theorem out_set (j : Dev nD) : (outAt j).view.set = (row (n := 8) (R := 10) (C := 1024) j : Finset S8x10x1024.Idx) :=
  (View.set_reshape _ _).trans ((View.set_slice_whole main_v1 _).trans (rect_set j (k0_off1 j) (k0_off1_inb j) (off_self j)))
theorem arg_set : (Memref.whole main_arg0).view.set = (Finset.univ : Finset S10x1024.Idx) := View.set_whole main_arg0

/-- The share a device's own copy reads its block at, and those its remote copies do. -/
abbrev qOwn : Fin 1 → PosShare TreeShare := fun _ => shareDrop fullShare 7
abbrev qAway : Fin 7 → PosShare TreeShare := fun k => shareTok fullShare 7 k

/-- A device's argument at a share. -/
def argAt (c : Dev nD) (q : PosShare TreeShare) (f : Buf (Elt F) ((c : Thread nD τ).loc main_arg0)) : sProp 𝕄 :=
  (c : Thread nD τ).loc main_arg0 ↦[(Finset.univ : Finset S10x1024.Idx)]{q} f
/-- One block of a device's result. -/
def outRow (c j : Dev nD) (f : Buf (Elt F) ((c : Thread nD τ).loc main_v1)) : sProp 𝕄 :=
  (c : Thread nD τ).loc main_v1 ↦[(row (n := 8) (R := 10) (C := 1024) j : Finset S8x10x1024.Idx)]{fullShare} f

theorem arg_shares (c : Dev nD) (f : Buf (Elt F) ((c : Thread nD τ).loc main_arg0)) :
    ((c : Thread nD τ).loc main_arg0 ↦{fullShare} f : sProp 𝕄) = iprop(argAt c (qOwn 0) f ∗ bigSep Finset.univ fun k => argAt c (qAway k) f) := by
  have h := pointsTo_toks (ℓ := (c : Thread nD τ).loc main_arg0) (S := Finset.univ) (f := f) (Ix := Unit) (Name := ℕ)
    (U := Entry.UU sig nD τ) (Lvl := ℕ) fullShare 7
  exact BI.equiv_iff.mp ⟨h.1, h.2⟩

theorem out_rows (c : Dev nD) (f : Buf (Elt F) ((c : Thread nD τ).loc main_v1)) :
    ((c : Thread nD τ).loc main_v1 ↦{fullShare} f : sProp 𝕄) = bigSep Finset.univ fun j : Dev nD => outRow c j f := by
  have h := pointsTo_biUnion (ℓ := (c : Thread nD τ).loc main_v1) (q := fullShare) (f := f) (Ix := Unit) (Name := ℕ) (U := Entry.UU sig nD τ) (Lvl := ℕ)
    (Finset.univ : Finset (Dev nD)) (fun j => (row (n := 8) (R := 10) (C := 1024) j : Finset S8x10x1024.Idx)) (fun j _ j' _ hj => row_disjoint j j' hj)
  refine Eq.trans ?_ h
  rw [show ((Finset.univ : Finset (Dev nD)).biUnion fun j => (row (n := 8) (R := 10) (C := 1024) j : Finset S8x10x1024.Idx)) = Finset.univ from rows_univ]

/-! ## What is where -/

theorem turn_inj (c : Dev nD) : Function.Injective (turn net.peer c) := by revert c; decide +kernel

/-- The gathered array: its block `j` is what device `j` sent. -/
def all (A : (c : Dev nD) → Buf (Elt F) ((c : Thread nD τ).loc main_arg0)) : S8x10x1024.Idx → Elt F .f32 :=
  fun i => (A (i 0) : S10x1024.Idx → Elt F .f32) (ix2 (i 1) (i 2))
def got (A : (c : Dev nD) → Buf (Elt F) ((c : Thread nD τ).loc main_arg0)) (c : Dev nD) : Buf (Elt F) ((c : Thread nD τ).loc main_v1) := all A

variable (A : (c : Dev nD) → Buf (Elt F) ((c : Thread nD τ).loc main_arg0)) (B : (c : Dev nD) → Buf (Elt F) ((c : Thread nD τ).loc main_v1))

/-- What each wait hands back. -/
def pay (c : Dev nD) : Slot 1 7 → sProp 𝕄
  | .inl l => iprop(outRow c c (got A c) ∗ argAt c (qOwn l) (A c))
  | .inr (.inl k) => argAt c (qAway k) (A c)
  | .inr (.inr k) => outRow c (net.peer k c) (got A c)

instance pay_storable (c : Dev nD) (i : Slot 1 7) : BI.Storable (upEmb : UEmb _ 𝕄) (pay A c i) := by
  rcases i with _ | _ | _ <;> unfold pay <;> (try unfold argAt) <;> (try unfold outRow) <;> infer_instance

/-- Where an element of a block lies in the result. -/
theorem emb_eq (j : Dev nD) (r : Fin 10) (k : Fin 1024) :
    (Rect.unit (s := S8x10x1024) (k0_off1 j) S1x10x1024.size (k0_off1_inb j)).emb
      (ix3 (⟨0, Nat.one_pos⟩ : Fin 1) r k) = (ix3 j r k : S8x10x1024.Idx) := by
  funext b
  refine Fin.ext ?_
  have h := off_self j
  fin_cases b
  · show k0_off1 j 0 + 1 * 0 = j.val
    rw [h]; rfl
  · show k0_off1 j 1 + 1 * r.val = r.val
    rw [h]; show 0 + 1 * r.val = r.val; omega
  · show k0_off1 j 2 + 1 * k.val = k.val
    rw [h]; show 0 + 1 * k.val = k.val; omega

/-- A block of the gathered array is what its device sent. -/
theorem block_read (c j : Dev nD) :
    (outAt j).view.read (Elt F) (got A c) = (Memref.whole main_arg0).view.read (Elt F) (A j) := by
  funext x
  obtain ⟨r, k, rfl⟩ : ∃ (r : Fin 10) (k : Fin 1024), x = ix2 r k := ⟨x 0, x 1, eq_ix2 x⟩
  have h1 : (outAt j).view.read (Elt F) (got A c) (ix2 r k)
      = all A ((Rect.unit (s := S8x10x1024) (k0_off1 j) S1x10x1024.size (k0_off1_inb j)).emb
          (Shape.reshapeEquiv (squeezes_S1x10x1024_S10x1024.numel_eq) (ix2 r k))) := rfl
  refine h1.trans ?_
  rw [reshapeEquiv_ix2_1ab, emb_eq]
  rfl

/-- What the transfer of device `j`'s block into device `c`'s result leaves. -/
theorem landed (c j : Dev nD) (g : Buf (Elt F) ((c : Thread nD τ).loc main_v1)) :
    (((outAt j).view.loc (c : Thread nD τ) ↦[(outAt j).view.set]{fullShare}
      ((outAt j).view.write (Elt F) g ((Memref.whole main_arg0).view.read (Elt F) (A j)) Finset.univ)) : sProp 𝕄)
    = outRow c j (got A c) := by
  rw [pointsTo_congr (g := got A c)]
  · unfold outRow
    rw [out_set j]
  · exact write_of_read (outAt j).view (got A c) g _ (block_read A c j)

theorem pays : Pays net (pay A) qOwn qAway (fun _ c => A c) (fun _ c => B c) (fun _ c => A c)
    (fun k c => B (net.peer k c)) where
  loc c l := by
    refine sep_mono (Entails.of_eq (landed A c c _)) (Entails.of_eq ?_)
    unfold argAt
    exact congrArg (fun s => ((c : Thread nD τ).loc main_arg0 ↦[s]{qOwn l} A c : sProp 𝕄)) arg_set
  snd c k := by
    refine Entails.of_eq ?_
    exact congrArg (fun s => ((c : Thread nD τ).loc main_arg0 ↦[s]{qAway k} A c : sProp 𝕄)) arg_set
  rcv c k := by
    refine Entails.of_eq ?_
    refine (landed A (net.peer k c) c _).trans ?_
    show _ = outRow (net.peer k c) (net.peer k (net.peer k c)) (got A (net.peer k c))
    rw [net.peer_peer]

/-- The blocks of one device's transfers, named. -/
theorem blocks_eq (c : Dev nD) : blocks net qOwn qAway (fun _ c => A c) (fun _ c => B c) (fun _ c => A c)
      (fun k c => B (net.peer k c)) c
    = (iprop((argAt c (qOwn 0) (A c) ∗ outRow c c (B c)) ∗ bigSep Finset.univ fun k => iprop(argAt c (qAway k) (A c)
      ∗ outRow (net.peer k c) c (B (net.peer k c)))) : sProp 𝕄) := by
  unfold blocks
  rw [BI.bigSep_univ_of_subsingleton (0 : Fin 1)]
  refine congrArg₂ BIBase.sep (congrArg₂ BIBase.sep ?_ ?_) (congrArg _ (funext fun k => congrArg₂ BIBase.sep ?_ ?_))
  · exact congrArg (fun s => ((c : Thread nD τ).loc main_arg0 ↦[s]{qOwn 0} A c : sProp 𝕄)) arg_set
  · exact congrArg (fun s => ((c : Thread nD τ).loc main_v1 ↦[s]{fullShare} B c : sProp 𝕄)) (out_set c)
  · exact congrArg (fun s => ((c : Thread nD τ).loc main_arg0 ↦[s]{qAway k} A c : sProp 𝕄)) arg_set
  · exact congrArg (fun s => (((net.peer k c : Dev nD) : Thread nD τ).loc main_v1 ↦[s]{fullShare} B (net.peer k c) : sProp 𝕄)) (out_set c)

/-- The two arrays of all the devices, whole, are the blocks of all the transfers. -/
theorem blocks_all : (bigSep Finset.univ fun c : Dev nD => blocks net qOwn qAway (fun _ c => A c)
      (fun _ c => B c) (fun _ c => A c) (fun k c => B (net.peer k c)) c)
    = (bigSep Finset.univ fun c : Dev nD => iprop(((c : Thread nD τ).loc main_arg0 ↦{fullShare} A c)
      ∗ ((c : Thread nD τ).loc main_v1 ↦{fullShare} B c)) : sProp 𝕄) := by
  have e : (fun c : Dev nD => (iprop(((c : Thread nD τ).loc main_arg0 ↦{fullShare} A c) ∗ ((c : Thread nD τ).loc main_v1 ↦{fullShare} B c)) : sProp 𝕄))
      = fun c => iprop((argAt c (qOwn 0) (A c) ∗ bigSep Finset.univ fun k => argAt c (qAway k) (A c))
        ∗ (outRow c c (B c) ∗ bigSep Finset.univ fun k => outRow c (net.peer k c) (B c))) := funext fun c => by
    rw [arg_shares, out_rows, by_turn net.peer (turn_inj c) rfl fun j => outRow c j (B c)]
  rw [e]
  simp only [blocks_eq, bigSep_sep']
  rw [← across net.peer net.peer_peer fun c j => outRow c j (B c)]
  have swap (P Q R S : sProp 𝕄) : iprop((P ∗ Q) ∗ R ∗ S) ⊢ iprop((P ∗ R) ∗ Q ∗ S) := by
    iintro ⟨⟨H1, H2⟩, H3, H4⟩
    isplitl [H1 H3]
    · isplitl [H1]; · iexact H1
      iexact H3
    isplitl [H2]; · iexact H2
    iexact H4
  exact BI.equiv_iff.mp ⟨swap _ _ _ _, swap _ _ _ _⟩

/-- What the waits hand back is the two arrays whole again. -/
theorem pays_all (c : Dev nD) : (bigSep Finset.univ fun i => pay A c i)
    ⊢ (iprop(((c : Thread nD τ).loc main_arg0 ↦{fullShare} A c) ∗ ((c : Thread nD τ).loc main_v1 ↦{fullShare} got A c)) : sProp 𝕄) := by
  rw [arg_shares, out_rows, by_turn net.peer (turn_inj c) rfl fun j => outRow c j (got A c)]
  rw [BI.bigSep_univ_sum, BI.bigSep_univ_sum, BI.bigSep_univ_of_subsingleton (0 : Fin 1)]
  show iprop((outRow c c (got A c) ∗ argAt c (qOwn 0) (A c)) ∗ (bigSep Finset.univ fun k => argAt c (qAway k) (A c))
    ∗ bigSep Finset.univ fun k => outRow c (net.peer k c) (got A c)) ⊢ _
  iintro ⟨⟨Ho, Ha⟩, Hs, Hr⟩
  isplitl [Ha Hs]
  · isplitl [Ha]; · iexact Ha
    iexact Hs
  isplitl [Ho]; · iexact Ho
  iexact Hr

end Cert.SmallWeights

end
-- ==== Proof.SmallRun.lean ====
/- The whole program of `gather_small` at any float values: every device's result is all the devices' blocks, its argument
   is unchanged and every semaphore counter is back at zero. -/
module

public import proofs.«01_k».proof.Proof.SmallGathered

@[expose] public section

set_option Elab.async false

noncomputable section

namespace Cert.SmallWeights

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.SmallIdeal Cert.SmallIdeal.Gen Cert.Xchg Cert.Entry

variable {F : FTy → Type} [FloatOps F]

local notation "𝕄" => MT nD τ sig Unit (Elt F) ℕ (Entry.UU sig nD τ) ℕ

/-- The buffers the host knows, one by one. -/
theorem known (c : Dev nD) (V : (b : Ref sig .tc) → Buf (Elt F) ((c : Thread nD τ).loc b)) :
    (unscopedBufs c V : sProp 𝕄) = iprop((((c : Thread nD τ).loc main_arg0) ↦{fullShare} V main_arg0)
      ∗ (((c : Thread nD τ).loc main_v1) ↦{fullShare} V main_v1)) :=
  bigSep_eq_bigSepL_of_eq [main_arg0, main_v1] (by decide) (by decide) _

variable (m : (ℓ : Loc nD τ sig) → Buf (Elt F) ℓ)

/-- The devices' blocks as launched. -/
abbrev sent (c : Dev nD) : Buf (Elt F) ((c : Thread nD τ).loc main_arg0) := m ((c : Thread nD τ).loc main_arg0)

/-- What is where at the end. -/
def last (c : Dev nD) : Valuation τ sig (Elt F) := Function.update (fun b => m (c, b)) (Proc.devRef .tc main_v1) (got (sent m) c)

theorem last_v1 (c : Dev nD) : last m c (Proc.devRef .tc main_v1) = got (sent m) c := Function.update_self _ _ _
theorem last_arg0 (c : Dev nD) : last m c (Proc.devRef .tc main_arg0) = m ((c : Thread nD τ).loc main_arg0) :=
  Function.update_of_ne (StableHlo.devRef_ne_of_ne (by decide)) _ _

/-- No region has a table, and every counter is scoped. -/
abbrev adm : (p : Fin 1) → (pcfgs (F := F) p).Adm := fun p => (cfgs p).toPCfg_adm
theorem no_unscoped : ∀ sm : SemLoc sig, sm.isScoped .tc = true := by decide

theorem none0 : IsEmpty (Fin (pin (pcfgs (F := F)) adm 0).W) := inferInstanceAs (IsEmpty (Fin 0))
theorem noTable : IsEmpty (Fin ((pcfgs (F := F)) 0).pre.K) := inferInstanceAs (IsEmpty (Fin 0))

/-- The proof data of the region. -/
def data (p : Fin 1) (c : Dev nD) : Dat τ (Elt F) Unit ℕ (Entry.UU sig nD τ) ℕ (pin (pcfgs (F := F)) adm p) c :=
  match p with
  | ⟨0, _⟩ => Entry.dat net (pay (sent m)) qOwn qAway (fun _ c => sent m c)
      (fun _ c => m ((c : Thread nD τ).loc main_v1)) (fun _ c => sent m c) (fun k c => m ((net.peer k c : Thread nD τ).loc main_v1))
      (pin (pcfgs (F := F)) adm 0) none0 c

theorem launch_split : (bigSep Finset.univ fun c : Dev nD => unscopedBufs c (fun b => m ((c.tc : Thread nD τ).loc b)))
    ⊢ (bigSep Finset.univ fun c : Dev nD => iprop(blocks net qOwn qAway (fun _ c => sent m c)
      (fun _ c => m ((c : Thread nD τ).loc main_v1)) (fun _ c => sent m c) (fun k c => m ((net.peer k c : Thread nD τ).loc main_v1)) c
      ∗ iprop(emp)) : sProp 𝕄) := by
  rw [bigSep_sep', blocks_all (sent m) (fun c => m ((c : Thread nD τ).loc main_v1)), ← bigSep_sep']
  refine bigSep_mono fun c _ => ?_
  have h : (unscopedBufs c (fun b => m ((c.tc : Thread nD τ).loc b)) : sProp 𝕄)
      ⊢ iprop(((((c : Thread nD τ).loc main_arg0) ↦{fullShare} sent m c) ∗ (((c : Thread nD τ).loc main_v1) ↦{fullShare} m ((c : Thread nD τ).loc main_v1)))
        ∗ iprop(emp)) := ?_
  · exact h
  rw [known]
  iintro H
  isplitl [H]; · iexact H
  iempintro

theorem after_exchange (c : Dev nD) : (bigSep Finset.univ fun i => pay (sent m) c i)
    ⊢ (StableHlo.held (c : Thread nD τ) (ucRefs τ sig) (last m c) : sProp 𝕄) := by
  have h := pays_all (sent m) c
  rw [← unscopedBufs_held, known]
  rw [last_v1, last_arg0]
  exact h

theorem rest_run (c : Dev nD) : iprop(boundary (c.tc : Thread nD τ) ∗ (iprop(emp) ∗ bigSep Finset.univ fun i => pay (sent m) c i)
      ∗ (∃ W, owes (c.tc : Thread nD τ) (0 : CellTallies nD τ sig Unit) W) ∗ levAts (fun _ => ∅) (fun _ _ => (0 : ℕ)) ∗ Entry.others (pcfgs (F := F)) adm 0 c)
    ⊢ wp frame (wpE (Pipeline.defs (pcfgs (F := F)) defs₀) (Variants.lift Variants.none) (c.tc : Thread nD τ) none) Set.univ
        (Prog.ret PUnit.unit)
        (fun _ => iprop(StableHlo.held (c : Thread nD τ) (ucRefs τ sig) (last m c) ∗ boundary (c.tc : Thread nD τ)
          ∗ ∃ W, owes (c.tc : Thread nD τ) (0 : CellTallies nD τ sig Unit) W)) := by
  rw [wp_ret]
  refine .trans ?_ fupd_intro
  have ha := after_exchange m c
  iintro ⟨Hb, ⟨-, HZ⟩, HO, -, -⟩
  ihave Hh := ha $$ HZ
  isplitl [Hh]; · iexact Hh
  isplitl [Hb]; · iexact Hb
  iexact HO

theorem own0 : OwnSemFacts ((pcfgs (F := F)) 0).spec (osem net) :=
  show OwnSemFacts (cfg0.spec) (osem net) from by decide +kernel

theorem starts_run (t : Fin (pin (pcfgs (F := F)) adm 0).N) (c : Dev nD) (Q : sProp 𝕄) :
    wp frame (wpE defs₀ Variants.none (c : Thread nD τ) none) Set.univ (net.starts c ts (net.waits is)) (fun _ => Q)
      ⊢ wp frame (wpE defs₀ Variants.none (c : Thread nD τ) none) Set.univ
        (defs₀ (F := F) .tc (pin (pcfgs (F := F)) adm 0).body ((pin (pcfgs (F := F)) adm 0).bodyArgs t ((pin (pcfgs (F := F)) adm 0).slots t))) (fun _ => Q) := by
  have h : defs₀ (F := F) .tc (pin (pcfgs (F := F)) adm 0).body ((pin (pcfgs (F := F)) adm 0).bodyArgs t ((pin (pcfgs (F := F)) adm 0).slots t))
      = .op .deviceId fun c => net.starts c ts (net.waits is) := by
    refine Eq.trans ?_ body_eq
    unfold defs₀; rw [Defs.onTc_tc]
  rw [h, wp_deviceId]

theorem ts_all : ∀ t, t ∈ ts
  | .inl l => by fin_cases l <;> simp [ts]
  | .inr k => by fin_cases k <;> simp [ts]
theorem is_all : ∀ i, i ∈ is
  | .inl l => by fin_cases l <;> simp [is]
  | .inr (.inl k) => by fin_cases k <;> simp [is]
  | .inr (.inr k) => by fin_cases k <;> simp [is]

theorem main_first (c : Dev nD) : main (F := F) c = .op (.customCall (entry 0) ()) fun _ => .ret PUnit.unit := main_chain c

set_option backward.isDefEq.respectTransparency.types false in
/-- The whole program: every device holds all the blocks, its own as launched, and every semaphore counter is zero. -/
theorem run_main (ρ : Dev nD → PrngReg) :
    θ_run (Pipeline.defs (pcfgs (F := F)) defs₀) (onTc main) ⟨m, fun _ => 0, ρ⟩ fun r =>
      (∀ c : Dev nD, r.2.mem ((c : Thread nD τ).loc main_v1) = got (sent m) c
        ∧ r.2.mem ((c : Thread nD τ).loc main_arg0) = m ((c : Thread nD τ).loc main_arg0)) ∧ r.2.sem = fun _ => 0 := by
  refine θ_run_exchange (pcfgs (F := F)) adm (data m) cellOf_inj 0 defs₀ Variants.none none0 noTable winFacts0.to₀ own0 N_0
    (pays (sent m) fun c => m ((c : Thread nD τ).loc main_v1)) (fun _ => rfl) ts (by decide) ts_all is (by decide) is_all
    starts_run m ρ main _ main_first (fun _ => ∅) (fun _ _ => (0 : ℕ)) (fun _ _ => rfl) (fun _ => iprop(emp))
    (fun c => StableHlo.held (c : Thread nD τ) (ucRefs τ sig) (last m c)) (launch_split m) (rest_run m)
    (fun c μ => μ.mem ((c : Thread nD τ).loc main_v1) = got (sent m) c
        ∧ μ.mem ((c : Thread nD τ).loc main_arg0) = m ((c : Thread nD τ).loc main_arg0))
    (fun c s' => ?_) fun _ h hz => ⟨h, funext fun g => hz g (.inr (no_unscoped g.2))⟩
  unfold StableHlo.held
  iintro ⟨Hh, HSI⟩
  ihave Hr := (pointsTo_read_all (ucRefs τ sig) (fun b => ((c : Thread nD τ).1, b)) (last m c) s') $$ [Hh HSI]
  · isplitl [Hh] <;> iassumption
  icases Hr with ⟨%h, HSI⟩
  imodintro
  isplitr
  · ipureintro
    have hr (r : Ref sig .tc) (hu : ¬ r.isScoped = true) := h (Proc.devRef .tc r) (Finset.mem_filter.mpr ⟨StableHlo.devRef_mem_tcRefs r, hu⟩)
    exact ⟨(hr main_v1 (by decide)).trans (last_v1 m c), (hr main_arg0 (by decide)).trans (last_arg0 m c)⟩
  · iexact HSI

end Cert.SmallWeights

end
-- ==== Proof.SmallValue.lean ====
/- The gathered blocks are the reference's result on every device, at any float values. -/
module

public import proofs.«01_k».proof.Proof.SmallRun
public import proofs.«01_k».proof.Proof.Gen.SmallReferenceIdeal.Run
public import Idealize.ShloMosaic.Lib.Layout

@[expose] public section

set_option Elab.async false
set_option maxRecDepth 16384

noncomputable section

namespace Cert.SmallWeights

open Idealize.ShloMosaic Idealize.ShloMosaic.TcCoe Idealize.ShloMosaic.ValueIdx Idealize.SL.Sem
open Cert.SmallReferenceIdeal Cert.SmallReferenceIdeal.Gen

variable {F : FTy → Type} [FloatOps F]

/-- The reference's result: the whole array, a block at a time. -/
def whole (v : Vec F S80x1024 .f32) : Vec F S8x10x1024 .f32 := shapeCast S8x10x1024 v shapeCasts_S80x1024_S8x10x1024

/-- The row of the whole array that is row `r` of block `d`. -/
def rowOf (d : Fin 8) (r : Fin 10) : Fin 80 := ⟨d.val * 10 + r.val, by omega⟩

theorem whole_apply (v : Vec F S80x1024 .f32) (d : Fin 8) (r : Fin 10) (k : Fin 1024) :
    whole v (ix3 d r k) = v (ix2 (rowOf d r) k) := by
  unfold whole
  refine shapeCast_apply _ _ _ _ ?_
  rw [Shape.rowMajor_val_two, Shape.rowMajor_val_three]
  rfl

theorem argument_apply (d : Fin 8) (v : Vec F S80x1024 .f32) (r : Fin 10) (k : Fin 1024) :
    Layout.block ⟨2, ![10, 1024]⟩ ⟨2, ![80, 1024]⟩ 0 8 d v (by decide) (ix2 r k) = v (ix2 (rowOf d r) k) := by
  rw [Layout.block_apply]
  refine congrArg v (funext fun b => Fin.ext ?_)
  rw [Layout.Tiles.idx_val]
  fin_cases b <;> rfl

/-- What every device holds is the reference's result. -/
theorem result_eq (A : (d : Fin 8) → Vec F Cert.SmallIdeal.S10x1024 .f32) (v : Vec F S80x1024 .f32)
    (hA : ∀ d : Fin 8, A d = Layout.block ⟨2, ![10, 1024]⟩ ⟨2, ![80, 1024]⟩ 0 8 d v (by decide)) (c : Fin 8) :
    got (F := F) A c = whole v := by
  funext i
  obtain ⟨d, r, k, rfl⟩ : ∃ (d : Fin 8) (r : Fin 10) (k : Fin 1024), i = ix3 d r k := ⟨i 0, i 1, i 2, eq_ix3 i⟩
  rw [whole_apply]
  show A d (ix2 r k) = _
  rw [hA]
  exact argument_apply _ _ _ _

end Cert.SmallWeights

end
-- ==== Proof.GradXValue.lean ====
/- The gradient of the input, the last product of the backward pass: what `proj_dx0` leaves in its result, element by element,
   is the reference's product and sum over the extended reals. -/
module

public import proofs.«01_k».proof.Proof.Gen.GradXIdeal.Value
public import proofs.«01_k».proof.Proof.Gen.GradXReferenceIdeal.Run
public import Idealize.ShloMosaic.Lib.Pointwise
public import Idealize.ShloMosaic.Lib.Pipeline.ValueKit

@[expose] public section

set_option Elab.async false
set_option maxRecDepth 16384

noncomputable section

namespace Cert.InputGrad

open Idealize.ShloMosaic Idealize.ShloMosaic.TcCoe Idealize.ShloMosaic.Tactic Idealize.SL.Sem
open Idealize.ShloMosaic.Pipeline
open Cert.GradXIdeal Cert.GradXIdeal.Gen

/-- The gradient: the rows of `p` times the rows of `w`, added to `d`. -/
def grad (p d : Vec Ideal S8192x1024 .f32) (w : Vec Ideal S1024x1024 .bf16) : Vec Ideal S8192x1024 .f32 :=
  fun i => (∑ j : Fin 1024, (p (ix2 (i 0) j) : EReal) * w (ix2 (i 1) j)) + d i

/-- One element of a tile. -/
theorem tile_apply (p d : Vec Ideal S512x1024 .f32) (w : Vec Ideal S1024x1024 .bf16) (r : Fin 512) (k : Fin 1024) :
    k0_pay1 (F := Ideal) p w d (ix2 r k) = (∑ j : Fin 1024, (p (ix2 r j) : EReal) * w (ix2 k j)) + d (ix2 r k) := by
  pointwise [k0_pay1]

variable (m : (ℓ : Loc nD τ sig) → Buf (Elt Ideal) ℓ)

theorem left_eq (c : Dev nD) (t : Fin cfg0.N) : outsAt0 m c t = k0_pay1 (iblk m c 0 t) (iblk m c 1 t) (iblk m c 2 t) := by
  unfold outsAt0
  frame_out

theorem final (c : Dev nD) : (dats m 0 c).arrAt 3 cfg0.N
    = grad (m ((c : Thread nD τ).loc main_arg0)) (m ((c : Thread nD τ).loc main_arg2)) (m ((c : Thread nD τ).loc main_arg1)) := by
  refine (dats m 0 c).arrAt_eq_of_covers 3 _ (by decide +kernel) fun t hf y => ?_
  blk_simp
  rw [after0_3, left_eq]
  obtain ⟨r, k, rfl⟩ : ∃ (r : Fin 512) (k : Fin 1024), y = ix2 r k := ⟨y 0, y 1, eq_ix2 y⟩
  refine (tile_apply _ _ _ r k).trans ?_
  have hi : ∀ t : Fin cfg0.N, win0_3.index t 0 = t.val ∧ win0_3.index t 1 = 0 := by decide +kernel
  have h0 : ∀ t : Fin cfg0.N, win0_0.index t 0 = t.val ∧ win0_0.index t 1 = 0 := by decide +kernel
  have h1 : ∀ t : Fin cfg0.N, win0_1.index t 0 = 0 ∧ win0_1.index t 1 = 0 := by decide +kernel
  have h2 : ∀ t : Fin cfg0.N, win0_2.index t 0 = t.val ∧ win0_2.index t 1 = 0 := by decide +kernel
  have ht : t.val < 16 := lt_of_lt_of_eq t.isLt N_0
  have hr : t.val * 512 + r.val < 8192 := by have := r.isLt; omega
  have e : ((win0_3.blk t).view.emb (ix2 r k) : S8192x1024.Idx) = ix2 ⟨t.val * 512 + r.val, hr⟩ k := by
    blk_ext [(hi t).1, (hi t).2]
  have ep (j : Fin 1024) : iblk m c 0 t (ix2 r j) = m ((c : Thread nD τ).loc main_arg0) (ix2 ⟨t.val * 512 + r.val, hr⟩ j) := by
    blk_ext [iblk, (h0 t).1, (h0 t).2]
  have ew (j : Fin 1024) : iblk m c 1 t (ix2 k j) = m ((c : Thread nD τ).loc main_arg1) (ix2 k j) := by
    blk_ext [iblk, (h1 t).1, (h1 t).2]
  have ed : iblk m c 2 t (ix2 r k) = m ((c : Thread nD τ).loc main_arg2) (ix2 ⟨t.val * 512 + r.val, hr⟩ k) := by
    blk_ext [iblk, (h2 t).1, (h2 t).2]
  refine Eq.trans ?_ (congrArg (grad _ _ _) e).symm
  rw [ed]
  exact congrArg (fun s : EReal => s + _) (Finset.sum_congr (M := EReal) rfl fun j _ => congrArg₂ (fun a b : EReal => a * b) (ep j) (ew j))

/-- The reference's result is the same. -/
theorem reference_eq (p d : FVec Ideal Cert.GradXReferenceIdeal.S8192x1024 .f32) (w : FVec Ideal Cert.GradXReferenceIdeal.S1024x1024 .bf16) :
    addf d (Host.dotGeneral (F := Ideal) Cert.GradXReferenceIdeal.dot_S8192x1024_S1024x1024_S8192x1024_1_0_0_1_n_n none p
      (transpose Cert.GradXReferenceIdeal.S1024x1024 [1, 0] (extf .f32 w Cert.GradXReferenceIdeal.Gen.bitsLt_bf16_f32)
        Cert.GradXReferenceIdeal.Gen.transposes_S1024x1024_S1024x1024_1_0)) = (grad p d w : FVec Ideal Cert.GradXReferenceIdeal.S8192x1024 .f32) := by
  funext i
  obtain ⟨r, k, rfl⟩ : ∃ (r : Fin 8192) (k : Fin 1024), i = ix2 r k := ⟨i 0, i 1, eq_ix2 i⟩
  unfold grad
  pointwise
  exact add_comm (G := EReal) _ _

end Cert.InputGrad

end
-- ==== Proof.LossStep.lean ====
/- The region of `final_ln_loss` on one device: what its body leaves at a grid point, the proof data of its pipeline, and the
   region as a segment of the host program, entered while the device owes what the sum over the devices will collect. -/
module

public import proofs.«01_k».proof.Proof.Gen.LossIdeal.Launch
public import proofs.«01_k».proof.Proof.Gen.LossIdeal.Skeleton
public import proofs.«01_k».proof.Proof.Gen.LossIdeal.Points
public import Idealize.ShloMosaic.Lib.Pipeline.FrameBody
public import Idealize.ShloMosaic.Lib.Pipeline.TableIdle
public import Idealize.ShloMosaic.Lib.Pipeline.RegionArraysS
public import Idealize.ShloMosaic.Lib.Pipeline.ValueKit
public import Idealize.ShloMosaic.Lib.Tactic

@[expose] public section

set_option Elab.async false
set_option maxRecDepth 16384

noncomputable section

namespace Cert.FinalLoss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.LossIdeal Cert.LossIdeal.Gen

variable {F : FTy → Type} [FloatOps F]

abbrev UU : Type := UR sig nD τ × Sites.UC

local notation "𝕄" => MT nD τ sig ℕ (Elt F) ℕ UU ℕ

/-! ## What the body leaves -/

abbrev tile : Rect S256x1024 := Rect.unit (s := S256x1024) ![0, 0] S256x1024.size inb_S256x1024_S256x1024_0_0
abbrev row : Rect S1x1024 := Rect.unit (s := S1x1024) ![0, 0] S1x1024.size inb_S1x1024_S1x1024_0_0
abbrev lane : Rect S1x128 := Rect.unit (s := S1x128) ![0, 0] S1x128.size inb_S1x128_S1x128_0_0

section Left
variable (x r t : Vec F S256x1024 .f32) (g b : Vec F S1x1024 .f32)

/-- The rows less their means, -/
def centred : FVec F S256x1024 .f32 := k0_pay5 (View.ld x tile) (View.ld r tile)
/-- the normalized rows less their targets, -/
def diff : FVec F S256x1024 .f32 := k0_pay6 (View.ld x tile) (View.ld r tile) (View.ld t tile) (View.ld g row) (View.ld b row)
/-- what the tile adds to the loss, -/
def lossOf' : FVec F S1x128 .f32 :=
  k0_pay8 (k0_pay7 (View.ld x tile) (View.ld r tile) (View.ld t tile) (View.ld g row) (View.ld b row)) (Scalar.ofBits .f32 0x44800000#32)
/-- and to the two sums over the rows; -/
def gOf : FVec F S1x1024 .f32 := k0_pay14 (centred x r) (diff x r t g b)
def bOf : FVec F S1x1024 .f32 := k0_pay15 (diff x r t g b)
/-- the tile's own two results. -/
def dx : FVec F S256x1024 .f32 := k0_pay16 (k0_pay4 (View.ld g row)) (centred x r) (diff x r t g b)
def dr : FVec F S256x1024 .f32 := k0_pay13 (k0_pay4 (View.ld g row)) (centred x r) (diff x r t g b)

end Left

theorem tile_cover (p : Vec F S256x1024 .f32) (y : S256x1024.Idx) :
    ∃ q ∈ ([⟨tile, p⟩] : List (View.Piece (Elt F) S256x1024 .f32)), y ∈ q.1.set :=
  View.cover_of_tiled [⟨tile, p⟩] S256x1024.size (by rfl) y
theorem row_cover (p : Vec F S1x1024 .f32) (y : S1x1024.Idx) :
    ∃ q ∈ ([⟨row, p⟩] : List (View.Piece (Elt F) S1x1024 .f32)), y ∈ q.1.set :=
  View.cover_of_tiled [⟨row, p⟩] S1x1024.size (by rfl) y
theorem lane_cover (p : Vec F S1x128 .f32) (y : S1x128.Idx) :
    ∃ q ∈ ([⟨lane, p⟩] : List (View.Piece (Elt F) S1x128 .f32)), y ∈ q.1.set :=
  View.cover_of_tiled [⟨lane, p⟩] S1x128.size (by rfl) y

section Run
variable (c : Dev nD) (i : grid0.Coords)
    (X : Memref sig .tc .vmem S256x1024 .f32) (hX : X.IsWhole) (R : Memref sig .tc .vmem S256x1024 .f32) (hR : R.IsWhole)
    (T : Memref sig .tc .vmem S256x1024 .f32) (hT : T.IsWhole) (G : Memref sig .tc .vmem S1x1024 .f32) (hG : G.IsWhole)
    (B : Memref sig .tc .vmem S1x1024 .f32) (hB : B.IsWhole) (U : Memref sig .tc .vmem S256x1024 .f32) (hU : U.IsWhole)
    (V : Memref sig .tc .vmem S256x1024 .f32) (hV : V.IsWhole) (P : Memref sig .tc .vmem S1x128 .f32) (hP : P.IsWhole)
    (Y : Memref sig .tc .vmem S1x1024 .f32) (hY : Y.IsWhole) (Z : Memref sig .tc .vmem S1x1024 .f32) (hZ : Z.IsWhole)
    (x r t : Vec F S256x1024 .f32) (g b : Vec F S1x1024 .f32)

/-- The tiles read. -/
def reads : sProp 𝕄 :=
  iprop(owns (c : Thread nD τ) X fullShare x ∗ owns (c : Thread nD τ) R fullShare r ∗ owns (c : Thread nD τ) T fullShare t
    ∗ owns (c : Thread nD τ) G fullShare g ∗ owns (c : Thread nD τ) B fullShare b)

set_option maxHeartbeats 2000000 in
/-- The body at the first tile: the three sums start. -/
theorem body_first (h1 : k0_cond1 i = 1#1) (h2 : ¬ k0_cond2 i = 1#1) (h3 : k0_cond3 i = 1#1) (h4 : ¬ k0_cond4 i = 1#1)
    (h5 : k0_cond5 i = 1#1) (h6 : ¬ k0_cond6 i = 1#1) (Q : PUnit → sProp 𝕄) :
    iprop((reads c X R T G B x r t g b ∗ (∃ d, owns (c : Thread nD τ) U fullShare d) ∗ (∃ d, owns (c : Thread nD τ) V fullShare d)
          ∗ (∃ d, owns (c : Thread nD τ) P fullShare d) ∗ (∃ d, owns (c : Thread nD τ) Y fullShare d) ∗ (∃ d, owns (c : Thread nD τ) Z fullShare d))
        ∗ (iprop(reads c X R T G B x r t g b ∗ owns (c : Thread nD τ) U fullShare (dx x r t g b) ∗ owns (c : Thread nD τ) V fullShare (dr x r t g b)
          ∗ owns (c : Thread nD τ) P fullShare (lossOf' x r t g b) ∗ owns (c : Thread nD τ) Y fullShare (gOf x r t g b)
          ∗ owns (c : Thread nD τ) Z fullShare (bOf x r t g b)) -∗ Q ⟨⟩))
      ⊢ wp frame (wpE (defs₀ (F := F)) Variants.none c none) Set.univ
        (cc0_final_ln_loss i X hX R hR T hT G hG B hB U hU V hV P hP Y hY Z hZ) Q := by
  simp only [cc0_final_ln_loss_eq_skeleton]; unfold cc0_final_ln_loss_skel
  simp only [k0_part1_eq_skeleton, k0_part2_eq_skeleton]
  unfold reads owns
  iintro ⟨⟨⟨⟨%fx, %hx, Hx⟩, ⟨%fr, %hr, Hr⟩, ⟨%ft, %ht, Ht⟩, ⟨%fg, %hg, Hg⟩, ⟨%fb, %hb, Hb⟩⟩, ⟨%d5, %f5, -, H5⟩, ⟨%d6, %f6, -, H6⟩, ⟨%d7, %f7, -, H7⟩, ⟨%d8, %f8, -, H8⟩, ⟨%d9, %f9, -, H9⟩⟩, Hk⟩
  subst hx hr ht hg hb
  sl_exec (disch := first | sl_exact h1 | sl_exact h2 | sl_exact h3 | sl_exact h4 | sl_exact h5 | sl_exact h6)
  sl_step
  iapply Hk
  isplitl [Hx Hr Ht Hg Hb]
  · isplitl [Hx]
    · iexists fx; isplitr; · ipureintro; rfl
      iexact Hx
    isplitl [Hr]
    · iexists fr; isplitr; · ipureintro; rfl
      iexact Hr
    isplitl [Ht]
    · iexists ft; isplitr; · ipureintro; rfl
      iexact Ht
    isplitl [Hg]
    · iexists fg; isplitr; · ipureintro; rfl
      iexact Hg
    iexists fb; isplitr; · ipureintro; rfl
    iexact Hb
  isplitl [H5]
  · iexists _; isplitr
    swap; · iexact H5
    ipureintro
    exact (View.read_writes_eq_canon _ _ _ (tile_cover _)).trans ((View.canon_cons_unit_lit _ _ _ (by decide)).trans rfl)
  isplitl [H6]
  · iexists _; isplitr
    swap; · iexact H6
    ipureintro
    exact (View.read_writes_eq_canon _ _ _ (tile_cover _)).trans ((View.canon_cons_unit_lit _ _ _ (by decide)).trans rfl)
  isplitl [H7]
  · iexists _; isplitr
    swap; · iexact H7
    ipureintro
    exact (View.read_writes_eq_canon _ _ _ (lane_cover _)).trans ((View.canon_cons_unit_lit _ _ _ (by decide)).trans rfl)
  isplitl [H8]
  · iexists _; isplitr
    swap; · iexact H8
    ipureintro
    exact (View.read_writes_eq_canon _ _ _ (row_cover _)).trans ((View.canon_cons_unit_lit _ _ _ (by decide)).trans rfl)
  iexists _; isplitr
  swap; · iexact H9
  ipureintro
  exact (View.read_writes_eq_canon _ _ _ (row_cover _)).trans ((View.canon_cons_unit_lit _ _ _ (by decide)).trans rfl)

set_option maxHeartbeats 2000000 in
/-- The body at a later tile: the three sums go on. -/
theorem body_next (h1 : ¬ k0_cond1 i = 1#1) (h2 : k0_cond2 i = 1#1) (h3 : ¬ k0_cond3 i = 1#1) (h4 : k0_cond4 i = 1#1)
    (h5 : ¬ k0_cond5 i = 1#1) (h6 : k0_cond6 i = 1#1) (l : Vec F S1x128 .f32) (y z : Vec F S1x1024 .f32) (Q : PUnit → sProp 𝕄) :
    iprop((reads c X R T G B x r t g b ∗ (∃ d, owns (c : Thread nD τ) U fullShare d) ∗ (∃ d, owns (c : Thread nD τ) V fullShare d)
          ∗ owns (c : Thread nD τ) P fullShare l ∗ owns (c : Thread nD τ) Y fullShare y ∗ owns (c : Thread nD τ) Z fullShare z)
        ∗ (iprop(reads c X R T G B x r t g b ∗ owns (c : Thread nD τ) U fullShare (dx x r t g b) ∗ owns (c : Thread nD τ) V fullShare (dr x r t g b)
          ∗ owns (c : Thread nD τ) P fullShare (k0_pay1 (lossOf' x r t g b) (View.ld l lane))
          ∗ owns (c : Thread nD τ) Y fullShare (k0_pay2 (gOf x r t g b) (View.ld y row))
          ∗ owns (c : Thread nD τ) Z fullShare (k0_pay3 (bOf x r t g b) (View.ld z row))) -∗ Q ⟨⟩))
      ⊢ wp frame (wpE (defs₀ (F := F)) Variants.none c none) Set.univ
        (cc0_final_ln_loss i X hX R hR T hT G hG B hB U hU V hV P hP Y hY Z hZ) Q := by
  simp only [cc0_final_ln_loss_eq_skeleton]; unfold cc0_final_ln_loss_skel
  simp only [k0_part1_eq_skeleton, k0_part2_eq_skeleton]
  unfold reads owns
  iintro ⟨⟨⟨⟨%fx, %hx, Hx⟩, ⟨%fr, %hr, Hr⟩, ⟨%ft, %ht, Ht⟩, ⟨%fg, %hg, Hg⟩, ⟨%fb, %hb, Hb⟩⟩, ⟨%d5, %f5, -, H5⟩, ⟨%d6, %f6, -, H6⟩, ⟨%f7, %h7, H7⟩, ⟨%f8, %h8, H8⟩, ⟨%f9, %h9, H9⟩⟩, Hk⟩
  subst hx hr ht hg hb h7 h8 h9
  sl_exec (disch := first | sl_exact h1 | sl_exact h2 | sl_exact h3 | sl_exact h4 | sl_exact h5 | sl_exact h6)
  sl_step
  iapply Hk
  isplitl [Hx Hr Ht Hg Hb]
  · isplitl [Hx]
    · iexists fx; isplitr; · ipureintro; rfl
      iexact Hx
    isplitl [Hr]
    · iexists fr; isplitr; · ipureintro; rfl
      iexact Hr
    isplitl [Ht]
    · iexists ft; isplitr; · ipureintro; rfl
      iexact Ht
    isplitl [Hg]
    · iexists fg; isplitr; · ipureintro; rfl
      iexact Hg
    iexists fb; isplitr; · ipureintro; rfl
    iexact Hb
  isplitl [H5]
  · iexists _; isplitr
    swap; · iexact H5
    ipureintro
    exact (View.read_writes_eq_canon _ _ _ (tile_cover _)).trans ((View.canon_cons_unit_lit _ _ _ (by decide)).trans rfl)
  isplitl [H6]
  · iexists _; isplitr
    swap; · iexact H6
    ipureintro
    exact (View.read_writes_eq_canon _ _ _ (tile_cover _)).trans ((View.canon_cons_unit_lit _ _ _ (by decide)).trans rfl)
  isplitl [H7]
  · iexists _; isplitr
    swap; · iexact H7
    ipureintro
    exact (View.read_writes_eq_canon _ _ _ (lane_cover _)).trans ((View.canon_cons_unit_lit _ _ _ (by decide)).trans rfl)
  isplitl [H8]
  · iexists _; isplitr
    swap; · iexact H8
    ipureintro
    exact (View.read_writes_eq_canon _ _ _ (row_cover _)).trans ((View.canon_cons_unit_lit _ _ _ (by decide)).trans rfl)
  iexists _; isplitr
  swap; · iexact H9
  ipureintro
  exact (View.read_writes_eq_canon _ _ _ (row_cover _)).trans ((View.canon_cons_unit_lit _ _ _ (by decide)).trans rfl)

end Run

/-! ## The pipeline's proof data -/

variable (W : Dev nD → Valuation τ sig (Elt F))

/-- A window's block at a grid point, read off the contents the region is entered with. -/
def block (c : Dev nD) (k : Fin cfg0.W) (t : Fin cfg0.N) : ((cfg0.win k).xblock (cfg0.grid.coords t)).Idx → Elt F (cfg0.win k).elt :=
  ((cfg0.win k).blk t).view.read (Elt F) (W c (Proc.devRef .tc (arrRef spec0 k)))

/-- What a tile adds to the loss, -/
abbrev lossAt (c : Dev nD) (t : Fin cfg0.N) : FVec F S1x128 .f32 :=
  lossOf' (block W c 0 t) (block W c 1 t) (block W c 2 t) (block W c 3 t) (block W c 4 t)
abbrev gAt (c : Dev nD) (t : Fin cfg0.N) : FVec F S1x1024 .f32 :=
  gOf (block W c 0 t) (block W c 1 t) (block W c 2 t) (block W c 3 t) (block W c 4 t)
abbrev bAt (c : Dev nD) (t : Fin cfg0.N) : FVec F S1x1024 .f32 :=
  bOf (block W c 0 t) (block W c 1 t) (block W c 2 t) (block W c 3 t) (block W c 4 t)
/-- and the three sums after the tile. -/
def lossSum (c : Dev nD) : (n : ℕ) → n < cfg0.N → Vec F S1x128 .f32
  | 0, h => lossAt W c ⟨0, h⟩
  | n + 1, h => k0_pay1 (lossAt W c ⟨n + 1, h⟩) (View.ld (lossSum c n (Nat.lt_of_succ_lt h)) lane)
def gSum (c : Dev nD) : (n : ℕ) → n < cfg0.N → Vec F S1x1024 .f32
  | 0, h => gAt W c ⟨0, h⟩
  | n + 1, h => k0_pay2 (gAt W c ⟨n + 1, h⟩) (View.ld (gSum c n (Nat.lt_of_succ_lt h)) row)
def bSum (c : Dev nD) : (n : ℕ) → n < cfg0.N → Vec F S1x1024 .f32
  | 0, h => bAt W c ⟨0, h⟩
  | n + 1, h => k0_pay3 (bAt W c ⟨n + 1, h⟩) (View.ld (bSum c n (Nat.lt_of_succ_lt h)) row)

/-- The proof data: the arrays as the region finds them; each read tile left alone, the tile's own results and the three sums;
    the invariant the scoped buffers no window stages; owed throughout what the sum over the devices will collect. -/
def dat (c : Dev nD) : Dat τ (Elt F) ℕ ℕ UU ℕ cfg0 c where
  A k := W c (Proc.devRef .tc (arrRef spec0 k))
  after k t := match k with
    | ⟨0, _⟩ => block W c 0 t
    | ⟨1, _⟩ => block W c 1 t
    | ⟨2, _⟩ => block W c 2 t
    | ⟨3, _⟩ => block W c 3 t
    | ⟨4, _⟩ => block W c 4 t
    | ⟨5, _⟩ => dx (block W c 0 t) (block W c 1 t) (block W c 2 t) (block W c 3 t) (block W c 4 t)
    | ⟨6, _⟩ => dr (block W c 0 t) (block W c 1 t) (block W c 2 t) (block W c 3 t) (block W c 4 t)
    | ⟨7, _⟩ => lossSum W c t.val t.isLt
    | ⟨8, _⟩ => gSum W c t.val t.isLt
    | ⟨9, _⟩ => bSum W c t.val t.isLt
  Φ _ := scopedRest spec0 c
  q _ := fullShare
  owed _ := Sites.O0 (F := F) c

theorem dat_A (c : Dev nD) (k : Fin cfg0.W) : (dat W c).A k = W c (Proc.devRef .tc (arrRef spec0 k)) := by dsimp only [dat]
theorem after_0 (c : Dev nD) (t : Fin cfg0.N) : (dat W c).after 0 t = block W c 0 t := by dsimp only [dat]
theorem after_1 (c : Dev nD) (t : Fin cfg0.N) : (dat W c).after 1 t = block W c 1 t := by dsimp only [dat]
theorem after_2 (c : Dev nD) (t : Fin cfg0.N) : (dat W c).after 2 t = block W c 2 t := by dsimp only [dat]
theorem after_3 (c : Dev nD) (t : Fin cfg0.N) : (dat W c).after 3 t = block W c 3 t := by dsimp only [dat]
theorem after_4 (c : Dev nD) (t : Fin cfg0.N) : (dat W c).after 4 t = block W c 4 t := by dsimp only [dat]
theorem after_5 (c : Dev nD) (t : Fin cfg0.N) : (dat W c).after 5 t
    = dx (block W c 0 t) (block W c 1 t) (block W c 2 t) (block W c 3 t) (block W c 4 t) := by dsimp only [dat]
theorem after_6 (c : Dev nD) (t : Fin cfg0.N) : (dat W c).after 6 t
    = dr (block W c 0 t) (block W c 1 t) (block W c 2 t) (block W c 3 t) (block W c 4 t) := by dsimp only [dat]
theorem after_7 (c : Dev nD) (t : Fin cfg0.N) : (dat W c).after 7 t = lossSum W c t.val t.isLt := by dsimp only [dat]
theorem after_8 (c : Dev nD) (t : Fin cfg0.N) : (dat W c).after 8 t = gSum W c t.val t.isLt := by dsimp only [dat]
theorem after_9 (c : Dev nD) (t : Fin cfg0.N) : (dat W c).after 9 t = bSum W c t.val t.isLt := by dsimp only [dat]

theorem before_0 (c : Dev nD) (t : Fin cfg0.N) (d) : (dat W c).before 0 t d = block W c 0 t :=
  ((dat W c).before_in_eq_fetched 0 rfl (fun _ => rfl) (fun _ _ _ => rfl)
    (fun t => by rw [after_0]; unfold Dat.blockOf block; rw [dat_A]; try rfl) t d).trans (by unfold Dat.fetched Dat.blockOf block; rw [dat_A]; try rfl)
theorem before_1 (c : Dev nD) (t : Fin cfg0.N) (d) : (dat W c).before 1 t d = block W c 1 t :=
  ((dat W c).before_in_eq_fetched 1 rfl (fun _ => rfl) (fun _ _ _ => rfl)
    (fun t => by rw [after_1]; unfold Dat.blockOf block; rw [dat_A]; try rfl) t d).trans (by unfold Dat.fetched Dat.blockOf block; rw [dat_A]; try rfl)
theorem before_2 (c : Dev nD) (t : Fin cfg0.N) (d) : (dat W c).before 2 t d = block W c 2 t :=
  ((dat W c).before_in_eq_fetched 2 rfl (fun _ => rfl) (fun _ _ _ => rfl)
    (fun t => by rw [after_2]; unfold Dat.blockOf block; rw [dat_A]; try rfl) t d).trans (by unfold Dat.fetched Dat.blockOf block; rw [dat_A]; try rfl)
theorem before_3 (c : Dev nD) (t : Fin cfg0.N) (d) : (dat W c).before 3 t d = block W c 3 t :=
  ((dat W c).before_in_eq_fetched 3 rfl (fun _ => rfl) (fun _ _ _ => rfl)
    (fun t => by rw [after_3]; unfold Dat.blockOf block; rw [dat_A]; try rfl) t d).trans (by unfold Dat.fetched Dat.blockOf block; rw [dat_A]; try rfl)
theorem before_4 (c : Dev nD) (t : Fin cfg0.N) (d) : (dat W c).before 4 t d = block W c 4 t :=
  ((dat W c).before_in_eq_fetched 4 rfl (fun _ => rfl) (fun _ _ _ => rfl)
    (fun t => by rw [after_4]; unfold Dat.blockOf block; rw [dat_A]; try rfl) t d).trans (by unfold Dat.fetched Dat.blockOf block; rw [dat_A]; try rfl)

/-! ### The sums' buffers: never idle, and written back after the last tile only -/

theorem live_7 : ∀ t : Fin cfg0.N, cfg0.idle 7 (grid0.coords t) = false :=
  (by decide +kernel : ∀ t : Fin grid0.N, idle0 7 (grid0.coords t) = false)
theorem kept_7 (t : Fin cfg0.N) (ht : t.val ≠ 0) : cfg0.fresh 7 t.val = false := by
  have h := Cfg.fresh_tab cfg0 7 (fun n => n % 32 == 0) rfl
    (by decide +kernel : ∀ t : Fin cfg0.N, ((t.val + 1) % 32 == 0) = ((cfg0.win 7).flush t || (cfg0.idle 7 (cfg0.grid.coords t) && (t.val % 32 == 0))))
    t.val (Nat.le_of_lt t.isLt)
  have hN : t.val < 32 := lt_of_lt_of_eq t.isLt N_0
  rw [h]
  simp only [beq_eq_false_iff_ne]
  omega
theorem before_7 (c : Dev nD) (t : Fin cfg0.N) (ht : t.val ≠ 0) (d) :
    (dat W c).before 7 t d = lossSum W c (t.val - 1) (Nat.lt_of_le_of_lt (Nat.sub_le _ _) t.isLt) := by
  rw [Dat.before_out_traj _ 7 rfl (fun _ _ => rfl)
    (fun t _ hi _ => absurd (hi.symm.trans (live_7 t)) (by decide)) t.val t rfl d,
    if_neg (by rw [kept_7 t ht]; exact Bool.false_ne_true)]
  dsimp only [dat]
theorem live_8 : ∀ t : Fin cfg0.N, cfg0.idle 8 (grid0.coords t) = false :=
  (by decide +kernel : ∀ t : Fin grid0.N, idle0 8 (grid0.coords t) = false)
theorem kept_8 (t : Fin cfg0.N) (ht : t.val ≠ 0) : cfg0.fresh 8 t.val = false := by
  have h := Cfg.fresh_tab cfg0 8 (fun n => n % 32 == 0) rfl
    (by decide +kernel : ∀ t : Fin cfg0.N, ((t.val + 1) % 32 == 0) = ((cfg0.win 8).flush t || (cfg0.idle 8 (cfg0.grid.coords t) && (t.val % 32 == 0))))
    t.val (Nat.le_of_lt t.isLt)
  have hN : t.val < 32 := lt_of_lt_of_eq t.isLt N_0
  rw [h]
  simp only [beq_eq_false_iff_ne]
  omega
theorem before_8 (c : Dev nD) (t : Fin cfg0.N) (ht : t.val ≠ 0) (d) :
    (dat W c).before 8 t d = gSum W c (t.val - 1) (Nat.lt_of_le_of_lt (Nat.sub_le _ _) t.isLt) := by
  rw [Dat.before_out_traj _ 8 rfl (fun _ _ => rfl)
    (fun t _ hi _ => absurd (hi.symm.trans (live_8 t)) (by decide)) t.val t rfl d,
    if_neg (by rw [kept_8 t ht]; exact Bool.false_ne_true)]
  dsimp only [dat]
theorem live_9 : ∀ t : Fin cfg0.N, cfg0.idle 9 (grid0.coords t) = false :=
  (by decide +kernel : ∀ t : Fin grid0.N, idle0 9 (grid0.coords t) = false)
theorem kept_9 (t : Fin cfg0.N) (ht : t.val ≠ 0) : cfg0.fresh 9 t.val = false := by
  have h := Cfg.fresh_tab cfg0 9 (fun n => n % 32 == 0) rfl
    (by decide +kernel : ∀ t : Fin cfg0.N, ((t.val + 1) % 32 == 0) = ((cfg0.win 9).flush t || (cfg0.idle 9 (cfg0.grid.coords t) && (t.val % 32 == 0))))
    t.val (Nat.le_of_lt t.isLt)
  have hN : t.val < 32 := lt_of_lt_of_eq t.isLt N_0
  rw [h]
  simp only [beq_eq_false_iff_ne]
  omega
theorem before_9 (c : Dev nD) (t : Fin cfg0.N) (ht : t.val ≠ 0) (d) :
    (dat W c).before 9 t d = bSum W c (t.val - 1) (Nat.lt_of_le_of_lt (Nat.sub_le _ _) t.isLt) := by
  rw [Dat.before_out_traj _ 9 rfl (fun _ _ => rfl)
    (fun t _ hi _ => absurd (hi.symm.trans (live_9 t)) (by decide)) t.val t rfl d,
    if_neg (by rw [kept_9 t ht]; exact Bool.false_ne_true)]
  dsimp only [dat]

/-! ### The conditions -/

theorem cond1 : ∀ t : Fin cfg0.N, k0_cond1 (grid0.coords t) = 1#1 ↔ t.val = 0 :=
  (by decide +kernel : ∀ t : Fin grid0.N, k0_cond1 (grid0.coords t) = 1#1 ↔ t.val = 0)
theorem cond2 : ∀ t : Fin cfg0.N, k0_cond2 (grid0.coords t) = 1#1 ↔ t.val ≠ 0 :=
  (by decide +kernel : ∀ t : Fin grid0.N, k0_cond2 (grid0.coords t) = 1#1 ↔ t.val ≠ 0)
theorem cond3 : ∀ t : Fin cfg0.N, k0_cond3 (grid0.coords t) = 1#1 ↔ t.val = 0 :=
  (by decide +kernel : ∀ t : Fin grid0.N, k0_cond3 (grid0.coords t) = 1#1 ↔ t.val = 0)
theorem cond4 : ∀ t : Fin cfg0.N, k0_cond4 (grid0.coords t) = 1#1 ↔ t.val ≠ 0 :=
  (by decide +kernel : ∀ t : Fin grid0.N, k0_cond4 (grid0.coords t) = 1#1 ↔ t.val ≠ 0)
theorem cond5 : ∀ t : Fin cfg0.N, k0_cond5 (grid0.coords t) = 1#1 ↔ t.val = 0 :=
  (by decide +kernel : ∀ t : Fin grid0.N, k0_cond5 (grid0.coords t) = 1#1 ↔ t.val = 0)
theorem cond6 : ∀ t : Fin cfg0.N, k0_cond6 (grid0.coords t) = 1#1 ↔ t.val ≠ 0 :=
  (by decide +kernel : ∀ t : Fin grid0.N, k0_cond6 (grid0.coords t) = 1#1 ↔ t.val ≠ 0)

theorem leaves_7 (c : Dev nD) (t : Fin cfg0.N) :
    (dat W c).leavesExact 7 t = owns (c : Thread nD τ) (st0_7 t) fullShare ((dat W c).after 7 t) := by
  unfold Dat.leavesExact; rw [live_7 t]
theorem leaves_8 (c : Dev nD) (t : Fin cfg0.N) :
    (dat W c).leavesExact 8 t = owns (c : Thread nD τ) (st0_8 t) fullShare ((dat W c).after 8 t) := by
  unfold Dat.leavesExact; rw [live_8 t]
theorem leaves_9 (c : Dev nD) (t : Fin cfg0.N) :
    (dat W c).leavesExact 9 t = owns (c : Thread nD τ) (st0_9 t) fullShare ((dat W c).after 9 t) := by
  unfold Dat.leavesExact; rw [live_9 t]

/-! ## The body obligation -/

/-- The tiles as the body is given them at a point, -/
def given (c : Dev nD) (t : Fin cfg0.N) : sProp 𝕄 :=
  iprop((dat W c).Φ t.castSucc ∗ (dat W c).owesAt 0 t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d))
    ∗ (∃ d, owns (c : Thread nD τ) (st0_5 t) fullShare ((dat W c).before 5 t d))
    ∗ (∃ d, owns (c : Thread nD τ) (st0_6 t) fullShare ((dat W c).before 6 t d))
    ∗ (∃ d, owns (c : Thread nD τ) (st0_7 t) fullShare ((dat W c).before 7 t d))
    ∗ (∃ d, owns (c : Thread nD τ) (st0_8 t) fullShare ((dat W c).before 8 t d))
    ∗ (∃ d, owns (c : Thread nD τ) (st0_9 t) fullShare ((dat W c).before 9 t d)))
/-- and as it returns them. -/
def returned (c : Dev nD) (t : Fin cfg0.N) : sProp 𝕄 :=
  iprop((dat W c).Φ t.succ ∗ (dat W c).owesAt 0 t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t)
    ∗ owns (c : Thread nD τ) (st0_4 t) fullShare ((dat W c).after 4 t)
    ∗ owns (c : Thread nD τ) (st0_5 t) fullShare ((dat W c).after 5 t)
    ∗ owns (c : Thread nD τ) (st0_6 t) fullShare ((dat W c).after 6 t)
    ∗ (dat W c).leavesExact 7 t
    ∗ (dat W c).leavesExact 8 t
    ∗ (dat W c).leavesExact 9 t)

theorem point_run (c : Dev nD) (t : Fin cfg0.N) :
    given W c t ⊢ wp frame (wpE (defs₀ (F := F)) Variants.none c none) Set.univ (bodyAt0 t) (fun _ => returned W c t) := by
  unfold given returned bodyAt0
  simp only [before_0, before_1, before_2, before_3, before_4]
  rw [show (dat W c).Φ t.succ = (dat W c).Φ t.castSucc from rfl,
    show (dat W c).owesAt 0 t.succ = (dat W c).owesAt 0 t.castSucc from rfl,
    leaves_7, leaves_8, leaves_9, after_0, after_1, after_2, after_3, after_4, after_5, after_6, after_7, after_8, after_9]
  by_cases h : t.val = 0
  · obtain ⟨n, hn⟩ := t
    obtain rfl : n = 0 := h
    iintro ⟨HΦ, HO, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩⟩
    iapply (body_first c (grid0.coords ⟨0, hn⟩) _ _ _ _ _ _ _ _ _ _ _ _ _ _ _ _ _ _ _ _ (block W c 0 ⟨0, hn⟩) (block W c 1 ⟨0, hn⟩) (block W c 2 ⟨0, hn⟩) (block W c 3 ⟨0, hn⟩) (block W c 4 ⟨0, hn⟩)
      ((cond1 _).mpr rfl) (fun h => (cond2 _).mp h rfl) ((cond3 _).mpr rfl) (fun h => (cond4 _).mp h rfl) ((cond5 _).mpr rfl) (fun h => (cond6 _).mp h rfl) _)
    isplitl [H0 H1 H2 H3 H4 H5 H6 H7 H8 H9]
    · isplitl [H0 H1 H2 H3 H4]
      · unfold reads
        isplitl [H0]; · iexact H0
        isplitl [H1]; · iexact H1
        isplitl [H2]; · iexact H2
        isplitl [H3]; · iexact H3
        iexact H4
      isplitl [H5]; · iexists _; iexact H5
      isplitl [H6]; · iexists _; iexact H6
      isplitl [H7]; · iexists _; iexact H7
      isplitl [H8]; · iexists _; iexact H8
      iexists _; iexact H9
    unfold reads
    iintro ⟨⟨H0, H1, H2, H3, H4⟩, H5, H6, H7, H8, H9⟩
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · simp only [before_7 W c t h, before_8 W c t h, before_9 W c t h]
    obtain ⟨n, hn⟩ := t
    cases n with
    | zero => exact absurd rfl h
    | succ n =>
      iintro ⟨HΦ, HO, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩⟩
      iapply (body_next c (grid0.coords ⟨n + 1, hn⟩) _ _ _ _ _ _ _ _ _ _ _ _ _ _ _ _ _ _ _ _ (block W c 0 ⟨n + 1, hn⟩) (block W c 1 ⟨n + 1, hn⟩) (block W c 2 ⟨n + 1, hn⟩) (block W c 3 ⟨n + 1, hn⟩) (block W c 4 ⟨n + 1, hn⟩)
        (fun h' => h ((cond1 _).mp h')) ((cond2 _).mpr h) (fun h' => h ((cond3 _).mp h')) ((cond4 _).mpr h) (fun h' => h ((cond5 _).mp h')) ((cond6 _).mpr h)
        (lossSum W c n (Nat.lt_of_succ_lt hn)) (gSum W c n (Nat.lt_of_succ_lt hn)) (bSum W c n (Nat.lt_of_succ_lt hn)) _)
      isplitl [H0 H1 H2 H3 H4 H5 H6 H7 H8 H9]
      · isplitl [H0 H1 H2 H3 H4]
        · unfold reads
          isplitl [H0]; · iexact H0
          isplitl [H1]; · iexact H1
          isplitl [H2]; · iexact H2
          isplitl [H3]; · iexact H3
          iexact H4
        isplitl [H5]; · iexists _; iexact H5
        isplitl [H6]; · iexists _; iexact H6
        isplitl [H7]; · iexact H7
        isplitl [H8]; · iexact H8
        iexact H9
      unfold reads
      iintro ⟨⟨H0, H1, H2, H3, H4⟩, H5, H6, H7, H8, H9⟩
      isplitl [HΦ]; · iexact HΦ
      isplitl [HO]; · iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dat (F := F) W c) (defs₀ (F := F)) Variants.none 0 Set.univ := fun t => by
  rw [bigSep_W0, bigSep_W0, row_eq]
  exact triple_restated (point_run W c t) rfl .rfl fun _ => .rfl

end Cert.FinalLoss

end
-- ==== Proof.LossRun.lean ====
/- The region of `final_ln_loss` as a segment of the host program, and the whole program: the region, the loss read off its array,
   and the sum over the devices. -/
module

public import proofs.«01_k».proof.Proof.LossStep
public import Idealize.ShloMosaic.Lib.Quiescent
public import Idealize.ShloMosaic.Lib.StableHlo.CollectiveRules

@[expose] public section

set_option Elab.async false
set_option maxRecDepth 16384

noncomputable section

namespace Cert.FinalLoss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.LossIdeal Cert.LossIdeal.Gen

variable {F : FTy → Type} [FloatOps F]

local notation "𝕄" => MT nD τ sig ℕ (Elt F) ℕ UU ℕ

variable (W : Dev nD → Valuation τ sig (Elt F))

/-! ## The region as a segment -/

abbrev adm : (p : Fin 1) → (pcfgs (F := F) p).Adm := fun p => (cfgs p).toPCfg_adm

section Seg
variable (pdats : (p : Fin 1) → (c : Dev nD) → Dat τ (Elt F) ℕ ℕ UU ℕ (pin (pcfgs (F := F)) adm p) c) (Z : Dev nD → sProp (MT nD τ sig ℕ (Elt F) ℕ UU ℕ))

theorem cut : LevelCut (pcfgs (F := F)) adm (0 : ℕ) Sites.L Sites.lv 0 (Sites.O0 (F := F)) (fun _ => (0 : ℕ)) where
  hι c w s := Sites.mem_L c _ (by decide)
  hιb _ _ _ := le_rfl
  hD _ _ _ h := Sites.O0_pos h

theorem hbody (hd : pdats 0 = dat W) : ∀ c, BodyObligationLoose (pdats 0 c) (defs₀ (F := F)) Variants.none 0 Set.univ :=
  fun c => by rw [hd]; exact (obligation W c).loose
theorem howed (hd : pdats 0 = dat W) : ∀ c t, (pdats 0 c).owed t = Sites.O0 (F := F) c := fun c t => by rw [hd]; rfl
theorem hrec (hd : pdats 0 = dat W) : ∀ c, (pdats 0 c).recorded 0 = Set.univ := fun c => by rw [hd]; rfl
theorem hshare (hd : pdats 0 = dat W) : ∀ c w, (pdats 0 c).share w = fullShare := fun c w => by
  rw [hd]; exact (dat W c).share_full (fun _ => rfl) w
theorem hin (hd : pdats 0 = dat W) : ∀ c, iprop(scopedRest (pin (pcfgs (F := F)) adm 0).spec c ∗ (BI.emp : sProp 𝕄)) ⊢ (pdats 0 c).Φ 0 :=
  fun c => by rw [hd]; exact (show iprop(scopedRest spec0 c ∗ BI.emp) ⊢ scopedRest spec0 c from by iintro ⟨H, -⟩; iexact H)
theorem hout (hd : pdats 0 = dat W) : ∀ c, (pdats 0 c).Φ (Fin.last (pin (pcfgs (F := F)) adm 0).N)
    ⊢ iprop(scopedRest (pin (pcfgs (F := F)) adm 0).spec c ∗ (BI.emp : sProp 𝕄)) :=
  fun c => by
    rw [hd]
    exact (show scopedRest spec0 c ⊢ iprop(scopedRest spec0 c ∗ BI.emp) from by
      iintro H
      isplitl [H]; · iexact H
      iempintro)
theorem hA (hd : pdats 0 = dat W) : ∀ c w, (pdats 0 c).arrAt w 0 = W c (Proc.devRef .tc (arrRef (pin (pcfgs (F := F)) adm 0).spec w)) :=
  fun c w => by rw [hd]; exact dat_A W c w

/-- The region, entered from every buffer the host knows at `W`. -/
def seg (hd : pdats 0 = dat W) : RegionSeg (pcfgs (F := F)) adm pdats (0 : ℕ) defs₀ Variants.none Sites.L Sites.lv 0 :=
  RegionSeg.ofHeldIn (pcfgs (F := F)) adm pdats (0 : ℕ) defs₀ Variants.none Sites.L Sites.lv 0 (Sites.O0 (F := F)) (ucRefs τ sig)
    (fun _ => (BI.emp : sProp 𝕄)) (fun _ => (BI.emp : sProp 𝕄)) launch0.toP rfl
    (hbody W pdats hd) (howed W pdats hd) (hrec W pdats hd) (hshare W pdats hd) (hin W pdats hd) (hout W pdats hd)
    (fun _ => 0) cut Z W (hA W pdats hd)

theorem arr_sub : arrRefs (τ := τ) ((pcfgs (F := F)) 0).spec ⊆ ucRefs τ sig := arrRefs_sub_ucRefs _ winFacts0.arr_unscoped

theorem seg_pre (hd : pdats 0 = dat W) (c : Dev nD) : iprop(StableHlo.held (c.tc : Thread nD τ) (ucRefs τ sig) (W c)
    ∗ ((∃ Wd, owes (c : Thread nD τ) (Sites.O0 (F := F) c) Wd) ∗ (BI.emp : sProp 𝕄) ∗ Z c)) ⊢ (seg W pdats Z hd).pre c :=
  RegionSeg.ofHeldIn_pre (pcs := pcfgs (F := F)) (a := adm) (pdats := pdats) (ι := 0) (defs₀ := defs₀) (𝒱₀ := Variants.none) (L := Sites.L)
    (lv := Sites.lv) (p := 0) (D := Sites.O0 (F := F)) (S := ucRefs τ sig) arr_sub (X := fun _ => (BI.emp : sProp 𝕄)) (Y := fun _ => (BI.emp : sProp 𝕄))
    (R := Z) (W := W) c

theorem seg_post (hd : pdats 0 = dat W) (c : Dev nD) : (seg W pdats Z hd).post c
    ⊢ iprop(StableHlo.held (c.tc : Thread nD τ) (ucRefs τ sig) (afterRegion (pdats 0 c) (W c))
      ∗ ((∃ Wd, owes (c : Thread nD τ) (Sites.O0 (F := F) c) Wd) ∗ (BI.emp : sProp 𝕄) ∗ Z c)) :=
  RegionSeg.ofHeldIn_post (pcs := pcfgs (F := F)) (a := adm) (pdats := pdats) (ι := 0) (defs₀ := defs₀) (𝒱₀ := Variants.none) (L := Sites.L)
    (lv := Sites.lv) (p := 0) (D := Sites.O0 (F := F)) (S := ucRefs τ sig) arr_sub (X := fun _ => (BI.emp : sProp 𝕄)) (Y := fun _ => (BI.emp : sProp 𝕄))
    (R := Z) (W := W) c

end Seg

end Cert.FinalLoss

end
-- ==== Proof.LossPsum.lean ====
/- The whole program of `final_ln_loss` under its sum over the devices: the region, the loss read off the region's array, the
   all-reduce; what every buffer holds at the end, and that every semaphore counter is zero there. -/
module

public import proofs.«01_k».proof.Proof.LossRun

@[expose] public section

set_option Elab.async false
set_option maxRecDepth 16384

noncomputable section

namespace Cert.FinalLoss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds
open Cert.LossIdeal Cert.LossIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## What the buffers hold at each stage -/

/-- At launch. -/
def before (c : Dev nD) : Valuation τ sig (Elt F) := fun b => m (c, b)

def data : (p : Fin 1) → (c : Dev nD) → Dat τ (Elt F) ℕ ℕ UU ℕ (pin (pcfgs (F := F)) adm p) c
  | 0 => dat (before m)

/-- After the region. -/
def mid (c : Dev nD) : Valuation τ sig (Elt F) := afterRegion (data m 0 c) (before m c)

/-- With the loss read off. -/
def read (c : Dev nD) : Valuation τ sig (Elt F) := StableHlo.after hostOps1 (mid m c)

/-- At the end. -/
def final (c : Dev nD) : Valuation τ sig (Elt F) := (ar0 (F := F)).after₀ (read m) c

/-! ## The segments -/

abbrev EP : Emb (UR sig nD τ) (MT nD τ sig ℕ (Elt F) ℕ UU ℕ) := embL
abbrev EC : Emb Sites.UC (MT nD τ sig ℕ (Elt F) ℕ UU ℕ) := embR

/-- The all-reduce's cells are under their invariants. -/
abbrev invs : sProp (MT nD τ sig ℕ (Elt F) ℕ UU ℕ) :=
  iprop(∃ κ, (AllReduce.Dat.once (ar0 (F := F)) (read m)).cellInvs (Sites.E0 EC) κ)

theorem rides_invs (c : Dev nD) : Sites.rides0 EC (read m) c ⊢ (invs m : sProp 𝕄) := by
  show (AllReduce.Dat.once (ar0 (F := F)) (read m)).rides (Sites.E0 EC) c 1 2 ⊢ _
  unfold AllReduce.Dat.rides
  iintro ⟨Hi, -⟩
  iexact Hi

/-- What rides past the region and the reading of the loss. -/
abbrev rest (c : Dev nD) : sProp (MT nD τ sig ℕ (Elt F) ℕ UU ℕ) := iprop((∃ r, prngReg c r) ∗ Sites.rides0 EC (read m) c)

abbrev region : RegionSeg (pcfgs (F := F)) adm (data m) (0 : ℕ) defs₀ Variants.none Sites.L Sites.lv 0 :=
  seg (before m) (data m) (rest m) rfl

theorem ops_sub : ∀ op ∈ (hostOps1 : List (HloOp τ sig (Elt F))), op.bufs ⊆ ucRefs τ sig :=
  fun op hop => sub_ucRefs op (List.forall_iff_forall_mem.mp hostOps1_sub op hop)

theorem ops_fresh : ∀ op ∈ (hostOps1 : List (HloOp τ sig (Elt F))), op.fresh = ∅ := by
  intro op hop
  simp only [hostOps1, List.mem_cons, List.not_mem_nil, or_false] at hop
  rcases hop with rfl | rfl <;> rfl

abbrev host : HostSeg (Ix := ℕ) (Name := ℕ) (U := UU) (Lvl := ℕ) (pcfgs (F := F)) defs₀ Variants.none Sites.L Sites.lv :=
  HostSeg.ofOps _ _ _ _ _ (ucRefs τ sig) (hostOps1 (F := F)) ops_sub ops_fresh (mid m)
    (fun c => iprop((∃ Wd, owes (c : Thread nD τ) (Sites.O0 (F := F) c) Wd) ∗ (BI.emp : sProp 𝕄) ∗ rest m c))

abbrev sum : HostSeg (Ix := ℕ) (Name := ℕ) (U := UU) (Lvl := ℕ) (pcfgs (F := F)) defs₀ Variants.none Sites.L Sites.lv :=
  Sites.seg0 EC Variants.none (read m) (Sites.Rest0 (read m) fun _ => invs m)

theorem host_sum (c : Dev nD) : (host m).post c ⊢ (sum m).pre c := by
  refine BIBase.Entails.trans ?_ (Sites.pre0 EC Variants.none (read m) (fun _ => invs m) c)
  rw [Sites.Es_0]
  have h := rides_invs m c
  show iprop(StableHlo.held (c.tc : Thread nD τ) (ucRefs τ sig) (read m c) ∗ ((∃ Wd, owes (c : Thread nD τ) (Sites.O0 (F := F) c) Wd)
    ∗ (BI.emp : sProp 𝕄) ∗ rest m c)) ⊢ _
  iintro ⟨Hh, HO, -, Hp, Hr⟩
  ihave #Hi := h $$ Hr
  isplitl [Hh]; · iexact Hh
  isplitr []
  · isplitl [HO]; · iexact HO
    isplitl [Hp]; · iexact Hp
    iexact Hr
  iexact Hi

/-- What a device holds at the end besides owing nothing. -/
abbrev last (c : Dev nD) : sProp (MT nD τ sig ℕ (Elt F) ℕ UU ℕ) :=
  iprop(StableHlo.held (c : Thread nD τ) (ucRefs τ sig) (final m c) ∗ (invs m ∗ Sites.Ghost0 EC c))

theorem sum_last (c : Dev nD) : (sum m).post c ⊢ iprop(last m c ∗ ∃ Wd, owes (c : Thread nD τ) (0 : CellTallies nD τ sig ℕ) Wd) := by
  refine (Sites.post0 EC Variants.none (read m) (fun _ => invs m) c).trans ?_
  have h := Sites.hE_last (F := F) EC (read m) c
  iintro ⟨Hh, HE, Hg, Hi⟩
  ihave HO := h $$ HE
  isplitr [HO]
  · isplitl [Hh]; · iexact Hh
    isplitl [Hi] <;> iassumption
  iexact HO

/-! ## The launch -/

abbrev first (c : Dev nD) : sProp (MT nD τ sig ℕ (Elt F) ℕ UU ℕ) := (region m).pre c

theorem init :
    iprop((bigSep Finset.univ fun c : Dev nD => iprop(unscopedBufs c (fun b => m ((c.tc : Thread nD τ).loc b)) ∗ unscopedSems0 c
          ∗ owes (c : Thread nD τ) (Sites.O0 (F := F) c) ∅ ∗ Pipeline.launchCred (Sites.O0 (F := F)) c ∗ prngReg c (ρ c) ∗ Sites.G EC (read m) c))
        ∗ levAts Sites.L Sites.lv)
      ⊢ (|={Set.univ}=> bigSep Finset.univ (first m) : sProp 𝕄) := by
  have h2 (c : Dev nD) : iprop(unscopedBufs c (fun b => m ((c.tc : Thread nD τ).loc b)) ∗ Sites.Es EC (read m) 0 c) ⊢ (first m c : sProp 𝕄) := by
    refine BIBase.Entails.trans ?_ (seg_pre (before m) (data m) (rest m) rfl c)
    rw [Sites.Es_0, ← unscopedBufs_held]
    iintro ⟨Hb, HO, Hp, Hr⟩
    isplitl [Hb]; · iexact Hb
    isplitl [HO]; · iexact HO
    isplitr; · iempintro
    isplitl [Hp] <;> iassumption
  iintro ⟨H, Hl⟩
  ihave H' := (BIBase.Entails.of_eq (bigSep_sep' (s := Finset.univ) (Φ := fun c : Dev nD => (unscopedBufs c (fun b => m ((c.tc : Thread nD τ).loc b)) : sProp 𝕄)) ..)) $$ H
  icases H' with ⟨Hb, H⟩
  imod (Sites.hE0 EC (read m) ρ) $$ [H Hl] with HE
  · isplitl [H] <;> iassumption
  imodintro
  iapply (show iprop((bigSep Finset.univ fun c : Dev nD => unscopedBufs c (fun b => m ((c.tc : Thread nD τ).loc b)))
        ∗ bigSep Finset.univ (Sites.Es EC (read m) 0)) ⊢ (bigSep Finset.univ (first m) : sProp 𝕄)
      from by rw [← bigSep_sep']; exact bigSep_mono fun c _ => h2 c)
  isplitl [Hb] <;> iassumption

def u₀ : UU :=
  (Rounds.initOf (Pipeline.cells (pin (pcfgs (F := F)) adm) cellOf_inj) (Pipeline.launchToks (pin (pcfgs (F := F)) adm) cellOf_inj),
    Sites.uC (U := UU) (read m))

/-! ## The run -/

set_option backward.isDefEq.respectTransparency.types false in
/-- At any float values, from any memory with zero counters, every weakly fair execution terminates; at the end every buffer the
    host knows holds `final` on every device and every semaphore counter is zero. -/
theorem run_all : θ_run (Pipeline.defs (pcfgs (F := F)) defs₀) (onTc (main (F := F))) ⟨m, fun _ => 0, ρ⟩ fun r =>
    (∀ (c : Dev nD) (b : Ref sig .tc), ¬ b.isScoped = true → r.2.mem ((c : Thread nD τ).loc b) = final m c (Proc.devRef .tc b))
      ∧ r.2.sem = fun _ => 0 :=
  Pipeline.θ_run_regions_kit_sems (pcfgs (F := F)) adm (data m) (0 : ℕ) cellOf_inj EP defs₀ Variants.none Sites.L Sites.lv m ρ main
    [.region (region m), .host (host m), .host (sum m)]
    (fun c Q => by rw [main_segs adm (data m) (0 : ℕ) Variants.none Sites.L Sites.lv (host m) (sum m) (region m) rfl rfl c])
    (by simp only [Pipeline.Seg.pipes_host, Pipeline.Seg.pipes_region, Pipeline.Seg.pipes_nil]; decide)
    (O₀ := Sites.O0 (F := F)) (hL := Sites.hL) (G := Sites.G EC (read m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := first m) (Tₙ := last m)
    (hch := ⟨fun _ => .rfl, seg_post (before m) (data m) (rest m) rfl, host_sum m, sum_last m⟩)
    (hinit := init m ρ)
    (QY := fun c s => (∀ b : Ref sig .tc, ¬ b.isScoped = true → s.mem ((c : Thread nD τ).loc b) = final m c (Proc.devRef .tc b))
      ∧ s.sem ((ar0 (F := F)).barrierCell c) = 0 ∧ s.sem ((ar0 (F := F)).recvCell c) = 0 ∧ s.sem ((ar0 (F := F)).sendCell c) = 0)
    (hfin := fun c s' => by
      unfold last StableHlo.held
      iintro ⟨⟨Hh, He⟩, HSI⟩
      ihave Hr := (pointsTo_read_all (ucRefs τ sig) (fun b => ((c : Thread nD τ).1, b)) (final m c) s') $$ [Hh HSI]
      · isplitl [Hh] <;> iassumption
      icases Hr with ⟨%h, HSI⟩
      imod ((AllReduce.Dat.once (ar0 (F := F)) (read m)).ghostAfter_read (Sites.E0 EC) c (k := 0) le_rfl s') $$ [He HSI] with ⟨%hz, HSI⟩
      · isplitl [He] <;> iassumption
      imodintro
      isplitr
      · ipureintro
        exact ⟨fun b hb => h (Proc.devRef .tc b) (Finset.mem_filter.mpr ⟨StableHlo.devRef_mem_tcRefs b, hb⟩), hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-! ## What it holds -/

/-- The arguments are as launched, -/
theorem final_kept (c : Dev nD) (b : Ref sig .tc) (h0 : ∀ w, arrRef spec0 w = b → (cfg0.win w).isOut = false)
    (h1 : ∀ op ∈ (hostOps1 : List (HloOp τ sig (Elt F))), Proc.devRef .tc b ∉ op.writes)
    (h2 : (Proc.devRef .tc b : DevRef τ sig) ∉ (ar0 (F := F)).foldBufs) :
    final m c (Proc.devRef .tc b) = m ((c : Thread nD τ).loc b) := by
  unfold final
  rw [(ar0 (F := F)).after₀_of_notMem (read m) c h2]
  unfold read
  rw [StableHlo.after_of_forall_not_mem _ _ h1]
  unfold mid
  rw [afterRegion_keeps (data m 0 c) (before m c) winFacts0.arr_inj (fun w => dat_A (before m) c w) b h0]
  rfl

theorem ops_kept (b : Ref sig .tc) (h2 : b ≠ main_v2) (h3 : b ≠ main_v3) :
    ∀ op ∈ (hostOps1 : List (HloOp τ sig (Elt F))), Proc.devRef .tc b ∉ op.writes := by
  intro op hop
  simp only [hostOps1, List.mem_cons, List.not_mem_nil, or_false] at hop
  rcases hop with rfl | rfl <;> intro h
  · exact h2 (Proc.devRef_injective _ (Finset.mem_singleton.mp h))
  · exact h3 (Proc.devRef_injective _ (Finset.mem_singleton.mp h))

theorem off_site (b : Ref sig .tc) (h : b ≠ main_v4) (hs : ∀ j, b ≠ ar0_stage j) :
    (Proc.devRef .tc b : DevRef τ sig) ∉ (ar0 (F := F)).foldBufs := by
  intro hb
  rcases Finset.mem_insert.mp hb with hb | hb
  · exact h (Proc.devRef_injective _ hb)
  · obtain ⟨j, hj⟩ := (ar0 (F := F)).mem_stageRefs.mp hb
    exact hs j (Proc.devRef_injective _ hj)

theorem final_arg0 (c : Dev nD) : final m c (Proc.devRef .tc main_arg0) = m ((c : Thread nD τ).loc main_arg0) :=
  final_kept m c main_arg0 (by decide) (ops_kept _ (by decide) (by decide)) (off_site _ (by decide) (by decide))
theorem final_arg1 (c : Dev nD) : final m c (Proc.devRef .tc main_arg1) = m ((c : Thread nD τ).loc main_arg1) :=
  final_kept m c main_arg1 (by decide) (ops_kept _ (by decide) (by decide)) (off_site _ (by decide) (by decide))
theorem final_arg2 (c : Dev nD) : final m c (Proc.devRef .tc main_arg2) = m ((c : Thread nD τ).loc main_arg2) :=
  final_kept m c main_arg2 (by decide) (ops_kept _ (by decide) (by decide)) (off_site _ (by decide) (by decide))
theorem final_arg3 (c : Dev nD) : final m c (Proc.devRef .tc main_arg3) = m ((c : Thread nD τ).loc main_arg3) :=
  final_kept m c main_arg3 (by decide) (ops_kept _ (by decide) (by decide)) (off_site _ (by decide) (by decide))
theorem final_arg4 (c : Dev nD) : final m c (Proc.devRef .tc main_arg4) = m ((c : Thread nD τ).loc main_arg4) :=
  final_kept m c main_arg4 (by decide) (ops_kept _ (by decide) (by decide)) (off_site _ (by decide) (by decide))

/-- each device reads its loss off the region's array, -/
theorem read_v3 (c : Dev nD) (i : S_.Idx) :
    read m c (Proc.devRef .tc main_v3) i = (dat (before m) c).arrAt 7 cfg0.N (ValueIdx.ix2 0 0) := by
  have h : mid m c (Proc.devRef .tc main_v1_2) = (dat (before m) c).arrAt 7 cfg0.N := afterRegion_arr (data m 0 c) (before m c) winFacts0.arr_inj 7
  rw [← h]
  unfold read hostOps1
  after_results_simp
  refine congrArg (mid m c (Proc.devRef .tc main_v1_2)) (funext fun k => ?_)
  match k with
  | 0 => exact Subsingleton.elim (α := Fin 1) _ _
  | 1 => exact Fin.ext ((Nat.zero_add _).trans (Nat.lt_one_iff.mp (Shape.reshapeEquiv shapeCasts_S1x1_S_ i 1).isLt))

/-- and every device ends with the devices' sum. -/
theorem final_v4 (c : Dev nD) : final m c (Proc.devRef .tc main_v4)
    = (ar0 (F := F)).foldGroup fun j => read m ((ar0 (F := F)).peer c j) (Proc.devRef .tc main_v3) :=
  (ar0 (F := F)).after₀_result (read m) c

theorem run_main : θ_run (Pipeline.defs (pcfgs (F := F)) defs₀) (onTc (main (F := F))) ⟨m, fun _ => 0, ρ⟩ fun r =>
    (∀ c : Dev nD, r.2.mem ((c : Thread nD τ).loc main_v4) = final m c (Proc.devRef .tc main_v4)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0 :=
  (θ_run (Pipeline.defs (pcfgs (F := F)) defs₀) _ _).mono (fun _ h => ⟨fun c => ⟨h.1 c main_v4 (by decide),
    (h.1 c main_arg0 (by decide)).trans (final_arg0 m c), (h.1 c main_arg1 (by decide)).trans (final_arg1 m c),
    (h.1 c main_arg2 (by decide)).trans (final_arg2 m c), (h.1 c main_arg3 (by decide)).trans (final_arg3 m c),
    (h.1 c main_arg4 (by decide)).trans (final_arg4 m c)⟩, h.2⟩) (run_all m ρ)

end Cert.FinalLoss

end
-- ==== Proof.LossValue.lean ====
/- The loss of all devices' rows: what `final_ln_loss` leaves in a device's loss array after its 32 tiles is half of the mean square
   summed over the device's rows; the devices' sum is the reference's, over the extended reals. -/
module

public import proofs.«01_k».proof.Proof.LossPsum
public import proofs.«01_k».proof.Proof.Gen.LossReferenceIdeal.Run
public import Idealize.ShloMosaic.Lib.Pointwise
public import Idealize.ShloMosaic.Lib.IdealHost
public import Idealize.ShloMosaic.Lib.Pipeline.ValueKit

@[expose] public section

set_option Elab.async false
set_option maxRecDepth 16384

noncomputable section

namespace Cert.TotalLoss

open Idealize.ShloMosaic Idealize.ShloMosaic.TcCoe Idealize.ShloMosaic.Tactic Idealize.SL.Sem
open Idealize.ShloMosaic.Pipeline
open Cert.LossIdeal Cert.LossIdeal.Gen

/-! ## One row -/

/-- The width of a row, as the number both texts divide by. -/
abbrev width : EReal := Ideal.ofBits .f32 0x44800000#32
abbrev half : EReal := Ideal.ofBits .f32 0x3F000000#32

/-- One element of the residual sum. -/
def res (x r : Fin 1024 → EReal) (k : Fin 1024) : EReal := Ideal.ofBits .f32 0x3FB504F3#32 * x k + r k
/-- The element less the row's mean. -/
def dev (x r : Fin 1024 → EReal) (k : Fin 1024) : EReal := res x r k - Ideal.div (∑ j, res x r j) width
/-- The normalized element against its target. -/
def err (x r t g b : Fin 1024 → EReal) (k : Fin 1024) : EReal :=
  dev x r k * Ideal.rsqrt (Ideal.div (∑ j, dev x r j * dev x r j) width + Ideal.ofBits .f32 0x3727C5AC#32) * g k + b k - t k
/-- The row's sum of squares. -/
def rowLoss (x r t g b : Fin 1024 → EReal) : EReal := ∑ k, err x r t g b k * err x r t g b k

/-! ## A tile -/

theorem pay5_apply (x r : Vec Ideal S256x1024 .f32) (i : Fin 256) (k : Fin 1024) :
    k0_pay5 (F := Ideal) x r (ix2 i k) = res (fun k => x (ix2 i k)) (fun k => r (ix2 i k)) k := by
  unfold res
  pointwise [k0_pay5]

theorem pay6_apply (x r t : Vec Ideal S256x1024 .f32) (g b : Vec Ideal S1x1024 .f32) (i : Fin 256) (k : Fin 1024) :
    k0_pay6 (F := Ideal) x r t g b (ix2 i k)
      = err (fun k => x (ix2 i k)) (fun k => r (ix2 i k)) (fun k => t (ix2 i k)) (fun k => g (ix2 0 k)) (fun k => b (ix2 0 k)) k := by
  unfold err dev
  pointwise [k0_pay6, k0_pay4]
  simp only [pay5_apply]

theorem loss_apply (x r t : Vec Ideal S256x1024 .f32) (g b : Vec Ideal S1x1024 .f32) (k : Fin 128) :
    FinalLoss.lossOf' (F := Ideal) x r t g b (ix2 0 k)
      = Ideal.div (half * ∑ i : Fin 256, rowLoss (fun k => x (ix2 i k)) (fun k => r (ix2 i k)) (fun k => t (ix2 i k)) (fun k => g (ix2 0 k)) (fun k => b (ix2 0 k))) width := by
  have hx : View.ld x FinalLoss.tile = x := View.ld_unit_lit _ _ (by decide)
  have hr : View.ld r FinalLoss.tile = r := View.ld_unit_lit _ _ (by decide)
  have ht : View.ld t FinalLoss.tile = t := View.ld_unit_lit _ _ (by decide)
  have hg : View.ld g FinalLoss.row = g := View.ld_unit_lit _ _ (by decide)
  have hb : View.ld b FinalLoss.row = b := View.ld_unit_lit _ _ (by decide)
  unfold FinalLoss.lossOf' rowLoss
  rw [hx, hr, ht, hg, hb]
  pointwise [k0_pay8, k0_pay7]
  simp only [pay6_apply]

/-! ## The accumulated loss of a device -/

section Device
variable (W : Dev nD → Valuation τ sig (Elt Ideal))

/-- After the last tile the array holds all tiles' sum. -/
theorem last (c : Dev nD) (t : Fin cfg0.N) (ht : t.val + 1 = cfg0.N) (k : Fin 128) :
    (FinalLoss.lossSum W c t.val t.isLt (ix2 0 k) : EReal) = ∑ s : Fin cfg0.N, (FinalLoss.lossAt W c s (ix2 0 k) : EReal) := by
  refine (eq_sum_fin_of_reset_step_last (fun n h => (FinalLoss.lossSum W c n h (ix2 0 k) : EReal)) 32 0 (fun s => (FinalLoss.lossAt W c s (ix2 0 k) : EReal))
    (fun t h => ?_) (fun t h => ?_) (le_of_eq N_0) t ht).trans (zero_add _)
  · have := lt_of_lt_of_eq t.isLt N_0
    obtain ⟨n, hn⟩ := t
    obtain rfl : n = 0 := by simp only at this h; omega
    exact (zero_add (M := EReal) _).symm
  · obtain ⟨n, hn⟩ := t
    cases n with
    | zero => exact absurd rfl h
    | succ n =>
      have hl : View.ld (FinalLoss.lossSum W c n (Nat.lt_of_succ_lt hn)) FinalLoss.lane = FinalLoss.lossSum W c n (Nat.lt_of_succ_lt hn) :=
        View.ld_unit_lit _ _ (by decide)
      show (k0_pay1 (FinalLoss.lossAt W c ⟨n + 1, hn⟩) (View.ld (FinalLoss.lossSum W c n (Nat.lt_of_succ_lt hn)) FinalLoss.lane) (ix2 0 k) : EReal) = _
      rw [hl]
      pointwise [k0_pay1]
      rfl

end Device

/-! ## Sums -/

theorem width_eq : width = ((1024 : ℝ) : EReal) := by
  simp [width, Ideal.ofBits, Ideal.ieee, -EReal.coe_mul]; norm_num
theorem half_eq : half = ((1 / 2 : ℝ) : EReal) := by
  simp [half, Ideal.ofBits, Ideal.ieee, -EReal.coe_mul]; norm_num

/-- A positive number distributes over a sum. -/
theorem coe_mul_sum {n : ℕ} (a : ℝ) (ha : 0 ≤ a) (f : Fin n → EReal) : (a : EReal) * ∑ i, f i = ∑ i, (a : EReal) * f i := by
  induction n with
  | zero => simp
  | succ n ih =>
    rw [Fin.sum_univ_succ, Fin.sum_univ_succ, EReal.left_distrib_of_nonneg_of_ne_top (EReal.coe_nonneg.mpr ha) (EReal.coe_ne_top a), ih]

theorem div_width (x : EReal) : Ideal.div x width = ((1 / 1024 : ℝ) : EReal) * x := by
  rw [width_eq, Ideal.div_coe (by norm_num), mul_comm]

/-- The tiles' halves summed are half of the rows' sum. -/
theorem tiles_eq (f : Fin 8192 → EReal) (F : Fin 32 → Fin 256 → EReal)
    (h : ∀ (s : Fin 32) (k : Fin 256) (hl : s.val * 256 + k.val < 8192), F s k = f ⟨s.val * 256 + k.val, hl⟩) :
    ∑ s : Fin 32, Ideal.div (half * ∑ i : Fin 256, F s i) width = half * ∑ i : Fin 8192, Ideal.div (f i) width := by
  have e1 : ∑ s : Fin 32, ∑ i : Fin 256, F s i = ∑ i : Fin 8192, f i := Fin.sum_mul_add_congr h
  simp only [div_width, half_eq]
  rw [← coe_mul_sum _ (by norm_num), ← coe_mul_sum _ (by norm_num), ← coe_mul_sum _ (by norm_num), e1, mul_left_comm]

/-- The devices' sums are the sum over all rows. -/
theorem devices_eq (f : Fin 65536 → EReal) (F : Fin 8 → Fin 8192 → EReal)
    (h : ∀ (d : Fin 8) (k : Fin 8192) (hl : d.val * 8192 + k.val < 65536), F d k = f ⟨d.val * 8192 + k.val, hl⟩) :
    ∑ d : Fin 8, half * ∑ i : Fin 8192, Ideal.div (F d i) width = half * ∑ i : Fin 65536, Ideal.div (f i) width := by
  have e1 : ∑ d : Fin 8, ∑ i : Fin 8192, Ideal.div (F d i) width = ∑ i : Fin 65536, Ideal.div (f i) width :=
    Fin.sum_mul_add_congr fun d k hl => by rw [h d k hl]
  rw [← e1, half_eq, coe_mul_sum _ (by norm_num)]

/-! ## A device's loss -/

/-- One row's loss among `n` rows. -/
def lossOf {n : ℕ} (x r t : Vec Ideal ⟨2, ![n, 1024]⟩ .f32) (g b : Vec Ideal S1x1024 .f32) (i : Fin n) : EReal :=
  rowLoss (fun k => x (ix2 i k)) (fun k => r (ix2 i k)) (fun k => t (ix2 i k)) (fun k => g (ix2 0 k)) (fun k => b (ix2 0 k))

section Device
variable (W : Dev nD → Valuation τ sig (Elt Ideal))

/-- A device's rows' losses. -/
abbrev rows (c : Dev nD) (i : Fin 8192) : EReal :=
  lossOf (n := 8192) (W c (Proc.devRef .tc main_arg0)) (W c (Proc.devRef .tc main_arg1)) (W c (Proc.devRef .tc main_arg2))
    (W c (Proc.devRef .tc main_arg3)) (W c (Proc.devRef .tc main_arg4)) i

theorem tile_apply (c : Dev nD) (t : Fin cfg0.N) (k : Fin 128) (f : Fin 256 → EReal)
    (hf : ∀ (i : Fin 256) (hl : t.val * 256 + i.val < 8192), f i = rows W c ⟨t.val * 256 + i.val, hl⟩) :
    (FinalLoss.lossAt W c t (ix2 0 k) : EReal) = Ideal.div (half * ∑ i : Fin 256, f i) width := by
  refine (loss_apply _ _ _ _ _ k).trans ?_
  refine congrArg (fun s : EReal => Ideal.div (half * s) width) (Finset.sum_congr (M := EReal) rfl fun i _ => ?_)
  have h0 : ∀ t : Fin cfg0.N, win0_0.index t 0 = t.val ∧ win0_0.index t 1 = 0 := by decide +kernel
  have h1 : ∀ t : Fin cfg0.N, win0_1.index t 0 = t.val ∧ win0_1.index t 1 = 0 := by decide +kernel
  have h2 : ∀ t : Fin cfg0.N, win0_2.index t 0 = t.val ∧ win0_2.index t 1 = 0 := by decide +kernel
  have h3 : ∀ t : Fin cfg0.N, win0_3.index t 0 = 0 ∧ win0_3.index t 1 = 0 := by decide +kernel
  have h4 : ∀ t : Fin cfg0.N, win0_4.index t 0 = 0 ∧ win0_4.index t 1 = 0 := by decide +kernel
  have ht : t.val < 32 := lt_of_lt_of_eq t.isLt N_0
  have hl : t.val * 256 + i.val < 8192 := by have := i.isLt; omega
  have e0 (k : Fin 1024) : FinalLoss.block W c 0 t (ix2 i k) = W c (Proc.devRef .tc main_arg0) (ix2 ⟨t.val * 256 + i.val, hl⟩ k) := by
    blk_ext [FinalLoss.block, (h0 t).1, (h0 t).2]
  have e1 (k : Fin 1024) : FinalLoss.block W c 1 t (ix2 i k) = W c (Proc.devRef .tc main_arg1) (ix2 ⟨t.val * 256 + i.val, hl⟩ k) := by
    blk_ext [FinalLoss.block, (h1 t).1, (h1 t).2]
  have e2 (k : Fin 1024) : FinalLoss.block W c 2 t (ix2 i k) = W c (Proc.devRef .tc main_arg2) (ix2 ⟨t.val * 256 + i.val, hl⟩ k) := by
    blk_ext [FinalLoss.block, (h2 t).1, (h2 t).2]
  have e3 (k : Fin 1024) : FinalLoss.block W c 3 t (ix2 0 k) = W c (Proc.devRef .tc main_arg3) (ix2 0 k) := by
    blk_ext [FinalLoss.block, (h3 t).1, (h3 t).2]
  have e4 (k : Fin 1024) : FinalLoss.block W c 4 t (ix2 0 k) = W c (Proc.devRef .tc main_arg4) (ix2 0 k) := by
    blk_ext [FinalLoss.block, (h4 t).1, (h4 t).2]
  rw [hf i hl]
  unfold rows lossOf
  rw [funext e0, funext e1, funext e2, funext e3, funext e4]

/-- A device's loss. -/
def loss (c : Dev nD) : EReal := half * ∑ i : Fin 8192, Ideal.div (rows W c i) width

theorem array (c : Dev nD) : (FinalLoss.dat W c).arrAt 7 cfg0.N = (fun _ => loss W c : Vec Ideal S1x128 .f32) := by
  refine (FinalLoss.dat W c).arrAt_eq_of_covers 7 _ (by decide +kernel) fun t hf y => ?_
  blk_simp
  rw [FinalLoss.after_7]
  obtain ⟨r, k, rfl⟩ : ∃ (r : Fin 1) (k : Fin 128), y = ix2 r k := ⟨y 0, y 1, eq_ix2 y⟩
  obtain rfl : r = 0 := Subsingleton.elim _ _
  have ht : t.val % 32 = 31 := (flush0_7 t).mp hf
  have hl : t.val < 32 := lt_of_lt_of_eq t.isLt N_0
  have h31 : t.val + 1 = 32 := by omega
  refine (last W c t (h31.trans N_0.symm) k).trans ?_
  let F (s : Fin 32) (i : Fin 256) : EReal := rows W c ⟨s.val * 256 + i.val, by have := s.isLt; have := i.isLt; omega⟩
  have hs (s : Fin cfg0.N) : s.val < 32 := lt_of_lt_of_eq s.isLt N_0
  refine (Finset.sum_congr (M := EReal) rfl fun s _ => tile_apply W c s k (F ⟨s.val, hs s⟩) fun i hl => rfl).trans ?_
  exact tiles_eq (rows W c) F fun s i hl => rfl

end Device

/-! ## The devices' sum -/

theorem peer_eq : ∀ (c : Dev nD) (j : Fin 8), ar0_mem ((ar0_pos c).1, j) = j := by decide

theorem fold_eq (v : Fin 8 → Vec Ideal S_ .f32) (i : S_.Idx) : (ar0 (F := Ideal)).foldGroup v i = (∑ d : Fin 8, v d i : EReal) := by
  rw [Fin.sum_univ_eight]
  rfl

variable (m : (ℓ : Loc nD τ sig) → Buf (Elt Ideal) ℓ)

theorem total (c : Dev nD) (i : S_.Idx) :
    FinalLoss.final m c (Proc.devRef .tc main_v4) i = (∑ d : Fin 8, loss (FinalLoss.before m) d : EReal) := by
  rw [FinalLoss.final_v4]
  refine (fold_eq _ i).trans (Finset.sum_congr (M := EReal) rfl fun d _ => ?_)
  rw [show (ar0 (F := Ideal)).peer c d = d from peer_eq c d, FinalLoss.read_v3, array]

/-! ## The reference -/

theorem reference_apply (m' : (ℓ : Loc Cert.LossReferenceIdeal.nD Cert.LossReferenceIdeal.τ Cert.LossReferenceIdeal.sig) → Buf (Elt Ideal) ℓ)
    (c : Dev Cert.LossReferenceIdeal.nD) (i : S_.Idx) :
    (Cert.LossReferenceIdeal.Value.res_main_v31 m' c i : EReal)
      = half * ∑ i : Fin 65536, Ideal.div (lossOf (n := 65536) (m' (c.tc.loc Cert.LossReferenceIdeal.main_arg0)) (m' (c.tc.loc Cert.LossReferenceIdeal.main_arg1))
        (m' (c.tc.loc Cert.LossReferenceIdeal.main_arg2)) (m' (c.tc.loc Cert.LossReferenceIdeal.main_arg3)) (m' (c.tc.loc Cert.LossReferenceIdeal.main_arg4)) i) width := by
  unfold lossOf rowLoss err dev res
  pointwise [Cert.LossReferenceIdeal.Value.res_main_v31]

theorem block_row (d : Fin 8) (v : Vec Ideal ⟨2, ![65536, 1024]⟩ .f32) (r : Fin 8192) (k : Fin 1024) (hl : d.val * 8192 + r.val < 65536) :
    Layout.block ⟨2, ![8192, 1024]⟩ ⟨2, ![65536, 1024]⟩ 0 8 d v (by decide) (ix2 r k) = v (ix2 ⟨d.val * 8192 + r.val, hl⟩ k) := by
  rw [Layout.block_apply]
  refine congrArg v (funext fun b => Fin.ext ?_)
  rw [Layout.Tiles.idx_val]
  fin_cases b <;> rfl

/-- The devices' sum is the reference's result, when each device holds its block of the rows and all the scale and the shift. -/
theorem result_eq (x r t : Vec Ideal ⟨2, ![65536, 1024]⟩ .f32) (g b : Vec Ideal S1x1024 .f32)
    (hx : ∀ c : Dev nD, m ((c : Thread nD τ).loc main_arg0) = Layout.block ⟨2, ![8192, 1024]⟩ ⟨2, ![65536, 1024]⟩ 0 8 c x)
    (hr : ∀ c : Dev nD, m ((c : Thread nD τ).loc main_arg1) = Layout.block ⟨2, ![8192, 1024]⟩ ⟨2, ![65536, 1024]⟩ 0 8 c r)
    (ht : ∀ c : Dev nD, m ((c : Thread nD τ).loc main_arg2) = Layout.block ⟨2, ![8192, 1024]⟩ ⟨2, ![65536, 1024]⟩ 0 8 c t)
    (hg : ∀ c : Dev nD, m ((c : Thread nD τ).loc main_arg3) = g) (hb : ∀ c : Dev nD, m ((c : Thread nD τ).loc main_arg4) = b)
    (c : Dev nD) (i : S_.Idx) :
    (FinalLoss.final m c (Proc.devRef .tc main_v4) i : EReal) = half * ∑ i : Fin 65536, Ideal.div (lossOf (n := 65536) x r t g b i) width := by
  refine (total m c i).trans ?_
  refine devices_eq (lossOf (n := 65536) x r t g b) (fun d => rows (FinalLoss.before m) d) fun d k hl => ?_
  show lossOf (n := 8192) (m ((d : Thread nD τ).loc main_arg0)) (m ((d : Thread nD τ).loc main_arg1)) (m ((d : Thread nD τ).loc main_arg2))
    (m ((d : Thread nD τ).loc main_arg3)) (m ((d : Thread nD τ).loc main_arg4)) k = _
  rw [hx, hr, ht, hg, hb]
  unfold lossOf
  simp only [block_row d _ k _ hl]

end Cert.TotalLoss

end
-- ==== Proof.MemoryValue.lean ====
/- The attention over the memory: what `memattn_fwd` leaves in its result, element by element, is the reference's softmax attention
   over the extended reals, head by head. -/
module

public import proofs.«01_k».proof.Proof.Gen.MemoryIdeal.Value
public import proofs.«01_k».proof.Proof.Gen.MemoryReferenceIdeal.Run
public import Idealize.ShloMosaic.Lib.Pointwise
public import Idealize.ShloMosaic.Lib.IdealHost
public import Idealize.ShloMosaic.Lib.Pipeline.ValueKit

@[expose] public section

set_option Elab.async false
set_option maxRecDepth 16384

noncomputable section

namespace Cert.MemoryAttention

open Idealize.ShloMosaic Idealize.ShloMosaic.TcCoe Idealize.ShloMosaic.Tactic Idealize.SL.Sem
open Idealize.ShloMosaic.Pipeline
open Cert.MemoryIdeal Cert.MemoryIdeal.Gen

/-! ## Softmax attention of one query over the memory -/

/-- The factor of the logits, 1/8. -/
abbrev eighth : EReal := Ideal.ofBits .f32 0x3E000000#32
/-- The greatest of the logits. -/
def top (l : Fin 256 → EReal) : EReal := Finset.univ.fold max (Ideal.ofBits .f32 0xFF800000#32) l
/-- An unnormalized weight. -/
def wt (l : Fin 256 → EReal) (i : Fin 256) : EReal := Ideal.exp (l i - top l)
/-- The logits' softmax applied to the values `v`. -/
def mix (l v : Fin 256 → EReal) : EReal := ∑ i, Ideal.div (wt l i) (∑ j, wt l j) * v i

/-! ## One head of a tile, as the body computes it -/

/-- The query with the other heads' columns at zero. -/
def masked (mk : IVec S1x256 1) (q : FVec Ideal S512x256 .f32) : FVec Ideal S512x256 .f32 :=
  select (broadcastTo S512x256 (shapeCast S1x256 mk shapeCasts_S1x256_S1x256) broadcasts_S1x256_S512x256) q
    (broadcast S512x256 (Scalar.ofBits .f32 0x00000000#32))

def logits (mk : IVec S1x256 1) (q : FVec Ideal S512x256 .f32) (k : FVec Ideal S256x256 .bf16) : FVec Ideal S512x256 .f32 :=
  mulf (matmul dot_S512x256_S256x256_S512x256_1_1_0_0_n_n none (truncf .bf16 (masked mk q) bitsLt_bf16_f32) k (constant S512x256 .f32 0x00000000#32))
    (broadcast S512x256 (Scalar.ofBits .f32 0x3E000000#32))

def weights (l : FVec Ideal S512x256 .f32) : FVec Ideal S512x256 .f32 :=
  exp (subf l (broadcastTo S512x256 (shapeCast S512x1 (multiReduction .maximumf [1] S512 l 0xFF800000#32 reduces_S512x256_S512 (.inl rfl) rfl)
    shapeCasts_S512_S512x1) broadcasts_S512x1_S512x256))

def attend (w : FVec Ideal S512x256 .f32) (v : FVec Ideal S256x256 .bf16) : FVec Ideal S512x256 .f32 :=
  matmul dot_S512x256_S256x256_S512x256_1_0_0_1_n_n none
    (truncf .bf16 (divf w (broadcastTo S512x256 (shapeCast S512x1 (multiReduction .add [1] S512 w 0x00000000#32 reduces_S512x256_S512 (.inl rfl) rfl)
      shapeCasts_S512_S512x1) broadcasts_S512x1_S512x256)) bitsLt_bf16_f32) v (constant S512x256 .f32 0x00000000#32)

def head (mk : IVec S1x256 1) (q : FVec Ideal S512x256 .f32) (k v : FVec Ideal S256x256 .bf16) (other : FVec Ideal S512x256 .f32) : FVec Ideal S512x256 .f32 :=
  select (broadcastTo S512x256 (shapeCast S1x256 mk shapeCasts_S1x256_S1x256) broadcasts_S1x256_S512x256) (attend (weights (logits mk q k)) v) other

/-- The columns from `a` up to `b`. -/
def cols (a b : BitVec 32) : IVec S1x256 1 :=
  andi (cmpi .sge (iota .tc S1x256 32 [1] iota_S1x256_d1_w32) (broadcast S1x256 a)) (cmpi .slt (iota .tc S1x256 32 [1] iota_S1x256_d1_w32) (broadcast S1x256 b))

def heads (q : FVec Ideal S512x256 .f32) (k v : FVec Ideal S256x256 .bf16) : FVec Ideal S512x256 .f32 :=
  head (cols 192#32 256#32) q k v (head (cols 128#32 192#32) q k v (head (cols 64#32 128#32) q k v (head (cols 0#32 64#32) q k v
    (broadcast S512x256 (Scalar.ofBits .f32 0x00000000#32)))))

/-- What the body leaves is the scaled tokens beside the heads. -/
theorem left_eq (x0 : Vec Ideal S512x768 .f32) (x1 : Vec Ideal S512x256 .f32) (x2 : Vec Ideal S1x256x512 .f32) (x3 : Vec Ideal S1x768 .f32) :
    out0_4 x0 x1 x2 x3 = concatenate S512x1024 1 [⟨S512x768, mulf x0 (broadcastTo S512x768 x3 broadcasts_S1x768_S512x768)⟩,
      ⟨S512x256, heads x1 (k0_pay3 x2) (k0_pay4 x2)⟩] concatenates_S512x768_S512x256_S512x1024_d1 := by
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_3 = x3 := View.ld_unit_lit _ _ (by decide)
  unfold out0_4 k0_pay12 k0_pay13 k0_pay11
  rw [e0, e1, e2, e3]
  frame_out
  rfl

theorem masked_apply (mk : IVec S1x256 1) (q : FVec Ideal S512x256 .f32) (r : Fin 512) (c : Fin 256) :
    masked mk q (ix2 r c) = Scalar.select (mk (ix2 0 c)) (q (ix2 r c)) (0 : EReal) := by
  pointwise [masked]

theorem logits_apply (mk : IVec S1x256 1) (q : FVec Ideal S512x256 .f32) (k : FVec Ideal S256x256 .bf16) (r : Fin 512) (i : Fin 256) :
    logits mk q k (ix2 r i) = (∑ c : Fin 256, (masked mk q (ix2 r c) : EReal) * k (ix2 i c)) * eighth := by
  pointwise [logits]

theorem weights_apply (l : FVec Ideal S512x256 .f32) (r : Fin 512) (i : Fin 256) :
    weights l (ix2 r i) = wt (fun i => l (ix2 r i)) i := by
  unfold wt top
  pointwise [weights]

theorem attend_apply (w : FVec Ideal S512x256 .f32) (v : FVec Ideal S256x256 .bf16) (r : Fin 512) (c : Fin 256) :
    attend w v (ix2 r c) = ∑ i : Fin 256, Ideal.div (w (ix2 r i)) (∑ j : Fin 256, (w (ix2 r j) : EReal)) * v (ix2 i c) := by
  pointwise [attend]

theorem cols_apply (a b : BitVec 32) (c : Fin 256) :
    cols a b (ix2 0 c) = IntOp.andi (IntOp.cmpi .sge (BitVec.ofNat 32 c.val) a) (IntOp.cmpi .slt (BitVec.ofNat 32 c.val) b) := by
  pointwise [cols]

theorem keys_apply (x : Vec Ideal S1x256x512 .f32) (i c : Fin 256) :
    k0_pay3 x (ix2 i c) = x (ix3 0 i ⟨c.val, by have := c.isLt; omega⟩) := by
  pointwise [k0_pay3, k0_pay2]

theorem values_apply (x : Vec Ideal S1x256x512 .f32) (i c : Fin 256) :
    k0_pay4 x (ix2 i c) = x (ix3 0 i ⟨256 + c.val, by have := c.isLt; omega⟩) := by
  pointwise [k0_pay4, k0_pay2]

/-! ## The heads, column by column -/

/-- The columns of head `h` are those of the block `h` of 64. -/
theorem in_head (h : Fin 4) (c : Fin 256) :
    cols (BitVec.ofNat 32 (64 * h.val)) (BitVec.ofNat 32 (64 * h.val + 64)) (ix2 0 c) = if c.val / 64 = h.val then 1#1 else 0#1 := by
  rw [cols_apply]
  revert h c
  decide +kernel

/-- A sum over all columns with the other heads' at zero is the sum over the head's. -/
theorem sum_masked (h : Fin 4) (f g : Fin 256 → EReal) :
    ∑ c : Fin 256, (Scalar.select (if c.val / 64 = h.val then 1#1 else 0#1) (f c) (0 : EReal) : EReal) * g c
      = ∑ d : Fin 64, f ⟨64 * h.val + d.val, by have := h.isLt; have := d.isLt; omega⟩ * g ⟨64 * h.val + d.val, by have := h.isLt; have := d.isLt; omega⟩ := by
  let F (s : Fin 4) (d : Fin 64) : EReal := if s = h then
    f ⟨64 * s.val + d.val, by have := s.isLt; have := d.isLt; omega⟩ * g ⟨64 * s.val + d.val, by have := s.isLt; have := d.isLt; omega⟩ else 0
  have e : ∑ s : Fin 4, ∑ d : Fin 64, F s d = ∑ c : Fin 256, (Scalar.select (if c.val / 64 = h.val then 1#1 else 0#1) (f c) (0 : EReal) : EReal) * g c :=
    Fin.sum_mul_add_congr (M := EReal) (S := 4) (n := 64) (F := F) fun s d hl => by
      have hd : (s.val * 64 + d.val) / 64 = s.val := by have := d.isLt; omega
      have hc : (⟨s.val * 64 + d.val, hl⟩ : Fin 256) = ⟨64 * s.val + d.val, by omega⟩ := Fin.ext (by simp only; omega)
      simp only [F, hd, hc]
      by_cases hs : s = h
      · rw [if_pos hs, if_pos (congrArg Fin.val hs)]; rfl
      · rw [if_neg hs, if_neg fun he => hs (Fin.ext he)]; exact (zero_mul (M₀ := EReal) _).symm
  rw [← e, Finset.sum_eq_single h (fun s _ hs => by simp only [F, if_neg hs]; exact Finset.sum_const_zero) (fun hn => absurd (Finset.mem_univ h) hn)]
  simp only [F, if_pos]

/-- The logits of head `h` in row `r` of a tile. -/
def headLogits (q : FVec Ideal S512x256 .f32) (k : FVec Ideal S256x256 .bf16) (h : Fin 4) (r : Fin 512) (i : Fin 256) : EReal :=
  (∑ d : Fin 64, (q (ix2 r ⟨64 * h.val + d.val, by have := h.isLt; have := d.isLt; omega⟩) : EReal)
    * k (ix2 i ⟨64 * h.val + d.val, by have := h.isLt; have := d.isLt; omega⟩)) * eighth

theorem head_apply (h : Fin 4) (q : FVec Ideal S512x256 .f32) (k v : FVec Ideal S256x256 .bf16) (o : FVec Ideal S512x256 .f32) (r : Fin 512) (c : Fin 256) :
    head (cols (BitVec.ofNat 32 (64 * h.val)) (BitVec.ofNat 32 (64 * h.val + 64))) q k v o (ix2 r c)
      = if c.val / 64 = h.val then mix (headLogits q k h r) (fun i => v (ix2 i c)) else o (ix2 r c) := by
  have e : head (cols (BitVec.ofNat 32 (64 * h.val)) (BitVec.ofNat 32 (64 * h.val + 64))) q k v o (ix2 r c)
      = Scalar.select (cols (BitVec.ofNat 32 (64 * h.val)) (BitVec.ofNat 32 (64 * h.val + 64)) (ix2 0 c))
          (attend (weights (logits (cols (BitVec.ofNat 32 (64 * h.val)) (BitVec.ofNat 32 (64 * h.val + 64))) q k)) v (ix2 r c)) (o (ix2 r c)) := by
    pointwise [head]
  rw [e, in_head, attend_apply]
  have el (i : Fin 256) : logits (cols (BitVec.ofNat 32 (64 * h.val)) (BitVec.ofNat 32 (64 * h.val + 64))) q k (ix2 r i) = headLogits q k h r i := by
    rw [logits_apply]
    unfold headLogits
    simp only [masked_apply, in_head]
    rw [sum_masked]
  simp only [weights_apply, el]
  split_ifs <;> rfl

theorem heads_apply (q : FVec Ideal S512x256 .f32) (k v : FVec Ideal S256x256 .bf16) (r : Fin 512) (c : Fin 256) :
    heads q k v (ix2 r c) = mix (headLogits q k ⟨c.val / 64, by have := c.isLt; omega⟩ r) (fun i => v (ix2 i c)) := by
  unfold heads
  refine (head_apply 3 q k v _ r c).trans ?_
  split_ifs with h3
  · congr 2; exact Fin.ext h3.symm
  refine (head_apply 2 q k v _ r c).trans ?_
  split_ifs with h2
  · congr 2; exact Fin.ext h2.symm
  refine (head_apply 1 q k v _ r c).trans ?_
  split_ifs with h1
  · congr 2; exact Fin.ext h1.symm
  refine (head_apply 0 q k v _ r c).trans ?_
  split_ifs with h0
  · congr 2; exact Fin.ext h0.symm
  · exfalso
    have := c.isLt
    have a3 : ¬ c.val / 64 = 3 := h3
    have a2 : ¬ c.val / 64 = 2 := h2
    have a1 : ¬ c.val / 64 = 1 := h1
    have a0 : ¬ c.val / 64 = 0 := h0
    omega

/-! ## The whole array -/

/-- The logits of the query in row `r`, head `h`, against the memory of the row's batch. -/
def score (p : Vec Ideal S8192x1024 .f32) (kv : Vec Ideal S2x256x512 .f32) (r : Fin 8192) (h : Fin 4) (i : Fin 256) : EReal :=
  (∑ d : Fin 64, (p (ix2 r ⟨768 + (64 * h.val + d.val), by have := h.isLt; have := d.isLt; omega⟩) : EReal)
    * kv (ix3 ⟨r.val / 4096, by have := r.isLt; omega⟩ i ⟨64 * h.val + d.val, by have := h.isLt; have := d.isLt; omega⟩)) * eighth

/-- Column `c` of the attention in row `r`. -/
def read (p : Vec Ideal S8192x1024 .f32) (kv : Vec Ideal S2x256x512 .f32) (r : Fin 8192) (c : Fin 256) : EReal :=
  mix (score p kv r ⟨c.val / 64, by have := c.isLt; omega⟩)
    (fun i => kv (ix3 ⟨r.val / 4096, by have := r.isLt; omega⟩ i ⟨256 + c.val, by have := c.isLt; omega⟩))

/-- The scaled tokens beside the attention. -/
def result (t : Vec Ideal S8192x768 .f32) (p : Vec Ideal S8192x1024 .f32) (kv : Vec Ideal S2x256x512 .f32) (s : Vec Ideal S1x768 .f32) :
    Vec Ideal S8192x1024 .f32 := fun i =>
  if h : (i 1).val < 768 then (t (ix2 (i 0) ⟨(i 1).val, h⟩) : EReal) * s (ix2 0 ⟨(i 1).val, h⟩)
  else read p kv (i 0) ⟨(i 1).val - 768, by have : (i 1).val < 1024 := (i 1).isLt; omega⟩

/-- One element of a tile. -/
theorem tile_apply (x0 : Vec Ideal S512x768 .f32) (x1 : Vec Ideal S512x256 .f32) (x2 : Vec Ideal S1x256x512 .f32) (x3 : Vec Ideal S1x768 .f32)
    (r : Fin 512) (c : Fin 1024) :
    out0_4 x0 x1 x2 x3 (ix2 r c) = if h : c.val < 768 then (x0 (ix2 r ⟨c.val, h⟩) : EReal) * x3 (ix2 0 ⟨c.val, h⟩)
      else heads x1 (k0_pay3 x2) (k0_pay4 x2) (ix2 r ⟨c.val - 768, by have := c.isLt; omega⟩) := by
  rw [left_eq]
  pointwise

variable (m : (ℓ : Loc nD τ sig) → Buf (Elt Ideal) ℓ)

/-- What the call leaves in its result. -/
theorem final (c : Dev nD) : (dats m 0 c).arrAt 4 cfg0.N
    = result (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  obtain ⟨r, k, rfl⟩ : ∃ (r : Fin 512) (k : Fin 1024), y = ix2 r k := ⟨y 0, y 1, eq_ix2 y⟩
  refine (tile_apply _ _ _ _ r k).trans ?_
  have hi : ∀ t : Fin cfg0.N, win0_4.index t 0 = t.val ∧ win0_4.index t 1 = 0 := by decide +kernel
  have h0 : ∀ t : Fin cfg0.N, win0_0.index t 0 = t.val ∧ win0_0.index t 1 = 0 := by decide +kernel
  have h1 : ∀ t : Fin cfg0.N, win0_1.index t 0 = t.val ∧ win0_1.index t 1 = 3 := by decide +kernel
  have h2 : ∀ t : Fin cfg0.N, win0_2.index t 0 = t.val / 8 ∧ win0_2.index t 1 = 0 ∧ win0_2.index t 2 = 0 := by decide +kernel
  have h3 : ∀ t : Fin cfg0.N, win0_3.index t 0 = 0 ∧ win0_3.index t 1 = 0 := by decide +kernel
  have ht : t.val < 16 := lt_of_lt_of_eq t.isLt N_0
  have hr : t.val * 512 + r.val < 8192 := by have := r.isLt; omega
  have hb : (t.val * 512 + r.val) / 4096 = t.val / 8 := by have := r.isLt; omega
  have e : ((win0_4.blk t).view.emb (ix2 r k) : S8192x1024.Idx) = ix2 ⟨t.val * 512 + r.val, hr⟩ k := by
    blk_ext [(hi t).1, (hi t).2]
  have et (j : Fin 768) : iblk m c 0 t (ix2 r j) = m ((c : Thread nD τ).loc main_arg0) (ix2 ⟨t.val * 512 + r.val, hr⟩ j) := by
    blk_ext [iblk, (h0 t).1, (h0 t).2]
  have eq (j : Fin 256) : iblk m c 1 t (ix2 r j) = m ((c : Thread nD τ).loc main_arg1) (ix2 ⟨t.val * 512 + r.val, hr⟩ ⟨768 + j.val, by have := j.isLt; omega⟩) := by
    blk_ext [iblk, (h1 t).1, (h1 t).2]
  have ekv (i : Fin 256) (j : Fin 512) : iblk m c 2 t (ix3 0 i j)
      = m ((c : Thread nD τ).loc main_arg2) (ix3 ⟨(t.val * 512 + r.val) / 4096, by omega⟩ i j) := by
    blk_ext [iblk, (h2 t).1, (h2 t).2.1, (h2 t).2.2, hb]
  have es (j : Fin 768) : iblk m c 3 t (ix2 0 j) = m ((c : Thread nD τ).loc main_arg3) (ix2 0 j) := by
    blk_ext [iblk, (h3 t).1, (h3 t).2]
  refine Eq.trans ?_ (congrArg (result _ _ _ _) e).symm
  refine dite_congr rfl (fun h => congrArg₂ (fun a b : EReal => a * b) (et _) (es _)) fun h => ?_
  rw [heads_apply]
  unfold read
  refine congrArg₂ mix (funext fun i => ?_) (funext fun i => ?_)
  · unfold headLogits score
    refine congrArg (· * eighth) (Finset.sum_congr rfl fun d _ => ?_)
    rw [keys_apply]
    refine congrArg₂ (fun a b : EReal => a * b) ((eq _).trans ?_) ((ekv _ _).trans ?_)
    · rfl
    · rfl
  · rw [values_apply]
    exact ekv _ _

end Cert.MemoryAttention

end
-- ==== Proof.MemoryReference.lean ====
/- The reference of the attention over the memory, read element by element: the scaled tokens beside the softmax attention. -/
module

public import proofs.«01_k».proof.Proof.MemoryValue
public import proofs.«01_k».proof.Proof.Gen.MemoryReferenceIdeal.Run

@[expose] public section

set_option Elab.async false
set_option maxRecDepth 16384

noncomputable section

namespace Cert.MemoryAttention

open Idealize.ShloMosaic Idealize.ShloMosaic.TcCoe Idealize.ShloMosaic.Tactic Idealize.SL.Sem
open Cert.MemoryReferenceIdeal Cert.MemoryReferenceIdeal.Gen

def refLogits (p : FVec Ideal S8192x1024 .f32) (kv : FVec Ideal S2x256x512 .f32) : FVec Ideal S2x4x4096x256 .f32 :=
  mulf (Host.dotGeneral (F := Ideal) dot_S2x4096x4x64_S2x256x4x64_S2x4x4096x256_3_3_1_1_02_02 none
      (shapeCast S2x4096x4x64 (extractStridedSlice S8192x256 ![0, 768] p slices_S8192x1024_S8192x256_0_768) shapeCasts_S8192x256_S2x4096x4x64)
      (shapeCast S2x256x4x64 (extractStridedSlice S2x256x256 ![0, 0, 0] kv slices_S2x256x512_S2x256x256_0_0_0) shapeCasts_S2x256x256_S2x256x4x64))
    (broadcastInDim S2x4x4096x256 ![] bcast_S_S2x4x4096x256 (constant S_ .f32 0x3E000000#32))

def refMax (l : FVec Ideal S2x4x4096x256 .f32) : FVec Ideal S2x4x4096 .f32 :=
  Host.reduce FloatOps.maximumf l (constant S_ .f32 0xFF800000#32) reducesTo_S2x4x4096x256_S2x4x4096_d3 h_S_

def refTop (u : FVec Ideal S2x4x4096 .f32) : FVec Ideal S2x4x4096 .f32 :=
  maximumf (broadcastInDim S2x4x4096 ![] bcast_S_S2x4x4096 (constant S_ .f32 0xFF800000#32)) u

def refWeights (l : FVec Ideal S2x4x4096x256 .f32) (u : FVec Ideal S2x4x4096 .f32) : FVec Ideal S2x4x4096x256 .f32 :=
  Host.exp (subf l (broadcastInDim S2x4x4096x256 ![0, 1, 2, 3] bcast_S2x4x4096x1_S2x4x4096x256_0_1_2_3
    (broadcastInDim S2x4x4096x1 ![0, 1, 2] bcast_S2x4x4096_S2x4x4096x1_0_1_2 u)))

def refSoftmax (w : FVec Ideal S2x4x4096x256 .f32) : FVec Ideal S2x4x4096x256 .f32 :=
  Host.divf w (broadcastInDim S2x4x4096x256 ![0, 1, 2, 3] bcast_S2x4x4096x1_S2x4x4096x256_0_1_2_3
    (broadcastInDim S2x4x4096x1 ![0, 1, 2] bcast_S2x4x4096_S2x4x4096x1_0_1_2
      (Host.reduceAdd w (constant S_ .f32 0x00000000#32) reducesTo_S2x4x4096x256_S2x4x4096_d3 h_S_)))

def refRead (kv : FVec Ideal S2x256x512 .f32) (w : FVec Ideal S2x4x4096x256 .f32) : FVec Ideal S8192x256 .f32 :=
  shapeCast S8192x256 (transpose S2x4096x4x64 [0, 3, 1, 2] (Host.dotGeneral (F := Ideal) dot_S2x256x4x64_S2x4x4096x256_S2x4x64x4096_1_3_3_2_02_01 none
    (shapeCast S2x256x4x64 (extractStridedSlice S2x256x256 ![0, 0, 256] kv slices_S2x256x512_S2x256x256_0_0_256) shapeCasts_S2x256x256_S2x256x4x64) w)
    transposes_S2x4x64x4096_S2x4096x4x64_0_3_1_2) shapeCasts_S2x4096x4x64_S8192x256

def refResult (t : FVec Ideal S8192x768 .f32) (p : FVec Ideal S8192x1024 .f32) (kv : FVec Ideal S2x256x512 .f32) (s : FVec Ideal S1x768 .f32) : FVec Ideal S8192x1024 .f32 :=
  concatenate S8192x1024 1 [⟨S8192x768, mulf t (broadcastInDim S8192x768 ![0, 1] bcast_S1x768_S8192x768_0_1 s)⟩,
    ⟨S8192x256, refRead kv (refSoftmax (refWeights (refLogits p kv) (refTop (refMax (refLogits p kv)))))⟩] concatenates_S8192x768_S8192x256_S8192x1024_d1

theorem congrArg₃ {α β γ δ : Type} (f : α → β → γ → δ) {a a' : α} {b b' : β} {c c' : γ} (ha : a = a') (hb : b = b') (hc : c = c') :
    f a b c = f a' b' c' := by
  subst ha hb hc; rfl

theorem refLogits_apply (p : FVec Ideal S8192x1024 .f32) (kv : FVec Ideal S2x256x512 .f32) (b : Fin 2) (h : Fin 4) (q : Fin 4096) (i : Fin 256) :
    refLogits p kv (ix4 b h q i) = score p kv ⟨b.val * 4096 + q.val, by have := b.isLt; have := q.isLt; omega⟩ h i := by
  unfold score
  pointwise [refLogits]
  have hb : (b.val * 4096 + q.val) / 4096 = b.val := by have := b.isLt; have := q.isLt; omega
  refine congrArg (· * eighth) (Finset.sum_congr rfl fun x _ => ?_)
  congr 2
  · exact congrArg₂ ix2 rfl (Fin.ext (by simp only [Nat.mul_comm]))
  · exact congrArg₃ ix3 (Fin.ext hb.symm) rfl (Fin.ext (by simp only [Nat.mul_comm]))

/-- The greatest along the last axis. -/
theorem max_last {n0 n1 n2 n3 : ℕ} (l : FVec Ideal ⟨4, ![n0, n1, n2, n3]⟩ .f32) (c : FVec Ideal S_ .f32)
    (h : (⟨4, ![n0, n1, n2, n3]⟩ : Shape).ReducesTo [3] ⟨3, ![n0, n1, n2]⟩) (hu : 0 < S_.numel) (a : Fin n0) (b : Fin n1) (d : Fin n2) :
    Host.reduce FloatOps.maximumf l c h hu (ix3 a b d) = Finset.univ.fold max (c (Shape.Idx.first hu) : EReal) fun i : Fin n3 => (l (ix4 a b d i) : EReal) := by
  refine (Host.reduce_eq_fold (α := EReal) max l c h hu _).trans ?_
  exact Shape.ReducesTo.fold_fiber_r4_a3 h _ _ _ _

theorem refMax_apply (l : FVec Ideal S2x4x4096x256 .f32) (b : Fin 2) (h : Fin 4) (q : Fin 4096) :
    refMax l (ix3 b h q) = top (fun i => l (ix4 b h q i)) := by
  unfold refMax
  exact max_last l (constant S_ .f32 0xFF800000#32) reducesTo_S2x4x4096x256_S2x4x4096_d3 h_S_ b h q

theorem refTop_apply (u : FVec Ideal S2x4x4096 .f32) (b : Fin 2) (h : Fin 4) (q : Fin 4096) :
    refTop u (ix3 b h q) = max (Ideal.ofBits .f32 0xFF800000#32) (u (ix3 b h q) : EReal) := by
  pointwise [refTop]

/-- The bound from which the maximum starts changes nothing. -/
theorem max_top (l : Fin 256 → EReal) : max (Ideal.ofBits .f32 0xFF800000#32) (top l) = top l :=
  max_eq_right ((Finset.le_fold_max _).mpr (Or.inl le_rfl))

theorem refWeights_apply (l : FVec Ideal S2x4x4096x256 .f32) (u : FVec Ideal S2x4x4096 .f32) (b : Fin 2) (h : Fin 4) (q : Fin 4096) (i : Fin 256) :
    refWeights l u (ix4 b h q i) = Ideal.exp ((l (ix4 b h q i) : EReal) - u (ix3 b h q)) := by
  pointwise [refWeights]

theorem refSoftmax_apply (w : FVec Ideal S2x4x4096x256 .f32) (b : Fin 2) (h : Fin 4) (q : Fin 4096) (i : Fin 256) :
    refSoftmax w (ix4 b h q i) = Ideal.div (w (ix4 b h q i)) (∑ j : Fin 256, (w (ix4 b h q j) : EReal)) := by
  pointwise [refSoftmax]

theorem refRead_apply (kv : FVec Ideal S2x256x512 .f32) (w : FVec Ideal S2x4x4096x256 .f32) (r : Fin 8192) (c : Fin 256) :
    refRead kv w (ix2 r c) = ∑ i : Fin 256, (w (ix4 ⟨r.val / 4096, by have := r.isLt; omega⟩ ⟨c.val / 64, by have := c.isLt; omega⟩
        ⟨r.val % 4096, by omega⟩ i) : EReal) * kv (ix3 ⟨r.val / 4096, by have := r.isLt; omega⟩ i ⟨256 + c.val, by have := c.isLt; omega⟩) := by
  pointwise [refRead]
  exact Finset.sum_congr rfl fun x _ => mul_comm (_ : EReal) _

theorem refResult_eq (t : FVec Ideal S8192x768 .f32) (p : FVec Ideal S8192x1024 .f32) (kv : FVec Ideal S2x256x512 .f32) (s : FVec Ideal S1x768 .f32) :
    refResult t p kv s = result t p kv s := by
  funext i
  obtain ⟨r, c, rfl⟩ : ∃ (r : Fin 8192) (c : Fin 1024), i = ix2 r c := ⟨i 0, i 1, eq_ix2 i⟩
  unfold result read mix
  pointwise [refResult]
  refine dite_congr rfl (fun _ => rfl) fun h => ?_
  rw [refRead_apply]
  refine Finset.sum_congr rfl fun x _ => ?_
  congr 1
  rw [refSoftmax_apply]
  simp only [refWeights_apply, refTop_apply, refMax_apply, max_top, refLogits_apply]
  have er : (⟨r.val / 4096 * 4096 + r.val % 4096, by have := r.isLt; omega⟩ : Fin 8192) = r := Fin.ext (by show r.val / 4096 * 4096 + r.val % 4096 = r.val; omega)
  simp only [er]
  rfl

end Cert.MemoryAttention

end
-- ==== Proof.MixValue.lean ====
/- The product after the mixers: what `mix` leaves in its result, element by element, is the reference's product over the extended
   reals. -/
module

public import proofs.«01_k».proof.Proof.Gen.MixIdeal.Value
public import proofs.«01_k».proof.Proof.Gen.MixReferenceIdeal.Run
public import Idealize.ShloMosaic.Lib.Pointwise
public import Idealize.ShloMosaic.Lib.Pipeline.ValueKit

@[expose] public section

set_option Elab.async false
set_option maxRecDepth 16384

noncomputable section

namespace Cert.MixProduct

open Idealize.ShloMosaic Idealize.ShloMosaic.TcCoe Idealize.ShloMosaic.Tactic Idealize.SL.Sem
open Idealize.ShloMosaic.Pipeline
open Cert.MixIdeal Cert.MixIdeal.Gen

/-- The product of the rows of `x` and the columns of `w`. -/
def product (x : Vec Ideal S8192x1024 .f32) (w : Vec Ideal S1024x1024 .bf16) : Vec Ideal S8192x1024 .f32 :=
  fun i => (∑ j : Fin 1024, (x (ix2 (i 0) j) : EReal) * w (ix2 j (i 1)))

/-- One element of a tile. -/
theorem tile_apply (x : Vec Ideal S512x1024 .f32) (w : Vec Ideal S1024x1024 .bf16) (r : Fin 512) (k : Fin 1024) :
    k0_pay1 (F := Ideal) x w (ix2 r k) = ∑ j : Fin 1024, (x (ix2 r j) : EReal) * w (ix2 j k) := by
  pointwise [k0_pay1]

variable (m : (ℓ : Loc nD τ sig) → Buf (Elt Ideal) ℓ)

theorem left_eq (c : Dev nD) (t : Fin cfg0.N) : outsAt0 m c t = k0_pay1 (iblk m c 0 t) (iblk m c 1 t) := by
  unfold outsAt0
  frame_out

/-- What the call leaves in its result. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, left_eq]
  obtain ⟨r, k, rfl⟩ : ∃ (r : Fin 512) (k : Fin 1024), y = ix2 r k := ⟨y 0, y 1, eq_ix2 y⟩
  refine (tile_apply _ _ r k).trans ?_
  have hi : ∀ t : Fin cfg0.N, win0_2.index t 0 = t.val ∧ win0_2.index t 1 = 0 := by decide +kernel
  have h0 : ∀ t : Fin cfg0.N, win0_0.index t 0 = t.val ∧ win0_0.index t 1 = 0 := by decide +kernel
  have h1 : ∀ t : Fin cfg0.N, win0_1.index t 0 = 0 ∧ win0_1.index t 1 = 0 := by decide +kernel
  have ht : t.val < 16 := lt_of_lt_of_eq t.isLt N_0
  have hr : t.val * 512 + r.val < 8192 := by have := r.isLt; omega
  have e : ((win0_2.blk t).view.emb (ix2 r k) : S8192x1024.Idx) = ix2 ⟨t.val * 512 + r.val, hr⟩ k := by
    blk_ext [(hi t).1, (hi t).2]
  have ex (j : Fin 1024) : iblk m c 0 t (ix2 r j) = m ((c : Thread nD τ).loc main_arg0) (ix2 ⟨t.val * 512 + r.val, hr⟩ j) := by
    blk_ext [iblk, (h0 t).1, (h0 t).2]
  have ew (j : Fin 1024) : iblk m c 1 t (ix2 j k) = m ((c : Thread nD τ).loc main_arg1) (ix2 j k) := by
    blk_ext [iblk, (h1 t).1, (h1 t).2]
  refine Eq.trans ?_ (congrArg (product _ _) e).symm
  exact Finset.sum_congr (M := EReal) rfl fun j _ => congrArg₂ (fun a b : EReal => a * b) (ex j) (ew j)

/-- The reference's result is the same. -/
theorem reference_eq (x : FVec Ideal Cert.MixReferenceIdeal.S8192x1024 .f32) (w : FVec Ideal Cert.MixReferenceIdeal.S1024x1024 .bf16) :
    Host.dotGeneral (F := Ideal) Cert.MixReferenceIdeal.dot_S8192x1024_S1024x1024_S8192x1024_1_0_0_1_n_n none x
      (extf .f32 w Cert.MixReferenceIdeal.Gen.bitsLt_bf16_f32) = (product x w : FVec Ideal Cert.MixReferenceIdeal.S8192x1024 .f32) := by
  funext i
  obtain ⟨r, k, rfl⟩ : ∃ (r : Fin 8192) (k : Fin 1024), i = ix2 r k := ⟨i 0, i 1, eq_ix2 i⟩
  unfold product
  pointwise

end Cert.MixProduct

end
-- ==== Proof.NormValue.lean ====
/- The layer norm of a residual sum: what `ln_fwd` leaves in its result, element by element, is the reference's layer norm over the
   extended reals. -/
module

public import proofs.«01_k».proof.Proof.Gen.NormIdeal.Value
public import proofs.«01_k».proof.Proof.Gen.NormReferenceIdeal.Run
public import Idealize.ShloMosaic.Lib.Pointwise
public import Idealize.ShloMosaic.Lib.IdealHost
public import Idealize.ShloMosaic.Lib.Pipeline.ValueKit

@[expose] public section

set_option Elab.async false
set_option maxRecDepth 16384

noncomputable section

namespace Cert.LayerNorm

open Idealize.ShloMosaic Idealize.ShloMosaic.TcCoe Idealize.ShloMosaic.Tactic Idealize.SL.Sem
open Idealize.ShloMosaic.Pipeline
open Cert.NormIdeal Cert.NormIdeal.Gen

/-- The width of a row, as the number both texts divide by. -/
abbrev width : EReal := Ideal.ofBits .f32 0x44800000#32
/-- One element of the residual sum. -/
def res (x r : Fin 1024 → EReal) (k : Fin 1024) : EReal := Ideal.ofBits .f32 0x3FB504F3#32 * x k + r k
/-- The element less the row's mean. -/
def dev (x r : Fin 1024 → EReal) (k : Fin 1024) : EReal := res x r k - Ideal.div (∑ j, res x r j) width
/-- The normalized element, scaled and shifted. -/
def row (x r g b : Fin 1024 → EReal) (k : Fin 1024) : EReal :=
  dev x r k * Ideal.rsqrt (Ideal.div (∑ j, dev x r j * dev x r j) width + Ideal.ofBits .f32 0x3727C5AC#32) * g k + b k

/-- The layer norm of every row. -/
def norm (x r : Vec Ideal S8192x1024 .f32) (g b : Vec Ideal S1x1024 .f32) : Vec Ideal S8192x1024 .f32 := fun i =>
  row (fun k => x (ix2 (i 0) k)) (fun k => r (ix2 (i 0) k)) (fun k => g (ix2 0 k)) (fun k => b (ix2 0 k)) (i 1)

/-- One element of a tile. -/
theorem tile_apply (x r : Vec Ideal S512x1024 .f32) (g b : Vec Ideal S1x1024 .f32) (i : Fin 512) (k : Fin 1024) :
    k0_pay1 (F := Ideal) x r g b (ix2 i k) = row (fun k => x (ix2 i k)) (fun k => r (ix2 i k)) (fun k => g (ix2 0 k)) (fun k => b (ix2 0 k)) k := by
  unfold row dev res
  pointwise [k0_pay1]

theorem left_eq (x r : Vec Ideal S512x1024 .f32) (g b : Vec Ideal S1x1024 .f32) : out0_4 x r g b = k0_pay1 x r g b := by
  have e0 : View.ld x r0_0 = x := View.ld_unit_lit _ _ (by decide)
  have e1 : View.ld r r0_0 = r := View.ld_unit_lit _ _ (by decide)
  have e2 : View.ld g r0_1 = g := View.ld_unit_lit _ _ (by decide)
  have e3 : View.ld b r0_1 = b := View.ld_unit_lit _ _ (by decide)
  unfold out0_4
  rw [e0, e1, e2, e3]
  frame_out

variable (m : (ℓ : Loc nD τ sig) → Buf (Elt Ideal) ℓ)

/-- What the call leaves in its result. -/
theorem final (c : Dev nD) : (dats m 0 c).arrAt 4 cfg0.N
    = norm (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4, left_eq]
  obtain ⟨r, k, rfl⟩ : ∃ (r : Fin 512) (k : Fin 1024), y = ix2 r k := ⟨y 0, y 1, eq_ix2 y⟩
  refine (tile_apply _ _ _ _ r k).trans ?_
  have h0 : ∀ t : Fin cfg0.N, win0_0.index t 0 = t.val ∧ win0_0.index t 1 = 0 := by decide +kernel
  have h1 : ∀ t : Fin cfg0.N, win0_1.index t 0 = t.val ∧ win0_1.index t 1 = 0 := by decide +kernel
  have h2 : ∀ t : Fin cfg0.N, win0_2.index t 0 = 0 ∧ win0_2.index t 1 = 0 := by decide +kernel
  have h3 : ∀ t : Fin cfg0.N, win0_3.index t 0 = 0 ∧ win0_3.index t 1 = 0 := by decide +kernel
  have h4 : ∀ t : Fin cfg0.N, win0_4.index t 0 = t.val ∧ win0_4.index t 1 = 0 := by decide +kernel
  have ht : t.val < 16 := lt_of_lt_of_eq t.isLt N_0
  have hr : t.val * 512 + r.val < 8192 := by have := r.isLt; omega
  have e : ((win0_4.blk t).view.emb (ix2 r k) : S8192x1024.Idx) = ix2 ⟨t.val * 512 + r.val, hr⟩ k := by
    blk_ext [(h4 t).1, (h4 t).2]
  have e0 (j : Fin 1024) : iblk m c 0 t (ix2 r j) = m ((c : Thread nD τ).loc main_arg0) (ix2 ⟨t.val * 512 + r.val, hr⟩ j) := by
    blk_ext [iblk, (h0 t).1, (h0 t).2]
  have e1 (j : Fin 1024) : iblk m c 1 t (ix2 r j) = m ((c : Thread nD τ).loc main_arg1) (ix2 ⟨t.val * 512 + r.val, hr⟩ j) := by
    blk_ext [iblk, (h1 t).1, (h1 t).2]
  have e2 (j : Fin 1024) : iblk m c 2 t (ix2 0 j) = m ((c : Thread nD τ).loc main_arg2) (ix2 0 j) := by
    blk_ext [iblk, (h2 t).1, (h2 t).2]
  have e3 (j : Fin 1024) : iblk m c 3 t (ix2 0 j) = m ((c : Thread nD τ).loc main_arg3) (ix2 0 j) := by
    blk_ext [iblk, (h3 t).1, (h3 t).2]
  refine Eq.trans ?_ (congrArg (norm _ _ _ _) e).symm
  rw [funext e0, funext e1, funext e2, funext e3]
  rfl

end Cert.LayerNorm

end
-- ==== Proof.NormReference.lean ====
/- The reference of the layer norm, read element by element. -/
module

public import proofs.«01_k».proof.Proof.NormValue

@[expose] public section

set_option Elab.async false
set_option maxRecDepth 16384

noncomputable section

namespace Cert.LayerNorm

open Idealize.ShloMosaic Idealize.ShloMosaic.TcCoe Idealize.ShloMosaic.Tactic Idealize.SL.Sem
open Cert.NormReferenceIdeal Cert.NormReferenceIdeal.Gen

/-- The residual sum. -/
def refSum (x r : FVec Ideal S8192x1024 .f32) : FVec Ideal S8192x1024 .f32 :=
  addf (mulf (broadcastInDim S8192x1024 ![] bcast_S_S8192x1024 (constant S_ .f32 0x3FB504F3#32)) x) r

/-- The mean of every row. -/
def refMean (h : FVec Ideal S8192x1024 .f32) : FVec Ideal S8192x1 .f32 :=
  Host.divf (broadcastInDim S8192x1 ![0] bcast_S8192_S8192x1_0 (Host.reduceAdd h (constant S_ .f32 0x00000000#32) reducesTo_S8192x1024_S8192_d1 h_S_))
    (broadcastInDim S8192x1 ![] bcast_S_S8192x1 (constant S_ .f32 0x44800000#32))

/-- Every row less its mean. -/
def refDev (h : FVec Ideal S8192x1024 .f32) : FVec Ideal S8192x1024 .f32 :=
  subf h (broadcastInDim S8192x1024 ![0, 1] bcast_S8192x1_S8192x1024_0_1 (refMean h))

def refNorm (d : FVec Ideal S8192x1024 .f32) (v : FVec Ideal S8192x1 .f32) (g b : FVec Ideal S1x1024 .f32) : FVec Ideal S8192x1024 .f32 :=
  addf (mulf (mulf d (broadcastInDim S8192x1024 ![0, 1] bcast_S8192x1_S8192x1024_0_1
      (Host.rsqrt (addf v (broadcastInDim S8192x1 ![] bcast_S_S8192x1 (constant S_ .f32 0x3727C5AC#32))))))
    (broadcastInDim S8192x1024 ![0, 1] bcast_S1x1024_S8192x1024_0_1 g)) (broadcastInDim S8192x1024 ![0, 1] bcast_S1x1024_S8192x1024_0_1 b)

def refResult (x r : FVec Ideal S8192x1024 .f32) (g b : FVec Ideal S1x1024 .f32) : FVec Ideal S8192x1024 .f32 :=
  refNorm (refDev (refSum x r)) (refMean (mulf (refDev (refSum x r)) (refDev (refSum x r)))) g b

theorem refSum_apply (x r : FVec Ideal S8192x1024 .f32) (i : Fin 8192) (k : Fin 1024) :
    refSum x r (ix2 i k) = res (fun k => x (ix2 i k)) (fun k => r (ix2 i k)) k := by
  unfold res
  pointwise [refSum]

theorem refMean_apply (h : FVec Ideal S8192x1024 .f32) (i : Fin 8192) (k : Fin 1) :
    refMean h (ix2 i k) = Ideal.div (∑ j : Fin 1024, (h (ix2 i j) : EReal)) width := by
  pointwise [refMean]

theorem refDev_apply (h : FVec Ideal S8192x1024 .f32) (i : Fin 8192) (k : Fin 1024) :
    refDev h (ix2 i k) = (h (ix2 i k) : EReal) - Ideal.div (∑ j : Fin 1024, (h (ix2 i j) : EReal)) width := by
  pointwise [refDev]
  rw [refMean_apply]

theorem refNorm_apply (d : FVec Ideal S8192x1024 .f32) (v : FVec Ideal S8192x1 .f32) (g b : FVec Ideal S1x1024 .f32) (i : Fin 8192) (k : Fin 1024) :
    refNorm d v g b (ix2 i k)
      = (d (ix2 i k) : EReal) * Ideal.rsqrt (v (ix2 i 0) + Ideal.ofBits .f32 0x3727C5AC#32) * g (ix2 0 k) + b (ix2 0 k) := by
  pointwise [refNorm]

theorem square_apply (d : FVec Ideal S8192x1024 .f32) (i : Fin 8192) (k : Fin 1024) :
    mulf d d (ix2 i k) = (d (ix2 i k) : EReal) * d (ix2 i k) := rfl

/-- The reference's result is the same. -/
theorem reference_eq (x r : FVec Ideal S8192x1024 .f32) (g b : FVec Ideal S1x1024 .f32) : refResult x r g b = norm x r g b := by
  funext i
  obtain ⟨i, k, rfl⟩ : ∃ (a : Fin 8192) (k : Fin 1024), i = ix2 a k := ⟨i 0, i 1, eq_ix2 i⟩
  unfold refResult norm row dev
  rw [refNorm_apply, refMean_apply]
  simp only [square_apply, refDev_apply, refSum_apply]
  rfl

end Cert.LayerNorm

end
-- ==== Proof.ConvGateValue.lean ====
/- The convolution and its gate: what `convgate_fwd` leaves in its result, element by element, over the extended reals. -/
module

public import proofs.«01_k».proof.Proof.Gen.ConvGateIdeal.Value
public import proofs.«01_k».proof.Proof.Gen.ConvGateReferenceIdeal.Run
public import Idealize.ShloMosaic.Lib.Pointwise
public import Idealize.ShloMosaic.Lib.IdealHost
public import Idealize.ShloMosaic.Lib.KernelVsHost
public import Idealize.ShloMosaic.Lib.Pipeline.ValueKit

@[expose] public section

set_option Elab.async false
set_option maxRecDepth 16384

noncomputable section

namespace Cert.ConvolutionGate

open Idealize.ShloMosaic Idealize.ShloMosaic.TcCoe Idealize.ShloMosaic.Tactic Idealize.SL.Sem
open Idealize.ShloMosaic.Pipeline
open Cert.ConvGateIdeal Cert.ConvGateIdeal.Gen

/-- The three taps and the bias. -/
def tap (w₀ w₁ w₂ b x₀ x₁ x₂ : EReal) : EReal := w₀ * x₀ + w₁ * x₁ + w₂ * x₂ + b
/-- The gate's SiLU times the other half. -/
def gated (u g : EReal) : EReal := g * Ideal.logistic g * u

/-- The element `s` rows earlier; nothing stands before the first row. -/
def back {n : ℕ} (x : Fin n → EReal) (s : ℕ) (r : Fin n) : EReal := if s ≤ r.val then x ⟨r.val - s, by have := r.isLt; omega⟩ else 0

/-- The causal convolution of a column. -/
def column {n : ℕ} (w : Fin 8 → EReal) (b : EReal) (x : Fin n → EReal) (r : Fin n) : EReal :=
  tap (w 0) (w 1) (w 2) b (back x 2 r) (back x 1 r) (x r)

/-- Every row's convolution and gate: the first half of the columns, gated by the second. -/
def conv (x : Vec Ideal S2x4096x5632 .f32) (w : Vec Ideal S8x5632 .f32) (b : Vec Ideal S1x5632 .f32) : Vec Ideal S2x4096x2816 .f32 := fun i =>
  gated (column (fun j => w (ix2 j ⟨(i 2).val, by have := (i 2).isLt; change (i 2).val < 2816 at this; omega⟩))
      (b (ix2 0 ⟨(i 2).val, by have := (i 2).isLt; change (i 2).val < 2816 at this; omega⟩))
      (fun r => x (ix3 (i 0) r ⟨(i 2).val, by have := (i 2).isLt; change (i 2).val < 2816 at this; omega⟩)) (i 1))
    (column (fun j => w (ix2 j ⟨2816 + (i 2).val, by have := (i 2).isLt; change (i 2).val < 2816 at this; omega⟩))
      (b (ix2 0 ⟨2816 + (i 2).val, by have := (i 2).isLt; change (i 2).val < 2816 at this; omega⟩))
      (fun r => x (ix3 (i 0) r ⟨2816 + (i 2).val, by have := (i 2).isLt; change (i 2).val < 2816 at this; omega⟩)) (i 1))

/-- One block's convolution and gate. -/
def block (x₀ x₁ : Vec Ideal S1x4096x128 .f32) (w₀ w₁ : Vec Ideal S8x128 .f32) (b₀ b₁ : Vec Ideal S1x128 .f32) : Vec Ideal S1x4096x128 .f32 := fun i =>
  gated (column (fun j => w₀ (ix2 j (i 2))) (b₀ (ix2 0 (i 2))) (fun r => x₀ (ix3 0 r (i 2))) (i 1))
    (column (fun j => w₁ (ix2 j (i 2))) (b₁ (ix2 0 (i 2))) (fun r => x₁ (ix3 0 r (i 2))) (i 1))

/-- The rows of a chunk under the eight before it, convolved. -/
def taps (e : FVec Ideal S520x128 .f32) (w₀ w₁ w₂ b : Vec Ideal S1x128 .f32) : FVec Ideal S520x128 .f32 :=
  addf (addf (addf (mulf (broadcastTo S520x128 w₀ broadcasts_S1x128_S520x128) (dynamicRotate 0 2#32 none e rotates_S520x128_d0))
        (mulf (broadcastTo S520x128 w₁ broadcasts_S1x128_S520x128) (dynamicRotate 0 1#32 none e rotates_S520x128_d0)))
      (mulf (broadcastTo S520x128 w₂ broadcasts_S1x128_S520x128) e))
    (broadcastTo S520x128 b broadcasts_S1x128_S520x128)

/-- A chunk of the result from the two convolved halves. -/
def chunk (u g : FVec Ideal S520x128 .f32) : FVec Ideal S1x512x128 .f32 :=
  shapeCast S1x512x128 (extractStridedSlice S512x128 ![8, 0] (mulf (mulf g (logistic g)) u) slices_S520x128_o8_0_S512x128) shapeCasts_S512x128_S1x512x128

theorem taps_apply (e : FVec Ideal S520x128 .f32) (w₀ w₁ w₂ b : Vec Ideal S1x128 .f32) (r : Fin 512) (k : Fin 128) :
    taps e w₀ w₁ w₂ b (ix2 ⟨8 + r.val, by have := r.isLt; omega⟩ k)
      = tap (w₀ (ix2 0 k)) (w₁ (ix2 0 k)) (w₂ (ix2 0 k)) (b (ix2 0 k)) (e (ix2 ⟨6 + r.val, by have := r.isLt; omega⟩ k))
          (e (ix2 ⟨7 + r.val, by have := r.isLt; omega⟩ k)) (e (ix2 ⟨8 + r.val, by have := r.isLt; omega⟩ k)) := by
  have hr := r.isLt
  have e2 : dynamicRotate 0 2#32 none e rotates_S520x128_d0 (ix2 ⟨8 + r.val, by omega⟩ k) = e (ix2 ⟨6 + r.val, by omega⟩ k) :=
    dynamicRotate_apply _ _ _ _ _ _ fun a => by
      fin_cases a
      · show 6 + r.val = (8 + r.val + 520 - 2 % 520) % 520; omega
      · rfl
  have e1 : dynamicRotate 0 1#32 none e rotates_S520x128_d0 (ix2 ⟨8 + r.val, by omega⟩ k) = e (ix2 ⟨7 + r.val, by omega⟩ k) :=
    dynamicRotate_apply _ _ _ _ _ _ fun a => by
      fin_cases a
      · show 7 + r.val = (8 + r.val + 520 - 1 % 520) % 520; omega
      · rfl
  have hb (w : Vec Ideal S1x128 .f32) (j : Fin 520) : broadcastTo S520x128 w broadcasts_S1x128_S520x128 (ix2 j k) = w (ix2 0 k) := by pointwise
  show _ * _ + _ * _ + _ * _ + _ = _
  rw [e1, e2, hb, hb, hb, hb]
  rfl

theorem chunk_apply (u g : FVec Ideal S520x128 .f32) (r : Fin 512) (k : Fin 128) :
    chunk u g (ix3 0 r k) = gated (u (ix2 ⟨8 + r.val, by have := r.isLt; omega⟩ k)) (g (ix2 ⟨8 + r.val, by have := r.isLt; omega⟩ k)) := by
  unfold gated
  pointwise [chunk]

/-- The convolution of a chunk's column, where the extended chunk holds the rows before. -/
theorem column_mid (x : Vec Ideal S1x4096x128 .f32) (w : Vec Ideal S8x128 .f32) (b : Vec Ideal S1x128 .f32) (e : FVec Ideal S520x128 .f32)
    (y : Fin 4096) (r : Fin 512) (k : Fin 128)
    (e6 : e (ix2 ⟨6 + r.val, by have := r.isLt; omega⟩ k) = back (fun r => x (ix3 0 r k)) 2 y)
    (e7 : e (ix2 ⟨7 + r.val, by have := r.isLt; omega⟩ k) = back (fun r => x (ix3 0 r k)) 1 y)
    (e8 : e (ix2 ⟨8 + r.val, by have := r.isLt; omega⟩ k) = x (ix3 0 y k)) :
    taps e (View.ld w r0_1) (View.ld w r0_2) (View.ld w r0_3) (View.ld b r0_4) (ix2 ⟨8 + r.val, by have := r.isLt; omega⟩ k)
      = column (fun j => w (ix2 j k)) (b (ix2 0 k)) (fun r => x (ix3 0 r k)) y := by
  have f0 : View.ld w r0_1 (ix2 0 k) = w (ix2 0 k) := View.ld_unit_apply_of _ _ _ _ _ _ fun a =>
    match a with
    | 0 => rfl
    | 1 => (Nat.zero_add _).symm
  have f1 : View.ld w r0_2 (ix2 0 k) = w (ix2 1 k) := View.ld_unit_apply_of _ _ _ _ _ _ fun a =>
    match a with
    | 0 => rfl
    | 1 => (Nat.zero_add _).symm
  have f2 : View.ld w r0_3 (ix2 0 k) = w (ix2 2 k) := View.ld_unit_apply_of _ _ _ _ _ _ fun a =>
    match a with
    | 0 => rfl
    | 1 => (Nat.zero_add _).symm
  have f3 : View.ld b r0_4 (ix2 0 k) = b (ix2 0 k) := View.ld_unit_apply_of _ _ _ _ _ _ fun a =>
    match a with
    | 0 => rfl
    | 1 => (Nat.zero_add _).symm
  rw [taps_apply]
  erw [f0, f1, f2, f3]
  rw [e6, e7, e8]
  rfl

theorem cast_ext (v : FVec Ideal S1x520x128 .f32) (j : Fin 520) (k : Fin 128) :
    shapeCast S520x128 v shapeCasts_S1x520x128_S520x128 (ix2 j k) = v (ix3 0 j k) := by
  pointwise

/-- The extended chunk of a later chunk. -/
theorem ext_mid (x : Vec Ideal S1x4096x128 .f32) (o : ℕ) (inb : ∀ a, (![0, o, 0] : Fin 3 → ℕ) a + S1x520x128.size a ≤ S1x4096x128.size a)
    (j : Fin 520) (k : Fin 128) (ho : o + 520 ≤ 4096) :
    shapeCast S520x128 (View.ld x (Rect.unit (s := S1x4096x128) ![0, o, 0] S1x520x128.size inb)) shapeCasts_S1x520x128_S520x128 (ix2 j k)
      = x (ix3 0 ⟨o + j.val, by have := j.isLt; omega⟩ k) := by
  refine (cast_ext _ j k).trans (View.ld_unit_apply_of _ _ _ _ _ _ fun a => ?_)
  match a with
  | 0 => rfl
  | 1 => rfl
  | 2 => exact (Nat.zero_add _).symm

theorem back_of_le {n : ℕ} (x : Fin n → EReal) (s : ℕ) (r : Fin n) (h : s ≤ r.val) : back x s r = x ⟨r.val - s, by have := r.isLt; omega⟩ := if_pos h
theorem back_of_lt {n : ℕ} (x : Fin n → EReal) (s : ℕ) (r : Fin n) (h : r.val < s) : back x s r = 0 := if_neg (by omega)

/-- The zero rows over the first chunk. -/
def first (x : Vec Ideal S1x512x128 .f32) : FVec Ideal S520x128 .f32 :=
  concatenate S520x128 0 [⟨S8x128, broadcast S8x128 (Scalar.ofBits .f32 0x00000000#32 : Ideal .f32)⟩,
    ⟨S512x128, shapeCast S512x128 x shapeCasts_S1x512x128_S512x128⟩] concatenates_S8x128_S512x128_S520x128_d0

theorem first_apply (x : Vec Ideal S1x512x128 .f32) (j : Fin 520) (k : Fin 128) :
    first x (ix2 j k) = if h : j.val < 8 then (0 : EReal) else x (ix3 0 ⟨j.val - 8, by have := j.isLt; omega⟩ k) := by
  pointwise [first]

/-- A chunk of the result is the block there, when both extended chunks are the block's rows from eight before it. -/
theorem chunk_eq (x₀ x₁ : Vec Ideal S1x4096x128 .f32) (w₀ w₁ : Vec Ideal S8x128 .f32) (b₀ b₁ : Vec Ideal S1x128 .f32) (e₀ e₁ : FVec Ideal S520x128 .f32)
    (o : ℕ) (ho : o + 512 ≤ 4096)
    (h₀ : ∀ (j : Fin 520) (k : Fin 128), 6 ≤ j.val → e₀ (ix2 j k) = if h : 8 ≤ o + j.val then x₀ (ix3 0 ⟨o + j.val - 8, by have := j.isLt; omega⟩ k) else 0)
    (h₁ : ∀ (j : Fin 520) (k : Fin 128), 6 ≤ j.val → e₁ (ix2 j k) = if h : 8 ≤ o + j.val then x₁ (ix3 0 ⟨o + j.val - 8, by have := j.isLt; omega⟩ k) else 0)
    (y : S1x4096x128.Idx) (x : S1x512x128.Idx) (hy : (y 1).val = o + (x 1).val) (hk : (y 2).val = (x 2).val) :
    chunk (taps e₀ (View.ld w₀ r0_1) (View.ld w₀ r0_2) (View.ld w₀ r0_3) (View.ld b₀ r0_4))
        (taps e₁ (View.ld w₁ r0_1) (View.ld w₁ r0_2) (View.ld w₁ r0_3) (View.ld b₁ r0_4)) x
      = block x₀ x₁ w₀ w₁ b₀ b₁ y := by
  obtain ⟨r, k, rfl⟩ : ∃ (r : Fin 512) (k : Fin 128), x = ix3 0 r k := ⟨x 1, x 2, (eq_ix3 x).trans (congrArg (fun a : Fin 1 => ix3 a (x 1) (x 2)) (Subsingleton.elim _ _))⟩
  obtain ⟨t, l, rfl⟩ : ∃ (t : Fin 4096) (l : Fin 128), y = ix3 0 t l := ⟨y 1, y 2, (eq_ix3 y).trans (congrArg (fun a : Fin 1 => ix3 a (y 1) (y 2)) (Subsingleton.elim _ _))⟩
  change t.val = o + r.val at hy
  obtain rfl : l = k := Fin.ext hk
  have hr := r.isLt
  have rows (z : Vec Ideal S1x4096x128 .f32) (e : FVec Ideal S520x128 .f32)
      (h : ∀ (j : Fin 520) (k : Fin 128), 6 ≤ j.val → e (ix2 j k) = if h : 8 ≤ o + j.val then z (ix3 0 ⟨o + j.val - 8, by have := j.isLt; omega⟩ k) else 0)
      (s : ℕ) (hs : s ≤ 2) : e (ix2 ⟨8 - s + r.val, by omega⟩ l) = back (fun r => z (ix3 0 r l)) s t := by
    rw [h _ _ (by show 6 ≤ 8 - s + r.val; omega)]
    by_cases hc : s ≤ t.val
    · rw [back_of_le _ _ _ hc, dif_pos (by show 8 ≤ o + (8 - s + r.val); omega)]
      exact congrArg (fun r => z (ix3 0 r l)) (Fin.ext (by show o + (8 - s + r.val) - 8 = t.val - s; omega))
    · rw [back_of_lt _ _ _ (by omega), dif_neg (by show ¬ 8 ≤ o + (8 - s + r.val); omega)]
  refine (chunk_apply _ _ r l).trans ?_
  rw [column_mid x₀ w₀ b₀ e₀ t r l (rows _ _ h₀ 2 (by omega)) (rows _ _ h₀ 1 (by omega)) (rows _ _ h₀ 0 (by omega)),
    column_mid x₁ w₁ b₁ e₁ t r l (rows _ _ h₁ 2 (by omega)) (rows _ _ h₁ 1 (by omega)) (rows _ _ h₁ 0 (by omega))]
  rfl

/-- The first chunk. -/
theorem chunk_first (x₀ x₁ : Vec Ideal S1x4096x128 .f32) (w₀ w₁ : Vec Ideal S8x128 .f32) (b₀ b₁ : Vec Ideal S1x128 .f32)
    (y : S1x4096x128.Idx) (x : S1x512x128.Idx) (hy : (y 1).val = (x 1).val) (hk : (y 2).val = (x 2).val) :
    chunk (taps (first (View.ld x₀ r0_0)) (View.ld w₀ r0_1) (View.ld w₀ r0_2) (View.ld w₀ r0_3) (View.ld b₀ r0_4))
        (taps (first (View.ld x₁ r0_0)) (View.ld w₁ r0_1) (View.ld w₁ r0_2) (View.ld w₁ r0_3) (View.ld b₁ r0_4)) x
      = block x₀ x₁ w₀ w₁ b₀ b₁ y := by
  have f (z : Vec Ideal S1x4096x128 .f32) (j : Fin 520) (k : Fin 128) :
      first (View.ld z r0_0) (ix2 j k) = if h : 8 ≤ 0 + j.val then z (ix3 0 ⟨0 + j.val - 8, by have := j.isLt; omega⟩ k) else 0 := by
    refine (first_apply _ j k).trans ?_
    by_cases hj : j.val < 8
    · rw [dif_pos hj, dif_neg (by omega)]
    · rw [dif_neg hj, dif_pos (by omega)]
      refine View.ld_unit_apply_of _ _ _ _ _ _ fun a => ?_
      match a with
      | 0 => rfl
      | 1 => exact (show 0 + j.val - 8 = 0 + (j.val - 8) by omega)
      | 2 => exact (Nat.zero_add _).symm
  exact chunk_eq _ _ _ _ _ _ _ _ 0 (by omega) (fun j k _ => f _ j k) (fun j k _ => f _ j k) y x (hy.trans (Nat.zero_add _).symm) hk

/-- A later chunk. -/
theorem chunk_mid (o : ℕ) (inb : ∀ a, (![0, o, 0] : Fin 3 → ℕ) a + S1x520x128.size a ≤ S1x4096x128.size a) (ho : o + 520 ≤ 4096)
    (x₀ x₁ : Vec Ideal S1x4096x128 .f32) (w₀ w₁ : Vec Ideal S8x128 .f32) (b₀ b₁ : Vec Ideal S1x128 .f32)
    (y : S1x4096x128.Idx) (x : S1x512x128.Idx) (hy : (y 1).val = o + 8 + (x 1).val) (hk : (y 2).val = (x 2).val) :
    chunk (taps (shapeCast S520x128 (View.ld x₀ (Rect.unit (s := S1x4096x128) ![0, o, 0] S1x520x128.size inb)) shapeCasts_S1x520x128_S520x128)
          (View.ld w₀ r0_1) (View.ld w₀ r0_2) (View.ld w₀ r0_3) (View.ld b₀ r0_4))
        (taps (shapeCast S520x128 (View.ld x₁ (Rect.unit (s := S1x4096x128) ![0, o, 0] S1x520x128.size inb)) shapeCasts_S1x520x128_S520x128)
          (View.ld w₁ r0_1) (View.ld w₁ r0_2) (View.ld w₁ r0_3) (View.ld b₁ r0_4)) x
      = block x₀ x₁ w₀ w₁ b₀ b₁ y := by
  have f (z : Vec Ideal S1x4096x128 .f32) (j : Fin 520) (k : Fin 128) :
      shapeCast S520x128 (View.ld z (Rect.unit (s := S1x4096x128) ![0, o, 0] S1x520x128.size inb)) shapeCasts_S1x520x128_S520x128 (ix2 j k)
        = if h : 8 ≤ o + 8 + j.val then z (ix3 0 ⟨o + 8 + j.val - 8, by have := j.isLt; omega⟩ k) else 0 := by
    rw [dif_pos (by omega)]
    refine (ext_mid z o inb j k ho).trans (congrArg (fun r => z (ix3 0 r k)) (Fin.ext ?_))
    show o + j.val = o + 8 + j.val - 8
    omega
  exact chunk_eq _ _ _ _ _ _ _ _ (o + 8) (by omega) (fun j k _ => f _ j k) (fun j k _ => f _ j k) y x hy hk

/-- What the body leaves of one block. -/
theorem left_eq (x₀ x₁ : Vec Ideal S1x4096x128 .f32) (w₀ w₁ : Vec Ideal S8x128 .f32) (b₀ b₁ : Vec Ideal S1x128 .f32) :
    out0_6 x₀ x₁ w₀ w₁ b₀ b₁ = block x₀ x₁ w₀ w₁ b₀ b₁ := by
  funext y
  canon_tiles x h
  · exact chunk_mid 3576 _ (by omega) x₀ x₁ w₀ w₁ b₀ b₁ y x h1 h2
  · exact chunk_mid 3064 _ (by omega) x₀ x₁ w₀ w₁ b₀ b₁ y x h1 h2
  · exact chunk_mid 2552 _ (by omega) x₀ x₁ w₀ w₁ b₀ b₁ y x h1 h2
  · exact chunk_mid 2040 _ (by omega) x₀ x₁ w₀ w₁ b₀ b₁ y x h1 h2
  · exact chunk_mid 1528 _ (by omega) x₀ x₁ w₀ w₁ b₀ b₁ y x h1 h2
  · exact chunk_mid 1016 _ (by omega) x₀ x₁ w₀ w₁ b₀ b₁ y x h1 h2
  · exact chunk_mid 504 _ (by omega) x₀ x₁ w₀ w₁ b₀ b₁ y x h1 h2
  · exact chunk_first x₀ x₁ w₀ w₁ b₀ b₁ y x h1 h2

variable (m : (ℓ : Loc nD τ sig) → Buf (Elt Ideal) ℓ)

/-- What the call leaves in its result. -/
theorem final (c : Dev nD) : (dats m 0 c).arrAt 6 cfg0.N
    = conv (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, left_eq]
  obtain ⟨r, k, rfl⟩ : ∃ (r : Fin 4096) (k : Fin 128), y = ix3 0 r k :=
    ⟨y 1, y 2, (eq_ix3 y).trans (congrArg (fun a : Fin 1 => ix3 a (y 1) (y 2)) (Subsingleton.elim _ _))⟩
  have h0 : ∀ t : Fin cfg0.N, win0_0.index t 0 = t.val / 22 ∧ win0_0.index t 1 = 0 ∧ win0_0.index t 2 = t.val % 22 := by decide +kernel
  have h1 : ∀ t : Fin cfg0.N, win0_1.index t 0 = t.val / 22 ∧ win0_1.index t 1 = 0 ∧ win0_1.index t 2 = t.val % 22 + 22 := by decide +kernel
  have h2 : ∀ t : Fin cfg0.N, win0_2.index t 0 = 0 ∧ win0_2.index t 1 = t.val % 22 := by decide +kernel
  have h3 : ∀ t : Fin cfg0.N, win0_3.index t 0 = 0 ∧ win0_3.index t 1 = t.val % 22 + 22 := by decide +kernel
  have h4 : ∀ t : Fin cfg0.N, win0_4.index t 0 = 0 ∧ win0_4.index t 1 = t.val % 22 := by decide +kernel
  have h5 : ∀ t : Fin cfg0.N, win0_5.index t 0 = 0 ∧ win0_5.index t 1 = t.val % 22 + 22 := by decide +kernel
  have h6 : ∀ t : Fin cfg0.N, win0_6.index t 0 = t.val / 22 ∧ win0_6.index t 1 = 0 ∧ win0_6.index t 2 = t.val % 22 := by decide +kernel
  have ht : t.val < 44 := lt_of_lt_of_eq t.isLt N_0
  have hb : t.val / 22 < 2 := by omega
  have hk := k.isLt
  have hj : t.val % 22 < 22 := Nat.mod_lt _ (by decide)
  have e : ((win0_6.blk t).view.emb (ix3 0 r k) : S2x4096x2816.Idx) = ix3 ⟨t.val / 22, hb⟩ r ⟨t.val % 22 * 128 + k.val, by omega⟩ := by
    blk_ext [(h6 t).1, (h6 t).2.1, (h6 t).2.2]
  have e0 (r : Fin 4096) : iblk m c 0 t (ix3 0 r k) = m ((c : Thread nD τ).loc main_arg0) (ix3 ⟨t.val / 22, hb⟩ r ⟨t.val % 22 * 128 + k.val, by omega⟩) := by
    blk_ext [iblk, (h0 t).1, (h0 t).2.1, (h0 t).2.2]
  have e1 (r : Fin 4096) : iblk m c 1 t (ix3 0 r k) = m ((c : Thread nD τ).loc main_arg0) (ix3 ⟨t.val / 22, hb⟩ r ⟨2816 + (t.val % 22 * 128 + k.val), by omega⟩) := by
    blk_ext [iblk, (h1 t).1, (h1 t).2.1, (h1 t).2.2]
  have e2 (j : Fin 8) : iblk m c 2 t (ix2 j k) = m ((c : Thread nD τ).loc main_arg1) (ix2 j ⟨t.val % 22 * 128 + k.val, by omega⟩) := by
    blk_ext [iblk, (h2 t).1, (h2 t).2]
  have e3 (j : Fin 8) : iblk m c 3 t (ix2 j k) = m ((c : Thread nD τ).loc main_arg1) (ix2 j ⟨2816 + (t.val % 22 * 128 + k.val), by omega⟩) := by
    blk_ext [iblk, (h3 t).1, (h3 t).2]
  have e4 : iblk m c 4 t (ix2 0 k) = m ((c : Thread nD τ).loc main_arg2) (ix2 0 ⟨t.val % 22 * 128 + k.val, by omega⟩) := by
    blk_ext [iblk, (h4 t).1, (h4 t).2]
  have e5 : iblk m c 5 t (ix2 0 k) = m ((c : Thread nD τ).loc main_arg2) (ix2 0 ⟨2816 + (t.val % 22 * 128 + k.val), by omega⟩) := by
    blk_ext [iblk, (h5 t).1, (h5 t).2]
  refine Eq.trans ?_ (congrArg (conv _ _ _) e).symm
  show gated (column (fun j => iblk m c 2 t (ix2 j k)) (iblk m c 4 t (ix2 0 k)) (fun r => iblk m c 0 t (ix3 0 r k)) r)
    (column (fun j => iblk m c 3 t (ix2 j k)) (iblk m c 5 t (ix2 0 k)) (fun r => iblk m c 1 t (ix3 0 r k)) r) = _
  rw [funext e0, funext e1, funext e2, funext e3, e4, e5]
  rfl

end Cert.ConvolutionGate

end
-- ==== Proof.ConvGateReference.lean ====
/- The reference of the convolution and its gate, read element by element. -/
module

public import proofs.«01_k».proof.Proof.ConvGateValue

@[expose] public section

set_option Elab.async false
set_option maxRecDepth 16384

noncomputable section

namespace Cert.ConvolutionGate

open Idealize.ShloMosaic Idealize.ShloMosaic.TcCoe Idealize.ShloMosaic.Tactic Idealize.SL.Sem
open Cert.ConvGateReferenceIdeal Cert.ConvGateReferenceIdeal.Gen

/-- Two zero rows over every sequence. -/
def refPad (x : FVec Ideal S2x4096x5632 .f32) : FVec Ideal S2x4098x5632 .f32 :=
  pad S2x4098x5632 ![0, 2, 0] ![0, 0, 0] ![0, 0, 0] x (sitofp .f32 (constantI S_ 32 0#32)) pads_S2x4096x5632_S2x4098x5632_000_200_000 h_S_

/-- One row of the weights, at every place. -/
def refRow (w : FVec Ideal S1x5632 .f32) : FVec Ideal S2x4096x5632 .f32 :=
  broadcastInDim S2x4096x5632 ![0, 1, 2] bcast_S1x1x5632_S2x4096x5632_0_1_2
    (broadcastInDim S1x1x5632 ![2] bcast_S5632_S1x1x5632_2 (shapeCast S5632 w shapeCasts_S1x5632_S5632))

def refBias (b : FVec Ideal S1x5632 .f32) : FVec Ideal S2x4096x5632 .f32 :=
  broadcastInDim S2x4096x5632 ![0, 1, 2] bcast_S1x1x5632_S2x4096x5632_0_1_2 (broadcastInDim S1x1x5632 ![1, 2] bcast_S1x5632_S1x1x5632_1_2 b)

/-- The convolution. -/
def refConv (p : FVec Ideal S2x4098x5632 .f32) (w : FVec Ideal S8x5632 .f32) (b : FVec Ideal S1x5632 .f32) : FVec Ideal S2x4096x5632 .f32 :=
  addf (addf (addf
      (mulf (refRow (extractStridedSlice S1x5632 ![0, 0] w slices_S8x5632_S1x5632_0_0)) (extractStridedSlice S2x4096x5632 ![0, 0, 0] p slices_S2x4098x5632_S2x4096x5632_0_0_0))
      (mulf (refRow (extractStridedSlice S1x5632 ![1, 0] w slices_S8x5632_S1x5632_1_0)) (extractStridedSlice S2x4096x5632 ![0, 1, 0] p slices_S2x4098x5632_S2x4096x5632_0_1_0)))
      (mulf (refRow (extractStridedSlice S1x5632 ![2, 0] w slices_S8x5632_S1x5632_2_0)) (extractStridedSlice S2x4096x5632 ![0, 2, 0] p slices_S2x4098x5632_S2x4096x5632_0_2_0)))
    (refBias b)

def refLow (h : FVec Ideal S2x4096x5632 .f32) : FVec Ideal S2x4096x2816 .f32 := extractStridedSlice S2x4096x2816 ![0, 0, 0] h slices_S2x4096x5632_S2x4096x2816_0_0_0
def refHigh (h : FVec Ideal S2x4096x5632 .f32) : FVec Ideal S2x4096x2816 .f32 := extractStridedSlice S2x4096x2816 ![0, 0, 2816] h slices_S2x4096x5632_S2x4096x2816_0_0_2816

/-- The gate. -/
def refGate (u g : FVec Ideal S2x4096x2816 .f32) : FVec Ideal S2x4096x2816 .f32 :=
  mulf (mulf g (Host.divf (broadcastInDim S2x4096x2816 ![] bcast_S_S2x4096x2816 (constant S_ .f32 0x3F800000#32))
    (addf (broadcastInDim S2x4096x2816 ![] bcast_S_S2x4096x2816 (constant S_ .f32 0x3F800000#32)) (Host.exp (Host.negf g))))) u

def refResult (x : FVec Ideal S2x4096x5632 .f32) (w : FVec Ideal S8x5632 .f32) (b : FVec Ideal S1x5632 .f32) : FVec Ideal S2x4096x2816 .f32 :=
  refGate (refLow (refConv (refPad x) w b)) (refHigh (refConv (refPad x) w b))

theorem refPad_apply (x : FVec Ideal S2x4096x5632 .f32) (s : ℕ) (hs : s ≤ 2) (a : Fin 2) (r : Fin 4096) (k : Fin 5632) :
    refPad x (ix3 a ⟨2 - s + r.val, by have := r.isLt; omega⟩ k) = back (fun r => x (ix3 a r k)) s r := by
  have hr := r.isLt
  unfold refPad
  by_cases h : s ≤ r.val
  · rw [back_of_le _ _ _ h]
    refine pad_apply_of_inside _ _ _ _ _ _ _ _ (ix3 a ⟨r.val - s, by omega⟩ k) fun c => ?_
    match c with
    | 0 => exact (show a.val = 0 + a.val * (0 + 1) by omega)
    | 1 => exact (show 2 - s + r.val = 2 + (r.val - s) * (0 + 1) by omega)
    | 2 => exact (show k.val = 0 + k.val * (0 + 1) by omega)
  · rw [back_of_lt _ _ _ (by omega)]
    refine (pad_apply_of_not_inside _ _ _ _ _ _ _ _ (1 : Fin 3) fun h => ?_).trans ?_
    · have h0 : 2 ≤ 2 - s + r.val := h.1
      omega
    · show ((((0#32 : BitVec 32).toInt : ℤ) : ℝ) : EReal) = 0
      simp

theorem refRow_apply (w : FVec Ideal S1x5632 .f32) (a : Fin 2) (r : Fin 4096) (k : Fin 5632) : refRow w (ix3 a r k) = w (ix2 0 k) := by
  pointwise [refRow]

theorem refBias_apply (w : FVec Ideal S1x5632 .f32) (a : Fin 2) (r : Fin 4096) (k : Fin 5632) : refBias w (ix3 a r k) = w (ix2 0 k) := by
  pointwise [refBias]

theorem slice0_apply (p : FVec Ideal S2x4098x5632 .f32) (a : Fin 2) (r : Fin 4096) (k : Fin 5632) :
    extractStridedSlice S2x4096x5632 ![0, 0, 0] p slices_S2x4098x5632_S2x4096x5632_0_0_0 (ix3 a r k) = p (ix3 a ⟨2 - 2 + r.val, by have := r.isLt; omega⟩ k) := by
  pointwise
theorem slice1_apply (p : FVec Ideal S2x4098x5632 .f32) (a : Fin 2) (r : Fin 4096) (k : Fin 5632) :
    extractStridedSlice S2x4096x5632 ![0, 1, 0] p slices_S2x4098x5632_S2x4096x5632_0_1_0 (ix3 a r k) = p (ix3 a ⟨2 - 1 + r.val, by have := r.isLt; omega⟩ k) := by
  pointwise
theorem slice2_apply (p : FVec Ideal S2x4098x5632 .f32) (a : Fin 2) (r : Fin 4096) (k : Fin 5632) :
    extractStridedSlice S2x4096x5632 ![0, 2, 0] p slices_S2x4098x5632_S2x4096x5632_0_2_0 (ix3 a r k) = p (ix3 a ⟨2 - 0 + r.val, by have := r.isLt; omega⟩ k) := by
  pointwise

theorem row0_apply (w : FVec Ideal S8x5632 .f32) (k : Fin 5632) : extractStridedSlice S1x5632 ![0, 0] w slices_S8x5632_S1x5632_0_0 (ix2 0 k) = w (ix2 0 k) := by pointwise
theorem row1_apply (w : FVec Ideal S8x5632 .f32) (k : Fin 5632) : extractStridedSlice S1x5632 ![1, 0] w slices_S8x5632_S1x5632_1_0 (ix2 0 k) = w (ix2 1 k) := by pointwise
theorem row2_apply (w : FVec Ideal S8x5632 .f32) (k : Fin 5632) : extractStridedSlice S1x5632 ![2, 0] w slices_S8x5632_S1x5632_2_0 (ix2 0 k) = w (ix2 2 k) := by pointwise

theorem refConv_apply (x : FVec Ideal S2x4096x5632 .f32) (w : FVec Ideal S8x5632 .f32) (b : FVec Ideal S1x5632 .f32) (a : Fin 2) (r : Fin 4096) (k : Fin 5632) :
    refConv (refPad x) w b (ix3 a r k) = column (fun j => w (ix2 j k)) (b (ix2 0 k)) (fun r => x (ix3 a r k)) r := by
  unfold refConv
  show _ * _ + _ * _ + _ * _ + _ = _
  rw [refRow_apply, refRow_apply, refRow_apply, refBias_apply, row0_apply, row1_apply, row2_apply, slice0_apply, slice1_apply, slice2_apply,
    refPad_apply x 2 (by omega), refPad_apply x 1 (by omega), refPad_apply x 0 (by omega)]
  rfl

theorem refLow_apply (h : FVec Ideal S2x4096x5632 .f32) (a : Fin 2) (r : Fin 4096) (k : Fin 2816) :
    refLow h (ix3 a r k) = h (ix3 a r ⟨k.val, by have := k.isLt; omega⟩) := by
  pointwise [refLow]
theorem refHigh_apply (h : FVec Ideal S2x4096x5632 .f32) (a : Fin 2) (r : Fin 4096) (k : Fin 2816) :
    refHigh h (ix3 a r k) = h (ix3 a r ⟨2816 + k.val, by have := k.isLt; omega⟩) := by
  pointwise [refHigh]

theorem refGate_apply (u g : FVec Ideal S2x4096x2816 .f32) (a : Fin 2) (r : Fin 4096) (k : Fin 2816) :
    refGate u g (ix3 a r k) = gated (u (ix3 a r k)) (g (ix3 a r k)) := by
  unfold gated Ideal.logistic
  pointwise [refGate]

/-- The reference's result is the same. -/
theorem reference_eq (x : FVec Ideal S2x4096x5632 .f32) (w : FVec Ideal S8x5632 .f32) (b : FVec Ideal S1x5632 .f32) : refResult x w b = conv x w b := by
  funext i
  obtain ⟨a, r, k, rfl⟩ : ∃ (a : Fin 2) (r : Fin 4096) (k : Fin 2816), i = ix3 a r k := ⟨i 0, i 1, i 2, eq_ix3 i⟩
  unfold refResult
  rw [refGate_apply, refLow_apply, refHigh_apply, refConv_apply, refConv_apply]
  rfl

end Cert.ConvolutionGate

end
-- ==== Proof.UpValue.lean ====
/- The up projection of the feed-forward: what `ffn_up` leaves in its result, element by element, is the reference's product over the extended
   reals. -/
module

public import proofs.«01_k».proof.Proof.Gen.UpIdeal.Value
public import proofs.«01_k».proof.Proof.Gen.UpReferenceIdeal.Run
public import Idealize.ShloMosaic.Lib.Pointwise
public import Idealize.ShloMosaic.Lib.Pipeline.ValueKit

@[expose] public section

set_option Elab.async false
set_option maxRecDepth 16384

noncomputable section

namespace Cert.UpProduct

open Idealize.ShloMosaic Idealize.ShloMosaic.TcCoe Idealize.ShloMosaic.Tactic Idealize.SL.Sem
open Idealize.ShloMosaic.Pipeline
open Cert.UpIdeal Cert.UpIdeal.Gen

/-- The product of the rows of `x` and the columns of `w`. -/
def product (x : Vec Ideal S8192x1024 .f32) (w : Vec Ideal S1024x5632 .bf16) : Vec Ideal S8192x5632 .f32 :=
  fun i => (∑ j : Fin 1024, (x (ix2 (i 0) j) : EReal) * w (ix2 j (i 1)))

/-- One element of a tile. -/
theorem tile_apply (x : Vec Ideal S512x1024 .f32) (w : Vec Ideal S1024x1408 .bf16) (r : Fin 512) (k : Fin 1408) :
    k0_pay1 (F := Ideal) x w (ix2 r k) = ∑ j : Fin 1024, (x (ix2 r j) : EReal) * w (ix2 j k) := by
  pointwise [k0_pay1]

variable (m : (ℓ : Loc nD τ sig) → Buf (Elt Ideal) ℓ)

theorem left_eq (c : Dev nD) (t : Fin cfg0.N) : outsAt0 m c t = k0_pay1 (iblk m c 0 t) (iblk m c 1 t) := by
  unfold outsAt0
  frame_out

/-- What the call leaves in its result. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, left_eq]
  obtain ⟨r, k, rfl⟩ : ∃ (r : Fin 512) (k : Fin 1408), y = ix2 r k := ⟨y 0, y 1, eq_ix2 y⟩
  refine (tile_apply _ _ r k).trans ?_
  have hi : ∀ t : Fin cfg0.N, win0_2.index t 0 = t.val / 4 ∧ win0_2.index t 1 = t.val % 4 := by decide +kernel
  have h0 : ∀ t : Fin cfg0.N, win0_0.index t 0 = t.val / 4 ∧ win0_0.index t 1 = 0 := by decide +kernel
  have h1 : ∀ t : Fin cfg0.N, win0_1.index t 0 = 0 ∧ win0_1.index t 1 = t.val % 4 := by decide +kernel
  have ht : t.val < 64 := lt_of_lt_of_eq t.isLt N_0
  have hr : t.val / 4 * 512 + r.val < 8192 := by have := r.isLt; omega
  have hk : t.val % 4 * 1408 + k.val < 5632 := by have := k.isLt; omega
  have e : ((win0_2.blk t).view.emb (ix2 r k) : S8192x5632.Idx) = ix2 ⟨t.val / 4 * 512 + r.val, hr⟩ ⟨t.val % 4 * 1408 + k.val, hk⟩ := by
    blk_ext [(hi t).1, (hi t).2]
  have ex (j : Fin 1024) : iblk m c 0 t (ix2 r j) = m ((c : Thread nD τ).loc main_arg0) (ix2 ⟨t.val / 4 * 512 + r.val, hr⟩ j) := by
    blk_ext [iblk, (h0 t).1, (h0 t).2]
  have ew (j : Fin 1024) : iblk m c 1 t (ix2 j k) = m ((c : Thread nD τ).loc main_arg1) (ix2 j ⟨t.val % 4 * 1408 + k.val, hk⟩) := by
    blk_ext [iblk, (h1 t).1, (h1 t).2]
  refine Eq.trans ?_ (congrArg (product _ _) e).symm
  exact Finset.sum_congr (M := EReal) rfl fun j _ => congrArg₂ (fun a b : EReal => a * b) (ex j) (ew j)

/-- The reference's result is the same. -/
theorem reference_eq (x : FVec Ideal Cert.UpReferenceIdeal.S8192x1024 .f32) (w : FVec Ideal Cert.UpReferenceIdeal.S1024x5632 .bf16) :
    Host.dotGeneral (F := Ideal) Cert.UpReferenceIdeal.dot_S8192x1024_S1024x5632_S8192x5632_1_0_0_1_n_n none x
      (extf .f32 w Cert.UpReferenceIdeal.Gen.bitsLt_bf16_f32) = (product x w : FVec Ideal Cert.UpReferenceIdeal.S8192x5632 .f32) := by
  funext i
  obtain ⟨r, k, rfl⟩ : ∃ (r : Fin 8192) (k : Fin 5632), i = ix2 r k := ⟨i 0, i 1, eq_ix2 i⟩
  unfold product
  pointwise

end Cert.UpProduct

end
-- ==== Proof.DownValue.lean ====
/- The down projection of the feed-forward: what `ffn_down` leaves in its result, element by element, is the reference's product over the extended
   reals. -/
module

public import proofs.«01_k».proof.Proof.Gen.DownIdeal.Value
public import proofs.«01_k».proof.Proof.Gen.DownReferenceIdeal.Run
public import Idealize.ShloMosaic.Lib.Pointwise
public import Idealize.ShloMosaic.Lib.Pipeline.ValueKit

@[expose] public section

set_option Elab.async false
set_option maxRecDepth 16384

noncomputable section

namespace Cert.DownProduct

open Idealize.ShloMosaic Idealize.ShloMosaic.TcCoe Idealize.ShloMosaic.Tactic Idealize.SL.Sem
open Idealize.ShloMosaic.Pipeline
open Cert.DownIdeal Cert.DownIdeal.Gen

/-- The product of the rows of `x` and the columns of `w`. -/
def product (x : Vec Ideal S8192x2816 .f32) (w : Vec Ideal S2816x1024 .bf16) : Vec Ideal S8192x1024 .f32 :=
  fun i => (∑ j : Fin 2816, (x (ix2 (i 0) j) : EReal) * w (ix2 j (i 1)))

/-- One element of a tile. -/
theorem tile_apply (x : Vec Ideal S512x2816 .f32) (w : Vec Ideal S2816x1024 .bf16) (r : Fin 512) (k : Fin 1024) :
    k0_pay1 (F := Ideal) x w (ix2 r k) = ∑ j : Fin 2816, (x (ix2 r j) : EReal) * w (ix2 j k) := by
  pointwise [k0_pay1]

variable (m : (ℓ : Loc nD τ sig) → Buf (Elt Ideal) ℓ)

theorem left_eq (c : Dev nD) (t : Fin cfg0.N) : outsAt0 m c t = k0_pay1 (iblk m c 0 t) (iblk m c 1 t) := by
  unfold outsAt0
  frame_out

/-- What the call leaves in its result. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, left_eq]
  obtain ⟨r, k, rfl⟩ : ∃ (r : Fin 512) (k : Fin 1024), y = ix2 r k := ⟨y 0, y 1, eq_ix2 y⟩
  refine (tile_apply _ _ r k).trans ?_
  have hi : ∀ t : Fin cfg0.N, win0_2.index t 0 = t.val ∧ win0_2.index t 1 = 0 := by decide +kernel
  have h0 : ∀ t : Fin cfg0.N, win0_0.index t 0 = t.val ∧ win0_0.index t 1 = 0 := by decide +kernel
  have h1 : ∀ t : Fin cfg0.N, win0_1.index t 0 = 0 ∧ win0_1.index t 1 = 0 := by decide +kernel
  have ht : t.val < 16 := lt_of_lt_of_eq t.isLt N_0
  have hr : t.val * 512 + r.val < 8192 := by have := r.isLt; omega
  have e : ((win0_2.blk t).view.emb (ix2 r k) : S8192x1024.Idx) = ix2 ⟨t.val * 512 + r.val, hr⟩ k := by
    blk_ext [(hi t).1, (hi t).2]
  have ex (j : Fin 2816) : iblk m c 0 t (ix2 r j) = m ((c : Thread nD τ).loc main_arg0) (ix2 ⟨t.val * 512 + r.val, hr⟩ j) := by
    blk_ext [iblk, (h0 t).1, (h0 t).2]
  have ew (j : Fin 2816) : iblk m c 1 t (ix2 j k) = m ((c : Thread nD τ).loc main_arg1) (ix2 j k) := by
    blk_ext [iblk, (h1 t).1, (h1 t).2]
  refine Eq.trans ?_ (congrArg (product _ _) e).symm
  exact Finset.sum_congr (M := EReal) rfl fun j _ => congrArg₂ (fun a b : EReal => a * b) (ex j) (ew j)

/-- The reference's result is the same. -/
theorem reference_eq (x : FVec Ideal Cert.DownReferenceIdeal.S8192x2816 .f32) (w : FVec Ideal Cert.DownReferenceIdeal.S2816x1024 .bf16) :
    Host.dotGeneral (F := Ideal) Cert.DownReferenceIdeal.dot_S8192x2816_S2816x1024_S8192x1024_1_0_0_1_n_n none x
      (extf .f32 w Cert.DownReferenceIdeal.Gen.bitsLt_bf16_f32) = (product x w : FVec Ideal Cert.DownReferenceIdeal.S8192x1024 .f32) := by
  funext i
  obtain ⟨r, k, rfl⟩ : ∃ (r : Fin 8192) (k : Fin 1024), i = ix2 r k := ⟨i 0, i 1, eq_ix2 i⟩
  unfold product
  pointwise

end Cert.DownProduct

end
-- ==== Proof.KeysValue.lean ====
/- The keys and values of the memory: what `memkv` leaves in its result, element by element, is the reference's product over the extended
   reals. -/
module

public import proofs.«01_k».proof.Proof.Gen.KeysIdeal.Value
public import proofs.«01_k».proof.Proof.Gen.KeysReferenceIdeal.Run
public import Idealize.ShloMosaic.Lib.Pointwise
public import Idealize.ShloMosaic.Lib.Pipeline.ValueKit

@[expose] public section

set_option Elab.async false
set_option maxRecDepth 16384

noncomputable section

namespace Cert.KeysProduct

open Idealize.ShloMosaic Idealize.ShloMosaic.TcCoe Idealize.ShloMosaic.Tactic Idealize.SL.Sem
open Idealize.ShloMosaic.Pipeline
open Cert.KeysIdeal Cert.KeysIdeal.Gen

/-- The product of the rows of `x` and the columns of `w`. -/
def product (x : Vec Ideal S512x1024 .f32) (w : Vec Ideal S1024x512 .bf16) : Vec Ideal S512x512 .f32 :=
  fun i => (∑ j : Fin 1024, (x (ix2 (i 0) j) : EReal) * w (ix2 j (i 1)))

/-- One element of a tile. -/
theorem tile_apply (x : Vec Ideal S512x1024 .f32) (w : Vec Ideal S1024x512 .bf16) (r : Fin 512) (k : Fin 512) :
    k0_pay1 (F := Ideal) x w (ix2 r k) = ∑ j : Fin 1024, (x (ix2 r j) : EReal) * w (ix2 j k) := by
  pointwise [k0_pay1]

variable (m : (ℓ : Loc nD τ sig) → Buf (Elt Ideal) ℓ)

theorem left_eq (c : Dev nD) (t : Fin cfg0.N) : outsAt0 m c t = k0_pay1 (iblk m c 0 t) (iblk m c 1 t) := by
  unfold outsAt0
  frame_out

/-- What the call leaves in its result. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, left_eq]
  obtain ⟨r, k, rfl⟩ : ∃ (r : Fin 512) (k : Fin 512), y = ix2 r k := ⟨y 0, y 1, eq_ix2 y⟩
  refine (tile_apply _ _ r k).trans ?_
  have hi : ∀ t : Fin cfg0.N, win0_2.index t 0 = t.val ∧ win0_2.index t 1 = 0 := by decide +kernel
  have h0 : ∀ t : Fin cfg0.N, win0_0.index t 0 = t.val ∧ win0_0.index t 1 = 0 := by decide +kernel
  have h1 : ∀ t : Fin cfg0.N, win0_1.index t 0 = 0 ∧ win0_1.index t 1 = 0 := by decide +kernel
  have ht : t.val < 1 := lt_of_lt_of_eq t.isLt N_0
  have hr : t.val * 512 + r.val < 512 := by have := r.isLt; omega
  have e : ((win0_2.blk t).view.emb (ix2 r k) : S512x512.Idx) = ix2 ⟨t.val * 512 + r.val, hr⟩ k := by
    blk_ext [(hi t).1, (hi t).2]
  have ex (j : Fin 1024) : iblk m c 0 t (ix2 r j) = m ((c : Thread nD τ).loc main_arg0) (ix2 ⟨t.val * 512 + r.val, hr⟩ j) := by
    blk_ext [iblk, (h0 t).1, (h0 t).2]
  have ew (j : Fin 1024) : iblk m c 1 t (ix2 j k) = m ((c : Thread nD τ).loc main_arg1) (ix2 j k) := by
    blk_ext [iblk, (h1 t).1, (h1 t).2]
  refine Eq.trans ?_ (congrArg (product _ _) e).symm
  exact Finset.sum_congr (M := EReal) rfl fun j _ => congrArg₂ (fun a b : EReal => a * b) (ex j) (ew j)

/-- The reference's result is the same. -/
theorem reference_eq (x : FVec Ideal Cert.KeysReferenceIdeal.S512x1024 .f32) (w : FVec Ideal Cert.KeysReferenceIdeal.S1024x512 .bf16) :
    Host.dotGeneral (F := Ideal) Cert.KeysReferenceIdeal.dot_S512x1024_S1024x512_S512x512_1_0_0_1_n_n none x
      (extf .f32 w Cert.KeysReferenceIdeal.Gen.bitsLt_bf16_f32) = (product x w : FVec Ideal Cert.KeysReferenceIdeal.S512x512 .f32) := by
  funext i
  obtain ⟨r, k, rfl⟩ : ∃ (r : Fin 512) (k : Fin 512), i = ix2 r k := ⟨i 0, i 1, eq_ix2 i⟩
  unfold product
  pointwise

end Cert.KeysProduct

end
-- ==== Proof.SharedValue.lean ====
/- The shared keys, values and gate: what `kvf` leaves in its result, element by element, is the reference's product over the extended
   reals. -/
module

public import proofs.«01_k».proof.Proof.Gen.SharedIdeal.Value
public import proofs.«01_k».proof.Proof.Gen.SharedReferenceIdeal.Run
public import Idealize.ShloMosaic.Lib.Pointwise
public import Idealize.ShloMosaic.Lib.Pipeline.ValueKit

@[expose] public section

set_option Elab.async false
set_option maxRecDepth 16384

noncomputable section

namespace Cert.SharedProduct

open Idealize.ShloMosaic Idealize.ShloMosaic.TcCoe Idealize.ShloMosaic.Tactic Idealize.SL.Sem
open Idealize.ShloMosaic.Pipeline
open Cert.SharedIdeal Cert.SharedIdeal.Gen

/-- The product of the rows of `x` and the columns of `w`. -/
def product (x : Vec Ideal S8192x1024 .f32) (w : Vec Ideal S1024x1664 .bf16) : Vec Ideal S8192x1664 .f32 :=
  fun i => (∑ j : Fin 1024, (x (ix2 (i 0) j) : EReal) * w (ix2 j (i 1)))

/-- One element of a tile. -/
theorem tile_apply (x : Vec Ideal S512x1024 .f32) (w : Vec Ideal S1024x1664 .bf16) (r : Fin 512) (k : Fin 1664) :
    k0_pay1 (F := Ideal) x w (ix2 r k) = ∑ j : Fin 1024, (x (ix2 r j) : EReal) * w (ix2 j k) := by
  pointwise [k0_pay1]

variable (m : (ℓ : Loc nD τ sig) → Buf (Elt Ideal) ℓ)

theorem left_eq (c : Dev nD) (t : Fin cfg0.N) : outsAt0 m c t = k0_pay1 (iblk m c 0 t) (iblk m c 1 t) := by
  unfold outsAt0
  frame_out

/-- What the call leaves in its result. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, left_eq]
  obtain ⟨r, k, rfl⟩ : ∃ (r : Fin 512) (k : Fin 1664), y = ix2 r k := ⟨y 0, y 1, eq_ix2 y⟩
  refine (tile_apply _ _ r k).trans ?_
  have hi : ∀ t : Fin cfg0.N, win0_2.index t 0 = t.val ∧ win0_2.index t 1 = 0 := by decide +kernel
  have h0 : ∀ t : Fin cfg0.N, win0_0.index t 0 = t.val ∧ win0_0.index t 1 = 0 := by decide +kernel
  have h1 : ∀ t : Fin cfg0.N, win0_1.index t 0 = 0 ∧ win0_1.index t 1 = 0 := by decide +kernel
  have ht : t.val < 16 := lt_of_lt_of_eq t.isLt N_0
  have hr : t.val * 512 + r.val < 8192 := by have := r.isLt; omega
  have e : ((win0_2.blk t).view.emb (ix2 r k) : S8192x1664.Idx) = ix2 ⟨t.val * 512 + r.val, hr⟩ k := by
    blk_ext [(hi t).1, (hi t).2]
  have ex (j : Fin 1024) : iblk m c 0 t (ix2 r j) = m ((c : Thread nD τ).loc main_arg0) (ix2 ⟨t.val * 512 + r.val, hr⟩ j) := by
    blk_ext [iblk, (h0 t).1, (h0 t).2]
  have ew (j : Fin 1024) : iblk m c 1 t (ix2 j k) = m ((c : Thread nD τ).loc main_arg1) (ix2 j k) := by
    blk_ext [iblk, (h1 t).1, (h1 t).2]
  refine Eq.trans ?_ (congrArg (product _ _) e).symm
  exact Finset.sum_congr (M := EReal) rfl fun j _ => congrArg₂ (fun a b : EReal => a * b) (ex j) (ew j)

/-- The reference's result is the same. -/
theorem reference_eq (x : FVec Ideal Cert.SharedReferenceIdeal.S8192x1024 .f32) (w : FVec Ideal Cert.SharedReferenceIdeal.S1024x1664 .bf16) :
    Host.dotGeneral (F := Ideal) Cert.SharedReferenceIdeal.dot_S8192x1024_S1024x1664_S8192x1664_1_0_0_1_n_n none x
      (extf .f32 w Cert.SharedReferenceIdeal.Gen.bitsLt_bf16_f32) = (product x w : FVec Ideal Cert.SharedReferenceIdeal.S8192x1664 .f32) := by
  funext i
  obtain ⟨r, k, rfl⟩ : ∃ (r : Fin 8192) (k : Fin 1664), i = ix2 r k := ⟨i 0, i 1, eq_ix2 i⟩
  unfold product
  pointwise

end Cert.SharedProduct

end
-- ==== Proof.PooledValue.lean ====
/- The product after the pooling: what `pool_mix` leaves in its result, element by element, is the reference's product over the extended
   reals. -/
module

public import proofs.«01_k».proof.Proof.Gen.PooledIdeal.Value
public import proofs.«01_k».proof.Proof.Gen.PooledReferenceIdeal.Run
public import Idealize.ShloMosaic.Lib.Pointwise
public import Idealize.ShloMosaic.Lib.Pipeline.ValueKit

@[expose] public section

set_option Elab.async false
set_option maxRecDepth 16384

noncomputable section

namespace Cert.PooledProduct

open Idealize.ShloMosaic Idealize.ShloMosaic.TcCoe Idealize.ShloMosaic.Tactic Idealize.SL.Sem
open Idealize.ShloMosaic.Pipeline
open Cert.PooledIdeal Cert.PooledIdeal.Gen

/-- The product of the rows of `x` and the columns of `w`. -/
def product (x : Vec Ideal S8192x768 .f32) (w : Vec Ideal S768x768 .bf16) : Vec Ideal S8192x768 .f32 :=
  fun i => (∑ j : Fin 768, (x (ix2 (i 0) j) : EReal) * w (ix2 j (i 1)))

/-- One element of a tile. -/
theorem tile_apply (x : Vec Ideal S512x768 .f32) (w : Vec Ideal S768x768 .bf16) (r : Fin 512) (k : Fin 768) :
    k0_pay1 (F := Ideal) x w (ix2 r k) = ∑ j : Fin 768, (x (ix2 r j) : EReal) * w (ix2 j k) := by
  pointwise [k0_pay1]

variable (m : (ℓ : Loc nD τ sig) → Buf (Elt Ideal) ℓ)

theorem left_eq (c : Dev nD) (t : Fin cfg0.N) : outsAt0 m c t = k0_pay1 (iblk m c 0 t) (iblk m c 1 t) := by
  unfold outsAt0
  frame_out

/-- What the call leaves in its result. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, left_eq]
  obtain ⟨r, k, rfl⟩ : ∃ (r : Fin 512) (k : Fin 768), y = ix2 r k := ⟨y 0, y 1, eq_ix2 y⟩
  refine (tile_apply _ _ r k).trans ?_
  have hi : ∀ t : Fin cfg0.N, win0_2.index t 0 = t.val ∧ win0_2.index t 1 = 0 := by decide +kernel
  have h0 : ∀ t : Fin cfg0.N, win0_0.index t 0 = t.val ∧ win0_0.index t 1 = 0 := by decide +kernel
  have h1 : ∀ t : Fin cfg0.N, win0_1.index t 0 = 0 ∧ win0_1.index t 1 = 0 := by decide +kernel
  have ht : t.val < 16 := lt_of_lt_of_eq t.isLt N_0
  have hr : t.val * 512 + r.val < 8192 := by have := r.isLt; omega
  have e : ((win0_2.blk t).view.emb (ix2 r k) : S8192x768.Idx) = ix2 ⟨t.val * 512 + r.val, hr⟩ k := by
    blk_ext [(hi t).1, (hi t).2]
  have ex (j : Fin 768) : iblk m c 0 t (ix2 r j) = m ((c : Thread nD τ).loc main_arg0) (ix2 ⟨t.val * 512 + r.val, hr⟩ j) := by
    blk_ext [iblk, (h0 t).1, (h0 t).2]
  have ew (j : Fin 768) : iblk m c 1 t (ix2 j k) = m ((c : Thread nD τ).loc main_arg1) (ix2 j k) := by
    blk_ext [iblk, (h1 t).1, (h1 t).2]
  refine Eq.trans ?_ (congrArg (product _ _) e).symm
  exact Finset.sum_congr (M := EReal) rfl fun j _ => congrArg₂ (fun a b : EReal => a * b) (ex j) (ew j)

/-- The reference's result is the same. -/
theorem reference_eq (x : FVec Ideal Cert.PooledReferenceIdeal.S8192x768 .f32) (w : FVec Ideal Cert.PooledReferenceIdeal.S768x768 .bf16) :
    Host.dotGeneral (F := Ideal) Cert.PooledReferenceIdeal.dot_S8192x768_S768x768_S8192x768_1_0_0_1_n_n none x
      (extf .f32 w Cert.PooledReferenceIdeal.Gen.bitsLt_bf16_f32) = (product x w : FVec Ideal Cert.PooledReferenceIdeal.S8192x768 .f32) := by
  funext i
  obtain ⟨r, k, rfl⟩ : ∃ (r : Fin 8192) (k : Fin 768), i = ix2 r k := ⟨i 0, i 1, eq_ix2 i⟩
  unfold product
  pointwise

end Cert.PooledProduct

end
-- ==== Proof.MixDxValue.lean ====
/- The gradient through the product after the mixers: what `mix_dx` leaves in its result, element by element, is the reference's product over the extended
   reals. -/
module

public import proofs.«01_k».proof.Proof.Gen.MixDxIdeal.Value
public import proofs.«01_k».proof.Proof.Gen.MixDxReferenceIdeal.Run
public import Idealize.ShloMosaic.Lib.Pointwise
public import Idealize.ShloMosaic.Lib.Pipeline.ValueKit

@[expose] public section

set_option Elab.async false
set_option maxRecDepth 16384

noncomputable section

namespace Cert.MixDxProduct

open Idealize.ShloMosaic Idealize.ShloMosaic.TcCoe Idealize.ShloMosaic.Tactic Idealize.SL.Sem
open Idealize.ShloMosaic.Pipeline
open Cert.MixDxIdeal Cert.MixDxIdeal.Gen

/-- The product of the rows of `x` and the rows of `w`. -/
def product (x : Vec Ideal S8192x1024 .f32) (w : Vec Ideal S1024x1024 .bf16) : Vec Ideal S8192x1024 .f32 :=
  fun i => (∑ j : Fin 1024, (x (ix2 (i 0) j) : EReal) * w (ix2 (i 1) j))

/-- One element of a tile. -/
theorem tile_apply (x : Vec Ideal S512x1024 .f32) (w : Vec Ideal S1024x1024 .bf16) (r : Fin 512) (k : Fin 1024) :
    k0_pay1 (F := Ideal) x w (ix2 r k) = ∑ j : Fin 1024, (x (ix2 r j) : EReal) * w (ix2 k j) := by
  pointwise [k0_pay1]

variable (m : (ℓ : Loc nD τ sig) → Buf (Elt Ideal) ℓ)

theorem left_eq (c : Dev nD) (t : Fin cfg0.N) : outsAt0 m c t = k0_pay1 (iblk m c 0 t) (iblk m c 1 t) := by
  unfold outsAt0
  frame_out

/-- What the call leaves in its result. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, left_eq]
  obtain ⟨r, k, rfl⟩ : ∃ (r : Fin 512) (k : Fin 1024), y = ix2 r k := ⟨y 0, y 1, eq_ix2 y⟩
  refine (tile_apply _ _ r k).trans ?_
  have hi : ∀ t : Fin cfg0.N, win0_2.index t 0 = t.val ∧ win0_2.index t 1 = 0 := by decide +kernel
  have h0 : ∀ t : Fin cfg0.N, win0_0.index t 0 = t.val ∧ win0_0.index t 1 = 0 := by decide +kernel
  have h1 : ∀ t : Fin cfg0.N, win0_1.index t 0 = 0 ∧ win0_1.index t 1 = 0 := by decide +kernel
  have ht : t.val < 16 := lt_of_lt_of_eq t.isLt N_0
  have hr : t.val * 512 + r.val < 8192 := by have := r.isLt; omega
  have e : ((win0_2.blk t).view.emb (ix2 r k) : S8192x1024.Idx) = ix2 ⟨t.val * 512 + r.val, hr⟩ k := by
    blk_ext [(hi t).1, (hi t).2]
  have ex (j : Fin 1024) : iblk m c 0 t (ix2 r j) = m ((c : Thread nD τ).loc main_arg0) (ix2 ⟨t.val * 512 + r.val, hr⟩ j) := by
    blk_ext [iblk, (h0 t).1, (h0 t).2]
  have ew (j : Fin 1024) : iblk m c 1 t (ix2 k j) = m ((c : Thread nD τ).loc main_arg1) (ix2 k j) := by
    blk_ext [iblk, (h1 t).1, (h1 t).2]
  refine Eq.trans ?_ (congrArg (product _ _) e).symm
  exact Finset.sum_congr (M := EReal) rfl fun j _ => congrArg₂ (fun a b : EReal => a * b) (ex j) (ew j)

/-- The reference's result is the same. -/
theorem reference_eq (x : FVec Ideal Cert.MixDxReferenceIdeal.S8192x1024 .f32) (w : FVec Ideal Cert.MixDxReferenceIdeal.S1024x1024 .bf16) :
    Host.dotGeneral (F := Ideal) Cert.MixDxReferenceIdeal.dot_S8192x1024_S1024x1024_S8192x1024_1_0_0_1_n_n none x
      (transpose Cert.MixDxReferenceIdeal.S1024x1024 [1, 0] (extf .f32 w Cert.MixDxReferenceIdeal.Gen.bitsLt_bf16_f32) Cert.MixDxReferenceIdeal.Gen.transposes_S1024x1024_S1024x1024_1_0) = (product x w : FVec Ideal Cert.MixDxReferenceIdeal.S8192x1024 .f32) := by
  funext i
  obtain ⟨r, k, rfl⟩ : ∃ (r : Fin 8192) (k : Fin 1024), i = ix2 r k := ⟨i 0, i 1, eq_ix2 i⟩
  unfold product
  pointwise

end Cert.MixDxProduct

end
-- ==== Proof.DownDxValue.lean ====
/- The gradient through the down projection: what `ffn_down_dx` leaves in its result, element by element, is the reference's product over the extended
   reals. -/
module

public import proofs.«01_k».proof.Proof.Gen.DownDxIdeal.Value
public import proofs.«01_k».proof.Proof.Gen.DownDxReferenceIdeal.Run
public import Idealize.ShloMosaic.Lib.Pointwise
public import Idealize.ShloMosaic.Lib.Pipeline.ValueKit

@[expose] public section

set_option Elab.async false
set_option maxRecDepth 16384

noncomputable section

namespace Cert.DownDxProduct

open Idealize.ShloMosaic Idealize.ShloMosaic.TcCoe Idealize.ShloMosaic.Tactic Idealize.SL.Sem
open Idealize.ShloMosaic.Pipeline
open Cert.DownDxIdeal Cert.DownDxIdeal.Gen

/-- The product of the rows of `x` and the rows of `w`. -/
def product (x : Vec Ideal S8192x1024 .f32) (w : Vec Ideal S2816x1024 .bf16) : Vec Ideal S8192x2816 .f32 :=
  fun i => (∑ j : Fin 1024, (x (ix2 (i 0) j) : EReal) * w (ix2 (i 1) j))

/-- One element of a tile. -/
theorem tile_apply (x : Vec Ideal S512x1024 .f32) (w : Vec Ideal S2816x1024 .bf16) (r : Fin 512) (k : Fin 2816) :
    k0_pay1 (F := Ideal) x w (ix2 r k) = ∑ j : Fin 1024, (x (ix2 r j) : EReal) * w (ix2 k j) := by
  pointwise [k0_pay1]

variable (m : (ℓ : Loc nD τ sig) → Buf (Elt Ideal) ℓ)

theorem left_eq (c : Dev nD) (t : Fin cfg0.N) : outsAt0 m c t = k0_pay1 (iblk m c 0 t) (iblk m c 1 t) := by
  unfold outsAt0
  frame_out

/-- What the call leaves in its result. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, left_eq]
  obtain ⟨r, k, rfl⟩ : ∃ (r : Fin 512) (k : Fin 2816), y = ix2 r k := ⟨y 0, y 1, eq_ix2 y⟩
  refine (tile_apply _ _ r k).trans ?_
  have hi : ∀ t : Fin cfg0.N, win0_2.index t 0 = t.val ∧ win0_2.index t 1 = 0 := by decide +kernel
  have h0 : ∀ t : Fin cfg0.N, win0_0.index t 0 = t.val ∧ win0_0.index t 1 = 0 := by decide +kernel
  have h1 : ∀ t : Fin cfg0.N, win0_1.index t 0 = 0 ∧ win0_1.index t 1 = 0 := by decide +kernel
  have ht : t.val < 16 := lt_of_lt_of_eq t.isLt N_0
  have hr : t.val * 512 + r.val < 8192 := by have := r.isLt; omega
  have e : ((win0_2.blk t).view.emb (ix2 r k) : S8192x2816.Idx) = ix2 ⟨t.val * 512 + r.val, hr⟩ k := by
    blk_ext [(hi t).1, (hi t).2]
  have ex (j : Fin 1024) : iblk m c 0 t (ix2 r j) = m ((c : Thread nD τ).loc main_arg0) (ix2 ⟨t.val * 512 + r.val, hr⟩ j) := by
    blk_ext [iblk, (h0 t).1, (h0 t).2]
  have ew (j : Fin 1024) : iblk m c 1 t (ix2 k j) = m ((c : Thread nD τ).loc main_arg1) (ix2 k j) := by
    blk_ext [iblk, (h1 t).1, (h1 t).2]
  refine Eq.trans ?_ (congrArg (product _ _) e).symm
  exact Finset.sum_congr (M := EReal) rfl fun j _ => congrArg₂ (fun a b : EReal => a * b) (ex j) (ew j)

/-- The reference's result is the same. -/
theorem reference_eq (x : FVec Ideal Cert.DownDxReferenceIdeal.S8192x1024 .f32) (w : FVec Ideal Cert.DownDxReferenceIdeal.S2816x1024 .bf16) :
    Host.dotGeneral (F := Ideal) Cert.DownDxReferenceIdeal.dot_S8192x1024_S1024x2816_S8192x2816_1_0_0_1_n_n none x
      (transpose Cert.DownDxReferenceIdeal.S1024x2816 [1, 0] (extf .f32 w Cert.DownDxReferenceIdeal.Gen.bitsLt_bf16_f32) Cert.DownDxReferenceIdeal.Gen.transposes_S2816x1024_S1024x2816_1_0) = (product x w : FVec Ideal Cert.DownDxReferenceIdeal.S8192x2816 .f32) := by
  funext i
  obtain ⟨r, k, rfl⟩ : ∃ (r : Fin 8192) (k : Fin 2816), i = ix2 r k := ⟨i 0, i 1, eq_ix2 i⟩
  unfold product
  pointwise

end Cert.DownDxProduct

end
-- ==== Proof.SharedDxValue.lean ====
/- The gradient through the shared keys, values and gate: what `kvf_dx` leaves in its result, element by element, is the reference's product over the extended
   reals. -/
module

public import proofs.«01_k».proof.Proof.Gen.SharedDxIdeal.Value
public import proofs.«01_k».proof.Proof.Gen.SharedDxReferenceIdeal.Run
public import Idealize.ShloMosaic.Lib.Pointwise
public import Idealize.ShloMosaic.Lib.Pipeline.ValueKit

@[expose] public section

set_option Elab.async false
set_option maxRecDepth 16384

noncomputable section

namespace Cert.SharedDxProduct

open Idealize.ShloMosaic Idealize.ShloMosaic.TcCoe Idealize.ShloMosaic.Tactic Idealize.SL.Sem
open Idealize.ShloMosaic.Pipeline
open Cert.SharedDxIdeal Cert.SharedDxIdeal.Gen

/-- The product of the rows of `x` and the rows of `w`. -/
def product (x : Vec Ideal S8192x1664 .f32) (w : Vec Ideal S1024x1664 .bf16) : Vec Ideal S8192x1024 .f32 :=
  fun i => (∑ j : Fin 1664, (x (ix2 (i 0) j) : EReal) * w (ix2 (i 1) j))

/-- One element of a tile. -/
theorem tile_apply (x : Vec Ideal S512x1664 .f32) (w : Vec Ideal S1024x1664 .bf16) (r : Fin 512) (k : Fin 1024) :
    k0_pay1 (F := Ideal) x w (ix2 r k) = ∑ j : Fin 1664, (x (ix2 r j) : EReal) * w (ix2 k j) := by
  pointwise [k0_pay1]

variable (m : (ℓ : Loc nD τ sig) → Buf (Elt Ideal) ℓ)

theorem left_eq (c : Dev nD) (t : Fin cfg0.N) : outsAt0 m c t = k0_pay1 (iblk m c 0 t) (iblk m c 1 t) := by
  unfold outsAt0
  frame_out

/-- What the call leaves in its result. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, left_eq]
  obtain ⟨r, k, rfl⟩ : ∃ (r : Fin 512) (k : Fin 1024), y = ix2 r k := ⟨y 0, y 1, eq_ix2 y⟩
  refine (tile_apply _ _ r k).trans ?_
  have hi : ∀ t : Fin cfg0.N, win0_2.index t 0 = t.val ∧ win0_2.index t 1 = 0 := by decide +kernel
  have h0 : ∀ t : Fin cfg0.N, win0_0.index t 0 = t.val ∧ win0_0.index t 1 = 0 := by decide +kernel
  have h1 : ∀ t : Fin cfg0.N, win0_1.index t 0 = 0 ∧ win0_1.index t 1 = 0 := by decide +kernel
  have ht : t.val < 16 := lt_of_lt_of_eq t.isLt N_0
  have hr : t.val * 512 + r.val < 8192 := by have := r.isLt; omega
  have e : ((win0_2.blk t).view.emb (ix2 r k) : S8192x1024.Idx) = ix2 ⟨t.val * 512 + r.val, hr⟩ k := by
    blk_ext [(hi t).1, (hi t).2]
  have ex (j : Fin 1664) : iblk m c 0 t (ix2 r j) = m ((c : Thread nD τ).loc main_arg0) (ix2 ⟨t.val * 512 + r.val, hr⟩ j) := by
    blk_ext [iblk, (h0 t).1, (h0 t).2]
  have ew (j : Fin 1664) : iblk m c 1 t (ix2 k j) = m ((c : Thread nD τ).loc main_arg1) (ix2 k j) := by
    blk_ext [iblk, (h1 t).1, (h1 t).2]
  refine Eq.trans ?_ (congrArg (product _ _) e).symm
  exact Finset.sum_congr (M := EReal) rfl fun j _ => congrArg₂ (fun a b : EReal => a * b) (ex j) (ew j)

/-- The reference's result is the same. -/
theorem reference_eq (x : FVec Ideal Cert.SharedDxReferenceIdeal.S8192x1664 .f32) (w : FVec Ideal Cert.SharedDxReferenceIdeal.S1024x1664 .bf16) :
    Host.dotGeneral (F := Ideal) Cert.SharedDxReferenceIdeal.dot_S8192x1664_S1664x1024_S8192x1024_1_0_0_1_n_n none x
      (transpose Cert.SharedDxReferenceIdeal.S1664x1024 [1, 0] (extf .f32 w Cert.SharedDxReferenceIdeal.Gen.bitsLt_bf16_f32) Cert.SharedDxReferenceIdeal.Gen.transposes_S1024x1664_S1664x1024_1_0) = (product x w : FVec Ideal Cert.SharedDxReferenceIdeal.S8192x1024 .f32) := by
  funext i
  obtain ⟨r, k, rfl⟩ : ∃ (r : Fin 8192) (k : Fin 1024), i = ix2 r k := ⟨i 0, i 1, eq_ix2 i⟩
  unfold product
  pointwise

end Cert.SharedDxProduct

end
-- ==== Proof.PooledDxValue.lean ====
/- The gradient through the product after the pooling: what `pool_mix_dx` leaves in its result, element by element, is the reference's product over the extended
   reals. -/
module

public import proofs.«01_k».proof.Proof.Gen.PooledDxIdeal.Value
public import proofs.«01_k».proof.Proof.Gen.PooledDxReferenceIdeal.Run
public import Idealize.ShloMosaic.Lib.Pointwise
public import Idealize.ShloMosaic.Lib.Pipeline.ValueKit

@[expose] public section

set_option Elab.async false
set_option maxRecDepth 16384

noncomputable section

namespace Cert.PooledDxProduct

open Idealize.ShloMosaic Idealize.ShloMosaic.TcCoe Idealize.ShloMosaic.Tactic Idealize.SL.Sem
open Idealize.ShloMosaic.Pipeline
open Cert.PooledDxIdeal Cert.PooledDxIdeal.Gen

/-- The product of the rows of `x` and the rows of `w`. -/
def product (x : Vec Ideal S8192x768 .f32) (w : Vec Ideal S768x768 .bf16) : Vec Ideal S8192x768 .f32 :=
  fun i => (∑ j : Fin 768, (x (ix2 (i 0) j) : EReal) * w (ix2 (i 1) j))

/-- One element of a tile. -/
theorem tile_apply (x : Vec Ideal S512x768 .f32) (w : Vec Ideal S768x768 .bf16) (r : Fin 512) (k : Fin 768) :
    k0_pay1 (F := Ideal) x w (ix2 r k) = ∑ j : Fin 768, (x (ix2 r j) : EReal) * w (ix2 k j) := by
  pointwise [k0_pay1]

variable (m : (ℓ : Loc nD τ sig) → Buf (Elt Ideal) ℓ)

theorem left_eq (c : Dev nD) (t : Fin cfg0.N) : outsAt0 m c t = k0_pay1 (iblk m c 0 t) (iblk m c 1 t) := by
  unfold outsAt0
  frame_out

/-- What the call leaves in its result. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, left_eq]
  obtain ⟨r, k, rfl⟩ : ∃ (r : Fin 512) (k : Fin 768), y = ix2 r k := ⟨y 0, y 1, eq_ix2 y⟩
  refine (tile_apply _ _ r k).trans ?_
  have hi : ∀ t : Fin cfg0.N, win0_2.index t 0 = t.val ∧ win0_2.index t 1 = 0 := by decide +kernel
  have h0 : ∀ t : Fin cfg0.N, win0_0.index t 0 = t.val ∧ win0_0.index t 1 = 0 := by decide +kernel
  have h1 : ∀ t : Fin cfg0.N, win0_1.index t 0 = 0 ∧ win0_1.index t 1 = 0 := by decide +kernel
  have ht : t.val < 16 := lt_of_lt_of_eq t.isLt N_0
  have hr : t.val * 512 + r.val < 8192 := by have := r.isLt; omega
  have e : ((win0_2.blk t).view.emb (ix2 r k) : S8192x768.Idx) = ix2 ⟨t.val * 512 + r.val, hr⟩ k := by
    blk_ext [(hi t).1, (hi t).2]
  have ex (j : Fin 768) : iblk m c 0 t (ix2 r j) = m ((c : Thread nD τ).loc main_arg0) (ix2 ⟨t.val * 512 + r.val, hr⟩ j) := by
    blk_ext [iblk, (h0 t).1, (h0 t).2]
  have ew (j : Fin 768) : iblk m c 1 t (ix2 k j) = m ((c : Thread nD τ).loc main_arg1) (ix2 k j) := by
    blk_ext [iblk, (h1 t).1, (h1 t).2]
  refine Eq.trans ?_ (congrArg (product _ _) e).symm
  exact Finset.sum_congr (M := EReal) rfl fun j _ => congrArg₂ (fun a b : EReal => a * b) (ex j) (ew j)

/-- The reference's result is the same. -/
theorem reference_eq (x : FVec Ideal Cert.PooledDxReferenceIdeal.S8192x768 .f32) (w : FVec Ideal Cert.PooledDxReferenceIdeal.S768x768 .bf16) :
    Host.dotGeneral (F := Ideal) Cert.PooledDxReferenceIdeal.dot_S8192x768_S768x768_S8192x768_1_0_0_1_n_n none x
      (transpose Cert.PooledDxReferenceIdeal.S768x768 [1, 0] (extf .f32 w Cert.PooledDxReferenceIdeal.Gen.bitsLt_bf16_f32) Cert.PooledDxReferenceIdeal.Gen.transposes_S768x768_S768x768_1_0) = (product x w : FVec Ideal Cert.PooledDxReferenceIdeal.S8192x768 .f32) := by
  funext i
  obtain ⟨r, k, rfl⟩ : ∃ (r : Fin 8192) (k : Fin 768), i = ix2 r k := ⟨i 0, i 1, eq_ix2 i⟩
  unfold product
  pointwise

end Cert.PooledDxProduct

end
-- ==== Proof.Upto.lean ====
/- A sum over the rows of an array, taken one block of rows after another. -/
module

public import Idealize.ShloMosaic.Lib.Pointwise

@[expose] public section

noncomputable section

namespace Cert.Upto

/-- The sum of the first `n` elements of `f`; there are no elements after the last. -/
def upto {K : ℕ} (f : Fin K → EReal) (n : ℕ) : EReal := ∑ j ∈ Finset.range n, if h : j < K then f ⟨j, h⟩ else 0

theorem upto_zero {K : ℕ} (f : Fin K → EReal) : upto f 0 = 0 := Finset.sum_range_zero _

theorem upto_add {K : ℕ} (f : Fin K → EReal) (n m : ℕ) (h : n + m ≤ K) :
    upto f (n + m) = upto f n + ∑ q : Fin m, f ⟨n + q.val, by have := q.isLt; omega⟩ := by
  unfold upto
  rw [Finset.sum_range_add, Finset.sum_range (n := m)]
  exact congrArg _ (Finset.sum_congr rfl fun q _ => dif_pos (by have := q.isLt; omega))

theorem upto_all {K : ℕ} (f : Fin K → EReal) : upto f K = ∑ j, f j := by
  unfold upto
  rw [Finset.sum_range]
  exact Finset.sum_congr rfl fun q _ => dif_pos q.isLt

end Cert.Upto

end
-- ==== Proof.MixDwValue.lean ====
/- The gradient of the weight after the mixers: what `mix_dw` leaves in its result, element by element, is the reference's product over the
   extended reals. -/
module

public import proofs.«01_k».proof.Proof.Gen.MixDwIdeal.Value
public import proofs.«01_k».proof.Proof.Gen.MixDwReferenceIdeal.Run
public import proofs.«01_k».proof.Proof.Upto
public import Idealize.ShloMosaic.Lib.Pointwise
public import Idealize.ShloMosaic.Lib.Pipeline.ValueKit

@[expose] public section

set_option Elab.async false
set_option maxRecDepth 16384

noncomputable section

namespace Cert.MixDwProduct

open Idealize.ShloMosaic Idealize.ShloMosaic.TcCoe Idealize.ShloMosaic.Tactic Idealize.SL.Sem
open Idealize.ShloMosaic.Pipeline
open Cert.MixDwIdeal Cert.MixDwIdeal.Gen Cert.Upto

/-- The product of the columns of `x` and the columns of `y`. -/
def product (x : Vec Ideal S8192x1024 .f32) (y : Vec Ideal S8192x1024 .f32) : Vec Ideal S1024x1024 .f32 :=
  fun i => (∑ j : Fin 8192, (x (ix2 j (i 0)) : EReal) * y (ix2 j (i 1)))

/-- One element of a block of rows' product. -/
theorem part_apply (x : Vec Ideal S512x1024 .f32) (y : Vec Ideal S512x1024 .f32) (r : Fin 1024) (k : Fin 1024) :
    k0_pay1 (F := Ideal) x y (ix2 r k) = ∑ j : Fin 512, (x (ix2 j r) : EReal) * y (ix2 j k) := by
  pointwise [k0_pay1]

theorem first_apply (x : Vec Ideal S512x1024 .f32) (y : Vec Ideal S512x1024 .f32) (r : Fin 1024) (k : Fin 1024) :
    k0_pay2 (F := Ideal) x y (ix2 r k) = ∑ j : Fin 512, (x (ix2 j r) : EReal) * y (ix2 j k) := by
  unfold k0_pay2
  rw [shapeCast_self]
  exact part_apply x y r k

theorem next_apply (x : Vec Ideal S512x1024 .f32) (y : Vec Ideal S512x1024 .f32) (a : Vec Ideal S1024x1024 .f32) (r : Fin 1024) (k : Fin 1024) :
    k0_pay3 (F := Ideal) x y a (ix2 r k) = (a (ix2 r k) : EReal) + ∑ j : Fin 512, (x (ix2 j r) : EReal) * y (ix2 j k) := by
  unfold k0_pay3
  rw [shapeCast_self]
  exact congrArg (fun b : EReal => (a (ix2 r k) : EReal) + b) (part_apply x y r k)

variable (m : (ℓ : Loc nD τ sig) → Buf (Elt Ideal) ℓ)

theorem start_eq (c : Dev nD) (t : Fin cfg0.N) (h : t.val % 16 = 0) :
    (outsAt0 m c t.val t.isLt).2 = k0_pay2 (iblk m c 0 t) (iblk m c 1 t) := by
  have hN := lt_of_lt_of_eq t.isLt N_0
  rw [outsAt0_A m c t h (by omega) (by omega)]
  unfold sout0_A_0
  frame_out

theorem middle_eq (c : Dev nD) (t : Fin cfg0.N) (h : ¬t.val % 16 = 0) (hl : ¬t.val % 16 = 15) :
    (outsAt0 m c t.val t.isLt).2
      = k0_pay3 (iblk m c 0 t) (iblk m c 1 t) (outsAt0 m c (t.val - 1) (Nat.lt_of_le_of_lt (Nat.sub_le _ _) t.isLt)).2 := by
  have hN := lt_of_lt_of_eq t.isLt N_0
  rw [outsAt0_B m c t h (by omega) hl]
  unfold sout0_B_0
  frame_out
  exact congrArg (k0_pay3 _ _) (Memref.IsWhole.read_unread (Memref.isWhole_whole cc0_scratch0) _)

theorem last_eq (c : Dev nD) (t : Fin cfg0.N) (h : t.val % 16 = 15) :
    (outsAt0 m c t.val t.isLt).1
      = k0_pay3 (iblk m c 0 t) (iblk m c 1 t) (outsAt0 m c (t.val - 1) (Nat.lt_of_le_of_lt (Nat.sub_le _ _) t.isLt)).2 := by
  have hN := lt_of_lt_of_eq t.isLt N_0
  rw [outsAt0_C m c t (by omega) (by omega) h]
  unfold out0_C_2
  frame_out
  exact congrArg (k0_pay3 _ _) (Memref.IsWhole.read_unread (Memref.isWhole_whole cc0_scratch0) _)

theorem i0 : ∀ t : Fin cfg0.N, win0_0.index t 0 = t.val % 16 ∧ win0_0.index t 1 = win0_2.index t 0 := by decide +kernel
theorem i1 : ∀ t : Fin cfg0.N, win0_1.index t 0 = t.val % 16 ∧ win0_1.index t 1 = win0_2.index t 1 := by decide +kernel
theorem i2 : ∀ t : Fin cfg0.N, win0_2.index t 0 < 1 ∧ win0_2.index t 1 < 1 := by decide +kernel
theorem same : ∀ t : Fin cfg0.N, ¬t.val % 16 = 0 →
    win0_2.index ⟨t.val - 1, Nat.lt_of_le_of_lt (Nat.sub_le _ _) t.isLt⟩ 0 = win0_2.index t 0
    ∧ win0_2.index ⟨t.val - 1, Nat.lt_of_le_of_lt (Nat.sub_le _ _) t.isLt⟩ 1 = win0_2.index t 1 := by decide +kernel

/-- What row `j` of the arguments adds to an element of the result. -/
def term (x : Vec Ideal S8192x1024 .f32) (y : Vec Ideal S8192x1024 .f32) (r : Fin 1024) (k : Fin 1024) (j : Fin 8192) : EReal :=
  (x (ix2 j r) : EReal) * y (ix2 j k)

/-- The arguments and their blocks. -/
abbrev left (c : Dev nD) : Vec Ideal S8192x1024 .f32 := m ((c : Thread nD τ).loc main_arg0)
abbrev right (c : Dev nD) : Vec Ideal S8192x1024 .f32 := m ((c : Thread nD τ).loc main_arg1)
abbrev leftBlock (c : Dev nD) (t : Fin cfg0.N) : Vec Ideal S512x1024 .f32 := iblk m c 0 t
abbrev rightBlock (c : Dev nD) (t : Fin cfg0.N) : Vec Ideal S512x1024 .f32 := iblk m c 1 t

/-- The element's row in the result. -/
abbrev row (t : Fin cfg0.N) (r : Fin 1024) : Fin 1024 := ⟨win0_2.index t 0 * 1024 + r.val, by have := (i2 t).1; have := r.isLt; omega⟩
/-- The element's column in the result. -/
abbrev col (t : Fin cfg0.N) (k : Fin 1024) : Fin 1024 := ⟨win0_2.index t 1 * 1024 + k.val, by have := (i2 t).2; have := k.isLt; omega⟩

theorem block_sum (c : Dev nD) (t : Fin cfg0.N) (r : Fin 1024) (k : Fin 1024) (n : ℕ) (hn : n = 512 * (t.val % 16)) (a : EReal)
    (ha : a = upto (term (left m c) (right m c) (row t r) (col t k)) n) :
    a + ∑ j : Fin 512, (leftBlock m c t (ix2 j r) : EReal) * rightBlock m c t (ix2 j k)
      = upto (term (left m c) (right m c) (row t r) (col t k)) (n + 512) := by
  have h16 : t.val % 16 < 16 := Nat.mod_lt _ (by decide)
  rw [upto_add _ n 512 (by omega), ha]
  refine congrArg (fun b : EReal => upto (term (left m c) (right m c) (row t r) (col t k)) n + b) (Finset.sum_congr (M := EReal) rfl fun j _ => ?_)
  have hj : n + j.val < 8192 := by have := j.isLt; omega
  have ex : leftBlock m c t (ix2 j r) = left m c (ix2 ⟨n + j.val, hj⟩ (row t r)) := by
    subst hn
    blk_ext [leftBlock, rightBlock, left, right, iblk, (i0 t).1, (i0 t).2]
  have ey : rightBlock m c t (ix2 j k) = right m c (ix2 ⟨n + j.val, hj⟩ (col t k)) := by
    subst hn
    blk_ext [leftBlock, rightBlock, left, right, iblk, (i1 t).1, (i1 t).2]
  exact congrArg₂ (fun a b : EReal => a * b) ex ey

/-- What the accumulator holds after a point that is not the last of its run. -/
theorem acc_eq (c : Dev nD) (r : Fin 1024) (k : Fin 1024) : ∀ (n : ℕ) (hn : n < cfg0.N), ¬n % 16 = 15 →
    (outsAt0 m c n hn).2 (ix2 r k) = upto (term (left m c) (right m c) (row ⟨n, hn⟩ r) (col ⟨n, hn⟩ k)) (512 * (n % 16) + 512) := by
  intro n
  induction n with
  | zero =>
    intro hn _
    refine (congrFun (start_eq m c ⟨0, hn⟩ rfl) _).trans ((first_apply _ _ r k).trans ?_)
    refine (zero_add _).symm.trans ?_
    exact block_sum m c ⟨0, hn⟩ r k 0 rfl 0 (upto_zero _).symm
  | succ n ih =>
    intro hn hl
    by_cases h : (n + 1) % 16 = 0
    · refine (congrFun (start_eq m c ⟨n + 1, hn⟩ h) _).trans ((first_apply _ _ r k).trans ?_)
      refine (zero_add _).symm.trans ?_
      rw [h]
      exact block_sum m c ⟨n + 1, hn⟩ r k 0 (by show 0 = 512 * ((n + 1) % 16); omega) 0 (upto_zero _).symm
    · refine (congrFun (middle_eq m c ⟨n + 1, hn⟩ h hl) _).trans ((next_apply _ _ _ r k).trans ?_)
      refine block_sum m c ⟨n + 1, hn⟩ r k _ rfl _ ?_
      refine (ih (Nat.lt_of_succ_lt hn) (by omega)).trans ?_
      obtain ⟨e0, e1⟩ := same ⟨n + 1, hn⟩ h
      have er : row ⟨n, Nat.lt_of_succ_lt hn⟩ r = row ⟨n + 1, hn⟩ r := Fin.ext (congrArg (fun a => a * 1024 + r.val) e0)
      have ek : col ⟨n, Nat.lt_of_succ_lt hn⟩ k = col ⟨n + 1, hn⟩ k := Fin.ext (congrArg (fun a => a * 1024 + k.val) e1)
      rw [er, ek]
      exact congrArg _ (show 512 * (n % 16) + 512 = 512 * ((n + 1) % 16) by omega)

/-- What the call leaves in its result. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have hm : t.val % 16 = 15 := (flush0_2 t).mp hf
  blk_simp
  rw [after0_2, last_eq m c t hm]
  obtain ⟨r, k, rfl⟩ : ∃ (r : Fin 1024) (k : Fin 1024), y = ix2 r k := ⟨y 0, y 1, eq_ix2 y⟩
  refine (next_apply _ _ _ r k).trans ?_
  have e : ((win0_2.blk t).view.emb (ix2 r k) : S1024x1024.Idx) = ix2 (row t r) (col t k) := by
    blk_ext []
  refine Eq.trans ?_ (congrArg (product _ _) e).symm
  refine (block_sum m c t r k (512 * (t.val % 16)) rfl _ ?_).trans ?_
  · refine (acc_eq m c r k (t.val - 1) (Nat.lt_of_le_of_lt (Nat.sub_le _ _) t.isLt) (by omega)).trans ?_
    obtain ⟨e0, e1⟩ := same t (by omega)
    have er : row ⟨t.val - 1, Nat.lt_of_le_of_lt (Nat.sub_le _ _) t.isLt⟩ r = row t r := Fin.ext (congrArg (fun a => a * 1024 + r.val) e0)
    have ek : col ⟨t.val - 1, Nat.lt_of_le_of_lt (Nat.sub_le _ _) t.isLt⟩ k = col t k := Fin.ext (congrArg (fun a => a * 1024 + k.val) e1)
    rw [er, ek]
    exact congrArg _ (by omega)
  · rw [hm]
    exact upto_all _

/-- The reference's result is the same. -/
theorem reference_eq (x : FVec Ideal Cert.MixDwReferenceIdeal.S8192x1024 .f32) (y : FVec Ideal Cert.MixDwReferenceIdeal.S8192x1024 .f32) :
    Host.dotGeneral (F := Ideal) Cert.MixDwReferenceIdeal.dot_S1024x8192_S8192x1024_S1024x1024_1_0_0_1_n_n none
      (transpose Cert.MixDwReferenceIdeal.S1024x8192 [1, 0] x Cert.MixDwReferenceIdeal.Gen.transposes_S8192x1024_S1024x8192_1_0) y
      = (product x y : FVec Ideal Cert.MixDwReferenceIdeal.S1024x1024 .f32) := by
  funext i
  obtain ⟨r, k, rfl⟩ : ∃ (r : Fin 1024) (k : Fin 1024), i = ix2 r k := ⟨i 0, i 1, eq_ix2 i⟩
  unfold product
  pointwise

end Cert.MixDwProduct

end
-- ==== Proof.DownDwValue.lean ====
/- The gradient of the down projection's weight: what `ffn_down_dw` leaves in its result, element by element, is the reference's product over the
   extended reals. -/
module

public import proofs.«01_k».proof.Proof.Gen.DownDwIdeal.Value
public import proofs.«01_k».proof.Proof.Gen.DownDwReferenceIdeal.Run
public import proofs.«01_k».proof.Proof.Upto
public import Idealize.ShloMosaic.Lib.Pointwise
public import Idealize.ShloMosaic.Lib.Pipeline.ValueKit

@[expose] public section

set_option Elab.async false
set_option maxRecDepth 16384

noncomputable section

namespace Cert.DownDwProduct

open Idealize.ShloMosaic Idealize.ShloMosaic.TcCoe Idealize.ShloMosaic.Tactic Idealize.SL.Sem
open Idealize.ShloMosaic.Pipeline
open Cert.DownDwIdeal Cert.DownDwIdeal.Gen Cert.Upto

/-- The product of the columns of `x` and the columns of `y`. -/
def product (x : Vec Ideal S8192x2816 .f32) (y : Vec Ideal S8192x1024 .f32) : Vec Ideal S2816x1024 .f32 :=
  fun i => (∑ j : Fin 8192, (x (ix2 j (i 0)) : EReal) * y (ix2 j (i 1)))

/-- One element of a block of rows' product. -/
theorem part_apply (x : Vec Ideal S512x1408 .f32) (y : Vec Ideal S512x1024 .f32) (r : Fin 1408) (k : Fin 1024) :
    k0_pay1 (F := Ideal) x y (ix2 r k) = ∑ j : Fin 512, (x (ix2 j r) : EReal) * y (ix2 j k) := by
  pointwise [k0_pay1]

theorem first_apply (x : Vec Ideal S512x1408 .f32) (y : Vec Ideal S512x1024 .f32) (r : Fin 1408) (k : Fin 1024) :
    k0_pay2 (F := Ideal) x y (ix2 r k) = ∑ j : Fin 512, (x (ix2 j r) : EReal) * y (ix2 j k) := by
  unfold k0_pay2
  rw [shapeCast_self]
  exact part_apply x y r k

theorem next_apply (x : Vec Ideal S512x1408 .f32) (y : Vec Ideal S512x1024 .f32) (a : Vec Ideal S1408x1024 .f32) (r : Fin 1408) (k : Fin 1024) :
    k0_pay3 (F := Ideal) x y a (ix2 r k) = (a (ix2 r k) : EReal) + ∑ j : Fin 512, (x (ix2 j r) : EReal) * y (ix2 j k) := by
  unfold k0_pay3
  rw [shapeCast_self]
  exact congrArg (fun b : EReal => (a (ix2 r k) : EReal) + b) (part_apply x y r k)

variable (m : (ℓ : Loc nD τ sig) → Buf (Elt Ideal) ℓ)

theorem start_eq (c : Dev nD) (t : Fin cfg0.N) (h : t.val % 16 = 0) :
    (outsAt0 m c t.val t.isLt).2 = k0_pay2 (iblk m c 0 t) (iblk m c 1 t) := by
  have hN := lt_of_lt_of_eq t.isLt N_0
  rw [outsAt0_A m c t h (by omega) (by omega)]
  unfold sout0_A_0
  frame_out

theorem middle_eq (c : Dev nD) (t : Fin cfg0.N) (h : ¬t.val % 16 = 0) (hl : ¬t.val % 16 = 15) :
    (outsAt0 m c t.val t.isLt).2
      = k0_pay3 (iblk m c 0 t) (iblk m c 1 t) (outsAt0 m c (t.val - 1) (Nat.lt_of_le_of_lt (Nat.sub_le _ _) t.isLt)).2 := by
  have hN := lt_of_lt_of_eq t.isLt N_0
  rw [outsAt0_B m c t h (by omega) hl]
  unfold sout0_B_0
  frame_out
  exact congrArg (k0_pay3 _ _) (Memref.IsWhole.read_unread (Memref.isWhole_whole cc0_scratch0) _)

theorem last_eq (c : Dev nD) (t : Fin cfg0.N) (h : t.val % 16 = 15) :
    (outsAt0 m c t.val t.isLt).1
      = k0_pay3 (iblk m c 0 t) (iblk m c 1 t) (outsAt0 m c (t.val - 1) (Nat.lt_of_le_of_lt (Nat.sub_le _ _) t.isLt)).2 := by
  have hN := lt_of_lt_of_eq t.isLt N_0
  rw [outsAt0_C m c t (by omega) (by omega) h]
  unfold out0_C_2
  frame_out
  exact congrArg (k0_pay3 _ _) (Memref.IsWhole.read_unread (Memref.isWhole_whole cc0_scratch0) _)

theorem i0 : ∀ t : Fin cfg0.N, win0_0.index t 0 = t.val % 16 ∧ win0_0.index t 1 = win0_2.index t 0 := by decide +kernel
theorem i1 : ∀ t : Fin cfg0.N, win0_1.index t 0 = t.val % 16 ∧ win0_1.index t 1 = win0_2.index t 1 := by decide +kernel
theorem i2 : ∀ t : Fin cfg0.N, win0_2.index t 0 < 2 ∧ win0_2.index t 1 < 1 := by decide +kernel
theorem same : ∀ t : Fin cfg0.N, ¬t.val % 16 = 0 →
    win0_2.index ⟨t.val - 1, Nat.lt_of_le_of_lt (Nat.sub_le _ _) t.isLt⟩ 0 = win0_2.index t 0
    ∧ win0_2.index ⟨t.val - 1, Nat.lt_of_le_of_lt (Nat.sub_le _ _) t.isLt⟩ 1 = win0_2.index t 1 := by decide +kernel

/-- What row `j` of the arguments adds to an element of the result. -/
def term (x : Vec Ideal S8192x2816 .f32) (y : Vec Ideal S8192x1024 .f32) (r : Fin 2816) (k : Fin 1024) (j : Fin 8192) : EReal :=
  (x (ix2 j r) : EReal) * y (ix2 j k)

/-- The arguments and their blocks. -/
abbrev left (c : Dev nD) : Vec Ideal S8192x2816 .f32 := m ((c : Thread nD τ).loc main_arg0)
abbrev right (c : Dev nD) : Vec Ideal S8192x1024 .f32 := m ((c : Thread nD τ).loc main_arg1)
abbrev leftBlock (c : Dev nD) (t : Fin cfg0.N) : Vec Ideal S512x1408 .f32 := iblk m c 0 t
abbrev rightBlock (c : Dev nD) (t : Fin cfg0.N) : Vec Ideal S512x1024 .f32 := iblk m c 1 t

/-- The element's row in the result. -/
abbrev row (t : Fin cfg0.N) (r : Fin 1408) : Fin 2816 := ⟨win0_2.index t 0 * 1408 + r.val, by have := (i2 t).1; have := r.isLt; omega⟩
/-- The element's column in the result. -/
abbrev col (t : Fin cfg0.N) (k : Fin 1024) : Fin 1024 := ⟨win0_2.index t 1 * 1024 + k.val, by have := (i2 t).2; have := k.isLt; omega⟩

theorem block_sum (c : Dev nD) (t : Fin cfg0.N) (r : Fin 1408) (k : Fin 1024) (n : ℕ) (hn : n = 512 * (t.val % 16)) (a : EReal)
    (ha : a = upto (term (left m c) (right m c) (row t r) (col t k)) n) :
    a + ∑ j : Fin 512, (leftBlock m c t (ix2 j r) : EReal) * rightBlock m c t (ix2 j k)
      = upto (term (left m c) (right m c) (row t r) (col t k)) (n + 512) := by
  have hb : t.val % 16 < 16 := Nat.mod_lt _ (by decide)
  rw [upto_add _ n 512 (by omega), ha]
  refine congrArg (fun b : EReal => upto (term (left m c) (right m c) (row t r) (col t k)) n + b) (Finset.sum_congr (M := EReal) rfl fun j _ => ?_)
  have hj : n + j.val < 8192 := by have := j.isLt; omega
  have ex : leftBlock m c t (ix2 j r) = left m c (ix2 ⟨n + j.val, hj⟩ (row t r)) := by
    subst hn
    blk_ext [leftBlock, rightBlock, left, right, iblk, (i0 t).1, (i0 t).2]
  have ey : rightBlock m c t (ix2 j k) = right m c (ix2 ⟨n + j.val, hj⟩ (col t k)) := by
    subst hn
    blk_ext [leftBlock, rightBlock, left, right, iblk, (i1 t).1, (i1 t).2]
  exact congrArg₂ (fun a b : EReal => a * b) ex ey

/-- What the accumulator holds after a point that is not the last of its run. -/
theorem acc_eq (c : Dev nD) (r : Fin 1408) (k : Fin 1024) : ∀ (n : ℕ) (hn : n < cfg0.N), ¬n % 16 = 15 →
    (outsAt0 m c n hn).2 (ix2 r k) = upto (term (left m c) (right m c) (row ⟨n, hn⟩ r) (col ⟨n, hn⟩ k)) (512 * (n % 16) + 512) := by
  intro n
  induction n with
  | zero =>
    intro hn _
    refine (congrFun (start_eq m c ⟨0, hn⟩ rfl) _).trans ((first_apply _ _ r k).trans ?_)
    refine (zero_add _).symm.trans ?_
    exact block_sum m c ⟨0, hn⟩ r k 0 rfl 0 (upto_zero _).symm
  | succ n ih =>
    intro hn hl
    by_cases h : (n + 1) % 16 = 0
    · refine (congrFun (start_eq m c ⟨n + 1, hn⟩ h) _).trans ((first_apply _ _ r k).trans ?_)
      refine (zero_add _).symm.trans ?_
      rw [h]
      exact block_sum m c ⟨n + 1, hn⟩ r k 0 (by show 0 = 512 * ((n + 1) % 16); omega) 0 (upto_zero _).symm
    · refine (congrFun (middle_eq m c ⟨n + 1, hn⟩ h hl) _).trans ((next_apply _ _ _ r k).trans ?_)
      refine block_sum m c ⟨n + 1, hn⟩ r k _ rfl _ ?_
      refine (ih (Nat.lt_of_succ_lt hn) (by omega)).trans ?_
      obtain ⟨e0, e1⟩ := same ⟨n + 1, hn⟩ h
      have er : row ⟨n, Nat.lt_of_succ_lt hn⟩ r = row ⟨n + 1, hn⟩ r := Fin.ext (congrArg (fun a => a * 1408 + r.val) e0)
      have ek : col ⟨n, Nat.lt_of_succ_lt hn⟩ k = col ⟨n + 1, hn⟩ k := Fin.ext (congrArg (fun a => a * 1024 + k.val) e1)
      rw [er, ek]
      exact congrArg _ (show 512 * (n % 16) + 512 = 512 * ((n + 1) % 16) by omega)

/-- What the call leaves in its result. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have hm : t.val % 16 = 15 := (flush0_2 t).mp hf
  blk_simp
  rw [after0_2, last_eq m c t hm]
  obtain ⟨r, k, rfl⟩ : ∃ (r : Fin 1408) (k : Fin 1024), y = ix2 r k := ⟨y 0, y 1, eq_ix2 y⟩
  refine (next_apply _ _ _ r k).trans ?_
  have e : ((win0_2.blk t).view.emb (ix2 r k) : S2816x1024.Idx) = ix2 (row t r) (col t k) := by
    blk_ext []
  refine Eq.trans ?_ (congrArg (product _ _) e).symm
  refine (block_sum m c t r k (512 * (t.val % 16)) rfl _ ?_).trans ?_
  · refine (acc_eq m c r k (t.val - 1) (Nat.lt_of_le_of_lt (Nat.sub_le _ _) t.isLt) (by omega)).trans ?_
    obtain ⟨e0, e1⟩ := same t (by omega)
    have er : row ⟨t.val - 1, Nat.lt_of_le_of_lt (Nat.sub_le _ _) t.isLt⟩ r = row t r := Fin.ext (congrArg (fun a => a * 1408 + r.val) e0)
    have ek : col ⟨t.val - 1, Nat.lt_of_le_of_lt (Nat.sub_le _ _) t.isLt⟩ k = col t k := Fin.ext (congrArg (fun a => a * 1024 + k.val) e1)
    rw [er, ek]
    exact congrArg _ (by omega)
  · rw [hm]
    exact upto_all _

/-- The reference's result is the same. -/
theorem reference_eq (x : FVec Ideal Cert.DownDwReferenceIdeal.S8192x2816 .f32) (y : FVec Ideal Cert.DownDwReferenceIdeal.S8192x1024 .f32) :
    Host.dotGeneral (F := Ideal) Cert.DownDwReferenceIdeal.dot_S2816x8192_S8192x1024_S2816x1024_1_0_0_1_n_n none
      (transpose Cert.DownDwReferenceIdeal.S2816x8192 [1, 0] x Cert.DownDwReferenceIdeal.Gen.transposes_S8192x2816_S2816x8192_1_0) y
      = (product x y : FVec Ideal Cert.DownDwReferenceIdeal.S2816x1024 .f32) := by
  funext i
  obtain ⟨r, k, rfl⟩ : ∃ (r : Fin 2816) (k : Fin 1024), i = ix2 r k := ⟨i 0, i 1, eq_ix2 i⟩
  unfold product
  pointwise

end Cert.DownDwProduct

end
-- ==== Proof.UpDwValue.lean ====
/- The gradient of the up projection's weight: what `ffn_up_dw` leaves in its result, element by element, is the reference's product over the
   extended reals. -/
module

public import proofs.«01_k».proof.Proof.Gen.UpDwIdeal.Value
public import proofs.«01_k».proof.Proof.Gen.UpDwReferenceIdeal.Run
public import proofs.«01_k».proof.Proof.Upto
public import Idealize.ShloMosaic.Lib.Pointwise
public import Idealize.ShloMosaic.Lib.Pipeline.ValueKit

@[expose] public section

set_option Elab.async false
set_option maxRecDepth 16384

noncomputable section

namespace Cert.UpDwProduct

open Idealize.ShloMosaic Idealize.ShloMosaic.TcCoe Idealize.ShloMosaic.Tactic Idealize.SL.Sem
open Idealize.ShloMosaic.Pipeline
open Cert.UpDwIdeal Cert.UpDwIdeal.Gen Cert.Upto

/-- The product of the columns of `x` and the columns of `y`. -/
def product (x : Vec Ideal S8192x1024 .f32) (y : Vec Ideal S8192x5632 .f32) : Vec Ideal S1024x5632 .f32 :=
  fun i => (∑ j : Fin 8192, (x (ix2 j (i 0)) : EReal) * y (ix2 j (i 1)))

/-- One element of a block of rows' product. -/
theorem part_apply (x : Vec Ideal S512x1024 .f32) (y : Vec Ideal S512x1408 .f32) (r : Fin 1024) (k : Fin 1408) :
    k0_pay1 (F := Ideal) x y (ix2 r k) = ∑ j : Fin 512, (x (ix2 j r) : EReal) * y (ix2 j k) := by
  pointwise [k0_pay1]

theorem first_apply (x : Vec Ideal S512x1024 .f32) (y : Vec Ideal S512x1408 .f32) (r : Fin 1024) (k : Fin 1408) :
    k0_pay2 (F := Ideal) x y (ix2 r k) = ∑ j : Fin 512, (x (ix2 j r) : EReal) * y (ix2 j k) := by
  unfold k0_pay2
  rw [shapeCast_self]
  exact part_apply x y r k

theorem next_apply (x : Vec Ideal S512x1024 .f32) (y : Vec Ideal S512x1408 .f32) (a : Vec Ideal S1024x1408 .f32) (r : Fin 1024) (k : Fin 1408) :
    k0_pay3 (F := Ideal) x y a (ix2 r k) = (a (ix2 r k) : EReal) + ∑ j : Fin 512, (x (ix2 j r) : EReal) * y (ix2 j k) := by
  unfold k0_pay3
  rw [shapeCast_self]
  exact congrArg (fun b : EReal => (a (ix2 r k) : EReal) + b) (part_apply x y r k)

variable (m : (ℓ : Loc nD τ sig) → Buf (Elt Ideal) ℓ)

theorem start_eq (c : Dev nD) (t : Fin cfg0.N) (h : t.val % 16 = 0) :
    (outsAt0 m c t.val t.isLt).2 = k0_pay2 (iblk m c 0 t) (iblk m c 1 t) := by
  have hN := lt_of_lt_of_eq t.isLt N_0
  rw [outsAt0_A m c t h (by omega) (by omega)]
  unfold sout0_A_0
  frame_out

theorem middle_eq (c : Dev nD) (t : Fin cfg0.N) (h : ¬t.val % 16 = 0) (hl : ¬t.val % 16 = 15) :
    (outsAt0 m c t.val t.isLt).2
      = k0_pay3 (iblk m c 0 t) (iblk m c 1 t) (outsAt0 m c (t.val - 1) (Nat.lt_of_le_of_lt (Nat.sub_le _ _) t.isLt)).2 := by
  have hN := lt_of_lt_of_eq t.isLt N_0
  rw [outsAt0_B m c t h (by omega) hl]
  unfold sout0_B_0
  frame_out
  exact congrArg (k0_pay3 _ _) (Memref.IsWhole.read_unread (Memref.isWhole_whole cc0_scratch0) _)

theorem last_eq (c : Dev nD) (t : Fin cfg0.N) (h : t.val % 16 = 15) :
    (outsAt0 m c t.val t.isLt).1
      = k0_pay3 (iblk m c 0 t) (iblk m c 1 t) (outsAt0 m c (t.val - 1) (Nat.lt_of_le_of_lt (Nat.sub_le _ _) t.isLt)).2 := by
  have hN := lt_of_lt_of_eq t.isLt N_0
  rw [outsAt0_C m c t (by omega) (by omega) h]
  unfold out0_C_2
  frame_out
  exact congrArg (k0_pay3 _ _) (Memref.IsWhole.read_unread (Memref.isWhole_whole cc0_scratch0) _)

theorem i0 : ∀ t : Fin cfg0.N, win0_0.index t 0 = t.val % 16 ∧ win0_0.index t 1 = win0_2.index t 0 := by decide +kernel
theorem i1 : ∀ t : Fin cfg0.N, win0_1.index t 0 = t.val % 16 ∧ win0_1.index t 1 = win0_2.index t 1 := by decide +kernel
theorem i2 : ∀ t : Fin cfg0.N, win0_2.index t 0 < 1 ∧ win0_2.index t 1 < 4 := by decide +kernel
theorem same : ∀ t : Fin cfg0.N, ¬t.val % 16 = 0 →
    win0_2.index ⟨t.val - 1, Nat.lt_of_le_of_lt (Nat.sub_le _ _) t.isLt⟩ 0 = win0_2.index t 0
    ∧ win0_2.index ⟨t.val - 1, Nat.lt_of_le_of_lt (Nat.sub_le _ _) t.isLt⟩ 1 = win0_2.index t 1 := by decide +kernel

/-- What row `j` of the arguments adds to an element of the result. -/
def term (x : Vec Ideal S8192x1024 .f32) (y : Vec Ideal S8192x5632 .f32) (r : Fin 1024) (k : Fin 5632) (j : Fin 8192) : EReal :=
  (x (ix2 j r) : EReal) * y (ix2 j k)

/-- The arguments and their blocks. -/
abbrev left (c : Dev nD) : Vec Ideal S8192x1024 .f32 := m ((c : Thread nD τ).loc main_arg0)
abbrev right (c : Dev nD) : Vec Ideal S8192x5632 .f32 := m ((c : Thread nD τ).loc main_arg1)
abbrev leftBlock (c : Dev nD) (t : Fin cfg0.N) : Vec Ideal S512x1024 .f32 := iblk m c 0 t
abbrev rightBlock (c : Dev nD) (t : Fin cfg0.N) : Vec Ideal S512x1408 .f32 := iblk m c 1 t

/-- The element's row in the result. -/
abbrev row (t : Fin cfg0.N) (r : Fin 1024) : Fin 1024 := ⟨win0_2.index t 0 * 1024 + r.val, by have := (i2 t).1; have := r.isLt; omega⟩
/-- The element's column in the result. -/
abbrev col (t : Fin cfg0.N) (k : Fin 1408) : Fin 5632 := ⟨win0_2.index t 1 * 1408 + k.val, by have := (i2 t).2; have := k.isLt; omega⟩

theorem block_sum (c : Dev nD) (t : Fin cfg0.N) (r : Fin 1024) (k : Fin 1408) (n : ℕ) (hn : n = 512 * (t.val % 16)) (a : EReal)
    (ha : a = upto (term (left m c) (right m c) (row t r) (col t k)) n) :
    a + ∑ j : Fin 512, (leftBlock m c t (ix2 j r) : EReal) * rightBlock m c t (ix2 j k)
      = upto (term (left m c) (right m c) (row t r) (col t k)) (n + 512) := by
  have hb : t.val % 16 < 16 := Nat.mod_lt _ (by decide)
  rw [upto_add _ n 512 (by omega), ha]
  refine congrArg (fun b : EReal => upto (term (left m c) (right m c) (row t r) (col t k)) n + b) (Finset.sum_congr (M := EReal) rfl fun j _ => ?_)
  have hj : n + j.val < 8192 := by have := j.isLt; omega
  have ex : leftBlock m c t (ix2 j r) = left m c (ix2 ⟨n + j.val, hj⟩ (row t r)) := by
    subst hn
    blk_ext [leftBlock, rightBlock, left, right, iblk, (i0 t).1, (i0 t).2]
  have ey : rightBlock m c t (ix2 j k) = right m c (ix2 ⟨n + j.val, hj⟩ (col t k)) := by
    subst hn
    blk_ext [leftBlock, rightBlock, left, right, iblk, (i1 t).1, (i1 t).2]
  exact congrArg₂ (fun a b : EReal => a * b) ex ey

/-- What the accumulator holds after a point that is not the last of its run. -/
theorem acc_eq (c : Dev nD) (r : Fin 1024) (k : Fin 1408) : ∀ (n : ℕ) (hn : n < cfg0.N), ¬n % 16 = 15 →
    (outsAt0 m c n hn).2 (ix2 r k) = upto (term (left m c) (right m c) (row ⟨n, hn⟩ r) (col ⟨n, hn⟩ k)) (512 * (n % 16) + 512) := by
  intro n
  induction n with
  | zero =>
    intro hn _
    refine (congrFun (start_eq m c ⟨0, hn⟩ rfl) _).trans ((first_apply _ _ r k).trans ?_)
    refine (zero_add _).symm.trans ?_
    exact block_sum m c ⟨0, hn⟩ r k 0 rfl 0 (upto_zero _).symm
  | succ n ih =>
    intro hn hl
    by_cases h : (n + 1) % 16 = 0
    · refine (congrFun (start_eq m c ⟨n + 1, hn⟩ h) _).trans ((first_apply _ _ r k).trans ?_)
      refine (zero_add _).symm.trans ?_
      rw [h]
      exact block_sum m c ⟨n + 1, hn⟩ r k 0 (by show 0 = 512 * ((n + 1) % 16); omega) 0 (upto_zero _).symm
    · refine (congrFun (middle_eq m c ⟨n + 1, hn⟩ h hl) _).trans ((next_apply _ _ _ r k).trans ?_)
      refine block_sum m c ⟨n + 1, hn⟩ r k _ rfl _ ?_
      refine (ih (Nat.lt_of_succ_lt hn) (by omega)).trans ?_
      obtain ⟨e0, e1⟩ := same ⟨n + 1, hn⟩ h
      have er : row ⟨n, Nat.lt_of_succ_lt hn⟩ r = row ⟨n + 1, hn⟩ r := Fin.ext (congrArg (fun a => a * 1024 + r.val) e0)
      have ek : col ⟨n, Nat.lt_of_succ_lt hn⟩ k = col ⟨n + 1, hn⟩ k := Fin.ext (congrArg (fun a => a * 1408 + k.val) e1)
      rw [er, ek]
      exact congrArg _ (show 512 * (n % 16) + 512 = 512 * ((n + 1) % 16) by omega)

/-- What the call leaves in its result. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have hm : t.val % 16 = 15 := (flush0_2 t).mp hf
  blk_simp
  rw [after0_2, last_eq m c t hm]
  obtain ⟨r, k, rfl⟩ : ∃ (r : Fin 1024) (k : Fin 1408), y = ix2 r k := ⟨y 0, y 1, eq_ix2 y⟩
  refine (next_apply _ _ _ r k).trans ?_
  have e : ((win0_2.blk t).view.emb (ix2 r k) : S1024x5632.Idx) = ix2 (row t r) (col t k) := by
    blk_ext []
  refine Eq.trans ?_ (congrArg (product _ _) e).symm
  refine (block_sum m c t r k (512 * (t.val % 16)) rfl _ ?_).trans ?_
  · refine (acc_eq m c r k (t.val - 1) (Nat.lt_of_le_of_lt (Nat.sub_le _ _) t.isLt) (by omega)).trans ?_
    obtain ⟨e0, e1⟩ := same t (by omega)
    have er : row ⟨t.val - 1, Nat.lt_of_le_of_lt (Nat.sub_le _ _) t.isLt⟩ r = row t r := Fin.ext (congrArg (fun a => a * 1024 + r.val) e0)
    have ek : col ⟨t.val - 1, Nat.lt_of_le_of_lt (Nat.sub_le _ _) t.isLt⟩ k = col t k := Fin.ext (congrArg (fun a => a * 1408 + k.val) e1)
    rw [er, ek]
    exact congrArg _ (by omega)
  · rw [hm]
    exact upto_all _

/-- The reference's result is the same. -/
theorem reference_eq (x : FVec Ideal Cert.UpDwReferenceIdeal.S8192x1024 .f32) (y : FVec Ideal Cert.UpDwReferenceIdeal.S8192x5632 .f32) :
    Host.dotGeneral (F := Ideal) Cert.UpDwReferenceIdeal.dot_S1024x8192_S8192x5632_S1024x5632_1_0_0_1_n_n none
      (transpose Cert.UpDwReferenceIdeal.S1024x8192 [1, 0] x Cert.UpDwReferenceIdeal.Gen.transposes_S8192x1024_S1024x8192_1_0) y
      = (product x y : FVec Ideal Cert.UpDwReferenceIdeal.S1024x5632 .f32) := by
  funext i
  obtain ⟨r, k, rfl⟩ : ∃ (r : Fin 1024) (k : Fin 5632), i = ix2 r k := ⟨i 0, i 1, eq_ix2 i⟩
  unfold product
  pointwise

end Cert.UpDwProduct

end
-- ==== Proof.SharedDwValue.lean ====
/- The gradient of the shared keys', values' and gate's weight: what `kvf_dw` leaves in its result, element by element, is the reference's product over the
   extended reals. -/
module

public import proofs.«01_k».proof.Proof.Gen.SharedDwIdeal.Value
public import proofs.«01_k».proof.Proof.Gen.SharedDwReferenceIdeal.Run
public import proofs.«01_k».proof.Proof.Upto
public import Idealize.ShloMosaic.Lib.Pointwise
public import Idealize.ShloMosaic.Lib.Pipeline.ValueKit

@[expose] public section

set_option Elab.async false
set_option maxRecDepth 16384

noncomputable section

namespace Cert.SharedDwProduct

open Idealize.ShloMosaic Idealize.ShloMosaic.TcCoe Idealize.ShloMosaic.Tactic Idealize.SL.Sem
open Idealize.ShloMosaic.Pipeline
open Cert.SharedDwIdeal Cert.SharedDwIdeal.Gen Cert.Upto

/-- The product of the columns of `x` and the columns of `y`. -/
def product (x : Vec Ideal S8192x1024 .f32) (y : Vec Ideal S8192x1664 .f32) : Vec Ideal S1024x1664 .f32 :=
  fun i => (∑ j : Fin 8192, (x (ix2 j (i 0)) : EReal) * y (ix2 j (i 1)))

/-- One element of a block of rows' product. -/
theorem part_apply (x : Vec Ideal S512x1024 .f32) (y : Vec Ideal S512x1664 .f32) (r : Fin 1024) (k : Fin 1664) :
    k0_pay1 (F := Ideal) x y (ix2 r k) = ∑ j : Fin 512, (x (ix2 j r) : EReal) * y (ix2 j k) := by
  pointwise [k0_pay1]

theorem first_apply (x : Vec Ideal S512x1024 .f32) (y : Vec Ideal S512x1664 .f32) (r : Fin 1024) (k : Fin 1664) :
    k0_pay2 (F := Ideal) x y (ix2 r k) = ∑ j : Fin 512, (x (ix2 j r) : EReal) * y (ix2 j k) := by
  unfold k0_pay2
  rw [shapeCast_self]
  exact part_apply x y r k

theorem next_apply (x : Vec Ideal S512x1024 .f32) (y : Vec Ideal S512x1664 .f32) (a : Vec Ideal S1024x1664 .f32) (r : Fin 1024) (k : Fin 1664) :
    k0_pay3 (F := Ideal) x y a (ix2 r k) = (a (ix2 r k) : EReal) + ∑ j : Fin 512, (x (ix2 j r) : EReal) * y (ix2 j k) := by
  unfold k0_pay3
  rw [shapeCast_self]
  exact congrArg (fun b : EReal => (a (ix2 r k) : EReal) + b) (part_apply x y r k)

variable (m : (ℓ : Loc nD τ sig) → Buf (Elt Ideal) ℓ)

theorem start_eq (c : Dev nD) (t : Fin cfg0.N) (h : t.val % 16 = 0) :
    (outsAt0 m c t.val t.isLt).2 = k0_pay2 (iblk m c 0 t) (iblk m c 1 t) := by
  have hN := lt_of_lt_of_eq t.isLt N_0
  rw [outsAt0_A m c t h (by omega) (by omega)]
  unfold sout0_A_0
  frame_out

theorem middle_eq (c : Dev nD) (t : Fin cfg0.N) (h : ¬t.val % 16 = 0) (hl : ¬t.val % 16 = 15) :
    (outsAt0 m c t.val t.isLt).2
      = k0_pay3 (iblk m c 0 t) (iblk m c 1 t) (outsAt0 m c (t.val - 1) (Nat.lt_of_le_of_lt (Nat.sub_le _ _) t.isLt)).2 := by
  have hN := lt_of_lt_of_eq t.isLt N_0
  rw [outsAt0_B m c t h (by omega) hl]
  unfold sout0_B_0
  frame_out
  exact congrArg (k0_pay3 _ _) (Memref.IsWhole.read_unread (Memref.isWhole_whole cc0_scratch0) _)

theorem last_eq (c : Dev nD) (t : Fin cfg0.N) (h : t.val % 16 = 15) :
    (outsAt0 m c t.val t.isLt).1
      = k0_pay3 (iblk m c 0 t) (iblk m c 1 t) (outsAt0 m c (t.val - 1) (Nat.lt_of_le_of_lt (Nat.sub_le _ _) t.isLt)).2 := by
  have hN := lt_of_lt_of_eq t.isLt N_0
  rw [outsAt0_C m c t (by omega) (by omega) h]
  unfold out0_C_2
  frame_out
  exact congrArg (k0_pay3 _ _) (Memref.IsWhole.read_unread (Memref.isWhole_whole cc0_scratch0) _)

theorem i0 : ∀ t : Fin cfg0.N, win0_0.index t 0 = t.val % 16 ∧ win0_0.index t 1 = win0_2.index t 0 := by decide +kernel
theorem i1 : ∀ t : Fin cfg0.N, win0_1.index t 0 = t.val % 16 ∧ win0_1.index t 1 = win0_2.index t 1 := by decide +kernel
theorem i2 : ∀ t : Fin cfg0.N, win0_2.index t 0 < 1 ∧ win0_2.index t 1 < 1 := by decide +kernel
theorem same : ∀ t : Fin cfg0.N, ¬t.val % 16 = 0 →
    win0_2.index ⟨t.val - 1, Nat.lt_of_le_of_lt (Nat.sub_le _ _) t.isLt⟩ 0 = win0_2.index t 0
    ∧ win0_2.index ⟨t.val - 1, Nat.lt_of_le_of_lt (Nat.sub_le _ _) t.isLt⟩ 1 = win0_2.index t 1 := by decide +kernel

/-- What row `j` of the arguments adds to an element of the result. -/
def term (x : Vec Ideal S8192x1024 .f32) (y : Vec Ideal S8192x1664 .f32) (r : Fin 1024) (k : Fin 1664) (j : Fin 8192) : EReal :=
  (x (ix2 j r) : EReal) * y (ix2 j k)

/-- The arguments and their blocks. -/
abbrev left (c : Dev nD) : Vec Ideal S8192x1024 .f32 := m ((c : Thread nD τ).loc main_arg0)
abbrev right (c : Dev nD) : Vec Ideal S8192x1664 .f32 := m ((c : Thread nD τ).loc main_arg1)
abbrev leftBlock (c : Dev nD) (t : Fin cfg0.N) : Vec Ideal S512x1024 .f32 := iblk m c 0 t
abbrev rightBlock (c : Dev nD) (t : Fin cfg0.N) : Vec Ideal S512x1664 .f32 := iblk m c 1 t

/-- The element's row in the result. -/
abbrev row (t : Fin cfg0.N) (r : Fin 1024) : Fin 1024 := ⟨win0_2.index t 0 * 1024 + r.val, by have := (i2 t).1; have := r.isLt; omega⟩
/-- The element's column in the result. -/
abbrev col (t : Fin cfg0.N) (k : Fin 1664) : Fin 1664 := ⟨win0_2.index t 1 * 1664 + k.val, by have := (i2 t).2; have := k.isLt; omega⟩

theorem block_sum (c : Dev nD) (t : Fin cfg0.N) (r : Fin 1024) (k : Fin 1664) (n : ℕ) (hn : n = 512 * (t.val % 16)) (a : EReal)
    (ha : a = upto (term (left m c) (right m c) (row t r) (col t k)) n) :
    a + ∑ j : Fin 512, (leftBlock m c t (ix2 j r) : EReal) * rightBlock m c t (ix2 j k)
      = upto (term (left m c) (right m c) (row t r) (col t k)) (n + 512) := by
  have hb : t.val % 16 < 16 := Nat.mod_lt _ (by decide)
  rw [upto_add _ n 512 (by omega), ha]
  refine congrArg (fun b : EReal => upto (term (left m c) (right m c) (row t r) (col t k)) n + b) (Finset.sum_congr (M := EReal) rfl fun j _ => ?_)
  have hj : n + j.val < 8192 := by have := j.isLt; omega
  have ex : leftBlock m c t (ix2 j r) = left m c (ix2 ⟨n + j.val, hj⟩ (row t r)) := by
    subst hn
    blk_ext [leftBlock, rightBlock, left, right, iblk, (i0 t).1, (i0 t).2]
  have ey : rightBlock m c t (ix2 j k) = right m c (ix2 ⟨n + j.val, hj⟩ (col t k)) := by
    subst hn
    blk_ext [leftBlock, rightBlock, left, right, iblk, (i1 t).1, (i1 t).2]
  exact congrArg₂ (fun a b : EReal => a * b) ex ey

/-- What the accumulator holds after a point that is not the last of its run. -/
theorem acc_eq (c : Dev nD) (r : Fin 1024) (k : Fin 1664) : ∀ (n : ℕ) (hn : n < cfg0.N), ¬n % 16 = 15 →
    (outsAt0 m c n hn).2 (ix2 r k) = upto (term (left m c) (right m c) (row ⟨n, hn⟩ r) (col ⟨n, hn⟩ k)) (512 * (n % 16) + 512) := by
  intro n
  induction n with
  | zero =>
    intro hn _
    refine (congrFun (start_eq m c ⟨0, hn⟩ rfl) _).trans ((first_apply _ _ r k).trans ?_)
    refine (zero_add _).symm.trans ?_
    exact block_sum m c ⟨0, hn⟩ r k 0 rfl 0 (upto_zero _).symm
  | succ n ih =>
    intro hn hl
    by_cases h : (n + 1) % 16 = 0
    · refine (congrFun (start_eq m c ⟨n + 1, hn⟩ h) _).trans ((first_apply _ _ r k).trans ?_)
      refine (zero_add _).symm.trans ?_
      rw [h]
      exact block_sum m c ⟨n + 1, hn⟩ r k 0 (by show 0 = 512 * ((n + 1) % 16); omega) 0 (upto_zero _).symm
    · refine (congrFun (middle_eq m c ⟨n + 1, hn⟩ h hl) _).trans ((next_apply _ _ _ r k).trans ?_)
      refine block_sum m c ⟨n + 1, hn⟩ r k _ rfl _ ?_
      refine (ih (Nat.lt_of_succ_lt hn) (by omega)).trans ?_
      obtain ⟨e0, e1⟩ := same ⟨n + 1, hn⟩ h
      have er : row ⟨n, Nat.lt_of_succ_lt hn⟩ r = row ⟨n + 1, hn⟩ r := Fin.ext (congrArg (fun a => a * 1024 + r.val) e0)
      have ek : col ⟨n, Nat.lt_of_succ_lt hn⟩ k = col ⟨n + 1, hn⟩ k := Fin.ext (congrArg (fun a => a * 1664 + k.val) e1)
      rw [er, ek]
      exact congrArg _ (show 512 * (n % 16) + 512 = 512 * ((n + 1) % 16) by omega)

/-- What the call leaves in its result. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have hm : t.val % 16 = 15 := (flush0_2 t).mp hf
  blk_simp
  rw [after0_2, last_eq m c t hm]
  obtain ⟨r, k, rfl⟩ : ∃ (r : Fin 1024) (k : Fin 1664), y = ix2 r k := ⟨y 0, y 1, eq_ix2 y⟩
  refine (next_apply _ _ _ r k).trans ?_
  have e : ((win0_2.blk t).view.emb (ix2 r k) : S1024x1664.Idx) = ix2 (row t r) (col t k) := by
    blk_ext []
  refine Eq.trans ?_ (congrArg (product _ _) e).symm
  refine (block_sum m c t r k (512 * (t.val % 16)) rfl _ ?_).trans ?_
  · refine (acc_eq m c r k (t.val - 1) (Nat.lt_of_le_of_lt (Nat.sub_le _ _) t.isLt) (by omega)).trans ?_
    obtain ⟨e0, e1⟩ := same t (by omega)
    have er : row ⟨t.val - 1, Nat.lt_of_le_of_lt (Nat.sub_le _ _) t.isLt⟩ r = row t r := Fin.ext (congrArg (fun a => a * 1024 + r.val) e0)
    have ek : col ⟨t.val - 1, Nat.lt_of_le_of_lt (Nat.sub_le _ _) t.isLt⟩ k = col t k := Fin.ext (congrArg (fun a => a * 1664 + k.val) e1)
    rw [er, ek]
    exact congrArg _ (by omega)
  · rw [hm]
    exact upto_all _

/-- The reference's result is the same. -/
theorem reference_eq (x : FVec Ideal Cert.SharedDwReferenceIdeal.S8192x1024 .f32) (y : FVec Ideal Cert.SharedDwReferenceIdeal.S8192x1664 .f32) :
    Host.dotGeneral (F := Ideal) Cert.SharedDwReferenceIdeal.dot_S1024x8192_S8192x1664_S1024x1664_1_0_0_1_n_n none
      (transpose Cert.SharedDwReferenceIdeal.S1024x8192 [1, 0] x Cert.SharedDwReferenceIdeal.Gen.transposes_S8192x1024_S1024x8192_1_0) y
      = (product x y : FVec Ideal Cert.SharedDwReferenceIdeal.S1024x1664 .f32) := by
  funext i
  obtain ⟨r, k, rfl⟩ : ∃ (r : Fin 1024) (k : Fin 1664), i = ix2 r k := ⟨i 0, i 1, eq_ix2 i⟩
  unfold product
  pointwise

end Cert.SharedDwProduct

end
-- ==== Proof.PooledDwValue.lean ====
/- The gradient of the weight after the pooling: what `pool_mix_dw` leaves in its result, element by element, is the reference's product over the
   extended reals. -/
module

public import proofs.«01_k».proof.Proof.Gen.PooledDwIdeal.Value
public import proofs.«01_k».proof.Proof.Gen.PooledDwReferenceIdeal.Run
public import proofs.«01_k».proof.Proof.Upto
public import Idealize.ShloMosaic.Lib.Pointwise
public import Idealize.ShloMosaic.Lib.Pipeline.ValueKit

@[expose] public section

set_option Elab.async false
set_option maxRecDepth 16384

noncomputable section

namespace Cert.PooledDwProduct

open Idealize.ShloMosaic Idealize.ShloMosaic.TcCoe Idealize.ShloMosaic.Tactic Idealize.SL.Sem
open Idealize.ShloMosaic.Pipeline
open Cert.PooledDwIdeal Cert.PooledDwIdeal.Gen Cert.Upto

/-- The product of the columns of `x` and the columns of `y`. -/
def product (x : Vec Ideal S8192x768 .f32) (y : Vec Ideal S8192x768 .f32) : Vec Ideal S768x768 .f32 :=
  fun i => (∑ j : Fin 8192, (x (ix2 j (i 0)) : EReal) * y (ix2 j (i 1)))

/-- One element of a block of rows' product. -/
theorem part_apply (x : Vec Ideal S512x768 .f32) (y : Vec Ideal S512x768 .f32) (r : Fin 768) (k : Fin 768) :
    k0_pay1 (F := Ideal) x y (ix2 r k) = ∑ j : Fin 512, (x (ix2 j r) : EReal) * y (ix2 j k) := by
  pointwise [k0_pay1]

theorem first_apply (x : Vec Ideal S512x768 .f32) (y : Vec Ideal S512x768 .f32) (r : Fin 768) (k : Fin 768) :
    k0_pay2 (F := Ideal) x y (ix2 r k) = ∑ j : Fin 512, (x (ix2 j r) : EReal) * y (ix2 j k) := by
  unfold k0_pay2
  rw [shapeCast_self]
  exact part_apply x y r k

theorem next_apply (x : Vec Ideal S512x768 .f32) (y : Vec Ideal S512x768 .f32) (a : Vec Ideal S768x768 .f32) (r : Fin 768) (k : Fin 768) :
    k0_pay3 (F := Ideal) x y a (ix2 r k) = (a (ix2 r k) : EReal) + ∑ j : Fin 512, (x (ix2 j r) : EReal) * y (ix2 j k) := by
  unfold k0_pay3
  rw [shapeCast_self]
  exact congrArg (fun b : EReal => (a (ix2 r k) : EReal) + b) (part_apply x y r k)

variable (m : (ℓ : Loc nD τ sig) → Buf (Elt Ideal) ℓ)

theorem start_eq (c : Dev nD) (t : Fin cfg0.N) (h : t.val % 16 = 0) :
    (outsAt0 m c t.val t.isLt).2 = k0_pay2 (iblk m c 0 t) (iblk m c 1 t) := by
  have hN := lt_of_lt_of_eq t.isLt N_0
  rw [outsAt0_A m c t h (by omega) (by omega)]
  unfold sout0_A_0
  frame_out

theorem middle_eq (c : Dev nD) (t : Fin cfg0.N) (h : ¬t.val % 16 = 0) (hl : ¬t.val % 16 = 15) :
    (outsAt0 m c t.val t.isLt).2
      = k0_pay3 (iblk m c 0 t) (iblk m c 1 t) (outsAt0 m c (t.val - 1) (Nat.lt_of_le_of_lt (Nat.sub_le _ _) t.isLt)).2 := by
  have hN := lt_of_lt_of_eq t.isLt N_0
  rw [outsAt0_B m c t h (by omega) hl]
  unfold sout0_B_0
  frame_out
  exact congrArg (k0_pay3 _ _) (Memref.IsWhole.read_unread (Memref.isWhole_whole cc0_scratch0) _)

theorem last_eq (c : Dev nD) (t : Fin cfg0.N) (h : t.val % 16 = 15) :
    (outsAt0 m c t.val t.isLt).1
      = k0_pay3 (iblk m c 0 t) (iblk m c 1 t) (outsAt0 m c (t.val - 1) (Nat.lt_of_le_of_lt (Nat.sub_le _ _) t.isLt)).2 := by
  have hN := lt_of_lt_of_eq t.isLt N_0
  rw [outsAt0_C m c t (by omega) (by omega) h]
  unfold out0_C_2
  frame_out
  exact congrArg (k0_pay3 _ _) (Memref.IsWhole.read_unread (Memref.isWhole_whole cc0_scratch0) _)

theorem i0 : ∀ t : Fin cfg0.N, win0_0.index t 0 = t.val % 16 ∧ win0_0.index t 1 = win0_2.index t 0 := by decide +kernel
theorem i1 : ∀ t : Fin cfg0.N, win0_1.index t 0 = t.val % 16 ∧ win0_1.index t 1 = win0_2.index t 1 := by decide +kernel
theorem i2 : ∀ t : Fin cfg0.N, win0_2.index t 0 < 1 ∧ win0_2.index t 1 < 1 := by decide +kernel
theorem same : ∀ t : Fin cfg0.N, ¬t.val % 16 = 0 →
    win0_2.index ⟨t.val - 1, Nat.lt_of_le_of_lt (Nat.sub_le _ _) t.isLt⟩ 0 = win0_2.index t 0
    ∧ win0_2.index ⟨t.val - 1, Nat.lt_of_le_of_lt (Nat.sub_le _ _) t.isLt⟩ 1 = win0_2.index t 1 := by decide +kernel

/-- What row `j` of the arguments adds to an element of the result. -/
def term (x : Vec Ideal S8192x768 .f32) (y : Vec Ideal S8192x768 .f32) (r : Fin 768) (k : Fin 768) (j : Fin 8192) : EReal :=
  (x (ix2 j r) : EReal) * y (ix2 j k)

/-- The arguments and their blocks. -/
abbrev left (c : Dev nD) : Vec Ideal S8192x768 .f32 := m ((c : Thread nD τ).loc main_arg0)
abbrev right (c : Dev nD) : Vec Ideal S8192x768 .f32 := m ((c : Thread nD τ).loc main_arg1)
abbrev leftBlock (c : Dev nD) (t : Fin cfg0.N) : Vec Ideal S512x768 .f32 := iblk m c 0 t
abbrev rightBlock (c : Dev nD) (t : Fin cfg0.N) : Vec Ideal S512x768 .f32 := iblk m c 1 t

/-- The element's row in the result. -/
abbrev row (t : Fin cfg0.N) (r : Fin 768) : Fin 768 := ⟨win0_2.index t 0 * 768 + r.val, by have := (i2 t).1; have := r.isLt; omega⟩
/-- The element's column in the result. -/
abbrev col (t : Fin cfg0.N) (k : Fin 768) : Fin 768 := ⟨win0_2.index t 1 * 768 + k.val, by have := (i2 t).2; have := k.isLt; omega⟩

theorem block_sum (c : Dev nD) (t : Fin cfg0.N) (r : Fin 768) (k : Fin 768) (n : ℕ) (hn : n = 512 * (t.val % 16)) (a : EReal)
    (ha : a = upto (term (left m c) (right m c) (row t r) (col t k)) n) :
    a + ∑ j : Fin 512, (leftBlock m c t (ix2 j r) : EReal) * rightBlock m c t (ix2 j k)
      = upto (term (left m c) (right m c) (row t r) (col t k)) (n + 512) := by
  have hb : t.val % 16 < 16 := Nat.mod_lt _ (by decide)
  rw [upto_add _ n 512 (by omega), ha]
  refine congrArg (fun b : EReal => upto (term (left m c) (right m c) (row t r) (col t k)) n + b) (Finset.sum_congr (M := EReal) rfl fun j _ => ?_)
  have hj : n + j.val < 8192 := by have := j.isLt; omega
  have ex : leftBlock m c t (ix2 j r) = left m c (ix2 ⟨n + j.val, hj⟩ (row t r)) := by
    subst hn
    blk_ext [leftBlock, rightBlock, left, right, iblk, (i0 t).1, (i0 t).2]
  have ey : rightBlock m c t (ix2 j k) = right m c (ix2 ⟨n + j.val, hj⟩ (col t k)) := by
    subst hn
    blk_ext [leftBlock, rightBlock, left, right, iblk, (i1 t).1, (i1 t).2]
  exact congrArg₂ (fun a b : EReal => a * b) ex ey

/-- What the accumulator holds after a point that is not the last of its run. -/
theorem acc_eq (c : Dev nD) (r : Fin 768) (k : Fin 768) : ∀ (n : ℕ) (hn : n < cfg0.N), ¬n % 16 = 15 →
    (outsAt0 m c n hn).2 (ix2 r k) = upto (term (left m c) (right m c) (row ⟨n, hn⟩ r) (col ⟨n, hn⟩ k)) (512 * (n % 16) + 512) := by
  intro n
  induction n with
  | zero =>
    intro hn _
    refine (congrFun (start_eq m c ⟨0, hn⟩ rfl) _).trans ((first_apply _ _ r k).trans ?_)
    refine (zero_add _).symm.trans ?_
    exact block_sum m c ⟨0, hn⟩ r k 0 rfl 0 (upto_zero _).symm
  | succ n ih =>
    intro hn hl
    by_cases h : (n + 1) % 16 = 0
    · refine (congrFun (start_eq m c ⟨n + 1, hn⟩ h) _).trans ((first_apply _ _ r k).trans ?_)
      refine (zero_add _).symm.trans ?_
      rw [h]
      exact block_sum m c ⟨n + 1, hn⟩ r k 0 (by show 0 = 512 * ((n + 1) % 16); omega) 0 (upto_zero _).symm
    · refine (congrFun (middle_eq m c ⟨n + 1, hn⟩ h hl) _).trans ((next_apply _ _ _ r k).trans ?_)
      refine block_sum m c ⟨n + 1, hn⟩ r k _ rfl _ ?_
      refine (ih (Nat.lt_of_succ_lt hn) (by omega)).trans ?_
      obtain ⟨e0, e1⟩ := same ⟨n + 1, hn⟩ h
      have er : row ⟨n, Nat.lt_of_succ_lt hn⟩ r = row ⟨n + 1, hn⟩ r := Fin.ext (congrArg (fun a => a * 768 + r.val) e0)
      have ek : col ⟨n, Nat.lt_of_succ_lt hn⟩ k = col ⟨n + 1, hn⟩ k := Fin.ext (congrArg (fun a => a * 768 + k.val) e1)
      rw [er, ek]
      exact congrArg _ (show 512 * (n % 16) + 512 = 512 * ((n + 1) % 16) by omega)

/-- What the call leaves in its result. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have hm : t.val % 16 = 15 := (flush0_2 t).mp hf
  blk_simp
  rw [after0_2, last_eq m c t hm]
  obtain ⟨r, k, rfl⟩ : ∃ (r : Fin 768) (k : Fin 768), y = ix2 r k := ⟨y 0, y 1, eq_ix2 y⟩
  refine (next_apply _ _ _ r k).trans ?_
  have e : ((win0_2.blk t).view.emb (ix2 r k) : S768x768.Idx) = ix2 (row t r) (col t k) := by
    blk_ext []
  refine Eq.trans ?_ (congrArg (product _ _) e).symm
  refine (block_sum m c t r k (512 * (t.val % 16)) rfl _ ?_).trans ?_
  · refine (acc_eq m c r k (t.val - 1) (Nat.lt_of_le_of_lt (Nat.sub_le _ _) t.isLt) (by omega)).trans ?_
    obtain ⟨e0, e1⟩ := same t (by omega)
    have er : row ⟨t.val - 1, Nat.lt_of_le_of_lt (Nat.sub_le _ _) t.isLt⟩ r = row t r := Fin.ext (congrArg (fun a => a * 768 + r.val) e0)
    have ek : col ⟨t.val - 1, Nat.lt_of_le_of_lt (Nat.sub_le _ _) t.isLt⟩ k = col t k := Fin.ext (congrArg (fun a => a * 768 + k.val) e1)
    rw [er, ek]
    exact congrArg _ (by omega)
  · rw [hm]
    exact upto_all _

/-- The reference's result is the same. -/
theorem reference_eq (x : FVec Ideal Cert.PooledDwReferenceIdeal.S8192x768 .f32) (y : FVec Ideal Cert.PooledDwReferenceIdeal.S8192x768 .f32) :
    Host.dotGeneral (F := Ideal) Cert.PooledDwReferenceIdeal.dot_S768x8192_S8192x768_S768x768_1_0_0_1_n_n none
      (transpose Cert.PooledDwReferenceIdeal.S768x8192 [1, 0] x Cert.PooledDwReferenceIdeal.Gen.transposes_S8192x768_S768x8192_1_0) y
      = (product x y : FVec Ideal Cert.PooledDwReferenceIdeal.S768x768 .f32) := by
  funext i
  obtain ⟨r, k, rfl⟩ : ∃ (r : Fin 768) (k : Fin 768), i = ix2 r k := ⟨i 0, i 1, eq_ix2 i⟩
  unfold product
  pointwise

end Cert.PooledDwProduct

end
-- ==== Proof.UpDxValue.lean ====
/- The gradient through the up projection: what `ffn_up_dx` leaves in its result, element by element, is the reference's product over the
   extended reals. -/
module

public import proofs.«01_k».proof.Proof.Gen.UpDxIdeal.Value
public import proofs.«01_k».proof.Proof.Gen.UpDxReferenceIdeal.Run
public import proofs.«01_k».proof.Proof.Upto
public import Idealize.ShloMosaic.Lib.Pointwise
public import Idealize.ShloMosaic.Lib.Pipeline.ValueKit

@[expose] public section

set_option Elab.async false
set_option maxRecDepth 16384

noncomputable section

namespace Cert.UpDxProduct

open Idealize.ShloMosaic Idealize.ShloMosaic.TcCoe Idealize.ShloMosaic.Tactic Idealize.SL.Sem
open Idealize.ShloMosaic.Pipeline
open Cert.UpDxIdeal Cert.UpDxIdeal.Gen Cert.Upto

/-- The product of the rows of `x` and the rows of `y`. -/
def product (x : Vec Ideal S8192x5632 .f32) (y : Vec Ideal S1024x5632 .bf16) : Vec Ideal S8192x1024 .f32 :=
  fun i => (∑ j : Fin 5632, (x (ix2 (i 0) j) : EReal) * y (ix2 (i 1) j))

/-- One element of a block of columns' product. -/
theorem part_apply (x : Vec Ideal S512x1408 .f32) (y : Vec Ideal S1024x1408 .bf16) (r : Fin 512) (k : Fin 1024) :
    k0_pay1 (F := Ideal) x y (ix2 r k) = ∑ j : Fin 1408, (x (ix2 r j) : EReal) * y (ix2 k j) := by
  pointwise [k0_pay1]

theorem first_apply (x : Vec Ideal S512x1408 .f32) (y : Vec Ideal S1024x1408 .bf16) (r : Fin 512) (k : Fin 1024) :
    k0_pay2 (F := Ideal) x y (ix2 r k) = ∑ j : Fin 1408, (x (ix2 r j) : EReal) * y (ix2 k j) := by
  unfold k0_pay2
  rw [shapeCast_self]
  exact part_apply x y r k

theorem next_apply (x : Vec Ideal S512x1408 .f32) (y : Vec Ideal S1024x1408 .bf16) (a : Vec Ideal S512x1024 .f32) (r : Fin 512) (k : Fin 1024) :
    k0_pay3 (F := Ideal) x y a (ix2 r k) = (a (ix2 r k) : EReal) + ∑ j : Fin 1408, (x (ix2 r j) : EReal) * y (ix2 k j) := by
  unfold k0_pay3
  rw [shapeCast_self]
  exact congrArg (fun b : EReal => (a (ix2 r k) : EReal) + b) (part_apply x y r k)

variable (m : (ℓ : Loc nD τ sig) → Buf (Elt Ideal) ℓ)

theorem start_eq (c : Dev nD) (t : Fin cfg0.N) (h : t.val % 4 = 0) :
    (outsAt0 m c t.val t.isLt).2 = k0_pay2 (iblk m c 0 t) (iblk m c 1 t) := by
  have hN := lt_of_lt_of_eq t.isLt N_0
  rw [outsAt0_A m c t h (by omega) (by omega)]
  unfold sout0_A_0
  frame_out

theorem middle_eq (c : Dev nD) (t : Fin cfg0.N) (h : ¬t.val % 4 = 0) (hl : ¬t.val % 4 = 3) :
    (outsAt0 m c t.val t.isLt).2
      = k0_pay3 (iblk m c 0 t) (iblk m c 1 t) (outsAt0 m c (t.val - 1) (Nat.lt_of_le_of_lt (Nat.sub_le _ _) t.isLt)).2 := by
  have hN := lt_of_lt_of_eq t.isLt N_0
  rw [outsAt0_B m c t h (by omega) hl]
  unfold sout0_B_0
  frame_out
  exact congrArg (k0_pay3 _ _) (Memref.IsWhole.read_unread (Memref.isWhole_whole cc0_scratch0) _)

theorem last_eq (c : Dev nD) (t : Fin cfg0.N) (h : t.val % 4 = 3) :
    (outsAt0 m c t.val t.isLt).1
      = k0_pay3 (iblk m c 0 t) (iblk m c 1 t) (outsAt0 m c (t.val - 1) (Nat.lt_of_le_of_lt (Nat.sub_le _ _) t.isLt)).2 := by
  have hN := lt_of_lt_of_eq t.isLt N_0
  rw [outsAt0_C m c t (by omega) (by omega) h]
  unfold out0_C_2
  frame_out
  exact congrArg (k0_pay3 _ _) (Memref.IsWhole.read_unread (Memref.isWhole_whole cc0_scratch0) _)

theorem i0 : ∀ t : Fin cfg0.N, win0_0.index t 1 = t.val % 4 ∧ win0_0.index t 0 = win0_2.index t 0 := by decide +kernel
theorem i1 : ∀ t : Fin cfg0.N, win0_1.index t 1 = t.val % 4 ∧ win0_1.index t 0 = win0_2.index t 1 := by decide +kernel
theorem i2 : ∀ t : Fin cfg0.N, win0_2.index t 0 < 16 ∧ win0_2.index t 1 < 1 := by decide +kernel
theorem same : ∀ t : Fin cfg0.N, ¬t.val % 4 = 0 →
    win0_2.index ⟨t.val - 1, Nat.lt_of_le_of_lt (Nat.sub_le _ _) t.isLt⟩ 0 = win0_2.index t 0
    ∧ win0_2.index ⟨t.val - 1, Nat.lt_of_le_of_lt (Nat.sub_le _ _) t.isLt⟩ 1 = win0_2.index t 1 := by decide +kernel

/-- What column `j` of the arguments adds to an element of the result. -/
def term (x : Vec Ideal S8192x5632 .f32) (y : Vec Ideal S1024x5632 .bf16) (r : Fin 8192) (k : Fin 1024) (j : Fin 5632) : EReal :=
  (x (ix2 r j) : EReal) * y (ix2 k j)

/-- The arguments and their blocks. -/
abbrev left (c : Dev nD) : Vec Ideal S8192x5632 .f32 := m ((c : Thread nD τ).loc main_arg0)
abbrev right (c : Dev nD) : Vec Ideal S1024x5632 .bf16 := m ((c : Thread nD τ).loc main_arg1)
abbrev leftBlock (c : Dev nD) (t : Fin cfg0.N) : Vec Ideal S512x1408 .f32 := iblk m c 0 t
abbrev rightBlock (c : Dev nD) (t : Fin cfg0.N) : Vec Ideal S1024x1408 .bf16 := iblk m c 1 t

/-- The element's row in the result. -/
abbrev row (t : Fin cfg0.N) (r : Fin 512) : Fin 8192 := ⟨win0_2.index t 0 * 512 + r.val, by have := (i2 t).1; have := r.isLt; omega⟩
/-- The element's column in the result. -/
abbrev col (t : Fin cfg0.N) (k : Fin 1024) : Fin 1024 := ⟨win0_2.index t 1 * 1024 + k.val, by have := (i2 t).2; have := k.isLt; omega⟩

theorem block_sum (c : Dev nD) (t : Fin cfg0.N) (r : Fin 512) (k : Fin 1024) (n : ℕ) (hn : n = 1408 * (t.val % 4)) (a : EReal)
    (ha : a = upto (term (left m c) (right m c) (row t r) (col t k)) n) :
    a + ∑ j : Fin 1408, (leftBlock m c t (ix2 r j) : EReal) * rightBlock m c t (ix2 k j)
      = upto (term (left m c) (right m c) (row t r) (col t k)) (n + 1408) := by
  have hb : t.val % 4 < 4 := Nat.mod_lt _ (by decide)
  rw [upto_add _ n 1408 (by omega), ha]
  refine congrArg (fun b : EReal => upto (term (left m c) (right m c) (row t r) (col t k)) n + b) (Finset.sum_congr (M := EReal) rfl fun j _ => ?_)
  have hj : n + j.val < 5632 := by have := j.isLt; omega
  have ex : leftBlock m c t (ix2 r j) = left m c (ix2 (row t r) ⟨n + j.val, hj⟩) := by
    subst hn
    blk_ext [leftBlock, rightBlock, left, right, iblk, (i0 t).1, (i0 t).2]
  have ey : rightBlock m c t (ix2 k j) = right m c (ix2 (col t k) ⟨n + j.val, hj⟩) := by
    subst hn
    blk_ext [leftBlock, rightBlock, left, right, iblk, (i1 t).1, (i1 t).2]
  exact congrArg₂ (fun a b : EReal => a * b) ex ey

/-- What the accumulator holds after a point that is not the last of its run. -/
theorem acc_eq (c : Dev nD) (r : Fin 512) (k : Fin 1024) : ∀ (n : ℕ) (hn : n < cfg0.N), ¬n % 4 = 3 →
    (outsAt0 m c n hn).2 (ix2 r k) = upto (term (left m c) (right m c) (row ⟨n, hn⟩ r) (col ⟨n, hn⟩ k)) (1408 * (n % 4) + 1408) := by
  intro n
  induction n with
  | zero =>
    intro hn _
    refine (congrFun (start_eq m c ⟨0, hn⟩ rfl) _).trans ((first_apply _ _ r k).trans ?_)
    refine (zero_add _).symm.trans ?_
    exact block_sum m c ⟨0, hn⟩ r k 0 rfl 0 (upto_zero _).symm
  | succ n ih =>
    intro hn hl
    by_cases h : (n + 1) % 4 = 0
    · refine (congrFun (start_eq m c ⟨n + 1, hn⟩ h) _).trans ((first_apply _ _ r k).trans ?_)
      refine (zero_add _).symm.trans ?_
      rw [h]
      exact block_sum m c ⟨n + 1, hn⟩ r k 0 (by show 0 = 1408 * ((n + 1) % 4); omega) 0 (upto_zero _).symm
    · refine (congrFun (middle_eq m c ⟨n + 1, hn⟩ h hl) _).trans ((next_apply _ _ _ r k).trans ?_)
      refine block_sum m c ⟨n + 1, hn⟩ r k _ rfl _ ?_
      refine (ih (Nat.lt_of_succ_lt hn) (by omega)).trans ?_
      obtain ⟨e0, e1⟩ := same ⟨n + 1, hn⟩ h
      have er : row ⟨n, Nat.lt_of_succ_lt hn⟩ r = row ⟨n + 1, hn⟩ r := Fin.ext (congrArg (fun a => a * 512 + r.val) e0)
      have ek : col ⟨n, Nat.lt_of_succ_lt hn⟩ k = col ⟨n + 1, hn⟩ k := Fin.ext (congrArg (fun a => a * 1024 + k.val) e1)
      rw [er, ek]
      exact congrArg _ (show 1408 * (n % 4) + 1408 = 1408 * ((n + 1) % 4) by omega)

/-- What the call leaves in its result. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  blk_simp
  rw [after0_2, last_eq m c t hm]
  obtain ⟨r, k, rfl⟩ : ∃ (r : Fin 512) (k : Fin 1024), y = ix2 r k := ⟨y 0, y 1, eq_ix2 y⟩
  refine (next_apply _ _ _ r k).trans ?_
  have e : ((win0_2.blk t).view.emb (ix2 r k) : S8192x1024.Idx) = ix2 (row t r) (col t k) := by
    blk_ext []
  refine Eq.trans ?_ (congrArg (product _ _) e).symm
  refine (block_sum m c t r k (1408 * (t.val % 4)) rfl _ ?_).trans ?_
  · refine (acc_eq m c r k (t.val - 1) (Nat.lt_of_le_of_lt (Nat.sub_le _ _) t.isLt) (by omega)).trans ?_
    obtain ⟨e0, e1⟩ := same t (by omega)
    have er : row ⟨t.val - 1, Nat.lt_of_le_of_lt (Nat.sub_le _ _) t.isLt⟩ r = row t r := Fin.ext (congrArg (fun a => a * 512 + r.val) e0)
    have ek : col ⟨t.val - 1, Nat.lt_of_le_of_lt (Nat.sub_le _ _) t.isLt⟩ k = col t k := Fin.ext (congrArg (fun a => a * 1024 + k.val) e1)
    rw [er, ek]
    exact congrArg _ (by omega)
  · rw [hm]
    exact upto_all _

/-- The reference's result is the same. -/
theorem reference_eq (x : FVec Ideal Cert.UpDxReferenceIdeal.S8192x5632 .f32) (y : FVec Ideal Cert.UpDxReferenceIdeal.S1024x5632 .bf16) :
    Host.dotGeneral (F := Ideal) Cert.UpDxReferenceIdeal.dot_S8192x5632_S5632x1024_S8192x1024_1_0_0_1_n_n none x
      (transpose Cert.UpDxReferenceIdeal.S5632x1024 [1, 0] (extf .f32 y Cert.UpDxReferenceIdeal.Gen.bitsLt_bf16_f32) Cert.UpDxReferenceIdeal.Gen.transposes_S1024x5632_S5632x1024_1_0)
      = (product x y : FVec Ideal Cert.UpDxReferenceIdeal.S8192x1024 .f32) := by
  funext i
  obtain ⟨r, k, rfl⟩ : ∃ (r : Fin 8192) (k : Fin 1024), i = ix2 r k := ⟨i 0, i 1, eq_ix2 i⟩
  unfold product
  pointwise

end Cert.UpDxProduct

end
-- ==== Proof.KeysDwValue.lean ====
/- The gradient of the memory's keys' and values' weight: what `memkv_dw` leaves in its result, element by element, is the reference's product
   over the extended reals. -/
module

public import proofs.«01_k».proof.Proof.Gen.KeysDwIdeal.Value
public import proofs.«01_k».proof.Proof.Gen.KeysDwReferenceIdeal.Run
public import Idealize.ShloMosaic.Lib.Pointwise
public import Idealize.ShloMosaic.Lib.Pipeline.ValueKit

@[expose] public section

set_option Elab.async false
set_option maxRecDepth 16384

noncomputable section

namespace Cert.KeysDwProduct

open Idealize.ShloMosaic Idealize.ShloMosaic.TcCoe Idealize.ShloMosaic.Tactic Idealize.SL.Sem
open Idealize.ShloMosaic.Pipeline
open Cert.KeysDwIdeal Cert.KeysDwIdeal.Gen

/-- The product of the columns of `x` and the columns of `y`. -/
def product (x : Vec Ideal S512x1024 .f32) (y : Vec Ideal S512x512 .f32) : Vec Ideal S1024x512 .f32 :=
  fun i => (∑ j : Fin 512, (x (ix2 j (i 0)) : EReal) * y (ix2 j (i 1)))

/-- One element. -/
theorem tile_apply (x : Vec Ideal S512x1024 .f32) (y : Vec Ideal S512x512 .f32) (r : Fin 1024) (k : Fin 512) :
    k0_pay1 (F := Ideal) x y (ix2 r k) = ∑ j : Fin 512, (x (ix2 j r) : EReal) * y (ix2 j k) := by
  pointwise [k0_pay1]

variable (m : (ℓ : Loc nD τ sig) → Buf (Elt Ideal) ℓ)

theorem left_eq (c : Dev nD) (t : Fin cfg0.N) : outsAt0 m c t = k0_pay1 (iblk m c 0 t) (iblk m c 1 t) := by
  unfold outsAt0
  frame_out

/-- What the call leaves in its result. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, left_eq]
  obtain ⟨r, k, rfl⟩ : ∃ (r : Fin 1024) (k : Fin 512), y = ix2 r k := ⟨y 0, y 1, eq_ix2 y⟩
  refine (tile_apply _ _ r k).trans ?_
  have hi : ∀ t : Fin cfg0.N, win0_2.index t 0 = 0 ∧ win0_2.index t 1 = 0 := by decide +kernel
  have h0 : ∀ t : Fin cfg0.N, win0_0.index t 0 = 0 ∧ win0_0.index t 1 = 0 := by decide +kernel
  have h1 : ∀ t : Fin cfg0.N, win0_1.index t 0 = 0 ∧ win0_1.index t 1 = 0 := by decide +kernel
  have e : ((win0_2.blk t).view.emb (ix2 r k) : S1024x512.Idx) = ix2 r k := by
    blk_ext [(hi t).1, (hi t).2]
  have ex (j : Fin 512) : iblk m c 0 t (ix2 j r) = m ((c : Thread nD τ).loc main_arg0) (ix2 j r) := by
    blk_ext [iblk, (h0 t).1, (h0 t).2]
  have ey (j : Fin 512) : iblk m c 1 t (ix2 j k) = m ((c : Thread nD τ).loc main_arg1) (ix2 j k) := by
    blk_ext [iblk, (h1 t).1, (h1 t).2]
  refine Eq.trans ?_ (congrArg (product _ _) e).symm
  exact Finset.sum_congr (M := EReal) rfl fun j _ => congrArg₂ (fun a b : EReal => a * b) (ex j) (ey j)

/-- The reference's result is the same. -/
theorem reference_eq (x : FVec Ideal Cert.KeysDwReferenceIdeal.S512x1024 .f32) (y : FVec Ideal Cert.KeysDwReferenceIdeal.S512x512 .f32) :
    Host.dotGeneral (F := Ideal) Cert.KeysDwReferenceIdeal.dot_S1024x512_S512x512_S1024x512_1_0_0_1_n_n none
      (transpose Cert.KeysDwReferenceIdeal.S1024x512 [1, 0] x Cert.KeysDwReferenceIdeal.Gen.transposes_S512x1024_S1024x512_1_0) y
      = (product x y : FVec Ideal Cert.KeysDwReferenceIdeal.S1024x512 .f32) := by
  funext i
  obtain ⟨r, k, rfl⟩ : ∃ (r : Fin 1024) (k : Fin 512), i = ix2 r k := ⟨i 0, i 1, eq_ix2 i⟩
  unfold product
  pointwise

end Cert.KeysDwProduct

end
-- ==== Proof.lean ====
/- The claims of the certificate: what each program leaves, and that the kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Swap
public import proofs.«01_k».proof.Proof.Gen.Swap.Skeleton
public import proofs.«01_k».proof.Proof.Gen.Swap.Launch
public import proofs.«01_k».proof.Proof.Gen.Swap.Points
public import proofs.«01_k».proof.Proof.Gen.SwapIdeal
public import proofs.«01_k».proof.Proof.Gen.SwapIdeal.Skeleton
public import proofs.«01_k».proof.Proof.Gen.SwapIdeal.Launch
public import proofs.«01_k».proof.Proof.Gen.SwapIdeal.Points
public import proofs.«01_k».proof.Proof.Gen.SwapReferenceIdeal
public import proofs.«01_k».proof.Proof.Gen.SwapReferenceIdeal.Run
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherReferenceIdeal
public import proofs.«01_k».proof.Proof.Gen.GatherReferenceIdeal.Run
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallReferenceIdeal
public import proofs.«01_k».proof.Proof.Gen.SmallReferenceIdeal.Run
public import proofs.«01_k».proof.Proof.Gen.GradXReferenceIdeal
public import proofs.«01_k».proof.Proof.Gen.GradXReferenceIdeal.Run
public import proofs.«01_k».proof.Proof.Gen.LossReferenceIdeal
public import proofs.«01_k».proof.Proof.Gen.LossReferenceIdeal.Run
public import proofs.«01_k».proof.Proof.Gen.GradX
public import proofs.«01_k».proof.Proof.Gen.GradX.Skeleton
public import proofs.«01_k».proof.Proof.Gen.GradX.Launch
public import proofs.«01_k».proof.Proof.Gen.GradX.Points
public import proofs.«01_k».proof.Proof.Gen.GradXIdeal
public import proofs.«01_k».proof.Proof.Gen.GradXIdeal.Skeleton
public import proofs.«01_k».proof.Proof.Gen.GradXIdeal.Launch
public import proofs.«01_k».proof.Proof.Gen.GradXIdeal.Points
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.MemoryReferenceIdeal
public import proofs.«01_k».proof.Proof.Gen.MemoryReferenceIdeal.Run
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.GradXIdeal.Value
public import proofs.«01_k».proof.Proof.Gen.MemoryIdeal.Value
public import proofs.«01_k».proof.Proof.Gen.MixReferenceIdeal
public import proofs.«01_k».proof.Proof.Gen.MixReferenceIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Value
public import proofs.«01_k».proof.Proof.Gen.NormReferenceIdeal
public import proofs.«01_k».proof.Proof.Gen.NormReferenceIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Value
public import proofs.«01_k».proof.Proof.Gen.ConvGateReferenceIdeal
public import proofs.«01_k».proof.Proof.Gen.ConvGateReferenceIdeal.Run
public import proofs.«01_k».proof.Proof.Gen.ConvGate
public import proofs.«01_k».proof.Proof.Gen.ConvGate.Skeleton
public import proofs.«01_k».proof.Proof.Gen.ConvGate.Launch
public import proofs.«01_k».proof.Proof.Gen.ConvGate.Points
public import proofs.«01_k».proof.Proof.Gen.ConvGateIdeal
public import proofs.«01_k».proof.Proof.Gen.ConvGateIdeal.Skeleton
public import proofs.«01_k».proof.Proof.Gen.ConvGateIdeal.Launch
public import proofs.«01_k».proof.Proof.Gen.ConvGateIdeal.Points
public import proofs.«01_k».proof.Proof.Gen.ConvGateIdeal.Value
public import proofs.«01_k».proof.Proof.Gen.UpReferenceIdeal
public import proofs.«01_k».proof.Proof.Gen.UpReferenceIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Value
public import proofs.«01_k».proof.Proof.Gen.DownReferenceIdeal
public import proofs.«01_k».proof.Proof.Gen.DownReferenceIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Value
public import proofs.«01_k».proof.Proof.Gen.KeysReferenceIdeal
public import proofs.«01_k».proof.Proof.Gen.KeysReferenceIdeal.Run
public import proofs.«01_k».proof.Proof.Gen.Keys
public import proofs.«01_k».proof.Proof.Gen.Keys.Skeleton
public import proofs.«01_k».proof.Proof.Gen.Keys.Launch
public import proofs.«01_k».proof.Proof.Gen.Keys.Points
public import proofs.«01_k».proof.Proof.Gen.KeysIdeal
public import proofs.«01_k».proof.Proof.Gen.KeysIdeal.Skeleton
public import proofs.«01_k».proof.Proof.Gen.KeysIdeal.Launch
public import proofs.«01_k».proof.Proof.Gen.KeysIdeal.Points
public import proofs.«01_k».proof.Proof.Gen.KeysIdeal.Value
public import proofs.«01_k».proof.Proof.Gen.SharedReferenceIdeal
public import proofs.«01_k».proof.Proof.Gen.SharedReferenceIdeal.Run
public import proofs.«01_k».proof.Proof.Gen.Shared
public import proofs.«01_k».proof.Proof.Gen.Shared.Skeleton
public import proofs.«01_k».proof.Proof.Gen.Shared.Launch
public import proofs.«01_k».proof.Proof.Gen.Shared.Points
public import proofs.«01_k».proof.Proof.Gen.SharedIdeal
public import proofs.«01_k».proof.Proof.Gen.SharedIdeal.Skeleton
public import proofs.«01_k».proof.Proof.Gen.SharedIdeal.Launch
public import proofs.«01_k».proof.Proof.Gen.SharedIdeal.Points
public import proofs.«01_k».proof.Proof.Gen.SharedIdeal.Value
public import proofs.«01_k».proof.Proof.Gen.PooledReferenceIdeal
public import proofs.«01_k».proof.Proof.Gen.PooledReferenceIdeal.Run
public import proofs.«01_k».proof.Proof.Gen.Pooled
public import proofs.«01_k».proof.Proof.Gen.Pooled.Skeleton
public import proofs.«01_k».proof.Proof.Gen.Pooled.Launch
public import proofs.«01_k».proof.Proof.Gen.Pooled.Points
public import proofs.«01_k».proof.Proof.Gen.PooledIdeal
public import proofs.«01_k».proof.Proof.Gen.PooledIdeal.Skeleton
public import proofs.«01_k».proof.Proof.Gen.PooledIdeal.Launch
public import proofs.«01_k».proof.Proof.Gen.PooledIdeal.Points
public import proofs.«01_k».proof.Proof.Gen.PooledIdeal.Value
public import proofs.«01_k».proof.Proof.Gen.MixDxReferenceIdeal
public import proofs.«01_k».proof.Proof.Gen.MixDxReferenceIdeal.Run
public import proofs.«01_k».proof.Proof.Gen.MixDx
public import proofs.«01_k».proof.Proof.Gen.MixDx.Skeleton
public import proofs.«01_k».proof.Proof.Gen.MixDx.Launch
public import proofs.«01_k».proof.Proof.Gen.MixDx.Points
public import proofs.«01_k».proof.Proof.Gen.MixDxIdeal
public import proofs.«01_k».proof.Proof.Gen.MixDxIdeal.Skeleton
public import proofs.«01_k».proof.Proof.Gen.MixDxIdeal.Launch
public import proofs.«01_k».proof.Proof.Gen.MixDxIdeal.Points
public import proofs.«01_k».proof.Proof.Gen.MixDxIdeal.Value
public import proofs.«01_k».proof.Proof.Gen.DownDxReferenceIdeal
public import proofs.«01_k».proof.Proof.Gen.DownDxReferenceIdeal.Run
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Value
public import proofs.«01_k».proof.Proof.Gen.SharedDxReferenceIdeal
public import proofs.«01_k».proof.Proof.Gen.SharedDxReferenceIdeal.Run
public import proofs.«01_k».proof.Proof.Gen.SharedDx
public import proofs.«01_k».proof.Proof.Gen.SharedDx.Skeleton
public import proofs.«01_k».proof.Proof.Gen.SharedDx.Launch
public import proofs.«01_k».proof.Proof.Gen.SharedDx.Points
public import proofs.«01_k».proof.Proof.Gen.SharedDxIdeal
public import proofs.«01_k».proof.Proof.Gen.SharedDxIdeal.Skeleton
public import proofs.«01_k».proof.Proof.Gen.SharedDxIdeal.Launch
public import proofs.«01_k».proof.Proof.Gen.SharedDxIdeal.Points
public import proofs.«01_k».proof.Proof.Gen.SharedDxIdeal.Value
public import proofs.«01_k».proof.Proof.Gen.PooledDxReferenceIdeal
public import proofs.«01_k».proof.Proof.Gen.PooledDxReferenceIdeal.Run
public import proofs.«01_k».proof.Proof.Gen.PooledDx
public import proofs.«01_k».proof.Proof.Gen.PooledDx.Skeleton
public import proofs.«01_k».proof.Proof.Gen.PooledDx.Launch
public import proofs.«01_k».proof.Proof.Gen.PooledDx.Points
public import proofs.«01_k».proof.Proof.Gen.PooledDxIdeal
public import proofs.«01_k».proof.Proof.Gen.PooledDxIdeal.Skeleton
public import proofs.«01_k».proof.Proof.Gen.PooledDxIdeal.Launch
public import proofs.«01_k».proof.Proof.Gen.PooledDxIdeal.Points
public import proofs.«01_k».proof.Proof.Gen.PooledDxIdeal.Value
public import proofs.«01_k».proof.Proof.Gen.DownDwReferenceIdeal
public import proofs.«01_k».proof.Proof.Gen.DownDwReferenceIdeal.Run
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Value
public import proofs.«01_k».proof.Proof.Gen.UpDwReferenceIdeal
public import proofs.«01_k».proof.Proof.Gen.UpDwReferenceIdeal.Run
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Value
public import proofs.«01_k».proof.Proof.Gen.SharedDwReferenceIdeal
public import proofs.«01_k».proof.Proof.Gen.SharedDwReferenceIdeal.Run
public import proofs.«01_k».proof.Proof.Gen.SharedDw
public import proofs.«01_k».proof.Proof.Gen.SharedDw.Skeleton
public import proofs.«01_k».proof.Proof.Gen.SharedDw.Launch
public import proofs.«01_k».proof.Proof.Gen.SharedDw.Points
public import proofs.«01_k».proof.Proof.Gen.SharedDwIdeal
public import proofs.«01_k».proof.Proof.Gen.SharedDwIdeal.Skeleton
public import proofs.«01_k».proof.Proof.Gen.SharedDwIdeal.Launch
public import proofs.«01_k».proof.Proof.Gen.SharedDwIdeal.Points
public import proofs.«01_k».proof.Proof.Gen.SharedDwIdeal.Value
public import proofs.«01_k».proof.Proof.Gen.PooledDwReferenceIdeal
public import proofs.«01_k».proof.Proof.Gen.PooledDwReferenceIdeal.Run
public import proofs.«01_k».proof.Proof.Gen.PooledDw
public import proofs.«01_k».proof.Proof.Gen.PooledDw.Skeleton
public import proofs.«01_k».proof.Proof.Gen.PooledDw.Launch
public import proofs.«01_k».proof.Proof.Gen.PooledDw.Points
public import proofs.«01_k».proof.Proof.Gen.PooledDwIdeal
public import proofs.«01_k».proof.Proof.Gen.PooledDwIdeal.Skeleton
public import proofs.«01_k».proof.Proof.Gen.PooledDwIdeal.Launch
public import proofs.«01_k».proof.Proof.Gen.PooledDwIdeal.Points
public import proofs.«01_k».proof.Proof.Gen.PooledDwIdeal.Value
public import proofs.«01_k».proof.Proof.Gen.UpDxReferenceIdeal
public import proofs.«01_k».proof.Proof.Gen.UpDxReferenceIdeal.Run
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Value
public import proofs.«01_k».proof.Proof.Gen.KeysDwReferenceIdeal
public import proofs.«01_k».proof.Proof.Gen.KeysDwReferenceIdeal.Run
public import proofs.«01_k».proof.Proof.Gen.KeysDw
public import proofs.«01_k».proof.Proof.Gen.KeysDw.Skeleton
public import proofs.«01_k».proof.Proof.Gen.KeysDw.Launch
public import proofs.«01_k».proof.Proof.Gen.KeysDw.Points
public import proofs.«01_k».proof.Proof.Gen.KeysDwIdeal
public import proofs.«01_k».proof.Proof.Gen.KeysDwIdeal.Skeleton
public import proofs.«01_k».proof.Proof.Gen.KeysDwIdeal.Launch
public import proofs.«01_k».proof.Proof.Gen.KeysDwIdeal.Points
public import proofs.«01_k».proof.Proof.Gen.KeysDwIdeal.Value
public import proofs.«01_k».proof.Proof.Gen.MixDwReferenceIdeal
public import proofs.«01_k».proof.Proof.Gen.MixDwReferenceIdeal.Run
public import proofs.«01_k».proof.Proof.Gen.MixDw
public import proofs.«01_k».proof.Proof.Gen.MixDw.Skeleton
public import proofs.«01_k».proof.Proof.Gen.MixDw.Launch
public import proofs.«01_k».proof.Proof.Gen.MixDw.Points
public import proofs.«01_k».proof.Proof.Gen.MixDwIdeal
public import proofs.«01_k».proof.Proof.Gen.MixDwIdeal.Skeleton
public import proofs.«01_k».proof.Proof.Gen.MixDwIdeal.Launch
public import proofs.«01_k».proof.Proof.Gen.MixDwIdeal.Points
public import proofs.«01_k».proof.Proof.Gen.MixDwIdeal.Value
public import proofs.«01_k».proof.SwapReference
public import proofs.«01_k».proof.GatherReference
public import proofs.«01_k».proof.SmallReference
public import proofs.«01_k».proof.Proof.Run
public import proofs.«01_k».proof.Proof.Step
public import proofs.«01_k».proof.Proof.Value
public import proofs.«01_k».proof.Proof.SwapValue
public import proofs.«01_k».proof.Proof.GatherValue
public import proofs.«01_k».proof.Proof.SmallValue
public import proofs.«01_k».proof.Proof.GradXValue
public import proofs.«01_k».proof.Proof.LossPsum
public import proofs.«01_k».proof.Proof.LossValue
public import Idealize.ShloMosaic.Adequacy
public import Idealize.ShloMosaic.Init
public import proofs.«01_k».proof.Proof.MemoryValue
public import proofs.«01_k».proof.Proof.MemoryReference
public import proofs.«01_k».proof.Proof.MixValue
public import proofs.«01_k».proof.Proof.NormReference
public import proofs.«01_k».proof.Proof.ConvGateReference
public import proofs.«01_k».proof.Proof.UpValue
public import proofs.«01_k».proof.Proof.DownValue
public import proofs.«01_k».proof.Proof.KeysValue
public import proofs.«01_k».proof.Proof.SharedValue
public import proofs.«01_k».proof.Proof.PooledValue
public import proofs.«01_k».proof.Proof.MixDxValue
public import proofs.«01_k».proof.Proof.DownDxValue
public import proofs.«01_k».proof.Proof.SharedDxValue
public import proofs.«01_k».proof.Proof.PooledDxValue
public import proofs.«01_k».proof.Proof.MixDwValue
public import proofs.«01_k».proof.Proof.DownDwValue
public import proofs.«01_k».proof.Proof.UpDwValue
public import proofs.«01_k».proof.Proof.SharedDwValue
public import proofs.«01_k».proof.Proof.PooledDwValue
public import proofs.«01_k».proof.Proof.UpDxValue
public import proofs.«01_k».proof.Proof.KeysDwValue

@[expose] public section

noncomputable section

namespace Cert.Proof

open Idealize.ShloMosaic Idealize.SL.Sem

section Kernel
set_option maxRecDepth 65536
set_option backward.isDefEq.respectTransparency.types false

/-- The two kernel programs run the same bodies. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, _ => rfl
  | ⟨1, _⟩, _ => rfl

theorem defs_eq : Cert.Kernel.defs (F := Bits) = Cert.KernelIdeal.defs (F := Bits) := by
  unfold Cert.Kernel.defs Cert.KernelIdeal.defs
  exact congrArg (Pipeline.defs Cert.KernelIdeal.pcfgs) bodies_eq

theorem frame_kernel : Cert.quiescent_Kernel := fun m ρ _ => by
  rw [defs_eq]
  exact (θ_run Cert.KernelIdeal.defs _ _).mono (fun _ h => ⟨fun c => (h.1 c).2, h.2⟩) (Cert.Run.run_main (F := Bits) m ρ)

end Kernel

theorem frame_kernelIdeal : Cert.quiescent_KernelIdeal := fun m ρ _ =>
  (θ_run Cert.KernelIdeal.defs _ _).mono (fun _ h => ⟨fun c => (h.1 c).2, h.2⟩) (Cert.Run.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩) (Cert.Value.run m ρ)

theorem algebraic : Cert.algebraic_KernelIdeal_ReferenceIdeal := by
  intro m g m' g' _ hagree
  refine ⟨_, ?_, (θ_run Cert.ReferenceIdeal.defs _ _).mono (fun r h => h 0) (Cert.Value.run m' g')⟩
  refine (θ_run Cert.KernelIdeal.defs _ _).mono (fun r h c => ⟨(h.1 c).1.trans ?_, (h.1 c).2⟩) (Cert.Run.run_main (F := Ideal) m g)
  rw [Cert.Step.final, Cert.Run.mid_v1, Cert.Run.mid_of m c _ (by decide), Cert.Run.mid_of m c _ (by decide), Cert.Run.mid_of m c _ (by decide),
    (hagree c).2.1, (hagree c).2.2.1, (hagree c).2.2.2]
  exact Cert.Value.result_eq (Cert.Run.sent m) _ _ _ _ (fun d => (hagree d).1) c

section Swap
set_option maxRecDepth 65536
set_option backward.isDefEq.respectTransparency.types false

/-- The two programs run the same body. -/
theorem bodies_eqSwap : Cert.Swap.defs₀ (F := Bits) = Cert.SwapIdeal.defs₀ (F := Bits) := by
  unfold Cert.Swap.defs₀ Cert.SwapIdeal.defs₀
  refine congrArg Defs.onTc (funext fun l => funext fun a => ?_)
  match l, a with
  | ⟨0, _⟩, _ => rfl

theorem defs_eqSwap : Cert.Swap.defs (F := Bits) = Cert.SwapIdeal.defs (F := Bits) := by
  unfold Cert.Swap.defs Cert.SwapIdeal.defs
  exact congrArg (Pipeline.defs Cert.SwapIdeal.pcfgs) bodies_eqSwap

theorem frameSwap : Cert.quiescent_Swap := fun m ρ _ => by
  rw [defs_eqSwap]
  exact (θ_run Cert.SwapIdeal.defs _ _).mono (fun _ h => ⟨fun c => (h.1 c).2, h.2⟩) (Cert.Halves.run_main (F := Bits) m ρ)

theorem frameSwapIdeal : Cert.quiescent_SwapIdeal := fun m ρ _ =>
  (θ_run Cert.SwapIdeal.defs _ _).mono (fun _ h => ⟨fun c => (h.1 c).2, h.2⟩) (Cert.Halves.run_main (F := Ideal) m ρ)

theorem frameSwapReferenceIdeal : Cert.quiescent_SwapReferenceIdeal := fun m ρ _ =>
  (θ_run Cert.SwapReferenceIdeal.defs _ _).mono (fun r h => ⟨fun c => (h c).2, sem_eq_zero_of_no_sems (by decide) r.2⟩)
    (Cert.SwapReferenceIdeal.Value.run (F := Ideal) m ρ)

/-- The reference before idealization is the same program. -/
instance factsSwapReference₀ : Cert.SwapReference.Facts₀ where
  shapeCasts_S4x24576x1024_S4x8x3072x1024 := Cert.SwapReferenceIdeal.Gen.shapeCasts_S4x24576x1024_S4x8x3072x1024
  slices_S4x8x3072x1024_S4x8x2904x1024_0_0_0_0 := Cert.SwapReferenceIdeal.Gen.slices_S4x8x3072x1024_S4x8x2904x1024_0_0_0_0
instance factsSwapReference : Cert.SwapReference.Facts where

theorem runSwapReference (m : (ℓ : Loc Cert.SwapReference.nD Cert.SwapReference.τ Cert.SwapReference.sig) → Buf (Elt Bits) ℓ)
    (ρ : Dev Cert.SwapReference.nD → PrngReg) :
    θ_run Cert.SwapReference.defs (onTc (τ := Cert.SwapReference.τ) (Cert.SwapReference.main (F := Bits))) ⟨m, fun _ => 0, ρ⟩ fun r =>
      ∀ c : Dev Cert.SwapReference.nD,
        r.2.mem ((c.tc : Thread Cert.SwapReference.nD Cert.SwapReference.τ).loc Cert.SwapReference.main_v1)
          = Cert.Halves.halves (F := Bits) (m ((c.tc : Thread Cert.SwapReference.nD Cert.SwapReference.τ).loc Cert.SwapReference.main_arg0))
        ∧ r.2.mem ((c.tc : Thread Cert.SwapReference.nD Cert.SwapReference.τ).loc Cert.SwapReference.main_arg0)
          = m ((c.tc : Thread Cert.SwapReference.nD Cert.SwapReference.τ).loc Cert.SwapReference.main_arg0) :=
  Cert.SwapReferenceIdeal.Value.run (F := Bits) m ρ

theorem frameSwapReference : Cert.quiescent_SwapReference := fun m ρ _ =>
  (θ_run Cert.SwapReference.defs _ _).mono (fun r h => ⟨fun c => (h c).2, sem_eq_zero_of_no_sems (by decide) r.2⟩) (runSwapReference m ρ)

theorem algebraicSwap : Cert.algebraic_SwapIdeal_SwapReferenceIdeal := by
  intro m g m' g' _ hagree
  refine ⟨_, ?_, (θ_run Cert.SwapReferenceIdeal.defs _ _).mono (fun r h => h 0) (Cert.SwapReferenceIdeal.Value.run (F := Ideal) m' g')⟩
  exact (θ_run Cert.SwapIdeal.defs _ _).mono (fun r h c => ⟨(h.1 c).1.trans (Cert.Halves.result_eq (F := Ideal) _ _ hagree c), (h.1 c).2⟩)
    (Cert.Halves.run_main (F := Ideal) m g)

theorem bitexactSwap : Cert.bitexact_Swap_SwapReference := by
  intro m g m' g' _ hagree
  refine ⟨_, ?_, (θ_run Cert.SwapReference.defs _ _).mono (fun r h => h 0) (runSwapReference m' g')⟩
  rw [defs_eqSwap]
  exact (θ_run Cert.SwapIdeal.defs _ _).mono (fun r h c => ⟨(h.1 c).1.trans (Cert.Halves.result_eq (F := Bits) _ _ hagree c), (h.1 c).2⟩)
    (Cert.Halves.run_main (F := Bits) m g)

end Swap

section Gather
set_option maxRecDepth 65536
set_option backward.isDefEq.respectTransparency.types false

/-- The two programs run the same body. -/
theorem bodies_eqGather : Cert.Gather.defs₀ (F := Bits) = Cert.GatherIdeal.defs₀ (F := Bits) := by
  unfold Cert.Gather.defs₀ Cert.GatherIdeal.defs₀
  refine congrArg Defs.onTc (funext fun l => funext fun a => ?_)
  match l, a with
  | ⟨0, _⟩, _ => rfl

theorem defs_eqGather : Cert.Gather.defs (F := Bits) = Cert.GatherIdeal.defs (F := Bits) := by
  unfold Cert.Gather.defs Cert.GatherIdeal.defs
  exact congrArg (Pipeline.defs Cert.GatherIdeal.pcfgs) bodies_eqGather

theorem frameGather : Cert.quiescent_Gather := fun m ρ _ => by
  rw [defs_eqGather]
  exact (θ_run Cert.GatherIdeal.defs _ _).mono (fun _ h => ⟨fun c => (h.1 c).2, h.2⟩) (Cert.Weights.run_main (F := Bits) m ρ)

theorem frameGatherIdeal : Cert.quiescent_GatherIdeal := fun m ρ _ =>
  (θ_run Cert.GatherIdeal.defs _ _).mono (fun _ h => ⟨fun c => (h.1 c).2, h.2⟩) (Cert.Weights.run_main (F := Ideal) m ρ)

theorem frameGatherReferenceIdeal : Cert.quiescent_GatherReferenceIdeal := fun m ρ _ =>
  (θ_run Cert.GatherReferenceIdeal.defs _ _).mono (fun r h => ⟨fun c => (h c).2, sem_eq_zero_of_no_sems (by decide) r.2⟩)
    (Cert.GatherReferenceIdeal.Value.run (F := Ideal) m ρ)

/-- The reference before idealization is the same program. -/
instance factsGatherReference₀ : Cert.GatherReference.Facts₀ where
  shapeCasts_S23232x1024_S8x2904x1024 := Cert.GatherReferenceIdeal.Gen.shapeCasts_S23232x1024_S8x2904x1024
instance factsGatherReference : Cert.GatherReference.Facts where

theorem runGatherReference (m : (ℓ : Loc Cert.GatherReference.nD Cert.GatherReference.τ Cert.GatherReference.sig) → Buf (Elt Bits) ℓ)
    (ρ : Dev Cert.GatherReference.nD → PrngReg) :
    θ_run Cert.GatherReference.defs (onTc (τ := Cert.GatherReference.τ) (Cert.GatherReference.main (F := Bits))) ⟨m, fun _ => 0, ρ⟩ fun r =>
      ∀ c : Dev Cert.GatherReference.nD,
        r.2.mem ((c.tc : Thread Cert.GatherReference.nD Cert.GatherReference.τ).loc Cert.GatherReference.main_v0)
          = Cert.Weights.whole (F := Bits) (m ((c.tc : Thread Cert.GatherReference.nD Cert.GatherReference.τ).loc Cert.GatherReference.main_arg0))
        ∧ r.2.mem ((c.tc : Thread Cert.GatherReference.nD Cert.GatherReference.τ).loc Cert.GatherReference.main_arg0)
          = m ((c.tc : Thread Cert.GatherReference.nD Cert.GatherReference.τ).loc Cert.GatherReference.main_arg0) :=
  Cert.GatherReferenceIdeal.Value.run (F := Bits) m ρ

theorem frameGatherReference : Cert.quiescent_GatherReference := fun m ρ _ =>
  (θ_run Cert.GatherReference.defs _ _).mono (fun r h => ⟨fun c => (h c).2, sem_eq_zero_of_no_sems (by decide) r.2⟩) (runGatherReference m ρ)

theorem algebraicGather : Cert.algebraic_GatherIdeal_GatherReferenceIdeal := by
  intro m g m' g' _ hagree
  refine ⟨_, ?_, (θ_run Cert.GatherReferenceIdeal.defs _ _).mono (fun r h => h 0) (Cert.GatherReferenceIdeal.Value.run (F := Ideal) m' g')⟩
  exact (θ_run Cert.GatherIdeal.defs _ _).mono (fun r h c => ⟨(h.1 c).1.trans (Cert.Weights.result_eq (F := Ideal) _ _ hagree c), (h.1 c).2⟩)
    (Cert.Weights.run_main (F := Ideal) m g)

theorem bitexactGather : Cert.bitexact_Gather_GatherReference := by
  intro m g m' g' _ hagree
  refine ⟨_, ?_, (θ_run Cert.GatherReference.defs _ _).mono (fun r h => h 0) (runGatherReference m' g')⟩
  rw [defs_eqGather]
  exact (θ_run Cert.GatherIdeal.defs _ _).mono (fun r h c => ⟨(h.1 c).1.trans (Cert.Weights.result_eq (F := Bits) _ _ hagree c), (h.1 c).2⟩)
    (Cert.Weights.run_main (F := Bits) m g)

end Gather

section Small
set_option maxRecDepth 65536
set_option backward.isDefEq.respectTransparency.types false

/-- The two programs run the same body. -/
theorem bodies_eqSmall : Cert.Small.defs₀ (F := Bits) = Cert.SmallIdeal.defs₀ (F := Bits) := by
  unfold Cert.Small.defs₀ Cert.SmallIdeal.defs₀
  refine congrArg Defs.onTc (funext fun l => funext fun a => ?_)
  match l, a with
  | ⟨0, _⟩, _ => rfl

theorem defs_eqSmall : Cert.Small.defs (F := Bits) = Cert.SmallIdeal.defs (F := Bits) := by
  unfold Cert.Small.defs Cert.SmallIdeal.defs
  exact congrArg (Pipeline.defs Cert.SmallIdeal.pcfgs) bodies_eqSmall

theorem frameSmall : Cert.quiescent_Small := fun m ρ _ => by
  rw [defs_eqSmall]
  exact (θ_run Cert.SmallIdeal.defs _ _).mono (fun _ h => ⟨fun c => (h.1 c).2, h.2⟩) (Cert.SmallWeights.run_main (F := Bits) m ρ)

theorem frameSmallIdeal : Cert.quiescent_SmallIdeal := fun m ρ _ =>
  (θ_run Cert.SmallIdeal.defs _ _).mono (fun _ h => ⟨fun c => (h.1 c).2, h.2⟩) (Cert.SmallWeights.run_main (F := Ideal) m ρ)

theorem frameSmallReferenceIdeal : Cert.quiescent_SmallReferenceIdeal := fun m ρ _ =>
  (θ_run Cert.SmallReferenceIdeal.defs _ _).mono (fun r h => ⟨fun c => (h c).2, sem_eq_zero_of_no_sems (by decide) r.2⟩)
    (Cert.SmallReferenceIdeal.Value.run (F := Ideal) m ρ)

/-- The reference before idealization is the same program. -/
instance factsSmallReference₀ : Cert.SmallReference.Facts₀ where
  shapeCasts_S80x1024_S8x10x1024 := Cert.SmallReferenceIdeal.Gen.shapeCasts_S80x1024_S8x10x1024
instance factsSmallReference : Cert.SmallReference.Facts where

theorem runSmallReference (m : (ℓ : Loc Cert.SmallReference.nD Cert.SmallReference.τ Cert.SmallReference.sig) → Buf (Elt Bits) ℓ)
    (ρ : Dev Cert.SmallReference.nD → PrngReg) :
    θ_run Cert.SmallReference.defs (onTc (τ := Cert.SmallReference.τ) (Cert.SmallReference.main (F := Bits))) ⟨m, fun _ => 0, ρ⟩ fun r =>
      ∀ c : Dev Cert.SmallReference.nD,
        r.2.mem ((c.tc : Thread Cert.SmallReference.nD Cert.SmallReference.τ).loc Cert.SmallReference.main_v0)
          = Cert.SmallWeights.whole (F := Bits) (m ((c.tc : Thread Cert.SmallReference.nD Cert.SmallReference.τ).loc Cert.SmallReference.main_arg0))
        ∧ r.2.mem ((c.tc : Thread Cert.SmallReference.nD Cert.SmallReference.τ).loc Cert.SmallReference.main_arg0)
          = m ((c.tc : Thread Cert.SmallReference.nD Cert.SmallReference.τ).loc Cert.SmallReference.main_arg0) :=
  Cert.SmallReferenceIdeal.Value.run (F := Bits) m ρ

theorem frameSmallReference : Cert.quiescent_SmallReference := fun m ρ _ =>
  (θ_run Cert.SmallReference.defs _ _).mono (fun r h => ⟨fun c => (h c).2, sem_eq_zero_of_no_sems (by decide) r.2⟩) (runSmallReference m ρ)

theorem algebraicSmall : Cert.algebraic_SmallIdeal_SmallReferenceIdeal := by
  intro m g m' g' _ hagree
  refine ⟨_, ?_, (θ_run Cert.SmallReferenceIdeal.defs _ _).mono (fun r h => h 0) (Cert.SmallReferenceIdeal.Value.run (F := Ideal) m' g')⟩
  exact (θ_run Cert.SmallIdeal.defs _ _).mono (fun r h c => ⟨(h.1 c).1.trans (Cert.SmallWeights.result_eq (F := Ideal) _ _ hagree c), (h.1 c).2⟩)
    (Cert.SmallWeights.run_main (F := Ideal) m g)

theorem bitexactSmall : Cert.bitexact_Small_SmallReference := by
  intro m g m' g' _ hagree
  refine ⟨_, ?_, (θ_run Cert.SmallReference.defs _ _).mono (fun r h => h 0) (runSmallReference m' g')⟩
  rw [defs_eqSmall]
  exact (θ_run Cert.SmallIdeal.defs _ _).mono (fun r h c => ⟨(h.1 c).1.trans (Cert.SmallWeights.result_eq (F := Bits) _ _ hagree c), (h.1 c).2⟩)
    (Cert.SmallWeights.run_main (F := Bits) m g)

end Small

section GradX
set_option maxRecDepth 65536
set_option backward.isDefEq.respectTransparency.types false

/-- The two programs run the same body. -/
theorem bodies_eqGradX : Cert.GradX.defs₀ (F := Bits) = Cert.GradXIdeal.defs₀ (F := Bits) := by
  unfold Cert.GradX.defs₀ Cert.GradXIdeal.defs₀
  refine congrArg Defs.onTc (funext fun l => funext fun a => ?_)
  match l, a with
  | ⟨0, _⟩, _ => rfl

theorem defs_eqGradX : Cert.GradX.defs (F := Bits) = Cert.GradXIdeal.defs (F := Bits) := by
  unfold Cert.GradX.defs Cert.GradXIdeal.defs
  exact congrArg (Pipeline.defs Cert.GradXIdeal.pcfgs) bodies_eqGradX

theorem frameGradX : Cert.quiescent_GradX := fun m ρ _ => by
  rw [defs_eqGradX]
  exact Cert.GradXIdeal.Gen.frame (F := Bits) m ρ

theorem frameGradXIdeal : Cert.quiescent_GradXIdeal := fun m ρ _ => Cert.GradXIdeal.Gen.frame (F := Ideal) m ρ

theorem frameGradXReferenceIdeal : Cert.quiescent_GradXReferenceIdeal := fun m ρ _ =>
  (θ_run Cert.GradXReferenceIdeal.defs _ _).mono (fun r h => ⟨fun c => (h c).2, sem_eq_zero_of_no_sems (by decide) r.2⟩)
    (Cert.GradXReferenceIdeal.Value.run (F := Ideal) m ρ)

theorem algebraicGradX : Cert.algebraic_GradXIdeal_GradXReferenceIdeal := by
  intro m g m' g' _ hagree
  refine ⟨fun c => Cert.InputGrad.grad (m ((c.tc : Thread Cert.GradXIdeal.nD Cert.GradXIdeal.τ).loc Cert.GradXIdeal.main_arg0))
    (m ((c.tc : Thread Cert.GradXIdeal.nD Cert.GradXIdeal.τ).loc Cert.GradXIdeal.main_arg2))
    (m ((c.tc : Thread Cert.GradXIdeal.nD Cert.GradXIdeal.τ).loc Cert.GradXIdeal.main_arg1)), ?_, ?_⟩
  · exact (θ_run Cert.GradXIdeal.defs _ _).mono (fun r h c => ⟨(h c).1.trans (Cert.InputGrad.final m c), (h c).2⟩) (Cert.GradXIdeal.Value.run_blocks m g)
  · refine (θ_run Cert.GradXReferenceIdeal.defs _ _).mono (fun r h c => ⟨(h c).1.trans ?_, (h c).2⟩) (Cert.GradXReferenceIdeal.Value.run (F := Ideal) m' g')
    refine (Cert.InputGrad.reference_eq _ _ _).trans ?_
    rw [(hagree c).1, (hagree c).2.1, (hagree c).2.2]

end GradX

section Loss
set_option maxRecDepth 65536
set_option backward.isDefEq.respectTransparency.types false

/-- The two programs run the same body. -/
theorem bodies_eqLoss : Cert.Loss.defs₀ (F := Bits) = Cert.LossIdeal.defs₀ (F := Bits) := by
  unfold Cert.Loss.defs₀ Cert.LossIdeal.defs₀
  refine congrArg Defs.onTc (funext fun l => funext fun a => ?_)
  match l, a with
  | ⟨0, _⟩, _ => rfl

theorem defs_eqLoss : Cert.Loss.defs (F := Bits) = Cert.LossIdeal.defs (F := Bits) := by
  unfold Cert.Loss.defs Cert.LossIdeal.defs
  exact congrArg (Pipeline.defs Cert.LossIdeal.pcfgs) bodies_eqLoss

theorem frameLoss : Cert.quiescent_Loss := fun m ρ _ => by
  rw [defs_eqLoss]
  exact (θ_run Cert.LossIdeal.defs _ _).mono (fun r h => ⟨fun c => (h.1 c).2, h.2⟩) (Cert.FinalLoss.run_main (F := Bits) m ρ)

theorem frameLossIdeal : Cert.quiescent_LossIdeal := fun m ρ _ =>
  (θ_run Cert.LossIdeal.defs _ _).mono (fun r h => ⟨fun c => (h.1 c).2, h.2⟩) (Cert.FinalLoss.run_main (F := Ideal) m ρ)

theorem frameLossReferenceIdeal : Cert.quiescent_LossReferenceIdeal := fun m ρ _ =>
  (θ_run Cert.LossReferenceIdeal.defs _ _).mono (fun r h => ⟨fun c => (h c).2, sem_eq_zero_of_no_sems (by decide) r.2⟩)
    (Cert.LossReferenceIdeal.Value.run (F := Ideal) m ρ)

theorem algebraicLoss : Cert.algebraic_LossIdeal_LossReferenceIdeal := by
  intro m g m' g' _ hagree
  refine ⟨Cert.LossReferenceIdeal.Value.res_main_v31 m' 0, ?_, ?_⟩
  · refine (θ_run Cert.LossIdeal.defs _ _).mono (fun r h c => ⟨(h.1 c).1.trans ?_, (h.1 c).2⟩) (Cert.FinalLoss.run_main (F := Ideal) m g)
    funext i
    exact (Cert.TotalLoss.result_eq m _ _ _ _ _ (fun c => (hagree c).1) (fun c => (hagree c).2.1) (fun c => (hagree c).2.2.1)
      (fun c => (hagree c).2.2.2.1) (fun c => (hagree c).2.2.2.2) c i).trans (Cert.TotalLoss.reference_apply m' 0 i).symm
  · exact (θ_run Cert.LossReferenceIdeal.defs _ _).mono (fun r h => h 0) (Cert.LossReferenceIdeal.Value.run (F := Ideal) m' g')

end Loss

section Memory
set_option maxRecDepth 65536
set_option backward.isDefEq.respectTransparency.types false

/-- The two programs run the same body. -/
theorem bodies_eqMemory : Cert.Memory.defs₀ (F := Bits) = Cert.MemoryIdeal.defs₀ (F := Bits) := by
  unfold Cert.Memory.defs₀ Cert.MemoryIdeal.defs₀
  refine congrArg Defs.onTc (funext fun l => funext fun a => ?_)
  match l, a with
  | ⟨0, _⟩, _ => rfl

theorem defs_eqMemory : Cert.Memory.defs (F := Bits) = Cert.MemoryIdeal.defs (F := Bits) := by
  unfold Cert.Memory.defs Cert.MemoryIdeal.defs
  exact congrArg (Pipeline.defs Cert.MemoryIdeal.pcfgs) bodies_eqMemory

theorem frameMemory : Cert.quiescent_Memory := fun m ρ _ => by
  rw [defs_eqMemory]
  exact Cert.MemoryIdeal.Gen.frame (F := Bits) m ρ

theorem frameMemoryIdeal : Cert.quiescent_MemoryIdeal := fun m ρ _ => Cert.MemoryIdeal.Gen.frame (F := Ideal) m ρ

theorem frameMemoryReferenceIdeal : Cert.quiescent_MemoryReferenceIdeal := fun m ρ _ =>
  (θ_run Cert.MemoryReferenceIdeal.defs _ _).mono (fun r h => ⟨fun c => (h c).2, sem_eq_zero_of_no_sems (by decide) r.2⟩)
    (Cert.MemoryReferenceIdeal.Value.run (F := Ideal) m ρ)

theorem algebraicMemory : Cert.algebraic_MemoryIdeal_MemoryReferenceIdeal := by
  intro m g m' g' _ hagree
  refine ⟨fun c => Cert.MemoryAttention.result (m ((c.tc : Thread Cert.MemoryIdeal.nD Cert.MemoryIdeal.τ).loc Cert.MemoryIdeal.main_arg0))
    (m ((c.tc : Thread Cert.MemoryIdeal.nD Cert.MemoryIdeal.τ).loc Cert.MemoryIdeal.main_arg1))
    (m ((c.tc : Thread Cert.MemoryIdeal.nD Cert.MemoryIdeal.τ).loc Cert.MemoryIdeal.main_arg2))
    (m ((c.tc : Thread Cert.MemoryIdeal.nD Cert.MemoryIdeal.τ).loc Cert.MemoryIdeal.main_arg3)), ?_, ?_⟩
  · exact (θ_run Cert.MemoryIdeal.defs _ _).mono (fun r h c => ⟨(h c).1.trans (Cert.MemoryAttention.final m c), (h c).2⟩) (Cert.MemoryIdeal.Value.run_blocks m g)
  · refine (θ_run Cert.MemoryReferenceIdeal.defs _ _).mono (fun r h c => ⟨(h c).1.trans ?_, (h c).2⟩) (Cert.MemoryReferenceIdeal.Value.run (F := Ideal) m' g')
    refine (Cert.MemoryAttention.refResult_eq _ _ _ _).trans ?_
    rw [(hagree c).1, (hagree c).2.1, (hagree c).2.2.1, (hagree c).2.2.2]

end Memory

section Mix
set_option maxRecDepth 65536
set_option backward.isDefEq.respectTransparency.types false

/-- The two programs run the same body. -/
theorem bodies_eqMix : Cert.Mix.defs₀ (F := Bits) = Cert.MixIdeal.defs₀ (F := Bits) := by
  unfold Cert.Mix.defs₀ Cert.MixIdeal.defs₀
  refine congrArg Defs.onTc (funext fun l => funext fun a => ?_)
  match l, a with
  | ⟨0, _⟩, _ => rfl

theorem defs_eqMix : Cert.Mix.defs (F := Bits) = Cert.MixIdeal.defs (F := Bits) := by
  unfold Cert.Mix.defs Cert.MixIdeal.defs
  exact congrArg (Pipeline.defs Cert.MixIdeal.pcfgs) bodies_eqMix

theorem frameMix : Cert.quiescent_Mix := fun m ρ _ => by
  rw [defs_eqMix]
  exact Cert.MixIdeal.Gen.frame (F := Bits) m ρ

theorem frameMixIdeal : Cert.quiescent_MixIdeal := fun m ρ _ => Cert.MixIdeal.Gen.frame (F := Ideal) m ρ

theorem frameMixReferenceIdeal : Cert.quiescent_MixReferenceIdeal := fun m ρ _ =>
  (θ_run Cert.MixReferenceIdeal.defs _ _).mono (fun r h => ⟨fun c => (h c).2, sem_eq_zero_of_no_sems (by decide) r.2⟩)
    (Cert.MixReferenceIdeal.Value.run (F := Ideal) m ρ)

theorem algebraicMix : Cert.algebraic_MixIdeal_MixReferenceIdeal := by
  intro m g m' g' _ hagree
  refine ⟨fun c => Cert.MixProduct.product (m ((c.tc : Thread Cert.MixIdeal.nD Cert.MixIdeal.τ).loc Cert.MixIdeal.main_arg0))
    (m ((c.tc : Thread Cert.MixIdeal.nD Cert.MixIdeal.τ).loc Cert.MixIdeal.main_arg1)), ?_, ?_⟩
  · exact (θ_run Cert.MixIdeal.defs _ _).mono (fun r h c => ⟨(h c).1.trans (Cert.MixProduct.final m c), (h c).2⟩) (Cert.MixIdeal.Value.run_blocks m g)
  · refine (θ_run Cert.MixReferenceIdeal.defs _ _).mono (fun r h c => ⟨(h c).1.trans ?_, (h c).2⟩) (Cert.MixReferenceIdeal.Value.run (F := Ideal) m' g')
    refine (Cert.MixProduct.reference_eq _ _).trans ?_
    rw [(hagree c).1, (hagree c).2]

end Mix

section Norm
set_option maxRecDepth 65536
set_option backward.isDefEq.respectTransparency.types false

/-- The two programs run the same body. -/
theorem bodies_eqNorm : Cert.Norm.defs₀ (F := Bits) = Cert.NormIdeal.defs₀ (F := Bits) := by
  unfold Cert.Norm.defs₀ Cert.NormIdeal.defs₀
  refine congrArg Defs.onTc (funext fun l => funext fun a => ?_)
  match l, a with
  | ⟨0, _⟩, _ => rfl

theorem defs_eqNorm : Cert.Norm.defs (F := Bits) = Cert.NormIdeal.defs (F := Bits) := by
  unfold Cert.Norm.defs Cert.NormIdeal.defs
  exact congrArg (Pipeline.defs Cert.NormIdeal.pcfgs) bodies_eqNorm

theorem frameNorm : Cert.quiescent_Norm := fun m ρ _ => by
  rw [defs_eqNorm]
  exact Cert.NormIdeal.Gen.frame (F := Bits) m ρ

theorem frameNormIdeal : Cert.quiescent_NormIdeal := fun m ρ _ => Cert.NormIdeal.Gen.frame (F := Ideal) m ρ

theorem frameNormReferenceIdeal : Cert.quiescent_NormReferenceIdeal := fun m ρ _ =>
  (θ_run Cert.NormReferenceIdeal.defs _ _).mono (fun r h => ⟨fun c => (h c).2, sem_eq_zero_of_no_sems (by decide) r.2⟩)
    (Cert.NormReferenceIdeal.Value.run (F := Ideal) m ρ)

theorem algebraicNorm : Cert.algebraic_NormIdeal_NormReferenceIdeal := by
  intro m g m' g' _ hagree
  refine ⟨fun c => Cert.LayerNorm.norm (m ((c.tc : Thread Cert.NormIdeal.nD Cert.NormIdeal.τ).loc Cert.NormIdeal.main_arg0))
    (m ((c.tc : Thread Cert.NormIdeal.nD Cert.NormIdeal.τ).loc Cert.NormIdeal.main_arg1))
    (m ((c.tc : Thread Cert.NormIdeal.nD Cert.NormIdeal.τ).loc Cert.NormIdeal.main_arg2))
    (m ((c.tc : Thread Cert.NormIdeal.nD Cert.NormIdeal.τ).loc Cert.NormIdeal.main_arg3)), ?_, ?_⟩
  · exact (θ_run Cert.NormIdeal.defs _ _).mono (fun r h c => ⟨(h c).1.trans (Cert.LayerNorm.final m c), (h c).2⟩) (Cert.NormIdeal.Value.run_blocks m g)
  · refine (θ_run Cert.NormReferenceIdeal.defs _ _).mono (fun r h c => ⟨(h c).1.trans ?_, (h c).2⟩) (Cert.NormReferenceIdeal.Value.run (F := Ideal) m' g')
    refine (Cert.LayerNorm.reference_eq _ _ _ _).trans ?_
    rw [(hagree c).1, (hagree c).2.1, (hagree c).2.2.1, (hagree c).2.2.2]

end Norm

section ConvGate
set_option maxRecDepth 65536
set_option backward.isDefEq.respectTransparency.types false

/-- The two programs run the same body. -/
theorem bodies_eqConvGate : Cert.ConvGate.defs₀ (F := Bits) = Cert.ConvGateIdeal.defs₀ (F := Bits) := by
  unfold Cert.ConvGate.defs₀ Cert.ConvGateIdeal.defs₀
  refine congrArg Defs.onTc (funext fun l => funext fun a => ?_)
  match l, a with
  | ⟨0, _⟩, _ => rfl

theorem defs_eqConvGate : Cert.ConvGate.defs (F := Bits) = Cert.ConvGateIdeal.defs (F := Bits) := by
  unfold Cert.ConvGate.defs Cert.ConvGateIdeal.defs
  exact congrArg (Pipeline.defs Cert.ConvGateIdeal.pcfgs) bodies_eqConvGate

theorem frameConvGate : Cert.quiescent_ConvGate := fun m ρ _ => by
  rw [defs_eqConvGate]
  exact Cert.ConvGateIdeal.Gen.frame (F := Bits) m ρ

theorem frameConvGateIdeal : Cert.quiescent_ConvGateIdeal := fun m ρ _ => Cert.ConvGateIdeal.Gen.frame (F := Ideal) m ρ

theorem frameConvGateReferenceIdeal : Cert.quiescent_ConvGateReferenceIdeal := fun m ρ _ =>
  (θ_run Cert.ConvGateReferenceIdeal.defs _ _).mono (fun r h => ⟨fun c => (h c).2, sem_eq_zero_of_no_sems (by decide) r.2⟩)
    (Cert.ConvGateReferenceIdeal.Value.run (F := Ideal) m ρ)

theorem algebraicConvGate : Cert.algebraic_ConvGateIdeal_ConvGateReferenceIdeal := by
  intro m g m' g' _ hagree
  refine ⟨fun c => Cert.ConvolutionGate.conv (m ((c.tc : Thread Cert.ConvGateIdeal.nD Cert.ConvGateIdeal.τ).loc Cert.ConvGateIdeal.main_arg0))
    (m ((c.tc : Thread Cert.ConvGateIdeal.nD Cert.ConvGateIdeal.τ).loc Cert.ConvGateIdeal.main_arg1))
    (m ((c.tc : Thread Cert.ConvGateIdeal.nD Cert.ConvGateIdeal.τ).loc Cert.ConvGateIdeal.main_arg2)), ?_, ?_⟩
  · exact (θ_run Cert.ConvGateIdeal.defs _ _).mono (fun r h c => ⟨(h c).1.trans (Cert.ConvolutionGate.final m c), (h c).2⟩) (Cert.ConvGateIdeal.Value.run_blocks m g)
  · refine (θ_run Cert.ConvGateReferenceIdeal.defs _ _).mono (fun r h c => ⟨(h c).1.trans ?_, (h c).2⟩) (Cert.ConvGateReferenceIdeal.Value.run (F := Ideal) m' g')
    refine (Cert.ConvolutionGate.reference_eq _ _ _).trans ?_
    rw [(hagree c).1, (hagree c).2.1, (hagree c).2.2]

end ConvGate

section Up
set_option maxRecDepth 65536
set_option backward.isDefEq.respectTransparency.types false

/-- The two programs run the same body. -/
theorem bodies_eqUp : Cert.Up.defs₀ (F := Bits) = Cert.UpIdeal.defs₀ (F := Bits) := by
  unfold Cert.Up.defs₀ Cert.UpIdeal.defs₀
  refine congrArg Defs.onTc (funext fun l => funext fun a => ?_)
  match l, a with
  | ⟨0, _⟩, _ => rfl

theorem defs_eqUp : Cert.Up.defs (F := Bits) = Cert.UpIdeal.defs (F := Bits) := by
  unfold Cert.Up.defs Cert.UpIdeal.defs
  exact congrArg (Pipeline.defs Cert.UpIdeal.pcfgs) bodies_eqUp

theorem frameUp : Cert.quiescent_Up := fun m ρ _ => by
  rw [defs_eqUp]
  exact Cert.UpIdeal.Gen.frame (F := Bits) m ρ

theorem frameUpIdeal : Cert.quiescent_UpIdeal := fun m ρ _ => Cert.UpIdeal.Gen.frame (F := Ideal) m ρ

theorem frameUpReferenceIdeal : Cert.quiescent_UpReferenceIdeal := fun m ρ _ =>
  (θ_run Cert.UpReferenceIdeal.defs _ _).mono (fun r h => ⟨fun c => (h c).2, sem_eq_zero_of_no_sems (by decide) r.2⟩)
    (Cert.UpReferenceIdeal.Value.run (F := Ideal) m ρ)

theorem algebraicUp : Cert.algebraic_UpIdeal_UpReferenceIdeal := by
  intro m g m' g' _ hagree
  refine ⟨fun c => Cert.UpProduct.product (m ((c.tc : Thread Cert.UpIdeal.nD Cert.UpIdeal.τ).loc Cert.UpIdeal.main_arg0))
    (m ((c.tc : Thread Cert.UpIdeal.nD Cert.UpIdeal.τ).loc Cert.UpIdeal.main_arg1)), ?_, ?_⟩
  · exact (θ_run Cert.UpIdeal.defs _ _).mono (fun r h c => ⟨(h c).1.trans (Cert.UpProduct.final m c), (h c).2⟩) (Cert.UpIdeal.Value.run_blocks m g)
  · refine (θ_run Cert.UpReferenceIdeal.defs _ _).mono (fun r h c => ⟨(h c).1.trans ?_, (h c).2⟩) (Cert.UpReferenceIdeal.Value.run (F := Ideal) m' g')
    refine (Cert.UpProduct.reference_eq _ _).trans ?_
    rw [(hagree c).1, (hagree c).2]

end Up

section Down
set_option maxRecDepth 65536
set_option backward.isDefEq.respectTransparency.types false

/-- The two programs run the same body. -/
theorem bodies_eqDown : Cert.Down.defs₀ (F := Bits) = Cert.DownIdeal.defs₀ (F := Bits) := by
  unfold Cert.Down.defs₀ Cert.DownIdeal.defs₀
  refine congrArg Defs.onTc (funext fun l => funext fun a => ?_)
  match l, a with
  | ⟨0, _⟩, _ => rfl

theorem defs_eqDown : Cert.Down.defs (F := Bits) = Cert.DownIdeal.defs (F := Bits) := by
  unfold Cert.Down.defs Cert.DownIdeal.defs
  exact congrArg (Pipeline.defs Cert.DownIdeal.pcfgs) bodies_eqDown

theorem frameDown : Cert.quiescent_Down := fun m ρ _ => by
  rw [defs_eqDown]
  exact Cert.DownIdeal.Gen.frame (F := Bits) m ρ

theorem frameDownIdeal : Cert.quiescent_DownIdeal := fun m ρ _ => Cert.DownIdeal.Gen.frame (F := Ideal) m ρ

theorem frameDownReferenceIdeal : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

theorem algebraicDown : Cert.algebraic_DownIdeal_DownReferenceIdeal := by
  intro m g m' g' _ hagree
  refine ⟨fun c => Cert.DownProduct.product (m ((c.tc : Thread Cert.DownIdeal.nD Cert.DownIdeal.τ).loc Cert.DownIdeal.main_arg0))
    (m ((c.tc : Thread Cert.DownIdeal.nD Cert.DownIdeal.τ).loc Cert.DownIdeal.main_arg1)), ?_, ?_⟩
  · exact (θ_run Cert.DownIdeal.defs _ _).mono (fun r h c => ⟨(h c).1.trans (Cert.DownProduct.final m c), (h c).2⟩) (Cert.DownIdeal.Value.run_blocks m g)
  · refine (θ_run Cert.DownReferenceIdeal.defs _ _).mono (fun r h c => ⟨(h c).1.trans ?_, (h c).2⟩) (Cert.DownReferenceIdeal.Value.run (F := Ideal) m' g')
    refine (Cert.DownProduct.reference_eq _ _).trans ?_
    rw [(hagree c).1, (hagree c).2]

end Down

section Keys
set_option maxRecDepth 65536
set_option backward.isDefEq.respectTransparency.types false

/-- The two programs run the same body. -/
theorem bodies_eqKeys : Cert.Keys.defs₀ (F := Bits) = Cert.KeysIdeal.defs₀ (F := Bits) := by
  unfold Cert.Keys.defs₀ Cert.KeysIdeal.defs₀
  refine congrArg Defs.onTc (funext fun l => funext fun a => ?_)
  match l, a with
  | ⟨0, _⟩, _ => rfl

theorem defs_eqKeys : Cert.Keys.defs (F := Bits) = Cert.KeysIdeal.defs (F := Bits) := by
  unfold Cert.Keys.defs Cert.KeysIdeal.defs
  exact congrArg (Pipeline.defs Cert.KeysIdeal.pcfgs) bodies_eqKeys

theorem frameKeys : Cert.quiescent_Keys := fun m ρ _ => by
  rw [defs_eqKeys]
  exact Cert.KeysIdeal.Gen.frame (F := Bits) m ρ

theorem frameKeysIdeal : Cert.quiescent_KeysIdeal := fun m ρ _ => Cert.KeysIdeal.Gen.frame (F := Ideal) m ρ

theorem frameKeysReferenceIdeal : Cert.quiescent_KeysReferenceIdeal := fun m ρ _ =>
  (θ_run Cert.KeysReferenceIdeal.defs _ _).mono (fun r h => ⟨fun c => (h c).2, sem_eq_zero_of_no_sems (by decide) r.2⟩)
    (Cert.KeysReferenceIdeal.Value.run (F := Ideal) m ρ)

theorem algebraicKeys : Cert.algebraic_KeysIdeal_KeysReferenceIdeal := by
  intro m g m' g' _ hagree
  refine ⟨fun c => Cert.KeysProduct.product (m ((c.tc : Thread Cert.KeysIdeal.nD Cert.KeysIdeal.τ).loc Cert.KeysIdeal.main_arg0))
    (m ((c.tc : Thread Cert.KeysIdeal.nD Cert.KeysIdeal.τ).loc Cert.KeysIdeal.main_arg1)), ?_, ?_⟩
  · exact (θ_run Cert.KeysIdeal.defs _ _).mono (fun r h c => ⟨(h c).1.trans (Cert.KeysProduct.final m c), (h c).2⟩) (Cert.KeysIdeal.Value.run_blocks m g)
  · refine (θ_run Cert.KeysReferenceIdeal.defs _ _).mono (fun r h c => ⟨(h c).1.trans ?_, (h c).2⟩) (Cert.KeysReferenceIdeal.Value.run (F := Ideal) m' g')
    refine (Cert.KeysProduct.reference_eq _ _).trans ?_
    rw [(hagree c).1, (hagree c).2]

end Keys

section Shared
set_option maxRecDepth 65536
set_option backward.isDefEq.respectTransparency.types false

/-- The two programs run the same body. -/
theorem bodies_eqShared : Cert.Shared.defs₀ (F := Bits) = Cert.SharedIdeal.defs₀ (F := Bits) := by
  unfold Cert.Shared.defs₀ Cert.SharedIdeal.defs₀
  refine congrArg Defs.onTc (funext fun l => funext fun a => ?_)
  match l, a with
  | ⟨0, _⟩, _ => rfl

theorem defs_eqShared : Cert.Shared.defs (F := Bits) = Cert.SharedIdeal.defs (F := Bits) := by
  unfold Cert.Shared.defs Cert.SharedIdeal.defs
  exact congrArg (Pipeline.defs Cert.SharedIdeal.pcfgs) bodies_eqShared

theorem frameShared : Cert.quiescent_Shared := fun m ρ _ => by
  rw [defs_eqShared]
  exact Cert.SharedIdeal.Gen.frame (F := Bits) m ρ

theorem frameSharedIdeal : Cert.quiescent_SharedIdeal := fun m ρ _ => Cert.SharedIdeal.Gen.frame (F := Ideal) m ρ

theorem frameSharedReferenceIdeal : Cert.quiescent_SharedReferenceIdeal := fun m ρ _ =>
  (θ_run Cert.SharedReferenceIdeal.defs _ _).mono (fun r h => ⟨fun c => (h c).2, sem_eq_zero_of_no_sems (by decide) r.2⟩)
    (Cert.SharedReferenceIdeal.Value.run (F := Ideal) m ρ)

theorem algebraicShared : Cert.algebraic_SharedIdeal_SharedReferenceIdeal := by
  intro m g m' g' _ hagree
  refine ⟨fun c => Cert.SharedProduct.product (m ((c.tc : Thread Cert.SharedIdeal.nD Cert.SharedIdeal.τ).loc Cert.SharedIdeal.main_arg0))
    (m ((c.tc : Thread Cert.SharedIdeal.nD Cert.SharedIdeal.τ).loc Cert.SharedIdeal.main_arg1)), ?_, ?_⟩
  · exact (θ_run Cert.SharedIdeal.defs _ _).mono (fun r h c => ⟨(h c).1.trans (Cert.SharedProduct.final m c), (h c).2⟩) (Cert.SharedIdeal.Value.run_blocks m g)
  · refine (θ_run Cert.SharedReferenceIdeal.defs _ _).mono (fun r h c => ⟨(h c).1.trans ?_, (h c).2⟩) (Cert.SharedReferenceIdeal.Value.run (F := Ideal) m' g')
    refine (Cert.SharedProduct.reference_eq _ _).trans ?_
    rw [(hagree c).1, (hagree c).2]

end Shared

section Pooled
set_option maxRecDepth 65536
set_option backward.isDefEq.respectTransparency.types false

/-- The two programs run the same body. -/
theorem bodies_eqPooled : Cert.Pooled.defs₀ (F := Bits) = Cert.PooledIdeal.defs₀ (F := Bits) := by
  unfold Cert.Pooled.defs₀ Cert.PooledIdeal.defs₀
  refine congrArg Defs.onTc (funext fun l => funext fun a => ?_)
  match l, a with
  | ⟨0, _⟩, _ => rfl

theorem defs_eqPooled : Cert.Pooled.defs (F := Bits) = Cert.PooledIdeal.defs (F := Bits) := by
  unfold Cert.Pooled.defs Cert.PooledIdeal.defs
  exact congrArg (Pipeline.defs Cert.PooledIdeal.pcfgs) bodies_eqPooled

theorem framePooled : Cert.quiescent_Pooled := fun m ρ _ => by
  rw [defs_eqPooled]
  exact Cert.PooledIdeal.Gen.frame (F := Bits) m ρ

theorem framePooledIdeal : Cert.quiescent_PooledIdeal := fun m ρ _ => Cert.PooledIdeal.Gen.frame (F := Ideal) m ρ

theorem framePooledReferenceIdeal : Cert.quiescent_PooledReferenceIdeal := fun m ρ _ =>
  (θ_run Cert.PooledReferenceIdeal.defs _ _).mono (fun r h => ⟨fun c => (h c).2, sem_eq_zero_of_no_sems (by decide) r.2⟩)
    (Cert.PooledReferenceIdeal.Value.run (F := Ideal) m ρ)

theorem algebraicPooled : Cert.algebraic_PooledIdeal_PooledReferenceIdeal := by
  intro m g m' g' _ hagree
  refine ⟨fun c => Cert.PooledProduct.product (m ((c.tc : Thread Cert.PooledIdeal.nD Cert.PooledIdeal.τ).loc Cert.PooledIdeal.main_arg0))
    (m ((c.tc : Thread Cert.PooledIdeal.nD Cert.PooledIdeal.τ).loc Cert.PooledIdeal.main_arg1)), ?_, ?_⟩
  · exact (θ_run Cert.PooledIdeal.defs _ _).mono (fun r h c => ⟨(h c).1.trans (Cert.PooledProduct.final m c), (h c).2⟩) (Cert.PooledIdeal.Value.run_blocks m g)
  · refine (θ_run Cert.PooledReferenceIdeal.defs _ _).mono (fun r h c => ⟨(h c).1.trans ?_, (h c).2⟩) (Cert.PooledReferenceIdeal.Value.run (F := Ideal) m' g')
    refine (Cert.PooledProduct.reference_eq _ _).trans ?_
    rw [(hagree c).1, (hagree c).2]

end Pooled

section MixDx
set_option maxRecDepth 65536
set_option backward.isDefEq.respectTransparency.types false

/-- The two programs run the same body. -/
theorem bodies_eqMixDx : Cert.MixDx.defs₀ (F := Bits) = Cert.MixDxIdeal.defs₀ (F := Bits) := by
  unfold Cert.MixDx.defs₀ Cert.MixDxIdeal.defs₀
  refine congrArg Defs.onTc (funext fun l => funext fun a => ?_)
  match l, a with
  | ⟨0, _⟩, _ => rfl

theorem defs_eqMixDx : Cert.MixDx.defs (F := Bits) = Cert.MixDxIdeal.defs (F := Bits) := by
  unfold Cert.MixDx.defs Cert.MixDxIdeal.defs
  exact congrArg (Pipeline.defs Cert.MixDxIdeal.pcfgs) bodies_eqMixDx

theorem frameMixDx : Cert.quiescent_MixDx := fun m ρ _ => by
  rw [defs_eqMixDx]
  exact Cert.MixDxIdeal.Gen.frame (F := Bits) m ρ

theorem frameMixDxIdeal : Cert.quiescent_MixDxIdeal := fun m ρ _ => Cert.MixDxIdeal.Gen.frame (F := Ideal) m ρ

theorem frameMixDxReferenceIdeal : Cert.quiescent_MixDxReferenceIdeal := fun m ρ _ =>
  (θ_run Cert.MixDxReferenceIdeal.defs _ _).mono (fun r h => ⟨fun c => (h c).2, sem_eq_zero_of_no_sems (by decide) r.2⟩)
    (Cert.MixDxReferenceIdeal.Value.run (F := Ideal) m ρ)

theorem algebraicMixDx : Cert.algebraic_MixDxIdeal_MixDxReferenceIdeal := by
  intro m g m' g' _ hagree
  refine ⟨fun c => Cert.MixDxProduct.product (m ((c.tc : Thread Cert.MixDxIdeal.nD Cert.MixDxIdeal.τ).loc Cert.MixDxIdeal.main_arg0))
    (m ((c.tc : Thread Cert.MixDxIdeal.nD Cert.MixDxIdeal.τ).loc Cert.MixDxIdeal.main_arg1)), ?_, ?_⟩
  · exact (θ_run Cert.MixDxIdeal.defs _ _).mono (fun r h c => ⟨(h c).1.trans (Cert.MixDxProduct.final m c), (h c).2⟩) (Cert.MixDxIdeal.Value.run_blocks m g)
  · refine (θ_run Cert.MixDxReferenceIdeal.defs _ _).mono (fun r h c => ⟨(h c).1.trans ?_, (h c).2⟩) (Cert.MixDxReferenceIdeal.Value.run (F := Ideal) m' g')
    refine (Cert.MixDxProduct.reference_eq _ _).trans ?_
    rw [(hagree c).1, (hagree c).2]

end MixDx

section DownDx
set_option maxRecDepth 65536
set_option backward.isDefEq.respectTransparency.types false

/-- The two programs run the same body. -/
theorem bodies_eqDownDx : Cert.DownDx.defs₀ (F := Bits) = Cert.DownDxIdeal.defs₀ (F := Bits) := by
  unfold Cert.DownDx.defs₀ Cert.DownDxIdeal.defs₀
  refine congrArg Defs.onTc (funext fun l => funext fun a => ?_)
  match l, a with
  | ⟨0, _⟩, _ => rfl

theorem defs_eqDownDx : Cert.DownDx.defs (F := Bits) = Cert.DownDxIdeal.defs (F := Bits) := by
  unfold Cert.DownDx.defs Cert.DownDxIdeal.defs
  exact congrArg (Pipeline.defs Cert.DownDxIdeal.pcfgs) bodies_eqDownDx

theorem frameDownDx : Cert.quiescent_DownDx := fun m ρ _ => by
  rw [defs_eqDownDx]
  exact Cert.DownDxIdeal.Gen.frame (F := Bits) m ρ

theorem frameDownDxIdeal : Cert.quiescent_DownDxIdeal := fun m ρ _ => Cert.DownDxIdeal.Gen.frame (F := Ideal) m ρ

theorem frameDownDxReferenceIdeal : Cert.quiescent_DownDxReferenceIdeal := fun m ρ _ =>
  (θ_run Cert.DownDxReferenceIdeal.defs _ _).mono (fun r h => ⟨fun c => (h c).2, sem_eq_zero_of_no_sems (by decide) r.2⟩)
    (Cert.DownDxReferenceIdeal.Value.run (F := Ideal) m ρ)

theorem algebraicDownDx : Cert.algebraic_DownDxIdeal_DownDxReferenceIdeal := by
  intro m g m' g' _ hagree
  refine ⟨fun c => Cert.DownDxProduct.product (m ((c.tc : Thread Cert.DownDxIdeal.nD Cert.DownDxIdeal.τ).loc Cert.DownDxIdeal.main_arg0))
    (m ((c.tc : Thread Cert.DownDxIdeal.nD Cert.DownDxIdeal.τ).loc Cert.DownDxIdeal.main_arg1)), ?_, ?_⟩
  · exact (θ_run Cert.DownDxIdeal.defs _ _).mono (fun r h c => ⟨(h c).1.trans (Cert.DownDxProduct.final m c), (h c).2⟩) (Cert.DownDxIdeal.Value.run_blocks m g)
  · refine (θ_run Cert.DownDxReferenceIdeal.defs _ _).mono (fun r h c => ⟨(h c).1.trans ?_, (h c).2⟩) (Cert.DownDxReferenceIdeal.Value.run (F := Ideal) m' g')
    refine (Cert.DownDxProduct.reference_eq _ _).trans ?_
    rw [(hagree c).1, (hagree c).2]

end DownDx

section SharedDx
set_option maxRecDepth 65536
set_option backward.isDefEq.respectTransparency.types false

/-- The two programs run the same body. -/
theorem bodies_eqSharedDx : Cert.SharedDx.defs₀ (F := Bits) = Cert.SharedDxIdeal.defs₀ (F := Bits) := by
  unfold Cert.SharedDx.defs₀ Cert.SharedDxIdeal.defs₀
  refine congrArg Defs.onTc (funext fun l => funext fun a => ?_)
  match l, a with
  | ⟨0, _⟩, _ => rfl

theorem defs_eqSharedDx : Cert.SharedDx.defs (F := Bits) = Cert.SharedDxIdeal.defs (F := Bits) := by
  unfold Cert.SharedDx.defs Cert.SharedDxIdeal.defs
  exact congrArg (Pipeline.defs Cert.SharedDxIdeal.pcfgs) bodies_eqSharedDx

theorem frameSharedDx : Cert.quiescent_SharedDx := fun m ρ _ => by
  rw [defs_eqSharedDx]
  exact Cert.SharedDxIdeal.Gen.frame (F := Bits) m ρ

theorem frameSharedDxIdeal : Cert.quiescent_SharedDxIdeal := fun m ρ _ => Cert.SharedDxIdeal.Gen.frame (F := Ideal) m ρ

theorem frameSharedDxReferenceIdeal : Cert.quiescent_SharedDxReferenceIdeal := fun m ρ _ =>
  (θ_run Cert.SharedDxReferenceIdeal.defs _ _).mono (fun r h => ⟨fun c => (h c).2, sem_eq_zero_of_no_sems (by decide) r.2⟩)
    (Cert.SharedDxReferenceIdeal.Value.run (F := Ideal) m ρ)

theorem algebraicSharedDx : Cert.algebraic_SharedDxIdeal_SharedDxReferenceIdeal := by
  intro m g m' g' _ hagree
  refine ⟨fun c => Cert.SharedDxProduct.product (m ((c.tc : Thread Cert.SharedDxIdeal.nD Cert.SharedDxIdeal.τ).loc Cert.SharedDxIdeal.main_arg0))
    (m ((c.tc : Thread Cert.SharedDxIdeal.nD Cert.SharedDxIdeal.τ).loc Cert.SharedDxIdeal.main_arg1)), ?_, ?_⟩
  · exact (θ_run Cert.SharedDxIdeal.defs _ _).mono (fun r h c => ⟨(h c).1.trans (Cert.SharedDxProduct.final m c), (h c).2⟩) (Cert.SharedDxIdeal.Value.run_blocks m g)
  · refine (θ_run Cert.SharedDxReferenceIdeal.defs _ _).mono (fun r h c => ⟨(h c).1.trans ?_, (h c).2⟩) (Cert.SharedDxReferenceIdeal.Value.run (F := Ideal) m' g')
    refine (Cert.SharedDxProduct.reference_eq _ _).trans ?_
    rw [(hagree c).1, (hagree c).2]

end SharedDx

section PooledDx
set_option maxRecDepth 65536
set_option backward.isDefEq.respectTransparency.types false

/-- The two programs run the same body. -/
theorem bodies_eqPooledDx : Cert.PooledDx.defs₀ (F := Bits) = Cert.PooledDxIdeal.defs₀ (F := Bits) := by
  unfold Cert.PooledDx.defs₀ Cert.PooledDxIdeal.defs₀
  refine congrArg Defs.onTc (funext fun l => funext fun a => ?_)
  match l, a with
  | ⟨0, _⟩, _ => rfl

theorem defs_eqPooledDx : Cert.PooledDx.defs (F := Bits) = Cert.PooledDxIdeal.defs (F := Bits) := by
  unfold Cert.PooledDx.defs Cert.PooledDxIdeal.defs
  exact congrArg (Pipeline.defs Cert.PooledDxIdeal.pcfgs) bodies_eqPooledDx

theorem framePooledDx : Cert.quiescent_PooledDx := fun m ρ _ => by
  rw [defs_eqPooledDx]
  exact Cert.PooledDxIdeal.Gen.frame (F := Bits) m ρ

theorem framePooledDxIdeal : Cert.quiescent_PooledDxIdeal := fun m ρ _ => Cert.PooledDxIdeal.Gen.frame (F := Ideal) m ρ

theorem framePooledDxReferenceIdeal : Cert.quiescent_PooledDxReferenceIdeal := fun m ρ _ =>
  (θ_run Cert.PooledDxReferenceIdeal.defs _ _).mono (fun r h => ⟨fun c => (h c).2, sem_eq_zero_of_no_sems (by decide) r.2⟩)
    (Cert.PooledDxReferenceIdeal.Value.run (F := Ideal) m ρ)

theorem algebraicPooledDx : Cert.algebraic_PooledDxIdeal_PooledDxReferenceIdeal := by
  intro m g m' g' _ hagree
  refine ⟨fun c => Cert.PooledDxProduct.product (m ((c.tc : Thread Cert.PooledDxIdeal.nD Cert.PooledDxIdeal.τ).loc Cert.PooledDxIdeal.main_arg0))
    (m ((c.tc : Thread Cert.PooledDxIdeal.nD Cert.PooledDxIdeal.τ).loc Cert.PooledDxIdeal.main_arg1)), ?_, ?_⟩
  · exact (θ_run Cert.PooledDxIdeal.defs _ _).mono (fun r h c => ⟨(h c).1.trans (Cert.PooledDxProduct.final m c), (h c).2⟩) (Cert.PooledDxIdeal.Value.run_blocks m g)
  · refine (θ_run Cert.PooledDxReferenceIdeal.defs _ _).mono (fun r h c => ⟨(h c).1.trans ?_, (h c).2⟩) (Cert.PooledDxReferenceIdeal.Value.run (F := Ideal) m' g')
    refine (Cert.PooledDxProduct.reference_eq _ _).trans ?_
    rw [(hagree c).1, (hagree c).2]

end PooledDx

section MixDw
set_option maxRecDepth 65536
set_option backward.isDefEq.respectTransparency.types false

/-- The two programs run the same body. -/
theorem bodies_eqMixDw : Cert.MixDw.defs₀ (F := Bits) = Cert.MixDwIdeal.defs₀ (F := Bits) := by
  unfold Cert.MixDw.defs₀ Cert.MixDwIdeal.defs₀
  refine congrArg Defs.onTc (funext fun l => funext fun a => ?_)
  match l, a with
  | ⟨0, _⟩, _ => rfl

theorem defs_eqMixDw : Cert.MixDw.defs (F := Bits) = Cert.MixDwIdeal.defs (F := Bits) := by
  unfold Cert.MixDw.defs Cert.MixDwIdeal.defs
  exact congrArg (Pipeline.defs Cert.MixDwIdeal.pcfgs) bodies_eqMixDw

theorem frameMixDw : Cert.quiescent_MixDw := fun m ρ _ => by
  rw [defs_eqMixDw]
  exact Cert.MixDwIdeal.Gen.frame (F := Bits) m ρ

theorem frameMixDwIdeal : Cert.quiescent_MixDwIdeal := fun m ρ _ => Cert.MixDwIdeal.Gen.frame (F := Ideal) m ρ

theorem frameMixDwReferenceIdeal : Cert.quiescent_MixDwReferenceIdeal := fun m ρ _ =>
  (θ_run Cert.MixDwReferenceIdeal.defs _ _).mono (fun r h => ⟨fun c => (h c).2, sem_eq_zero_of_no_sems (by decide) r.2⟩)
    (Cert.MixDwReferenceIdeal.Value.run (F := Ideal) m ρ)

theorem algebraicMixDw : Cert.algebraic_MixDwIdeal_MixDwReferenceIdeal := by
  intro m g m' g' _ hagree
  refine ⟨fun c => Cert.MixDwProduct.product (m ((c.tc : Thread Cert.MixDwIdeal.nD Cert.MixDwIdeal.τ).loc Cert.MixDwIdeal.main_arg0))
    (m ((c.tc : Thread Cert.MixDwIdeal.nD Cert.MixDwIdeal.τ).loc Cert.MixDwIdeal.main_arg1)), ?_, ?_⟩
  · exact (θ_run Cert.MixDwIdeal.defs _ _).mono (fun r h c => ⟨(h c).1.trans (Cert.MixDwProduct.final m c), (h c).2⟩) (Cert.MixDwIdeal.Value.run_blocks m g)
  · refine (θ_run Cert.MixDwReferenceIdeal.defs _ _).mono (fun r h c => ⟨(h c).1.trans ?_, (h c).2⟩) (Cert.MixDwReferenceIdeal.Value.run (F := Ideal) m' g')
    refine (Cert.MixDwProduct.reference_eq _ _).trans ?_
    rw [(hagree c).1, (hagree c).2]

end MixDw

section DownDw
set_option maxRecDepth 65536
set_option backward.isDefEq.respectTransparency.types false

/-- The two programs run the same body. -/
theorem bodies_eqDownDw : Cert.DownDw.defs₀ (F := Bits) = Cert.DownDwIdeal.defs₀ (F := Bits) := by
  unfold Cert.DownDw.defs₀ Cert.DownDwIdeal.defs₀
  refine congrArg Defs.onTc (funext fun l => funext fun a => ?_)
  match l, a with
  | ⟨0, _⟩, _ => rfl

theorem defs_eqDownDw : Cert.DownDw.defs (F := Bits) = Cert.DownDwIdeal.defs (F := Bits) := by
  unfold Cert.DownDw.defs Cert.DownDwIdeal.defs
  exact congrArg (Pipeline.defs Cert.DownDwIdeal.pcfgs) bodies_eqDownDw

theorem frameDownDw : Cert.quiescent_DownDw := fun m ρ _ => by
  rw [defs_eqDownDw]
  exact Cert.DownDwIdeal.Gen.frame (F := Bits) m ρ

theorem frameDownDwIdeal : Cert.quiescent_DownDwIdeal := fun m ρ _ => Cert.DownDwIdeal.Gen.frame (F := Ideal) m ρ

theorem frameDownDwReferenceIdeal : Cert.quiescent_DownDwReferenceIdeal := fun m ρ _ =>
  (θ_run Cert.DownDwReferenceIdeal.defs _ _).mono (fun r h => ⟨fun c => (h c).2, sem_eq_zero_of_no_sems (by decide) r.2⟩)
    (Cert.DownDwReferenceIdeal.Value.run (F := Ideal) m ρ)

theorem algebraicDownDw : Cert.algebraic_DownDwIdeal_DownDwReferenceIdeal := by
  intro m g m' g' _ hagree
  refine ⟨fun c => Cert.DownDwProduct.product (m ((c.tc : Thread Cert.DownDwIdeal.nD Cert.DownDwIdeal.τ).loc Cert.DownDwIdeal.main_arg0))
    (m ((c.tc : Thread Cert.DownDwIdeal.nD Cert.DownDwIdeal.τ).loc Cert.DownDwIdeal.main_arg1)), ?_, ?_⟩
  · exact (θ_run Cert.DownDwIdeal.defs _ _).mono (fun r h c => ⟨(h c).1.trans (Cert.DownDwProduct.final m c), (h c).2⟩) (Cert.DownDwIdeal.Value.run_blocks m g)
  · refine (θ_run Cert.DownDwReferenceIdeal.defs _ _).mono (fun r h c => ⟨(h c).1.trans ?_, (h c).2⟩) (Cert.DownDwReferenceIdeal.Value.run (F := Ideal) m' g')
    refine (Cert.DownDwProduct.reference_eq _ _).trans ?_
    rw [(hagree c).1, (hagree c).2]

end DownDw

section UpDw
set_option maxRecDepth 65536
set_option backward.isDefEq.respectTransparency.types false

/-- The two programs run the same body. -/
theorem bodies_eqUpDw : Cert.UpDw.defs₀ (F := Bits) = Cert.UpDwIdeal.defs₀ (F := Bits) := by
  unfold Cert.UpDw.defs₀ Cert.UpDwIdeal.defs₀
  refine congrArg Defs.onTc (funext fun l => funext fun a => ?_)
  match l, a with
  | ⟨0, _⟩, _ => rfl

theorem defs_eqUpDw : Cert.UpDw.defs (F := Bits) = Cert.UpDwIdeal.defs (F := Bits) := by
  unfold Cert.UpDw.defs Cert.UpDwIdeal.defs
  exact congrArg (Pipeline.defs Cert.UpDwIdeal.pcfgs) bodies_eqUpDw

theorem frameUpDw : Cert.quiescent_UpDw := fun m ρ _ => by
  rw [defs_eqUpDw]
  exact Cert.UpDwIdeal.Gen.frame (F := Bits) m ρ

theorem frameUpDwIdeal : Cert.quiescent_UpDwIdeal := fun m ρ _ => Cert.UpDwIdeal.Gen.frame (F := Ideal) m ρ

theorem frameUpDwReferenceIdeal : Cert.quiescent_UpDwReferenceIdeal := fun m ρ _ =>
  (θ_run Cert.UpDwReferenceIdeal.defs _ _).mono (fun r h => ⟨fun c => (h c).2, sem_eq_zero_of_no_sems (by decide) r.2⟩)
    (Cert.UpDwReferenceIdeal.Value.run (F := Ideal) m ρ)

theorem algebraicUpDw : Cert.algebraic_UpDwIdeal_UpDwReferenceIdeal := by
  intro m g m' g' _ hagree
  refine ⟨fun c => Cert.UpDwProduct.product (m ((c.tc : Thread Cert.UpDwIdeal.nD Cert.UpDwIdeal.τ).loc Cert.UpDwIdeal.main_arg0))
    (m ((c.tc : Thread Cert.UpDwIdeal.nD Cert.UpDwIdeal.τ).loc Cert.UpDwIdeal.main_arg1)), ?_, ?_⟩
  · exact (θ_run Cert.UpDwIdeal.defs _ _).mono (fun r h c => ⟨(h c).1.trans (Cert.UpDwProduct.final m c), (h c).2⟩) (Cert.UpDwIdeal.Value.run_blocks m g)
  · refine (θ_run Cert.UpDwReferenceIdeal.defs _ _).mono (fun r h c => ⟨(h c).1.trans ?_, (h c).2⟩) (Cert.UpDwReferenceIdeal.Value.run (F := Ideal) m' g')
    refine (Cert.UpDwProduct.reference_eq _ _).trans ?_
    rw [(hagree c).1, (hagree c).2]

end UpDw

section SharedDw
set_option maxRecDepth 65536
set_option backward.isDefEq.respectTransparency.types false

/-- The two programs run the same body. -/
theorem bodies_eqSharedDw : Cert.SharedDw.defs₀ (F := Bits) = Cert.SharedDwIdeal.defs₀ (F := Bits) := by
  unfold Cert.SharedDw.defs₀ Cert.SharedDwIdeal.defs₀
  refine congrArg Defs.onTc (funext fun l => funext fun a => ?_)
  match l, a with
  | ⟨0, _⟩, _ => rfl

theorem defs_eqSharedDw : Cert.SharedDw.defs (F := Bits) = Cert.SharedDwIdeal.defs (F := Bits) := by
  unfold Cert.SharedDw.defs Cert.SharedDwIdeal.defs
  exact congrArg (Pipeline.defs Cert.SharedDwIdeal.pcfgs) bodies_eqSharedDw

theorem frameSharedDw : Cert.quiescent_SharedDw := fun m ρ _ => by
  rw [defs_eqSharedDw]
  exact Cert.SharedDwIdeal.Gen.frame (F := Bits) m ρ

theorem frameSharedDwIdeal : Cert.quiescent_SharedDwIdeal := fun m ρ _ => Cert.SharedDwIdeal.Gen.frame (F := Ideal) m ρ

theorem frameSharedDwReferenceIdeal : Cert.quiescent_SharedDwReferenceIdeal := fun m ρ _ =>
  (θ_run Cert.SharedDwReferenceIdeal.defs _ _).mono (fun r h => ⟨fun c => (h c).2, sem_eq_zero_of_no_sems (by decide) r.2⟩)
    (Cert.SharedDwReferenceIdeal.Value.run (F := Ideal) m ρ)

theorem algebraicSharedDw : Cert.algebraic_SharedDwIdeal_SharedDwReferenceIdeal := by
  intro m g m' g' _ hagree
  refine ⟨fun c => Cert.SharedDwProduct.product (m ((c.tc : Thread Cert.SharedDwIdeal.nD Cert.SharedDwIdeal.τ).loc Cert.SharedDwIdeal.main_arg0))
    (m ((c.tc : Thread Cert.SharedDwIdeal.nD Cert.SharedDwIdeal.τ).loc Cert.SharedDwIdeal.main_arg1)), ?_, ?_⟩
  · exact (θ_run Cert.SharedDwIdeal.defs _ _).mono (fun r h c => ⟨(h c).1.trans (Cert.SharedDwProduct.final m c), (h c).2⟩) (Cert.SharedDwIdeal.Value.run_blocks m g)
  · refine (θ_run Cert.SharedDwReferenceIdeal.defs _ _).mono (fun r h c => ⟨(h c).1.trans ?_, (h c).2⟩) (Cert.SharedDwReferenceIdeal.Value.run (F := Ideal) m' g')
    refine (Cert.SharedDwProduct.reference_eq _ _).trans ?_
    rw [(hagree c).1, (hagree c).2]

end SharedDw

section PooledDw
set_option maxRecDepth 65536
set_option backward.isDefEq.respectTransparency.types false

/-- The two programs run the same body. -/
theorem bodies_eqPooledDw : Cert.PooledDw.defs₀ (F := Bits) = Cert.PooledDwIdeal.defs₀ (F := Bits) := by
  unfold Cert.PooledDw.defs₀ Cert.PooledDwIdeal.defs₀
  refine congrArg Defs.onTc (funext fun l => funext fun a => ?_)
  match l, a with
  | ⟨0, _⟩, _ => rfl

theorem defs_eqPooledDw : Cert.PooledDw.defs (F := Bits) = Cert.PooledDwIdeal.defs (F := Bits) := by
  unfold Cert.PooledDw.defs Cert.PooledDwIdeal.defs
  exact congrArg (Pipeline.defs Cert.PooledDwIdeal.pcfgs) bodies_eqPooledDw

theorem framePooledDw : Cert.quiescent_PooledDw := fun m ρ _ => by
  rw [defs_eqPooledDw]
  exact Cert.PooledDwIdeal.Gen.frame (F := Bits) m ρ

theorem framePooledDwIdeal : Cert.quiescent_PooledDwIdeal := fun m ρ _ => Cert.PooledDwIdeal.Gen.frame (F := Ideal) m ρ

theorem framePooledDwReferenceIdeal : Cert.quiescent_PooledDwReferenceIdeal := fun m ρ _ =>
  (θ_run Cert.PooledDwReferenceIdeal.defs _ _).mono (fun r h => ⟨fun c => (h c).2, sem_eq_zero_of_no_sems (by decide) r.2⟩)
    (Cert.PooledDwReferenceIdeal.Value.run (F := Ideal) m ρ)

theorem algebraicPooledDw : Cert.algebraic_PooledDwIdeal_PooledDwReferenceIdeal := by
  intro m g m' g' _ hagree
  refine ⟨fun c => Cert.PooledDwProduct.product (m ((c.tc : Thread Cert.PooledDwIdeal.nD Cert.PooledDwIdeal.τ).loc Cert.PooledDwIdeal.main_arg0))
    (m ((c.tc : Thread Cert.PooledDwIdeal.nD Cert.PooledDwIdeal.τ).loc Cert.PooledDwIdeal.main_arg1)), ?_, ?_⟩
  · exact (θ_run Cert.PooledDwIdeal.defs _ _).mono (fun r h c => ⟨(h c).1.trans (Cert.PooledDwProduct.final m c), (h c).2⟩) (Cert.PooledDwIdeal.Value.run_blocks m g)
  · refine (θ_run Cert.PooledDwReferenceIdeal.defs _ _).mono (fun r h c => ⟨(h c).1.trans ?_, (h c).2⟩) (Cert.PooledDwReferenceIdeal.Value.run (F := Ideal) m' g')
    refine (Cert.PooledDwProduct.reference_eq _ _).trans ?_
    rw [(hagree c).1, (hagree c).2]

end PooledDw

section UpDx
set_option maxRecDepth 65536
set_option backward.isDefEq.respectTransparency.types false

/-- The two programs run the same body. -/
theorem bodies_eqUpDx : Cert.UpDx.defs₀ (F := Bits) = Cert.UpDxIdeal.defs₀ (F := Bits) := by
  unfold Cert.UpDx.defs₀ Cert.UpDxIdeal.defs₀
  refine congrArg Defs.onTc (funext fun l => funext fun a => ?_)
  match l, a with
  | ⟨0, _⟩, _ => rfl

theorem defs_eqUpDx : Cert.UpDx.defs (F := Bits) = Cert.UpDxIdeal.defs (F := Bits) := by
  unfold Cert.UpDx.defs Cert.UpDxIdeal.defs
  exact congrArg (Pipeline.defs Cert.UpDxIdeal.pcfgs) bodies_eqUpDx

theorem frameUpDx : Cert.quiescent_UpDx := fun m ρ _ => by
  rw [defs_eqUpDx]
  exact Cert.UpDxIdeal.Gen.frame (F := Bits) m ρ

theorem frameUpDxIdeal : Cert.quiescent_UpDxIdeal := fun m ρ _ => Cert.UpDxIdeal.Gen.frame (F := Ideal) m ρ

theorem frameUpDxReferenceIdeal : Cert.quiescent_UpDxReferenceIdeal := fun m ρ _ =>
  (θ_run Cert.UpDxReferenceIdeal.defs _ _).mono (fun r h => ⟨fun c => (h c).2, sem_eq_zero_of_no_sems (by decide) r.2⟩)
    (Cert.UpDxReferenceIdeal.Value.run (F := Ideal) m ρ)

theorem algebraicUpDx : Cert.algebraic_UpDxIdeal_UpDxReferenceIdeal := by
  intro m g m' g' _ hagree
  refine ⟨fun c => Cert.UpDxProduct.product (m ((c.tc : Thread Cert.UpDxIdeal.nD Cert.UpDxIdeal.τ).loc Cert.UpDxIdeal.main_arg0))
    (m ((c.tc : Thread Cert.UpDxIdeal.nD Cert.UpDxIdeal.τ).loc Cert.UpDxIdeal.main_arg1)), ?_, ?_⟩
  · exact (θ_run Cert.UpDxIdeal.defs _ _).mono (fun r h c => ⟨(h c).1.trans (Cert.UpDxProduct.final m c), (h c).2⟩) (Cert.UpDxIdeal.Value.run_blocks m g)
  · refine (θ_run Cert.UpDxReferenceIdeal.defs _ _).mono (fun r h c => ⟨(h c).1.trans ?_, (h c).2⟩) (Cert.UpDxReferenceIdeal.Value.run (F := Ideal) m' g')
    refine (Cert.UpDxProduct.reference_eq _ _).trans ?_
    rw [(hagree c).1, (hagree c).2]

end UpDx

section KeysDw
set_option maxRecDepth 65536
set_option backward.isDefEq.respectTransparency.types false

/-- The two programs run the same body. -/
theorem bodies_eqKeysDw : Cert.KeysDw.defs₀ (F := Bits) = Cert.KeysDwIdeal.defs₀ (F := Bits) := by
  unfold Cert.KeysDw.defs₀ Cert.KeysDwIdeal.defs₀
  refine congrArg Defs.onTc (funext fun l => funext fun a => ?_)
  match l, a with
  | ⟨0, _⟩, _ => rfl

theorem defs_eqKeysDw : Cert.KeysDw.defs (F := Bits) = Cert.KeysDwIdeal.defs (F := Bits) := by
  unfold Cert.KeysDw.defs Cert.KeysDwIdeal.defs
  exact congrArg (Pipeline.defs Cert.KeysDwIdeal.pcfgs) bodies_eqKeysDw

theorem frameKeysDw : Cert.quiescent_KeysDw := fun m ρ _ => by
  rw [defs_eqKeysDw]
  exact Cert.KeysDwIdeal.Gen.frame (F := Bits) m ρ

theorem frameKeysDwIdeal : Cert.quiescent_KeysDwIdeal := fun m ρ _ => Cert.KeysDwIdeal.Gen.frame (F := Ideal) m ρ

theorem frameKeysDwReferenceIdeal : Cert.quiescent_KeysDwReferenceIdeal := fun m ρ _ =>
  (θ_run Cert.KeysDwReferenceIdeal.defs _ _).mono (fun r h => ⟨fun c => (h c).2, sem_eq_zero_of_no_sems (by decide) r.2⟩)
    (Cert.KeysDwReferenceIdeal.Value.run (F := Ideal) m ρ)

theorem algebraicKeysDw : Cert.algebraic_KeysDwIdeal_KeysDwReferenceIdeal := by
  intro m g m' g' _ hagree
  refine ⟨fun c => Cert.KeysDwProduct.product (m ((c.tc : Thread Cert.KeysDwIdeal.nD Cert.KeysDwIdeal.τ).loc Cert.KeysDwIdeal.main_arg0))
    (m ((c.tc : Thread Cert.KeysDwIdeal.nD Cert.KeysDwIdeal.τ).loc Cert.KeysDwIdeal.main_arg1)), ?_, ?_⟩
  · exact (θ_run Cert.KeysDwIdeal.defs _ _).mono (fun r h c => ⟨(h c).1.trans (Cert.KeysDwProduct.final m c), (h c).2⟩) (Cert.KeysDwIdeal.Value.run_blocks m g)
  · refine (θ_run Cert.KeysDwReferenceIdeal.defs _ _).mono (fun r h c => ⟨(h c).1.trans ?_, (h c).2⟩) (Cert.KeysDwReferenceIdeal.Value.run (F := Ideal) m' g')
    refine (Cert.KeysDwProduct.reference_eq _ _).trans ?_
    rw [(hagree c).1, (hagree c).2]

end KeysDw

theorem claim : Cert.Claim := ⟨Cert.Kernel.Gen.facts, Cert.KernelIdeal.Gen.facts, Cert.ReferenceIdeal.Gen.facts,
  Cert.Swap.Gen.facts, Cert.SwapIdeal.Gen.facts, Cert.SwapReferenceIdeal.Gen.facts, factsSwapReference,
  Cert.Gather.Gen.facts, Cert.GatherIdeal.Gen.facts, Cert.GatherReferenceIdeal.Gen.facts, factsGatherReference,
  Cert.Small.Gen.facts, Cert.SmallIdeal.Gen.facts, Cert.SmallReferenceIdeal.Gen.facts, factsSmallReference,
  Cert.GradX.Gen.facts, Cert.GradXIdeal.Gen.facts, Cert.GradXReferenceIdeal.Gen.facts,
  Cert.Loss.Gen.facts, Cert.LossIdeal.Gen.facts, Cert.LossReferenceIdeal.Gen.facts,
  Cert.Memory.Gen.facts, Cert.MemoryIdeal.Gen.facts, Cert.MemoryReferenceIdeal.Gen.facts,
  Cert.Mix.Gen.facts, Cert.MixIdeal.Gen.facts, Cert.MixReferenceIdeal.Gen.facts,
  Cert.Norm.Gen.facts, Cert.NormIdeal.Gen.facts, Cert.NormReferenceIdeal.Gen.facts,
  Cert.ConvGate.Gen.facts, Cert.ConvGateIdeal.Gen.facts, Cert.ConvGateReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.Keys.Gen.facts, Cert.KeysIdeal.Gen.facts, Cert.KeysReferenceIdeal.Gen.facts,
  Cert.Shared.Gen.facts, Cert.SharedIdeal.Gen.facts, Cert.SharedReferenceIdeal.Gen.facts,
  Cert.Pooled.Gen.facts, Cert.PooledIdeal.Gen.facts, Cert.PooledReferenceIdeal.Gen.facts,
  Cert.MixDx.Gen.facts, Cert.MixDxIdeal.Gen.facts, Cert.MixDxReferenceIdeal.Gen.facts,
  Cert.DownDx.Gen.facts, Cert.DownDxIdeal.Gen.facts, Cert.DownDxReferenceIdeal.Gen.facts,
  Cert.SharedDx.Gen.facts, Cert.SharedDxIdeal.Gen.facts, Cert.SharedDxReferenceIdeal.Gen.facts,
  Cert.PooledDx.Gen.facts, Cert.PooledDxIdeal.Gen.facts, Cert.PooledDxReferenceIdeal.Gen.facts,
  Cert.MixDw.Gen.facts, Cert.MixDwIdeal.Gen.facts, Cert.MixDwReferenceIdeal.Gen.facts,
  Cert.DownDw.Gen.facts, Cert.DownDwIdeal.Gen.facts, Cert.DownDwReferenceIdeal.Gen.facts,
  Cert.UpDw.Gen.facts, Cert.UpDwIdeal.Gen.facts, Cert.UpDwReferenceIdeal.Gen.facts,
  Cert.SharedDw.Gen.facts, Cert.SharedDwIdeal.Gen.facts, Cert.SharedDwReferenceIdeal.Gen.facts,
  Cert.PooledDw.Gen.facts, Cert.PooledDwIdeal.Gen.facts, Cert.PooledDwReferenceIdeal.Gen.facts,
  Cert.UpDx.Gen.facts, Cert.UpDxIdeal.Gen.facts, Cert.UpDxReferenceIdeal.Gen.facts,
  Cert.KeysDw.Gen.facts, Cert.KeysDwIdeal.Gen.facts, Cert.KeysDwReferenceIdeal.Gen.facts, by
  exact ⟨frame_kernel, frame_kernelIdeal, frame_reference,
    frameSwap, frameSwapIdeal, frameSwapReferenceIdeal, frameSwapReference,
    frameGather, frameGatherIdeal, frameGatherReferenceIdeal, frameGatherReference,
    frameSmall, frameSmallIdeal, frameSmallReferenceIdeal, frameSmallReference,
    frameGradX, frameGradXIdeal, frameGradXReferenceIdeal, frameLoss, frameLossIdeal, frameLossReferenceIdeal,
    frameMemory, frameMemoryIdeal, frameMemoryReferenceIdeal,
    frameMix, frameMixIdeal, frameMixReferenceIdeal, frameNorm, frameNormIdeal, frameNormReferenceIdeal,
    frameConvGate, frameConvGateIdeal, frameConvGateReferenceIdeal,
    frameUp, frameUpIdeal, frameUpReferenceIdeal,
    frameDown, frameDownIdeal, frameDownReferenceIdeal,
    frameKeys, frameKeysIdeal, frameKeysReferenceIdeal,
    frameShared, frameSharedIdeal, frameSharedReferenceIdeal,
    framePooled, framePooledIdeal, framePooledReferenceIdeal,
    frameMixDx, frameMixDxIdeal, frameMixDxReferenceIdeal,
    frameDownDx, frameDownDxIdeal, frameDownDxReferenceIdeal,
    frameSharedDx, frameSharedDxIdeal, frameSharedDxReferenceIdeal,
    framePooledDx, framePooledDxIdeal, framePooledDxReferenceIdeal,
    frameMixDw, frameMixDwIdeal, frameMixDwReferenceIdeal,
    frameDownDw, frameDownDwIdeal, frameDownDwReferenceIdeal,
    frameUpDw, frameUpDwIdeal, frameUpDwReferenceIdeal,
    frameSharedDw, frameSharedDwIdeal, frameSharedDwReferenceIdeal,
    framePooledDw, framePooledDwIdeal, framePooledDwReferenceIdeal,
    frameUpDx, frameUpDxIdeal, frameUpDxReferenceIdeal,
    frameKeysDw, frameKeysDwIdeal, frameKeysDwReferenceIdeal,
    trivial, algebraic, trivial, algebraicSwap, bitexactSwap, trivial, algebraicGather, bitexactGather,
    trivial, algebraicSmall, bitexactSmall, trivial, algebraicGradX, trivial, algebraicLoss, trivial, algebraicMemory, trivial, algebraicMix, trivial, algebraicNorm,
    trivial, algebraicConvGate, trivial, algebraicUp, trivial, algebraicDown, trivial, algebraicKeys, trivial, algebraicShared, trivial, algebraicPooled,
    trivial, algebraicMixDx, trivial, algebraicDownDx, trivial, algebraicSharedDx, trivial, algebraicPooledDx,
    trivial, algebraicMixDw, trivial, algebraicDownDw, trivial, algebraicUpDw, trivial, algebraicSharedDw, trivial, algebraicPooledDw, trivial, algebraicUpDx, trivial, algebraicKeysDw⟩⟩

end Cert.Proof

end
